-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10)
      ∧ r.2.mem ((c.tc : Thread Cert.Kernel6.nD Cert.Kernel6.τ).loc Cert.Kernel6.main_arg11) = m ((c.tc : Thread Cert.Kernel6.nD Cert.Kernel6.τ).loc Cert.Kernel6.main_arg11))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
      ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10)
      ∧ r.2.mem ((c.tc : Thread Cert.Reference6Ideal.nD Cert.Reference6Ideal.τ).loc Cert.Reference6Ideal.main_arg11) = m ((c.tc : Thread Cert.Reference6Ideal.nD Cert.Reference6Ideal.τ).loc Cert.Reference6Ideal.main_arg11))
      ∧ r.2.sem = fun _ => 0)

def preserves_Kernel_KernelIdeal : Prop :=
  IdealRules.named_const.Statement Cert.KernelIdeal.κ "gone" .f32 0xC2C80000#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v23_0)) (v1 : (c : Dev Cert.KernelIdeal.nD) → Buf (Elt Ideal) ((c.tc : Thread Cert.KernelIdeal.nD Cert.KernelIdeal.τ).loc Cert.KernelIdeal.main_v23_1)) (v2 : (c : Dev Cert.KernelIdeal.nD) → Buf (Elt Ideal) ((c.tc : Thread Cert.KernelIdeal.nD Cert.KernelIdeal.τ).loc Cert.KernelIdeal.main_v23_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23_0) = v0 c
          ∧ r.2.mem ((c.tc : Thread Cert.KernelIdeal.nD Cert.KernelIdeal.τ).loc Cert.KernelIdeal.main_v23_1) = v1 c
          ∧ r.2.mem ((c.tc : Thread Cert.KernelIdeal.nD Cert.KernelIdeal.τ).loc Cert.KernelIdeal.main_v23_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_v49) = v1 c
          ∧ r.2.mem ((c.tc : Thread Cert.ReferenceIdeal.nD Cert.ReferenceIdeal.τ).loc Cert.ReferenceIdeal.main_v33) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  IdealRules.named_const.Statement Cert.Kernel2Ideal.κ "gone" .f32 0xC2C80000#32 ⊥

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v23_0)) (v1 : (c : Dev Cert.Kernel2Ideal.nD) → Buf (Elt Ideal) ((c.tc : Thread Cert.Kernel2Ideal.nD Cert.Kernel2Ideal.τ).loc Cert.Kernel2Ideal.main_v23_1)) (v2 : (c : Dev Cert.Kernel2Ideal.nD) → Buf (Elt Ideal) ((c.tc : Thread Cert.Kernel2Ideal.nD Cert.Kernel2Ideal.τ).loc Cert.Kernel2Ideal.main_v23_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v23_0) = v0 c
          ∧ r.2.mem ((c.tc : Thread Cert.Kernel2Ideal.nD Cert.Kernel2Ideal.τ).loc Cert.Kernel2Ideal.main_v23_1) = v1 c
          ∧ r.2.mem ((c.tc : Thread Cert.Kernel2Ideal.nD Cert.Kernel2Ideal.τ).loc Cert.Kernel2Ideal.main_v23_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v51) = v0 c
          ∧ r.2.mem ((c.tc : Thread Cert.Reference2Ideal.nD Cert.Reference2Ideal.τ).loc Cert.Reference2Ideal.main_v52) = v1 c
          ∧ r.2.mem ((c.tc : Thread Cert.Reference2Ideal.nD Cert.Reference2Ideal.τ).loc Cert.Reference2Ideal.main_v53) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v64)) (v1 : (c : Dev Cert.Kernel3Ideal.nD) → Buf (Elt Ideal) ((c.tc : Thread Cert.Kernel3Ideal.nD Cert.Kernel3Ideal.τ).loc Cert.Kernel3Ideal.main_v66)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v64) = v0 c
          ∧ r.2.mem ((c.tc : Thread Cert.Kernel3Ideal.nD Cert.Kernel3Ideal.τ).loc Cert.Kernel3Ideal.main_v66) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_v4) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v61)) (v1 : (c : Dev Cert.Kernel4Ideal.nD) → Buf (Elt Ideal) ((c.tc : Thread Cert.Kernel4Ideal.nD Cert.Kernel4Ideal.τ).loc Cert.Kernel4Ideal.main_v47)) (v2 : (c : Dev Cert.Kernel4Ideal.nD) → Buf (Elt Ideal) ((c.tc : Thread Cert.Kernel4Ideal.nD Cert.Kernel4Ideal.τ).loc Cert.Kernel4Ideal.main_v33)) (v3 : (c : Dev Cert.Kernel4Ideal.nD) → Buf (Elt Ideal) ((c.tc : Thread Cert.Kernel4Ideal.nD Cert.Kernel4Ideal.τ).loc Cert.Kernel4Ideal.main_v19)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v61) = v0 c
          ∧ r.2.mem ((c.tc : Thread Cert.Kernel4Ideal.nD Cert.Kernel4Ideal.τ).loc Cert.Kernel4Ideal.main_v47) = v1 c
          ∧ r.2.mem ((c.tc : Thread Cert.Kernel4Ideal.nD Cert.Kernel4Ideal.τ).loc Cert.Kernel4Ideal.main_v33) = v2 c
          ∧ r.2.mem ((c.tc : Thread Cert.Kernel4Ideal.nD Cert.Kernel4Ideal.τ).loc Cert.Kernel4Ideal.main_v19) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v10) = v0 c
          ∧ r.2.mem ((c.tc : Thread Cert.Reference4Ideal.nD Cert.Reference4Ideal.τ).loc Cert.Reference4Ideal.main_v15) = v1 c
          ∧ r.2.mem ((c.tc : Thread Cert.Reference4Ideal.nD Cert.Reference4Ideal.τ).loc Cert.Reference4Ideal.main_v20) = v2 c
          ∧ r.2.mem ((c.tc : Thread Cert.Reference4Ideal.nD Cert.Reference4Ideal.τ).loc Cert.Reference4Ideal.main_v25) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)) →
    ∃ (v0 : (c : Dev Cert.Kernel5Ideal.nD) → Buf (Elt Ideal) ((c.tc : Thread Cert.Kernel5Ideal.nD Cert.Kernel5Ideal.τ).loc Cert.Kernel5Ideal.main_v108)) (v1 : (c : Dev Cert.Kernel5Ideal.nD) → Buf (Elt Ideal) ((c.tc : Thread Cert.Kernel5Ideal.nD Cert.Kernel5Ideal.τ).loc Cert.Kernel5Ideal.main_v112)) (v2 : (c : Dev Cert.Kernel5Ideal.nD) → Buf (Elt Ideal) ((c.tc : Thread Cert.Kernel5Ideal.nD Cert.Kernel5Ideal.τ).loc Cert.Kernel5Ideal.main_v116)) (v3 : (c : Dev Cert.Kernel5Ideal.nD) → Buf (Elt Ideal) ((c.tc : Thread Cert.Kernel5Ideal.nD Cert.Kernel5Ideal.τ).loc Cert.Kernel5Ideal.main_v121)) (v4 : (c : Dev Cert.Kernel5Ideal.nD) → Buf (Elt Ideal) ((c.tc : Thread Cert.Kernel5Ideal.nD Cert.Kernel5Ideal.τ).loc Cert.Kernel5Ideal.main_v126)) (v5 : (c : Dev Cert.Kernel5Ideal.nD) → Buf (Elt Ideal) ((c.tc : Thread Cert.Kernel5Ideal.nD Cert.Kernel5Ideal.τ).loc Cert.Kernel5Ideal.main_v130)) (v6 : (c : Dev Cert.Kernel5Ideal.nD) → Buf (Elt Ideal) ((c.tc : Thread Cert.Kernel5Ideal.nD Cert.Kernel5Ideal.τ).loc Cert.Kernel5Ideal.main_v134)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v108) = v0 c
          ∧ r.2.mem ((c.tc : Thread Cert.Kernel5Ideal.nD Cert.Kernel5Ideal.τ).loc Cert.Kernel5Ideal.main_v112) = v1 c
          ∧ r.2.mem ((c.tc : Thread Cert.Kernel5Ideal.nD Cert.Kernel5Ideal.τ).loc Cert.Kernel5Ideal.main_v116) = v2 c
          ∧ r.2.mem ((c.tc : Thread Cert.Kernel5Ideal.nD Cert.Kernel5Ideal.τ).loc Cert.Kernel5Ideal.main_v121) = v3 c
          ∧ r.2.mem ((c.tc : Thread Cert.Kernel5Ideal.nD Cert.Kernel5Ideal.τ).loc Cert.Kernel5Ideal.main_v126) = v4 c
          ∧ r.2.mem ((c.tc : Thread Cert.Kernel5Ideal.nD Cert.Kernel5Ideal.τ).loc Cert.Kernel5Ideal.main_v130) = v5 c
          ∧ r.2.mem ((c.tc : Thread Cert.Kernel5Ideal.nD Cert.Kernel5Ideal.τ).loc Cert.Kernel5Ideal.main_v134) = v6 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_v8) = v1 c
          ∧ r.2.mem ((c.tc : Thread Cert.Reference5Ideal.nD Cert.Reference5Ideal.τ).loc Cert.Reference5Ideal.main_v12) = v2 c
          ∧ r.2.mem ((c.tc : Thread Cert.Reference5Ideal.nD Cert.Reference5Ideal.τ).loc Cert.Reference5Ideal.main_v18) = v3 c
          ∧ r.2.mem ((c.tc : Thread Cert.Reference5Ideal.nD Cert.Reference5Ideal.τ).loc Cert.Reference5Ideal.main_v24) = v4 c
          ∧ r.2.mem ((c.tc : Thread Cert.Reference5Ideal.nD Cert.Reference5Ideal.τ).loc Cert.Reference5Ideal.main_v29) = v5 c
          ∧ r.2.mem ((c.tc : Thread Cert.Reference5Ideal.nD Cert.Reference5Ideal.τ).loc Cert.Reference5Ideal.main_v33) = v6 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)
      ∧ m' ((c.tc : Thread Cert.Reference6Ideal.nD Cert.Reference6Ideal.τ).loc Cert.Reference6Ideal.main_arg11) = m ((c.tc : Thread Cert.Kernel6Ideal.nD Cert.Kernel6Ideal.τ).loc Cert.Kernel6Ideal.main_arg11)) →
    ∃ (v0 : (c : Dev Cert.Kernel6Ideal.nD) → Buf (Elt Ideal) ((c.tc : Thread Cert.Kernel6Ideal.nD Cert.Kernel6Ideal.τ).loc Cert.Kernel6Ideal.main_v79)) (v1 : (c : Dev Cert.Kernel6Ideal.nD) → Buf (Elt Ideal) ((c.tc : Thread Cert.Kernel6Ideal.nD Cert.Kernel6Ideal.τ).loc Cert.Kernel6Ideal.main_v64)) (v2 : (c : Dev Cert.Kernel6Ideal.nD) → Buf (Elt Ideal) ((c.tc : Thread Cert.Kernel6Ideal.nD Cert.Kernel6Ideal.τ).loc Cert.Kernel6Ideal.main_v31)) (v3 : (c : Dev Cert.Kernel6Ideal.nD) → Buf (Elt Ideal) ((c.tc : Thread Cert.Kernel6Ideal.nD Cert.Kernel6Ideal.τ).loc Cert.Kernel6Ideal.main_v8)) (v4 : (c : Dev Cert.Kernel6Ideal.nD) → Buf (Elt Ideal) ((c.tc : Thread Cert.Kernel6Ideal.nD Cert.Kernel6Ideal.τ).loc Cert.Kernel6Ideal.main_v85)) (v5 : (c : Dev Cert.Kernel6Ideal.nD) → Buf (Elt Ideal) ((c.tc : Thread Cert.Kernel6Ideal.nD Cert.Kernel6Ideal.τ).loc Cert.Kernel6Ideal.main_v70)) (v6 : (c : Dev Cert.Kernel6Ideal.nD) → Buf (Elt Ideal) ((c.tc : Thread Cert.Kernel6Ideal.nD Cert.Kernel6Ideal.τ).loc Cert.Kernel6Ideal.main_v37)) (v7 : (c : Dev Cert.Kernel6Ideal.nD) → Buf (Elt Ideal) ((c.tc : Thread Cert.Kernel6Ideal.nD Cert.Kernel6Ideal.τ).loc Cert.Kernel6Ideal.main_v14)) (v8 : (c : Dev Cert.Kernel6Ideal.nD) → Buf (Elt Ideal) ((c.tc : Thread Cert.Kernel6Ideal.nD Cert.Kernel6Ideal.τ).loc Cert.Kernel6Ideal.main_v55)) (v9 : (c : Dev Cert.Kernel6Ideal.nD) → Buf (Elt Ideal) ((c.tc : Thread Cert.Kernel6Ideal.nD Cert.Kernel6Ideal.τ).loc Cert.Kernel6Ideal.main_v22)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v79) = v0 c
          ∧ r.2.mem ((c.tc : Thread Cert.Kernel6Ideal.nD Cert.Kernel6Ideal.τ).loc Cert.Kernel6Ideal.main_v64) = v1 c
          ∧ r.2.mem ((c.tc : Thread Cert.Kernel6Ideal.nD Cert.Kernel6Ideal.τ).loc Cert.Kernel6Ideal.main_v31) = v2 c
          ∧ r.2.mem ((c.tc : Thread Cert.Kernel6Ideal.nD Cert.Kernel6Ideal.τ).loc Cert.Kernel6Ideal.main_v8) = v3 c
          ∧ r.2.mem ((c.tc : Thread Cert.Kernel6Ideal.nD Cert.Kernel6Ideal.τ).loc Cert.Kernel6Ideal.main_v85) = v4 c
          ∧ r.2.mem ((c.tc : Thread Cert.Kernel6Ideal.nD Cert.Kernel6Ideal.τ).loc Cert.Kernel6Ideal.main_v70) = v5 c
          ∧ r.2.mem ((c.tc : Thread Cert.Kernel6Ideal.nD Cert.Kernel6Ideal.τ).loc Cert.Kernel6Ideal.main_v37) = v6 c
          ∧ r.2.mem ((c.tc : Thread Cert.Kernel6Ideal.nD Cert.Kernel6Ideal.τ).loc Cert.Kernel6Ideal.main_v14) = v7 c
          ∧ r.2.mem ((c.tc : Thread Cert.Kernel6Ideal.nD Cert.Kernel6Ideal.τ).loc Cert.Kernel6Ideal.main_v55) = v8 c
          ∧ r.2.mem ((c.tc : Thread Cert.Kernel6Ideal.nD Cert.Kernel6Ideal.τ).loc Cert.Kernel6Ideal.main_v22) = v9 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
          ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v13) = v0 c
          ∧ r.2.mem ((c.tc : Thread Cert.Reference6Ideal.nD Cert.Reference6Ideal.τ).loc Cert.Reference6Ideal.main_v26) = v1 c
          ∧ r.2.mem ((c.tc : Thread Cert.Reference6Ideal.nD Cert.Reference6Ideal.τ).loc Cert.Reference6Ideal.main_v39) = v2 c
          ∧ r.2.mem ((c.tc : Thread Cert.Reference6Ideal.nD Cert.Reference6Ideal.τ).loc Cert.Reference6Ideal.main_v52) = v3 c
          ∧ r.2.mem ((c.tc : Thread Cert.Reference6Ideal.nD Cert.Reference6Ideal.τ).loc Cert.Reference6Ideal.main_v58) = v4 c
          ∧ r.2.mem ((c.tc : Thread Cert.Reference6Ideal.nD Cert.Reference6Ideal.τ).loc Cert.Reference6Ideal.main_v64) = v5 c
          ∧ r.2.mem ((c.tc : Thread Cert.Reference6Ideal.nD Cert.Reference6Ideal.τ).loc Cert.Reference6Ideal.main_v70) = v6 c
          ∧ r.2.mem ((c.tc : Thread Cert.Reference6Ideal.nD Cert.Reference6Ideal.τ).loc Cert.Reference6Ideal.main_v76) = v7 c
          ∧ r.2.mem ((c.tc : Thread Cert.Reference6Ideal.nD Cert.Reference6Ideal.τ).loc Cert.Reference6Ideal.main_v95) = v8 c
          ∧ r.2.mem ((c.tc : Thread Cert.Reference6Ideal.nD Cert.Reference6Ideal.τ).loc Cert.Reference6Ideal.main_v108) = v9 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10)
          ∧ r.2.mem ((c.tc : Thread Cert.Reference6Ideal.nD Cert.Reference6Ideal.τ).loc Cert.Reference6Ideal.main_arg11) = m' ((c.tc : Thread Cert.Reference6Ideal.nD Cert.Reference6Ideal.τ).loc Cert.Reference6Ideal.main_arg11))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite.lean ====
abbrev S4096x1024 : Shape := ⟨2, ![4096, 1024]⟩
abbrev S_ : Shape := ⟨0, ![]⟩

class Facts : Prop where
  bcast_S_S4096x1024 : S_.BroadcastsInDim S4096x1024 (![] : Fin 0 → Fin S4096x1024.rank)

variable [Facts]

def fn {F : FTy → Type} [FloatOps F] (main_arg0 : FVec F S4096x1024 .f32) (main_arg1 : FVec F S4096x1024 .f32) (main_arg2 : FVec F S4096x1024 .f32) (main_arg3 : FVec F S4096x1024 .f32) : IVec S4096x1024 1 × IVec S4096x1024 1 × IVec S4096x1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  let main_v9 : FVec F S4096x1024 .f32 := Host.absf main_arg3
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  (main_v2, main_v5, main_v8, main_v11)
-- ==== Pre_finite2.lean ====
abbrev S4096x1024 : Shape := ⟨2, ![4096, 1024]⟩
abbrev S_ : Shape := ⟨0, ![]⟩

class Facts : Prop where
  bcast_S_S4096x1024 : S_.BroadcastsInDim S4096x1024 (![] : Fin 0 → Fin S4096x1024.rank)

variable [Facts]

def fn {F : FTy → Type} [FloatOps F] (main_arg0 : FVec F S4096x1024 .f32) (main_arg1 : FVec F S4096x1024 .f32) (main_arg2 : FVec F S4096x1024 .f32) (main_arg3 : FVec F S4096x1024 .f32) (main_arg4 : FVec F S4096x1024 .f32) (main_arg5 : FVec F S4096x1024 .f32) : IVec S4096x1024 1 × IVec S4096x1024 1 × IVec S4096x1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  let main_v9 : FVec F S4096x1024 .f32 := Host.absf main_arg3
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  (main_v2, main_v5, main_v8, main_v11)
-- ==== Kernel.lean ====
abbrev S4096x1024 : Shape := ⟨2, ![4096, 1024]⟩
abbrev S4096x16x64 : Shape := ⟨3, ![4096, 16, 64]⟩
abbrev S16x4096x64 : Shape := ⟨3, ![16, 4096, 64]⟩
abbrev S16x4096x4096 : Shape := ⟨3, ![16, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S16x4096x16 : Shape := ⟨3, ![16, 4096, 16]⟩
abbrev S512x128 : Shape := ⟨2, ![512, 128]⟩
abbrev S4096x128 : Shape := ⟨2, ![4096, 128]⟩
abbrev S2x512x16 : Shape := ⟨3, ![2, 512, 16]⟩
abbrev S2x512x128 : Shape := ⟨3, ![2, 512, 128]⟩
abbrev S256x256 : Shape := ⟨2, ![256, 256]⟩
abbrev S512x256 : Shape := ⟨2, ![512, 256]⟩
abbrev S1x128 : Shape := ⟨2, ![1, 128]⟩
abbrev S512x64 : Shape := ⟨2, ![512, 64]⟩
abbrev S1x512x128 : Shape := ⟨3, ![1, 512, 128]⟩
abbrev S1x512x16 : Shape := ⟨3, ![1, 512, 16]⟩
abbrev S512x16 : Shape := ⟨2, ![512, 16]⟩
abbrev S128 : Shape := ⟨1, ![128]⟩
abbrev S1x1x128 : Shape := ⟨3, ![1, 1, 128]⟩
abbrev S1 : Shape := ⟨1, ![1]⟩
abbrev S1x1x1 : Shape := ⟨3, ![1, 1, 1]⟩
abbrev S512x1 : Shape := ⟨2, ![512, 1]⟩
abbrev S256x64 : Shape := ⟨2, ![256, 64]⟩
abbrev S512 : Shape := ⟨1, ![512]⟩

abbrev nBuf : Space → Nat
  | .hbm => 53
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x16x64, .f32⟩
  | .hbm, ⟨5, _⟩ => ⟨S16x4096x64, .f32⟩
  | .hbm, ⟨6, _⟩ => ⟨S4096x16x64, .f32⟩
  | .hbm, ⟨7, _⟩ => ⟨S16x4096x64, .f32⟩
  | .hbm, ⟨8, _⟩ => ⟨S16x4096x4096, .f32⟩
  | .hbm, ⟨9, _⟩ => ⟨S_, .f32⟩
  | .hbm, ⟨10, _⟩ => ⟨S16x4096x4096, .f32⟩
  | .hbm, ⟨11, _⟩ => ⟨S16x4096x4096, .f32⟩
  | .hbm, ⟨12, _⟩ => ⟨S4096, .i32⟩
  | .hbm, ⟨13, _⟩ => ⟨S1x4096, .i32⟩
  | .hbm, ⟨14, _⟩ => ⟨S4096x1, .i32⟩
  | .hbm, ⟨15, _⟩ => ⟨S4096x4096, .i32⟩
  | .hbm, ⟨16, _⟩ => ⟨S4096x4096, .i32⟩
  | .hbm, ⟨17, _⟩ => ⟨S4096x4096, .i1⟩
  | .hbm, ⟨18, _⟩ => ⟨S16x4096x4096, .f32⟩
  | .hbm, ⟨19, _⟩ => ⟨S16x4096x4096, .f32⟩
  | .hbm, ⟨20, _⟩ => ⟨S_, .f32⟩
  | .hbm, ⟨21, _⟩ => ⟨S16x4096x4096, .f32⟩
  | .hbm, ⟨22, _⟩ => ⟨S16x4096x4096, .f32⟩
  | .hbm, ⟨23, _⟩ => ⟨S16x4096x4096, .f32⟩
  | .hbm, ⟨24, _⟩ => ⟨S16x4096x4096, .f32⟩
  | .hbm, ⟨25, _⟩ => ⟨S16x4096x4096, .i1⟩
  | .hbm, ⟨26, _⟩ => ⟨S16x4096x4096, .f32⟩
  | .hbm, ⟨27, _⟩ => ⟨S16x4096x4096, .f32⟩
  | .hbm, ⟨28, _⟩ => ⟨S16x4096x4096, .f32⟩
  | .hbm, ⟨29, _⟩ => ⟨S16x4096x4096, .f32⟩
  | .hbm, ⟨30, _⟩ => ⟨S16x4096x4096, .f32⟩
  | .hbm, ⟨31, _⟩ => ⟨S16x4096x4096, .f32⟩
  | .hbm, ⟨32, _⟩ => ⟨S16x4096x4096, .f32⟩
  | .hbm, ⟨33, _⟩ => ⟨S16x4096x4096, .f32⟩
  | .hbm, ⟨34, _⟩ => ⟨S16x4096x4096, .f32⟩
  | .hbm, ⟨35, _⟩ => ⟨S_, .f32⟩
  | .hbm, ⟨36, _⟩ => ⟨S_, .f32⟩
  | .hbm, ⟨37, _⟩ => ⟨S16x4096x4096, .i1⟩
  | .hbm, ⟨38, _⟩ => ⟨S16x4096x4096, .f32⟩
  | .hbm, ⟨39, _⟩ => ⟨S16x4096x4096, .f32⟩
  | .hbm, ⟨40, _⟩ => ⟨S_, .f32⟩
  | .hbm, ⟨41, _⟩ => ⟨S_, .f32⟩
  | .hbm, ⟨42, _⟩ => ⟨S16x4096x4096, .f32⟩
  | .hbm, ⟨43, _⟩ => ⟨S16x4096x16, .f32⟩
  | .hbm, ⟨44, _⟩ => ⟨S_, .f32⟩
  | .hbm, ⟨45, _⟩ => ⟨S4096x1024, .f32⟩
  | .hbm, ⟨46, _⟩ => ⟨S4096x1024, .f32⟩
  | .hbm, ⟨47, _⟩ => ⟨S4096x1024, .bf16⟩
  | .hbm, ⟨48, _⟩ => ⟨S4096x1024, .bf16⟩
  | .hbm, ⟨49, _⟩ => ⟨S4096x1024, .bf16⟩
  | .hbm, ⟨50, _⟩ => ⟨S4096x1024, .f32⟩
  | .hbm, ⟨51, _⟩ => ⟨S4096x1024, .f32⟩
  | .hbm, ⟨52, _⟩ => ⟨S4096x1024, .f32⟩
  | .local _ .vmem, ⟨0, _⟩ => ⟨S512x128, .bf16⟩
  | .local _ .vmem, ⟨1, _⟩ => ⟨S512x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S512x128, .f32⟩
  | .local _ .vmem, ⟨7, _⟩ => ⟨S512x128, .f32⟩
  | .local _ .vmem, ⟨8, _⟩ => ⟨S2x512x16, .f32⟩
  | .local _ .vmem, ⟨9, _⟩ => ⟨S2x512x16, .f32⟩
  | .local _ .vmem, ⟨10, _⟩ => ⟨S512x128, .f32⟩
  | .local _ .vmem, ⟨11, _⟩ => ⟨S512x128, .f32⟩
  | .local _ .vmem, ⟨12, _⟩ => ⟨S4096x128, .f32⟩
  | .local _ .vmem, ⟨13, _⟩ => ⟨S4096x128, .f32⟩
  | .local _ .vmem, ⟨14, _⟩ => ⟨S4096x128, .f32⟩
  | .local _ .vmem, ⟨15, _⟩ => ⟨S4096x128, .f32⟩
  | .local _ .vmem, ⟨16, _⟩ => ⟨S2x512x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_call0_v0 : Ref sig .tc := ⟨.hbm, 19, rfl⟩
abbrev main_call0_call0_cst : Ref sig .tc := ⟨.hbm, 20, rfl⟩
abbrev main_call0_call0_v0 : Ref sig .tc := ⟨.hbm, 21, rfl⟩
abbrev main_call0_call0_v1 : Ref sig .tc := ⟨.hbm, 22, rfl⟩
abbrev main_call0_call0_v2 : Ref sig .tc := ⟨.hbm, 23, rfl⟩
abbrev main_call0_call0_v3 : Ref sig .tc := ⟨.hbm, 24, rfl⟩
abbrev main_call0_call0_v4 : Ref sig .tc := ⟨.hbm, 25, rfl⟩
abbrev main_call0_call0_v5 : Ref sig .tc := ⟨.hbm, 26, rfl⟩
abbrev main_call0_call0_v6 : Ref sig .tc := ⟨.hbm, 27, rfl⟩
abbrev main_call0_call0_v7 : Ref sig .tc := ⟨.hbm, 28, rfl⟩
abbrev main_call0_call0_v8 : Ref sig .tc := ⟨.hbm, 29, rfl⟩
abbrev main_call0_call0_v9 : Ref sig .tc := ⟨.hbm, 30, rfl⟩
abbrev main_call0_call0_v10 : Ref sig .tc := ⟨.hbm, 31, rfl⟩
abbrev main_call0_call0_v11 : Ref sig .tc := ⟨.hbm, 32, rfl⟩
abbrev main_call0_v1 : Ref sig .tc := ⟨.hbm, 33, rfl⟩
abbrev main_v14 : Ref sig .tc := ⟨.hbm, 34, rfl⟩
abbrev main_cst_0 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_v15 : Ref sig .tc := ⟨.hbm, 39, rfl⟩
abbrev main_call2_cst : Ref sig .tc := ⟨.hbm, 40, rfl⟩
abbrev main_call2_v0 : Ref sig .tc := ⟨.hbm, 41, rfl⟩
abbrev main_v16 : Ref sig .tc := ⟨.hbm, 42, rfl⟩
abbrev main_v17 : Ref sig .tc := ⟨.hbm, 43, rfl⟩
abbrev main_cst_1 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23_0 : Ref sig .tc := ⟨.hbm, 50, rfl⟩
abbrev main_v23_1 : Ref sig .tc := ⟨.hbm, 51, rfl⟩
abbrev main_v23_2 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 8], ![false, false]⟩

@[reducible] def k0_t1_loop (i : grid0.Coords) (v56 : BitVec 32) (v83 : BitVec 32) : Scf.Loop 32 :=
  let arg1 : BitVec 32 := BitVec.ofNat 32 (i 1).val
  let c1_i32 : BitVec 32 := 1#32
  let v20 : BitVec 32 := Scalar.addi arg1 c1_i32
  let c2_i32 : BitVec 32 := 2#32
  let v21 : BitVec 32 := Scalar.muli v20 c2_i32
  let c2_i32_7 : BitVec 32 := 2#32
  let v30 : BitVec 32 := Scalar.subi v21 c2_i32_7
  let v57 : BitVec 32 := Scalar.minsi v30 v56
  let v84 : BitVec 32 := Scalar.minsi v57 v83
  let c2_i32_42 : BitVec 32 := 2#32
  let v87 : BitVec 32 := Scalar.muli arg1 c2_i32_42
  let v88 : BitVec 32 := Scalar.subi v87 v84
  let c1_i32_43 : BitVec 32 := 1#32
  let v90 : BitVec 32 := Scalar.divsi v88 c1_i32_43
  let v91 : BitVec 32 := Scalar.muli v90 c1_i32_43
  let v92 : BitVec 32 := Scalar.addi v84 v91
  let c1_i32_44 : BitVec 32 := 1#32
  ⟨v84, v92, c1_i32_44⟩

def k0_mult1 (i : grid0.Coords) (v56 : BitVec 32) (v83 : BitVec 32) (k0_t1 : Fin (k0_t1_loop i v56 v83).trips) : BitVec 32 :=
  let arg1 : BitVec 32 := BitVec.ofNat 32 (i 1).val
  let c1_i32 : BitVec 32 := 1#32
  let v20 : BitVec 32 := Scalar.addi arg1 c1_i32
  let c2_i32 : BitVec 32 := 2#32
  let v21 : BitVec 32 := Scalar.muli v20 c2_i32
  let c2_i32_7 : BitVec 32 := 2#32
  let v30 : BitVec 32 := Scalar.subi v21 c2_i32_7
  let v57 : BitVec 32 := Scalar.minsi v30 v56
  let v84 : BitVec 32 := Scalar.minsi v57 v83
  let c1_i32_44 : BitVec 32 := 1#32
  let arg11 : BitVec 32 := Scf.iv v84 c1_i32_44 k0_t1
  let c256_i32_173 : BitVec 32 := 256#32
  let v433 : BitVec 32 := Scalar.muli arg11 c256_i32_173
  v433
def k0_off1 (i : grid0.Coords) (v56 : BitVec 32) (v83 : BitVec 32) (k0_t1 : Fin (k0_t1_loop i v56 v83).trips) : Fin 2 → Nat :=
  let arg1 : BitVec 32 := BitVec.ofNat 32 (i 1).val
  let c1_i32 : BitVec 32 := 1#32
  let v20 : BitVec 32 := Scalar.addi arg1 c1_i32
  let c2_i32 : BitVec 32 := 2#32
  let v21 : BitVec 32 := Scalar.muli v20 c2_i32
  let c2_i32_7 : BitVec 32 := 2#32
  let v30 : BitVec 32 := Scalar.subi v21 c2_i32_7
  let v57 : BitVec 32 := Scalar.minsi v30 v56
  let v84 : BitVec 32 := Scalar.minsi v57 v83
  let c1_i32_44 : BitVec 32 := 1#32
  let arg11 : BitVec 32 := Scf.iv v84 c1_i32_44 k0_t1
  let c256_i32_173 : BitVec 32 := 256#32
  let v433 : BitVec 32 := Scalar.muli arg11 c256_i32_173
  let v434 : BitVec 32 := v433
  let v435 : Index := Scalar.indexCast v434
  let c0_174 : Index := 0#32
  ![v435.toNat, 0]
def k0_off2 (i : grid0.Coords) (v56 : BitVec 32) (v83 : BitVec 32) (k0_t1 : Fin (k0_t1_loop i v56 v83).trips) : Fin 2 → Nat :=
  let arg1 : BitVec 32 := BitVec.ofNat 32 (i 1).val
  let c1_i32 : BitVec 32 := 1#32
  let v20 : BitVec 32 := Scalar.addi arg1 c1_i32
  let c2_i32 : BitVec 32 := 2#32
  let v21 : BitVec 32 := Scalar.muli v20 c2_i32
  let c2_i32_7 : BitVec 32 := 2#32
  let v30 : BitVec 32 := Scalar.subi v21 c2_i32_7
  let v57 : BitVec 32 := Scalar.minsi v30 v56
  let v84 : BitVec 32 := Scalar.minsi v57 v83
  let c1_i32_44 : BitVec 32 := 1#32
  let arg11 : BitVec 32 := Scf.iv v84 c1_i32_44 k0_t1
  let c256_i32_173 : BitVec 32 := 256#32
  let v433 : BitVec 32 := Scalar.muli arg11 c256_i32_173
  let v434 : BitVec 32 := v433
  let v509 : Index := Scalar.indexCast v434
  let c64_200 : Index := 64#32
  ![v509.toNat, 64]
@[reducible] def k0_t2_loop (i : grid0.Coords) (v56 : BitVec 32) (v83 : BitVec 32) : Scf.Loop 32 :=
  let arg1 : BitVec 32 := BitVec.ofNat 32 (i 1).val
  let c1_i32 : BitVec 32 := 1#32
  let v20 : BitVec 32 := Scalar.addi arg1 c1_i32
  let c2_i32 : BitVec 32 := 2#32
  let v21 : BitVec 32 := Scalar.muli v20 c2_i32
  let c2_i32_7 : BitVec 32 := 2#32
  let v30 : BitVec 32 := Scalar.subi v21 c2_i32_7
  let v57 : BitVec 32 := Scalar.minsi v30 v56
  let v84 : BitVec 32 := Scalar.minsi v57 v83
  let c2_i32_42 : BitVec 32 := 2#32
  let v87 : BitVec 32 := Scalar.muli arg1 c2_i32_42
  let v88 : BitVec 32 := Scalar.subi v87 v84
  let c1_i32_43 : BitVec 32 := 1#32
  let v90 : BitVec 32 := Scalar.divsi v88 c1_i32_43
  let v91 : BitVec 32 := Scalar.muli v90 c1_i32_43
  let v92 : BitVec 32 := Scalar.addi v84 v91
  let v89 : BitVec 32 := Scalar.addi v84 v88
  let c1_i32_45 : BitVec 32 := 1#32
  ⟨v92, v89, c1_i32_45⟩
def k0_mult2 (i : grid0.Coords) (v56 : BitVec 32) (v83 : BitVec 32) (k0_t2 : Fin (k0_t2_loop i v56 v83).trips) : BitVec 32 :=
  let arg1 : BitVec 32 := BitVec.ofNat 32 (i 1).val
  let c1_i32 : BitVec 32 := 1#32
  let v20 : BitVec 32 := Scalar.addi arg1 c1_i32
  let c2_i32 : BitVec 32 := 2#32
  let v21 : BitVec 32 := Scalar.muli v20 c2_i32
  let c2_i32_7 : BitVec 32 := 2#32
  let v30 : BitVec 32 := Scalar.subi v21 c2_i32_7
  let v57 : BitVec 32 := Scalar.minsi v30 v56
  let v84 : BitVec 32 := Scalar.minsi v57 v83
  let c2_i32_42 : BitVec 32 := 2#32
  let v87 : BitVec 32 := Scalar.muli arg1 c2_i32_42
  let v88 : BitVec 32 := Scalar.subi v87 v84
  let c1_i32_43 : BitVec 32 := 1#32
  let v90 : BitVec 32 := Scalar.divsi v88 c1_i32_43
  let v91 : BitVec 32 := Scalar.muli v90 c1_i32_43
  let v92 : BitVec 32 := Scalar.addi v84 v91
  let c1_i32_45 : BitVec 32 := 1#32
  let arg11 : BitVec 32 := Scf.iv v92 c1_i32_45 k0_t2
  let c256_i32_173 : BitVec 32 := 256#32
  let v433 : BitVec 32 := Scalar.muli arg11 c256_i32_173
  v433
def k0_off3 (i : grid0.Coords) (v56 : BitVec 32) (v83 : BitVec 32) (k0_t2 : Fin (k0_t2_loop i v56 v83).trips) : Fin 2 → Nat :=
  let arg1 : BitVec 32 := BitVec.ofNat 32 (i 1).val
  let c1_i32 : BitVec 32 := 1#32
  let v20 : BitVec 32 := Scalar.addi arg1 c1_i32
  let c2_i32 : BitVec 32 := 2#32
  let v21 : BitVec 32 := Scalar.muli v20 c2_i32
  let c2_i32_7 : BitVec 32 := 2#32
  let v30 : BitVec 32 := Scalar.subi v21 c2_i32_7
  let v57 : BitVec 32 := Scalar.minsi v30 v56
  let v84 : BitVec 32 := Scalar.minsi v57 v83
  let c2_i32_42 : BitVec 32 := 2#32
  let v87 : BitVec 32 := Scalar.muli arg1 c2_i32_42
  let v88 : BitVec 32 := Scalar.subi v87 v84
  let c1_i32_43 : BitVec 32 := 1#32
  let v90 : BitVec 32 := Scalar.divsi v88 c1_i32_43
  let v91 : BitVec 32 := Scalar.muli v90 c1_i32_43
  let v92 : BitVec 32 := Scalar.addi v84 v91
  let c1_i32_45 : BitVec 32 := 1#32
  let arg11 : BitVec 32 := Scf.iv v92 c1_i32_45 k0_t2
  let c256_i32_173 : BitVec 32 := 256#32
  let v433 : BitVec 32 := Scalar.muli arg11 c256_i32_173
  let v434 : BitVec 32 := v433
  let v435 : Index := Scalar.indexCast v434
  let c0_174 : Index := 0#32
  ![v435.toNat, 0]
def k0_off4 (i : grid0.Coords) (v56 : BitVec 32) (v83 : BitVec 32) (k0_t2 : Fin (k0_t2_loop i v56 v83).trips) : Fin 2 → Nat :=
  let arg1 : BitVec 32 := BitVec.ofNat 32 (i 1).val
  let c1_i32 : BitVec 32 := 1#32
  let v20 : BitVec 32 := Scalar.addi arg1 c1_i32
  let c2_i32 : BitVec 32 := 2#32
  let v21 : BitVec 32 := Scalar.muli v20 c2_i32
  let c2_i32_7 : BitVec 32 := 2#32
  let v30 : BitVec 32 := Scalar.subi v21 c2_i32_7
  let v57 : BitVec 32 := Scalar.minsi v30 v56
  let v84 : BitVec 32 := Scalar.minsi v57 v83
  let c2_i32_42 : BitVec 32 := 2#32
  let v87 : BitVec 32 := Scalar.muli arg1 c2_i32_42
  let v88 : BitVec 32 := Scalar.subi v87 v84
  let c1_i32_43 : BitVec 32 := 1#32
  let v90 : BitVec 32 := Scalar.divsi v88 c1_i32_43
  let v91 : BitVec 32 := Scalar.muli v90 c1_i32_43
  let v92 : BitVec 32 := Scalar.addi v84 v91
  let c1_i32_45 : BitVec 32 := 1#32
  let arg11 : BitVec 32 := Scf.iv v92 c1_i32_45 k0_t2
  let c256_i32_173 : BitVec 32 := 256#32
  let v433 : BitVec 32 := Scalar.muli arg11 c256_i32_173
  let v434 : BitVec 32 := v433
  let v509 : Index := Scalar.indexCast v434
  let c64_200 : Index := 64#32
  ![v509.toNat, 64]

def k0_chk1 (i : grid0.Coords) (v56 : BitVec 32) (v83 : BitVec 32) : Prop :=
  ((k0_t1_loop i v56 v83).OK) ∧
  (∀ k0_t1 : Fin (k0_t1_loop i v56 v83).trips, 256 ∣ (k0_mult1 i v56 v83 k0_t1).toNat) ∧
  (∀ k0_t1 : Fin (k0_t1_loop i v56 v83).trips, ∀ a, (k0_off1 i v56 v83 k0_t1) a + S256x64.size a ≤ S4096x128.size a) ∧
  (∀ k0_t1 : Fin (k0_t1_loop i v56 v83).trips, ∀ a, (k0_off2 i v56 v83 k0_t1) a + S256x64.size a ≤ S4096x128.size a) ∧
  ((k0_t2_loop i v56 v83).OK) ∧
  (∀ k0_t2 : Fin (k0_t2_loop i v56 v83).trips, 256 ∣ (k0_mult2 i v56 v83 k0_t2).toNat) ∧
  (∀ k0_t2 : Fin (k0_t2_loop i v56 v83).trips, ∀ a, (k0_off3 i v56 v83 k0_t2) a + S256x64.size a ≤ S4096x128.size a) ∧
  (∀ k0_t2 : Fin (k0_t2_loop i v56 v83).trips, ∀ a, (k0_off4 i v56 v83 k0_t2) a + S256x64.size a ≤ S4096x128.size a)
theorem k0_t1_ok : ∀ (i : grid0.Coords) (v56 : BitVec 32) (v83 : BitVec 32) (k0_hw1 : k0_chk1 i v56 v83), (k0_t1_loop i v56 v83).OK := fun i v56 v83 k0_hw1 => k0_hw1.1
theorem k0_mult1_dvd : ∀ (i : grid0.Coords) (v56 : BitVec 32) (v83 : BitVec 32) (k0_hw1 : k0_chk1 i v56 v83) (k0_t1 : Fin (k0_t1_loop i v56 v83).trips), 256 ∣ (k0_mult1 i v56 v83 k0_t1).toNat := fun i v56 v83 k0_hw1 k0_t1 => k0_hw1.2.1 k0_t1
theorem k0_off1_inb : ∀ (i : grid0.Coords) (v56 : BitVec 32) (v83 : BitVec 32) (k0_hw1 : k0_chk1 i v56 v83) (k0_t1 : Fin (k0_t1_loop i v56 v83).trips), ∀ a, (k0_off1 i v56 v83 k0_t1) a + S256x64.size a ≤ S4096x128.size a := fun i v56 v83 k0_hw1 k0_t1 => k0_hw1.2.2.1 k0_t1
theorem k0_off2_inb : ∀ (i : grid0.Coords) (v56 : BitVec 32) (v83 : BitVec 32) (k0_hw1 : k0_chk1 i v56 v83) (k0_t1 : Fin (k0_t1_loop i v56 v83).trips), ∀ a, (k0_off2 i v56 v83 k0_t1) a + S256x64.size a ≤ S4096x128.size a := fun i v56 v83 k0_hw1 k0_t1 => k0_hw1.2.2.2.1 k0_t1
theorem k0_t2_ok : ∀ (i : grid0.Coords) (v56 : BitVec 32) (v83 : BitVec 32) (k0_hw1 : k0_chk1 i v56 v83), (k0_t2_loop i v56 v83).OK := fun i v56 v83 k0_hw1 => k0_hw1.2.2.2.2.1
theorem k0_mult2_dvd : ∀ (i : grid0.Coords) (v56 : BitVec 32) (v83 : BitVec 32) (k0_hw1 : k0_chk1 i v56 v83) (k0_t2 : Fin (k0_t2_loop i v56 v83).trips), 256 ∣ (k0_mult2 i v56 v83 k0_t2).toNat := fun i v56 v83 k0_hw1 k0_t2 => k0_hw1.2.2.2.2.2.1 k0_t2
theorem k0_off3_inb : ∀ (i : grid0.Coords) (v56 : BitVec 32) (v83 : BitVec 32) (k0_hw1 : k0_chk1 i v56 v83) (k0_t2 : Fin (k0_t2_loop i v56 v83).trips), ∀ a, (k0_off3 i v56 v83 k0_t2) a + S256x64.size a ≤ S4096x128.size a := fun i v56 v83 k0_hw1 k0_t2 => k0_hw1.2.2.2.2.2.2.1 k0_t2
theorem k0_off4_inb : ∀ (i : grid0.Coords) (v56 : BitVec 32) (v83 : BitVec 32) (k0_hw1 : k0_chk1 i v56 v83) (k0_t2 : Fin (k0_t2_loop i v56 v83).trips), ∀ a, (k0_off4 i v56 v83 k0_t2) a + S256x64.size a ≤ S4096x128.size a := fun i v56 v83 k0_hw1 k0_t2 => k0_hw1.2.2.2.2.2.2.2 k0_t2

def k0_mult3 (i : grid0.Coords) : BitVec 32 :=
  let arg1 : BitVec 32 := BitVec.ofNat 32 (i 1).val
  let c2_i32_46 : BitVec 32 := 2#32
  let v95 : BitVec 32 := Scalar.muli arg1 c2_i32_46
  let c0_i32_47 : BitVec 32 := 0#32
  let v96 : BitVec 32 := Scalar.addi v95 c0_i32_47
  let c256_i32 : BitVec 32 := 256#32
  let v97 : BitVec 32 := Scalar.muli v96 c256_i32
  v97
def k0_off5 (i : grid0.Coords) (c0_i32_47 : BitVec 32) : Fin 2 → Nat :=
  let arg1 : BitVec 32 := BitVec.ofNat 32 (i 1).val
  let c2_i32_46 : BitVec 32 := 2#32
  let v95 : BitVec 32 := Scalar.muli arg1 c2_i32_46
  let v96 : BitVec 32 := Scalar.addi v95 c0_i32_47
  let c256_i32 : BitVec 32 := 256#32
  let v97 : BitVec 32 := Scalar.muli v96 c256_i32
  let v98 : BitVec 32 := v97
  let v102 : Index := Scalar.indexCast v98
  let c0_48 : Index := 0#32
  ![v102.toNat, 0]
def k0_off6 (i : grid0.Coords) (c0_i32_47 : BitVec 32) : Fin 2 → Nat :=
  let arg1 : BitVec 32 := BitVec.ofNat 32 (i 1).val
  let c2_i32_46 : BitVec 32 := 2#32
  let v95 : BitVec 32 := Scalar.muli arg1 c2_i32_46
  let v96 : BitVec 32 := Scalar.addi v95 c0_i32_47
  let c256_i32 : BitVec 32 := 256#32
  let v97 : BitVec 32 := Scalar.muli v96 c256_i32
  let v98 : BitVec 32 := v97
  let v182 : Index := Scalar.indexCast v98
  let c64_77 : Index := 64#32
  ![v182.toNat, 64]
def k0_mult4 (i : grid0.Coords) : BitVec 32 :=
  let arg1 : BitVec 32 := BitVec.ofNat 32 (i 1).val
  let c2_i32_106 : BitVec 32 := 2#32
  let v262 : BitVec 32 := Scalar.muli arg1 c2_i32_106
  let c1_i32_107 : BitVec 32 := 1#32
  let v263 : BitVec 32 := Scalar.addi v262 c1_i32_107
  let c256_i32_108 : BitVec 32 := 256#32
  let v264 : BitVec 32 := Scalar.muli v263 c256_i32_108
  v264
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x512x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== KernelIdeal.lean ====
variable {F : FTy → Type} [FloatOps F] [Named F]
def κ : String → Option EReal := fun
  | "gone" => some ⊥
  | _ => none
-- ==== ReferenceIdeal.lean ====
abbrev S4096x1024 : Shape := ⟨2, ![4096, 1024]⟩
abbrev S4096x16x64 : Shape := ⟨3, ![4096, 16, 64]⟩
abbrev S16x4096x64 : Shape := ⟨3, ![16, 4096, 64]⟩
abbrev S16x4096x4096 : Shape := ⟨3, ![16, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S16x64x4096 : Shape := ⟨3, ![16, 64, 4096]⟩

abbrev nBuf : Space → Nat
  | .hbm => 176
  | .vmem => 0
  | .smem => 0
  | _ => 0

abbrev hbmTy0_0 (i : Nat) : BufTy := match i % 128 with
  | 0 => ⟨S4096x1024, .f32⟩
  | 1 => ⟨S4096x1024, .f32⟩
  | 2 => ⟨S4096x1024, .f32⟩
  | 3 => ⟨S4096x1024, .f32⟩
  | 4 => ⟨S4096x16x64, .f32⟩
  | 5 => ⟨S16x4096x64, .f32⟩
  | 6 => ⟨S4096x16x64, .f32⟩
  | 7 => ⟨S16x4096x64, .f32⟩
  | 8 => ⟨S16x4096x4096, .f32⟩
  | 9 => ⟨S_, .f32⟩
  | 10 => ⟨S16x4096x4096, .f32⟩
  | 11 => ⟨S16x4096x4096, .f32⟩
  | 12 => ⟨S4096, .i32⟩
  | 13 => ⟨S1x4096, .i32⟩
  | 14 => ⟨S4096x1, .i32⟩
  | 15 => ⟨S4096x4096, .i32⟩
  | 16 => ⟨S4096x4096, .i32⟩
  | 17 => ⟨S4096x4096, .i1⟩
  | 18 => ⟨S16x4096x4096, .f32⟩
  | 19 => ⟨S16x4096x4096, .f32⟩
  | 20 => ⟨S_, .f32⟩
  | 21 => ⟨S16x4096x4096, .f32⟩
  | 22 => ⟨S16x4096x4096, .f32⟩
  | 23 => ⟨S16x4096x4096, .f32⟩
  | 24 => ⟨S16x4096x4096, .f32⟩
  | 25 => ⟨S16x4096x4096, .i1⟩
  | 26 => ⟨S16x4096x4096, .f32⟩
  | 27 => ⟨S16x4096x4096, .f32⟩
  | 28 => ⟨S16x4096x4096, .f32⟩
  | 29 => ⟨S16x4096x4096, .f32⟩
  | 30 => ⟨S16x4096x4096, .f32⟩
  | 31 => ⟨S16x4096x4096, .f32⟩
  | 32 => ⟨S16x4096x4096, .f32⟩
  | 33 => ⟨S16x4096x4096, .f32⟩
  | 34 => ⟨S_, .f32⟩
  | 35 => ⟨S16x4096x4096, .f32⟩
  | 36 => ⟨S16x4096x4096, .i1⟩
  | 37 => ⟨S_, .f32⟩
  | 38 => ⟨S16x4096x4096, .f32⟩
  | 39 => ⟨S16x4096x4096, .f32⟩
  | 40 => ⟨S_, .f32⟩
  | 41 => ⟨S16x4096x4096, .f32⟩
  | 42 => ⟨S16x4096x4096, .i1⟩
  | 43 => ⟨S_, .f32⟩
  | 44 => ⟨S16x4096x4096, .f32⟩
  | 45 => ⟨S16x4096x4096, .f32⟩
  | 46 => ⟨S16x4096x4096, .f32⟩
  | 47 => ⟨S16x4096x4096, .f32⟩
  | 48 => ⟨S_, .f32⟩
  | 49 => ⟨S_, .f32⟩
  | 50 => ⟨S_, .i1⟩
  | 51 => ⟨S_, .f32⟩
  | 52 => ⟨S_, .f32⟩
  | 53 => ⟨S_, .f32⟩
  | 54 => ⟨S_, .f32⟩
  | 55 => ⟨S16x4096x4096, .f32⟩
  | 56 => ⟨S16x4096x4096, .i1⟩
  | 57 => ⟨S_, .f32⟩
  | 58 => ⟨S16x4096x4096, .f32⟩
  | 59 => ⟨S16x4096x4096, .f32⟩
  | 60 => ⟨S16x4096x4096, .f32⟩
  | 61 => ⟨S16x4096x4096, .f32⟩
  | 62 => ⟨S16x4096x4096, .f32⟩
  | 63 => ⟨S_, .f32⟩
  | 64 => ⟨S16x4096x4096, .f32⟩
  | 65 => ⟨S16x4096x4096, .f32⟩
  | 66 => ⟨S16x4096x4096, .f32⟩
  | 67 => ⟨S_, .f32⟩
  | 68 => ⟨S_, .f32⟩
  | 69 => ⟨S16x4096x4096, .i1⟩
  | 70 => ⟨S16x4096x4096, .f32⟩
  | 71 => ⟨S16x4096x4096, .f32⟩
  | 72 => ⟨S_, .f32⟩
  | 73 => ⟨S16x4096x4096, .f32⟩
  | 74 => ⟨S_, .f32⟩
  | 75 => ⟨S_, .f32⟩
  | 76 => ⟨S16x4096x4096, .f32⟩
  | 77 => ⟨S16x4096x4096, .f32⟩
  | 78 => ⟨S_, .f32⟩
  | 79 => ⟨S16x4096x4096, .f32⟩
  | 80 => ⟨S16x4096x4096, .f32⟩
  | 81 => ⟨S16x4096x4096, .f32⟩
  | 82 => ⟨S16x4096x4096, .f32⟩
  | 83 => ⟨S16x4096x4096, .i1⟩
  | 84 => ⟨S16x4096x4096, .f32⟩
  | 85 => ⟨S16x4096x4096, .f32⟩
  | 86 => ⟨S16x4096x4096, .f32⟩
  | 87 => ⟨S16x4096x4096, .f32⟩
  | 88 => ⟨S16x4096x4096, .f32⟩
  | 89 => ⟨S16x4096x4096, .f32⟩
  | 90 => ⟨S16x4096x4096, .f32⟩
  | 91 => ⟨S16x4096x4096, .f32⟩
  | 92 => ⟨S_, .f32⟩
  | 93 => ⟨S16x4096x4096, .f32⟩
  | 94 => ⟨S16x4096x4096, .i1⟩
  | 95 => ⟨S_, .f32⟩
  | 96 => ⟨S16x4096x4096, .f32⟩
  | 97 => ⟨S16x4096x4096, .f32⟩
  | 98 => ⟨S_, .f32⟩
  | 99 => ⟨S16x4096x4096, .f32⟩
  | 100 => ⟨S16x4096x4096, .i1⟩
  | 101 => ⟨S_, .f32⟩
  | 102 => ⟨S16x4096x4096, .f32⟩
  | 103 => ⟨S16x4096x4096, .f32⟩
  | 104 => ⟨S16x4096x4096, .f32⟩
  | 105 => ⟨S16x4096x4096, .f32⟩
  | 106 => ⟨S_, .f32⟩
  | 107 => ⟨S_, .f32⟩
  | 108 => ⟨S_, .i1⟩
  | 109 => ⟨S_, .f32⟩
  | 110 => ⟨S_, .f32⟩
  | 111 => ⟨S_, .f32⟩
  | 112 => ⟨S_, .f32⟩
  | 113 => ⟨S16x4096x4096, .f32⟩
  | 114 => ⟨S16x4096x4096, .i1⟩
  | 115 => ⟨S_, .f32⟩
  | 116 => ⟨S16x4096x4096, .f32⟩
  | 117 => ⟨S16x4096x4096, .f32⟩
  | 118 => ⟨S16x4096x4096, .f32⟩
  | 119 => ⟨S16x4096x4096, .f32⟩
  | 120 => ⟨S16x4096x4096, .f32⟩
  | 121 => ⟨S_, .f32⟩
  | 122 => ⟨S16x4096x4096, .f32⟩
  | 123 => ⟨S16x4096x4096, .f32⟩
  | 124 => ⟨S16x4096x4096, .f32⟩
  | 125 => ⟨S16x4096x4096, .f32⟩
  | 126 => ⟨S16x4096x4096, .f32⟩
  | 127 => ⟨S16x4096x4096, .f32⟩
  | _ => ⟨S4096x1024, .f32⟩

abbrev hbmTy0_1 (i : Nat) : BufTy := match i % 128 with
  | 0 => ⟨S_, .f32⟩
  | 1 => ⟨S_, .f32⟩
  | 2 => ⟨S16x4096x4096, .i1⟩
  | 3 => ⟨S16x4096x4096, .f32⟩
  | 4 => ⟨S16x4096x4096, .f32⟩
  | 5 => ⟨S_, .f32⟩
  | 6 => ⟨S16x4096x4096, .f32⟩
  | 7 => ⟨S4096x16x64, .f32⟩
  | 8 => ⟨S16x4096x64, .f32⟩
  | 9 => ⟨S16x4096x64, .f32⟩
  | 10 => ⟨S4096x16x64, .f32⟩
  | 11 => ⟨S4096x1024, .f32⟩
  | 12 => ⟨S4096x16x64, .f32⟩
  | 13 => ⟨S16x4096x64, .f32⟩
  | 14 => ⟨S16x64x4096, .f32⟩
  | 15 => ⟨S16x4096x64, .f32⟩
  | 16 => ⟨S16x4096x4096, .f32⟩
  | 17 => ⟨S4096x16x64, .f32⟩
  | 18 => ⟨S4096x1024, .f32⟩
  | 19 => ⟨S_, .f32⟩
  | 20 => ⟨S16x4096x4096, .f32⟩
  | 21 => ⟨S16x4096x4096, .f32⟩
  | 22 => ⟨S16x4096x4096, .f32⟩
  | 23 => ⟨S16x4096x4096, .f32⟩
  | 24 => ⟨S16x4096x4096, .f32⟩
  | 25 => ⟨S16x4096x4096, .f32⟩
  | 26 => ⟨S16x4096x4096, .f32⟩
  | 27 => ⟨S_, .f32⟩
  | 28 => ⟨S_, .f32⟩
  | 29 => ⟨S16x4096x4096, .f32⟩
  | 30 => ⟨S16x4096x4096, .f32⟩
  | 31 => ⟨S_, .f32⟩
  | 32 => ⟨S16x4096x4096, .f32⟩
  | 33 => ⟨S16x4096x4096, .f32⟩
  | 34 => ⟨S16x4096x4096, .f32⟩
  | 35 => ⟨S16x4096x4096, .f32⟩
  | 36 => ⟨S16x4096x4096, .f32⟩
  | 37 => ⟨S16x4096x4096, .f32⟩
  | 38 => ⟨S16x4096x4096, .f32⟩
  | 39 => ⟨S_, .f32⟩
  | 40 => ⟨S16x4096x4096, .f32⟩
  | 41 => ⟨S16x4096x4096, .f32⟩
  | 42 => ⟨S16x4096x64, .f32⟩
  | 43 => ⟨S16x4096x64, .f32⟩
  | 44 => ⟨S4096x16x64, .f32⟩
  | 45 => ⟨S4096x1024, .f32⟩
  | 46 => ⟨S4096x16x64, .f32⟩
  | 47 => ⟨S4096x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_call0_v0 : Ref sig .tc := ⟨.hbm, 19, rfl⟩
abbrev main_call0_call0_cst : Ref sig .tc := ⟨.hbm, 20, rfl⟩
abbrev main_call0_call0_v0 : Ref sig .tc := ⟨.hbm, 21, rfl⟩
abbrev main_call0_call0_v1 : Ref sig .tc := ⟨.hbm, 22, rfl⟩
abbrev main_call0_call0_v2 : Ref sig .tc := ⟨.hbm, 23, rfl⟩
abbrev main_call0_call0_v3 : Ref sig .tc := ⟨.hbm, 24, rfl⟩
abbrev main_call0_call0_v4 : Ref sig .tc := ⟨.hbm, 25, rfl⟩
abbrev main_call0_call0_v5 : Ref sig .tc := ⟨.hbm, 26, rfl⟩
abbrev main_call0_call0_v6 : Ref sig .tc := ⟨.hbm, 27, rfl⟩
abbrev main_call0_call0_v7 : Ref sig .tc := ⟨.hbm, 28, rfl⟩
abbrev main_call0_call0_v8 : Ref sig .tc := ⟨.hbm, 29, rfl⟩
abbrev main_call0_call0_v9 : Ref sig .tc := ⟨.hbm, 30, rfl⟩
abbrev main_call0_call0_v10 : Ref sig .tc := ⟨.hbm, 31, rfl⟩
abbrev main_call0_call0_v11 : Ref sig .tc := ⟨.hbm, 32, rfl⟩
abbrev main_call0_v1_0 : Ref sig .tc := ⟨.hbm, 33, rfl⟩
abbrev main_call0_call0_cst_0 : Ref sig .tc := ⟨.hbm, 34, rfl⟩
abbrev main_call0_call0_v13 : Ref sig .tc := ⟨.hbm, 35, rfl⟩
abbrev main_call0_call0_v14 : Ref sig .tc := ⟨.hbm, 36, rfl⟩
abbrev main_call0_call0_cst_1 : Ref sig .tc := ⟨.hbm, 37, rfl⟩
abbrev main_call0_call0_v15 : Ref sig .tc := ⟨.hbm, 38, rfl⟩
abbrev main_call0_call0_v16 : Ref sig .tc := ⟨.hbm, 39, rfl⟩
abbrev main_call0_call0_cst_2 : Ref sig .tc := ⟨.hbm, 40, rfl⟩
abbrev main_call0_call0_v17 : Ref sig .tc := ⟨.hbm, 41, rfl⟩
abbrev main_call0_call0_v18 : Ref sig .tc := ⟨.hbm, 42, rfl⟩
abbrev main_call0_call0_cst_3 : Ref sig .tc := ⟨.hbm, 43, rfl⟩
abbrev main_call0_call0_v19 : Ref sig .tc := ⟨.hbm, 44, rfl⟩
abbrev main_call0_call0_v20 : Ref sig .tc := ⟨.hbm, 45, rfl⟩
abbrev main_call0_call0_v21 : Ref sig .tc := ⟨.hbm, 46, rfl⟩
abbrev main_v14_1 : Ref sig .tc := ⟨.hbm, 47, rfl⟩
abbrev main_call0_call0_cst_4 : Ref sig .tc := ⟨.hbm, 48, rfl⟩
abbrev main_call0_call0_cst_5 : Ref sig .tc := ⟨.hbm, 49, rfl⟩
abbrev main_call0_call0_v23 : Ref sig .tc := ⟨.hbm, 50, rfl⟩
abbrev main_call0_call0_cst_6 : Ref sig .tc := ⟨.hbm, 51, rfl⟩
abbrev main_call0_call0_cst_7 : Ref sig .tc := ⟨.hbm, 52, rfl⟩
abbrev main_call0_call0_v24 : Ref sig .tc := ⟨.hbm, 53, rfl⟩
abbrev main_call0_call0_cst_8 : Ref sig .tc := ⟨.hbm, 54, rfl⟩
abbrev main_call0_call0_v25 : Ref sig .tc := ⟨.hbm, 55, rfl⟩
abbrev main_call0_call0_v26 : Ref sig .tc := ⟨.hbm, 56, rfl⟩
abbrev main_call0_call0_cst_9 : Ref sig .tc := ⟨.hbm, 57, rfl⟩
abbrev main_call0_call0_v27 : Ref sig .tc := ⟨.hbm, 58, rfl⟩
abbrev main_call0_call0_v28 : Ref sig .tc := ⟨.hbm, 59, rfl⟩
abbrev main_call0_call0_v29 : Ref sig .tc := ⟨.hbm, 60, rfl⟩
abbrev main_call0_call0_v30 : Ref sig .tc := ⟨.hbm, 61, rfl⟩
abbrev main_call0_call0_v31 : Ref sig .tc := ⟨.hbm, 62, rfl⟩
abbrev main_call0_call0_cst_10 : Ref sig .tc := ⟨.hbm, 63, rfl⟩
abbrev main_call0_call0_v32 : Ref sig .tc := ⟨.hbm, 64, rfl⟩
abbrev main_v14_2 : Ref sig .tc := ⟨.hbm, 65, rfl⟩
abbrev main_v14_0 : Ref sig .tc := ⟨.hbm, 66, rfl⟩
abbrev main_cst_0 : Ref sig .tc := ⟨.hbm, 67, rfl⟩
abbrev main_call1_v0 : Ref sig .tc := ⟨.hbm, 68, rfl⟩
abbrev main_v15_1 : Ref sig .tc := ⟨.hbm, 69, rfl⟩
abbrev main_call1_v2 : Ref sig .tc := ⟨.hbm, 70, rfl⟩
abbrev main_v15_0 : Ref sig .tc := ⟨.hbm, 71, rfl⟩
abbrev main_call1_cst : Ref sig .tc := ⟨.hbm, 72, rfl⟩
abbrev main_v15_2 : Ref sig .tc := ⟨.hbm, 73, rfl⟩
abbrev main_call2_cst : Ref sig .tc := ⟨.hbm, 74, rfl⟩
abbrev main_call2_v0 : Ref sig .tc := ⟨.hbm, 75, rfl⟩
abbrev main_v16 : Ref sig .tc := ⟨.hbm, 76, rfl⟩
abbrev main_call3_v0 : Ref sig .tc := ⟨.hbm, 77, rfl⟩
abbrev main_call3_call0_cst : Ref sig .tc := ⟨.hbm, 78, rfl⟩
abbrev main_call3_call0_v0 : Ref sig .tc := ⟨.hbm, 79, rfl⟩
abbrev main_call3_call0_v1 : Ref sig .tc := ⟨.hbm, 80, rfl⟩
abbrev main_call3_call0_v2 : Ref sig .tc := ⟨.hbm, 81, rfl⟩
abbrev main_call3_call0_v3 : Ref sig .tc := ⟨.hbm, 82, rfl⟩
abbrev main_call3_call0_v4 : Ref sig .tc := ⟨.hbm, 83, rfl⟩
abbrev main_call3_call0_v5 : Ref sig .tc := ⟨.hbm, 84, rfl⟩
abbrev main_call3_call0_v6 : Ref sig .tc := ⟨.hbm, 85, rfl⟩
abbrev main_call3_call0_v7 : Ref sig .tc := ⟨.hbm, 86, rfl⟩
abbrev main_call3_call0_v8 : Ref sig .tc := ⟨.hbm, 87, rfl⟩
abbrev main_call3_call0_v9 : Ref sig .tc := ⟨.hbm, 88, rfl⟩
abbrev main_call3_call0_v10 : Ref sig .tc := ⟨.hbm, 89, rfl⟩
abbrev main_call3_call0_v11 : Ref sig .tc := ⟨.hbm, 90, rfl⟩
abbrev main_call3_v1_0 : Ref sig .tc := ⟨.hbm, 91, rfl⟩
abbrev main_call3_call0_cst_0 : Ref sig .tc := ⟨.hbm, 92, rfl⟩
abbrev main_call3_call0_v13 : Ref sig .tc := ⟨.hbm, 93, rfl⟩
abbrev main_call3_call0_v14 : Ref sig .tc := ⟨.hbm, 94, rfl⟩
abbrev main_call3_call0_cst_1 : Ref sig .tc := ⟨.hbm, 95, rfl⟩
abbrev main_call3_call0_v15 : Ref sig .tc := ⟨.hbm, 96, rfl⟩
abbrev main_call3_call0_v16 : Ref sig .tc := ⟨.hbm, 97, rfl⟩
abbrev main_call3_call0_cst_2 : Ref sig .tc := ⟨.hbm, 98, rfl⟩
abbrev main_call3_call0_v17 : Ref sig .tc := ⟨.hbm, 99, rfl⟩
abbrev main_call3_call0_v18 : Ref sig .tc := ⟨.hbm, 100, rfl⟩
abbrev main_call3_call0_cst_3 : Ref sig .tc := ⟨.hbm, 101, rfl⟩
abbrev main_call3_call0_v19 : Ref sig .tc := ⟨.hbm, 102, rfl⟩
abbrev main_call3_call0_v20 : Ref sig .tc := ⟨.hbm, 103, rfl⟩
abbrev main_call3_call0_v21 : Ref sig .tc := ⟨.hbm, 104, rfl⟩
abbrev main_v17_1 : Ref sig .tc := ⟨.hbm, 105, rfl⟩
abbrev main_call3_call0_cst_4 : Ref sig .tc := ⟨.hbm, 106, rfl⟩
abbrev main_call3_call0_cst_5 : Ref sig .tc := ⟨.hbm, 107, rfl⟩
abbrev main_call3_call0_v23 : Ref sig .tc := ⟨.hbm, 108, rfl⟩
abbrev main_call3_call0_cst_6 : Ref sig .tc := ⟨.hbm, 109, rfl⟩
abbrev main_call3_call0_cst_7 : Ref sig .tc := ⟨.hbm, 110, rfl⟩
abbrev main_call3_call0_v24 : Ref sig .tc := ⟨.hbm, 111, rfl⟩
abbrev main_call3_call0_cst_8 : Ref sig .tc := ⟨.hbm, 112, rfl⟩
abbrev main_call3_call0_v25 : Ref sig .tc := ⟨.hbm, 113, rfl⟩
abbrev main_call3_call0_v26 : Ref sig .tc := ⟨.hbm, 114, rfl⟩
abbrev main_call3_call0_cst_9 : Ref sig .tc := ⟨.hbm, 115, rfl⟩
abbrev main_call3_call0_v27 : Ref sig .tc := ⟨.hbm, 116, rfl⟩
abbrev main_call3_call0_v28 : Ref sig .tc := ⟨.hbm, 117, rfl⟩
abbrev main_call3_call0_v29 : Ref sig .tc := ⟨.hbm, 118, rfl⟩
abbrev main_call3_call0_v30 : Ref sig .tc := ⟨.hbm, 119, rfl⟩
abbrev main_call3_call0_v31 : Ref sig .tc := ⟨.hbm, 120, rfl⟩
abbrev main_call3_call0_cst_10 : Ref sig .tc := ⟨.hbm, 121, rfl⟩
abbrev main_call3_call0_v32 : Ref sig .tc := ⟨.hbm, 122, rfl⟩
abbrev main_v17_2 : Ref sig .tc := ⟨.hbm, 123, rfl⟩
abbrev main_v17_0 : Ref sig .tc := ⟨.hbm, 124, rfl⟩
abbrev main_v18 : Ref sig .tc := ⟨.hbm, 125, rfl⟩
abbrev main_v19 : Ref sig .tc := ⟨.hbm, 126, rfl⟩
abbrev main_v20 : Ref sig .tc := ⟨.hbm, 127, rfl⟩
abbrev main_cst_1 : Ref sig .tc := ⟨.hbm, 128, rfl⟩
abbrev main_call4_v0 : Ref sig .tc := ⟨.hbm, 129, rfl⟩
abbrev main_v21_1 : Ref sig .tc := ⟨.hbm, 130, rfl⟩
abbrev main_call4_v2 : Ref sig .tc := ⟨.hbm, 131, rfl⟩
abbrev main_v21_0 : Ref sig .tc := ⟨.hbm, 132, rfl⟩
abbrev main_call4_cst : Ref sig .tc := ⟨.hbm, 133, rfl⟩
abbrev main_v21_2 : Ref sig .tc := ⟨.hbm, 134, rfl⟩
abbrev main_v22 : Ref sig .tc := ⟨.hbm, 135, rfl⟩
abbrev main_v23 : Ref sig .tc := ⟨.hbm, 136, rfl⟩
abbrev main_v24 : Ref sig .tc := ⟨.hbm, 137, rfl⟩
abbrev main_v25 : Ref sig .tc := ⟨.hbm, 138, rfl⟩
abbrev main_v26 : Ref sig .tc := ⟨.hbm, 139, rfl⟩
abbrev main_v27 : Ref sig .tc := ⟨.hbm, 140, rfl⟩
abbrev main_v28 : Ref sig .tc := ⟨.hbm, 141, rfl⟩
abbrev main_v29 : Ref sig .tc := ⟨.hbm, 142, rfl⟩
abbrev main_v30 : Ref sig .tc := ⟨.hbm, 143, rfl⟩
abbrev main_v31 : Ref sig .tc := ⟨.hbm, 144, rfl⟩
abbrev main_v32 : Ref sig .tc := ⟨.hbm, 145, rfl⟩
abbrev main_v33 : Ref sig .tc := ⟨.hbm, 146, rfl⟩
abbrev main_call5_cst : Ref sig .tc := ⟨.hbm, 147, rfl⟩
abbrev main_call5_v0 : Ref sig .tc := ⟨.hbm, 148, rfl⟩
abbrev main_v34 : Ref sig .tc := ⟨.hbm, 149, rfl⟩
abbrev main_v35 : Ref sig .tc := ⟨.hbm, 150, rfl⟩
abbrev main_v36 : Ref sig .tc := ⟨.hbm, 151, rfl⟩
abbrev main_call6_v0 : Ref sig .tc := ⟨.hbm, 152, rfl⟩
abbrev main_call6_v1 : Ref sig .tc := ⟨.hbm, 153, rfl⟩
abbrev main_v37 : Ref sig .tc := ⟨.hbm, 154, rfl⟩
abbrev main_call7_cst : Ref sig .tc := ⟨.hbm, 155, rfl⟩
abbrev main_call7_v0 : Ref sig .tc := ⟨.hbm, 156, rfl⟩
abbrev main_v38 : Ref sig .tc := ⟨.hbm, 157, rfl⟩
abbrev main_v39 : Ref sig .tc := ⟨.hbm, 158, rfl⟩
abbrev main_call8_cst : Ref sig .tc := ⟨.hbm, 159, rfl⟩
abbrev main_call8_v0 : Ref sig .tc := ⟨.hbm, 160, rfl⟩
abbrev main_v40 : Ref sig .tc := ⟨.hbm, 161, rfl⟩
abbrev main_call9_v0 : Ref sig .tc := ⟨.hbm, 162, rfl⟩
abbrev main_call9_v1 : Ref sig .tc := ⟨.hbm, 163, rfl⟩
abbrev main_v41 : Ref sig .tc := ⟨.hbm, 164, rfl⟩
abbrev main_v42 : Ref sig .tc := ⟨.hbm, 165, rfl⟩
abbrev main_v43 : Ref sig .tc := ⟨.hbm, 166, rfl⟩
abbrev main_cst_2 : Ref sig .tc := ⟨.hbm, 167, rfl⟩
abbrev main_v44 : Ref sig .tc := ⟨.hbm, 168, rfl⟩
abbrev main_v45 : Ref sig .tc := ⟨.hbm, 169, rfl⟩
abbrev main_v46 : Ref sig .tc := ⟨.hbm, 170, rfl⟩
abbrev main_v47 : Ref sig .tc := ⟨.hbm, 171, rfl⟩
abbrev main_v48 : Ref sig .tc := ⟨.hbm, 172, rfl⟩
abbrev main_v49 : Ref sig .tc := ⟨.hbm, 173, rfl⟩
abbrev main_v50 : Ref sig .tc := ⟨.hbm, 174, rfl⟩
abbrev main_v51 : Ref sig .tc := ⟨.hbm, 175, rfl⟩

abbrev nD : Nat := 1
abbrev τ : Topo := Topo.v7x

variable {F : FTy → Type} [FloatOps F]
-- ==== Kernel2.lean ====
abbrev S4096x1024 : Shape := ⟨2, ![4096, 1024]⟩
abbrev S4096x16x64 : Shape := ⟨3, ![4096, 16, 64]⟩
abbrev S16x4096x64 : Shape := ⟨3, ![16, 4096, 64]⟩
abbrev S16x4096x4096 : Shape := ⟨3, ![16, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S16x4096x16 : Shape := ⟨3, ![16, 4096, 16]⟩
abbrev S512x128 : Shape := ⟨2, ![512, 128]⟩
abbrev S4096x128 : Shape := ⟨2, ![4096, 128]⟩
abbrev S2x512x16 : Shape := ⟨3, ![2, 512, 16]⟩
abbrev S2x512x128 : Shape := ⟨3, ![2, 512, 128]⟩
abbrev S256x256 : Shape := ⟨2, ![256, 256]⟩
abbrev S512x256 : Shape := ⟨2, ![512, 256]⟩
abbrev S1x128 : Shape := ⟨2, ![1, 128]⟩
abbrev S512x64 : Shape := ⟨2, ![512, 64]⟩
abbrev S1x512x128 : Shape := ⟨3, ![1, 512, 128]⟩
abbrev S1x512x16 : Shape := ⟨3, ![1, 512, 16]⟩
abbrev S512x16 : Shape := ⟨2, ![512, 16]⟩
abbrev S128 : Shape := ⟨1, ![128]⟩
abbrev S1x1x128 : Shape := ⟨3, ![1, 1, 128]⟩
abbrev S1 : Shape := ⟨1, ![1]⟩
abbrev S1x1x1 : Shape := ⟨3, ![1, 1, 1]⟩
abbrev S512x1 : Shape := ⟨2, ![512, 1]⟩
abbrev S256x64 : Shape := ⟨2, ![256, 64]⟩
abbrev S512 : Shape := ⟨1, ![512]⟩

abbrev nBuf : Space → Nat
  | .hbm => 55
  | .vmem => 21
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x16x64, .f32⟩
  | .hbm, ⟨7, _⟩ => ⟨S16x4096x64, .f32⟩
  | .hbm, ⟨8, _⟩ => ⟨S4096x16x64, .f32⟩
  | .hbm, ⟨9, _⟩ => ⟨S16x4096x64, .f32⟩
  | .hbm, ⟨10, _⟩ => ⟨S16x4096x4096, .f32⟩
  | .hbm, ⟨11, _⟩ => ⟨S_, .f32⟩
  | .hbm, ⟨12, _⟩ => ⟨S16x4096x4096, .f32⟩
  | .hbm, ⟨13, _⟩ => ⟨S16x4096x4096, .f32⟩
  | .hbm, ⟨14, _⟩ => ⟨S4096, .i32⟩
  | .hbm, ⟨15, _⟩ => ⟨S1x4096, .i32⟩
  | .hbm, ⟨16, _⟩ => ⟨S4096x1, .i32⟩
  | .hbm, ⟨17, _⟩ => ⟨S4096x4096, .i32⟩
  | .hbm, ⟨18, _⟩ => ⟨S4096x4096, .i32⟩
  | .hbm, ⟨19, _⟩ => ⟨S4096x4096, .i1⟩
  | .hbm, ⟨20, _⟩ => ⟨S16x4096x4096, .f32⟩
  | .hbm, ⟨21, _⟩ => ⟨S16x4096x4096, .f32⟩
  | .hbm, ⟨22, _⟩ => ⟨S_, .f32⟩
  | .hbm, ⟨23, _⟩ => ⟨S16x4096x4096, .f32⟩
  | .hbm, ⟨24, _⟩ => ⟨S16x4096x4096, .f32⟩
  | .hbm, ⟨25, _⟩ => ⟨S16x4096x4096, .f32⟩
  | .hbm, ⟨26, _⟩ => ⟨S16x4096x4096, .f32⟩
  | .hbm, ⟨27, _⟩ => ⟨S16x4096x4096, .i1⟩
  | .hbm, ⟨28, _⟩ => ⟨S16x4096x4096, .f32⟩
  | .hbm, ⟨29, _⟩ => ⟨S16x4096x4096, .f32⟩
  | .hbm, ⟨30, _⟩ => ⟨S16x4096x4096, .f32⟩
  | .hbm, ⟨31, _⟩ => ⟨S16x4096x4096, .f32⟩
  | .hbm, ⟨32, _⟩ => ⟨S16x4096x4096, .f32⟩
  | .hbm, ⟨33, _⟩ => ⟨S16x4096x4096, .f32⟩
  | .hbm, ⟨34, _⟩ => ⟨S16x4096x4096, .f32⟩
  | .hbm, ⟨35, _⟩ => ⟨S16x4096x4096, .f32⟩
  | .hbm, ⟨36, _⟩ => ⟨S16x4096x4096, .f32⟩
  | .hbm, ⟨37, _⟩ => ⟨S_, .f32⟩
  | .hbm, ⟨38, _⟩ => ⟨S_, .f32⟩
  | .hbm, ⟨39, _⟩ => ⟨S16x4096x4096, .i1⟩
  | .hbm, ⟨40, _⟩ => ⟨S16x4096x4096, .f32⟩
  | .hbm, ⟨41, _⟩ => ⟨S16x4096x4096, .f32⟩
  | .hbm, ⟨42, _⟩ => ⟨S_, .f32⟩
  | .hbm, ⟨43, _⟩ => ⟨S_, .f32⟩
  | .hbm, ⟨44, _⟩ => ⟨S16x4096x4096, .f32⟩
  | .hbm, ⟨45, _⟩ => ⟨S16x4096x16, .f32⟩
  | .hbm, ⟨46, _⟩ => ⟨S_, .f32⟩
  | .hbm, ⟨47, _⟩ => ⟨S4096x1024, .f32⟩
  | .hbm, ⟨48, _⟩ => ⟨S4096x1024, .f32⟩
  | .hbm, ⟨49, _⟩ => ⟨S4096x1024, .bf16⟩
  | .hbm, ⟨50, _⟩ => ⟨S4096x1024, .bf16⟩
  | .hbm, ⟨51, _⟩ => ⟨S4096x1024, .bf16⟩
  | .hbm, ⟨52, _⟩ => ⟨S4096x1024, .f32⟩
  | .hbm, ⟨53, _⟩ => ⟨S4096x1024, .f32⟩
  | .hbm, ⟨54, _⟩ => ⟨S4096x1024, .f32⟩
  | .local _ .vmem, ⟨0, _⟩ => ⟨S512x128, .bf16⟩
  | .local _ .vmem, ⟨1, _⟩ => ⟨S512x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S512x128, .f32⟩
  | .local _ .vmem, ⟨7, _⟩ => ⟨S512x128, .f32⟩
  | .local _ .vmem, ⟨8, _⟩ => ⟨S2x512x16, .f32⟩
  | .local _ .vmem, ⟨9, _⟩ => ⟨S2x512x16, .f32⟩
  | .local _ .vmem, ⟨10, _⟩ => ⟨S4096x128, .f32⟩
  | .local _ .vmem, ⟨11, _⟩ => ⟨S4096x128, .f32⟩
  | .local _ .vmem, ⟨12, _⟩ => ⟨S4096x128, .f32⟩
  | .local _ .vmem, ⟨13, _⟩ => ⟨S4096x128, .f32⟩
  | .local _ .vmem, ⟨14, _⟩ => ⟨S512x128, .f32⟩
  | .local _ .vmem, ⟨15, _⟩ => ⟨S512x128, .f32⟩
  | .local _ .vmem, ⟨16, _⟩ => ⟨S4096x128, .f32⟩
  | .local _ .vmem, ⟨17, _⟩ => ⟨S4096x128, .f32⟩
  | .local _ .vmem, ⟨18, _⟩ => ⟨S4096x128, .f32⟩
  | .local _ .vmem, ⟨19, _⟩ => ⟨S4096x128, .f32⟩
  | .local _ .vmem, ⟨20, _⟩ => ⟨S2x512x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_v0 : Ref sig .tc := ⟨.hbm, 21, rfl⟩
abbrev main_call0_call0_cst : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_v8 : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_v1 : Ref sig .tc := ⟨.hbm, 35, rfl⟩
abbrev main_v14 : Ref sig .tc := ⟨.hbm, 36, rfl⟩
abbrev main_cst_0 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v15 : Ref sig .tc := ⟨.hbm, 41, rfl⟩
abbrev main_call2_cst : Ref sig .tc := ⟨.hbm, 42, rfl⟩
abbrev main_call2_v0 : Ref sig .tc := ⟨.hbm, 43, rfl⟩
abbrev main_v16 : Ref sig .tc := ⟨.hbm, 44, rfl⟩
abbrev main_v17 : Ref sig .tc := ⟨.hbm, 45, rfl⟩
abbrev main_cst_1 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23_0 : Ref sig .tc := ⟨.hbm, 52, rfl⟩
abbrev main_v23_1 : Ref sig .tc := ⟨.hbm, 53, rfl⟩
abbrev main_v23_2 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![8, 8], ![false, false]⟩

@[reducible] def k0_t1_loop (i : grid0.Coords) (v56 : BitVec 32) (v83 : BitVec 32) : Scf.Loop 32 :=
  let arg1 : BitVec 32 := BitVec.ofNat 32 (i 1).val
  let c1_i32 : BitVec 32 := 1#32
  let v20 : BitVec 32 := Scalar.addi arg1 c1_i32
  let c2_i32 : BitVec 32 := 2#32
  let v21 : BitVec 32 := Scalar.muli v20 c2_i32
  let c2_i32_7 : BitVec 32 := 2#32
  let v30 : BitVec 32 := Scalar.subi v21 c2_i32_7
  let v57 : BitVec 32 := Scalar.minsi v30 v56
  let v84 : BitVec 32 := Scalar.minsi v57 v83
  let c2_i32_42 : BitVec 32 := 2#32
  let v87 : BitVec 32 := Scalar.muli arg1 c2_i32_42
  let v88 : BitVec 32 := Scalar.subi v87 v84
  let c1_i32_43 : BitVec 32 := 1#32
  let v90 : BitVec 32 := Scalar.divsi v88 c1_i32_43
  let v91 : BitVec 32 := Scalar.muli v90 c1_i32_43
  let v92 : BitVec 32 := Scalar.addi v84 v91
  let c1_i32_44 : BitVec 32 := 1#32
  ⟨v84, v92, c1_i32_44⟩

def k0_mult1 (i : grid0.Coords) (v56 : BitVec 32) (v83 : BitVec 32) (k0_t1 : Fin (k0_t1_loop i v56 v83).trips) : BitVec 32 :=
  let arg1 : BitVec 32 := BitVec.ofNat 32 (i 1).val
  let c1_i32 : BitVec 32 := 1#32
  let v20 : BitVec 32 := Scalar.addi arg1 c1_i32
  let c2_i32 : BitVec 32 := 2#32
  let v21 : BitVec 32 := Scalar.muli v20 c2_i32
  let c2_i32_7 : BitVec 32 := 2#32
  let v30 : BitVec 32 := Scalar.subi v21 c2_i32_7
  let v57 : BitVec 32 := Scalar.minsi v30 v56
  let v84 : BitVec 32 := Scalar.minsi v57 v83
  let c1_i32_44 : BitVec 32 := 1#32
  let arg13 : BitVec 32 := Scf.iv v84 c1_i32_44 k0_t1
  let c256_i32_173 : BitVec 32 := 256#32
  let v433 : BitVec 32 := Scalar.muli arg13 c256_i32_173
  v433
def k0_off1 (i : grid0.Coords) (v56 : BitVec 32) (v83 : BitVec 32) (k0_t1 : Fin (k0_t1_loop i v56 v83).trips) : Fin 2 → Nat :=
  let arg1 : BitVec 32 := BitVec.ofNat 32 (i 1).val
  let c1_i32 : BitVec 32 := 1#32
  let v20 : BitVec 32 := Scalar.addi arg1 c1_i32
  let c2_i32 : BitVec 32 := 2#32
  let v21 : BitVec 32 := Scalar.muli v20 c2_i32
  let c2_i32_7 : BitVec 32 := 2#32
  let v30 : BitVec 32 := Scalar.subi v21 c2_i32_7
  let v57 : BitVec 32 := Scalar.minsi v30 v56
  let v84 : BitVec 32 := Scalar.minsi v57 v83
  let c1_i32_44 : BitVec 32 := 1#32
  let arg13 : BitVec 32 := Scf.iv v84 c1_i32_44 k0_t1
  let c256_i32_173 : BitVec 32 := 256#32
  let v433 : BitVec 32 := Scalar.muli arg13 c256_i32_173
  let v434 : BitVec 32 := v433
  let v435 : Index := Scalar.indexCast v434
  let c0_174 : Index := 0#32
  ![v435.toNat, 0]
def k0_off2 (i : grid0.Coords) (v56 : BitVec 32) (v83 : BitVec 32) (k0_t1 : Fin (k0_t1_loop i v56 v83).trips) : Fin 2 → Nat :=
  let arg1 : BitVec 32 := BitVec.ofNat 32 (i 1).val
  let c1_i32 : BitVec 32 := 1#32
  let v20 : BitVec 32 := Scalar.addi arg1 c1_i32
  let c2_i32 : BitVec 32 := 2#32
  let v21 : BitVec 32 := Scalar.muli v20 c2_i32
  let c2_i32_7 : BitVec 32 := 2#32
  let v30 : BitVec 32 := Scalar.subi v21 c2_i32_7
  let v57 : BitVec 32 := Scalar.minsi v30 v56
  let v84 : BitVec 32 := Scalar.minsi v57 v83
  let c1_i32_44 : BitVec 32 := 1#32
  let arg13 : BitVec 32 := Scf.iv v84 c1_i32_44 k0_t1
  let c256_i32_173 : BitVec 32 := 256#32
  let v433 : BitVec 32 := Scalar.muli arg13 c256_i32_173
  let v434 : BitVec 32 := v433
  let v509 : Index := Scalar.indexCast v434
  let c64_200 : Index := 64#32
  ![v509.toNat, 64]
@[reducible] def k0_t2_loop (i : grid0.Coords) (v56 : BitVec 32) (v83 : BitVec 32) : Scf.Loop 32 :=
  let arg1 : BitVec 32 := BitVec.ofNat 32 (i 1).val
  let c1_i32 : BitVec 32 := 1#32
  let v20 : BitVec 32 := Scalar.addi arg1 c1_i32
  let c2_i32 : BitVec 32 := 2#32
  let v21 : BitVec 32 := Scalar.muli v20 c2_i32
  let c2_i32_7 : BitVec 32 := 2#32
  let v30 : BitVec 32 := Scalar.subi v21 c2_i32_7
  let v57 : BitVec 32 := Scalar.minsi v30 v56
  let v84 : BitVec 32 := Scalar.minsi v57 v83
  let c2_i32_42 : BitVec 32 := 2#32
  let v87 : BitVec 32 := Scalar.muli arg1 c2_i32_42
  let v88 : BitVec 32 := Scalar.subi v87 v84
  let c1_i32_43 : BitVec 32 := 1#32
  let v90 : BitVec 32 := Scalar.divsi v88 c1_i32_43
  let v91 : BitVec 32 := Scalar.muli v90 c1_i32_43
  let v92 : BitVec 32 := Scalar.addi v84 v91
  let v89 : BitVec 32 := Scalar.addi v84 v88
  let c1_i32_45 : BitVec 32 := 1#32
  ⟨v92, v89, c1_i32_45⟩
def k0_mult2 (i : grid0.Coords) (v56 : BitVec 32) (v83 : BitVec 32) (k0_t2 : Fin (k0_t2_loop i v56 v83).trips) : BitVec 32 :=
  let arg1 : BitVec 32 := BitVec.ofNat 32 (i 1).val
  let c1_i32 : BitVec 32 := 1#32
  let v20 : BitVec 32 := Scalar.addi arg1 c1_i32
  let c2_i32 : BitVec 32 := 2#32
  let v21 : BitVec 32 := Scalar.muli v20 c2_i32
  let c2_i32_7 : BitVec 32 := 2#32
  let v30 : BitVec 32 := Scalar.subi v21 c2_i32_7
  let v57 : BitVec 32 := Scalar.minsi v30 v56
  let v84 : BitVec 32 := Scalar.minsi v57 v83
  let c2_i32_42 : BitVec 32 := 2#32
  let v87 : BitVec 32 := Scalar.muli arg1 c2_i32_42
  let v88 : BitVec 32 := Scalar.subi v87 v84
  let c1_i32_43 : BitVec 32 := 1#32
  let v90 : BitVec 32 := Scalar.divsi v88 c1_i32_43
  let v91 : BitVec 32 := Scalar.muli v90 c1_i32_43
  let v92 : BitVec 32 := Scalar.addi v84 v91
  let c1_i32_45 : BitVec 32 := 1#32
  let arg13 : BitVec 32 := Scf.iv v92 c1_i32_45 k0_t2
  let c256_i32_173 : BitVec 32 := 256#32
  let v433 : BitVec 32 := Scalar.muli arg13 c256_i32_173
  v433
def k0_off3 (i : grid0.Coords) (v56 : BitVec 32) (v83 : BitVec 32) (k0_t2 : Fin (k0_t2_loop i v56 v83).trips) : Fin 2 → Nat :=
  let arg1 : BitVec 32 := BitVec.ofNat 32 (i 1).val
  let c1_i32 : BitVec 32 := 1#32
  let v20 : BitVec 32 := Scalar.addi arg1 c1_i32
  let c2_i32 : BitVec 32 := 2#32
  let v21 : BitVec 32 := Scalar.muli v20 c2_i32
  let c2_i32_7 : BitVec 32 := 2#32
  let v30 : BitVec 32 := Scalar.subi v21 c2_i32_7
  let v57 : BitVec 32 := Scalar.minsi v30 v56
  let v84 : BitVec 32 := Scalar.minsi v57 v83
  let c2_i32_42 : BitVec 32 := 2#32
  let v87 : BitVec 32 := Scalar.muli arg1 c2_i32_42
  let v88 : BitVec 32 := Scalar.subi v87 v84
  let c1_i32_43 : BitVec 32 := 1#32
  let v90 : BitVec 32 := Scalar.divsi v88 c1_i32_43
  let v91 : BitVec 32 := Scalar.muli v90 c1_i32_43
  let v92 : BitVec 32 := Scalar.addi v84 v91
  let c1_i32_45 : BitVec 32 := 1#32
  let arg13 : BitVec 32 := Scf.iv v92 c1_i32_45 k0_t2
  let c256_i32_173 : BitVec 32 := 256#32
  let v433 : BitVec 32 := Scalar.muli arg13 c256_i32_173
  let v434 : BitVec 32 := v433
  let v435 : Index := Scalar.indexCast v434
  let c0_174 : Index := 0#32
  ![v435.toNat, 0]
def k0_off4 (i : grid0.Coords) (v56 : BitVec 32) (v83 : BitVec 32) (k0_t2 : Fin (k0_t2_loop i v56 v83).trips) : Fin 2 → Nat :=
  let arg1 : BitVec 32 := BitVec.ofNat 32 (i 1).val
  let c1_i32 : BitVec 32 := 1#32
  let v20 : BitVec 32 := Scalar.addi arg1 c1_i32
  let c2_i32 : BitVec 32 := 2#32
  let v21 : BitVec 32 := Scalar.muli v20 c2_i32
  let c2_i32_7 : BitVec 32 := 2#32
  let v30 : BitVec 32 := Scalar.subi v21 c2_i32_7
  let v57 : BitVec 32 := Scalar.minsi v30 v56
  let v84 : BitVec 32 := Scalar.minsi v57 v83
  let c2_i32_42 : BitVec 32 := 2#32
  let v87 : BitVec 32 := Scalar.muli arg1 c2_i32_42
  let v88 : BitVec 32 := Scalar.subi v87 v84
  let c1_i32_43 : BitVec 32 := 1#32
  let v90 : BitVec 32 := Scalar.divsi v88 c1_i32_43
  let v91 : BitVec 32 := Scalar.muli v90 c1_i32_43
  let v92 : BitVec 32 := Scalar.addi v84 v91
  let c1_i32_45 : BitVec 32 := 1#32
  let arg13 : BitVec 32 := Scf.iv v92 c1_i32_45 k0_t2
  let c256_i32_173 : BitVec 32 := 256#32
  let v433 : BitVec 32 := Scalar.muli arg13 c256_i32_173
  let v434 : BitVec 32 := v433
  let v509 : Index := Scalar.indexCast v434
  let c64_200 : Index := 64#32
  ![v509.toNat, 64]

def k0_chk1 (i : grid0.Coords) (v56 : BitVec 32) (v83 : BitVec 32) : Prop :=
  ((k0_t1_loop i v56 v83).OK) ∧
  (∀ k0_t1 : Fin (k0_t1_loop i v56 v83).trips, 256 ∣ (k0_mult1 i v56 v83 k0_t1).toNat) ∧
  (∀ k0_t1 : Fin (k0_t1_loop i v56 v83).trips, ∀ a, (k0_off1 i v56 v83 k0_t1) a + S256x64.size a ≤ S4096x128.size a) ∧
  (∀ k0_t1 : Fin (k0_t1_loop i v56 v83).trips, ∀ a, (k0_off2 i v56 v83 k0_t1) a + S256x64.size a ≤ S4096x128.size a) ∧
  ((k0_t2_loop i v56 v83).OK) ∧
  (∀ k0_t2 : Fin (k0_t2_loop i v56 v83).trips, 256 ∣ (k0_mult2 i v56 v83 k0_t2).toNat) ∧
  (∀ k0_t2 : Fin (k0_t2_loop i v56 v83).trips, ∀ a, (k0_off3 i v56 v83 k0_t2) a + S256x64.size a ≤ S4096x128.size a) ∧
  (∀ k0_t2 : Fin (k0_t2_loop i v56 v83).trips, ∀ a, (k0_off4 i v56 v83 k0_t2) a + S256x64.size a ≤ S4096x128.size a)
theorem k0_t1_ok : ∀ (i : grid0.Coords) (v56 : BitVec 32) (v83 : BitVec 32) (k0_hw1 : k0_chk1 i v56 v83), (k0_t1_loop i v56 v83).OK := fun i v56 v83 k0_hw1 => k0_hw1.1
theorem k0_mult1_dvd : ∀ (i : grid0.Coords) (v56 : BitVec 32) (v83 : BitVec 32) (k0_hw1 : k0_chk1 i v56 v83) (k0_t1 : Fin (k0_t1_loop i v56 v83).trips), 256 ∣ (k0_mult1 i v56 v83 k0_t1).toNat := fun i v56 v83 k0_hw1 k0_t1 => k0_hw1.2.1 k0_t1
theorem k0_off1_inb : ∀ (i : grid0.Coords) (v56 : BitVec 32) (v83 : BitVec 32) (k0_hw1 : k0_chk1 i v56 v83) (k0_t1 : Fin (k0_t1_loop i v56 v83).trips), ∀ a, (k0_off1 i v56 v83 k0_t1) a + S256x64.size a ≤ S4096x128.size a := fun i v56 v83 k0_hw1 k0_t1 => k0_hw1.2.2.1 k0_t1
theorem k0_off2_inb : ∀ (i : grid0.Coords) (v56 : BitVec 32) (v83 : BitVec 32) (k0_hw1 : k0_chk1 i v56 v83) (k0_t1 : Fin (k0_t1_loop i v56 v83).trips), ∀ a, (k0_off2 i v56 v83 k0_t1) a + S256x64.size a ≤ S4096x128.size a := fun i v56 v83 k0_hw1 k0_t1 => k0_hw1.2.2.2.1 k0_t1
theorem k0_t2_ok : ∀ (i : grid0.Coords) (v56 : BitVec 32) (v83 : BitVec 32) (k0_hw1 : k0_chk1 i v56 v83), (k0_t2_loop i v56 v83).OK := fun i v56 v83 k0_hw1 => k0_hw1.2.2.2.2.1
theorem k0_mult2_dvd : ∀ (i : grid0.Coords) (v56 : BitVec 32) (v83 : BitVec 32) (k0_hw1 : k0_chk1 i v56 v83) (k0_t2 : Fin (k0_t2_loop i v56 v83).trips), 256 ∣ (k0_mult2 i v56 v83 k0_t2).toNat := fun i v56 v83 k0_hw1 k0_t2 => k0_hw1.2.2.2.2.2.1 k0_t2
theorem k0_off3_inb : ∀ (i : grid0.Coords) (v56 : BitVec 32) (v83 : BitVec 32) (k0_hw1 : k0_chk1 i v56 v83) (k0_t2 : Fin (k0_t2_loop i v56 v83).trips), ∀ a, (k0_off3 i v56 v83 k0_t2) a + S256x64.size a ≤ S4096x128.size a := fun i v56 v83 k0_hw1 k0_t2 => k0_hw1.2.2.2.2.2.2.1 k0_t2
theorem k0_off4_inb : ∀ (i : grid0.Coords) (v56 : BitVec 32) (v83 : BitVec 32) (k0_hw1 : k0_chk1 i v56 v83) (k0_t2 : Fin (k0_t2_loop i v56 v83).trips), ∀ a, (k0_off4 i v56 v83 k0_t2) a + S256x64.size a ≤ S4096x128.size a := fun i v56 v83 k0_hw1 k0_t2 => k0_hw1.2.2.2.2.2.2.2 k0_t2

def k0_mult3 (i : grid0.Coords) : BitVec 32 :=
  let arg1 : BitVec 32 := BitVec.ofNat 32 (i 1).val
  let c2_i32_46 : BitVec 32 := 2#32
  let v95 : BitVec 32 := Scalar.muli arg1 c2_i32_46
  let c0_i32_47 : BitVec 32 := 0#32
  let v96 : BitVec 32 := Scalar.addi v95 c0_i32_47
  let c256_i32 : BitVec 32 := 256#32
  let v97 : BitVec 32 := Scalar.muli v96 c256_i32
  v97
def k0_off5 (i : grid0.Coords) (c0_i32_47 : BitVec 32) : Fin 2 → Nat :=
  let arg1 : BitVec 32 := BitVec.ofNat 32 (i 1).val
  let c2_i32_46 : BitVec 32 := 2#32
  let v95 : BitVec 32 := Scalar.muli arg1 c2_i32_46
  let v96 : BitVec 32 := Scalar.addi v95 c0_i32_47
  let c256_i32 : BitVec 32 := 256#32
  let v97 : BitVec 32 := Scalar.muli v96 c256_i32
  let v98 : BitVec 32 := v97
  let v102 : Index := Scalar.indexCast v98
  let c0_48 : Index := 0#32
  ![v102.toNat, 0]
def k0_off6 (i : grid0.Coords) (c0_i32_47 : BitVec 32) : Fin 2 → Nat :=
  let arg1 : BitVec 32 := BitVec.ofNat 32 (i 1).val
  let c2_i32_46 : BitVec 32 := 2#32
  let v95 : BitVec 32 := Scalar.muli arg1 c2_i32_46
  let v96 : BitVec 32 := Scalar.addi v95 c0_i32_47
  let c256_i32 : BitVec 32 := 256#32
  let v97 : BitVec 32 := Scalar.muli v96 c256_i32
  let v98 : BitVec 32 := v97
  let v182 : Index := Scalar.indexCast v98
  let c64_77 : Index := 64#32
  ![v182.toNat, 64]
def k0_mult4 (i : grid0.Coords) : BitVec 32 :=
  let arg1 : BitVec 32 := BitVec.ofNat 32 (i 1).val
  let c2_i32_106 : BitVec 32 := 2#32
  let v262 : BitVec 32 := Scalar.muli arg1 c2_i32_106
  let c1_i32_107 : BitVec 32 := 1#32
  let v263 : BitVec 32 := Scalar.addi v262 c1_i32_107
  let c256_i32_108 : BitVec 32 := 256#32
  let v264 : BitVec 32 := Scalar.muli v263 c256_i32_108
  v264
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x512x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S4096x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S4096x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Kernel2Ideal.lean ====
variable {F : FTy → Type} [FloatOps F] [Named F]
def κ : String → Option EReal := fun
  | "gone" => some ⊥
  | _ => none
-- ==== Reference2Ideal.lean ====
abbrev S4096x1024 : Shape := ⟨2, ![4096, 1024]⟩
abbrev S4096x16x64 : Shape := ⟨3, ![4096, 16, 64]⟩
abbrev S16x4096x64 : Shape := ⟨3, ![16, 4096, 64]⟩
abbrev S16x4096x4096 : Shape := ⟨3, ![16, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S16x64x4096 : Shape := ⟨3, ![16, 64, 4096]⟩

abbrev nBuf : Space → Nat
  | .hbm => 180
  | .vmem => 0
  | .smem => 0
  | _ => 0

abbrev hbmTy0_0 (i : Nat) : BufTy := match i % 128 with
  | 0 => ⟨S4096x1024, .f32⟩
  | 1 => ⟨S4096x1024, .f32⟩
  | 2 => ⟨S4096x1024, .f32⟩
  | 3 => ⟨S4096x1024, .f32⟩
  | 4 => ⟨S4096x1024, .f32⟩
  | 5 => ⟨S4096x1024, .f32⟩
  | 6 => ⟨S4096x16x64, .f32⟩
  | 7 => ⟨S16x4096x64, .f32⟩
  | 8 => ⟨S4096x16x64, .f32⟩
  | 9 => ⟨S16x4096x64, .f32⟩
  | 10 => ⟨S16x4096x4096, .f32⟩
  | 11 => ⟨S_, .f32⟩
  | 12 => ⟨S16x4096x4096, .f32⟩
  | 13 => ⟨S16x4096x4096, .f32⟩
  | 14 => ⟨S4096, .i32⟩
  | 15 => ⟨S1x4096, .i32⟩
  | 16 => ⟨S4096x1, .i32⟩
  | 17 => ⟨S4096x4096, .i32⟩
  | 18 => ⟨S4096x4096, .i32⟩
  | 19 => ⟨S4096x4096, .i1⟩
  | 20 => ⟨S16x4096x4096, .f32⟩
  | 21 => ⟨S16x4096x4096, .f32⟩
  | 22 => ⟨S_, .f32⟩
  | 23 => ⟨S16x4096x4096, .f32⟩
  | 24 => ⟨S16x4096x4096, .f32⟩
  | 25 => ⟨S16x4096x4096, .f32⟩
  | 26 => ⟨S16x4096x4096, .f32⟩
  | 27 => ⟨S16x4096x4096, .i1⟩
  | 28 => ⟨S16x4096x4096, .f32⟩
  | 29 => ⟨S16x4096x4096, .f32⟩
  | 30 => ⟨S16x4096x4096, .f32⟩
  | 31 => ⟨S16x4096x4096, .f32⟩
  | 32 => ⟨S16x4096x4096, .f32⟩
  | 33 => ⟨S16x4096x4096, .f32⟩
  | 34 => ⟨S16x4096x4096, .f32⟩
  | 35 => ⟨S16x4096x4096, .f32⟩
  | 36 => ⟨S_, .f32⟩
  | 37 => ⟨S16x4096x4096, .f32⟩
  | 38 => ⟨S16x4096x4096, .i1⟩
  | 39 => ⟨S_, .f32⟩
  | 40 => ⟨S16x4096x4096, .f32⟩
  | 41 => ⟨S16x4096x4096, .f32⟩
  | 42 => ⟨S_, .f32⟩
  | 43 => ⟨S16x4096x4096, .f32⟩
  | 44 => ⟨S16x4096x4096, .i1⟩
  | 45 => ⟨S_, .f32⟩
  | 46 => ⟨S16x4096x4096, .f32⟩
  | 47 => ⟨S16x4096x4096, .f32⟩
  | 48 => ⟨S16x4096x4096, .f32⟩
  | 49 => ⟨S16x4096x4096, .f32⟩
  | 50 => ⟨S_, .f32⟩
  | 51 => ⟨S_, .f32⟩
  | 52 => ⟨S_, .i1⟩
  | 53 => ⟨S_, .f32⟩
  | 54 => ⟨S_, .f32⟩
  | 55 => ⟨S_, .f32⟩
  | 56 => ⟨S_, .f32⟩
  | 57 => ⟨S16x4096x4096, .f32⟩
  | 58 => ⟨S16x4096x4096, .i1⟩
  | 59 => ⟨S_, .f32⟩
  | 60 => ⟨S16x4096x4096, .f32⟩
  | 61 => ⟨S16x4096x4096, .f32⟩
  | 62 => ⟨S16x4096x4096, .f32⟩
  | 63 => ⟨S16x4096x4096, .f32⟩
  | 64 => ⟨S16x4096x4096, .f32⟩
  | 65 => ⟨S_, .f32⟩
  | 66 => ⟨S16x4096x4096, .f32⟩
  | 67 => ⟨S16x4096x4096, .f32⟩
  | 68 => ⟨S16x4096x4096, .f32⟩
  | 69 => ⟨S_, .f32⟩
  | 70 => ⟨S_, .f32⟩
  | 71 => ⟨S16x4096x4096, .i1⟩
  | 72 => ⟨S16x4096x4096, .f32⟩
  | 73 => ⟨S16x4096x4096, .f32⟩
  | 74 => ⟨S_, .f32⟩
  | 75 => ⟨S16x4096x4096, .f32⟩
  | 76 => ⟨S_, .f32⟩
  | 77 => ⟨S_, .f32⟩
  | 78 => ⟨S16x4096x4096, .f32⟩
  | 79 => ⟨S16x4096x4096, .f32⟩
  | 80 => ⟨S_, .f32⟩
  | 81 => ⟨S16x4096x4096, .f32⟩
  | 82 => ⟨S16x4096x4096, .f32⟩
  | 83 => ⟨S16x4096x4096, .f32⟩
  | 84 => ⟨S16x4096x4096, .f32⟩
  | 85 => ⟨S16x4096x4096, .i1⟩
  | 86 => ⟨S16x4096x4096, .f32⟩
  | 87 => ⟨S16x4096x4096, .f32⟩
  | 88 => ⟨S16x4096x4096, .f32⟩
  | 89 => ⟨S16x4096x4096, .f32⟩
  | 90 => ⟨S16x4096x4096, .f32⟩
  | 91 => ⟨S16x4096x4096, .f32⟩
  | 92 => ⟨S16x4096x4096, .f32⟩
  | 93 => ⟨S16x4096x4096, .f32⟩
  | 94 => ⟨S_, .f32⟩
  | 95 => ⟨S16x4096x4096, .f32⟩
  | 96 => ⟨S16x4096x4096, .i1⟩
  | 97 => ⟨S_, .f32⟩
  | 98 => ⟨S16x4096x4096, .f32⟩
  | 99 => ⟨S16x4096x4096, .f32⟩
  | 100 => ⟨S_, .f32⟩
  | 101 => ⟨S16x4096x4096, .f32⟩
  | 102 => ⟨S16x4096x4096, .i1⟩
  | 103 => ⟨S_, .f32⟩
  | 104 => ⟨S16x4096x4096, .f32⟩
  | 105 => ⟨S16x4096x4096, .f32⟩
  | 106 => ⟨S16x4096x4096, .f32⟩
  | 107 => ⟨S16x4096x4096, .f32⟩
  | 108 => ⟨S_, .f32⟩
  | 109 => ⟨S_, .f32⟩
  | 110 => ⟨S_, .i1⟩
  | 111 => ⟨S_, .f32⟩
  | 112 => ⟨S_, .f32⟩
  | 113 => ⟨S_, .f32⟩
  | 114 => ⟨S_, .f32⟩
  | 115 => ⟨S16x4096x4096, .f32⟩
  | 116 => ⟨S16x4096x4096, .i1⟩
  | 117 => ⟨S_, .f32⟩
  | 118 => ⟨S16x4096x4096, .f32⟩
  | 119 => ⟨S16x4096x4096, .f32⟩
  | 120 => ⟨S16x4096x4096, .f32⟩
  | 121 => ⟨S16x4096x4096, .f32⟩
  | 122 => ⟨S16x4096x4096, .f32⟩
  | 123 => ⟨S_, .f32⟩
  | 124 => ⟨S16x4096x4096, .f32⟩
  | 125 => ⟨S16x4096x4096, .f32⟩
  | 126 => ⟨S16x4096x4096, .f32⟩
  | 127 => ⟨S16x4096x4096, .f32⟩
  | _ => ⟨S4096x1024, .f32⟩

abbrev hbmTy0_1 (i : Nat) : BufTy := match i % 128 with
  | 0 => ⟨S16x4096x4096, .f32⟩
  | 1 => ⟨S16x4096x4096, .f32⟩
  | 2 => ⟨S_, .f32⟩
  | 3 => ⟨S_, .f32⟩
  | 4 => ⟨S16x4096x4096, .i1⟩
  | 5 => ⟨S16x4096x4096, .f32⟩
  | 6 => ⟨S16x4096x4096, .f32⟩
  | 7 => ⟨S_, .f32⟩
  | 8 => ⟨S16x4096x4096, .f32⟩
  | 9 => ⟨S4096x16x64, .f32⟩
  | 10 => ⟨S16x4096x64, .f32⟩
  | 11 => ⟨S16x4096x64, .f32⟩
  | 12 => ⟨S4096x16x64, .f32⟩
  | 13 => ⟨S4096x1024, .f32⟩
  | 14 => ⟨S4096x16x64, .f32⟩
  | 15 => ⟨S16x4096x64, .f32⟩
  | 16 => ⟨S16x64x4096, .f32⟩
  | 17 => ⟨S16x4096x64, .f32⟩
  | 18 => ⟨S16x4096x4096, .f32⟩
  | 19 => ⟨S4096x16x64, .f32⟩
  | 20 => ⟨S4096x1024, .f32⟩
  | 21 => ⟨S_, .f32⟩
  | 22 => ⟨S16x4096x4096, .f32⟩
  | 23 => ⟨S16x4096x4096, .f32⟩
  | 24 => ⟨S16x4096x4096, .f32⟩
  | 25 => ⟨S16x4096x4096, .f32⟩
  | 26 => ⟨S16x4096x4096, .f32⟩
  | 27 => ⟨S16x4096x4096, .f32⟩
  | 28 => ⟨S16x4096x4096, .f32⟩
  | 29 => ⟨S_, .f32⟩
  | 30 => ⟨S_, .f32⟩
  | 31 => ⟨S16x4096x4096, .f32⟩
  | 32 => ⟨S16x4096x4096, .f32⟩
  | 33 => ⟨S_, .f32⟩
  | 34 => ⟨S16x4096x4096, .f32⟩
  | 35 => ⟨S16x4096x4096, .f32⟩
  | 36 => ⟨S16x4096x4096, .f32⟩
  | 37 => ⟨S16x4096x4096, .f32⟩
  | 38 => ⟨S16x4096x4096, .f32⟩
  | 39 => ⟨S16x4096x4096, .f32⟩
  | 40 => ⟨S16x4096x4096, .f32⟩
  | 41 => ⟨S_, .f32⟩
  | 42 => ⟨S16x4096x4096, .f32⟩
  | 43 => ⟨S16x4096x4096, .f32⟩
  | 44 => ⟨S16x4096x64, .f32⟩
  | 45 => ⟨S16x4096x64, .f32⟩
  | 46 => ⟨S4096x16x64, .f32⟩
  | 47 => ⟨S4096x1024, .f32⟩
  | 48 => ⟨S4096x16x64, .f32⟩
  | 49 => ⟨S4096x1024, .f32⟩
  | 50 => ⟨S4096x1024, .f32⟩
  | 51 => ⟨S4096x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_v0 : Ref sig .tc := ⟨.hbm, 21, rfl⟩
abbrev main_call0_call0_cst : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_v8 : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_v1_0 : Ref sig .tc := ⟨.hbm, 35, rfl⟩
abbrev main_call0_call0_cst_0 : Ref sig .tc := ⟨.hbm, 36, rfl⟩
abbrev main_call0_call0_v13 : Ref sig .tc := ⟨.hbm, 37, rfl⟩
abbrev main_call0_call0_v14 : Ref sig .tc := ⟨.hbm, 38, rfl⟩
abbrev main_call0_call0_cst_1 : Ref sig .tc := ⟨.hbm, 39, rfl⟩
abbrev main_call0_call0_v15 : Ref sig .tc := ⟨.hbm, 40, rfl⟩
abbrev main_call0_call0_v16 : Ref sig .tc := ⟨.hbm, 41, rfl⟩
abbrev main_call0_call0_cst_2 : Ref sig .tc := ⟨.hbm, 42, rfl⟩
abbrev main_call0_call0_v17 : Ref sig .tc := ⟨.hbm, 43, rfl⟩
abbrev main_call0_call0_v18 : Ref sig .tc := ⟨.hbm, 44, rfl⟩
abbrev main_call0_call0_cst_3 : Ref sig .tc := ⟨.hbm, 45, rfl⟩
abbrev main_call0_call0_v19 : Ref sig .tc := ⟨.hbm, 46, rfl⟩
abbrev main_call0_call0_v20 : Ref sig .tc := ⟨.hbm, 47, rfl⟩
abbrev main_call0_call0_v21 : Ref sig .tc := ⟨.hbm, 48, rfl⟩
abbrev main_v14_1 : Ref sig .tc := ⟨.hbm, 49, rfl⟩
abbrev main_call0_call0_cst_4 : Ref sig .tc := ⟨.hbm, 50, rfl⟩
abbrev main_call0_call0_cst_5 : Ref sig .tc := ⟨.hbm, 51, rfl⟩
abbrev main_call0_call0_v23 : Ref sig .tc := ⟨.hbm, 52, rfl⟩
abbrev main_call0_call0_cst_6 : Ref sig .tc := ⟨.hbm, 53, rfl⟩
abbrev main_call0_call0_cst_7 : Ref sig .tc := ⟨.hbm, 54, rfl⟩
abbrev main_call0_call0_v24 : Ref sig .tc := ⟨.hbm, 55, rfl⟩
abbrev main_call0_call0_cst_8 : Ref sig .tc := ⟨.hbm, 56, rfl⟩
abbrev main_call0_call0_v25 : Ref sig .tc := ⟨.hbm, 57, rfl⟩
abbrev main_call0_call0_v26 : Ref sig .tc := ⟨.hbm, 58, rfl⟩
abbrev main_call0_call0_cst_9 : Ref sig .tc := ⟨.hbm, 59, rfl⟩
abbrev main_call0_call0_v27 : Ref sig .tc := ⟨.hbm, 60, rfl⟩
abbrev main_call0_call0_v28 : Ref sig .tc := ⟨.hbm, 61, rfl⟩
abbrev main_call0_call0_v29 : Ref sig .tc := ⟨.hbm, 62, rfl⟩
abbrev main_call0_call0_v30 : Ref sig .tc := ⟨.hbm, 63, rfl⟩
abbrev main_call0_call0_v31 : Ref sig .tc := ⟨.hbm, 64, rfl⟩
abbrev main_call0_call0_cst_10 : Ref sig .tc := ⟨.hbm, 65, rfl⟩
abbrev main_call0_call0_v32 : Ref sig .tc := ⟨.hbm, 66, rfl⟩
abbrev main_v14_2 : Ref sig .tc := ⟨.hbm, 67, rfl⟩
abbrev main_v14_0 : Ref sig .tc := ⟨.hbm, 68, rfl⟩
abbrev main_cst_0 : Ref sig .tc := ⟨.hbm, 69, rfl⟩
abbrev main_call1_v0 : Ref sig .tc := ⟨.hbm, 70, rfl⟩
abbrev main_v15_1 : Ref sig .tc := ⟨.hbm, 71, rfl⟩
abbrev main_call1_v2 : Ref sig .tc := ⟨.hbm, 72, rfl⟩
abbrev main_v15_0 : Ref sig .tc := ⟨.hbm, 73, rfl⟩
abbrev main_call1_cst : Ref sig .tc := ⟨.hbm, 74, rfl⟩
abbrev main_v15_2 : Ref sig .tc := ⟨.hbm, 75, rfl⟩
abbrev main_call2_cst : Ref sig .tc := ⟨.hbm, 76, rfl⟩
abbrev main_call2_v0 : Ref sig .tc := ⟨.hbm, 77, rfl⟩
abbrev main_v16 : Ref sig .tc := ⟨.hbm, 78, rfl⟩
abbrev main_call3_v0 : Ref sig .tc := ⟨.hbm, 79, rfl⟩
abbrev main_call3_call0_cst : Ref sig .tc := ⟨.hbm, 80, rfl⟩
abbrev main_call3_call0_v0 : Ref sig .tc := ⟨.hbm, 81, rfl⟩
abbrev main_call3_call0_v1 : Ref sig .tc := ⟨.hbm, 82, rfl⟩
abbrev main_call3_call0_v2 : Ref sig .tc := ⟨.hbm, 83, rfl⟩
abbrev main_call3_call0_v3 : Ref sig .tc := ⟨.hbm, 84, rfl⟩
abbrev main_call3_call0_v4 : Ref sig .tc := ⟨.hbm, 85, rfl⟩
abbrev main_call3_call0_v5 : Ref sig .tc := ⟨.hbm, 86, rfl⟩
abbrev main_call3_call0_v6 : Ref sig .tc := ⟨.hbm, 87, rfl⟩
abbrev main_call3_call0_v7 : Ref sig .tc := ⟨.hbm, 88, rfl⟩
abbrev main_call3_call0_v8 : Ref sig .tc := ⟨.hbm, 89, rfl⟩
abbrev main_call3_call0_v9 : Ref sig .tc := ⟨.hbm, 90, rfl⟩
abbrev main_call3_call0_v10 : Ref sig .tc := ⟨.hbm, 91, rfl⟩
abbrev main_call3_call0_v11 : Ref sig .tc := ⟨.hbm, 92, rfl⟩
abbrev main_call3_v1_0 : Ref sig .tc := ⟨.hbm, 93, rfl⟩
abbrev main_call3_call0_cst_0 : Ref sig .tc := ⟨.hbm, 94, rfl⟩
abbrev main_call3_call0_v13 : Ref sig .tc := ⟨.hbm, 95, rfl⟩
abbrev main_call3_call0_v14 : Ref sig .tc := ⟨.hbm, 96, rfl⟩
abbrev main_call3_call0_cst_1 : Ref sig .tc := ⟨.hbm, 97, rfl⟩
abbrev main_call3_call0_v15 : Ref sig .tc := ⟨.hbm, 98, rfl⟩
abbrev main_call3_call0_v16 : Ref sig .tc := ⟨.hbm, 99, rfl⟩
abbrev main_call3_call0_cst_2 : Ref sig .tc := ⟨.hbm, 100, rfl⟩
abbrev main_call3_call0_v17 : Ref sig .tc := ⟨.hbm, 101, rfl⟩
abbrev main_call3_call0_v18 : Ref sig .tc := ⟨.hbm, 102, rfl⟩
abbrev main_call3_call0_cst_3 : Ref sig .tc := ⟨.hbm, 103, rfl⟩
abbrev main_call3_call0_v19 : Ref sig .tc := ⟨.hbm, 104, rfl⟩
abbrev main_call3_call0_v20 : Ref sig .tc := ⟨.hbm, 105, rfl⟩
abbrev main_call3_call0_v21 : Ref sig .tc := ⟨.hbm, 106, rfl⟩
abbrev main_v17_1 : Ref sig .tc := ⟨.hbm, 107, rfl⟩
abbrev main_call3_call0_cst_4 : Ref sig .tc := ⟨.hbm, 108, rfl⟩
abbrev main_call3_call0_cst_5 : Ref sig .tc := ⟨.hbm, 109, rfl⟩
abbrev main_call3_call0_v23 : Ref sig .tc := ⟨.hbm, 110, rfl⟩
abbrev main_call3_call0_cst_6 : Ref sig .tc := ⟨.hbm, 111, rfl⟩
abbrev main_call3_call0_cst_7 : Ref sig .tc := ⟨.hbm, 112, rfl⟩
abbrev main_call3_call0_v24 : Ref sig .tc := ⟨.hbm, 113, rfl⟩
abbrev main_call3_call0_cst_8 : Ref sig .tc := ⟨.hbm, 114, rfl⟩
abbrev main_call3_call0_v25 : Ref sig .tc := ⟨.hbm, 115, rfl⟩
abbrev main_call3_call0_v26 : Ref sig .tc := ⟨.hbm, 116, rfl⟩
abbrev main_call3_call0_cst_9 : Ref sig .tc := ⟨.hbm, 117, rfl⟩
abbrev main_call3_call0_v27 : Ref sig .tc := ⟨.hbm, 118, rfl⟩
abbrev main_call3_call0_v28 : Ref sig .tc := ⟨.hbm, 119, rfl⟩
abbrev main_call3_call0_v29 : Ref sig .tc := ⟨.hbm, 120, rfl⟩
abbrev main_call3_call0_v30 : Ref sig .tc := ⟨.hbm, 121, rfl⟩
abbrev main_call3_call0_v31 : Ref sig .tc := ⟨.hbm, 122, rfl⟩
abbrev main_call3_call0_cst_10 : Ref sig .tc := ⟨.hbm, 123, rfl⟩
abbrev main_call3_call0_v32 : Ref sig .tc := ⟨.hbm, 124, rfl⟩
abbrev main_v17_2 : Ref sig .tc := ⟨.hbm, 125, rfl⟩
abbrev main_v17_0 : Ref sig .tc := ⟨.hbm, 126, rfl⟩
abbrev main_v18 : Ref sig .tc := ⟨.hbm, 127, rfl⟩
abbrev main_v19 : Ref sig .tc := ⟨.hbm, 128, rfl⟩
abbrev main_v20 : Ref sig .tc := ⟨.hbm, 129, rfl⟩
abbrev main_cst_1 : Ref sig .tc := ⟨.hbm, 130, rfl⟩
abbrev main_call4_v0 : Ref sig .tc := ⟨.hbm, 131, rfl⟩
abbrev main_v21_1 : Ref sig .tc := ⟨.hbm, 132, rfl⟩
abbrev main_call4_v2 : Ref sig .tc := ⟨.hbm, 133, rfl⟩
abbrev main_v21_0 : Ref sig .tc := ⟨.hbm, 134, rfl⟩
abbrev main_call4_cst : Ref sig .tc := ⟨.hbm, 135, rfl⟩
abbrev main_v21_2 : Ref sig .tc := ⟨.hbm, 136, rfl⟩
abbrev main_v22 : Ref sig .tc := ⟨.hbm, 137, rfl⟩
abbrev main_v23 : Ref sig .tc := ⟨.hbm, 138, rfl⟩
abbrev main_v24 : Ref sig .tc := ⟨.hbm, 139, rfl⟩
abbrev main_v25 : Ref sig .tc := ⟨.hbm, 140, rfl⟩
abbrev main_v26 : Ref sig .tc := ⟨.hbm, 141, rfl⟩
abbrev main_v27 : Ref sig .tc := ⟨.hbm, 142, rfl⟩
abbrev main_v28 : Ref sig .tc := ⟨.hbm, 143, rfl⟩
abbrev main_v29 : Ref sig .tc := ⟨.hbm, 144, rfl⟩
abbrev main_v30 : Ref sig .tc := ⟨.hbm, 145, rfl⟩
abbrev main_v31 : Ref sig .tc := ⟨.hbm, 146, rfl⟩
abbrev main_v32 : Ref sig .tc := ⟨.hbm, 147, rfl⟩
abbrev main_v33 : Ref sig .tc := ⟨.hbm, 148, rfl⟩
abbrev main_call5_cst : Ref sig .tc := ⟨.hbm, 149, rfl⟩
abbrev main_call5_v0 : Ref sig .tc := ⟨.hbm, 150, rfl⟩
abbrev main_v34 : Ref sig .tc := ⟨.hbm, 151, rfl⟩
abbrev main_v35 : Ref sig .tc := ⟨.hbm, 152, rfl⟩
abbrev main_v36 : Ref sig .tc := ⟨.hbm, 153, rfl⟩
abbrev main_call6_v0 : Ref sig .tc := ⟨.hbm, 154, rfl⟩
abbrev main_call6_v1 : Ref sig .tc := ⟨.hbm, 155, rfl⟩
abbrev main_v37 : Ref sig .tc := ⟨.hbm, 156, rfl⟩
abbrev main_call7_cst : Ref sig .tc := ⟨.hbm, 157, rfl⟩
abbrev main_call7_v0 : Ref sig .tc := ⟨.hbm, 158, rfl⟩
abbrev main_v38 : Ref sig .tc := ⟨.hbm, 159, rfl⟩
abbrev main_v39 : Ref sig .tc := ⟨.hbm, 160, rfl⟩
abbrev main_call8_cst : Ref sig .tc := ⟨.hbm, 161, rfl⟩
abbrev main_call8_v0 : Ref sig .tc := ⟨.hbm, 162, rfl⟩
abbrev main_v40 : Ref sig .tc := ⟨.hbm, 163, rfl⟩
abbrev main_call9_v0 : Ref sig .tc := ⟨.hbm, 164, rfl⟩
abbrev main_call9_v1 : Ref sig .tc := ⟨.hbm, 165, rfl⟩
abbrev main_v41 : Ref sig .tc := ⟨.hbm, 166, rfl⟩
abbrev main_v42 : Ref sig .tc := ⟨.hbm, 167, rfl⟩
abbrev main_v43 : Ref sig .tc := ⟨.hbm, 168, rfl⟩
abbrev main_cst_2 : Ref sig .tc := ⟨.hbm, 169, rfl⟩
abbrev main_v44 : Ref sig .tc := ⟨.hbm, 170, rfl⟩
abbrev main_v45 : Ref sig .tc := ⟨.hbm, 171, rfl⟩
abbrev main_v46 : Ref sig .tc := ⟨.hbm, 172, rfl⟩
abbrev main_v47 : Ref sig .tc := ⟨.hbm, 173, rfl⟩
abbrev main_v48 : Ref sig .tc := ⟨.hbm, 174, rfl⟩
abbrev main_v49 : Ref sig .tc := ⟨.hbm, 175, rfl⟩
abbrev main_v50 : Ref sig .tc := ⟨.hbm, 176, rfl⟩
abbrev main_v51 : Ref sig .tc := ⟨.hbm, 177, rfl⟩
abbrev main_v52 : Ref sig .tc := ⟨.hbm, 178, rfl⟩
abbrev main_v53 : Ref sig .tc := ⟨.hbm, 179, rfl⟩

abbrev nD : Nat := 1
abbrev τ : Topo := Topo.v7x

variable {F : FTy → Type} [FloatOps F]
-- ==== Kernel3.lean ====
abbrev S4x4096x1024 : Shape := ⟨3, ![4, 4096, 1024]⟩
abbrev S4x4096x2816 : Shape := ⟨3, ![4, 4096, 2816]⟩
abbrev S4x8192x704 : Shape := ⟨3, ![4, 8192, 704]⟩
abbrev S1x4096x1024 : Shape := ⟨3, ![1, 4096, 1024]⟩
abbrev S4096x1024 : Shape := ⟨2, ![4096, 1024]⟩
abbrev S1x4096x2816 : Shape := ⟨3, ![1, 4096, 2816]⟩
abbrev S4096x2816 : Shape := ⟨2, ![4096, 2816]⟩
abbrev S4096x4x704 : Shape := ⟨3, ![4096, 4, 704]⟩
abbrev S4x4096x704 : Shape := ⟨3, ![4, 4096, 704]⟩
abbrev S4096x512 : Shape := ⟨2, ![4096, 512]⟩
abbrev S1x4096x704 : Shape := ⟨3, ![1, 4096, 704]⟩
abbrev S1x512x704 : Shape := ⟨3, ![1, 512, 704]⟩
abbrev S4096x704 : Shape := ⟨2, ![4096, 704]⟩
abbrev S512x704 : Shape := ⟨2, ![512, 704]⟩
abbrev S8192x4x704 : Shape := ⟨3, ![8192, 4, 704]⟩
abbrev S8192x2816 : Shape := ⟨2, ![8192, 2816]⟩
abbrev S4x1024x2816 : Shape := ⟨3, ![4, 1024, 2816]⟩

abbrev nBuf : Space → Nat
  | .hbm => 71
  | .vmem => 48
  | .smem => 0
  | _ => 0

abbrev bufTy : (tb : Table) → Fin (tcTables nBuf tb) → BufTy
  | .hbm, ⟨0, _⟩ => ⟨S4x4096x1024, .f32⟩
  | .hbm, ⟨1, _⟩ => ⟨S4x4096x2816, .f32⟩
  | .hbm, ⟨2, _⟩ => ⟨S4x4096x2816, .f32⟩
  | .hbm, ⟨3, _⟩ => ⟨S4x8192x704, .bf16⟩
  | .hbm, ⟨4, _⟩ => ⟨S1x4096x1024, .f32⟩
  | .hbm, ⟨5, _⟩ => ⟨S4096x1024, .f32⟩
  | .hbm, ⟨6, _⟩ => ⟨S4096x1024, .bf16⟩
  | .hbm, ⟨7, _⟩ => ⟨S1x4096x2816, .f32⟩
  | .hbm, ⟨8, _⟩ => ⟨S4096x2816, .f32⟩
  | .hbm, ⟨9, _⟩ => ⟨S4096x2816, .bf16⟩
  | .hbm, ⟨10, _⟩ => ⟨S4096x4x704, .bf16⟩
  | .hbm, ⟨11, _⟩ => ⟨S4x4096x704, .bf16⟩
  | .hbm, ⟨12, _⟩ => ⟨S4x8192x704, .bf16⟩
  | .hbm, ⟨13, _⟩ => ⟨S1x4096x2816, .f32⟩
  | .hbm, ⟨14, _⟩ => ⟨S4096x2816, .f32⟩
  | .hbm, ⟨15, _⟩ => ⟨S4096x2816, .bf16⟩
  | .hbm, ⟨16, _⟩ => ⟨S4096x4x704, .bf16⟩
  | .hbm, ⟨17, _⟩ => ⟨S4x4096x704, .bf16⟩
  | .hbm, ⟨18, _⟩ => ⟨S4x8192x704, .bf16⟩
  | .hbm, ⟨19, _⟩ => ⟨S1x4096x1024, .f32⟩
  | .hbm, ⟨20, _⟩ => ⟨S4096x1024, .f32⟩
  | .hbm, ⟨21, _⟩ => ⟨S4096x1024, .bf16⟩
  | .hbm, ⟨22, _⟩ => ⟨S1x4096x2816, .f32⟩
  | .hbm, ⟨23, _⟩ => ⟨S4096x2816, .f32⟩
  | .hbm, ⟨24, _⟩ => ⟨S4096x2816, .bf16⟩
  | .hbm, ⟨25, _⟩ => ⟨S4096x4x704, .bf16⟩
  | .hbm, ⟨26, _⟩ => ⟨S4x4096x704, .bf16⟩
  | .hbm, ⟨27, _⟩ => ⟨S4x8192x704, .bf16⟩
  | .hbm, ⟨28, _⟩ => ⟨S1x4096x2816, .f32⟩
  | .hbm, ⟨29, _⟩ => ⟨S4096x2816, .f32⟩
  | .hbm, ⟨30, _⟩ => ⟨S4096x2816, .bf16⟩
  | .hbm, ⟨31, _⟩ => ⟨S4096x4x704, .bf16⟩
  | .hbm, ⟨32, _⟩ => ⟨S4x4096x704, .bf16⟩
  | .hbm, ⟨33, _⟩ => ⟨S4x8192x704, .bf16⟩
  | .hbm, ⟨34, _⟩ => ⟨S1x4096x1024, .f32⟩
  | .hbm, ⟨35, _⟩ => ⟨S4096x1024, .f32⟩
  | .hbm, ⟨36, _⟩ => ⟨S4096x1024, .bf16⟩
  | .hbm, ⟨37, _⟩ => ⟨S1x4096x2816, .f32⟩
  | .hbm, ⟨38, _⟩ => ⟨S4096x2816, .f32⟩
  | .hbm, ⟨39, _⟩ => ⟨S4096x2816, .bf16⟩
  | .hbm, ⟨40, _⟩ => ⟨S4096x4x704, .bf16⟩
  | .hbm, ⟨41, _⟩ => ⟨S4x4096x704, .bf16⟩
  | .hbm, ⟨42, _⟩ => ⟨S4x8192x704, .bf16⟩
  | .hbm, ⟨43, _⟩ => ⟨S1x4096x2816, .f32⟩
  | .hbm, ⟨44, _⟩ => ⟨S4096x2816, .f32⟩
  | .hbm, ⟨45, _⟩ => ⟨S4096x2816, .bf16⟩
  | .hbm, ⟨46, _⟩ => ⟨S4096x4x704, .bf16⟩
  | .hbm, ⟨47, _⟩ => ⟨S4x4096x704, .bf16⟩
  | .hbm, ⟨48, _⟩ => ⟨S4x8192x704, .bf16⟩
  | .hbm, ⟨49, _⟩ => ⟨S1x4096x1024, .f32⟩
  | .hbm, ⟨50, _⟩ => ⟨S4096x1024, .f32⟩
  | .hbm, ⟨51, _⟩ => ⟨S4096x1024, .bf16⟩
  | .hbm, ⟨52, _⟩ => ⟨S1x4096x2816, .f32⟩
  | .hbm, ⟨53, _⟩ => ⟨S4096x2816, .f32⟩
  | .hbm, ⟨54, _⟩ => ⟨S4096x2816, .bf16⟩
  | .hbm, ⟨55, _⟩ => ⟨S4096x4x704, .bf16⟩
  | .hbm, ⟨56, _⟩ => ⟨S4x4096x704, .bf16⟩
  | .hbm, ⟨57, _⟩ => ⟨S4x8192x704, .bf16⟩
  | .hbm, ⟨58, _⟩ => ⟨S1x4096x2816, .f32⟩
  | .hbm, ⟨59, _⟩ => ⟨S4096x2816, .f32⟩
  | .hbm, ⟨60, _⟩ => ⟨S4096x2816, .bf16⟩
  | .hbm, ⟨61, _⟩ => ⟨S4096x4x704, .bf16⟩
  | .hbm, ⟨62, _⟩ => ⟨S4x4096x704, .bf16⟩
  | .hbm, ⟨63, _⟩ => ⟨S4x8192x704, .bf16⟩
  | .hbm, ⟨64, _⟩ => ⟨S8192x4x704, .bf16⟩
  | .hbm, ⟨65, _⟩ => ⟨S8192x2816, .bf16⟩
  | .hbm, ⟨66, _⟩ => ⟨S8192x2816, .f32⟩
  | .hbm, ⟨67, _⟩ => ⟨S4096x2816, .f32⟩
  | .hbm, ⟨68, _⟩ => ⟨S4x1024x2816, .f32⟩
  | .hbm, ⟨69, _⟩ => ⟨S4096x2816, .f32⟩
  | .hbm, ⟨70, _⟩ => ⟨S4x1024x2816, .f32⟩
  | .local _ .vmem, ⟨0, _⟩ => ⟨S4096x512, .bf16⟩
  | .local _ .vmem, ⟨1, _⟩ => ⟨S4096x512, .bf16⟩
  | .local _ .vmem, ⟨2, _⟩ => ⟨S1x4096x704, .bf16⟩
  | .local _ .vmem, ⟨3, _⟩ => ⟨S1x4096x704, .bf16⟩
  | .local _ .vmem, ⟨4, _⟩ => ⟨S1x512x704, .bf16⟩
  | .local _ .vmem, ⟨5, _⟩ => ⟨S1x512x704, .bf16⟩
  | .local _ .vmem, ⟨6, _⟩ => ⟨S4096x512, .bf16⟩
  | .local _ .vmem, ⟨7, _⟩ => ⟨S4096x512, .bf16⟩
  | .local _ .vmem, ⟨8, _⟩ => ⟨S1x4096x704, .bf16⟩
  | .local _ .vmem, ⟨9, _⟩ => ⟨S1x4096x704, .bf16⟩
  | .local _ .vmem, ⟨10, _⟩ => ⟨S1x512x704, .bf16⟩
  | .local _ .vmem, ⟨11, _⟩ => ⟨S1x512x704, .bf16⟩
  | .local _ .vmem, ⟨12, _⟩ => ⟨S4096x512, .bf16⟩
  | .local _ .vmem, ⟨13, _⟩ => ⟨S4096x512, .bf16⟩
  | .local _ .vmem, ⟨14, _⟩ => ⟨S1x4096x704, .bf16⟩
  | .local _ .vmem, ⟨15, _⟩ => ⟨S1x4096x704, .bf16⟩
  | .local _ .vmem, ⟨16, _⟩ => ⟨S1x512x704, .bf16⟩
  | .local _ .vmem, ⟨17, _⟩ => ⟨S1x512x704, .bf16⟩
  | .local _ .vmem, ⟨18, _⟩ => ⟨S4096x512, .bf16⟩
  | .local _ .vmem, ⟨19, _⟩ => ⟨S4096x512, .bf16⟩
  | .local _ .vmem, ⟨20, _⟩ => ⟨S1x4096x704, .bf16⟩
  | .local _ .vmem, ⟨21, _⟩ => ⟨S1x4096x704, .bf16⟩
  | .local _ .vmem, ⟨22, _⟩ => ⟨S1x512x704, .bf16⟩
  | .local _ .vmem, ⟨23, _⟩ => ⟨S1x512x704, .bf16⟩
  | .local _ .vmem, ⟨24, _⟩ => ⟨S4096x512, .bf16⟩
  | .local _ .vmem, ⟨25, _⟩ => ⟨S4096x512, .bf16⟩
  | .local _ .vmem, ⟨26, _⟩ => ⟨S1x4096x704, .bf16⟩
  | .local _ .vmem, ⟨27, _⟩ => ⟨S1x4096x704, .bf16⟩
  | .local _ .vmem, ⟨28, _⟩ => ⟨S1x512x704, .bf16⟩
  | .local _ .vmem, ⟨29, _⟩ => ⟨S1x512x704, .bf16⟩
  | .local _ .vmem, ⟨30, _⟩ => ⟨S4096x512, .bf16⟩
  | .local _ .vmem, ⟨31, _⟩ => ⟨S4096x512, .bf16⟩
  | .local _ .vmem, ⟨32, _⟩ => ⟨S1x4096x704, .bf16⟩
  | .local _ .vmem, ⟨33, _⟩ => ⟨S1x4096x704, .bf16⟩
  | .local _ .vmem, ⟨34, _⟩ => ⟨S1x512x704, .bf16⟩
  | .local _ .vmem, ⟨35, _⟩ => ⟨S1x512x704, .bf16⟩
  | .local _ .vmem, ⟨36, _⟩ => ⟨S4096x512, .bf16⟩
  | .local _ .vmem, ⟨37, _⟩ => ⟨S4096x512, .bf16⟩
  | .local _ .vmem, ⟨38, _⟩ => ⟨S1x4096x704, .bf16⟩
  | .local _ .vmem, ⟨39, _⟩ => ⟨S1x4096x704, .bf16⟩
  | .local _ .vmem, ⟨40, _⟩ => ⟨S1x512x704, .bf16⟩
  | .local _ .vmem, ⟨41, _⟩ => ⟨S1x512x704, .bf16⟩
  | .local _ .vmem, ⟨42, _⟩ => ⟨S4096x512, .bf16⟩
  | .local _ .vmem, ⟨43, _⟩ => ⟨S4096x512, .bf16⟩
  | .local _ .vmem, ⟨44, _⟩ => ⟨S1x4096x704, .bf16⟩
  | .local _ .vmem, ⟨45, _⟩ => ⟨S1x4096x704, .bf16⟩
  | .local _ .vmem, ⟨46, _⟩ => ⟨S1x512x704, .bf16⟩
  | .local _ .vmem, ⟨47, _⟩ => ⟨S1x512x704, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev main_v51 : Ref sig .tc := ⟨.hbm, 55, rfl⟩
abbrev main_v52 : Ref sig .tc := ⟨.hbm, 56, rfl⟩
abbrev main_v53 : Ref sig .tc := ⟨.hbm, 57, rfl⟩
abbrev main_v54 : Ref sig .tc := ⟨.hbm, 58, rfl⟩
abbrev main_v55 : Ref sig .tc := ⟨.hbm, 59, rfl⟩
abbrev main_v56 : Ref sig .tc := ⟨.hbm, 60, rfl⟩
abbrev main_v57 : Ref sig .tc := ⟨.hbm, 61, rfl⟩
abbrev main_v58 : Ref sig .tc := ⟨.hbm, 62, rfl⟩
abbrev main_v59 : Ref sig .tc := ⟨.hbm, 63, rfl⟩
abbrev main_v60 : Ref sig .tc := ⟨.hbm, 64, rfl⟩
abbrev main_v61 : Ref sig .tc := ⟨.hbm, 65, rfl⟩
abbrev main_v62 : Ref sig .tc := ⟨.hbm, 66, rfl⟩
abbrev main_v63 : Ref sig .tc := ⟨.hbm, 67, rfl⟩
abbrev main_v64 : Ref sig .tc := ⟨.hbm, 68, rfl⟩
abbrev main_v65 : Ref sig .tc := ⟨.hbm, 69, rfl⟩
abbrev main_v66 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg1_1 : Ref sig .tc := ⟨.vmem, 27, rfl⟩
abbrev cc4_stg2_0 : Ref sig .tc := ⟨.vmem, 28, rfl⟩
abbrev cc4_stg2_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg1_1 : Ref sig .tc := ⟨.vmem, 33, rfl⟩
abbrev cc5_stg2_0 : Ref sig .tc := ⟨.vmem, 34, rfl⟩
abbrev cc5_stg2_1 : Ref sig .tc := ⟨.vmem, 35, rfl⟩
abbrev cc6_stg0_0 : Ref sig .tc := ⟨.vmem, 36, rfl⟩
abbrev cc6_stg0_1 : Ref sig .tc := ⟨.vmem, 37, rfl⟩
abbrev cc6_stg1_0 : Ref sig .tc := ⟨.vmem, 38, rfl⟩
abbrev cc6_stg1_1 : Ref sig .tc := ⟨.vmem, 39, rfl⟩
abbrev cc6_stg2_0 : Ref sig .tc := ⟨.vmem, 40, rfl⟩
abbrev cc6_stg2_1 : Ref sig .tc := ⟨.vmem, 41, rfl⟩
abbrev cc7_stg0_0 : Ref sig .tc := ⟨.vmem, 42, rfl⟩
abbrev cc7_stg0_1 : Ref sig .tc := ⟨.vmem, 43, rfl⟩
abbrev cc7_stg1_0 : Ref sig .tc := ⟨.vmem, 44, rfl⟩
abbrev cc7_stg1_1 : Ref sig .tc := ⟨.vmem, 45, rfl⟩
abbrev cc7_stg2_0 : Ref sig .tc := ⟨.vmem, 46, rfl⟩
abbrev cc7_stg2_1 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem2_1 : DmaSem sig := 29
abbrev cc5_sem0_0 : DmaSem sig := 30
abbrev cc5_sem0_1 : DmaSem sig := 31
abbrev cc5_sem1_0 : DmaSem sig := 32
abbrev cc5_sem1_1 : DmaSem sig := 33
abbrev cc5_sem2_0 : DmaSem sig := 34
abbrev cc5_sem2_1 : DmaSem sig := 35
abbrev cc6_sem0_0 : DmaSem sig := 36
abbrev cc6_sem0_1 : DmaSem sig := 37
abbrev cc6_sem1_0 : DmaSem sig := 38
abbrev cc6_sem1_1 : DmaSem sig := 39
abbrev cc6_sem2_0 : DmaSem sig := 40
abbrev cc6_sem2_1 : DmaSem sig := 41
abbrev cc7_sem0_0 : DmaSem sig := 42
abbrev cc7_sem0_1 : DmaSem sig := 43
abbrev cc7_sem1_0 : DmaSem sig := 44
abbrev cc7_sem1_1 : DmaSem sig := 45
abbrev cc7_sem2_0 : DmaSem sig := 46
abbrev cc7_sem2_1 : DmaSem sig := 47

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c6_i32 : BitVec 32 := 6#32
  let v1 : BitVec 32 := Scalar.addi c6_i32 arg1
  let c0_i32_0 : BitVec 32 := 0#32
  let c0_i32_1 : BitVec 32 := 0#32
  ![v0.toNat, v1.toNat, c0_i32_0.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![4, 2], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c14_i32 : BitVec 32 := 14#32
  let v1 : BitVec 32 := Scalar.addi c14_i32 arg1
  let c0_i32_0 : BitVec 32 := 0#32
  let c0_i32_1 : BitVec 32 := 0#32
  ![v0.toNat, v1.toNat, c0_i32_0.toNat]

abbrev stage1_0 : Fin 2 → Memref sig .tc .vmem S4096x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1x4096x704 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x512x704 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![4, 2], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c4_i32 : BitVec 32 := 4#32
  let v1 : BitVec 32 := Scalar.addi c4_i32 arg1
  let c0_i32_0 : BitVec 32 := 0#32
  let c0_i32_1 : BitVec 32 := 0#32
  ![v0.toNat, v1.toNat, c0_i32_0.toNat]

abbrev stage2_0 : Fin 2 → Memref sig .tc .vmem S4096x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S1x4096x704 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x512x704 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![4, 2], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_3 (i : grid3.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c12_i32 : BitVec 32 := 12#32
  let v1 : BitVec 32 := Scalar.addi c12_i32 arg1
  let c0_i32_0 : BitVec 32 := 0#32
  let c0_i32_1 : BitVec 32 := 0#32
  ![v0.toNat, v1.toNat, c0_i32_0.toNat]

abbrev stage3_0 : Fin 2 → Memref sig .tc .vmem S4096x512 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 2 → Memref sig .tc .vmem S1x4096x704 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S1x512x704 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨2, ![4, 2], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_1 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc4_transform_3 (i : grid4.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c2_i32 : BitVec 32 := 2#32
  let v1 : BitVec 32 := Scalar.addi c2_i32 arg1
  let c0_i32_0 : BitVec 32 := 0#32
  let c0_i32_1 : BitVec 32 := 0#32
  ![v0.toNat, v1.toNat, c0_i32_0.toNat]

abbrev stage4_0 : Fin 2 → Memref sig .tc .vmem S4096x512 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true]

abbrev stage4_1 : Fin 2 → Memref sig .tc .vmem S1x4096x704 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false]

abbrev stage4_2 : Fin 2 → Memref sig .tc .vmem S1x512x704 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev grid5 : Pipeline.Grid := ⟨2, ![4, 2], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_1 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc5_transform_3 (i : grid5.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c10_i32 : BitVec 32 := 10#32
  let v1 : BitVec 32 := Scalar.addi c10_i32 arg1
  let c0_i32_0 : BitVec 32 := 0#32
  let c0_i32_1 : BitVec 32 := 0#32
  ![v0.toNat, v1.toNat, c0_i32_0.toNat]

abbrev stage5_0 : Fin 2 → Memref sig .tc .vmem S4096x512 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![false, true]

abbrev stage5_1 : Fin 2 → Memref sig .tc .vmem S1x4096x704 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, false]

abbrev stage5_2 : Fin 2 → Memref sig .tc .vmem S1x512x704 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev grid6 : Pipeline.Grid := ⟨2, ![4, 2], ![false, false]⟩

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc6_transform_1 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc6_transform_3 (i : grid6.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let v1 : BitVec 32 := Scalar.addi c0_i32_0 arg1
  let c0_i32_1 : BitVec 32 := 0#32
  let c0_i32_2 : BitVec 32 := 0#32
  ![v0.toNat, v1.toNat, c0_i32_1.toNat]

abbrev stage6_0 : Fin 2 → Memref sig .tc .vmem S4096x512 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![false, true]

abbrev stage6_1 : Fin 2 → Memref sig .tc .vmem S1x4096x704 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true, false]

abbrev stage6_2 : Fin 2 → Memref sig .tc .vmem S1x512x704 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true]

abbrev grid7 : Pipeline.Grid := ⟨2, ![4, 2], ![false, false]⟩

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc7_transform_1 (i : grid7.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc7_transform_3 (i : grid7.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c8_i32 : BitVec 32 := 8#32
  let v1 : BitVec 32 := Scalar.addi c8_i32 arg1
  let c0_i32_0 : BitVec 32 := 0#32
  let c0_i32_1 : BitVec 32 := 0#32
  ![v0.toNat, v1.toNat, c0_i32_0.toNat]

abbrev stage7_0 : Fin 2 → Memref sig .tc .vmem S4096x512 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![false, true]

abbrev stage7_1 : Fin 2 → Memref sig .tc .vmem S1x4096x704 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true, false]

abbrev stage7_2 : Fin 2 → Memref sig .tc .vmem S1x512x704 .bf16 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true]
-- ==== Reference3Ideal.lean ====
abbrev S4x4096x1024 : Shape := ⟨3, ![4, 4096, 1024]⟩
abbrev S4x4096x2816 : Shape := ⟨3, ![4, 4096, 2816]⟩
abbrev S4x8192x704 : Shape := ⟨3, ![4, 8192, 704]⟩
abbrev S_ : Shape := ⟨0, ![]⟩
abbrev S4x1024x2816 : Shape := ⟨3, ![4, 1024, 2816]⟩
abbrev S4x2816x1024 : Shape := ⟨3, ![4, 2816, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x2816, .f32⟩
  | .hbm, ⟨2, _⟩ => ⟨S4x4096x2816, .f32⟩
  | .hbm, ⟨3, _⟩ => ⟨S4x8192x704, .bf16⟩
  | .hbm, ⟨4, _⟩ => ⟨S_, .f32⟩
  | .hbm, ⟨5, _⟩ => ⟨S4x1024x2816, .f32⟩
  | .hbm, ⟨6, _⟩ => ⟨S4x4096x2816, .f32⟩
  | .hbm, ⟨7, _⟩ => ⟨S4x4096x2816, .f32⟩
  | .hbm, ⟨8, _⟩ => ⟨S4x2816x1024, .f32⟩
  | .hbm, ⟨9, _⟩ => ⟨S4x1024x2816, .f32⟩
  | .hbm, ⟨10, _⟩ => ⟨S4x2816x1024, .f32⟩
  | .hbm, ⟨11, _⟩ => ⟨S4x1024x2816, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Kernel4.lean ====
abbrev S4x4096x1024 : Shape := ⟨3, ![4, 4096, 1024]⟩
abbrev S4x4096x2816 : Shape := ⟨3, ![4, 4096, 2816]⟩
abbrev S4x1024x2816 : Shape := ⟨3, ![4, 1024, 2816]⟩
abbrev S4x1024x4x704 : Shape := ⟨4, ![4, 1024, 4, 704]⟩
abbrev S4x4x1024x704 : Shape := ⟨4, ![4, 4, 1024, 704]⟩
abbrev S1x4096x2816 : Shape := ⟨3, ![1, 4096, 2816]⟩
abbrev S4096x2816 : Shape := ⟨2, ![4096, 2816]⟩
abbrev S4096x4x704 : Shape := ⟨3, ![4096, 4, 704]⟩
abbrev S4x4096x704 : Shape := ⟨3, ![4, 4096, 704]⟩
abbrev S1x4096x1024 : Shape := ⟨3, ![1, 4096, 1024]⟩
abbrev S4096x1024 : Shape := ⟨2, ![4096, 1024]⟩
abbrev S1x512x704 : Shape := ⟨3, ![1, 512, 704]⟩
abbrev S1x1x1024x704 : Shape := ⟨4, ![1, 1, 1024, 704]⟩
abbrev S512x1024 : Shape := ⟨2, ![512, 1024]⟩
abbrev S512x704 : Shape := ⟨2, ![512, 704]⟩
abbrev S1024x704 : Shape := ⟨2, ![1024, 704]⟩

abbrev nBuf : Space → Nat
  | .hbm => 67
  | .vmem => 128
  | .smem => 0
  | _ => 0

abbrev bufTy : (tb : Table) → Fin (tcTables nBuf tb) → BufTy
  | .hbm, ⟨0, _⟩ => ⟨S4x4096x1024, .f32⟩
  | .hbm, ⟨1, _⟩ => ⟨S4x4096x2816, .f32⟩
  | .hbm, ⟨2, _⟩ => ⟨S4x4096x2816, .f32⟩
  | .hbm, ⟨3, _⟩ => ⟨S4x1024x2816, .f32⟩
  | .hbm, ⟨4, _⟩ => ⟨S4x1024x2816, .f32⟩
  | .hbm, ⟨5, _⟩ => ⟨S4x1024x2816, .bf16⟩
  | .hbm, ⟨6, _⟩ => ⟨S4x1024x4x704, .bf16⟩
  | .hbm, ⟨7, _⟩ => ⟨S4x4x1024x704, .bf16⟩
  | .hbm, ⟨8, _⟩ => ⟨S4x1024x2816, .bf16⟩
  | .hbm, ⟨9, _⟩ => ⟨S4x1024x4x704, .bf16⟩
  | .hbm, ⟨10, _⟩ => ⟨S4x4x1024x704, .bf16⟩
  | .hbm, ⟨11, _⟩ => ⟨S1x4096x2816, .f32⟩
  | .hbm, ⟨12, _⟩ => ⟨S4096x2816, .f32⟩
  | .hbm, ⟨13, _⟩ => ⟨S4096x2816, .bf16⟩
  | .hbm, ⟨14, _⟩ => ⟨S4096x4x704, .bf16⟩
  | .hbm, ⟨15, _⟩ => ⟨S4x4096x704, .bf16⟩
  | .hbm, ⟨16, _⟩ => ⟨S1x4096x1024, .f32⟩
  | .hbm, ⟨17, _⟩ => ⟨S4096x1024, .f32⟩
  | .hbm, ⟨18, _⟩ => ⟨S4096x1024, .f32⟩
  | .hbm, ⟨19, _⟩ => ⟨S1x4096x2816, .f32⟩
  | .hbm, ⟨20, _⟩ => ⟨S4096x2816, .f32⟩
  | .hbm, ⟨21, _⟩ => ⟨S4096x2816, .bf16⟩
  | .hbm, ⟨22, _⟩ => ⟨S4096x4x704, .bf16⟩
  | .hbm, ⟨23, _⟩ => ⟨S4x4096x704, .bf16⟩
  | .hbm, ⟨24, _⟩ => ⟨S4096x1024, .f32⟩
  | .hbm, ⟨25, _⟩ => ⟨S1x4096x2816, .f32⟩
  | .hbm, ⟨26, _⟩ => ⟨S4096x2816, .f32⟩
  | .hbm, ⟨27, _⟩ => ⟨S4096x2816, .bf16⟩
  | .hbm, ⟨28, _⟩ => ⟨S4096x4x704, .bf16⟩
  | .hbm, ⟨29, _⟩ => ⟨S4x4096x704, .bf16⟩
  | .hbm, ⟨30, _⟩ => ⟨S1x4096x1024, .f32⟩
  | .hbm, ⟨31, _⟩ => ⟨S4096x1024, .f32⟩
  | .hbm, ⟨32, _⟩ => ⟨S4096x1024, .f32⟩
  | .hbm, ⟨33, _⟩ => ⟨S1x4096x2816, .f32⟩
  | .hbm, ⟨34, _⟩ => ⟨S4096x2816, .f32⟩
  | .hbm, ⟨35, _⟩ => ⟨S4096x2816, .bf16⟩
  | .hbm, ⟨36, _⟩ => ⟨S4096x4x704, .bf16⟩
  | .hbm, ⟨37, _⟩ => ⟨S4x4096x704, .bf16⟩
  | .hbm, ⟨38, _⟩ => ⟨S4096x1024, .f32⟩
  | .hbm, ⟨39, _⟩ => ⟨S1x4096x2816, .f32⟩
  | .hbm, ⟨40, _⟩ => ⟨S4096x2816, .f32⟩
  | .hbm, ⟨41, _⟩ => ⟨S4096x2816, .bf16⟩
  | .hbm, ⟨42, _⟩ => ⟨S4096x4x704, .bf16⟩
  | .hbm, ⟨43, _⟩ => ⟨S4x4096x704, .bf16⟩
  | .hbm, ⟨44, _⟩ => ⟨S1x4096x1024, .f32⟩
  | .hbm, ⟨45, _⟩ => ⟨S4096x1024, .f32⟩
  | .hbm, ⟨46, _⟩ => ⟨S4096x1024, .f32⟩
  | .hbm, ⟨47, _⟩ => ⟨S1x4096x2816, .f32⟩
  | .hbm, ⟨48, _⟩ => ⟨S4096x2816, .f32⟩
  | .hbm, ⟨49, _⟩ => ⟨S4096x2816, .bf16⟩
  | .hbm, ⟨50, _⟩ => ⟨S4096x4x704, .bf16⟩
  | .hbm, ⟨51, _⟩ => ⟨S4x4096x704, .bf16⟩
  | .hbm, ⟨52, _⟩ => ⟨S4096x1024, .f32⟩
  | .hbm, ⟨53, _⟩ => ⟨S1x4096x2816, .f32⟩
  | .hbm, ⟨54, _⟩ => ⟨S4096x2816, .f32⟩
  | .hbm, ⟨55, _⟩ => ⟨S4096x2816, .bf16⟩
  | .hbm, ⟨56, _⟩ => ⟨S4096x4x704, .bf16⟩
  | .hbm, ⟨57, _⟩ => ⟨S4x4096x704, .bf16⟩
  | .hbm, ⟨58, _⟩ => ⟨S1x4096x1024, .f32⟩
  | .hbm, ⟨59, _⟩ => ⟨S4096x1024, .f32⟩
  | .hbm, ⟨60, _⟩ => ⟨S4096x1024, .f32⟩
  | .hbm, ⟨61, _⟩ => ⟨S1x4096x2816, .f32⟩
  | .hbm, ⟨62, _⟩ => ⟨S4096x2816, .f32⟩
  | .hbm, ⟨63, _⟩ => ⟨S4096x2816, .bf16⟩
  | .hbm, ⟨64, _⟩ => ⟨S4096x4x704, .bf16⟩
  | .hbm, ⟨65, _⟩ => ⟨S4x4096x704, .bf16⟩
  | .hbm, ⟨66, _⟩ => ⟨S4096x1024, .f32⟩
  | .local _ .vmem, ⟨0, _⟩ => ⟨S1x512x704, .bf16⟩
  | .local _ .vmem, ⟨1, _⟩ => ⟨S1x512x704, .bf16⟩
  | .local _ .vmem, ⟨2, _⟩ => ⟨S1x1x1024x704, .bf16⟩
  | .local _ .vmem, ⟨3, _⟩ => ⟨S1x512x704, .bf16⟩
  | .local _ .vmem, ⟨4, _⟩ => ⟨S1x512x704, .bf16⟩
  | .local _ .vmem, ⟨5, _⟩ => ⟨S1x1x1024x704, .bf16⟩
  | .local _ .vmem, ⟨6, _⟩ => ⟨S1x512x704, .bf16⟩
  | .local _ .vmem, ⟨7, _⟩ => ⟨S1x512x704, .bf16⟩
  | .local _ .vmem, ⟨8, _⟩ => ⟨S1x1x1024x704, .bf16⟩
  | .local _ .vmem, ⟨9, _⟩ => ⟨S1x512x704, .bf16⟩
  | .local _ .vmem, ⟨10, _⟩ => ⟨S1x512x704, .bf16⟩
  | .local _ .vmem, ⟨11, _⟩ => ⟨S1x1x1024x704, .bf16⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S1x512x704, .bf16⟩
  | .local _ .vmem, ⟨17, _⟩ => ⟨S1x512x704, .bf16⟩
  | .local _ .vmem, ⟨18, _⟩ => ⟨S1x1x1024x704, .bf16⟩
  | .local _ .vmem, ⟨19, _⟩ => ⟨S1x512x704, .bf16⟩
  | .local _ .vmem, ⟨20, _⟩ => ⟨S1x512x704, .bf16⟩
  | .local _ .vmem, ⟨21, _⟩ => ⟨S1x1x1024x704, .bf16⟩
  | .local _ .vmem, ⟨22, _⟩ => ⟨S1x512x704, .bf16⟩
  | .local _ .vmem, ⟨23, _⟩ => ⟨S1x512x704, .bf16⟩
  | .local _ .vmem, ⟨24, _⟩ => ⟨S1x1x1024x704, .bf16⟩
  | .local _ .vmem, ⟨25, _⟩ => ⟨S1x512x704, .bf16⟩
  | .local _ .vmem, ⟨26, _⟩ => ⟨S1x512x704, .bf16⟩
  | .local _ .vmem, ⟨27, _⟩ => ⟨S1x1x1024x704, .bf16⟩
  | .local _ .vmem, ⟨28, _⟩ => ⟨S512x1024, .f32⟩
  | .local _ .vmem, ⟨29, _⟩ => ⟨S512x1024, .f32⟩
  | .local _ .vmem, ⟨30, _⟩ => ⟨S512x1024, .f32⟩
  | .local _ .vmem, ⟨31, _⟩ => ⟨S512x1024, .f32⟩
  | .local _ .vmem, ⟨32, _⟩ => ⟨S1x512x704, .bf16⟩
  | .local _ .vmem, ⟨33, _⟩ => ⟨S1x512x704, .bf16⟩
  | .local _ .vmem, ⟨34, _⟩ => ⟨S1x1x1024x704, .bf16⟩
  | .local _ .vmem, ⟨35, _⟩ => ⟨S1x512x704, .bf16⟩
  | .local _ .vmem, ⟨36, _⟩ => ⟨S1x512x704, .bf16⟩
  | .local _ .vmem, ⟨37, _⟩ => ⟨S1x1x1024x704, .bf16⟩
  | .local _ .vmem, ⟨38, _⟩ => ⟨S1x512x704, .bf16⟩
  | .local _ .vmem, ⟨39, _⟩ => ⟨S1x512x704, .bf16⟩
  | .local _ .vmem, ⟨40, _⟩ => ⟨S1x1x1024x704, .bf16⟩
  | .local _ .vmem, ⟨41, _⟩ => ⟨S1x512x704, .bf16⟩
  | .local _ .vmem, ⟨42, _⟩ => ⟨S1x512x704, .bf16⟩
  | .local _ .vmem, ⟨43, _⟩ => ⟨S1x1x1024x704, .bf16⟩
  | .local _ .vmem, ⟨44, _⟩ => ⟨S512x1024, .f32⟩
  | .local _ .vmem, ⟨45, _⟩ => ⟨S512x1024, .f32⟩
  | .local _ .vmem, ⟨46, _⟩ => ⟨S512x1024, .f32⟩
  | .local _ .vmem, ⟨47, _⟩ => ⟨S512x1024, .f32⟩
  | .local _ .vmem, ⟨48, _⟩ => ⟨S1x512x704, .bf16⟩
  | .local _ .vmem, ⟨49, _⟩ => ⟨S1x512x704, .bf16⟩
  | .local _ .vmem, ⟨50, _⟩ => ⟨S1x1x1024x704, .bf16⟩
  | .local _ .vmem, ⟨51, _⟩ => ⟨S1x512x704, .bf16⟩
  | .local _ .vmem, ⟨52, _⟩ => ⟨S1x512x704, .bf16⟩
  | .local _ .vmem, ⟨53, _⟩ => ⟨S1x1x1024x704, .bf16⟩
  | .local _ .vmem, ⟨54, _⟩ => ⟨S1x512x704, .bf16⟩
  | .local _ .vmem, ⟨55, _⟩ => ⟨S1x512x704, .bf16⟩
  | .local _ .vmem, ⟨56, _⟩ => ⟨S1x1x1024x704, .bf16⟩
  | .local _ .vmem, ⟨57, _⟩ => ⟨S1x512x704, .bf16⟩
  | .local _ .vmem, ⟨58, _⟩ => ⟨S1x512x704, .bf16⟩
  | .local _ .vmem, ⟨59, _⟩ => ⟨S1x1x1024x704, .bf16⟩
  | .local _ .vmem, ⟨60, _⟩ => ⟨S512x1024, .f32⟩
  | .local _ .vmem, ⟨61, _⟩ => ⟨S512x1024, .f32⟩
  | .local _ .vmem, ⟨62, _⟩ => ⟨S512x1024, .f32⟩
  | .local _ .vmem, ⟨63, _⟩ => ⟨S512x1024, .f32⟩
  | .local _ .vmem, ⟨64, _⟩ => ⟨S1x512x704, .bf16⟩
  | .local _ .vmem, ⟨65, _⟩ => ⟨S1x512x704, .bf16⟩
  | .local _ .vmem, ⟨66, _⟩ => ⟨S1x1x1024x704, .bf16⟩
  | .local _ .vmem, ⟨67, _⟩ => ⟨S1x512x704, .bf16⟩
  | .local _ .vmem, ⟨68, _⟩ => ⟨S1x512x704, .bf16⟩
  | .local _ .vmem, ⟨69, _⟩ => ⟨S1x1x1024x704, .bf16⟩
  | .local _ .vmem, ⟨70, _⟩ => ⟨S1x512x704, .bf16⟩
  | .local _ .vmem, ⟨71, _⟩ => ⟨S1x512x704, .bf16⟩
  | .local _ .vmem, ⟨72, _⟩ => ⟨S1x1x1024x704, .bf16⟩
  | .local _ .vmem, ⟨73, _⟩ => ⟨S1x512x704, .bf16⟩
  | .local _ .vmem, ⟨74, _⟩ => ⟨S1x512x704, .bf16⟩
  | .local _ .vmem, ⟨75, _⟩ => ⟨S1x1x1024x704, .bf16⟩
  | .local _ .vmem, ⟨76, _⟩ => ⟨S512x1024, .f32⟩
  | .local _ .vmem, ⟨77, _⟩ => ⟨S512x1024, .f32⟩
  | .local _ .vmem, ⟨78, _⟩ => ⟨S512x1024, .f32⟩
  | .local _ .vmem, ⟨79, _⟩ => ⟨S512x1024, .f32⟩
  | .local _ .vmem, ⟨80, _⟩ => ⟨S1x512x704, .bf16⟩
  | .local _ .vmem, ⟨81, _⟩ => ⟨S1x512x704, .bf16⟩
  | .local _ .vmem, ⟨82, _⟩ => ⟨S1x1x1024x704, .bf16⟩
  | .local _ .vmem, ⟨83, _⟩ => ⟨S1x512x704, .bf16⟩
  | .local _ .vmem, ⟨84, _⟩ => ⟨S1x512x704, .bf16⟩
  | .local _ .vmem, ⟨85, _⟩ => ⟨S1x1x1024x704, .bf16⟩
  | .local _ .vmem, ⟨86, _⟩ => ⟨S1x512x704, .bf16⟩
  | .local _ .vmem, ⟨87, _⟩ => ⟨S1x512x704, .bf16⟩
  | .local _ .vmem, ⟨88, _⟩ => ⟨S1x1x1024x704, .bf16⟩
  | .local _ .vmem, ⟨89, _⟩ => ⟨S1x512x704, .bf16⟩
  | .local _ .vmem, ⟨90, _⟩ => ⟨S1x512x704, .bf16⟩
  | .local _ .vmem, ⟨91, _⟩ => ⟨S1x1x1024x704, .bf16⟩
  | .local _ .vmem, ⟨92, _⟩ => ⟨S512x1024, .f32⟩
  | .local _ .vmem, ⟨93, _⟩ => ⟨S512x1024, .f32⟩
  | .local _ .vmem, ⟨94, _⟩ => ⟨S512x1024, .f32⟩
  | .local _ .vmem, ⟨95, _⟩ => ⟨S512x1024, .f32⟩
  | .local _ .vmem, ⟨96, _⟩ => ⟨S1x512x704, .bf16⟩
  | .local _ .vmem, ⟨97, _⟩ => ⟨S1x512x704, .bf16⟩
  | .local _ .vmem, ⟨98, _⟩ => ⟨S1x1x1024x704, .bf16⟩
  | .local _ .vmem, ⟨99, _⟩ => ⟨S1x512x704, .bf16⟩
  | .local _ .vmem, ⟨100, _⟩ => ⟨S1x512x704, .bf16⟩
  | .local _ .vmem, ⟨101, _⟩ => ⟨S1x1x1024x704, .bf16⟩
  | .local _ .vmem, ⟨102, _⟩ => ⟨S1x512x704, .bf16⟩
  | .local _ .vmem, ⟨103, _⟩ => ⟨S1x512x704, .bf16⟩
  | .local _ .vmem, ⟨104, _⟩ => ⟨S1x1x1024x704, .bf16⟩
  | .local _ .vmem, ⟨105, _⟩ => ⟨S1x512x704, .bf16⟩
  | .local _ .vmem, ⟨106, _⟩ => ⟨S1x512x704, .bf16⟩
  | .local _ .vmem, ⟨107, _⟩ => ⟨S1x1x1024x704, .bf16⟩
  | .local _ .vmem, ⟨108, _⟩ => ⟨S512x1024, .f32⟩
  | .local _ .vmem, ⟨109, _⟩ => ⟨S512x1024, .f32⟩
  | .local _ .vmem, ⟨110, _⟩ => ⟨S512x1024, .f32⟩
  | .local _ .vmem, ⟨111, _⟩ => ⟨S512x1024, .f32⟩
  | .local _ .vmem, ⟨112, _⟩ => ⟨S1x512x704, .bf16⟩
  | .local _ .vmem, ⟨113, _⟩ => ⟨S1x512x704, .bf16⟩
  | .local _ .vmem, ⟨114, _⟩ => ⟨S1x1x1024x704, .bf16⟩
  | .local _ .vmem, ⟨115, _⟩ => ⟨S1x512x704, .bf16⟩
  | .local _ .vmem, ⟨116, _⟩ => ⟨S1x512x704, .bf16⟩
  | .local _ .vmem, ⟨117, _⟩ => ⟨S1x1x1024x704, .bf16⟩
  | .local _ .vmem, ⟨118, _⟩ => ⟨S1x512x704, .bf16⟩
  | .local _ .vmem, ⟨119, _⟩ => ⟨S1x512x704, .bf16⟩
  | .local _ .vmem, ⟨120, _⟩ => ⟨S1x1x1024x704, .bf16⟩
  | .local _ .vmem, ⟨121, _⟩ => ⟨S1x512x704, .bf16⟩
  | .local _ .vmem, ⟨122, _⟩ => ⟨S1x512x704, .bf16⟩
  | .local _ .vmem, ⟨123, _⟩ => ⟨S1x1x1024x704, .bf16⟩
  | .local _ .vmem, ⟨124, _⟩ => ⟨S512x1024, .f32⟩
  | .local _ .vmem, ⟨125, _⟩ => ⟨S512x1024, .f32⟩
  | .local _ .vmem, ⟨126, _⟩ => ⟨S512x1024, .f32⟩
  | .local _ .vmem, ⟨127, _⟩ => ⟨S512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | .vmem, ⟨110, _⟩ => true
  | .vmem, ⟨111, _⟩ => true
  | .vmem, ⟨112, _⟩ => true
  | .vmem, ⟨113, _⟩ => true
  | .vmem, ⟨114, _⟩ => true
  | .vmem, ⟨115, _⟩ => true
  | .vmem, ⟨116, _⟩ => true
  | .vmem, ⟨117, _⟩ => true
  | .vmem, ⟨118, _⟩ => true
  | .vmem, ⟨119, _⟩ => true
  | .vmem, ⟨120, _⟩ => true
  | .vmem, ⟨121, _⟩ => true
  | .vmem, ⟨122, _⟩ => true
  | .vmem, ⟨123, _⟩ => true
  | .vmem, ⟨124, _⟩ => true
  | .vmem, ⟨125, _⟩ => true
  | .vmem, ⟨126, _⟩ => true
  | .vmem, ⟨127, _⟩ => true
  | _, _ => false

abbrev semScoped : Fin 0 → Bool
  | ⟨_, h⟩ => absurd h (Nat.not_lt_zero _)

abbrev dmaSemScoped : Fin 128 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | ⟨120, _⟩ => true
  | ⟨121, _⟩ => true
  | ⟨122, _⟩ => true
  | ⟨123, _⟩ => true
  | ⟨124, _⟩ => true
  | ⟨125, _⟩ => true
  | ⟨126, _⟩ => true
  | ⟨127, _⟩ => true
  | _ => false

abbrev sig : RefSig :=
  ofTc nBuf bufTy 0 128 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg6_0 : Ref sig .tc := ⟨.vmem, 25, rfl⟩
abbrev cc1_stg6_1 : Ref sig .tc := ⟨.vmem, 26, rfl⟩
abbrev cc1_stg7_0 : Ref sig .tc := ⟨.vmem, 27, rfl⟩
abbrev cc1_stg8_0 : Ref sig .tc := ⟨.vmem, 28, rfl⟩
abbrev cc1_stg8_1 : Ref sig .tc := ⟨.vmem, 29, rfl⟩
abbrev cc1_stg9_0 : Ref sig .tc := ⟨.vmem, 30, rfl⟩
abbrev cc1_stg9_1 : Ref sig .tc := ⟨.vmem, 31, rfl⟩
abbrev cc2_stg0_0 : Ref sig .tc := ⟨.vmem, 32, rfl⟩
abbrev cc2_stg0_1 : Ref sig .tc := ⟨.vmem, 33, rfl⟩
abbrev cc2_stg1_0 : Ref sig .tc := ⟨.vmem, 34, rfl⟩
abbrev cc2_stg2_0 : Ref sig .tc := ⟨.vmem, 35, rfl⟩
abbrev cc2_stg2_1 : Ref sig .tc := ⟨.vmem, 36, rfl⟩
abbrev cc2_stg3_0 : Ref sig .tc := ⟨.vmem, 37, rfl⟩
abbrev cc2_stg4_0 : Ref sig .tc := ⟨.vmem, 38, rfl⟩
abbrev cc2_stg4_1 : Ref sig .tc := ⟨.vmem, 39, rfl⟩
abbrev cc2_stg5_0 : Ref sig .tc := ⟨.vmem, 40, rfl⟩
abbrev cc2_stg6_0 : Ref sig .tc := ⟨.vmem, 41, rfl⟩
abbrev cc2_stg6_1 : Ref sig .tc := ⟨.vmem, 42, rfl⟩
abbrev cc2_stg7_0 : Ref sig .tc := ⟨.vmem, 43, rfl⟩
abbrev cc2_stg8_0 : Ref sig .tc := ⟨.vmem, 44, rfl⟩
abbrev cc2_stg8_1 : Ref sig .tc := ⟨.vmem, 45, rfl⟩
abbrev cc2_stg9_0 : Ref sig .tc := ⟨.vmem, 46, rfl⟩
abbrev cc2_stg9_1 : Ref sig .tc := ⟨.vmem, 47, rfl⟩
abbrev cc3_stg0_0 : Ref sig .tc := ⟨.vmem, 48, rfl⟩
abbrev cc3_stg0_1 : Ref sig .tc := ⟨.vmem, 49, rfl⟩
abbrev cc3_stg1_0 : Ref sig .tc := ⟨.vmem, 50, rfl⟩
abbrev cc3_stg2_0 : Ref sig .tc := ⟨.vmem, 51, rfl⟩
abbrev cc3_stg2_1 : Ref sig .tc := ⟨.vmem, 52, rfl⟩
abbrev cc3_stg3_0 : Ref sig .tc := ⟨.vmem, 53, rfl⟩
abbrev cc3_stg4_0 : Ref sig .tc := ⟨.vmem, 54, rfl⟩
abbrev cc3_stg4_1 : Ref sig .tc := ⟨.vmem, 55, rfl⟩
abbrev cc3_stg5_0 : Ref sig .tc := ⟨.vmem, 56, rfl⟩
abbrev cc3_stg6_0 : Ref sig .tc := ⟨.vmem, 57, rfl⟩
abbrev cc3_stg6_1 : Ref sig .tc := ⟨.vmem, 58, rfl⟩
abbrev cc3_stg7_0 : Ref sig .tc := ⟨.vmem, 59, rfl⟩
abbrev cc3_stg8_0 : Ref sig .tc := ⟨.vmem, 60, rfl⟩
abbrev cc3_stg8_1 : Ref sig .tc := ⟨.vmem, 61, rfl⟩
abbrev cc3_stg9_0 : Ref sig .tc := ⟨.vmem, 62, rfl⟩
abbrev cc3_stg9_1 : Ref sig .tc := ⟨.vmem, 63, rfl⟩
abbrev cc4_stg0_0 : Ref sig .tc := ⟨.vmem, 64, rfl⟩
abbrev cc4_stg0_1 : Ref sig .tc := ⟨.vmem, 65, rfl⟩
abbrev cc4_stg1_0 : Ref sig .tc := ⟨.vmem, 66, rfl⟩
abbrev cc4_stg2_0 : Ref sig .tc := ⟨.vmem, 67, rfl⟩
abbrev cc4_stg2_1 : Ref sig .tc := ⟨.vmem, 68, rfl⟩
abbrev cc4_stg3_0 : Ref sig .tc := ⟨.vmem, 69, rfl⟩
abbrev cc4_stg4_0 : Ref sig .tc := ⟨.vmem, 70, rfl⟩
abbrev cc4_stg4_1 : Ref sig .tc := ⟨.vmem, 71, rfl⟩
abbrev cc4_stg5_0 : Ref sig .tc := ⟨.vmem, 72, rfl⟩
abbrev cc4_stg6_0 : Ref sig .tc := ⟨.vmem, 73, rfl⟩
abbrev cc4_stg6_1 : Ref sig .tc := ⟨.vmem, 74, rfl⟩
abbrev cc4_stg7_0 : Ref sig .tc := ⟨.vmem, 75, rfl⟩
abbrev cc4_stg8_0 : Ref sig .tc := ⟨.vmem, 76, rfl⟩
abbrev cc4_stg8_1 : Ref sig .tc := ⟨.vmem, 77, rfl⟩
abbrev cc4_stg9_0 : Ref sig .tc := ⟨.vmem, 78, rfl⟩
abbrev cc4_stg9_1 : Ref sig .tc := ⟨.vmem, 79, rfl⟩
abbrev cc5_stg0_0 : Ref sig .tc := ⟨.vmem, 80, rfl⟩
abbrev cc5_stg0_1 : Ref sig .tc := ⟨.vmem, 81, rfl⟩
abbrev cc5_stg1_0 : Ref sig .tc := ⟨.vmem, 82, rfl⟩
abbrev cc5_stg2_0 : Ref sig .tc := ⟨.vmem, 83, rfl⟩
abbrev cc5_stg2_1 : Ref sig .tc := ⟨.vmem, 84, rfl⟩
abbrev cc5_stg3_0 : Ref sig .tc := ⟨.vmem, 85, rfl⟩
abbrev cc5_stg4_0 : Ref sig .tc := ⟨.vmem, 86, rfl⟩
abbrev cc5_stg4_1 : Ref sig .tc := ⟨.vmem, 87, rfl⟩
abbrev cc5_stg5_0 : Ref sig .tc := ⟨.vmem, 88, rfl⟩
abbrev cc5_stg6_0 : Ref sig .tc := ⟨.vmem, 89, rfl⟩
abbrev cc5_stg6_1 : Ref sig .tc := ⟨.vmem, 90, rfl⟩
abbrev cc5_stg7_0 : Ref sig .tc := ⟨.vmem, 91, rfl⟩
abbrev cc5_stg8_0 : Ref sig .tc := ⟨.vmem, 92, rfl⟩
abbrev cc5_stg8_1 : Ref sig .tc := ⟨.vmem, 93, rfl⟩
abbrev cc5_stg9_0 : Ref sig .tc := ⟨.vmem, 94, rfl⟩
abbrev cc5_stg9_1 : Ref sig .tc := ⟨.vmem, 95, rfl⟩
abbrev cc6_stg0_0 : Ref sig .tc := ⟨.vmem, 96, rfl⟩
abbrev cc6_stg0_1 : Ref sig .tc := ⟨.vmem, 97, rfl⟩
abbrev cc6_stg1_0 : Ref sig .tc := ⟨.vmem, 98, rfl⟩
abbrev cc6_stg2_0 : Ref sig .tc := ⟨.vmem, 99, rfl⟩
abbrev cc6_stg2_1 : Ref sig .tc := ⟨.vmem, 100, rfl⟩
abbrev cc6_stg3_0 : Ref sig .tc := ⟨.vmem, 101, rfl⟩
abbrev cc6_stg4_0 : Ref sig .tc := ⟨.vmem, 102, rfl⟩
abbrev cc6_stg4_1 : Ref sig .tc := ⟨.vmem, 103, rfl⟩
abbrev cc6_stg5_0 : Ref sig .tc := ⟨.vmem, 104, rfl⟩
abbrev cc6_stg6_0 : Ref sig .tc := ⟨.vmem, 105, rfl⟩
abbrev cc6_stg6_1 : Ref sig .tc := ⟨.vmem, 106, rfl⟩
abbrev cc6_stg7_0 : Ref sig .tc := ⟨.vmem, 107, rfl⟩
abbrev cc6_stg8_0 : Ref sig .tc := ⟨.vmem, 108, rfl⟩
abbrev cc6_stg8_1 : Ref sig .tc := ⟨.vmem, 109, rfl⟩
abbrev cc6_stg9_0 : Ref sig .tc := ⟨.vmem, 110, rfl⟩
abbrev cc6_stg9_1 : Ref sig .tc := ⟨.vmem, 111, rfl⟩
abbrev cc7_stg0_0 : Ref sig .tc := ⟨.vmem, 112, rfl⟩
abbrev cc7_stg0_1 : Ref sig .tc := ⟨.vmem, 113, rfl⟩
abbrev cc7_stg1_0 : Ref sig .tc := ⟨.vmem, 114, rfl⟩
abbrev cc7_stg2_0 : Ref sig .tc := ⟨.vmem, 115, rfl⟩
abbrev cc7_stg2_1 : Ref sig .tc := ⟨.vmem, 116, rfl⟩
abbrev cc7_stg3_0 : Ref sig .tc := ⟨.vmem, 117, rfl⟩
abbrev cc7_stg4_0 : Ref sig .tc := ⟨.vmem, 118, rfl⟩
abbrev cc7_stg4_1 : Ref sig .tc := ⟨.vmem, 119, rfl⟩
abbrev cc7_stg5_0 : Ref sig .tc := ⟨.vmem, 120, rfl⟩
abbrev cc7_stg6_0 : Ref sig .tc := ⟨.vmem, 121, rfl⟩
abbrev cc7_stg6_1 : Ref sig .tc := ⟨.vmem, 122, rfl⟩
abbrev cc7_stg7_0 : Ref sig .tc := ⟨.vmem, 123, rfl⟩
abbrev cc7_stg8_0 : Ref sig .tc := ⟨.vmem, 124, rfl⟩
abbrev cc7_stg8_1 : Ref sig .tc := ⟨.vmem, 125, rfl⟩
abbrev cc7_stg9_0 : Ref sig .tc := ⟨.vmem, 126, rfl⟩
abbrev cc7_stg9_1 : Ref sig .tc := ⟨.vmem, 127, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc1_sem0_0 : DmaSem sig := 16
abbrev cc1_sem0_1 : DmaSem sig := 17
abbrev cc1_sem1_0 : DmaSem sig := 18
abbrev cc1_sem2_0 : DmaSem sig := 19
abbrev cc1_sem2_1 : DmaSem sig := 20
abbrev cc1_sem3_0 : DmaSem sig := 21
abbrev cc1_sem4_0 : DmaSem sig := 22
abbrev cc1_sem4_1 : DmaSem sig := 23
abbrev cc1_sem5_0 : DmaSem sig := 24
abbrev cc1_sem6_0 : DmaSem sig := 25
abbrev cc1_sem6_1 : DmaSem sig := 26
abbrev cc1_sem7_0 : DmaSem sig := 27
abbrev cc1_sem8_0 : DmaSem sig := 28
abbrev cc1_sem8_1 : DmaSem sig := 29
abbrev cc1_sem9_0 : DmaSem sig := 30
abbrev cc1_sem9_1 : DmaSem sig := 31
abbrev cc2_sem0_0 : DmaSem sig := 32
abbrev cc2_sem0_1 : DmaSem sig := 33
abbrev cc2_sem1_0 : DmaSem sig := 34
abbrev cc2_sem2_0 : DmaSem sig := 35
abbrev cc2_sem2_1 : DmaSem sig := 36
abbrev cc2_sem3_0 : DmaSem sig := 37
abbrev cc2_sem4_0 : DmaSem sig := 38
abbrev cc2_sem4_1 : DmaSem sig := 39
abbrev cc2_sem5_0 : DmaSem sig := 40
abbrev cc2_sem6_0 : DmaSem sig := 41
abbrev cc2_sem6_1 : DmaSem sig := 42
abbrev cc2_sem7_0 : DmaSem sig := 43
abbrev cc2_sem8_0 : DmaSem sig := 44
abbrev cc2_sem8_1 : DmaSem sig := 45
abbrev cc2_sem9_0 : DmaSem sig := 46
abbrev cc2_sem9_1 : DmaSem sig := 47
abbrev cc3_sem0_0 : DmaSem sig := 48
abbrev cc3_sem0_1 : DmaSem sig := 49
abbrev cc3_sem1_0 : DmaSem sig := 50
abbrev cc3_sem2_0 : DmaSem sig := 51
abbrev cc3_sem2_1 : DmaSem sig := 52
abbrev cc3_sem3_0 : DmaSem sig := 53
abbrev cc3_sem4_0 : DmaSem sig := 54
abbrev cc3_sem4_1 : DmaSem sig := 55
abbrev cc3_sem5_0 : DmaSem sig := 56
abbrev cc3_sem6_0 : DmaSem sig := 57
abbrev cc3_sem6_1 : DmaSem sig := 58
abbrev cc3_sem7_0 : DmaSem sig := 59
abbrev cc3_sem8_0 : DmaSem sig := 60
abbrev cc3_sem8_1 : DmaSem sig := 61
abbrev cc3_sem9_0 : DmaSem sig := 62
abbrev cc3_sem9_1 : DmaSem sig := 63
abbrev cc4_sem0_0 : DmaSem sig := 64
abbrev cc4_sem0_1 : DmaSem sig := 65
abbrev cc4_sem1_0 : DmaSem sig := 66
abbrev cc4_sem2_0 : DmaSem sig := 67
abbrev cc4_sem2_1 : DmaSem sig := 68
abbrev cc4_sem3_0 : DmaSem sig := 69
abbrev cc4_sem4_0 : DmaSem sig := 70
abbrev cc4_sem4_1 : DmaSem sig := 71
abbrev cc4_sem5_0 : DmaSem sig := 72
abbrev cc4_sem6_0 : DmaSem sig := 73
abbrev cc4_sem6_1 : DmaSem sig := 74
abbrev cc4_sem7_0 : DmaSem sig := 75
abbrev cc4_sem8_0 : DmaSem sig := 76
abbrev cc4_sem8_1 : DmaSem sig := 77
abbrev cc4_sem9_0 : DmaSem sig := 78
abbrev cc4_sem9_1 : DmaSem sig := 79
abbrev cc5_sem0_0 : DmaSem sig := 80
abbrev cc5_sem0_1 : DmaSem sig := 81
abbrev cc5_sem1_0 : DmaSem sig := 82
abbrev cc5_sem2_0 : DmaSem sig := 83
abbrev cc5_sem2_1 : DmaSem sig := 84
abbrev cc5_sem3_0 : DmaSem sig := 85
abbrev cc5_sem4_0 : DmaSem sig := 86
abbrev cc5_sem4_1 : DmaSem sig := 87
abbrev cc5_sem5_0 : DmaSem sig := 88
abbrev cc5_sem6_0 : DmaSem sig := 89
abbrev cc5_sem6_1 : DmaSem sig := 90
abbrev cc5_sem7_0 : DmaSem sig := 91
abbrev cc5_sem8_0 : DmaSem sig := 92
abbrev cc5_sem8_1 : DmaSem sig := 93
abbrev cc5_sem9_0 : DmaSem sig := 94
abbrev cc5_sem9_1 : DmaSem sig := 95
abbrev cc6_sem0_0 : DmaSem sig := 96
abbrev cc6_sem0_1 : DmaSem sig := 97
abbrev cc6_sem1_0 : DmaSem sig := 98
abbrev cc6_sem2_0 : DmaSem sig := 99
abbrev cc6_sem2_1 : DmaSem sig := 100
abbrev cc6_sem3_0 : DmaSem sig := 101
abbrev cc6_sem4_0 : DmaSem sig := 102
abbrev cc6_sem4_1 : DmaSem sig := 103
abbrev cc6_sem5_0 : DmaSem sig := 104
abbrev cc6_sem6_0 : DmaSem sig := 105
abbrev cc6_sem6_1 : DmaSem sig := 106
abbrev cc6_sem7_0 : DmaSem sig := 107
abbrev cc6_sem8_0 : DmaSem sig := 108
abbrev cc6_sem8_1 : DmaSem sig := 109
abbrev cc6_sem9_0 : DmaSem sig := 110
abbrev cc6_sem9_1 : DmaSem sig := 111
abbrev cc7_sem0_0 : DmaSem sig := 112
abbrev cc7_sem0_1 : DmaSem sig := 113
abbrev cc7_sem1_0 : DmaSem sig := 114
abbrev cc7_sem2_0 : DmaSem sig := 115
abbrev cc7_sem2_1 : DmaSem sig := 116
abbrev cc7_sem3_0 : DmaSem sig := 117
abbrev cc7_sem4_0 : DmaSem sig := 118
abbrev cc7_sem4_1 : DmaSem sig := 119
abbrev cc7_sem5_0 : DmaSem sig := 120
abbrev cc7_sem6_0 : DmaSem sig := 121
abbrev cc7_sem6_1 : DmaSem sig := 122
abbrev cc7_sem7_0 : DmaSem sig := 123
abbrev cc7_sem8_0 : DmaSem sig := 124
abbrev cc7_sem8_1 : DmaSem sig := 125
abbrev cc7_sem9_0 : DmaSem sig := 126
abbrev cc7_sem9_1 : DmaSem sig := 127

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 4 → Nat :=
  let arg0 : BitVec 32 := BitVec.ofNat 32 (i 0).val
  let c0_i32 : BitVec 32 := 0#32
  let c3_i32 : BitVec 32 := 3#32
  let c0_i32_0 : BitVec 32 := 0#32
  let c0_i32_1 : BitVec 32 := 0#32
  let c0_i32_2 : BitVec 32 := 0#32
  ![c0_i32.toNat, c3_i32.toNat, c0_i32_0.toNat, c0_i32_1.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 4 → Nat :=
  let arg0 : BitVec 32 := BitVec.ofNat 32 (i 0).val
  let c1_i32 : BitVec 32 := 1#32
  let c3_i32 : BitVec 32 := 3#32
  let c0_i32 : BitVec 32 := 0#32
  let c0_i32_0 : BitVec 32 := 0#32
  let c0_i32_1 : BitVec 32 := 0#32
  ![c1_i32.toNat, c3_i32.toNat, c0_i32.toNat, c0_i32_0.toNat]

def cc0_transform_4 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_5 (i : grid0.Coords) : Fin 4 → Nat :=
  let arg0 : BitVec 32 := BitVec.ofNat 32 (i 0).val
  let c2_i32 : BitVec 32 := 2#32
  let c3_i32 : BitVec 32 := 3#32
  let c0_i32 : BitVec 32 := 0#32
  let c0_i32_0 : BitVec 32 := 0#32
  let c0_i32_1 : BitVec 32 := 0#32
  ![c2_i32.toNat, c3_i32.toNat, c0_i32.toNat, c0_i32_0.toNat]

def cc0_transform_6 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_7 (i : grid0.Coords) : Fin 4 → Nat :=
  let arg0 : BitVec 32 := BitVec.ofNat 32 (i 0).val
  let c3_i32 : BitVec 32 := 3#32
  let c3_i32_0 : BitVec 32 := 3#32
  let c0_i32 : BitVec 32 := 0#32
  let c0_i32_1 : BitVec 32 := 0#32
  let c0_i32_2 : BitVec 32 := 0#32
  ![c3_i32.toNat, c3_i32_0.toNat, c0_i32.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024x704 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x512x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x1024x704 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x512x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1x1024x704 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x512x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1x1024x704 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 4 → Nat :=
  let arg0 : BitVec 32 := BitVec.ofNat 32 (i 0).val
  let c0_i32 : BitVec 32 := 0#32
  let c3_i32 : BitVec 32 := 3#32
  let c0_i32_0 : BitVec 32 := 0#32
  let c0_i32_1 : BitVec 32 := 0#32
  let c0_i32_2 : BitVec 32 := 0#32
  ![c0_i32.toNat, c3_i32.toNat, c0_i32_0.toNat, c0_i32_1.toNat]

def cc1_transform_2 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_3 (i : grid1.Coords) : Fin 4 → Nat :=
  let arg0 : BitVec 32 := BitVec.ofNat 32 (i 0).val
  let c1_i32 : BitVec 32 := 1#32
  let c3_i32 : BitVec 32 := 3#32
  let c0_i32 : BitVec 32 := 0#32
  let c0_i32_0 : BitVec 32 := 0#32
  let c0_i32_1 : BitVec 32 := 0#32
  ![c1_i32.toNat, c3_i32.toNat, c0_i32.toNat, c0_i32_0.toNat]

def cc1_transform_4 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_5 (i : grid1.Coords) : Fin 4 → Nat :=
  let arg0 : BitVec 32 := BitVec.ofNat 32 (i 0).val
  let c2_i32 : BitVec 32 := 2#32
  let c3_i32 : BitVec 32 := 3#32
  let c0_i32 : BitVec 32 := 0#32
  let c0_i32_0 : BitVec 32 := 0#32
  let c0_i32_1 : BitVec 32 := 0#32
  ![c2_i32.toNat, c3_i32.toNat, c0_i32.toNat, c0_i32_0.toNat]

def cc1_transform_6 (i : grid1.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc1_transform_7 (i : grid1.Coords) : Fin 4 → Nat :=
  let arg0 : BitVec 32 := BitVec.ofNat 32 (i 0).val
  let c3_i32 : BitVec 32 := 3#32
  let c3_i32_0 : BitVec 32 := 3#32
  let c0_i32 : BitVec 32 := 0#32
  let c0_i32_1 : BitVec 32 := 0#32
  let c0_i32_2 : BitVec 32 := 0#32
  ![c3_i32.toNat, c3_i32_0.toNat, c0_i32.toNat, c0_i32_1.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1x512x704 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1x1024x704 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1x512x704 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x1x1024x704 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1x512x704 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1x1x1024x704 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S1x512x704 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S1x1x1024x704 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S512x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S512x1024 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![8], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_1 (i : grid2.Coords) : Fin 4 → Nat :=
  let arg0 : BitVec 32 := BitVec.ofNat 32 (i 0).val
  let c0_i32 : BitVec 32 := 0#32
  let c2_i32 : BitVec 32 := 2#32
  let c0_i32_0 : BitVec 32 := 0#32
  let c0_i32_1 : BitVec 32 := 0#32
  let c0_i32_2 : BitVec 32 := 0#32
  ![c0_i32.toNat, c2_i32.toNat, c0_i32_0.toNat, c0_i32_1.toNat]

def cc2_transform_2 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_3 (i : grid2.Coords) : Fin 4 → Nat :=
  let arg0 : BitVec 32 := BitVec.ofNat 32 (i 0).val
  let c1_i32 : BitVec 32 := 1#32
  let c2_i32 : BitVec 32 := 2#32
  let c0_i32 : BitVec 32 := 0#32
  let c0_i32_0 : BitVec 32 := 0#32
  let c0_i32_1 : BitVec 32 := 0#32
  ![c1_i32.toNat, c2_i32.toNat, c0_i32.toNat, c0_i32_0.toNat]

def cc2_transform_4 (i : grid2.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc2_transform_5 (i : grid2.Coords) : Fin 4 → Nat :=
  let arg0 : BitVec 32 := BitVec.ofNat 32 (i 0).val
  let c2_i32 : BitVec 32 := 2#32
  let c2_i32_0 : BitVec 32 := 2#32
  let c0_i32 : BitVec 32 := 0#32
  let c0_i32_1 : BitVec 32 := 0#32
  let c0_i32_2 : BitVec 32 := 0#32
  ![c2_i32.toNat, c2_i32_0.toNat, c0_i32.toNat, c0_i32_1.toNat]

def cc2_transform_6 (i : grid2.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc2_transform_7 (i : grid2.Coords) : Fin 4 → Nat :=
  let arg0 : BitVec 32 := BitVec.ofNat 32 (i 0).val
  let c3_i32 : BitVec 32 := 3#32
  let c2_i32 : BitVec 32 := 2#32
  let c0_i32 : BitVec 32 := 0#32
  let c0_i32_0 : BitVec 32 := 0#32
  let c0_i32_1 : BitVec 32 := 0#32
  ![c3_i32.toNat, c2_i32.toNat, c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1x512x704 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x1x1024x704 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1x512x704 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x1x1024x704 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S1x512x704 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S1x1x1024x704 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S1x512x704 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 1 → Memref sig .tc .vmem S1x1x1024x704 .bf16 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S512x1024 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 2 → Memref sig .tc .vmem S512x1024 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev grid3 : Pipeline.Grid := ⟨1, ![8], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_1 (i : grid3.Coords) : Fin 4 → Nat :=
  let arg0 : BitVec 32 := BitVec.ofNat 32 (i 0).val
  let c0_i32 : BitVec 32 := 0#32
  let c2_i32 : BitVec 32 := 2#32
  let c0_i32_0 : BitVec 32 := 0#32
  let c0_i32_1 : BitVec 32 := 0#32
  let c0_i32_2 : BitVec 32 := 0#32
  ![c0_i32.toNat, c2_i32.toNat, c0_i32_0.toNat, c0_i32_1.toNat]

def cc3_transform_2 (i : grid3.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc3_transform_3 (i : grid3.Coords) : Fin 4 → Nat :=
  let arg0 : BitVec 32 := BitVec.ofNat 32 (i 0).val
  let c1_i32 : BitVec 32 := 1#32
  let c2_i32 : BitVec 32 := 2#32
  let c0_i32 : BitVec 32 := 0#32
  let c0_i32_0 : BitVec 32 := 0#32
  let c0_i32_1 : BitVec 32 := 0#32
  ![c1_i32.toNat, c2_i32.toNat, c0_i32.toNat, c0_i32_0.toNat]

def cc3_transform_4 (i : grid3.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc3_transform_5 (i : grid3.Coords) : Fin 4 → Nat :=
  let arg0 : BitVec 32 := BitVec.ofNat 32 (i 0).val
  let c2_i32 : BitVec 32 := 2#32
  let c2_i32_0 : BitVec 32 := 2#32
  let c0_i32 : BitVec 32 := 0#32
  let c0_i32_1 : BitVec 32 := 0#32
  let c0_i32_2 : BitVec 32 := 0#32
  ![c2_i32.toNat, c2_i32_0.toNat, c0_i32.toNat, c0_i32_1.toNat]

def cc3_transform_6 (i : grid3.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc3_transform_7 (i : grid3.Coords) : Fin 4 → Nat :=
  let arg0 : BitVec 32 := BitVec.ofNat 32 (i 0).val
  let c3_i32 : BitVec 32 := 3#32
  let c2_i32 : BitVec 32 := 2#32
  let c0_i32 : BitVec 32 := 0#32
  let c0_i32_0 : BitVec 32 := 0#32
  let c0_i32_1 : BitVec 32 := 0#32
  ![c3_i32.toNat, c2_i32.toNat, c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1x512x704 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x1x1024x704 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S1x512x704 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x1x1024x704 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S1x512x704 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 1 → Memref sig .tc .vmem S1x1x1024x704 .bf16 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S1x512x704 .bf16 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 1 → Memref sig .tc .vmem S1x1x1024x704 .bf16 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S512x1024 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev stage3_9 : Fin 2 → Memref sig .tc .vmem S512x1024 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev grid4 : Pipeline.Grid := ⟨1, ![8], ![false]⟩

def cc4_transform_0 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc4_transform_1 (i : grid4.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc4_transform_2 (i : grid4.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc4_transform_3 (i : grid4.Coords) : Fin 4 → Nat :=
  let arg0 : BitVec 32 := BitVec.ofNat 32 (i 0).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, c1_i32_0.toNat, c0_i32.toNat, c0_i32_1.toNat]

def cc4_transform_4 (i : grid4.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc4_transform_5 (i : grid4.Coords) : Fin 4 → Nat :=
  let arg0 : BitVec 32 := BitVec.ofNat 32 (i 0).val
  let c2_i32 : BitVec 32 := 2#32
  let c1_i32 : BitVec 32 := 1#32
  let c0_i32 : BitVec 32 := 0#32
  let c0_i32_0 : BitVec 32 := 0#32
  let c0_i32_1 : BitVec 32 := 0#32
  ![c2_i32.toNat, c1_i32.toNat, c0_i32.toNat, c0_i32_0.toNat]

def cc4_transform_6 (i : grid4.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc4_transform_7 (i : grid4.Coords) : Fin 4 → Nat :=
  let arg0 : BitVec 32 := BitVec.ofNat 32 (i 0).val
  let c3_i32 : BitVec 32 := 3#32
  let c1_i32 : BitVec 32 := 1#32
  let c0_i32 : BitVec 32 := 0#32
  let c0_i32_0 : BitVec 32 := 0#32
  let c0_i32_1 : BitVec 32 := 0#32
  ![c3_i32.toNat, c1_i32.toNat, c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_9 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1x512x704 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x1x1024x704 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S1x512x704 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1x1x1024x704 .bf16 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S1x512x704 .bf16 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 1 → Memref sig .tc .vmem S1x1x1024x704 .bf16 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S1x512x704 .bf16 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 1 → Memref sig .tc .vmem S1x1x1024x704 .bf16 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 2 → Memref sig .tc .vmem S512x1024 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true]

abbrev stage4_9 : Fin 2 → Memref sig .tc .vmem S512x1024 .f32 := fun | 0 => Memref.whole cc4_stg9_0 | 1 => Memref.whole cc4_stg9_1 | ⟨_ + 2, h⟩ => absurd h (Nat.not_lt.2 (Nat.le_add_left _ _))
abbrev sem4_9 : Fin 2 → DmaSem sig := fun | 0 => cc4_sem9_0 | 1 => cc4_sem9_1 | ⟨_ + 2, h⟩ => absurd h (Nat.not_lt.2 (Nat.le_add_left _ _))
abbrev reads4_9 : Fin grid4.rank → Bool := ![true]

abbrev grid5 : Pipeline.Grid := ⟨1, ![8], ![false]⟩

def cc5_transform_0 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc5_transform_1 (i : grid5.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc5_transform_2 (i : grid5.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc5_transform_3 (i : grid5.Coords) : Fin 4 → Nat :=
  let arg0 : BitVec 32 := BitVec.ofNat 32 (i 0).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, c1_i32_0.toNat, c0_i32.toNat, c0_i32_1.toNat]

def cc5_transform_4 (i : grid5.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc5_transform_5 (i : grid5.Coords) : Fin 4 → Nat :=
  let arg0 : BitVec 32 := BitVec.ofNat 32 (i 0).val
  let c2_i32 : BitVec 32 := 2#32
  let c1_i32 : BitVec 32 := 1#32
  let c0_i32 : BitVec 32 := 0#32
  let c0_i32_0 : BitVec 32 := 0#32
  let c0_i32_1 : BitVec 32 := 0#32
  ![c2_i32.toNat, c1_i32.toNat, c0_i32.toNat, c0_i32_0.toNat]

def cc5_transform_6 (i : grid5.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc5_transform_7 (i : grid5.Coords) : Fin 4 → Nat :=
  let arg0 : BitVec 32 := BitVec.ofNat 32 (i 0).val
  let c3_i32 : BitVec 32 := 3#32
  let c1_i32 : BitVec 32 := 1#32
  let c0_i32 : BitVec 32 := 0#32
  let c0_i32_0 : BitVec 32 := 0#32
  let c0_i32_1 : BitVec 32 := 0#32
  ![c3_i32.toNat, c1_i32.toNat, c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_9 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S1x512x704 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x1x1024x704 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S1x512x704 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x1x1024x704 .bf16 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S1x512x704 .bf16 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 1 → Memref sig .tc .vmem S1x1x1024x704 .bf16 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S1x512x704 .bf16 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev stage5_7 : Fin 1 → Memref sig .tc .vmem S1x1x1024x704 .bf16 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 2 → Memref sig .tc .vmem S512x1024 .f32 := fun | 0 => Memref.whole cc5_stg8_0 | 1 => Memref.whole cc5_stg8_1 | ⟨_ + 2, h⟩ => absurd h (Nat.not_lt.2 (Nat.le_add_left _ _))
abbrev sem5_8 : Fin 2 → DmaSem sig := fun | 0 => cc5_sem8_0 | 1 => cc5_sem8_1 | ⟨_ + 2, h⟩ => absurd h (Nat.not_lt.2 (Nat.le_add_left _ _))
abbrev reads5_8 : Fin grid5.rank → Bool := ![true]

abbrev stage5_9 : Fin 2 → Memref sig .tc .vmem S512x1024 .f32 := fun | 0 => Memref.whole cc5_stg9_0 | 1 => Memref.whole cc5_stg9_1 | ⟨_ + 2, h⟩ => absurd h (Nat.not_lt.2 (Nat.le_add_left _ _))
abbrev sem5_9 : Fin 2 → DmaSem sig := fun | 0 => cc5_sem9_0 | 1 => cc5_sem9_1 | ⟨_ + 2, h⟩ => absurd h (Nat.not_lt.2 (Nat.le_add_left _ _))
abbrev reads5_9 : Fin grid5.rank → Bool := ![true]

abbrev grid6 : Pipeline.Grid := ⟨1, ![8], ![false]⟩

def cc6_transform_0 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc6_transform_1 (i : grid6.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc6_transform_2 (i : grid6.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc6_transform_3 (i : grid6.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc6_transform_4 (i : grid6.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc6_transform_5 (i : grid6.Coords) : Fin 4 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  let c0_i32_2 : BitVec 32 := 0#32
  ![c2_i32.toNat, c0_i32.toNat, c0_i32_0.toNat, c0_i32_1.toNat]

def cc6_transform_6 (i : grid6.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc6_transform_7 (i : grid6.Coords) : Fin 4 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  let c0_i32_2 : BitVec 32 := 0#32
  ![c3_i32.toNat, c0_i32.toNat, c0_i32_0.toNat, c0_i32_1.toNat]

def cc6_transform_8 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_9 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S1x512x704 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x1x1024x704 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S1x512x704 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S1x1x1024x704 .bf16 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S1x512x704 .bf16 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev stage6_5 : Fin 1 → Memref sig .tc .vmem S1x1x1024x704 .bf16 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 2 → Memref sig .tc .vmem S1x512x704 .bf16 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev stage6_7 : Fin 1 → Memref sig .tc .vmem S1x1x1024x704 .bf16 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev stage6_8 : Fin 2 → Memref sig .tc .vmem S512x1024 .f32 := fun | 0 => Memref.whole cc6_stg8_0 | 1 => Memref.whole cc6_stg8_1 | ⟨_ + 2, h⟩ => absurd h (Nat.not_lt.2 (Nat.le_add_left _ _))
abbrev sem6_8 : Fin 2 → DmaSem sig := fun | 0 => cc6_sem8_0 | 1 => cc6_sem8_1 | ⟨_ + 2, h⟩ => absurd h (Nat.not_lt.2 (Nat.le_add_left _ _))
abbrev reads6_8 : Fin grid6.rank → Bool := ![true]

abbrev stage6_9 : Fin 2 → Memref sig .tc .vmem S512x1024 .f32 := fun | 0 => Memref.whole cc6_stg9_0 | 1 => Memref.whole cc6_stg9_1 | ⟨_ + 2, h⟩ => absurd h (Nat.not_lt.2 (Nat.le_add_left _ _))
abbrev sem6_9 : Fin 2 → DmaSem sig := fun | 0 => cc6_sem9_0 | 1 => cc6_sem9_1 | ⟨_ + 2, h⟩ => absurd h (Nat.not_lt.2 (Nat.le_add_left _ _))
abbrev reads6_9 : Fin grid6.rank → Bool := ![true]

abbrev grid7 : Pipeline.Grid := ⟨1, ![8], ![false]⟩

def cc7_transform_0 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc7_transform_1 (i : grid7.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc7_transform_2 (i : grid7.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc7_transform_3 (i : grid7.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc7_transform_4 (i : grid7.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc7_transform_5 (i : grid7.Coords) : Fin 4 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  let c0_i32_2 : BitVec 32 := 0#32
  ![c2_i32.toNat, c0_i32.toNat, c0_i32_0.toNat, c0_i32_1.toNat]

def cc7_transform_6 (i : grid7.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc7_transform_7 (i : grid7.Coords) : Fin 4 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  let c0_i32_2 : BitVec 32 := 0#32
  ![c3_i32.toNat, c0_i32.toNat, c0_i32_0.toNat, c0_i32_1.toNat]

def cc7_transform_8 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_9 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S1x512x704 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x1x1024x704 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S1x512x704 .bf16 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S1x1x1024x704 .bf16 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 2 → Memref sig .tc .vmem S1x512x704 .bf16 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev stage7_5 : Fin 1 → Memref sig .tc .vmem S1x1x1024x704 .bf16 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 2 → Memref sig .tc .vmem S1x512x704 .bf16 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

abbrev stage7_7 : Fin 1 → Memref sig .tc .vmem S1x1x1024x704 .bf16 := fun | 0 => Memref.whole cc7_stg7_0 | ⟨_ + 1, h⟩ => absurd h (Nat.not_lt.2 (Nat.le_add_left _ _))
abbrev sem7_7 : Fin 1 → DmaSem sig := fun | 0 => cc7_sem7_0 | ⟨_ + 1, h⟩ => absurd h (Nat.not_lt.2 (Nat.le_add_left _ _))
abbrev reads7_7 : Fin grid7.rank → Bool := ![false]

abbrev stage7_8 : Fin 2 → Memref sig .tc .vmem S512x1024 .f32 := fun | 0 => Memref.whole cc7_stg8_0 | 1 => Memref.whole cc7_stg8_1 | ⟨_ + 2, h⟩ => absurd h (Nat.not_lt.2 (Nat.le_add_left _ _))
abbrev sem7_8 : Fin 2 → DmaSem sig := fun | 0 => cc7_sem8_0 | 1 => cc7_sem8_1 | ⟨_ + 2, h⟩ => absurd h (Nat.not_lt.2 (Nat.le_add_left _ _))
abbrev reads7_8 : Fin grid7.rank → Bool := ![true]

abbrev stage7_9 : Fin 2 → Memref sig .tc .vmem S512x1024 .f32 := fun | 0 => Memref.whole cc7_stg9_0 | 1 => Memref.whole cc7_stg9_1 | ⟨_ + 2, h⟩ => absurd h (Nat.not_lt.2 (Nat.le_add_left _ _))
abbrev sem7_9 : Fin 2 → DmaSem sig := fun | 0 => cc7_sem9_0 | 1 => cc7_sem9_1 | ⟨_ + 2, h⟩ => absurd h (Nat.not_lt.2 (Nat.le_add_left _ _))
abbrev reads7_9 : Fin grid7.rank → Bool := ![true]
-- ==== Reference4Ideal.lean ====
abbrev S4x4096x1024 : Shape := ⟨3, ![4, 4096, 1024]⟩
abbrev S4x4096x2816 : Shape := ⟨3, ![4, 4096, 2816]⟩
abbrev S4x1024x2816 : Shape := ⟨3, ![4, 1024, 2816]⟩
abbrev S_ : Shape := ⟨0, ![]⟩
abbrev S1x4096x1024 : Shape := ⟨3, ![1, 4096, 1024]⟩
abbrev S4096x1024 : Shape := ⟨2, ![4096, 1024]⟩

abbrev nBuf : Space → Nat
  | .hbm => 32
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x2816, .f32⟩
  | .hbm, ⟨2, _⟩ => ⟨S4x4096x2816, .f32⟩
  | .hbm, ⟨3, _⟩ => ⟨S4x1024x2816, .f32⟩
  | .hbm, ⟨4, _⟩ => ⟨S4x1024x2816, .f32⟩
  | .hbm, ⟨5, _⟩ => ⟨S_, .f32⟩
  | .hbm, ⟨6, _⟩ => ⟨S4x4096x1024, .f32⟩
  | .hbm, ⟨7, _⟩ => ⟨S4x4096x2816, .f32⟩
  | .hbm, ⟨8, _⟩ => ⟨S4x4096x2816, .f32⟩
  | .hbm, ⟨9, _⟩ => ⟨S4x4096x1024, .f32⟩
  | .hbm, ⟨10, _⟩ => ⟨S4x4096x1024, .f32⟩
  | .hbm, ⟨11, _⟩ => ⟨S4x4096x1024, .f32⟩
  | .hbm, ⟨12, _⟩ => ⟨S1x4096x1024, .f32⟩
  | .hbm, ⟨13, _⟩ => ⟨S4096x1024, .f32⟩
  | .hbm, ⟨14, _⟩ => ⟨S1x4096x1024, .f32⟩
  | .hbm, ⟨15, _⟩ => ⟨S4096x1024, .f32⟩
  | .hbm, ⟨16, _⟩ => ⟨S4096x1024, .f32⟩
  | .hbm, ⟨17, _⟩ => ⟨S1x4096x1024, .f32⟩
  | .hbm, ⟨18, _⟩ => ⟨S4096x1024, .f32⟩
  | .hbm, ⟨19, _⟩ => ⟨S1x4096x1024, .f32⟩
  | .hbm, ⟨20, _⟩ => ⟨S4096x1024, .f32⟩
  | .hbm, ⟨21, _⟩ => ⟨S4096x1024, .f32⟩
  | .hbm, ⟨22, _⟩ => ⟨S1x4096x1024, .f32⟩
  | .hbm, ⟨23, _⟩ => ⟨S4096x1024, .f32⟩
  | .hbm, ⟨24, _⟩ => ⟨S1x4096x1024, .f32⟩
  | .hbm, ⟨25, _⟩ => ⟨S4096x1024, .f32⟩
  | .hbm, ⟨26, _⟩ => ⟨S4096x1024, .f32⟩
  | .hbm, ⟨27, _⟩ => ⟨S1x4096x1024, .f32⟩
  | .hbm, ⟨28, _⟩ => ⟨S4096x1024, .f32⟩
  | .hbm, ⟨29, _⟩ => ⟨S1x4096x1024, .f32⟩
  | .hbm, ⟨30, _⟩ => ⟨S4096x1024, .f32⟩
  | .hbm, ⟨31, _⟩ => ⟨S4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩

abbrev nD : Nat := 1
abbrev τ : Topo := Topo.v7x

variable {F : FTy → Type} [FloatOps F]
-- ==== Kernel5.lean ====
abbrev S4x4096x1024 : Shape := ⟨3, ![4, 4096, 1024]⟩
abbrev S4x4096x2816 : Shape := ⟨3, ![4, 4096, 2816]⟩
abbrev S2x4096x1024 : Shape := ⟨3, ![2, 4096, 1024]⟩
abbrev S4096x1024 : Shape := ⟨2, ![4096, 1024]⟩
abbrev S4x5888x1024 : Shape := ⟨3, ![4, 5888, 1024]⟩
abbrev S1x4096x1024 : Shape := ⟨3, ![1, 4096, 1024]⟩
abbrev S4096x256 : Shape := ⟨2, ![4096, 256]⟩
abbrev S4x256x256 : Shape := ⟨3, ![4, 256, 256]⟩
abbrev S256x256 : Shape := ⟨2, ![256, 256]⟩
abbrev S1x256x256 : Shape := ⟨3, ![1, 256, 256]⟩
abbrev S1x4096x2816 : Shape := ⟨3, ![1, 4096, 2816]⟩
abbrev S4096x2816 : Shape := ⟨2, ![4096, 2816]⟩
abbrev S4096x4x704 : Shape := ⟨3, ![4096, 4, 704]⟩
abbrev S4x4096x704 : Shape := ⟨3, ![4, 4096, 704]⟩
abbrev S1x4096x704 : Shape := ⟨3, ![1, 4096, 704]⟩
abbrev S4096x512 : Shape := ⟨2, ![4096, 512]⟩
abbrev S1x704x512 : Shape := ⟨3, ![1, 704, 512]⟩
abbrev S4096x704 : Shape := ⟨2, ![4096, 704]⟩
abbrev S704x512 : Shape := ⟨2, ![704, 512]⟩
abbrev S4x2816x1024 : Shape := ⟨3, ![4, 2816, 1024]⟩
abbrev S4x4x704x1024 : Shape := ⟨4, ![4, 4, 704, 1024]⟩
abbrev S4x512x1024 : Shape := ⟨3, ![4, 512, 1024]⟩
abbrev S4x2x256x1024 : Shape := ⟨4, ![4, 2, 256, 1024]⟩
abbrev S2x4x256x1024 : Shape := ⟨4, ![2, 4, 256, 1024]⟩
abbrev S2x1024x1024 : Shape := ⟨3, ![2, 1024, 1024]⟩
abbrev S4x256x1024 : Shape := ⟨3, ![4, 256, 1024]⟩
abbrev S4x1x256x1024 : Shape := ⟨4, ![4, 1, 256, 1024]⟩
abbrev S1x4x256x1024 : Shape := ⟨4, ![1, 4, 256, 1024]⟩
abbrev S1x1024x1024 : Shape := ⟨3, ![1, 1024, 1024]⟩
abbrev S1024x1024 : Shape := ⟨2, ![1024, 1024]⟩
abbrev S4x1024x1024 : Shape := ⟨3, ![4, 1024, 1024]⟩
abbrev S4x4x256x1024 : Shape := ⟨4, ![4, 4, 256, 1024]⟩

abbrev nBuf : Space → Nat
  | .hbm => 147
  | .vmem => 84
  | .smem => 0
  | _ => 0

abbrev hbmTy0_0 (i : Nat) : BufTy := match i % 128 with
  | 0 => ⟨S4x4096x1024, .f32⟩
  | 1 => ⟨S4x4096x1024, .f32⟩
  | 2 => ⟨S4x4096x2816, .f32⟩
  | 3 => ⟨S4x4096x1024, .f32⟩
  | 4 => ⟨S2x4096x1024, .f32⟩
  | 5 => ⟨S2x4096x1024, .f32⟩
  | 6 => ⟨S2x4096x1024, .f32⟩
  | 7 => ⟨S4x4096x1024, .f32⟩
  | 8 => ⟨S2x4096x1024, .f32⟩
  | 9 => ⟨S4096x1024, .f32⟩
  | 10 => ⟨S4096x1024, .f32⟩
  | 11 => ⟨S4x5888x1024, .bf16⟩
  | 12 => ⟨S1x4096x1024, .f32⟩
  | 13 => ⟨S4096x1024, .f32⟩
  | 14 => ⟨S4096x1024, .bf16⟩
  | 15 => ⟨S1x4096x1024, .f32⟩
  | 16 => ⟨S4096x1024, .f32⟩
  | 17 => ⟨S4096x1024, .bf16⟩
  | 18 => ⟨S4x5888x1024, .bf16⟩
  | 19 => ⟨S1x4096x2816, .f32⟩
  | 20 => ⟨S4096x2816, .f32⟩
  | 21 => ⟨S4096x2816, .bf16⟩
  | 22 => ⟨S4096x4x704, .bf16⟩
  | 23 => ⟨S4x4096x704, .bf16⟩
  | 24 => ⟨S1x4096x1024, .f32⟩
  | 25 => ⟨S4096x1024, .f32⟩
  | 26 => ⟨S4x5888x1024, .bf16⟩
  | 27 => ⟨S1x4096x1024, .f32⟩
  | 28 => ⟨S4096x1024, .f32⟩
  | 29 => ⟨S4096x1024, .bf16⟩
  | 30 => ⟨S1x4096x1024, .f32⟩
  | 31 => ⟨S4096x1024, .f32⟩
  | 32 => ⟨S4x5888x1024, .bf16⟩
  | 33 => ⟨S1x4096x1024, .f32⟩
  | 34 => ⟨S4096x1024, .f32⟩
  | 35 => ⟨S4096x1024, .bf16⟩
  | 36 => ⟨S1x4096x1024, .f32⟩
  | 37 => ⟨S4096x1024, .f32⟩
  | 38 => ⟨S4x5888x1024, .bf16⟩
  | 39 => ⟨S1x4096x1024, .f32⟩
  | 40 => ⟨S4096x1024, .f32⟩
  | 41 => ⟨S4096x1024, .bf16⟩
  | 42 => ⟨S1x4096x1024, .f32⟩
  | 43 => ⟨S4096x1024, .f32⟩
  | 44 => ⟨S4096x1024, .bf16⟩
  | 45 => ⟨S4x5888x1024, .bf16⟩
  | 46 => ⟨S1x4096x2816, .f32⟩
  | 47 => ⟨S4096x2816, .f32⟩
  | 48 => ⟨S4096x2816, .bf16⟩
  | 49 => ⟨S4096x4x704, .bf16⟩
  | 50 => ⟨S4x4096x704, .bf16⟩
  | 51 => ⟨S1x4096x1024, .f32⟩
  | 52 => ⟨S4096x1024, .f32⟩
  | 53 => ⟨S4x5888x1024, .bf16⟩
  | 54 => ⟨S1x4096x1024, .f32⟩
  | 55 => ⟨S4096x1024, .f32⟩
  | 56 => ⟨S4096x1024, .bf16⟩
  | 57 => ⟨S1x4096x1024, .f32⟩
  | 58 => ⟨S4096x1024, .f32⟩
  | 59 => ⟨S4x5888x1024, .bf16⟩
  | 60 => ⟨S1x4096x1024, .f32⟩
  | 61 => ⟨S4096x1024, .f32⟩
  | 62 => ⟨S4096x1024, .bf16⟩
  | 63 => ⟨S1x4096x1024, .f32⟩
  | 64 => ⟨S4096x1024, .f32⟩
  | 65 => ⟨S4x5888x1024, .bf16⟩
  | 66 => ⟨S1x4096x1024, .f32⟩
  | 67 => ⟨S4096x1024, .f32⟩
  | 68 => ⟨S4096x1024, .bf16⟩
  | 69 => ⟨S4x5888x1024, .bf16⟩
  | 70 => ⟨S1x4096x1024, .f32⟩
  | 71 => ⟨S4096x1024, .f32⟩
  | 72 => ⟨S4096x1024, .bf16⟩
  | 73 => ⟨S4x5888x1024, .bf16⟩
  | 74 => ⟨S1x4096x1024, .f32⟩
  | 75 => ⟨S4096x1024, .f32⟩
  | 76 => ⟨S4096x1024, .bf16⟩
  | 77 => ⟨S1x4096x1024, .f32⟩
  | 78 => ⟨S4096x1024, .f32⟩
  | 79 => ⟨S4096x1024, .bf16⟩
  | 80 => ⟨S4x5888x1024, .bf16⟩
  | 81 => ⟨S1x4096x2816, .f32⟩
  | 82 => ⟨S4096x2816, .f32⟩
  | 83 => ⟨S4096x2816, .bf16⟩
  | 84 => ⟨S4096x4x704, .bf16⟩
  | 85 => ⟨S4x4096x704, .bf16⟩
  | 86 => ⟨S1x4096x1024, .f32⟩
  | 87 => ⟨S4096x1024, .f32⟩
  | 88 => ⟨S4x5888x1024, .bf16⟩
  | 89 => ⟨S1x4096x1024, .f32⟩
  | 90 => ⟨S4096x1024, .f32⟩
  | 91 => ⟨S4096x1024, .bf16⟩
  | 92 => ⟨S1x4096x1024, .f32⟩
  | 93 => ⟨S4096x1024, .f32⟩
  | 94 => ⟨S4x5888x1024, .bf16⟩
  | 95 => ⟨S1x4096x1024, .f32⟩
  | 96 => ⟨S4096x1024, .f32⟩
  | 97 => ⟨S4096x1024, .bf16⟩
  | 98 => ⟨S1x4096x1024, .f32⟩
  | 99 => ⟨S4096x1024, .f32⟩
  | 100 => ⟨S4096x1024, .bf16⟩
  | 101 => ⟨S4x5888x1024, .bf16⟩
  | 102 => ⟨S1x4096x2816, .f32⟩
  | 103 => ⟨S4096x2816, .f32⟩
  | 104 => ⟨S4096x2816, .bf16⟩
  | 105 => ⟨S4096x4x704, .bf16⟩
  | 106 => ⟨S4x4096x704, .bf16⟩
  | 107 => ⟨S1x4096x1024, .f32⟩
  | 108 => ⟨S4096x1024, .f32⟩
  | 109 => ⟨S4x5888x1024, .bf16⟩
  | 110 => ⟨S1x4096x1024, .f32⟩
  | 111 => ⟨S4096x1024, .f32⟩
  | 112 => ⟨S4096x1024, .bf16⟩
  | 113 => ⟨S1x4096x1024, .f32⟩
  | 114 => ⟨S4096x1024, .f32⟩
  | 115 => ⟨S4x5888x1024, .bf16⟩
  | 116 => ⟨S4x5888x1024, .f32⟩
  | 117 => ⟨S4x2816x1024, .f32⟩
  | 118 => ⟨S4x4x704x1024, .f32⟩
  | 119 => ⟨S4x4x704x1024, .f32⟩
  | 120 => ⟨S4x2816x1024, .f32⟩
  | 121 => ⟨S4x512x1024, .f32⟩
  | 122 => ⟨S4x2x256x1024, .f32⟩
  | 123 => ⟨S2x4x256x1024, .f32⟩
  | 124 => ⟨S2x1024x1024, .f32⟩
  | 125 => ⟨S4x512x1024, .f32⟩
  | 126 => ⟨S4x2x256x1024, .f32⟩
  | 127 => ⟨S2x4x256x1024, .f32⟩
  | _ => ⟨S4x4096x1024, .f32⟩

abbrev hbmTy0_1 (i : Nat) : BufTy := match i % 128 with
  | 0 => ⟨S2x1024x1024, .f32⟩
  | 1 => ⟨S4x256x1024, .f32⟩
  | 2 => ⟨S4x1x256x1024, .f32⟩
  | 3 => ⟨S1x4x256x1024, .f32⟩
  | 4 => ⟨S1x1024x1024, .f32⟩
  | 5 => ⟨S1024x1024, .f32⟩
  | 6 => ⟨S4x256x1024, .f32⟩
  | 7 => ⟨S4x1x256x1024, .f32⟩
  | 8 => ⟨S1x4x256x1024, .f32⟩
  | 9 => ⟨S1x1024x1024, .f32⟩
  | 10 => ⟨S1024x1024, .f32⟩
  | 11 => ⟨S4x512x1024, .f32⟩
  | 12 => ⟨S4x2x256x1024, .f32⟩
  | 13 => ⟨S2x4x256x1024, .f32⟩
  | 14 => ⟨S2x1024x1024, .f32⟩
  | 15 => ⟨S4x1024x1024, .f32⟩
  | 16 => ⟨S4x4x256x1024, .f32⟩
  | 17 => ⟨S4x4x256x1024, .f32⟩
  | 18 => ⟨S4x1024x1024, .f32⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | .local _ .vmem, ⟨0, _⟩ => ⟨S4096x1024, .bf16⟩
  | .local _ .vmem, ⟨1, _⟩ => ⟨S4096x256, .bf16⟩
  | .local _ .vmem, ⟨2, _⟩ => ⟨S4096x256, .bf16⟩
  | .local _ .vmem, ⟨3, _⟩ => ⟨S4x256x256, .bf16⟩
  | .local _ .vmem, ⟨4, _⟩ => ⟨S4x256x256, .bf16⟩
  | .local _ .vmem, ⟨5, _⟩ => ⟨S1x4096x704, .bf16⟩
  | .local _ .vmem, ⟨6, _⟩ => ⟨S1x4096x704, .bf16⟩
  | .local _ .vmem, ⟨7, _⟩ => ⟨S4096x512, .f32⟩
  | .local _ .vmem, ⟨8, _⟩ => ⟨S4096x512, .f32⟩
  | .local _ .vmem, ⟨9, _⟩ => ⟨S1x704x512, .bf16⟩
  | .local _ .vmem, ⟨10, _⟩ => ⟨S1x704x512, .bf16⟩
  | .local _ .vmem, ⟨11, _⟩ => ⟨S4096x1024, .bf16⟩
  | .local _ .vmem, ⟨12, _⟩ => ⟨S4096x256, .f32⟩
  | .local _ .vmem, ⟨13, _⟩ => ⟨S4096x256, .f32⟩
  | .local _ .vmem, ⟨14, _⟩ => ⟨S4x256x256, .bf16⟩
  | .local _ .vmem, ⟨15, _⟩ => ⟨S4x256x256, .bf16⟩
  | .local _ .vmem, ⟨16, _⟩ => ⟨S4096x1024, .bf16⟩
  | .local _ .vmem, ⟨17, _⟩ => ⟨S4096x256, .f32⟩
  | .local _ .vmem, ⟨18, _⟩ => ⟨S4096x256, .f32⟩
  | .local _ .vmem, ⟨19, _⟩ => ⟨S4x256x256, .bf16⟩
  | .local _ .vmem, ⟨20, _⟩ => ⟨S4x256x256, .bf16⟩
  | .local _ .vmem, ⟨21, _⟩ => ⟨S4096x1024, .bf16⟩
  | .local _ .vmem, ⟨22, _⟩ => ⟨S4096x256, .bf16⟩
  | .local _ .vmem, ⟨23, _⟩ => ⟨S4096x256, .bf16⟩
  | .local _ .vmem, ⟨24, _⟩ => ⟨S4x256x256, .bf16⟩
  | .local _ .vmem, ⟨25, _⟩ => ⟨S4x256x256, .bf16⟩
  | .local _ .vmem, ⟨26, _⟩ => ⟨S1x4096x704, .bf16⟩
  | .local _ .vmem, ⟨27, _⟩ => ⟨S1x4096x704, .bf16⟩
  | .local _ .vmem, ⟨28, _⟩ => ⟨S4096x512, .f32⟩
  | .local _ .vmem, ⟨29, _⟩ => ⟨S4096x512, .f32⟩
  | .local _ .vmem, ⟨30, _⟩ => ⟨S1x704x512, .bf16⟩
  | .local _ .vmem, ⟨31, _⟩ => ⟨S1x704x512, .bf16⟩
  | .local _ .vmem, ⟨32, _⟩ => ⟨S4096x1024, .bf16⟩
  | .local _ .vmem, ⟨33, _⟩ => ⟨S4096x256, .f32⟩
  | .local _ .vmem, ⟨34, _⟩ => ⟨S4096x256, .f32⟩
  | .local _ .vmem, ⟨35, _⟩ => ⟨S4x256x256, .bf16⟩
  | .local _ .vmem, ⟨36, _⟩ => ⟨S4x256x256, .bf16⟩
  | .local _ .vmem, ⟨37, _⟩ => ⟨S4096x1024, .bf16⟩
  | .local _ .vmem, ⟨38, _⟩ => ⟨S4096x256, .f32⟩
  | .local _ .vmem, ⟨39, _⟩ => ⟨S4096x256, .f32⟩
  | .local _ .vmem, ⟨40, _⟩ => ⟨S4x256x256, .bf16⟩
  | .local _ .vmem, ⟨41, _⟩ => ⟨S4x256x256, .bf16⟩
  | .local _ .vmem, ⟨42, _⟩ => ⟨S4096x1024, .bf16⟩
  | .local _ .vmem, ⟨43, _⟩ => ⟨S4096x256, .f32⟩
  | .local _ .vmem, ⟨44, _⟩ => ⟨S4096x256, .f32⟩
  | .local _ .vmem, ⟨45, _⟩ => ⟨S4x256x256, .bf16⟩
  | .local _ .vmem, ⟨46, _⟩ => ⟨S4x256x256, .bf16⟩
  | .local _ .vmem, ⟨47, _⟩ => ⟨S4096x1024, .bf16⟩
  | .local _ .vmem, ⟨48, _⟩ => ⟨S4096x256, .f32⟩
  | .local _ .vmem, ⟨49, _⟩ => ⟨S4096x256, .f32⟩
  | .local _ .vmem, ⟨50, _⟩ => ⟨S4x256x256, .bf16⟩
  | .local _ .vmem, ⟨51, _⟩ => ⟨S4x256x256, .bf16⟩
  | .local _ .vmem, ⟨52, _⟩ => ⟨S4096x1024, .bf16⟩
  | .local _ .vmem, ⟨53, _⟩ => ⟨S4096x256, .bf16⟩
  | .local _ .vmem, ⟨54, _⟩ => ⟨S4096x256, .bf16⟩
  | .local _ .vmem, ⟨55, _⟩ => ⟨S4x256x256, .bf16⟩
  | .local _ .vmem, ⟨56, _⟩ => ⟨S4x256x256, .bf16⟩
  | .local _ .vmem, ⟨57, _⟩ => ⟨S1x4096x704, .bf16⟩
  | .local _ .vmem, ⟨58, _⟩ => ⟨S1x4096x704, .bf16⟩
  | .local _ .vmem, ⟨59, _⟩ => ⟨S4096x512, .f32⟩
  | .local _ .vmem, ⟨60, _⟩ => ⟨S4096x512, .f32⟩
  | .local _ .vmem, ⟨61, _⟩ => ⟨S1x704x512, .bf16⟩
  | .local _ .vmem, ⟨62, _⟩ => ⟨S1x704x512, .bf16⟩
  | .local _ .vmem, ⟨63, _⟩ => ⟨S4096x1024, .bf16⟩
  | .local _ .vmem, ⟨64, _⟩ => ⟨S4096x256, .f32⟩
  | .local _ .vmem, ⟨65, _⟩ => ⟨S4096x256, .f32⟩
  | .local _ .vmem, ⟨66, _⟩ => ⟨S4x256x256, .bf16⟩
  | .local _ .vmem, ⟨67, _⟩ => ⟨S4x256x256, .bf16⟩
  | .local _ .vmem, ⟨68, _⟩ => ⟨S4096x1024, .bf16⟩
  | .local _ .vmem, ⟨69, _⟩ => ⟨S4096x256, .bf16⟩
  | .local _ .vmem, ⟨70, _⟩ => ⟨S4096x256, .bf16⟩
  | .local _ .vmem, ⟨71, _⟩ => ⟨S4x256x256, .bf16⟩
  | .local _ .vmem, ⟨72, _⟩ => ⟨S4x256x256, .bf16⟩
  | .local _ .vmem, ⟨73, _⟩ => ⟨S1x4096x704, .bf16⟩
  | .local _ .vmem, ⟨74, _⟩ => ⟨S1x4096x704, .bf16⟩
  | .local _ .vmem, ⟨75, _⟩ => ⟨S4096x512, .f32⟩
  | .local _ .vmem, ⟨76, _⟩ => ⟨S4096x512, .f32⟩
  | .local _ .vmem, ⟨77, _⟩ => ⟨S1x704x512, .bf16⟩
  | .local _ .vmem, ⟨78, _⟩ => ⟨S1x704x512, .bf16⟩
  | .local _ .vmem, ⟨79, _⟩ => ⟨S4096x1024, .bf16⟩
  | .local _ .vmem, ⟨80, _⟩ => ⟨S4096x256, .f32⟩
  | .local _ .vmem, ⟨81, _⟩ => ⟨S4096x256, .f32⟩
  | .local _ .vmem, ⟨82, _⟩ => ⟨S4x256x256, .bf16⟩
  | .local _ .vmem, ⟨83, _⟩ => ⟨S4x256x256, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | _, _ => false

abbrev semScoped : Fin 0 → Bool
  | ⟨_, h⟩ => absurd h (Nat.not_lt_zero _)

abbrev dmaSemScoped : Fin 84 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | _ => false

abbrev sig : RefSig :=
  ofTc nBuf bufTy 0 84 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_v113 : Ref sig .tc := ⟨.hbm, 125, rfl⟩
abbrev main_v114 : Ref sig .tc := ⟨.hbm, 126, rfl⟩
abbrev main_v115 : Ref sig .tc := ⟨.hbm, 127, rfl⟩
abbrev main_v116 : Ref sig .tc := ⟨.hbm, 128, rfl⟩
abbrev main_v117 : Ref sig .tc := ⟨.hbm, 129, rfl⟩
abbrev main_v118 : Ref sig .tc := ⟨.hbm, 130, rfl⟩
abbrev main_v119 : Ref sig .tc := ⟨.hbm, 131, rfl⟩
abbrev main_v120 : Ref sig .tc := ⟨.hbm, 132, rfl⟩
abbrev main_v121 : Ref sig .tc := ⟨.hbm, 133, rfl⟩
abbrev main_v122 : Ref sig .tc := ⟨.hbm, 134, rfl⟩
abbrev main_v123 : Ref sig .tc := ⟨.hbm, 135, rfl⟩
abbrev main_v124 : Ref sig .tc := ⟨.hbm, 136, rfl⟩
abbrev main_v125 : Ref sig .tc := ⟨.hbm, 137, rfl⟩
abbrev main_v126 : Ref sig .tc := ⟨.hbm, 138, rfl⟩
abbrev main_v127 : Ref sig .tc := ⟨.hbm, 139, rfl⟩
abbrev main_v128 : Ref sig .tc := ⟨.hbm, 140, rfl⟩
abbrev main_v129 : Ref sig .tc := ⟨.hbm, 141, rfl⟩
abbrev main_v130 : Ref sig .tc := ⟨.hbm, 142, rfl⟩
abbrev main_v131 : Ref sig .tc := ⟨.hbm, 143, rfl⟩
abbrev main_v132 : Ref sig .tc := ⟨.hbm, 144, rfl⟩
abbrev main_v133 : Ref sig .tc := ⟨.hbm, 145, rfl⟩
abbrev main_v134 : Ref sig .tc := ⟨.hbm, 146, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg1_0 : Ref sig .tc := ⟨.vmem, 17, rfl⟩
abbrev cc3_stg1_1 : Ref sig .tc := ⟨.vmem, 18, rfl⟩
abbrev cc3_stg2_0 : Ref sig .tc := ⟨.vmem, 19, rfl⟩
abbrev cc3_stg2_1 : Ref sig .tc := ⟨.vmem, 20, rfl⟩
abbrev cc4_stg0_0 : Ref sig .tc := ⟨.vmem, 21, rfl⟩
abbrev cc4_stg1_0 : Ref sig .tc := ⟨.vmem, 22, rfl⟩
abbrev cc4_stg1_1 : Ref sig .tc := ⟨.vmem, 23, rfl⟩
abbrev cc4_stg2_0 : Ref sig .tc := ⟨.vmem, 24, rfl⟩
abbrev cc4_stg2_1 : Ref sig .tc := ⟨.vmem, 25, rfl⟩
abbrev cc5_stg0_0 : Ref sig .tc := ⟨.vmem, 26, rfl⟩
abbrev cc5_stg0_1 : Ref sig .tc := ⟨.vmem, 27, rfl⟩
abbrev cc5_stg1_0 : Ref sig .tc := ⟨.vmem, 28, rfl⟩
abbrev cc5_stg1_1 : Ref sig .tc := ⟨.vmem, 29, rfl⟩
abbrev cc5_stg2_0 : Ref sig .tc := ⟨.vmem, 30, rfl⟩
abbrev cc5_stg2_1 : Ref sig .tc := ⟨.vmem, 31, rfl⟩
abbrev cc6_stg0_0 : Ref sig .tc := ⟨.vmem, 32, rfl⟩
abbrev cc6_stg1_0 : Ref sig .tc := ⟨.vmem, 33, rfl⟩
abbrev cc6_stg1_1 : Ref sig .tc := ⟨.vmem, 34, rfl⟩
abbrev cc6_stg2_0 : Ref sig .tc := ⟨.vmem, 35, rfl⟩
abbrev cc6_stg2_1 : Ref sig .tc := ⟨.vmem, 36, rfl⟩
abbrev cc7_stg0_0 : Ref sig .tc := ⟨.vmem, 37, rfl⟩
abbrev cc7_stg1_0 : Ref sig .tc := ⟨.vmem, 38, rfl⟩
abbrev cc7_stg1_1 : Ref sig .tc := ⟨.vmem, 39, rfl⟩
abbrev cc7_stg2_0 : Ref sig .tc := ⟨.vmem, 40, rfl⟩
abbrev cc7_stg2_1 : Ref sig .tc := ⟨.vmem, 41, rfl⟩
abbrev cc8_stg0_0 : Ref sig .tc := ⟨.vmem, 42, rfl⟩
abbrev cc8_stg1_0 : Ref sig .tc := ⟨.vmem, 43, rfl⟩
abbrev cc8_stg1_1 : Ref sig .tc := ⟨.vmem, 44, rfl⟩
abbrev cc8_stg2_0 : Ref sig .tc := ⟨.vmem, 45, rfl⟩
abbrev cc8_stg2_1 : Ref sig .tc := ⟨.vmem, 46, rfl⟩
abbrev cc9_stg0_0 : Ref sig .tc := ⟨.vmem, 47, rfl⟩
abbrev cc9_stg1_0 : Ref sig .tc := ⟨.vmem, 48, rfl⟩
abbrev cc9_stg1_1 : Ref sig .tc := ⟨.vmem, 49, rfl⟩
abbrev cc9_stg2_0 : Ref sig .tc := ⟨.vmem, 50, rfl⟩
abbrev cc9_stg2_1 : Ref sig .tc := ⟨.vmem, 51, rfl⟩
abbrev cc10_stg0_0 : Ref sig .tc := ⟨.vmem, 52, rfl⟩
abbrev cc10_stg1_0 : Ref sig .tc := ⟨.vmem, 53, rfl⟩
abbrev cc10_stg1_1 : Ref sig .tc := ⟨.vmem, 54, rfl⟩
abbrev cc10_stg2_0 : Ref sig .tc := ⟨.vmem, 55, rfl⟩
abbrev cc10_stg2_1 : Ref sig .tc := ⟨.vmem, 56, rfl⟩
abbrev cc11_stg0_0 : Ref sig .tc := ⟨.vmem, 57, rfl⟩
abbrev cc11_stg0_1 : Ref sig .tc := ⟨.vmem, 58, rfl⟩
abbrev cc11_stg1_0 : Ref sig .tc := ⟨.vmem, 59, rfl⟩
abbrev cc11_stg1_1 : Ref sig .tc := ⟨.vmem, 60, rfl⟩
abbrev cc11_stg2_0 : Ref sig .tc := ⟨.vmem, 61, rfl⟩
abbrev cc11_stg2_1 : Ref sig .tc := ⟨.vmem, 62, rfl⟩
abbrev cc12_stg0_0 : Ref sig .tc := ⟨.vmem, 63, rfl⟩
abbrev cc12_stg1_0 : Ref sig .tc := ⟨.vmem, 64, rfl⟩
abbrev cc12_stg1_1 : Ref sig .tc := ⟨.vmem, 65, rfl⟩
abbrev cc12_stg2_0 : Ref sig .tc := ⟨.vmem, 66, rfl⟩
abbrev cc12_stg2_1 : Ref sig .tc := ⟨.vmem, 67, rfl⟩
abbrev cc13_stg0_0 : Ref sig .tc := ⟨.vmem, 68, rfl⟩
abbrev cc13_stg1_0 : Ref sig .tc := ⟨.vmem, 69, rfl⟩
abbrev cc13_stg1_1 : Ref sig .tc := ⟨.vmem, 70, rfl⟩
abbrev cc13_stg2_0 : Ref sig .tc := ⟨.vmem, 71, rfl⟩
abbrev cc13_stg2_1 : Ref sig .tc := ⟨.vmem, 72, rfl⟩
abbrev cc14_stg0_0 : Ref sig .tc := ⟨.vmem, 73, rfl⟩
abbrev cc14_stg0_1 : Ref sig .tc := ⟨.vmem, 74, rfl⟩
abbrev cc14_stg1_0 : Ref sig .tc := ⟨.vmem, 75, rfl⟩
abbrev cc14_stg1_1 : Ref sig .tc := ⟨.vmem, 76, rfl⟩
abbrev cc14_stg2_0 : Ref sig .tc := ⟨.vmem, 77, rfl⟩
abbrev cc14_stg2_1 : Ref sig .tc := ⟨.vmem, 78, rfl⟩
abbrev cc15_stg0_0 : Ref sig .tc := ⟨.vmem, 79, rfl⟩
abbrev cc15_stg1_0 : Ref sig .tc := ⟨.vmem, 80, rfl⟩
abbrev cc15_stg1_1 : Ref sig .tc := ⟨.vmem, 81, rfl⟩
abbrev cc15_stg2_0 : Ref sig .tc := ⟨.vmem, 82, rfl⟩
abbrev cc15_stg2_1 : Ref sig .tc := ⟨.vmem, 83, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem1_0 : DmaSem sig := 12
abbrev cc2_sem1_1 : DmaSem sig := 13
abbrev cc2_sem2_0 : DmaSem sig := 14
abbrev cc2_sem2_1 : DmaSem sig := 15
abbrev cc3_sem0_0 : DmaSem sig := 16
abbrev cc3_sem1_0 : DmaSem sig := 17
abbrev cc3_sem1_1 : DmaSem sig := 18
abbrev cc3_sem2_0 : DmaSem sig := 19
abbrev cc3_sem2_1 : DmaSem sig := 20
abbrev cc4_sem0_0 : DmaSem sig := 21
abbrev cc4_sem1_0 : DmaSem sig := 22
abbrev cc4_sem1_1 : DmaSem sig := 23
abbrev cc4_sem2_0 : DmaSem sig := 24
abbrev cc4_sem2_1 : DmaSem sig := 25
abbrev cc5_sem0_0 : DmaSem sig := 26
abbrev cc5_sem0_1 : DmaSem sig := 27
abbrev cc5_sem1_0 : DmaSem sig := 28
abbrev cc5_sem1_1 : DmaSem sig := 29
abbrev cc5_sem2_0 : DmaSem sig := 30
abbrev cc5_sem2_1 : DmaSem sig := 31
abbrev cc6_sem0_0 : DmaSem sig := 32
abbrev cc6_sem1_0 : DmaSem sig := 33
abbrev cc6_sem1_1 : DmaSem sig := 34
abbrev cc6_sem2_0 : DmaSem sig := 35
abbrev cc6_sem2_1 : DmaSem sig := 36
abbrev cc7_sem0_0 : DmaSem sig := 37
abbrev cc7_sem1_0 : DmaSem sig := 38
abbrev cc7_sem1_1 : DmaSem sig := 39
abbrev cc7_sem2_0 : DmaSem sig := 40
abbrev cc7_sem2_1 : DmaSem sig := 41
abbrev cc8_sem0_0 : DmaSem sig := 42
abbrev cc8_sem1_0 : DmaSem sig := 43
abbrev cc8_sem1_1 : DmaSem sig := 44
abbrev cc8_sem2_0 : DmaSem sig := 45
abbrev cc8_sem2_1 : DmaSem sig := 46
abbrev cc9_sem0_0 : DmaSem sig := 47
abbrev cc9_sem1_0 : DmaSem sig := 48
abbrev cc9_sem1_1 : DmaSem sig := 49
abbrev cc9_sem2_0 : DmaSem sig := 50
abbrev cc9_sem2_1 : DmaSem sig := 51
abbrev cc10_sem0_0 : DmaSem sig := 52
abbrev cc10_sem1_0 : DmaSem sig := 53
abbrev cc10_sem1_1 : DmaSem sig := 54
abbrev cc10_sem2_0 : DmaSem sig := 55
abbrev cc10_sem2_1 : DmaSem sig := 56
abbrev cc11_sem0_0 : DmaSem sig := 57
abbrev cc11_sem0_1 : DmaSem sig := 58
abbrev cc11_sem1_0 : DmaSem sig := 59
abbrev cc11_sem1_1 : DmaSem sig := 60
abbrev cc11_sem2_0 : DmaSem sig := 61
abbrev cc11_sem2_1 : DmaSem sig := 62
abbrev cc12_sem0_0 : DmaSem sig := 63
abbrev cc12_sem1_0 : DmaSem sig := 64
abbrev cc12_sem1_1 : DmaSem sig := 65
abbrev cc12_sem2_0 : DmaSem sig := 66
abbrev cc12_sem2_1 : DmaSem sig := 67
abbrev cc13_sem0_0 : DmaSem sig := 68
abbrev cc13_sem1_0 : DmaSem sig := 69
abbrev cc13_sem1_1 : DmaSem sig := 70
abbrev cc13_sem2_0 : DmaSem sig := 71
abbrev cc13_sem2_1 : DmaSem sig := 72
abbrev cc14_sem0_0 : DmaSem sig := 73
abbrev cc14_sem0_1 : DmaSem sig := 74
abbrev cc14_sem1_0 : DmaSem sig := 75
abbrev cc14_sem1_1 : DmaSem sig := 76
abbrev cc14_sem2_0 : DmaSem sig := 77
abbrev cc14_sem2_1 : DmaSem sig := 78
abbrev cc15_sem0_0 : DmaSem sig := 79
abbrev cc15_sem1_0 : DmaSem sig := 80
abbrev cc15_sem1_1 : DmaSem sig := 81
abbrev cc15_sem2_0 : DmaSem sig := 82
abbrev cc15_sem2_1 : DmaSem sig := 83

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let c0_i32 : BitVec 32 := 0#32
  let c22_i32 : BitVec 32 := 22#32
  let c0_i32_0 : BitVec 32 := 0#32
  ![c0_i32.toNat, c22_i32.toNat, arg0.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![4, 2], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, c3_i32.toNat, arg1.toNat]

abbrev stage1_0 : Fin 2 → Memref sig .tc .vmem S1x4096x704 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S4096x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x704x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_3 (i : grid2.Coords) : Fin 3 → Nat :=
  let arg0 : BitVec 32 := BitVec.ofNat 32 (i 0).val
  let c0_i32 : BitVec 32 := 0#32
  let c18_i32 : BitVec 32 := 18#32
  let c0_i32_0 : BitVec 32 := 0#32
  ![c0_i32.toNat, c18_i32.toNat, arg0.toNat]

abbrev stage2_0 : Fin 1 → Memref sig .tc .vmem S4096x1024 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S4096x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4x256x256 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![4], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_3 (i : grid3.Coords) : Fin 3 → Nat :=
  let arg0 : BitVec 32 := BitVec.ofNat 32 (i 0).val
  let c0_i32 : BitVec 32 := 0#32
  let c14_i32 : BitVec 32 := 14#32
  let c0_i32_0 : BitVec 32 := 0#32
  ![c0_i32.toNat, c14_i32.toNat, arg0.toNat]

abbrev stage3_0 : Fin 1 → Memref sig .tc .vmem S4096x1024 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 2 → Memref sig .tc .vmem S4096x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4x256x256 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![4], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_3 (i : grid4.Coords) : Fin 3 → Nat :=
  let arg0 : BitVec 32 := BitVec.ofNat 32 (i 0).val
  let c0_i32 : BitVec 32 := 0#32
  let c21_i32 : BitVec 32 := 21#32
  let c0_i32_0 : BitVec 32 := 0#32
  ![c0_i32.toNat, c21_i32.toNat, arg0.toNat]

abbrev stage4_0 : Fin 1 → Memref sig .tc .vmem S4096x1024 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 2 → Memref sig .tc .vmem S4096x256 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S4x256x256 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨2, ![4, 2], ![false, false]⟩

def cc5_transform_0 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_3 (i : grid5.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, c2_i32.toNat, arg1.toNat]

abbrev stage5_0 : Fin 2 → Memref sig .tc .vmem S1x4096x704 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 2 → Memref sig .tc .vmem S4096x512 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S1x704x512 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev grid6 : Pipeline.Grid := ⟨1, ![4], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  ![c0_i32.toNat, arg0.toNat]

def cc6_transform_3 (i : grid6.Coords) : Fin 3 → Nat :=
  let arg0 : BitVec 32 := BitVec.ofNat 32 (i 0).val
  let c0_i32 : BitVec 32 := 0#32
  let c17_i32 : BitVec 32 := 17#32
  let c0_i32_0 : BitVec 32 := 0#32
  ![c0_i32.toNat, c17_i32.toNat, arg0.toNat]

abbrev stage6_0 : Fin 1 → Memref sig .tc .vmem S4096x1024 .bf16 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 2 → Memref sig .tc .vmem S4096x256 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S4x256x256 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![4], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_1 (i : grid7.Coords) : Fin 2 → Nat :=
  let arg0 : BitVec 32 := BitVec.ofNat 32 (i 0).val
  let c0_i32 : BitVec 32 := 0#32
  let c0_i32_0 : BitVec 32 := 0#32
  ![c0_i32.toNat, arg0.toNat]

def cc7_transform_3 (i : grid7.Coords) : Fin 3 → Nat :=
  let arg0 : BitVec 32 := BitVec.ofNat 32 (i 0).val
  let c0_i32 : BitVec 32 := 0#32
  let c13_i32 : BitVec 32 := 13#32
  let c0_i32_0 : BitVec 32 := 0#32
  ![c0_i32.toNat, c13_i32.toNat, arg0.toNat]

abbrev stage7_0 : Fin 1 → Memref sig .tc .vmem S4096x1024 .bf16 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![false]

abbrev stage7_1 : Fin 2 → Memref sig .tc .vmem S4096x256 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S4x256x256 .bf16 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![4], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_1 (i : grid8.Coords) : Fin 2 → Nat :=
  let arg0 : BitVec 32 := BitVec.ofNat 32 (i 0).val
  let c0_i32 : BitVec 32 := 0#32
  let c0_i32_0 : BitVec 32 := 0#32
  ![c0_i32.toNat, arg0.toNat]

def cc8_transform_3 (i : grid8.Coords) : Fin 3 → Nat :=
  let arg0 : BitVec 32 := BitVec.ofNat 32 (i 0).val
  let c0_i32 : BitVec 32 := 0#32
  let c15_i32 : BitVec 32 := 15#32
  let c0_i32_0 : BitVec 32 := 0#32
  ![c0_i32.toNat, c15_i32.toNat, arg0.toNat]

abbrev stage8_0 : Fin 1 → Memref sig .tc .vmem S4096x1024 .bf16 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![false]

abbrev stage8_1 : Fin 2 → Memref sig .tc .vmem S4096x256 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S4x256x256 .bf16 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![4], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_1 (i : grid9.Coords) : Fin 2 → Nat :=
  let arg0 : BitVec 32 := BitVec.ofNat 32 (i 0).val
  let c0_i32 : BitVec 32 := 0#32
  let c0_i32_0 : BitVec 32 := 0#32
  ![c0_i32.toNat, arg0.toNat]

def cc9_transform_3 (i : grid9.Coords) : Fin 3 → Nat :=
  let arg0 : BitVec 32 := BitVec.ofNat 32 (i 0).val
  let c0_i32 : BitVec 32 := 0#32
  let c16_i32 : BitVec 32 := 16#32
  let c0_i32_0 : BitVec 32 := 0#32
  ![c0_i32.toNat, c16_i32.toNat, arg0.toNat]

abbrev stage9_0 : Fin 1 → Memref sig .tc .vmem S4096x1024 .bf16 := fun | 0 => Memref.whole cc9_stg0_0 | ⟨_ + 1, h⟩ => absurd h (Nat.not_lt.2 (Nat.le_add_left _ _))
abbrev sem9_0 : Fin 1 → DmaSem sig := fun | 0 => cc9_sem0_0 | ⟨_ + 1, h⟩ => absurd h (Nat.not_lt.2 (Nat.le_add_left _ _))
abbrev reads9_0 : Fin grid9.rank → Bool := ![false]

abbrev stage9_1 : Fin 2 → Memref sig .tc .vmem S4096x256 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 2 → Memref sig .tc .vmem S4x256x256 .bf16 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev grid10 : Pipeline.Grid := ⟨1, ![4], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_1 (i : grid10.Coords) : Fin 2 → Nat :=
  let arg0 : BitVec 32 := BitVec.ofNat 32 (i 0).val
  let c0_i32 : BitVec 32 := 0#32
  let c0_i32_0 : BitVec 32 := 0#32
  ![c0_i32.toNat, arg0.toNat]

def cc10_transform_3 (i : grid10.Coords) : Fin 3 → Nat :=
  let arg0 : BitVec 32 := BitVec.ofNat 32 (i 0).val
  let c0_i32 : BitVec 32 := 0#32
  let c20_i32 : BitVec 32 := 20#32
  let c0_i32_0 : BitVec 32 := 0#32
  ![c0_i32.toNat, c20_i32.toNat, arg0.toNat]

abbrev stage10_0 : Fin 1 → Memref sig .tc .vmem S4096x1024 .bf16 := fun | 0 => Memref.whole cc10_stg0_0 | ⟨_ + 1, h⟩ => absurd h (Nat.not_lt.2 (Nat.le_add_left _ _))
abbrev sem10_0 : Fin 1 → DmaSem sig := fun | 0 => cc10_sem0_0 | ⟨_ + 1, h⟩ => absurd h (Nat.not_lt.2 (Nat.le_add_left _ _))
abbrev reads10_0 : Fin grid10.rank → Bool := ![false]

abbrev stage10_1 : Fin 2 → Memref sig .tc .vmem S4096x256 .bf16 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 2 → Memref sig .tc .vmem S4x256x256 .bf16 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev grid11 : Pipeline.Grid := ⟨2, ![4, 2], ![false, false]⟩

def cc11_transform_0 (i : grid11.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc11_transform_1 (i : grid11.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc11_transform_3 (i : grid11.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat, arg1.toNat]

abbrev stage11_0 : Fin 2 → Memref sig .tc .vmem S1x4096x704 .bf16 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true, false]

abbrev stage11_1 : Fin 2 → Memref sig .tc .vmem S4096x512 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![false, true]

abbrev stage11_2 : Fin 2 → Memref sig .tc .vmem S1x704x512 .bf16 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true, true]

abbrev grid12 : Pipeline.Grid := ⟨1, ![4], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_1 (i : grid12.Coords) : Fin 2 → Nat :=
  let arg0 : BitVec 32 := BitVec.ofNat 32 (i 0).val
  let c0_i32 : BitVec 32 := 0#32
  let c0_i32_0 : BitVec 32 := 0#32
  ![c0_i32.toNat, arg0.toNat]

def cc12_transform_3 (i : grid12.Coords) : Fin 3 → Nat :=
  let arg0 : BitVec 32 := BitVec.ofNat 32 (i 0).val
  let c0_i32 : BitVec 32 := 0#32
  let c12_i32 : BitVec 32 := 12#32
  let c0_i32_0 : BitVec 32 := 0#32
  ![c0_i32.toNat, c12_i32.toNat, arg0.toNat]

abbrev stage12_0 : Fin 1 → Memref sig .tc .vmem S4096x1024 .bf16 := fun | 0 => Memref.whole cc12_stg0_0 | ⟨_ + 1, h⟩ => absurd h (Nat.not_lt.2 (Nat.le_add_left _ _))
abbrev sem12_0 : Fin 1 → DmaSem sig := fun | 0 => cc12_sem0_0 | ⟨_ + 1, h⟩ => absurd h (Nat.not_lt.2 (Nat.le_add_left _ _))
abbrev reads12_0 : Fin grid12.rank → Bool := ![false]

abbrev stage12_1 : Fin 2 → Memref sig .tc .vmem S4096x256 .f32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true]

abbrev stage12_2 : Fin 2 → Memref sig .tc .vmem S4x256x256 .bf16 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true]

abbrev grid13 : Pipeline.Grid := ⟨1, ![4], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_1 (i : grid13.Coords) : Fin 2 → Nat :=
  let arg0 : BitVec 32 := BitVec.ofNat 32 (i 0).val
  let c0_i32 : BitVec 32 := 0#32
  let c0_i32_0 : BitVec 32 := 0#32
  ![c0_i32.toNat, arg0.toNat]

def cc13_transform_3 (i : grid13.Coords) : Fin 3 → Nat :=
  let arg0 : BitVec 32 := BitVec.ofNat 32 (i 0).val
  let c0_i32 : BitVec 32 := 0#32
  let c19_i32 : BitVec 32 := 19#32
  let c0_i32_0 : BitVec 32 := 0#32
  ![c0_i32.toNat, c19_i32.toNat, arg0.toNat]

abbrev stage13_0 : Fin 1 → Memref sig .tc .vmem S4096x1024 .bf16 := fun | 0 => Memref.whole cc13_stg0_0 | ⟨_ + 1, h⟩ => absurd h (Nat.not_lt.2 (Nat.le_add_left _ _))
abbrev sem13_0 : Fin 1 → DmaSem sig := fun | 0 => cc13_sem0_0 | ⟨_ + 1, h⟩ => absurd h (Nat.not_lt.2 (Nat.le_add_left _ _))
abbrev reads13_0 : Fin grid13.rank → Bool := ![false]

abbrev stage13_1 : Fin 2 → Memref sig .tc .vmem S4096x256 .bf16 := fun | 0 => Memref.whole cc13_stg1_0 | 1 => Memref.whole cc13_stg1_1 | ⟨_ + 2, h⟩ => absurd h (Nat.not_lt.2 (Nat.le_add_left _ _))
abbrev sem13_1 : Fin 2 → DmaSem sig := fun | 0 => cc13_sem1_0 | 1 => cc13_sem1_1 | ⟨_ + 2, h⟩ => absurd h (Nat.not_lt.2 (Nat.le_add_left _ _))
abbrev reads13_1 : Fin grid13.rank → Bool := ![true]

abbrev stage13_2 : Fin 2 → Memref sig .tc .vmem S4x256x256 .bf16 := fun | 0 => Memref.whole cc13_stg2_0 | 1 => Memref.whole cc13_stg2_1 | ⟨_ + 2, h⟩ => absurd h (Nat.not_lt.2 (Nat.le_add_left _ _))
abbrev sem13_2 : Fin 2 → DmaSem sig := fun | 0 => cc13_sem2_0 | 1 => cc13_sem2_1 | ⟨_ + 2, h⟩ => absurd h (Nat.not_lt.2 (Nat.le_add_left _ _))
abbrev reads13_2 : Fin grid13.rank → Bool := ![true]

abbrev grid14 : Pipeline.Grid := ⟨2, ![4, 2], ![false, false]⟩

def cc14_transform_0 (i : grid14.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc14_transform_1 (i : grid14.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc14_transform_3 (i : grid14.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage14_0 : Fin 2 → Memref sig .tc .vmem S1x4096x704 .bf16 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true, false]

abbrev stage14_1 : Fin 2 → Memref sig .tc .vmem S4096x512 .f32 := fun | 0 => Memref.whole cc14_stg1_0 | 1 => Memref.whole cc14_stg1_1 | ⟨_ + 2, h⟩ => absurd h (Nat.not_lt.2 (Nat.le_add_left _ _))
abbrev sem14_1 : Fin 2 → DmaSem sig := fun | 0 => cc14_sem1_0 | 1 => cc14_sem1_1 | ⟨_ + 2, h⟩ => absurd h (Nat.not_lt.2 (Nat.le_add_left _ _))
abbrev reads14_1 : Fin grid14.rank → Bool := ![false, true]

abbrev stage14_2 : Fin 2 → Memref sig .tc .vmem S1x704x512 .bf16 := fun | 0 => Memref.whole cc14_stg2_0 | 1 => Memref.whole cc14_stg2_1 | ⟨_ + 2, h⟩ => absurd h (Nat.not_lt.2 (Nat.le_add_left _ _))
abbrev sem14_2 : Fin 2 → DmaSem sig := fun | 0 => cc14_sem2_0 | 1 => cc14_sem2_1 | ⟨_ + 2, h⟩ => absurd h (Nat.not_lt.2 (Nat.le_add_left _ _))
abbrev reads14_2 : Fin grid14.rank → Bool := ![true, true]

abbrev grid15 : Pipeline.Grid := ⟨1, ![4], ![false]⟩

def cc15_transform_0 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_1 (i : grid15.Coords) : Fin 2 → Nat :=
  let arg0 : BitVec 32 := BitVec.ofNat 32 (i 0).val
  let c0_i32 : BitVec 32 := 0#32
  let c0_i32_0 : BitVec 32 := 0#32
  ![c0_i32.toNat, arg0.toNat]

def cc15_transform_3 (i : grid15.Coords) : Fin 3 → Nat :=
  let arg0 : BitVec 32 := BitVec.ofNat 32 (i 0).val
  let c0_i32 : BitVec 32 := 0#32
  let c11_i32 : BitVec 32 := 11#32
  let c0_i32_0 : BitVec 32 := 0#32
  ![c0_i32.toNat, c11_i32.toNat, arg0.toNat]

abbrev stage15_0 : Fin 1 → Memref sig .tc .vmem S4096x1024 .bf16 := fun | 0 => Memref.whole cc15_stg0_0 | ⟨_ + 1, h⟩ => absurd h (Nat.not_lt.2 (Nat.le_add_left _ _))
abbrev sem15_0 : Fin 1 → DmaSem sig := fun | 0 => cc15_sem0_0 | ⟨_ + 1, h⟩ => absurd h (Nat.not_lt.2 (Nat.le_add_left _ _))
abbrev reads15_0 : Fin grid15.rank → Bool := ![false]

abbrev stage15_1 : Fin 2 → Memref sig .tc .vmem S4096x256 .f32 := fun | 0 => Memref.whole cc15_stg1_0 | 1 => Memref.whole cc15_stg1_1 | ⟨_ + 2, h⟩ => absurd h (Nat.not_lt.2 (Nat.le_add_left _ _))
abbrev sem15_1 : Fin 2 → DmaSem sig := fun | 0 => cc15_sem1_0 | 1 => cc15_sem1_1 | ⟨_ + 2, h⟩ => absurd h (Nat.not_lt.2 (Nat.le_add_left _ _))
abbrev reads15_1 : Fin grid15.rank → Bool := ![true]

abbrev stage15_2 : Fin 2 → Memref sig .tc .vmem S4x256x256 .bf16 := fun | 0 => Memref.whole cc15_stg2_0 | 1 => Memref.whole cc15_stg2_1 | ⟨_ + 2, h⟩ => absurd h (Nat.not_lt.2 (Nat.le_add_left _ _))
abbrev sem15_2 : Fin 2 → DmaSem sig := fun | 0 => cc15_sem2_0 | 1 => cc15_sem2_1 | ⟨_ + 2, h⟩ => absurd h (Nat.not_lt.2 (Nat.le_add_left _ _))
abbrev reads15_2 : Fin grid15.rank → Bool := ![true]
-- ==== Reference5Ideal.lean ====
abbrev S4x4096x1024 : Shape := ⟨3, ![4, 4096, 1024]⟩
abbrev S4x4096x2816 : Shape := ⟨3, ![4, 4096, 2816]⟩
abbrev S2x4096x1024 : Shape := ⟨3, ![2, 4096, 1024]⟩
abbrev S4096x1024 : Shape := ⟨2, ![4096, 1024]⟩
abbrev S4x5888x1024 : Shape := ⟨3, ![4, 5888, 1024]⟩
abbrev S_ : Shape := ⟨0, ![]⟩
abbrev S4x2816x1024 : Shape := ⟨3, ![4, 2816, 1024]⟩
abbrev S4x1024x2816 : Shape := ⟨3, ![4, 1024, 2816]⟩
abbrev S2x1024x1024 : Shape := ⟨3, ![2, 1024, 1024]⟩
abbrev S1x4096x1024 : Shape := ⟨3, ![1, 4096, 1024]⟩
abbrev S1024x1024 : Shape := ⟨2, ![1024, 1024]⟩
abbrev S4x1024x1024 : Shape := ⟨3, ![4, 1024, 1024]⟩

abbrev nBuf : Space → Nat
  | .hbm => 53
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S4x4096x2816, .f32⟩
  | .hbm, ⟨3, _⟩ => ⟨S4x4096x1024, .f32⟩
  | .hbm, ⟨4, _⟩ => ⟨S2x4096x1024, .f32⟩
  | .hbm, ⟨5, _⟩ => ⟨S2x4096x1024, .f32⟩
  | .hbm, ⟨6, _⟩ => ⟨S2x4096x1024, .f32⟩
  | .hbm, ⟨7, _⟩ => ⟨S4x4096x1024, .f32⟩
  | .hbm, ⟨8, _⟩ => ⟨S2x4096x1024, .f32⟩
  | .hbm, ⟨9, _⟩ => ⟨S4096x1024, .f32⟩
  | .hbm, ⟨10, _⟩ => ⟨S4096x1024, .f32⟩
  | .hbm, ⟨11, _⟩ => ⟨S4x5888x1024, .bf16⟩
  | .hbm, ⟨12, _⟩ => ⟨S_, .f32⟩
  | .hbm, ⟨13, _⟩ => ⟨S4x2816x1024, .f32⟩
  | .hbm, ⟨14, _⟩ => ⟨S4x4096x1024, .f32⟩
  | .hbm, ⟨15, _⟩ => ⟨S4x1024x2816, .f32⟩
  | .hbm, ⟨16, _⟩ => ⟨S4x2816x1024, .f32⟩
  | .hbm, ⟨17, _⟩ => ⟨S2x4096x1024, .f32⟩
  | .hbm, ⟨18, _⟩ => ⟨S_, .f32⟩
  | .hbm, ⟨19, _⟩ => ⟨S2x1024x1024, .f32⟩
  | .hbm, ⟨20, _⟩ => ⟨S2x4096x1024, .f32⟩
  | .hbm, ⟨21, _⟩ => ⟨S2x1024x1024, .f32⟩
  | .hbm, ⟨22, _⟩ => ⟨S2x1024x1024, .f32⟩
  | .hbm, ⟨23, _⟩ => ⟨S_, .f32⟩
  | .hbm, ⟨24, _⟩ => ⟨S2x1024x1024, .f32⟩
  | .hbm, ⟨25, _⟩ => ⟨S2x4096x1024, .f32⟩
  | .hbm, ⟨26, _⟩ => ⟨S2x1024x1024, .f32⟩
  | .hbm, ⟨27, _⟩ => ⟨S2x1024x1024, .f32⟩
  | .hbm, ⟨28, _⟩ => ⟨S1x4096x1024, .f32⟩
  | .hbm, ⟨29, _⟩ => ⟨S4096x1024, .f32⟩
  | .hbm, ⟨30, _⟩ => ⟨S_, .f32⟩
  | .hbm, ⟨31, _⟩ => ⟨S1024x1024, .f32⟩
  | .hbm, ⟨32, _⟩ => ⟨S4096x1024, .f32⟩
  | .hbm, ⟨33, _⟩ => ⟨S1024x1024, .f32⟩
  | .hbm, ⟨34, _⟩ => ⟨S1024x1024, .f32⟩
  | .hbm, ⟨35, _⟩ => ⟨S1x4096x1024, .f32⟩
  | .hbm, ⟨36, _⟩ => ⟨S4096x1024, .f32⟩
  | .hbm, ⟨37, _⟩ => ⟨S_, .f32⟩
  | .hbm, ⟨38, _⟩ => ⟨S1024x1024, .f32⟩
  | .hbm, ⟨39, _⟩ => ⟨S4096x1024, .f32⟩
  | .hbm, ⟨40, _⟩ => ⟨S1024x1024, .f32⟩
  | .hbm, ⟨41, _⟩ => ⟨S1024x1024, .f32⟩
  | .hbm, ⟨42, _⟩ => ⟨S2x4096x1024, .f32⟩
  | .hbm, ⟨43, _⟩ => ⟨S_, .f32⟩
  | .hbm, ⟨44, _⟩ => ⟨S2x1024x1024, .f32⟩
  | .hbm, ⟨45, _⟩ => ⟨S2x4096x1024, .f32⟩
  | .hbm, ⟨46, _⟩ => ⟨S2x1024x1024, .f32⟩
  | .hbm, ⟨47, _⟩ => ⟨S2x1024x1024, .f32⟩
  | .hbm, ⟨48, _⟩ => ⟨S_, .f32⟩
  | .hbm, ⟨49, _⟩ => ⟨S4x1024x1024, .f32⟩
  | .hbm, ⟨50, _⟩ => ⟨S4x4096x1024, .f32⟩
  | .hbm, ⟨51, _⟩ => ⟨S4x1024x1024, .f32⟩
  | .hbm, ⟨52, _⟩ => ⟨S4x1024x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_1 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_3 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_4 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_5 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩

abbrev nD : Nat := 1
abbrev τ : Topo := Topo.v7x

variable {F : FTy → Type} [FloatOps F]
-- ==== Kernel6.lean ====
abbrev S4x4096x1024 : Shape := ⟨3, ![4, 4096, 1024]⟩
abbrev S2x4096x1024 : Shape := ⟨3, ![2, 4096, 1024]⟩
abbrev S4096x1024 : Shape := ⟨2, ![4096, 1024]⟩
abbrev S4x1024x1024 : Shape := ⟨3, ![4, 1024, 1024]⟩
abbrev S2x1024x1024 : Shape := ⟨3, ![2, 1024, 1024]⟩
abbrev S1024x1024 : Shape := ⟨2, ![1024, 1024]⟩
abbrev S1x4096x1024 : Shape := ⟨3, ![1, 4096, 1024]⟩
abbrev S4x4x256x1024 : Shape := ⟨4, ![4, 4, 256, 1024]⟩
abbrev S1x1x256x1024 : Shape := ⟨4, ![1, 1, 256, 1024]⟩
abbrev S256x1024 : Shape := ⟨2, ![256, 1024]⟩
abbrev S1024x256 : Shape := ⟨2, ![1024, 256]⟩
abbrev S2x4x256x1024 : Shape := ⟨4, ![2, 4, 256, 1024]⟩
abbrev S4x2x256x1024 : Shape := ⟨4, ![4, 2, 256, 1024]⟩
abbrev S1x1024x1024 : Shape := ⟨3, ![1, 1024, 1024]⟩
abbrev S1x4x256x1024 : Shape := ⟨4, ![1, 4, 256, 1024]⟩
abbrev S4x1x256x1024 : Shape := ⟨4, ![4, 1, 256, 1024]⟩

abbrev nBuf : Space → Nat
  | .hbm => 98
  | .vmem => 112
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S4x4096x1024, .f32⟩
  | .hbm, ⟨3, _⟩ => ⟨S2x4096x1024, .f32⟩
  | .hbm, ⟨4, _⟩ => ⟨S4096x1024, .f32⟩
  | .hbm, ⟨5, _⟩ => ⟨S4096x1024, .f32⟩
  | .hbm, ⟨6, _⟩ => ⟨S4x1024x1024, .f32⟩
  | .hbm, ⟨7, _⟩ => ⟨S2x1024x1024, .f32⟩
  | .hbm, ⟨8, _⟩ => ⟨S2x1024x1024, .f32⟩
  | .hbm, ⟨9, _⟩ => ⟨S2x1024x1024, .f32⟩
  | .hbm, ⟨10, _⟩ => ⟨S1024x1024, .f32⟩
  | .hbm, ⟨11, _⟩ => ⟨S1024x1024, .f32⟩
  | .hbm, ⟨12, _⟩ => ⟨S1x4096x1024, .f32⟩
  | .hbm, ⟨13, _⟩ => ⟨S4096x1024, .f32⟩
  | .hbm, ⟨14, _⟩ => ⟨S4096x1024, .bf16⟩
  | .hbm, ⟨15, _⟩ => ⟨S4x1024x1024, .bf16⟩
  | .hbm, ⟨16, _⟩ => ⟨S4x4x256x1024, .bf16⟩
  | .hbm, ⟨17, _⟩ => ⟨S4x4x256x1024, .bf16⟩
  | .hbm, ⟨18, _⟩ => ⟨S1x4096x1024, .f32⟩
  | .hbm, ⟨19, _⟩ => ⟨S4096x1024, .f32⟩
  | .hbm, ⟨20, _⟩ => ⟨S4096x1024, .f32⟩
  | .hbm, ⟨21, _⟩ => ⟨S1x4096x1024, .f32⟩
  | .hbm, ⟨22, _⟩ => ⟨S4096x1024, .f32⟩
  | .hbm, ⟨23, _⟩ => ⟨S2x1024x1024, .bf16⟩
  | .hbm, ⟨24, _⟩ => ⟨S2x4x256x1024, .bf16⟩
  | .hbm, ⟨25, _⟩ => ⟨S4x2x256x1024, .bf16⟩
  | .hbm, ⟨26, _⟩ => ⟨S4096x1024, .f32⟩
  | .hbm, ⟨27, _⟩ => ⟨S1x4096x1024, .f32⟩
  | .hbm, ⟨28, _⟩ => ⟨S4096x1024, .f32⟩
  | .hbm, ⟨29, _⟩ => ⟨S2x1024x1024, .bf16⟩
  | .hbm, ⟨30, _⟩ => ⟨S2x4x256x1024, .bf16⟩
  | .hbm, ⟨31, _⟩ => ⟨S4x2x256x1024, .bf16⟩
  | .hbm, ⟨32, _⟩ => ⟨S1x4096x1024, .f32⟩
  | .hbm, ⟨33, _⟩ => ⟨S4096x1024, .f32⟩
  | .hbm, ⟨34, _⟩ => ⟨S4096x1024, .f32⟩
  | .hbm, ⟨35, _⟩ => ⟨S1x4096x1024, .f32⟩
  | .hbm, ⟨36, _⟩ => ⟨S4096x1024, .f32⟩
  | .hbm, ⟨37, _⟩ => ⟨S4096x1024, .bf16⟩
  | .hbm, ⟨38, _⟩ => ⟨S4x1024x1024, .bf16⟩
  | .hbm, ⟨39, _⟩ => ⟨S4x4x256x1024, .bf16⟩
  | .hbm, ⟨40, _⟩ => ⟨S4x4x256x1024, .bf16⟩
  | .hbm, ⟨41, _⟩ => ⟨S1x4096x1024, .f32⟩
  | .hbm, ⟨42, _⟩ => ⟨S4096x1024, .f32⟩
  | .hbm, ⟨43, _⟩ => ⟨S4096x1024, .f32⟩
  | .hbm, ⟨44, _⟩ => ⟨S1x4096x1024, .f32⟩
  | .hbm, ⟨45, _⟩ => ⟨S4096x1024, .f32⟩
  | .hbm, ⟨46, _⟩ => ⟨S2x1024x1024, .bf16⟩
  | .hbm, ⟨47, _⟩ => ⟨S2x4x256x1024, .bf16⟩
  | .hbm, ⟨48, _⟩ => ⟨S4x2x256x1024, .bf16⟩
  | .hbm, ⟨49, _⟩ => ⟨S4096x1024, .f32⟩
  | .hbm, ⟨50, _⟩ => ⟨S1x4096x1024, .f32⟩
  | .hbm, ⟨51, _⟩ => ⟨S4096x1024, .f32⟩
  | .hbm, ⟨52, _⟩ => ⟨S2x1024x1024, .bf16⟩
  | .hbm, ⟨53, _⟩ => ⟨S2x4x256x1024, .bf16⟩
  | .hbm, ⟨54, _⟩ => ⟨S4x2x256x1024, .bf16⟩
  | .hbm, ⟨55, _⟩ => ⟨S1x4096x1024, .f32⟩
  | .hbm, ⟨56, _⟩ => ⟨S4096x1024, .f32⟩
  | .hbm, ⟨57, _⟩ => ⟨S4096x1024, .f32⟩
  | .hbm, ⟨58, _⟩ => ⟨S1x1024x1024, .f32⟩
  | .hbm, ⟨59, _⟩ => ⟨S1x1024x1024, .bf16⟩
  | .hbm, ⟨60, _⟩ => ⟨S1x4x256x1024, .bf16⟩
  | .hbm, ⟨61, _⟩ => ⟨S4x1x256x1024, .bf16⟩
  | .hbm, ⟨62, _⟩ => ⟨S4096x1024, .f32⟩
  | .hbm, ⟨63, _⟩ => ⟨S1x1024x1024, .f32⟩
  | .hbm, ⟨64, _⟩ => ⟨S1x1024x1024, .bf16⟩
  | .hbm, ⟨65, _⟩ => ⟨S1x4x256x1024, .bf16⟩
  | .hbm, ⟨66, _⟩ => ⟨S4x1x256x1024, .bf16⟩
  | .hbm, ⟨67, _⟩ => ⟨S4096x1024, .f32⟩
  | .hbm, ⟨68, _⟩ => ⟨S1x4096x1024, .f32⟩
  | .hbm, ⟨69, _⟩ => ⟨S4096x1024, .f32⟩
  | .hbm, ⟨70, _⟩ => ⟨S4096x1024, .bf16⟩
  | .hbm, ⟨71, _⟩ => ⟨S4x1024x1024, .bf16⟩
  | .hbm, ⟨72, _⟩ => ⟨S4x4x256x1024, .bf16⟩
  | .hbm, ⟨73, _⟩ => ⟨S4x4x256x1024, .bf16⟩
  | .hbm, ⟨74, _⟩ => ⟨S1x4096x1024, .f32⟩
  | .hbm, ⟨75, _⟩ => ⟨S4096x1024, .f32⟩
  | .hbm, ⟨76, _⟩ => ⟨S4096x1024, .f32⟩
  | .hbm, ⟨77, _⟩ => ⟨S1x4096x1024, .f32⟩
  | .hbm, ⟨78, _⟩ => ⟨S4096x1024, .f32⟩
  | .hbm, ⟨79, _⟩ => ⟨S2x1024x1024, .bf16⟩
  | .hbm, ⟨80, _⟩ => ⟨S2x4x256x1024, .bf16⟩
  | .hbm, ⟨81, _⟩ => ⟨S4x2x256x1024, .bf16⟩
  | .hbm, ⟨82, _⟩ => ⟨S4096x1024, .f32⟩
  | .hbm, ⟨83, _⟩ => ⟨S1x4096x1024, .f32⟩
  | .hbm, ⟨84, _⟩ => ⟨S4096x1024, .f32⟩
  | .hbm, ⟨85, _⟩ => ⟨S4096x1024, .bf16⟩
  | .hbm, ⟨86, _⟩ => ⟨S4x1024x1024, .bf16⟩
  | .hbm, ⟨87, _⟩ => ⟨S4x4x256x1024, .bf16⟩
  | .hbm, ⟨88, _⟩ => ⟨S4x4x256x1024, .bf16⟩
  | .hbm, ⟨89, _⟩ => ⟨S1x4096x1024, .f32⟩
  | .hbm, ⟨90, _⟩ => ⟨S4096x1024, .f32⟩
  | .hbm, ⟨91, _⟩ => ⟨S4096x1024, .f32⟩
  | .hbm, ⟨92, _⟩ => ⟨S1x4096x1024, .f32⟩
  | .hbm, ⟨93, _⟩ => ⟨S4096x1024, .f32⟩
  | .hbm, ⟨94, _⟩ => ⟨S2x1024x1024, .bf16⟩
  | .hbm, ⟨95, _⟩ => ⟨S2x4x256x1024, .bf16⟩
  | .hbm, ⟨96, _⟩ => ⟨S4x2x256x1024, .bf16⟩
  | .hbm, ⟨97, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1x256x1024, .bf16⟩
  | .local _ .vmem, ⟨3, _⟩ => ⟨S1x1x256x1024, .bf16⟩
  | .local _ .vmem, ⟨4, _⟩ => ⟨S1x1x256x1024, .bf16⟩
  | .local _ .vmem, ⟨5, _⟩ => ⟨S1x1x256x1024, .bf16⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S1x1x256x1024, .bf16⟩
  | .local _ .vmem, ⟨13, _⟩ => ⟨S1x1x256x1024, .bf16⟩
  | .local _ .vmem, ⟨14, _⟩ => ⟨S1x1x256x1024, .bf16⟩
  | .local _ .vmem, ⟨15, _⟩ => ⟨S1x1x256x1024, .bf16⟩
  | .local _ .vmem, ⟨16, _⟩ => ⟨S1024x1024, .f32⟩
  | .local _ .vmem, ⟨17, _⟩ => ⟨S1024x1024, .f32⟩
  | .local _ .vmem, ⟨18, _⟩ => ⟨S1024x1024, .f32⟩
  | .local _ .vmem, ⟨19, _⟩ => ⟨S1024x1024, .f32⟩
  | .local _ .vmem, ⟨20, _⟩ => ⟨S1x1x256x1024, .bf16⟩
  | .local _ .vmem, ⟨21, _⟩ => ⟨S1x1x256x1024, .bf16⟩
  | .local _ .vmem, ⟨22, _⟩ => ⟨S1x1x256x1024, .bf16⟩
  | .local _ .vmem, ⟨23, _⟩ => ⟨S1x1x256x1024, .bf16⟩
  | .local _ .vmem, ⟨24, _⟩ => ⟨S1024x1024, .f32⟩
  | .local _ .vmem, ⟨25, _⟩ => ⟨S1024x1024, .f32⟩
  | .local _ .vmem, ⟨26, _⟩ => ⟨S1024x1024, .f32⟩
  | .local _ .vmem, ⟨27, _⟩ => ⟨S1024x1024, .f32⟩
  | .local _ .vmem, ⟨28, _⟩ => ⟨S1024x1024, .bf16⟩
  | .local _ .vmem, ⟨29, _⟩ => ⟨S1024x1024, .bf16⟩
  | .local _ .vmem, ⟨30, _⟩ => ⟨S1x1x256x1024, .bf16⟩
  | .local _ .vmem, ⟨31, _⟩ => ⟨S1x1x256x1024, .bf16⟩
  | .local _ .vmem, ⟨32, _⟩ => ⟨S1x1x256x1024, .bf16⟩
  | .local _ .vmem, ⟨33, _⟩ => ⟨S1x1x256x1024, .bf16⟩
  | .local _ .vmem, ⟨34, _⟩ => ⟨S1024x1024, .f32⟩
  | .local _ .vmem, ⟨35, _⟩ => ⟨S1024x1024, .f32⟩
  | .local _ .vmem, ⟨36, _⟩ => ⟨S1024x1024, .f32⟩
  | .local _ .vmem, ⟨37, _⟩ => ⟨S1024x1024, .f32⟩
  | .local _ .vmem, ⟨38, _⟩ => ⟨S1024x1024, .f32⟩
  | .local _ .vmem, ⟨39, _⟩ => ⟨S1024x1024, .f32⟩
  | .local _ .vmem, ⟨40, _⟩ => ⟨S1x1x256x1024, .bf16⟩
  | .local _ .vmem, ⟨41, _⟩ => ⟨S1x1x256x1024, .bf16⟩
  | .local _ .vmem, ⟨42, _⟩ => ⟨S1x1x256x1024, .bf16⟩
  | .local _ .vmem, ⟨43, _⟩ => ⟨S1x1x256x1024, .bf16⟩
  | .local _ .vmem, ⟨44, _⟩ => ⟨S1024x1024, .f32⟩
  | .local _ .vmem, ⟨45, _⟩ => ⟨S1024x1024, .f32⟩
  | .local _ .vmem, ⟨46, _⟩ => ⟨S1024x1024, .f32⟩
  | .local _ .vmem, ⟨47, _⟩ => ⟨S1024x1024, .f32⟩
  | .local _ .vmem, ⟨48, _⟩ => ⟨S1x1x256x1024, .bf16⟩
  | .local _ .vmem, ⟨49, _⟩ => ⟨S1x1x256x1024, .bf16⟩
  | .local _ .vmem, ⟨50, _⟩ => ⟨S1x1x256x1024, .bf16⟩
  | .local _ .vmem, ⟨51, _⟩ => ⟨S1x1x256x1024, .bf16⟩
  | .local _ .vmem, ⟨52, _⟩ => ⟨S1024x1024, .f32⟩
  | .local _ .vmem, ⟨53, _⟩ => ⟨S1024x1024, .f32⟩
  | .local _ .vmem, ⟨54, _⟩ => ⟨S1024x1024, .f32⟩
  | .local _ .vmem, ⟨55, _⟩ => ⟨S1024x1024, .f32⟩
  | .local _ .vmem, ⟨56, _⟩ => ⟨S1024x1024, .f32⟩
  | .local _ .vmem, ⟨57, _⟩ => ⟨S1024x1024, .f32⟩
  | .local _ .vmem, ⟨58, _⟩ => ⟨S1x1x256x1024, .bf16⟩
  | .local _ .vmem, ⟨59, _⟩ => ⟨S1x1x256x1024, .bf16⟩
  | .local _ .vmem, ⟨60, _⟩ => ⟨S1x1x256x1024, .bf16⟩
  | .local _ .vmem, ⟨61, _⟩ => ⟨S1x1x256x1024, .bf16⟩
  | .local _ .vmem, ⟨62, _⟩ => ⟨S1024x1024, .f32⟩
  | .local _ .vmem, ⟨63, _⟩ => ⟨S1024x1024, .f32⟩
  | .local _ .vmem, ⟨64, _⟩ => ⟨S1024x1024, .f32⟩
  | .local _ .vmem, ⟨65, _⟩ => ⟨S1024x1024, .f32⟩
  | .local _ .vmem, ⟨66, _⟩ => ⟨S1024x1024, .f32⟩
  | .local _ .vmem, ⟨67, _⟩ => ⟨S1024x1024, .f32⟩
  | .local _ .vmem, ⟨68, _⟩ => ⟨S1x1x256x1024, .bf16⟩
  | .local _ .vmem, ⟨69, _⟩ => ⟨S1x1x256x1024, .bf16⟩
  | .local _ .vmem, ⟨70, _⟩ => ⟨S1x1x256x1024, .bf16⟩
  | .local _ .vmem, ⟨71, _⟩ => ⟨S1x1x256x1024, .bf16⟩
  | .local _ .vmem, ⟨72, _⟩ => ⟨S1024x1024, .f32⟩
  | .local _ .vmem, ⟨73, _⟩ => ⟨S1024x1024, .f32⟩
  | .local _ .vmem, ⟨74, _⟩ => ⟨S1024x1024, .f32⟩
  | .local _ .vmem, ⟨75, _⟩ => ⟨S1024x1024, .f32⟩
  | .local _ .vmem, ⟨76, _⟩ => ⟨S1024x1024, .bf16⟩
  | .local _ .vmem, ⟨77, _⟩ => ⟨S1024x1024, .bf16⟩
  | .local _ .vmem, ⟨78, _⟩ => ⟨S1x1x256x1024, .bf16⟩
  | .local _ .vmem, ⟨79, _⟩ => ⟨S1x1x256x1024, .bf16⟩
  | .local _ .vmem, ⟨80, _⟩ => ⟨S1x1x256x1024, .bf16⟩
  | .local _ .vmem, ⟨81, _⟩ => ⟨S1x1x256x1024, .bf16⟩
  | .local _ .vmem, ⟨82, _⟩ => ⟨S1024x1024, .f32⟩
  | .local _ .vmem, ⟨83, _⟩ => ⟨S1024x1024, .f32⟩
  | .local _ .vmem, ⟨84, _⟩ => ⟨S1024x1024, .f32⟩
  | .local _ .vmem, ⟨85, _⟩ => ⟨S1024x1024, .f32⟩
  | .local _ .vmem, ⟨86, _⟩ => ⟨S1024x1024, .f32⟩
  | .local _ .vmem, ⟨87, _⟩ => ⟨S1024x1024, .f32⟩
  | .local _ .vmem, ⟨88, _⟩ => ⟨S1x1x256x1024, .bf16⟩
  | .local _ .vmem, ⟨89, _⟩ => ⟨S1x1x256x1024, .bf16⟩
  | .local _ .vmem, ⟨90, _⟩ => ⟨S1x1x256x1024, .bf16⟩
  | .local _ .vmem, ⟨91, _⟩ => ⟨S1x1x256x1024, .bf16⟩
  | .local _ .vmem, ⟨92, _⟩ => ⟨S1024x1024, .f32⟩
  | .local _ .vmem, ⟨93, _⟩ => ⟨S1024x1024, .f32⟩
  | .local _ .vmem, ⟨94, _⟩ => ⟨S1024x1024, .bf16⟩
  | .local _ .vmem, ⟨95, _⟩ => ⟨S1024x1024, .bf16⟩
  | .local _ .vmem, ⟨96, _⟩ => ⟨S1x1x256x1024, .bf16⟩
  | .local _ .vmem, ⟨97, _⟩ => ⟨S1x1x256x1024, .bf16⟩
  | .local _ .vmem, ⟨98, _⟩ => ⟨S1x1x256x1024, .bf16⟩
  | .local _ .vmem, ⟨99, _⟩ => ⟨S1x1x256x1024, .bf16⟩
  | .local _ .vmem, ⟨100, _⟩ => ⟨S1024x1024, .f32⟩
  | .local _ .vmem, ⟨101, _⟩ => ⟨S1024x1024, .f32⟩
  | .local _ .vmem, ⟨102, _⟩ => ⟨S1024x1024, .f32⟩
  | .local _ .vmem, ⟨103, _⟩ => ⟨S1024x1024, .f32⟩
  | .local _ .vmem, ⟨104, _⟩ => ⟨S1024x1024, .f32⟩
  | .local _ .vmem, ⟨105, _⟩ => ⟨S1024x1024, .f32⟩
  | .local _ .vmem, ⟨106, _⟩ => ⟨S1x1x256x1024, .bf16⟩
  | .local _ .vmem, ⟨107, _⟩ => ⟨S1x1x256x1024, .bf16⟩
  | .local _ .vmem, ⟨108, _⟩ => ⟨S1x1x256x1024, .bf16⟩
  | .local _ .vmem, ⟨109, _⟩ => ⟨S1x1x256x1024, .bf16⟩
  | .local _ .vmem, ⟨110, _⟩ => ⟨S1024x1024, .f32⟩
  | .local _ .vmem, ⟨111, _⟩ => ⟨S1024x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | .vmem, ⟨110, _⟩ => true
  | .vmem, ⟨111, _⟩ => true
  | _, _ => false

abbrev semScoped : Fin 0 → Bool
  | ⟨_, h⟩ => absurd h (Nat.not_lt_zero _)

abbrev dmaSemScoped : Fin 112 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | _ => false

abbrev sig : RefSig :=
  ofTc nBuf bufTy 0 112 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc2_stg6_0 : Ref sig .tc := ⟨.vmem, 26, rfl⟩
abbrev cc2_stg6_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc3_stg6_0 : Ref sig .tc := ⟨.vmem, 36, rfl⟩
abbrev cc3_stg6_1 : Ref sig .tc := ⟨.vmem, 37, rfl⟩
abbrev cc4_stg0_0 : Ref sig .tc := ⟨.vmem, 38, rfl⟩
abbrev cc4_stg0_1 : Ref sig .tc := ⟨.vmem, 39, rfl⟩
abbrev cc4_stg1_0 : Ref sig .tc := ⟨.vmem, 40, rfl⟩
abbrev cc4_stg2_0 : Ref sig .tc := ⟨.vmem, 41, rfl⟩
abbrev cc4_stg3_0 : Ref sig .tc := ⟨.vmem, 42, rfl⟩
abbrev cc4_stg4_0 : Ref sig .tc := ⟨.vmem, 43, rfl⟩
abbrev cc4_stg5_0 : Ref sig .tc := ⟨.vmem, 44, rfl⟩
abbrev cc4_stg5_1 : Ref sig .tc := ⟨.vmem, 45, rfl⟩
abbrev cc5_stg0_0 : Ref sig .tc := ⟨.vmem, 46, rfl⟩
abbrev cc5_stg0_1 : Ref sig .tc := ⟨.vmem, 47, rfl⟩
abbrev cc5_stg1_0 : Ref sig .tc := ⟨.vmem, 48, rfl⟩
abbrev cc5_stg2_0 : Ref sig .tc := ⟨.vmem, 49, rfl⟩
abbrev cc5_stg3_0 : Ref sig .tc := ⟨.vmem, 50, rfl⟩
abbrev cc5_stg4_0 : Ref sig .tc := ⟨.vmem, 51, rfl⟩
abbrev cc5_stg5_0 : Ref sig .tc := ⟨.vmem, 52, rfl⟩
abbrev cc5_stg5_1 : Ref sig .tc := ⟨.vmem, 53, rfl⟩
abbrev cc5_stg6_0 : Ref sig .tc := ⟨.vmem, 54, rfl⟩
abbrev cc5_stg6_1 : Ref sig .tc := ⟨.vmem, 55, rfl⟩
abbrev cc6_stg0_0 : Ref sig .tc := ⟨.vmem, 56, rfl⟩
abbrev cc6_stg0_1 : Ref sig .tc := ⟨.vmem, 57, rfl⟩
abbrev cc6_stg1_0 : Ref sig .tc := ⟨.vmem, 58, rfl⟩
abbrev cc6_stg2_0 : Ref sig .tc := ⟨.vmem, 59, rfl⟩
abbrev cc6_stg3_0 : Ref sig .tc := ⟨.vmem, 60, rfl⟩
abbrev cc6_stg4_0 : Ref sig .tc := ⟨.vmem, 61, rfl⟩
abbrev cc6_stg5_0 : Ref sig .tc := ⟨.vmem, 62, rfl⟩
abbrev cc6_stg5_1 : Ref sig .tc := ⟨.vmem, 63, rfl⟩
abbrev cc6_stg6_0 : Ref sig .tc := ⟨.vmem, 64, rfl⟩
abbrev cc6_stg6_1 : Ref sig .tc := ⟨.vmem, 65, rfl⟩
abbrev cc7_stg0_0 : Ref sig .tc := ⟨.vmem, 66, rfl⟩
abbrev cc7_stg0_1 : Ref sig .tc := ⟨.vmem, 67, rfl⟩
abbrev cc7_stg1_0 : Ref sig .tc := ⟨.vmem, 68, rfl⟩
abbrev cc7_stg2_0 : Ref sig .tc := ⟨.vmem, 69, rfl⟩
abbrev cc7_stg3_0 : Ref sig .tc := ⟨.vmem, 70, rfl⟩
abbrev cc7_stg4_0 : Ref sig .tc := ⟨.vmem, 71, rfl⟩
abbrev cc7_stg5_0 : Ref sig .tc := ⟨.vmem, 72, rfl⟩
abbrev cc7_stg5_1 : Ref sig .tc := ⟨.vmem, 73, rfl⟩
abbrev cc7_stg6_0 : Ref sig .tc := ⟨.vmem, 74, rfl⟩
abbrev cc7_stg6_1 : Ref sig .tc := ⟨.vmem, 75, rfl⟩
abbrev cc8_stg0_0 : Ref sig .tc := ⟨.vmem, 76, rfl⟩
abbrev cc8_stg0_1 : Ref sig .tc := ⟨.vmem, 77, rfl⟩
abbrev cc8_stg1_0 : Ref sig .tc := ⟨.vmem, 78, rfl⟩
abbrev cc8_stg2_0 : Ref sig .tc := ⟨.vmem, 79, rfl⟩
abbrev cc8_stg3_0 : Ref sig .tc := ⟨.vmem, 80, rfl⟩
abbrev cc8_stg4_0 : Ref sig .tc := ⟨.vmem, 81, rfl⟩
abbrev cc8_stg5_0 : Ref sig .tc := ⟨.vmem, 82, rfl⟩
abbrev cc8_stg5_1 : Ref sig .tc := ⟨.vmem, 83, rfl⟩
abbrev cc8_stg6_0 : Ref sig .tc := ⟨.vmem, 84, rfl⟩
abbrev cc8_stg6_1 : Ref sig .tc := ⟨.vmem, 85, rfl⟩
abbrev cc9_stg0_0 : Ref sig .tc := ⟨.vmem, 86, rfl⟩
abbrev cc9_stg0_1 : Ref sig .tc := ⟨.vmem, 87, rfl⟩
abbrev cc9_stg1_0 : Ref sig .tc := ⟨.vmem, 88, rfl⟩
abbrev cc9_stg2_0 : Ref sig .tc := ⟨.vmem, 89, rfl⟩
abbrev cc9_stg3_0 : Ref sig .tc := ⟨.vmem, 90, rfl⟩
abbrev cc9_stg4_0 : Ref sig .tc := ⟨.vmem, 91, rfl⟩
abbrev cc9_stg5_0 : Ref sig .tc := ⟨.vmem, 92, rfl⟩
abbrev cc9_stg5_1 : Ref sig .tc := ⟨.vmem, 93, rfl⟩
abbrev cc10_stg0_0 : Ref sig .tc := ⟨.vmem, 94, rfl⟩
abbrev cc10_stg0_1 : Ref sig .tc := ⟨.vmem, 95, rfl⟩
abbrev cc10_stg1_0 : Ref sig .tc := ⟨.vmem, 96, rfl⟩
abbrev cc10_stg2_0 : Ref sig .tc := ⟨.vmem, 97, rfl⟩
abbrev cc10_stg3_0 : Ref sig .tc := ⟨.vmem, 98, rfl⟩
abbrev cc10_stg4_0 : Ref sig .tc := ⟨.vmem, 99, rfl⟩
abbrev cc10_stg5_0 : Ref sig .tc := ⟨.vmem, 100, rfl⟩
abbrev cc10_stg5_1 : Ref sig .tc := ⟨.vmem, 101, rfl⟩
abbrev cc10_stg6_0 : Ref sig .tc := ⟨.vmem, 102, rfl⟩
abbrev cc10_stg6_1 : Ref sig .tc := ⟨.vmem, 103, rfl⟩
abbrev cc11_stg0_0 : Ref sig .tc := ⟨.vmem, 104, rfl⟩
abbrev cc11_stg0_1 : Ref sig .tc := ⟨.vmem, 105, rfl⟩
abbrev cc11_stg1_0 : Ref sig .tc := ⟨.vmem, 106, rfl⟩
abbrev cc11_stg2_0 : Ref sig .tc := ⟨.vmem, 107, rfl⟩
abbrev cc11_stg3_0 : Ref sig .tc := ⟨.vmem, 108, rfl⟩
abbrev cc11_stg4_0 : Ref sig .tc := ⟨.vmem, 109, rfl⟩
abbrev cc11_stg5_0 : Ref sig .tc := ⟨.vmem, 110, rfl⟩
abbrev cc11_stg5_1 : Ref sig .tc := ⟨.vmem, 111, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem5_1 : DmaSem sig := 25
abbrev cc2_sem6_0 : DmaSem sig := 26
abbrev cc2_sem6_1 : DmaSem sig := 27
abbrev cc3_sem0_0 : DmaSem sig := 28
abbrev cc3_sem0_1 : DmaSem sig := 29
abbrev cc3_sem1_0 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35
abbrev cc3_sem6_0 : DmaSem sig := 36
abbrev cc3_sem6_1 : DmaSem sig := 37
abbrev cc4_sem0_0 : DmaSem sig := 38
abbrev cc4_sem0_1 : DmaSem sig := 39
abbrev cc4_sem1_0 : DmaSem sig := 40
abbrev cc4_sem2_0 : DmaSem sig := 41
abbrev cc4_sem3_0 : DmaSem sig := 42
abbrev cc4_sem4_0 : DmaSem sig := 43
abbrev cc4_sem5_0 : DmaSem sig := 44
abbrev cc4_sem5_1 : DmaSem sig := 45
abbrev cc5_sem0_0 : DmaSem sig := 46
abbrev cc5_sem0_1 : DmaSem sig := 47
abbrev cc5_sem1_0 : DmaSem sig := 48
abbrev cc5_sem2_0 : DmaSem sig := 49
abbrev cc5_sem3_0 : DmaSem sig := 50
abbrev cc5_sem4_0 : DmaSem sig := 51
abbrev cc5_sem5_0 : DmaSem sig := 52
abbrev cc5_sem5_1 : DmaSem sig := 53
abbrev cc5_sem6_0 : DmaSem sig := 54
abbrev cc5_sem6_1 : DmaSem sig := 55
abbrev cc6_sem0_0 : DmaSem sig := 56
abbrev cc6_sem0_1 : DmaSem sig := 57
abbrev cc6_sem1_0 : DmaSem sig := 58
abbrev cc6_sem2_0 : DmaSem sig := 59
abbrev cc6_sem3_0 : DmaSem sig := 60
abbrev cc6_sem4_0 : DmaSem sig := 61
abbrev cc6_sem5_0 : DmaSem sig := 62
abbrev cc6_sem5_1 : DmaSem sig := 63
abbrev cc6_sem6_0 : DmaSem sig := 64
abbrev cc6_sem6_1 : DmaSem sig := 65
abbrev cc7_sem0_0 : DmaSem sig := 66
abbrev cc7_sem0_1 : DmaSem sig := 67
abbrev cc7_sem1_0 : DmaSem sig := 68
abbrev cc7_sem2_0 : DmaSem sig := 69
abbrev cc7_sem3_0 : DmaSem sig := 70
abbrev cc7_sem4_0 : DmaSem sig := 71
abbrev cc7_sem5_0 : DmaSem sig := 72
abbrev cc7_sem5_1 : DmaSem sig := 73
abbrev cc7_sem6_0 : DmaSem sig := 74
abbrev cc7_sem6_1 : DmaSem sig := 75
abbrev cc8_sem0_0 : DmaSem sig := 76
abbrev cc8_sem0_1 : DmaSem sig := 77
abbrev cc8_sem1_0 : DmaSem sig := 78
abbrev cc8_sem2_0 : DmaSem sig := 79
abbrev cc8_sem3_0 : DmaSem sig := 80
abbrev cc8_sem4_0 : DmaSem sig := 81
abbrev cc8_sem5_0 : DmaSem sig := 82
abbrev cc8_sem5_1 : DmaSem sig := 83
abbrev cc8_sem6_0 : DmaSem sig := 84
abbrev cc8_sem6_1 : DmaSem sig := 85
abbrev cc9_sem0_0 : DmaSem sig := 86
abbrev cc9_sem0_1 : DmaSem sig := 87
abbrev cc9_sem1_0 : DmaSem sig := 88
abbrev cc9_sem2_0 : DmaSem sig := 89
abbrev cc9_sem3_0 : DmaSem sig := 90
abbrev cc9_sem4_0 : DmaSem sig := 91
abbrev cc9_sem5_0 : DmaSem sig := 92
abbrev cc9_sem5_1 : DmaSem sig := 93
abbrev cc10_sem0_0 : DmaSem sig := 94
abbrev cc10_sem0_1 : DmaSem sig := 95
abbrev cc10_sem1_0 : DmaSem sig := 96
abbrev cc10_sem2_0 : DmaSem sig := 97
abbrev cc10_sem3_0 : DmaSem sig := 98
abbrev cc10_sem4_0 : DmaSem sig := 99
abbrev cc10_sem5_0 : DmaSem sig := 100
abbrev cc10_sem5_1 : DmaSem sig := 101
abbrev cc10_sem6_0 : DmaSem sig := 102
abbrev cc10_sem6_1 : DmaSem sig := 103
abbrev cc11_sem0_0 : DmaSem sig := 104
abbrev cc11_sem0_1 : DmaSem sig := 105
abbrev cc11_sem1_0 : DmaSem sig := 106
abbrev cc11_sem2_0 : DmaSem sig := 107
abbrev cc11_sem3_0 : DmaSem sig := 108
abbrev cc11_sem4_0 : DmaSem sig := 109
abbrev cc11_sem5_0 : DmaSem sig := 110
abbrev cc11_sem5_1 : DmaSem sig := 111

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c3_i32 : BitVec 32 := 3#32
  let c0_i32_0 : BitVec 32 := 0#32
  let c0_i32_1 : BitVec 32 := 0#32
  let c0_i32_2 : BitVec 32 := 0#32
  ![c0_i32.toNat, c3_i32.toNat, c0_i32_0.toNat, c0_i32_1.toNat]

def cc0_transform_2 (i : grid0.Coords) : Fin 4 → Nat :=
  let arg0 : BitVec 32 := BitVec.ofNat 32 (i 0).val
  let c1_i32 : BitVec 32 := 1#32
  let c3_i32 : BitVec 32 := 3#32
  let c0_i32 : BitVec 32 := 0#32
  let c0_i32_0 : BitVec 32 := 0#32
  let c0_i32_1 : BitVec 32 := 0#32
  ![c1_i32.toNat, c3_i32.toNat, c0_i32.toNat, c0_i32_0.toNat]

def cc0_transform_3 (i : grid0.Coords) : Fin 4 → Nat :=
  let arg0 : BitVec 32 := BitVec.ofNat 32 (i 0).val
  let c2_i32 : BitVec 32 := 2#32
  let c3_i32 : BitVec 32 := 3#32
  let c0_i32 : BitVec 32 := 0#32
  let c0_i32_0 : BitVec 32 := 0#32
  let c0_i32_1 : BitVec 32 := 0#32
  ![c2_i32.toNat, c3_i32.toNat, c0_i32.toNat, c0_i32_0.toNat]

def cc0_transform_4 (i : grid0.Coords) : Fin 4 → Nat :=
  let arg0 : BitVec 32 := BitVec.ofNat 32 (i 0).val
  let c3_i32 : BitVec 32 := 3#32
  let c3_i32_0 : BitVec 32 := 3#32
  let c0_i32 : BitVec 32 := 0#32
  let c0_i32_1 : BitVec 32 := 0#32
  let c0_i32_2 : BitVec 32 := 0#32
  ![c3_i32.toNat, c3_i32_0.toNat, c0_i32.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc1_transform_2 (i : grid1.Coords) : Fin 4 → Nat :=
  let arg0 : BitVec 32 := BitVec.ofNat 32 (i 0).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, c1_i32_0.toNat, c0_i32.toNat, c0_i32_1.toNat]

def cc1_transform_3 (i : grid1.Coords) : Fin 4 → Nat :=
  let arg0 : BitVec 32 := BitVec.ofNat 32 (i 0).val
  let c2_i32 : BitVec 32 := 2#32
  let c1_i32 : BitVec 32 := 1#32
  let c0_i32 : BitVec 32 := 0#32
  let c0_i32_0 : BitVec 32 := 0#32
  let c0_i32_1 : BitVec 32 := 0#32
  ![c2_i32.toNat, c1_i32.toNat, c0_i32.toNat, c0_i32_0.toNat]

def cc1_transform_4 (i : grid1.Coords) : Fin 4 → Nat :=
  let arg0 : BitVec 32 := BitVec.ofNat 32 (i 0).val
  let c3_i32 : BitVec 32 := 3#32
  let c1_i32 : BitVec 32 := 1#32
  let c0_i32 : BitVec 32 := 0#32
  let c0_i32_0 : BitVec 32 := 0#32
  let c0_i32_1 : BitVec 32 := 0#32
  ![c3_i32.toNat, c1_i32.toNat, c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1x256x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1x256x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1x256x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1x256x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1024x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc2_transform_2 (i : grid2.Coords) : Fin 4 → Nat :=
  let arg0 : BitVec 32 := BitVec.ofNat 32 (i 0).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, c1_i32_0.toNat, c0_i32.toNat, c0_i32_1.toNat]

def cc2_transform_3 (i : grid2.Coords) : Fin 4 → Nat :=
  let arg0 : BitVec 32 := BitVec.ofNat 32 (i 0).val
  let c2_i32 : BitVec 32 := 2#32
  let c1_i32 : BitVec 32 := 1#32
  let c0_i32 : BitVec 32 := 0#32
  let c0_i32_0 : BitVec 32 := 0#32
  let c0_i32_1 : BitVec 32 := 0#32
  ![c2_i32.toNat, c1_i32.toNat, c0_i32.toNat, c0_i32_0.toNat]

def cc2_transform_4 (i : grid2.Coords) : Fin 4 → Nat :=
  let arg0 : BitVec 32 := BitVec.ofNat 32 (i 0).val
  let c3_i32 : BitVec 32 := 3#32
  let c1_i32 : BitVec 32 := 1#32
  let c0_i32 : BitVec 32 := 0#32
  let c0_i32_0 : BitVec 32 := 0#32
  let c0_i32_1 : BitVec 32 := 0#32
  ![c3_i32.toNat, c1_i32.toNat, c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x1x256x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1x256x1024 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x1x256x1024 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1x256x1024 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S1024x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S1024x1024 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![4], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 4 → Nat :=
  let arg0 : BitVec 32 := BitVec.ofNat 32 (i 0).val
  let c0_i32 : BitVec 32 := 0#32
  let c2_i32 : BitVec 32 := 2#32
  let c0_i32_0 : BitVec 32 := 0#32
  let c0_i32_1 : BitVec 32 := 0#32
  let c0_i32_2 : BitVec 32 := 0#32
  ![c0_i32.toNat, c2_i32.toNat, c0_i32_0.toNat, c0_i32_1.toNat]

def cc3_transform_2 (i : grid3.Coords) : Fin 4 → Nat :=
  let arg0 : BitVec 32 := BitVec.ofNat 32 (i 0).val
  let c1_i32 : BitVec 32 := 1#32
  let c2_i32 : BitVec 32 := 2#32
  let c0_i32 : BitVec 32 := 0#32
  let c0_i32_0 : BitVec 32 := 0#32
  let c0_i32_1 : BitVec 32 := 0#32
  ![c1_i32.toNat, c2_i32.toNat, c0_i32.toNat, c0_i32_0.toNat]

def cc3_transform_3 (i : grid3.Coords) : Fin 4 → Nat :=
  let arg0 : BitVec 32 := BitVec.ofNat 32 (i 0).val
  let c2_i32 : BitVec 32 := 2#32
  let c2_i32_0 : BitVec 32 := 2#32
  let c0_i32 : BitVec 32 := 0#32
  let c0_i32_1 : BitVec 32 := 0#32
  let c0_i32_2 : BitVec 32 := 0#32
  ![c2_i32.toNat, c2_i32_0.toNat, c0_i32.toNat, c0_i32_1.toNat]

def cc3_transform_4 (i : grid3.Coords) : Fin 4 → Nat :=
  let arg0 : BitVec 32 := BitVec.ofNat 32 (i 0).val
  let c3_i32 : BitVec 32 := 3#32
  let c2_i32 : BitVec 32 := 2#32
  let c0_i32 : BitVec 32 := 0#32
  let c0_i32_0 : BitVec 32 := 0#32
  let c0_i32_1 : BitVec 32 := 0#32
  ![c3_i32.toNat, c2_i32.toNat, c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1024x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x1x256x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x1x256x1024 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x1x256x1024 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x1x256x1024 .bf16 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S1024x1024 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S1024x1024 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![4], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc4_transform_2 (i : grid4.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc4_transform_3 (i : grid4.Coords) : Fin 4 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  let c0_i32_2 : BitVec 32 := 0#32
  ![c2_i32.toNat, c0_i32.toNat, c0_i32_0.toNat, c0_i32_1.toNat]

def cc4_transform_4 (i : grid4.Coords) : Fin 4 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  let c0_i32_2 : BitVec 32 := 0#32
  ![c3_i32.toNat, c0_i32.toNat, c0_i32_0.toNat, c0_i32_1.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1024x1024 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x1x256x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x1x256x1024 .bf16 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x1x256x1024 .bf16 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x1x256x1024 .bf16 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S1024x1024 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![4], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc5_transform_2 (i : grid5.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc5_transform_3 (i : grid5.Coords) : Fin 4 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  let c0_i32_2 : BitVec 32 := 0#32
  ![c2_i32.toNat, c0_i32.toNat, c0_i32_0.toNat, c0_i32_1.toNat]

def cc5_transform_4 (i : grid5.Coords) : Fin 4 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  let c0_i32_2 : BitVec 32 := 0#32
  ![c3_i32.toNat, c0_i32.toNat, c0_i32_0.toNat, c0_i32_1.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S1024x1024 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x1x256x1024 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x1x256x1024 .bf16 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x1x256x1024 .bf16 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x1x256x1024 .bf16 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S1024x1024 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 2 → Memref sig .tc .vmem S1024x1024 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![4], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc6_transform_2 (i : grid6.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc6_transform_3 (i : grid6.Coords) : Fin 4 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  let c0_i32_2 : BitVec 32 := 0#32
  ![c2_i32.toNat, c0_i32.toNat, c0_i32_0.toNat, c0_i32_1.toNat]

def cc6_transform_4 (i : grid6.Coords) : Fin 4 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  let c0_i32_2 : BitVec 32 := 0#32
  ![c3_i32.toNat, c0_i32.toNat, c0_i32_0.toNat, c0_i32_1.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S1024x1024 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x1x256x1024 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x1x256x1024 .bf16 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x1x256x1024 .bf16 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x1x256x1024 .bf16 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S1024x1024 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev stage6_6 : Fin 2 → Memref sig .tc .vmem S1024x1024 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev grid7 : Pipeline.Grid := ⟨1, ![4], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc7_transform_2 (i : grid7.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc7_transform_3 (i : grid7.Coords) : Fin 4 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  let c0_i32_2 : BitVec 32 := 0#32
  ![c2_i32.toNat, c0_i32.toNat, c0_i32_0.toNat, c0_i32_1.toNat]

def cc7_transform_4 (i : grid7.Coords) : Fin 4 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  let c0_i32_2 : BitVec 32 := 0#32
  ![c3_i32.toNat, c0_i32.toNat, c0_i32_0.toNat, c0_i32_1.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_6 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S1024x1024 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x1x256x1024 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x1x256x1024 .bf16 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x1x256x1024 .bf16 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x1x256x1024 .bf16 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S1024x1024 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev stage7_6 : Fin 2 → Memref sig .tc .vmem S1024x1024 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

abbrev grid8 : Pipeline.Grid := ⟨1, ![4], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc8_transform_2 (i : grid8.Coords) : Fin 4 → Nat :=
  let arg0 : BitVec 32 := BitVec.ofNat 32 (i 0).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, c1_i32_0.toNat, c0_i32.toNat, c0_i32_1.toNat]

def cc8_transform_3 (i : grid8.Coords) : Fin 4 → Nat :=
  let arg0 : BitVec 32 := BitVec.ofNat 32 (i 0).val
  let c2_i32 : BitVec 32 := 2#32
  let c1_i32 : BitVec 32 := 1#32
  let c0_i32 : BitVec 32 := 0#32
  let c0_i32_0 : BitVec 32 := 0#32
  let c0_i32_1 : BitVec 32 := 0#32
  ![c2_i32.toNat, c1_i32.toNat, c0_i32.toNat, c0_i32_0.toNat]

def cc8_transform_4 (i : grid8.Coords) : Fin 4 → Nat :=
  let arg0 : BitVec 32 := BitVec.ofNat 32 (i 0).val
  let c3_i32 : BitVec 32 := 3#32
  let c1_i32 : BitVec 32 := 1#32
  let c0_i32 : BitVec 32 := 0#32
  let c0_i32_0 : BitVec 32 := 0#32
  let c0_i32_1 : BitVec 32 := 0#32
  ![c3_i32.toNat, c1_i32.toNat, c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_6 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S1024x1024 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x1x256x1024 .bf16 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x1x256x1024 .bf16 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x1x256x1024 .bf16 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x1x256x1024 .bf16 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S1024x1024 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev stage8_6 : Fin 2 → Memref sig .tc .vmem S1024x1024 .f32 := fun | 0 => Memref.whole cc8_stg6_0 | 1 => Memref.whole cc8_stg6_1 | ⟨_ + 2, h⟩ => absurd h (Nat.not_lt.2 (Nat.le_add_left _ _))
abbrev sem8_6 : Fin 2 → DmaSem sig := fun | 0 => cc8_sem6_0 | 1 => cc8_sem6_1 | ⟨_ + 2, h⟩ => absurd h (Nat.not_lt.2 (Nat.le_add_left _ _))
abbrev reads8_6 : Fin grid8.rank → Bool := ![true]

abbrev grid9 : Pipeline.Grid := ⟨1, ![4], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc9_transform_2 (i : grid9.Coords) : Fin 4 → Nat :=
  let arg0 : BitVec 32 := BitVec.ofNat 32 (i 0).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, c1_i32_0.toNat, c0_i32.toNat, c0_i32_1.toNat]

def cc9_transform_3 (i : grid9.Coords) : Fin 4 → Nat :=
  let arg0 : BitVec 32 := BitVec.ofNat 32 (i 0).val
  let c2_i32 : BitVec 32 := 2#32
  let c1_i32 : BitVec 32 := 1#32
  let c0_i32 : BitVec 32 := 0#32
  let c0_i32_0 : BitVec 32 := 0#32
  let c0_i32_1 : BitVec 32 := 0#32
  ![c2_i32.toNat, c1_i32.toNat, c0_i32.toNat, c0_i32_0.toNat]

def cc9_transform_4 (i : grid9.Coords) : Fin 4 → Nat :=
  let arg0 : BitVec 32 := BitVec.ofNat 32 (i 0).val
  let c3_i32 : BitVec 32 := 3#32
  let c1_i32 : BitVec 32 := 1#32
  let c0_i32 : BitVec 32 := 0#32
  let c0_i32_0 : BitVec 32 := 0#32
  let c0_i32_1 : BitVec 32 := 0#32
  ![c3_i32.toNat, c1_i32.toNat, c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S1024x1024 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x1x256x1024 .bf16 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x1x256x1024 .bf16 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x1x256x1024 .bf16 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x1x256x1024 .bf16 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 2 → Memref sig .tc .vmem S1024x1024 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

abbrev grid10 : Pipeline.Grid := ⟨1, ![4], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc10_transform_2 (i : grid10.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc10_transform_3 (i : grid10.Coords) : Fin 4 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  let c0_i32_2 : BitVec 32 := 0#32
  ![c2_i32.toNat, c0_i32.toNat, c0_i32_0.toNat, c0_i32_1.toNat]

def cc10_transform_4 (i : grid10.Coords) : Fin 4 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  let c0_i32_2 : BitVec 32 := 0#32
  ![c3_i32.toNat, c0_i32.toNat, c0_i32_0.toNat, c0_i32_1.toNat]

def cc10_transform_5 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_6 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S1024x1024 .bf16 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S1x1x256x1024 .bf16 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x1x256x1024 .bf16 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S1x1x256x1024 .bf16 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S1x1x256x1024 .bf16 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 2 → Memref sig .tc .vmem S1024x1024 .f32 := fun | 0 => Memref.whole cc10_stg5_0 | 1 => Memref.whole cc10_stg5_1 | ⟨_ + 2, h⟩ => absurd h (Nat.not_lt.2 (Nat.le_add_left _ _))
abbrev sem10_5 : Fin 2 → DmaSem sig := fun | 0 => cc10_sem5_0 | 1 => cc10_sem5_1 | ⟨_ + 2, h⟩ => absurd h (Nat.not_lt.2 (Nat.le_add_left _ _))
abbrev reads10_5 : Fin grid10.rank → Bool := ![true]

abbrev stage10_6 : Fin 2 → Memref sig .tc .vmem S1024x1024 .f32 := fun | 0 => Memref.whole cc10_stg6_0 | 1 => Memref.whole cc10_stg6_1 | ⟨_ + 2, h⟩ => absurd h (Nat.not_lt.2 (Nat.le_add_left _ _))
abbrev sem10_6 : Fin 2 → DmaSem sig := fun | 0 => cc10_sem6_0 | 1 => cc10_sem6_1 | ⟨_ + 2, h⟩ => absurd h (Nat.not_lt.2 (Nat.le_add_left _ _))
abbrev reads10_6 : Fin grid10.rank → Bool := ![true]

abbrev grid11 : Pipeline.Grid := ⟨1, ![4], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc11_transform_2 (i : grid11.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc11_transform_3 (i : grid11.Coords) : Fin 4 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  let c0_i32_2 : BitVec 32 := 0#32
  ![c2_i32.toNat, c0_i32.toNat, c0_i32_0.toNat, c0_i32_1.toNat]

def cc11_transform_4 (i : grid11.Coords) : Fin 4 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  let c0_i32_2 : BitVec 32 := 0#32
  ![c3_i32.toNat, c0_i32.toNat, c0_i32_0.toNat, c0_i32_1.toNat]

def cc11_transform_5 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S1024x1024 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S1x1x256x1024 .bf16 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x1x256x1024 .bf16 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S1x1x256x1024 .bf16 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S1x1x256x1024 .bf16 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 2 → Memref sig .tc .vmem S1024x1024 .f32 := fun | 0 => Memref.whole cc11_stg5_0 | 1 => Memref.whole cc11_stg5_1 | ⟨_ + 2, h⟩ => absurd h (Nat.not_lt.2 (Nat.le_add_left _ _))
abbrev sem11_5 : Fin 2 → DmaSem sig := fun | 0 => cc11_sem5_0 | 1 => cc11_sem5_1 | ⟨_ + 2, h⟩ => absurd h (Nat.not_lt.2 (Nat.le_add_left _ _))
abbrev reads11_5 : Fin grid11.rank → Bool := ![true]
-- ==== Reference6Ideal.lean ====
abbrev S4x4096x1024 : Shape := ⟨3, ![4, 4096, 1024]⟩
abbrev S2x4096x1024 : Shape := ⟨3, ![2, 4096, 1024]⟩
abbrev S4096x1024 : Shape := ⟨2, ![4096, 1024]⟩
abbrev S4x1024x1024 : Shape := ⟨3, ![4, 1024, 1024]⟩
abbrev S2x1024x1024 : Shape := ⟨3, ![2, 1024, 1024]⟩
abbrev S1024x1024 : Shape := ⟨2, ![1024, 1024]⟩
abbrev S_ : Shape := ⟨0, ![]⟩
abbrev S1x1024x1024 : Shape := ⟨3, ![1, 1024, 1024]⟩
abbrev S1x4096x1024 : Shape := ⟨3, ![1, 4096, 1024]⟩

abbrev nBuf : Space → Nat
  | .hbm => 134
  | .vmem => 0
  | .smem => 0
  | _ => 0

abbrev hbmTy0_0 (i : Nat) : BufTy := match i % 128 with
  | 0 => ⟨S4x4096x1024, .f32⟩
  | 1 => ⟨S4x4096x1024, .f32⟩
  | 2 => ⟨S4x4096x1024, .f32⟩
  | 3 => ⟨S2x4096x1024, .f32⟩
  | 4 => ⟨S4096x1024, .f32⟩
  | 5 => ⟨S4096x1024, .f32⟩
  | 6 => ⟨S4x1024x1024, .f32⟩
  | 7 => ⟨S2x1024x1024, .f32⟩
  | 8 => ⟨S2x1024x1024, .f32⟩
  | 9 => ⟨S2x1024x1024, .f32⟩
  | 10 => ⟨S1024x1024, .f32⟩
  | 11 => ⟨S1024x1024, .f32⟩
  | 12 => ⟨S_, .f32⟩
  | 13 => ⟨S4096x1024, .f32⟩
  | 14 => ⟨S1x1024x1024, .f32⟩
  | 15 => ⟨S1024x1024, .f32⟩
  | 16 => ⟨S1x4096x1024, .f32⟩
  | 17 => ⟨S4096x1024, .f32⟩
  | 18 => ⟨S1x4096x1024, .f32⟩
  | 19 => ⟨S4096x1024, .f32⟩
  | 20 => ⟨S_, .f32⟩
  | 21 => ⟨S4096x1024, .f32⟩
  | 22 => ⟨S4096x1024, .f32⟩
  | 23 => ⟨S4096x1024, .f32⟩
  | 24 => ⟨S4096x1024, .f32⟩
  | 25 => ⟨S_, .f32⟩
  | 26 => ⟨S4096x1024, .f32⟩
  | 27 => ⟨S4096x1024, .f32⟩
  | 28 => ⟨S4096x1024, .f32⟩
  | 29 => ⟨S1x1024x1024, .f32⟩
  | 30 => ⟨S1024x1024, .f32⟩
  | 31 => ⟨S1x4096x1024, .f32⟩
  | 32 => ⟨S4096x1024, .f32⟩
  | 33 => ⟨S1x4096x1024, .f32⟩
  | 34 => ⟨S4096x1024, .f32⟩
  | 35 => ⟨S_, .f32⟩
  | 36 => ⟨S4096x1024, .f32⟩
  | 37 => ⟨S4096x1024, .f32⟩
  | 38 => ⟨S4096x1024, .f32⟩
  | 39 => ⟨S4096x1024, .f32⟩
  | 40 => ⟨S_, .f32⟩
  | 41 => ⟨S4096x1024, .f32⟩
  | 42 => ⟨S4096x1024, .f32⟩
  | 43 => ⟨S4096x1024, .f32⟩
  | 44 => ⟨S1x1024x1024, .f32⟩
  | 45 => ⟨S1024x1024, .f32⟩
  | 46 => ⟨S1x4096x1024, .f32⟩
  | 47 => ⟨S4096x1024, .f32⟩
  | 48 => ⟨S1x4096x1024, .f32⟩
  | 49 => ⟨S4096x1024, .f32⟩
  | 50 => ⟨S_, .f32⟩
  | 51 => ⟨S4096x1024, .f32⟩
  | 52 => ⟨S4096x1024, .f32⟩
  | 53 => ⟨S4096x1024, .f32⟩
  | 54 => ⟨S4096x1024, .f32⟩
  | 55 => ⟨S_, .f32⟩
  | 56 => ⟨S4096x1024, .f32⟩
  | 57 => ⟨S4096x1024, .f32⟩
  | 58 => ⟨S4096x1024, .f32⟩
  | 59 => ⟨S1x1024x1024, .f32⟩
  | 60 => ⟨S1024x1024, .f32⟩
  | 61 => ⟨S1x4096x1024, .f32⟩
  | 62 => ⟨S4096x1024, .f32⟩
  | 63 => ⟨S1x4096x1024, .f32⟩
  | 64 => ⟨S4096x1024, .f32⟩
  | 65 => ⟨S_, .f32⟩
  | 66 => ⟨S4096x1024, .f32⟩
  | 67 => ⟨S4096x1024, .f32⟩
  | 68 => ⟨S4096x1024, .f32⟩
  | 69 => ⟨S4096x1024, .f32⟩
  | 70 => ⟨S_, .f32⟩
  | 71 => ⟨S4096x1024, .f32⟩
  | 72 => ⟨S4096x1024, .f32⟩
  | 73 => ⟨S4096x1024, .f32⟩
  | 74 => ⟨S1x1024x1024, .f32⟩
  | 75 => ⟨S1024x1024, .f32⟩
  | 76 => ⟨S1x4096x1024, .f32⟩
  | 77 => ⟨S4096x1024, .f32⟩
  | 78 => ⟨S4096x1024, .f32⟩
  | 79 => ⟨S4096x1024, .f32⟩
  | 80 => ⟨S1x1024x1024, .f32⟩
  | 81 => ⟨S1024x1024, .f32⟩
  | 82 => ⟨S1x4096x1024, .f32⟩
  | 83 => ⟨S4096x1024, .f32⟩
  | 84 => ⟨S4096x1024, .f32⟩
  | 85 => ⟨S4096x1024, .f32⟩
  | 86 => ⟨S1x1024x1024, .f32⟩
  | 87 => ⟨S1024x1024, .f32⟩
  | 88 => ⟨S1x4096x1024, .f32⟩
  | 89 => ⟨S4096x1024, .f32⟩
  | 90 => ⟨S4096x1024, .f32⟩
  | 91 => ⟨S4096x1024, .f32⟩
  | 92 => ⟨S1x1024x1024, .f32⟩
  | 93 => ⟨S1024x1024, .f32⟩
  | 94 => ⟨S1x4096x1024, .f32⟩
  | 95 => ⟨S4096x1024, .f32⟩
  | 96 => ⟨S4096x1024, .f32⟩
  | 97 => ⟨S4096x1024, .f32⟩
  | 98 => ⟨S1x4096x1024, .f32⟩
  | 99 => ⟨S4096x1024, .f32⟩
  | 100 => ⟨S1x4096x1024, .f32⟩
  | 101 => ⟨S4096x1024, .f32⟩
  | 102 => ⟨S_, .f32⟩
  | 103 => ⟨S4096x1024, .f32⟩
  | 104 => ⟨S4096x1024, .f32⟩
  | 105 => ⟨S1x1024x1024, .f32⟩
  | 106 => ⟨S1024x1024, .f32⟩
  | 107 => ⟨S4096x1024, .f32⟩
  | 108 => ⟨S4096x1024, .f32⟩
  | 109 => ⟨S4096x1024, .f32⟩
  | 110 => ⟨S4096x1024, .f32⟩
  | 111 => ⟨S4096x1024, .f32⟩
  | 112 => ⟨S4096x1024, .f32⟩
  | 113 => ⟨S4096x1024, .f32⟩
  | 114 => ⟨S4096x1024, .f32⟩
  | 115 => ⟨S_, .f32⟩
  | 116 => ⟨S4096x1024, .f32⟩
  | 117 => ⟨S4096x1024, .f32⟩
  | 118 => ⟨S4096x1024, .f32⟩
  | 119 => ⟨S1x1024x1024, .f32⟩
  | 120 => ⟨S1024x1024, .f32⟩
  | 121 => ⟨S1x4096x1024, .f32⟩
  | 122 => ⟨S4096x1024, .f32⟩
  | 123 => ⟨S1x4096x1024, .f32⟩
  | 124 => ⟨S4096x1024, .f32⟩
  | 125 => ⟨S_, .f32⟩
  | 126 => ⟨S4096x1024, .f32⟩
  | 127 => ⟨S4096x1024, .f32⟩
  | _ => ⟨S4x4096x1024, .f32⟩

abbrev hbmTy0_1 (i : Nat) : BufTy := match i % 128 with
  | 0 => ⟨S4096x1024, .f32⟩
  | 1 => ⟨S4096x1024, .f32⟩
  | 2 => ⟨S_, .f32⟩
  | 3 => ⟨S4096x1024, .f32⟩
  | 4 => ⟨S4096x1024, .f32⟩
  | 5 => ⟨S4096x1024, .f32⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_2 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_3 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_4 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_5 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_6 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_7 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_cst_8 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_cst_9 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_cst_10 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_cst_11 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩

abbrev nD : Nat := 1
abbrev τ : Topo := Topo.v7x

variable {F : FTy → Type} [FloatOps F]
-- ==== Proof.KernelIdeal.Words.lean ====
/- The words the kernel's block loop runs on. The start block is the least of `2·i` and two counts, each the number of
   128 flags that are set; so it lies in `[0, 2·i]`, the loop of unmasked blocks has a meaning, every block it names
   lies inside the 4096 rows, and the second copy of the loop runs no trip. -/
module

public import proofs.«01_k».proof.Proof.Gen.KernelIdeal.Skeleton
public import Idealize.ShloMosaic.Lib.Affine
public import Idealize.ShloMosaic.Lib.IndicatorCount
public import Idealize.ShloMosaic.PureOps.Reduce

@[expose] public section

noncomputable section

namespace Cert.KernelIdeal.Hand

open Cert.KernelIdeal Cert.KernelIdeal.Gen
open Idealize.ShloMosaic Idealize.ShloMosaic.TcCoe

variable {F : FTy → Type} [FloatOps F] [Named F]

/-- A word that is a count of at most 128 flags, read as an integer, is that count. -/
theorem toInt_count (n : ℕ) (h : n ≤ 128) : (BitVec.ofNat 32 n).toInt = n := by
  rw [BitVec.toInt_ofNat']
  exact Int.bmod_eq_of_le (by omega) (by omega)

/-- The sum of 128 flags is nonnegative. -/
theorem count_nonneg (p : IVec S1x128 1) (hr : S1x1x128.Reduces [1, 2] S1) (hz : 0#32 = IKind.add.neutral) (j : S1.Idx) :
    0 ≤ ((multiReductionI .add [1, 2] S1 (shapeCast S1x1x128 (extui 32 p natLt_1_32) shapeCasts_S1x128_S1x1x128) 0#32 hr hz) j).toInt := by
  rw [multiReductionI_eq_fold]
  rw [show (shapeCast S1x1x128 (extui 32 p natLt_1_32) shapeCasts_S1x128_S1x1x128)
      = fun k => ((shapeCast S1x1x128 p shapeCasts_S1x128_S1x1x128) k).setWidth 32 from rfl]
  have e := IndicatorCount.fold_addi_setWidth_eq_card (w := 32) (shapeCast S1x1x128 p shapeCasts_S1x128_S1x1x128) (Finset.univ.filter fun i => hr.drop i = j)
  refine (congrArg BitVec.toInt e).symm ▸ ?_
  have hc : ∀ f : Finset S1x1x128.Idx, f.card ≤ 128 := fun f =>
    (Finset.card_le_univ f).trans (by rw [Shape.card_idx]; decide)
  rw [toInt_count _ (hc _)]
  exact Int.natCast_nonneg _

/-- Head 0's count is nonnegative. -/
theorem head0_nonneg (v19 : IVec S1x128 32) (v21 : BitVec 32) (v40 : Vec F S1x512x128 .f32) (h) :
    0 ≤ (extractAt ![0, 0, 0] (k0_pay64 v19 v21 v40) h).toInt := count_nonneg _ _ rfl _

/-- Head 1's count is nonnegative. -/
theorem head1_nonneg (v19 : IVec S1x128 32) (v21 : BitVec 32) (v68 : FVec F S512x128 .f32) (h) :
    0 ≤ (extractAt ![0, 0, 0] (k0_pay68 v19 v21 v68) h).toInt := count_nonneg _ _ rfl _

/-- The start block of grid point `i` at the two counts, as an integer. -/
def start (i : grid0.Coords) (a b : BitVec 32) : ℤ := min (min (2 * ((i 1).val : ℤ)) a.toInt) b.toInt

/-- The words of the two copies of the loop at nonnegative counts: the trips, the block numbers, the ranges. -/
theorem words (i : grid0.Coords) (a b : BitVec 32) (ha : 0 ≤ a.toInt) (hb : 0 ≤ b.toInt) :
    0 ≤ start i a b ∧ start i a b ≤ 2 * ((i 1).val : ℤ)
    ∧ (k0_t1_loop i a b).OK ∧ (k0_t1_loop i a b).trips = (2 * ((i 1).val : ℤ) - start i a b).toNat
    ∧ (k0_t2_loop i a b).OK ∧ (k0_t2_loop i a b).trips = 0
    ∧ Affine.IsInt (k0_t1_loop i a b).lb (start i a b) := by
  have hi : (i 1).val < 8 := (i 1).isLt
  have h_i : Affine.IsInt (BitVec.ofNat 32 (i 1).val) ((i 1).val : ℤ) := Affine.ofNat _ (by omega)
  have h_1 : Affine.IsInt 1#32 1 := Affine.ofNat _ (by omega)
  have h_2 : Affine.IsInt 2#32 2 := Affine.ofNat _ (by omega)
  have h_a : Affine.IsInt a a.toInt := Affine.word a
  have h_b : Affine.IsInt b b.toInt := Affine.word b
  have h20 : Affine.IsInt _ ((i 1).val + 1 : ℤ) := Affine.addi h_i h_1 (by omega)
  have h21 : Affine.IsInt _ (((i 1).val + 1) * 2 : ℤ) := Affine.muli h20 h_2 (by omega)
  have h30 : Affine.IsInt _ (2 * (i 1).val : ℤ) := Affine.subi h21 h_2 (by omega)
  have h57 : Affine.IsInt _ (min (2 * (i 1).val : ℤ) a.toInt) := Affine.minsi h30 h_a rfl
  have h84 : Affine.IsInt _ (start i a b) := Affine.minsi h57 h_b rfl
  have s0 : 0 ≤ start i a b := by unfold start; omega
  have s1 : start i a b ≤ 2 * (i 1).val := by unfold start; omega
  have h87 : Affine.IsInt _ (2 * (i 1).val : ℤ) := Affine.muli h_i h_2 (by omega)
  have h88 : Affine.IsInt _ (2 * (i 1).val - start i a b : ℤ) := Affine.subi h87 h84 (by omega)
  have h90 : Affine.IsInt _ (2 * (i 1).val - start i a b : ℤ) := Affine.divsi_one h88 h_1 (by omega)
  have h91 : Affine.IsInt _ (2 * (i 1).val - start i a b : ℤ) := Affine.muli h90 h_1 (by omega)
  have h92 : Affine.IsInt _ (2 * (i 1).val : ℤ) := Affine.addi h84 h91 (by omega)
  have h89 : Affine.IsInt _ (2 * (i 1).val : ℤ) := Affine.addi h84 h88 (by omega)
  exact ⟨s0, s1, Affine.ok h84 h92 h_1 (by omega), Affine.trips_eq h84 h92 h_1 _ (by omega),
    Affine.ok h92 h89 h_1 (by omega), Affine.trips_eq h92 h89 h_1 _ (by omega), h84⟩

/-- The first row of the block that trip `k` of the loop works on. -/
theorem row_isInt (i : grid0.Coords) (a b : BitVec 32) (ha : 0 ≤ a.toInt) (hb : 0 ≤ b.toInt) (k : Fin (k0_t1_loop i a b).trips) :
    Affine.IsInt (Scalar.muli (Scf.iv (k0_t1_loop i a b).lb 1#32 k) 256#32) ((start i a b + k.val) * 256 : ℤ) := by
  obtain ⟨s0, s1, -, hT, -, -, h84⟩ := words i a b ha hb
  have hi : (i 1).val < 8 := (i 1).isLt
  have hk : k.val < (2 * ((i 1).val : ℤ) - start i a b).toNat := hT ▸ k.isLt
  have h_1 : Affine.IsInt 1#32 1 := Affine.ofNat _ (by omega)
  have h_256 : Affine.IsInt 256#32 256 := Affine.ofNat _ (by omega)
  have hiv : Affine.IsInt _ (start i a b + k.val : ℤ) := Affine.iv h84 h_1 k.val (by omega)
  exact Affine.muli hiv h_256 (by omega)

/-- Where trip `k` reads and writes in head 0's columns. -/
theorem off1_eq (i : grid0.Coords) (a b : BitVec 32) (ha : 0 ≤ a.toInt) (hb : 0 ≤ b.toInt) (k : Fin (k0_t1_loop i a b).trips) :
    k0_off1 i a b k = ![((start i a b).toNat + k.val) * 256, 0] := by
  have s0 := (words i a b ha hb).1
  have e : (Scalar.indexCast (Scalar.muli (Scf.iv (k0_t1_loop i a b).lb 1#32 k) 256#32)).toNat = ((start i a b).toNat + k.val) * 256 :=
    Affine.nat_eq (Affine.indexCast (row_isInt i a b ha hb k)) _ (by push_cast; omega)
  exact congrArg (fun n => ![n, 0]) e

/-- Where trip `k` reads and writes in head 1's columns. -/
theorem off2_eq (i : grid0.Coords) (a b : BitVec 32) (ha : 0 ≤ a.toInt) (hb : 0 ≤ b.toInt) (k : Fin (k0_t1_loop i a b).trips) :
    k0_off2 i a b k = ![((start i a b).toNat + k.val) * 256, 64] := by
  have s0 := (words i a b ha hb).1
  have e : (Scalar.indexCast (Scalar.muli (Scf.iv (k0_t1_loop i a b).lb 1#32 k) 256#32)).toNat = ((start i a b).toNat + k.val) * 256 :=
    Affine.nat_eq (Affine.indexCast (row_isInt i a b ha hb k)) _ (by push_cast; omega)
  exact congrArg (fun n => ![n, 64]) e

/-- The assumed side condition holds whenever the two counts are nonnegative. -/
theorem chk (i : grid0.Coords) (a b : BitVec 32) (ha : 0 ≤ a.toInt) (hb : 0 ≤ b.toInt) : k0_chk1 i a b := by
  obtain ⟨s0, s1, ok1, hT, ok2, hT2, -⟩ := words i a b ha hb
  have hi : (i 1).val < 8 := (i 1).isLt
  have hk : ∀ k : Fin (k0_t1_loop i a b).trips, ((start i a b).toNat + k.val) * 256 + 256 ≤ 4096 := fun k => by
    have : k.val < (2 * ((i 1).val : ℤ) - start i a b).toNat := hT ▸ k.isLt
    omega
  refine ⟨ok1, fun k => ?_, fun k => ?_, fun k => ?_, ok2,
    fun k => absurd k.isLt (by omega), fun k => absurd k.isLt (by omega), fun k => absurd k.isLt (by omega)⟩
  · exact Affine.dvd_of (row_isInt i a b ha hb k) _ ⟨Dvd.intro_left _ rfl, by omega⟩
  · rw [off1_eq i a b ha hb k]
    exact Fin.forall_fin_two.2 ⟨hk k, (by decide : (0:ℕ) + 64 ≤ 128)⟩
  · rw [off2_eq i a b ha hb k]
    exact Fin.forall_fin_two.2 ⟨hk k, (by decide : (64:ℕ) + 64 ≤ 128)⟩

end Cert.KernelIdeal.Hand

end
-- ==== Proof.KernelIdeal.Frame.lean ====
/- The kernel's frame: one grid point's body runs from any contents of the output buffers and of the scratch, and the
   launch runs the body at all 64 points. The three outputs are forgotten here; what they hold is another module's. -/
module

public import proofs.«01_k».proof.Proof.KernelIdeal.Words
public import proofs.«01_k».proof.Proof.Gen.KernelIdeal.Frame
public import proofs.«01_k».proof.Proof.Gen.KernelIdeal.Loops
public import Idealize.ShloMosaic.Lib.Pipeline.Frame
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in
/-- One grid point's body: from its five input blocks and any contents of the three outputs and of the scratch, it runs
    to its return, the inputs as they were. -/
theorem body_run (c : Dev nD) (i : grid0.Coords) (arg2 : Memref sig .tc .vmem S512x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S512x128 .f32) (harg5 : arg5.IsWhole) (arg6 : Memref sig .tc .vmem S2x512x16 .f32) (harg6 : arg6.IsWhole) (arg7 : Memref sig .tc .vmem S512x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S2x512x128 .f32) (harg10 : arg10.IsWhole)
    (f2 : BufTy.Contents (Elt F) arg2.view.ty) (f3 : BufTy.Contents (Elt F) arg3.view.ty) (f4 : BufTy.Contents (Elt F) arg4.view.ty)
    (f5 : BufTy.Contents (Elt F) arg5.view.ty) (f6 : BufTy.Contents (Elt F) arg6.view.ty) (f7 : BufTy.Contents (Elt F) arg7.view.ty)
    (f8 : BufTy.Contents (Elt F) arg8.view.ty) (f9 : BufTy.Contents (Elt F) arg9.view.ty) (f10 : BufTy.Contents (Elt F) arg10.view.ty)
    (K : PUnit → sProp 𝕄) :
    iprop((arg2.view.loc (c : Thread nD τ) ↦[arg2.view.set]{fullShare} f2) ∗ (arg3.view.loc (c : Thread nD τ) ↦[arg3.view.set]{fullShare} f3)
        ∗ (arg4.view.loc (c : Thread nD τ) ↦[arg4.view.set]{fullShare} f4) ∗ (arg5.view.loc (c : Thread nD τ) ↦[arg5.view.set]{fullShare} f5)
        ∗ (arg6.view.loc (c : Thread nD τ) ↦[arg6.view.set]{fullShare} f6) ∗ (arg7.view.loc (c : Thread nD τ) ↦[arg7.view.set]{fullShare} f7)
        ∗ (arg8.view.loc (c : Thread nD τ) ↦[arg8.view.set]{fullShare} f8) ∗ (arg9.view.loc (c : Thread nD τ) ↦[arg9.view.set]{fullShare} f9)
        ∗ (arg10.view.loc (c : Thread nD τ) ↦[arg10.view.set]{fullShare} f10)
        ∗ (∀ g7 g8 g9 g10, iprop((arg2.view.loc (c : Thread nD τ) ↦[arg2.view.set]{fullShare} f2) ∗ (arg3.view.loc (c : Thread nD τ) ↦[arg3.view.set]{fullShare} f3)
        ∗ (arg4.view.loc (c : Thread nD τ) ↦[arg4.view.set]{fullShare} f4) ∗ (arg5.view.loc (c : Thread nD τ) ↦[arg5.view.set]{fullShare} f5)
        ∗ (arg6.view.loc (c : Thread nD τ) ↦[arg6.view.set]{fullShare} f6) ∗ (arg7.view.loc (c : Thread nD τ) ↦[arg7.view.set]{fullShare} g7)
        ∗ (arg8.view.loc (c : Thread nD τ) ↦[arg8.view.set]{fullShare} g8) ∗ (arg9.view.loc (c : Thread nD τ) ↦[arg9.view.set]{fullShare} g9)
        ∗ (arg10.view.loc (c : Thread nD τ) ↦[arg10.view.set]{fullShare} g10)) -∗ K ⟨⟩))
      ⊢ wp frame (wpE (defs₀ (F := F)) Variants.none c none) Set.univ
          (cc0_attn_b_1 i arg2 harg2 arg3 harg3 arg4 harg4 arg5 harg5 arg6 harg6 arg7 harg7 arg8 harg8 arg9 harg9 arg10 harg10) K := by
  have hchk : ∀ (v19 : IVec S1x128 32) (v21 : BitVec 32) (v40 : Vec F S1x512x128 .f32) (v68 : FVec F S512x128 .f32) (h) (h'),
      k0_chk1 i (extractAt ![0, 0, 0] (k0_pay64 v19 v21 v40) h) (extractAt ![0, 0, 0] (k0_pay68 v19 v21 v68) h') :=
    fun _ _ _ _ _ _ => chk i _ _ (head0_nonneg _ _ _ _) (head1_nonneg _ _ _ _)
  simp only [cc0_attn_b_1_eq_skeleton]; unfold cc0_attn_b_1_skel
  iintro ⟨H2, H3, H4, H5, H6, H7, H8, H9, H10, Hk⟩
  sl_exec (disch := exact hchk _ _ _ _ _ _)
  sl_step
  iapply Hk $$ %_ %_ %_ %_
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-! ## The proof data and the body obligation -/

/-- The three outputs are forgotten: nothing here reads what the kernel leaves in them. -/
def forgets0 : Fin 8 → Bool := ![false, false, false, false, false, true, true, true]

/-- The proof data on core `c`: each array as the region finds it; the inputs' buffers at their blocks after the body; what
    the body leaves in the outputs unnamed; the scratch at some contents between the points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => Pipeline.Dat.unnamed (cfg := cfg0) 5 t
    | ⟨6, _⟩ => Pipeline.Dat.unnamed (cfg := cfg0) 6 t
    | ⟨7, _⟩ => Pipeline.Dat.unnamed (cfg := cfg0) 7 t
  Φ _ := Pipeline.ΦA spec0 c
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]

/-- The staging buffers as the pipeline passes them to the body at a point. -/
abbrev ms0 (t : Fin cfg0.N) : Memref sig .tc .vmem S512x128 .bf16 := win0_0.stage (cfg0.slots t 0)
abbrev ms1 (t : Fin cfg0.N) : Memref sig .tc .vmem S4096x128 .bf16 := win0_1.stage (cfg0.slots t 1)
abbrev ms2 (t : Fin cfg0.N) : Memref sig .tc .vmem S4096x128 .bf16 := win0_2.stage (cfg0.slots t 2)
abbrev ms3 (t : Fin cfg0.N) : Memref sig .tc .vmem S512x128 .f32 := win0_3.stage (cfg0.slots t 3)
abbrev ms4 (t : Fin cfg0.N) : Memref sig .tc .vmem S2x512x16 .f32 := win0_4.stage (cfg0.slots t 4)
abbrev ms5 (t : Fin cfg0.N) : Memref sig .tc .vmem S512x128 .f32 := win0_5.stage (cfg0.slots t 5)
abbrev ms6 (t : Fin cfg0.N) : Memref sig .tc .vmem S4096x128 .f32 := win0_6.stage (cfg0.slots t 6)
abbrev ms7 (t : Fin cfg0.N) : Memref sig .tc .vmem S4096x128 .f32 := win0_7.stage (cfg0.slots t 7)
abbrev scM : Memref sig .tc .vmem S2x512x128 .f32 := Memref.whole cc0_scratch0

/-- What is held between the points: the scratch at some contents and the generator register at some state. -/
theorem PhiA0_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- What the body is called with at a point: the inputs' buffers at their blocks, the outputs' at anything. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare d)
    ∗ (∃ d, owns (c : Thread nD τ) (ms6 t) fullShare d)
    ∗ (∃ d, owns (c : Thread nD τ) (ms7 t) fullShare d))
/-- What the body returns at a point. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ (∃ d, owns (c : Thread nD τ) (ms5 t) fullShare d)
    ∗ (∃ d, owns (c : Thread nD τ) (ms6 t) fullShare d)
    ∗ (∃ d, owns (c : Thread nD τ) (ms7 t) fullShare d))

/-- The body at a point, from what the pipeline holds before it to what it holds after. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA0_eq, after_0, after_1, after_2, after_3, after_4]
  simp only [before0_0_of m (dats m 0 c) (A_eq m c 0) (after_0 m c), before0_1_of m (dats m 0 c) (A_eq m c 1) (after_1 m c),
    before0_2_of m (dats m 0 c) (A_eq m c 2) (after_2 m c), before0_3_of m (dats m 0 c) (A_eq m c 3) (after_3 m c),
    before0_4_of m (dats m 0 c) (A_eq m c 4) (after_4 m c)]
  unfold owns
  iintro ⟨⟨⟨%ds, %fs, -, HS⟩, Hg⟩, HO, ⟨%_, %f0, %e0, H0⟩, ⟨%_, %f1, %e1, H1⟩, ⟨%_, %f2, %e2, H2⟩, ⟨%_, %f3, %e3, H3⟩, ⟨%_, %f4, %e4, H4⟩,
    ⟨%_, %f5, -, H5⟩, ⟨%_, %f6, -, H6⟩, ⟨%_, %f7, -, H7⟩⟩
  iapply (body_run c _ _ _ _ _ _ _ _ _ _ _ _ _ _ _ _ _ _ _ f0 f1 f2 f3 f4 f5 f6 f7 fs _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS]; · iexact HS
  iintro %g7 %g8 %g9 %g10 ⟨H0, H1, H2, H3, H4, H5, H6, H7, HS⟩
  isplitl [HS Hg]
  · isplitl [HS]
    · iexists _, _; isplitr; swap; · iexact HS
      ipureintro; rfl
    iexact Hg
  isplitl [HO]; · iexact HO
  isplitl [H0]
  · iexists f0; isplitr; swap; · iexact H0
    ipureintro; exact e0
  isplitl [H1]
  · iexists f1; isplitr; swap; · iexact H1
    ipureintro; exact e1
  isplitl [H2]
  · iexists f2; isplitr; swap; · iexact H2
    ipureintro; exact e2
  isplitl [H3]
  · iexists f3; isplitr; swap; · iexact H3
    ipureintro; exact e3
  isplitl [H4]
  · iexists f4; isplitr; swap; · iexact H4
    ipureintro; exact e4
  isplitl [H5]
  · iexists _, _; isplitr; swap; · iexact H5
    ipureintro; rfl
  isplitl [H6]
  · iexists _, _; isplitr; swap; · iexact H6
    ipureintro; rfl
  iexists _, _; isplitr; swap; · iexact H7
  ipureintro; rfl

/-- The body table's row at a point is the body as the pipeline calls it. -/
theorem defs₀_row (t : Fin cfg0.N) : defs₀ (F := F) .tc cfg0.body (cfg0.bodyArgs t (cfg0.slots t)) = bodyAt0 t := by
  unfold defs₀; rw [Defs.onTc_tc]

/-- The body's obligation at every point, the outputs forgotten. -/
theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

/-! ## The launch -/

set_option backward.isDefEq.respectTransparency.types false in
/-- Every execution terminates without a fault, with every semaphore counter at zero and every array the outputs do not
    name as the region found it. -/
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m)
    (hΦ := fun _ _ => rfl)

/-- The frame: every execution terminates, the four arguments end as they were launched, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      (Pipeline.RDat.FramePost.arr_in h.1 c 3 rfl).trans (V_main_arg3 m c)⟩, h.2⟩) (run_main m ρ)

end Cert.KernelIdeal.Hand

end
-- ==== Proof.Value.Run.lean ====
/-
  One grid point's body with what it leaves in the three outputs named.
-/
module

public import proofs.«01_k».proof.Proof.KernelIdeal.Words
public import proofs.«01_k».proof.Proof.Gen.KernelIdeal.Frame
public import proofs.«01_k».proof.Proof.Gen.KernelIdeal.Loops
public import Idealize.ShloMosaic.Lib.Pipeline.Frame
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in
/-- One grid point's body, from its five input blocks and any contents of the three outputs and of the scratch: what it
    leaves in the three outputs, with the run to its return. -/
def bodyOut (c : Dev nD) (i : grid0.Coords) (arg2 : Memref sig .tc .vmem S512x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S512x128 .f32) (harg5 : arg5.IsWhole) (arg6 : Memref sig .tc .vmem S2x512x16 .f32) (harg6 : arg6.IsWhole) (arg7 : Memref sig .tc .vmem S512x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S2x512x128 .f32) (harg10 : arg10.IsWhole)
    (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) :
    Σ' (g7 : BufTy.Contents (Elt F) arg7.view.ty) (g8 : BufTy.Contents (Elt F) arg8.view.ty) (g9 : BufTy.Contents (Elt F) arg9.view.ty), ∀ K : PUnit → sProp 𝕄,
    iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10)
        ∗ (∀ g10, iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} g7) ∗ (arg8.view.loc (c : Thread nD τ) ↦[arg8.view.set]{fullShare} g8) ∗ (arg9.view.loc (c : Thread nD τ) ↦[arg9.view.set]{fullShare} g9) ∗ (arg10.view.loc (c : Thread nD τ) ↦[arg10.view.set]{fullShare} g10)) -∗ K ⟨⟩))
      ⊢ wp frame (wpE (defs₀ (F := F)) Variants.none c none) Set.univ
          (cc0_attn_b_1 i arg2 harg2 arg3 harg3 arg4 harg4 arg5 harg5 arg6 harg6 arg7 harg7 arg8 harg8 arg9 harg9 arg10 harg10) K := by
  have hchk : ∀ (v19 : IVec S1x128 32) (v21 : BitVec 32) (v40 : Vec F S1x512x128 .f32) (v68 : FVec F S512x128 .f32) (h) (h'),
      k0_chk1 i (extractAt ![0, 0, 0] (k0_pay64 v19 v21 v40) h) (extractAt ![0, 0, 0] (k0_pay68 v19 v21 v68) h') :=
    fun _ _ _ _ _ _ => chk i _ _ (head0_nonneg _ _ _ _) (head1_nonneg _ _ _ _)
  refine ⟨?_, ?_, ?_, fun K => ?run⟩
  case run =>
    simp only [cc0_attn_b_1_eq_skeleton]; unfold cc0_attn_b_1_skel
    iintro ⟨H2, H3, H4, H5, H6, H7, H8, H9, H10, Hk⟩
    sl_exec (disch := exact hchk _ _ _ _ _ _)
    sl_step
    iapply Hk $$ %_
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

end Cert.KernelIdeal.Hand
-- ==== Proof.Value.Spec.lean ====
/-
  The gradient of stick-breaking attention over the real numbers.

  `Q`, `K`, `V`, `D` are the queries, keys, values and the gradient of the output, at a row (a position of the
  sequence, below 4096) and a column (64 columns to a head). All sums are over natural numbers.
-/
module

public import Mathlib.Analysis.SpecialFunctions.Log.Basic
public import Mathlib.Algebra.BigOperators.Intervals

@[expose] public section

noncomputable section

open Finset

namespace Cert.Stick

/-- The four arrays of one call. -/
structure In where
  Q : ℕ → ℕ → ℝ
  K : ℕ → ℕ → ℝ
  V : ℕ → ℕ → ℝ
  D : ℕ → ℕ → ℝ

/-- `log (1 + e^z)`. -/
def sp (z : ℝ) : ℝ := Real.log (1 + Real.exp z)

variable (x : In)

/-- The scaled score of query `s` against key `t`, head `h`. -/
def Z (h s t : ℕ) : ℝ := ∑ d ∈ range 64, (x.Q s (64 * h + d) / 8) * x.K t (64 * h + d)

/-- The logarithm of what key `t` leaves of the stick, `0` where `t` is not before `s`. -/
def Lg (h s t : ℕ) : ℝ := if t < s then -(sp (Z x h s t)) else 0

/-- The logarithm of what the keys from `t` on leave. -/
def Suf (h s t : ℕ) : ℝ := ∑ j ∈ Ico t 4096, Lg x h s j

/-- The attention weight. -/
def Aw (h s t : ℕ) : ℝ := if t < s then Real.exp (Z x h s t + Suf x h s t) else 0

/-- The gradient of the weight. -/
def DA (h s t : ℕ) : ℝ := ∑ d ∈ range 64, x.D s (64 * h + d) * x.V t (64 * h + d)

/-- The gradient of the weight's logarithm. -/
def Gr (h s t : ℕ) : ℝ := DA x h s t * Aw x h s t

/-- Its sum over the keys up to and including `t`. -/
def Pin (h s t : ℕ) : ℝ := ∑ j ∈ range (t + 1), Gr x h s j

/-- The gradient of the score. -/
def DZ (h s t : ℕ) : ℝ :=
  if t < s then Gr x h s t - (1 - Real.exp (-(sp (Z x h s t)))) * Pin x h s t else 0

/-- The gradient of the queries. -/
def DQ (s c : ℕ) : ℝ := (∑ t ∈ range 4096, DZ x (c / 64) s t * x.K t c) / 8

/-- What the queries below `n` give to the gradient of the keys. -/
def DKn (n t c : ℕ) : ℝ := ∑ s ∈ range n, DZ x (c / 64) s t * (x.Q s c / 8)

/-- What the queries below `n` give to the gradient of the values. -/
def DVn (n t c : ℕ) : ℝ := ∑ s ∈ range n, Aw x (c / 64) s t * x.D s c

/-- `e^{-|z|}` inside the logarithm gives the same function without overflow. -/
theorem sp_eq (z : ℝ) : max z 0 + Real.log (1 + Real.exp (0 - max z (-z))) = sp z := by
  unfold sp
  rcases le_total 0 z with h | h
  · rw [max_eq_left h, max_eq_left (by linarith)]
    have e : 1 + Real.exp z = Real.exp z * (1 + Real.exp (0 - z)) := by
      rw [mul_add, ← Real.exp_add]; simp; ring
    rw [e, Real.log_mul (Real.exp_pos _).ne' (by positivity), Real.log_exp]
  · rw [max_eq_right h, max_eq_right (by linarith)]
    simp

theorem sum_split (f : ℕ → ℝ) (a b : ℕ) :
    ∑ j ∈ range (a + b), f j = ∑ j ∈ range a, f j + ∑ j ∈ range b, f (a + j) :=
  Finset.sum_range_add f a b

/-- The suffix from inside a block: the block's own part and what is right of it. -/
theorem Suf_split (h s t0 t w : ℕ) (ht : t < w) (hw : t0 + w ≤ 4096) :
    Suf x h s (t0 + t) = (∑ j ∈ range w, Lg x h s (t0 + j) * (if t ≤ j then 1 else 0)) + Suf x h s (t0 + w) := by
  unfold Suf
  rw [← Finset.sum_Ico_consecutive _ (show t0 + t ≤ t0 + w by omega) hw]
  congr 1
  rw [Finset.sum_Ico_eq_sum_range]
  simp only [mul_ite, mul_one, mul_zero]
  rw [← Finset.sum_filter]
  refine Finset.sum_nbij' (fun k => t + k) (fun k => k - t) ?_ ?_ ?_ ?_ ?_
  · intro k hk; simp at hk ⊢; omega
  · intro k hk; simp at hk ⊢; omega
  · intro k hk; simp
  · intro k hk; simp at hk ⊢; omega
  · intro k hk; simp [Nat.add_assoc]

/-- The prefix up to a key inside a block: what is left of the block and the block's own part. -/
theorem Pin_split (h s t0 t w : ℕ) (ht : t < w) :
    Pin x h s (t0 + t) = (∑ j ∈ range w, Gr x h s (t0 + j) * (if j ≤ t then 1 else 0)) + ∑ j ∈ range t0, Gr x h s j := by
  unfold Pin
  rw [Nat.add_assoc, sum_split, add_comm]
  congr 1
  simp only [mul_ite, mul_one, mul_zero]
  rw [← Finset.sum_filter]
  refine Finset.sum_congr ?_ fun _ _ => rfl
  ext k; simp; omega

/-- No weight at keys that are not before the query. -/
theorem Aw_eq_zero (h s t : ℕ) (hst : ¬ t < s) : Aw x h s t = 0 := if_neg hst
theorem Gr_eq_zero (h s t : ℕ) (hst : ¬ t < s) : Gr x h s t = 0 := by unfold Gr; rw [Aw_eq_zero x h s t hst, mul_zero]
theorem DZ_eq_zero (h s t : ℕ) (hst : ¬ t < s) : DZ x h s t = 0 := if_neg hst
theorem Lg_eq_zero (h s t : ℕ) (hst : ¬ t < s) : Lg x h s t = 0 := if_neg hst

end Cert.Stick
-- ==== Proof.Value.Vec.lean ====
/-
  Vectors of real numbers: `R2 x f` says that the block `x` of extended reals holds the real number `f a b` at row `a`
  and column `b`. Each operation of the kernel's block is read through it.
-/
module

public import proofs.«01_k».proof.Proof.Value.Spec
public import proofs.«01_k».proof.Proof.Gen.KernelIdeal.Skeleton
public import Idealize.ShloMosaic.Lib.Pointwise

@[expose] public section

set_option maxRecDepth 16384

noncomputable section

open Finset

namespace Cert.Stick

open Cert.KernelIdeal Cert.KernelIdeal.Gen
open Idealize.ShloMosaic

/-- The block `x` holds the real numbers `f`. -/
def R2 {n m : ℕ} (x : (⟨2, ![n, m]⟩ : Shape).Idx → EReal) (f : ℕ → ℕ → ℝ) : Prop :=
  ∀ (a : Fin n) (b : Fin m), x (ix2 a b) = ((f a.val b.val : ℝ) : EReal)

theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem coe_sum_fin {n : ℕ} (f : ℕ → ℝ) : ∑ k : Fin n, ((f k.val : ℝ) : EReal) = ((∑ k ∈ range n, f k : ℝ) : EReal) := by
  rw [coe_sum, Fin.sum_univ_eq_sum_range]

theorem coe_max (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

theorem one_f32 : Ideal.ofBits .f32 0x3F800000#32 = ((1 : ℝ) : EReal) := by
  rw [Ideal.ofBits_one_f32]; rfl

/-! ### The block's operations -/

section ops
variable {F : FTy → Type} [FloatOps F]

def mZ (q : FVec F S512x64 .bf16) (k : FVec F S256x64 .bf16) : FVec F S512x256 .f32 :=
  matmul dot_S512x64_S256x64_S512x256_1_1_0_0_n_n none q k (constant S512x256 .f32 0x00000000#32)

def mLg (z : FVec F S512x256 .f32) : FVec F S512x256 .f32 :=
  subf (broadcast S512x256 (Scalar.ofBits .f32 0x00000000#32)) (addf (maximumf z (broadcast S512x256 (Scalar.ofBits .f32 0x00000000#32)))
    (log (addf (broadcast S512x256 (Scalar.ofBits .f32 0x3F800000#32)) (exp (subf (broadcast S512x256 (Scalar.ofBits .f32 0x00000000#32)) (absf z))))))

def mSig (lg : FVec F S512x256 .f32) : FVec F S512x256 .f32 :=
  subf (broadcast S512x256 (Scalar.ofBits .f32 0x3F800000#32)) (exp lg)

def mSplit (x : FVec F S512x256 .f32) (t : FVec F S256x256 .bf16) : FVec F S512x256 .f32 :=
  addf (matmul dot_S512x256_S256x256_S512x256_1_0_0_1_n_n none (truncf .bf16 x bitsLt_bf16_f32) t (constant S512x256 .f32 0x00000000#32))
    (matmul dot_S512x256_S256x256_S512x256_1_0_0_1_n_n none
      (truncf .bf16 (subf x (extf .f32 (truncf .bf16 x bitsLt_bf16_f32) bitsLt_bf16_f32)) bitsLt_bf16_f32) t (constant S512x256 .f32 0x00000000#32))

def mRight (v18 : IVec S512x128 32) (w : BitVec 32) (rs : FVec F S1x512x128 .f32) : FVec F S512x256 .f32 :=
  broadcastTo S512x256 (shapeCast S512x1 (multiReduction .add [1] S512
    (select (cmpi .eq v18 (broadcast S512x128 w)) (shapeCast S512x128 rs shapeCasts_S1x512x128_S512x128)
      (broadcast S512x128 (Scalar.ofBits .f32 0x00000000#32))) 0x00000000#32 reduces_S512x128_S512 (.inl rfl) rfl) shapeCasts_S512_S512x1)
    broadcasts_S512x1_S512x256

def mSel (m : IVec S512x256 1) (x : FVec F S512x256 .f32) : FVec F S512x256 .f32 :=
  select m x (broadcast S512x256 (Scalar.ofBits .f32 0x00000000#32))

def mPin (g : FVec F S512x256 .f32) (t : FVec F S256x256 .bf16) (pg : FVec F S512x1 .f32) : FVec F S512x256 .f32 :=
  addf (mSplit g t) (broadcastTo S512x256 pg broadcasts_S512x1_S512x256)

def mLast (pin : FVec F S512x256 .f32) : FVec F S512x1 .f32 :=
  extractStridedSlice S512x1 ![0, 255] pin slices_S512x256_o0_255_S512x1

def mDq (dq : FVec F S512x64 .f32) (dz : FVec F S512x256 .f32) (k : FVec F S256x64 .bf16) : FVec F S512x64 .f32 :=
  addf dq (matmul dot_S512x256_S256x64_S512x64_1_0_0_1_n_n none (truncf .bf16 dz bitsLt_bf16_f32) k (constant S512x64 .f32 0x00000000#32))

def mDk (old : FVec F S256x64 .f32) (dz : FVec F S512x256 .f32) (q : FVec F S512x64 .bf16) : FVec F S256x64 .f32 :=
  addf (shapeCast S256x64 old shapeCasts_S256x64_S256x64)
    (matmul dot_S512x256_S512x64_S256x64_0_0_1_1_n_n none (truncf .bf16 dz bitsLt_bf16_f32) q (constant S256x64 .f32 0x00000000#32))

end ops

/-! ### What they hold -/

section
variable {n m : ℕ}

theorem R2.congr {x : (⟨2, ![n, m]⟩ : Shape).Idx → EReal} {f g : ℕ → ℕ → ℝ} (h : R2 x f)
    (e : ∀ a b, a < n → b < m → f a b = g a b) : R2 x g :=
  fun a b => (h a b).trans (by rw [e _ _ a.isLt b.isLt])

end

theorem R2.z {q : FVec Ideal S512x64 .bf16} {k : FVec Ideal S256x64 .bf16} {f g : ℕ → ℕ → ℝ} (hq : R2 q f) (hk : R2 k g) :
    R2 (mZ q k) (fun a t => ∑ d ∈ range 64, f a d * g t d) := by
  intro a b
  unfold mZ
  pointwise
  simp only [hq _ _, hk _ _, ← EReal.coe_mul]
  exact coe_sum_fin (fun d => f a.val d * g b.val d)

theorem R2.lg {z : FVec Ideal S512x256 .f32} {f : ℕ → ℕ → ℝ} (hz : R2 z f) : R2 (mLg z) (fun a t => -(sp (f a t))) := by
  intro a b
  unfold mLg
  pointwise
  simp only [hz _ _]
  generalize f a.val b.val = r
  have h0 : (0 : EReal) = ((0 : ℝ) : EReal) := rfl
  have h1 : (1 : EReal) = ((1 : ℝ) : EReal) := rfl
  have hp : ¬ (1 + Real.exp (0 - max r (-r)) ≤ 0) := by have := Real.exp_pos (0 - max r (-r)); linarith
  simp only [Ideal.addf_def, Ideal.subf_def, Ideal.maximumf_def, Ideal.exp_def, Ideal.log_def, Ideal.absf_def]
  rw [← EReal.coe_neg, coe_max, h1]
  simp only [h0, ← EReal.coe_sub, Ideal.exp_coe, ← EReal.coe_add, Ideal.log_coe, if_neg hp, coe_max]
  rw [sp_eq, zero_sub]

theorem R2.sig {z : FVec Ideal S512x256 .f32} {f : ℕ → ℕ → ℝ} (hz : R2 z f) : R2 (mSig z) (fun a t => 1 - Real.exp (f a t)) := by
  intro a b
  unfold mSig
  pointwise
  simp only [hz _ _, Ideal.exp_coe]
  rfl

theorem R2.split {z : FVec Ideal S512x256 .f32} {t : FVec Ideal S256x256 .bf16} {f g : ℕ → ℕ → ℝ} (hz : R2 z f) (ht : R2 t g) :
    R2 (mSplit z t) (fun a b => ∑ j ∈ range 256, f a j * g j b) := by
  intro a b
  unfold mSplit
  pointwise
  simp only [hz _ _, ht _ _, ← EReal.coe_mul, ← EReal.coe_sub, sub_self, zero_mul]
  rw [coe_sum_fin (fun j => f a.val j * g j b.val), coe_sum_fin (fun _ => 0), ← EReal.coe_add]
  simp

theorem R2.exp {z : FVec Ideal S512x256 .f32} {f : ℕ → ℕ → ℝ} (hz : R2 z f) : R2 (exp z) (fun a t => Real.exp (f a t)) := by
  intro a b; pointwise; rw [hz _ _]; rfl

theorem R2.add {n m : ℕ} {z w : FVec Ideal ⟨2, ![n, m]⟩ .f32} {f g : ℕ → ℕ → ℝ} (hz : R2 z f) (hw : R2 w g) : R2 (addf z w) (fun a t => f a t + g a t) := by
  intro a b; show z _ + w _ = _; rw [hz _ _, hw _ _]; rfl
theorem R2.sub {n m : ℕ} {z w : FVec Ideal ⟨2, ![n, m]⟩ .f32} {f g : ℕ → ℕ → ℝ} (hz : R2 z f) (hw : R2 w g) : R2 (subf z w) (fun a t => f a t - g a t) := by
  intro a b; show z _ - w _ = _; rw [hz _ _, hw _ _]; rfl
theorem R2.mul {n m : ℕ} {z w : FVec Ideal ⟨2, ![n, m]⟩ .f32} {f g : ℕ → ℕ → ℝ} (hz : R2 z f) (hw : R2 w g) : R2 (mulf z w) (fun a t => f a t * g a t) := by
  intro a b; show z _ * w _ = _; rw [hz _ _, hw _ _]; exact (EReal.coe_mul _ _).symm

theorem R2.sel {c : IVec S512x256 1} {z : FVec Ideal S512x256 .f32} {f : ℕ → ℕ → ℝ} {M : ℕ → ℕ → Prop} [∀ a t, Decidable (M a t)]
    (hc : ∀ (a : Fin 512) (t : Fin 256), c (ix2 a t) = if M a.val t.val then 1#1 else 0#1) (hz : R2 z f) :
    R2 (mSel c z) (fun a t => if M a t then f a t else 0) := by
  intro a b
  unfold mSel
  pointwise
  rw [hc _ _, hz _ _]
  by_cases h : M a.val b.val
  · rw [if_pos h, if_pos h]; rfl
  · rw [if_neg h, if_neg h]; rfl

theorem R2.right {v18 : IVec S512x128 32} {w : BitVec 32} {rs : FVec Ideal S1x512x128 .f32} {f : ℕ → ℕ → ℝ} {l : ℕ} (hl : l < 128)
    (h18 : ∀ (a : Fin 512) (t : Fin 128), v18 (ix2 a t) = BitVec.ofNat 32 t.val) (hw : w = BitVec.ofNat 32 l)
    (hrs : ∀ (a : Fin 512) (t : Fin 128), rs (ix3 0 a t) = ((f a.val t.val : ℝ) : EReal)) :
    R2 (mRight v18 w rs) (fun a _ => f a l) := by
  intro a b
  unfold mRight
  pointwise
  simp only [h18 _ _, hrs _ _, hw]
  rw [Finset.sum_eq_single (⟨l, hl⟩ : Fin 128)]
  · have e : IntOp.cmpi .eq (BitVec.ofNat 32 l) (BitVec.ofNat 32 l) = 1#1 := by
      show BitVec.ofBool (BitVec.ofNat 32 l == BitVec.ofNat 32 l) = _
      rw [beq_self_eq_true]; rfl
    show Scalar.select (IntOp.cmpi .eq (BitVec.ofNat 32 l) (BitVec.ofNat 32 l)) _ _ = _
    rw [e]; rfl
  · intro k _ hk
    have : ¬ BitVec.ofNat 32 k.val = BitVec.ofNat 32 l := fun e => hk (Fin.ext (by
      have := congrArg BitVec.toNat e
      simp only [BitVec.toNat_ofNat] at this
      have := k.isLt
      simp only
      omega))
    have e : IntOp.cmpi .eq (BitVec.ofNat 32 k.val) (BitVec.ofNat 32 l) = 0#1 := by
      show BitVec.ofBool (BitVec.ofNat 32 k.val == BitVec.ofNat 32 l) = _
      rw [beq_false_of_ne this]; rfl
    rw [e]; rfl
  · intro h; exact absurd (Finset.mem_univ _) h

theorem R2.pin {g : FVec Ideal S512x256 .f32} {t : FVec Ideal S256x256 .bf16} {pg : FVec Ideal S512x1 .f32} {f p : ℕ → ℕ → ℝ} {u : ℕ → ℕ → ℝ}
    (hg : R2 g f) (ht : R2 t u) (hp : R2 pg p) :
    R2 (mPin g t pg) (fun a b => (∑ j ∈ range 256, f a j * u j b) + p a 0) := by
  intro a b
  have h := hg.split ht a b
  unfold mPin
  have hb : broadcastTo S512x256 pg broadcasts_S512x1_S512x256 (ix2 a b) = ((p a.val 0 : ℝ) : EReal) := by
    pointwise; exact hp a 0
  show mSplit g t (ix2 a b) + broadcastTo S512x256 pg broadcasts_S512x1_S512x256 (ix2 a b) = _
  rw [h, hb]; rfl

theorem R2.last {g : FVec Ideal S512x256 .f32} {f : ℕ → ℕ → ℝ} (hg : R2 g f) : R2 (mLast g) (fun a _ => f a 255) := by
  intro a b
  unfold mLast
  pointwise
  rw [hg _ _]
  simp

theorem R2.dq {dq : FVec Ideal S512x64 .f32} {dz : FVec Ideal S512x256 .f32} {k : FVec Ideal S256x64 .bf16} {f g p : ℕ → ℕ → ℝ}
    (hp : R2 dq p) (hz : R2 dz f) (hk : R2 k g) :
    R2 (mDq dq dz k) (fun a d => p a d + ∑ t ∈ range 256, f a t * g t d) := by
  intro a b
  unfold mDq
  pointwise
  simp only [hp _ _, hz _ _, hk _ _, ← EReal.coe_mul]
  rw [coe_sum_fin (fun j => f a.val j * g j b.val)]
  rfl

theorem R2.dk {old : FVec Ideal S256x64 .f32} {dz : FVec Ideal S512x256 .f32} {q : FVec Ideal S512x64 .bf16} {f g p : ℕ → ℕ → ℝ}
    (hp : R2 old p) (hz : R2 dz f) (hq : R2 q g) :
    R2 (mDk old dz q) (fun t d => p t d + ∑ a ∈ range 512, f a t * g a d) := by
  intro a b
  unfold mDk
  pointwise
  simp only [hp _ _, hz _ _, hq _ _, ← EReal.coe_mul]
  rw [coe_sum_fin (fun j => f j a.val * g j b.val)]
  rfl

theorem toInt_ofNat {n : ℕ} (h : n < 2147483648) : (BitVec.ofNat 32 n).toInt = (n : ℤ) := by
  rw [BitVec.toInt_eq_toNat_of_lt (by rw [BitVec.toNat_ofNat]; omega), BitVec.toNat_ofNat, Nat.mod_eq_of_lt (by omega)]

theorem cmp_sle {a b : ℕ} (ha : a < 2147483648) (hb : b < 2147483648) :
    IntOp.cmpi .sle (BitVec.ofNat 32 a) (BitVec.ofNat 32 b) = if a ≤ b then 1#1 else 0#1 := by
  show BitVec.ofBool (BitVec.sle _ _) = _
  rw [BitVec.sle_eq_decide, toInt_ofNat ha, toInt_ofNat hb]
  by_cases h : a ≤ b <;> simp [h]

theorem cmp_sge {a b : ℕ} (ha : a < 2147483648) (hb : b < 2147483648) :
    IntOp.cmpi .sge (BitVec.ofNat 32 a) (BitVec.ofNat 32 b) = if b ≤ a then 1#1 else 0#1 := cmp_sle hb ha

theorem cmp_slt {a b : ℕ} (ha : a < 2147483648) (hb : b < 2147483648) :
    IntOp.cmpi .slt (BitVec.ofNat 32 a) (BitVec.ofNat 32 b) = if a < b then 1#1 else 0#1 := by
  show BitVec.ofBool (BitVec.slt _ _) = _
  rw [BitVec.slt_eq_decide, toInt_ofNat ha, toInt_ofNat hb]
  by_cases h : a < b <;> simp [h]

theorem sitofp_bit (p : Prop) [Decidable p] :
    FloatOps.sitofp (F := Ideal) FTy.f32 (BitVec.setWidth 32 (if p then 1#1 else 0#1)) = (((if p then 1 else 0 : ℝ)) : EReal) := by
  show ((((BitVec.setWidth 32 (if p then 1#1 else 0#1)).toInt : ℝ)) : EReal) = _
  by_cases h : p
  · rw [if_pos h, if_pos h]; simp
  · rw [if_neg h, if_neg h]; simp

theorem R2.tsuf : R2 (k0_pay55 (F := Ideal)) (fun j t => if t ≤ j then 1 else 0) := by
  intro a b
  pointwise [k0_pay55]
  rw [cmp_sge (by omega) (by omega), sitofp_bit]

theorem R2.tpre : R2 (k0_pay56 (F := Ideal)) (fun j t => if j ≤ t then 1 else 0) := by
  intro a b
  pointwise [k0_pay56]
  rw [cmp_sle (by omega) (by omega), sitofp_bit]

end Cert.Stick
-- ==== Proof.Value.Block.lean ====
/-
  One block of the kernel, 512 queries against 256 keys of one head: what the weights, the gradient of the scores and
  the running prefix hold, with and without the mask of the diagonal.
-/
module

public import proofs.«01_k».proof.Proof.Value.Vec

@[expose] public section

set_option maxRecDepth 16384

noncomputable section

open Finset

namespace Cert.Stick

open Cert.KernelIdeal Cert.KernelIdeal.Gen
open Idealize.ShloMosaic

section ops
variable {F : FTy → Type} [FloatOps F]

/-- Masked where there is a mask. -/
def selO (o : Option (IVec S512x256 1)) (x : FVec F S512x256 .f32) : FVec F S512x256 .f32 :=
  match o with
  | none => x
  | some m => mSel m x

def bA (o : Option (IVec S512x256 1)) (q : FVec F S512x64 .bf16) (k : FVec F S256x64 .bf16) (ts : FVec F S256x256 .bf16)
    (right : FVec F S512x256 .f32) : FVec F S512x256 .f32 :=
  selO o (exp (addf (addf (mZ q k) (mSplit (selO o (mLg (mZ q k))) ts)) right))

def bG (o : Option (IVec S512x256 1)) (q dO : FVec F S512x64 .bf16) (k v : FVec F S256x64 .bf16) (ts : FVec F S256x256 .bf16)
    (right : FVec F S512x256 .f32) : FVec F S512x256 .f32 :=
  mulf (mZ dO v) (bA o q k ts right)

def bPin (o : Option (IVec S512x256 1)) (q dO : FVec F S512x64 .bf16) (k v : FVec F S256x64 .bf16) (ts tp : FVec F S256x256 .bf16)
    (right : FVec F S512x256 .f32) (pg : FVec F S512x1 .f32) : FVec F S512x256 .f32 :=
  mPin (bG o q dO k v ts right) tp pg

def bDz (o : Option (IVec S512x256 1)) (q dO : FVec F S512x64 .bf16) (k v : FVec F S256x64 .bf16) (ts tp : FVec F S256x256 .bf16)
    (right : FVec F S512x256 .f32) (pg : FVec F S512x1 .f32) : FVec F S512x256 .f32 :=
  selO o (subf (bG o q dO k v ts right) (mulf (mSig (mLg (mZ q k))) (bPin o q dO k v ts tp right pg)))

end ops

/-- The mask of a block whose rows begin at `s0` and whose columns begin at `t0` (none: every column is before every row). -/
def MaskOk (o : Option (IVec S512x256 1)) (s0 t0 : ℕ) : Prop :=
  match o with
  | none => t0 + 256 ≤ s0
  | some m => ∀ (a : Fin 512) (t : Fin 256), m (ix2 a t) = if t0 + t.val < s0 + a.val then 1#1 else 0#1

theorem R2.selO {o : Option (IVec S512x256 1)} {s0 t0 : ℕ} (ho : MaskOk o s0 t0) {z : FVec Ideal S512x256 .f32} {f : ℕ → ℕ → ℝ}
    (hz : R2 z f) : R2 (selO o z) (fun a t => if t0 + t < s0 + a then f a t else 0) := by
  cases o with
  | none =>
    refine R2.congr (f := f) hz fun a b ha hb => ?_
    have : t0 + 256 ≤ s0 := ho
    rw [if_pos (by omega)]
  | some m => exact R2.sel (M := fun a t => t0 + t < s0 + a) ho hz

/-- The operands of one block: head `h`, rows from `s0`, keys from `t0`. -/
structure Ops (x : In) (h s0 t0 : ℕ) (o : Option (IVec S512x256 1)) (q dO : FVec Ideal S512x64 .bf16) (k v : FVec Ideal S256x64 .bf16)
    (ts tp : FVec Ideal S256x256 .bf16) (right : FVec Ideal S512x256 .f32) (pg : FVec Ideal S512x1 .f32) : Prop where
  mask : MaskOk o s0 t0
  top : t0 + 256 ≤ 4096
  q : R2 q (fun a d => x.Q (s0 + a) (64 * h + d) / 8)
  dO : R2 dO (fun a d => x.D (s0 + a) (64 * h + d))
  k : R2 k (fun t d => x.K (t0 + t) (64 * h + d))
  v : R2 v (fun t d => x.V (t0 + t) (64 * h + d))
  ts : R2 ts (fun j t => if t ≤ j then 1 else 0)
  tp : R2 tp (fun j t => if j ≤ t then 1 else 0)
  right : R2 right (fun a _ => Suf x h (s0 + a) (t0 + 256))
  pg : R2 pg (fun a _ => ∑ j ∈ range t0, Gr x h (s0 + a) j)

namespace Ops
variable {x : In} {h s0 t0 : ℕ} {o : Option (IVec S512x256 1)} {q dO : FVec Ideal S512x64 .bf16} {k v : FVec Ideal S256x64 .bf16}
  {ts tp : FVec Ideal S256x256 .bf16} {right : FVec Ideal S512x256 .f32} {pg : FVec Ideal S512x1 .f32}
  (H : Ops x h s0 t0 o q dO k v ts tp right pg)
include H

theorem z : R2 (mZ q k) (fun a t => Z x h (s0 + a) (t0 + t)) := H.q.z H.k

theorem lg : R2 (Stick.selO o (mLg (mZ q k))) (fun a t => Lg x h (s0 + a) (t0 + t)) := R2.selO H.mask H.z.lg

theorem a : R2 (bA o q k ts right) (fun a t => Aw x h (s0 + a) (t0 + t)) := by
  refine (R2.selO H.mask ((H.z.add (H.lg.split H.ts)).add H.right).exp).congr fun a t ha ht => ?_
  unfold Aw
  rw [Suf_split x h (s0 + a) t0 t 256 ht H.top, add_assoc]

theorem g : R2 (bG o q dO k v ts right) (fun a t => Gr x h (s0 + a) (t0 + t)) := (H.dO.z H.v).mul H.a

theorem pin : R2 (bPin o q dO k v ts tp right pg) (fun a t => Pin x h (s0 + a) (t0 + t)) := by
  refine (R2.pin H.g H.tp H.pg).congr fun a t ha ht => ?_
  rw [Pin_split x h (s0 + a) t0 t 256 ht]

theorem dz : R2 (bDz o q dO k v ts tp right pg) (fun a t => DZ x h (s0 + a) (t0 + t)) := by
  refine (R2.selO H.mask (H.g.sub (H.z.lg.sig.mul H.pin))).congr fun a t ha ht => ?_
  unfold DZ; rfl

/-- The prefix handed to the next block. -/
theorem last : R2 (mLast (bPin o q dO k v ts tp right pg)) (fun a _ => ∑ j ∈ range (t0 + 256), Gr x h (s0 + a) j) := H.pin.last

theorem dq {p : FVec Ideal S512x64 .f32} {f : ℕ → ℕ → ℝ} (hp : R2 p f) :
    R2 (mDq p (bDz o q dO k v ts tp right pg) k)
      (fun a d => f a d + ∑ t ∈ range 256, DZ x h (s0 + a) (t0 + t) * x.K (t0 + t) (64 * h + d)) := R2.dq hp H.dz H.k

theorem dk {p : FVec Ideal S256x64 .f32} {f : ℕ → ℕ → ℝ} (hp : R2 p f) :
    R2 (mDk p (bDz o q dO k v ts tp right pg) q)
      (fun t d => f t d + ∑ a ∈ range 512, DZ x h (s0 + a) (t0 + t) * (x.Q (s0 + a) (64 * h + d) / 8)) := R2.dk hp H.dz H.q

theorem dv {p : FVec Ideal S256x64 .f32} {f : ℕ → ℕ → ℝ} (hp : R2 p f) :
    R2 (mDk p (bA o q k ts right) dO)
      (fun t d => f t d + ∑ a ∈ range 512, Aw x h (s0 + a) (t0 + t) * x.D (s0 + a) (64 * h + d)) := R2.dk hp H.a H.dO

end Ops

end Cert.Stick
-- ==== Proof.Value.Trip.lean ====
/-
  One trip of the kernel's loop over the blocks before the diagonal: its yields and its stores are the block's
  operations.
-/
module

public import proofs.«01_k».proof.Proof.KernelIdeal.Words
public import proofs.«01_k».proof.Proof.Value.Block
public import proofs.«01_k».proof.Proof.Gen.KernelIdeal.Frame
public import proofs.«01_k».proof.Proof.Gen.KernelIdeal.Loops
public import Idealize.ShloMosaic.Lib.Pipeline.Frame
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

open Cert.Stick

variable (𝒱 : Variants) (c : Dev nD) (bd : Option 𝒱.V) (i : grid0.Coords) (arg2 : Memref sig .tc .vmem S512x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S512x128 .f32) (harg5 : arg5.IsWhole) (arg6 : Memref sig .tc .vmem S2x512x16 .f32) (harg6 : arg6.IsWhole) (arg7 : Memref sig .tc .vmem S512x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S2x512x128 .f32) (harg10 : arg10.IsWhole) (arg1 : BitVec 32) (v8 : FVec F S256x256 .bf16) (v12 : FVec F S256x256 .bf16) (v16 : IVec S512x256 32) (v17 : IVec S512x256 32) (v18 : IVec S512x128 32) (v19 : IVec S1x128 32) (v21 : BitVec 32) (v23 : FVec F S512x64 .bf16) (v25 : FVec F S512x64 .bf16) (v27 : FVec F S512x64 .bf16) (v29 : FVec F S512x64 .bf16) (v56 : BitVec 32) (v57 : BitVec 32) (v68 : FVec F S512x128 .f32) (v83 : BitVec 32) (k0_hw1 : k0_chk1 i v56 v83) (v84 : BitVec 32) (X_arg3 : BufTy.Contents (Elt F) arg3.view.ty) (X_arg4 : BufTy.Contents (Elt F) arg4.view.ty) (X_arg10 : BufTy.Contents (Elt F) arg10.view.ty) (k : Fin (k0_t1_loop i v56 v83).trips)

/-- The keys of the trip's block, head 0; and the values, and the same of head 1. -/
def tK0 : FVec F S256x64 .bf16 := shapeCast S256x64 (arg3.view.readAt (Elt F) (Rect.unit (s := S4096x128) (k0_off1 i v56 v83 k) S256x64.size (k0_off1_inb i v56 v83 k0_hw1 k)).toLoadRect X_arg3) shapeCasts_S256x64_S256x64
def tV0 : FVec F S256x64 .bf16 := shapeCast S256x64 (arg4.view.readAt (Elt F) (Rect.unit (s := S4096x128) (k0_off1 i v56 v83 k) S256x64.size (k0_off1_inb i v56 v83 k0_hw1 k)).toLoadRect X_arg4) shapeCasts_S256x64_S256x64
def tK1 : FVec F S256x64 .bf16 := shapeCast S256x64 (arg3.view.readAt (Elt F) (Rect.unit (s := S4096x128) (k0_off2 i v56 v83 k) S256x64.size (k0_off2_inb i v56 v83 k0_hw1 k)).toLoadRect X_arg3) shapeCasts_S256x64_S256x64
def tV1 : FVec F S256x64 .bf16 := shapeCast S256x64 (arg4.view.readAt (Elt F) (Rect.unit (s := S4096x128) (k0_off2 i v56 v83 k) S256x64.size (k0_off2_inb i v56 v83 k0_hw1 k)).toLoadRect X_arg4) shapeCasts_S256x64_S256x64
/-- What is right of the trip's block, head 0 and head 1. -/
def tR0 : FVec F S512x256 .f32 := mRight v18 (Scalar.addi (Scf.iv v84 1#32 k) 1#32)
  (arg10.view.readAt (Elt F) (Rect.unit (s := S2x512x128) ![0, 0, 0] S1x512x128.size inb_S2x512x128_S1x512x128_0_0_0).toLoadRect X_arg10)
def tR1 : FVec F S512x256 .f32 := mRight v18 (Scalar.addi (Scf.iv v84 1#32 k) 1#32)
  (arg10.view.readAt (Elt F) (Rect.unit (s := S2x512x128) ![1, 0, 0] S1x512x128.size inb_S2x512x128_S1x512x128_1_0_0).toLoadRect X_arg10)

theorem trip_yield (acc : FVec F S512x1 .f32 × FVec F S512x64 .f32 × FVec F S512x1 .f32 × FVec F S512x64 .f32)
    (f8 : BufTy.Contents (Elt F) arg8.view.ty) (f9 : BufTy.Contents (Elt F) arg9.view.ty) :
    (trip_k0_t1 (F := F) 𝒱 c bd i arg2 harg2 arg3 harg3 arg4 harg4 arg5 harg5 arg6 harg6 arg7 harg7 arg8 harg8 arg9 harg9 arg10 harg10 arg1 v8 v12 v16 v17 v18 v19 v21 v23 v25 v27 v29 v56 v57 v68 v83 k0_hw1 v84 X_arg3 X_arg4 X_arg10 k).1 acc f8 f9
      = (mLast (bPin none v23 v27 (tK0 i arg3 v56 v83 k0_hw1 X_arg3 k) (tV0 i arg4 v56 v83 k0_hw1 X_arg4 k) v8 v12 (tR0 i arg10 v18 v56 v83 v84 X_arg10 k) acc.1), mDq acc.2.1 (bDz none v23 v27 (tK0 i arg3 v56 v83 k0_hw1 X_arg3 k) (tV0 i arg4 v56 v83 k0_hw1 X_arg4 k) v8 v12 (tR0 i arg10 v18 v56 v83 v84 X_arg10 k) acc.1) (tK0 i arg3 v56 v83 k0_hw1 X_arg3 k),
         mLast (bPin none v25 v29 (tK1 i arg3 v56 v83 k0_hw1 X_arg3 k) (tV1 i arg4 v56 v83 k0_hw1 X_arg4 k) v8 v12 (tR1 i arg10 v18 v56 v83 v84 X_arg10 k) acc.2.2.1), mDq acc.2.2.2 (bDz none v25 v29 (tK1 i arg3 v56 v83 k0_hw1 X_arg3 k) (tV1 i arg4 v56 v83 k0_hw1 X_arg4 k) v8 v12 (tR1 i arg10 v18 v56 v83 v84 X_arg10 k) acc.2.2.1) (tK1 i arg3 v56 v83 k0_hw1 X_arg3 k)) := by
  unfold trip_k0_t1; rfl

theorem trip_dk (acc : FVec F S512x1 .f32 × FVec F S512x64 .f32 × FVec F S512x1 .f32 × FVec F S512x64 .f32)
    (f8 : BufTy.Contents (Elt F) arg8.view.ty) (f9 : BufTy.Contents (Elt F) arg9.view.ty) :
    (trip_k0_t1 (F := F) 𝒱 c bd i arg2 harg2 arg3 harg3 arg4 harg4 arg5 harg5 arg6 harg6 arg7 harg7 arg8 harg8 arg9 harg9 arg10 harg10 arg1 v8 v12 v16 v17 v18 v19 v21 v23 v25 v27 v29 v56 v57 v68 v83 k0_hw1 v84 X_arg3 X_arg4 X_arg10 k).2.1 acc f8 f9
      = [⟨Rect.unit (s := S4096x128) (k0_off2 i v56 v83 k) S256x64.size (k0_off2_inb i v56 v83 k0_hw1 k), mDk (arg8.view.readAt (Elt F) (Rect.unit (s := S4096x128) (k0_off2 i v56 v83 k) S256x64.size (k0_off2_inb i v56 v83 k0_hw1 k)).toLoadRect (arg8.view.writes (Elt F) f8 [⟨Rect.unit (s := S4096x128) (k0_off1 i v56 v83 k) S256x64.size (k0_off1_inb i v56 v83 k0_hw1 k), mDk (arg8.view.readAt (Elt F) (Rect.unit (s := S4096x128) (k0_off1 i v56 v83 k) S256x64.size (k0_off1_inb i v56 v83 k0_hw1 k)).toLoadRect f8) (bDz none v23 v27 (tK0 i arg3 v56 v83 k0_hw1 X_arg3 k) (tV0 i arg4 v56 v83 k0_hw1 X_arg4 k) v8 v12 (tR0 i arg10 v18 v56 v83 v84 X_arg10 k) acc.1) v23⟩])) (bDz none v25 v29 (tK1 i arg3 v56 v83 k0_hw1 X_arg3 k) (tV1 i arg4 v56 v83 k0_hw1 X_arg4 k) v8 v12 (tR1 i arg10 v18 v56 v83 v84 X_arg10 k) acc.2.2.1) v25⟩,
          ⟨Rect.unit (s := S4096x128) (k0_off1 i v56 v83 k) S256x64.size (k0_off1_inb i v56 v83 k0_hw1 k), mDk (arg8.view.readAt (Elt F) (Rect.unit (s := S4096x128) (k0_off1 i v56 v83 k) S256x64.size (k0_off1_inb i v56 v83 k0_hw1 k)).toLoadRect f8) (bDz none v23 v27 (tK0 i arg3 v56 v83 k0_hw1 X_arg3 k) (tV0 i arg4 v56 v83 k0_hw1 X_arg4 k) v8 v12 (tR0 i arg10 v18 v56 v83 v84 X_arg10 k) acc.1) v23⟩] := by
  unfold trip_k0_t1; rfl

theorem trip_dv (acc : FVec F S512x1 .f32 × FVec F S512x64 .f32 × FVec F S512x1 .f32 × FVec F S512x64 .f32)
    (f8 : BufTy.Contents (Elt F) arg8.view.ty) (f9 : BufTy.Contents (Elt F) arg9.view.ty) :
    (trip_k0_t1 (F := F) 𝒱 c bd i arg2 harg2 arg3 harg3 arg4 harg4 arg5 harg5 arg6 harg6 arg7 harg7 arg8 harg8 arg9 harg9 arg10 harg10 arg1 v8 v12 v16 v17 v18 v19 v21 v23 v25 v27 v29 v56 v57 v68 v83 k0_hw1 v84 X_arg3 X_arg4 X_arg10 k).2.2.1 acc f8 f9
      = [⟨Rect.unit (s := S4096x128) (k0_off2 i v56 v83 k) S256x64.size (k0_off2_inb i v56 v83 k0_hw1 k), mDk (arg9.view.readAt (Elt F) (Rect.unit (s := S4096x128) (k0_off2 i v56 v83 k) S256x64.size (k0_off2_inb i v56 v83 k0_hw1 k)).toLoadRect (arg9.view.writes (Elt F) f9 [⟨Rect.unit (s := S4096x128) (k0_off1 i v56 v83 k) S256x64.size (k0_off1_inb i v56 v83 k0_hw1 k), mDk (arg9.view.readAt (Elt F) (Rect.unit (s := S4096x128) (k0_off1 i v56 v83 k) S256x64.size (k0_off1_inb i v56 v83 k0_hw1 k)).toLoadRect f9) (bA none v23 (tK0 i arg3 v56 v83 k0_hw1 X_arg3 k) v8 (tR0 i arg10 v18 v56 v83 v84 X_arg10 k)) v27⟩])) (bA none v25 (tK1 i arg3 v56 v83 k0_hw1 X_arg3 k) v8 (tR1 i arg10 v18 v56 v83 v84 X_arg10 k)) v29⟩,
          ⟨Rect.unit (s := S4096x128) (k0_off1 i v56 v83 k) S256x64.size (k0_off1_inb i v56 v83 k0_hw1 k), mDk (arg9.view.readAt (Elt F) (Rect.unit (s := S4096x128) (k0_off1 i v56 v83 k) S256x64.size (k0_off1_inb i v56 v83 k0_hw1 k)).toLoadRect f9) (bA none v23 (tK0 i arg3 v56 v83 k0_hw1 X_arg3 k) v8 (tR0 i arg10 v18 v56 v83 v84 X_arg10 k)) v27⟩] := by
  unfold trip_k0_t1; rfl

end Cert.KernelIdeal.Hand
-- ==== Proof.Value.Mem.lean ====
/-
  Buffers that hold real numbers: a window loaded of one, a window stored into one, and a buffer to which a block's
  windows are added one after the other.
-/
module

public import proofs.«01_k».proof.Proof.Value.Block
public import Idealize.ShloMosaic.Lib.VecWindow

@[expose] public section

set_option maxRecDepth 16384

noncomputable section

open Finset

namespace Cert.Stick

open Cert.KernelIdeal Cert.KernelIdeal.Gen
open Idealize.ShloMosaic

variable {sig : RefSig} {κ : Kind} {sp : Space}

/-- An element of a window loaded. -/
theorem readAt_ix2 {n m n' m' : ℕ} {e : EltTy} (v : View sig κ sp ⟨2, ![n, m]⟩ e) (f : v.ty.Contents (Elt Ideal))
    (off : Fin 2 → ℕ) (o0 o1 : ℕ) (hoff : off = ![o0, o1])
    (inb : ∀ a, off a + (![n', m'] : Fin 2 → ℕ) a ≤ (⟨2, ![n, m]⟩ : Shape).size a) (a : Fin n') (b : Fin m')
    (h0 : o0 + a.val < n) (h1 : o1 + b.val < m) :
    v.readAt (Elt Ideal) (Rect.unit (s := ⟨2, ![n, m]⟩) off ![n', m'] inb).toLoadRect f (ix2 a b)
      = v.read (Elt Ideal) f (ix2 ⟨o0 + a.val, h0⟩ ⟨o1 + b.val, h1⟩) := by
  subst hoff
  show v.read (Elt Ideal) f _ = v.read (Elt Ideal) f _
  congr 1
  funext d
  match d with
  | ⟨0, _⟩ => exact Fin.ext (by show o0 + 1 * a.val = o0 + a.val; omega)
  | ⟨1, _⟩ => exact Fin.ext (by show o1 + 1 * b.val = o1 + b.val; omega)

/-- A window loaded. -/
theorem R2.load {n m n' m' : ℕ} (v : View sig κ sp ⟨2, ![n, m]⟩ .f32) (f : v.ty.Contents (Elt Ideal)) {g : ℕ → ℕ → ℝ}
    (hf : R2 (v.read (Elt Ideal) f) g) (off : Fin 2 → ℕ) (o0 o1 : ℕ) (hoff : off = ![o0, o1])
    (inb : ∀ a, off a + (![n', m'] : Fin 2 → ℕ) a ≤ (⟨2, ![n, m]⟩ : Shape).size a) :
    R2 (n := n') (m := m') (v.readAt (Elt Ideal) (Rect.unit (s := ⟨2, ![n, m]⟩) off ![n', m'] inb).toLoadRect f) (fun a b => g (o0 + a) (o1 + b)) := by
  intro a b
  have e0 : o0 + n' ≤ n := by subst hoff; exact inb 0
  have e1 : o1 + m' ≤ m := by subst hoff; exact inb 1
  exact (readAt_ix2 v f off o0 o1 hoff inb a b (by omega) (by omega)).trans (hf _ _)

/-- The same of a buffer of bf16. -/
theorem R2.load16 {n m n' m' : ℕ} (v : View sig κ sp ⟨2, ![n, m]⟩ .bf16) (f : v.ty.Contents (Elt Ideal)) {g : ℕ → ℕ → ℝ}
    (hf : R2 (v.read (Elt Ideal) f) g) (off : Fin 2 → ℕ) (o0 o1 : ℕ) (hoff : off = ![o0, o1])
    (inb : ∀ a, off a + (![n', m'] : Fin 2 → ℕ) a ≤ (⟨2, ![n, m]⟩ : Shape).size a) :
    R2 (n := n') (m := m') (v.readAt (Elt Ideal) (Rect.unit (s := ⟨2, ![n, m]⟩) off ![n', m'] inb).toLoadRect f) (fun a b => g (o0 + a) (o1 + b)) := by
  intro a b
  have e0 : o0 + n' ≤ n := by subst hoff; exact inb 0
  have e1 : o1 + m' ≤ m := by subst hoff; exact inb 1
  exact (readAt_ix2 v f off o0 o1 hoff inb a b (by omega) (by omega)).trans (hf _ _)

/-- A window stored. -/
theorem R2.store {n m n' m' : ℕ} (v : View sig κ sp ⟨2, ![n, m]⟩ .f32) (f : v.ty.Contents (Elt Ideal)) {g w : ℕ → ℕ → ℝ}
    (off : Fin 2 → ℕ) (o0 o1 : ℕ) (hoff : off = ![o0, o1])
    (inb : ∀ a, off a + (![n', m'] : Fin 2 → ℕ) a ≤ (⟨2, ![n, m]⟩ : Shape).size a)
    (L : List (View.Piece (Elt Ideal) ⟨2, ![n, m]⟩ .f32)) (hf : R2 (v.read (Elt Ideal) (v.writes (Elt Ideal) f L)) g)
    (x : (⟨2, ![n', m']⟩ : Shape).Idx → EReal) (hx : R2 x w) :
    R2 (v.read (Elt Ideal) (v.writes (Elt Ideal) f (⟨Rect.unit (s := ⟨2, ![n, m]⟩) off ![n', m'] inb, x⟩ :: L)))
      (fun r c => if o0 ≤ r ∧ r < o0 + n' ∧ o1 ≤ c ∧ c < o1 + m' then w (r - o0) (c - o1) else g r c) := by
  intro r c
  rw [View.read_writes_cons_put v f inb x L hoff]
  unfold VecWindow.put
  by_cases h : o0 ≤ r.val ∧ r.val < o0 + n' ∧ o1 ≤ c.val ∧ c.val < o1 + m'
  · have h' : ∀ a : Fin 2, (![o0, o1] : Fin 2 → ℕ) a ≤ ((ix2 r c : (⟨2, ![n, m]⟩ : Shape).Idx) a).val
        ∧ ((ix2 r c : (⟨2, ![n, m]⟩ : Shape).Idx) a).val < (![o0, o1] : Fin 2 → ℕ) a + (![n', m'] : Fin 2 → ℕ) a := fun a => by
      match a with
      | ⟨0, _⟩ => exact ⟨h.1, h.2.1⟩
      | ⟨1, _⟩ => exact h.2.2
    rw [dif_pos h']; beta_reduce; rw [if_pos h]
    refine Eq.trans (congrArg x ?_) (hx ⟨r.val - o0, by omega⟩ ⟨c.val - o1, by omega⟩)
    funext d
    match d with
    | ⟨0, _⟩ => rfl
    | ⟨1, _⟩ => rfl
  · have h' : ¬ ∀ a : Fin 2, (![o0, o1] : Fin 2 → ℕ) a ≤ ((ix2 r c : (⟨2, ![n, m]⟩ : Shape).Idx) a).val
        ∧ ((ix2 r c : (⟨2, ![n, m]⟩ : Shape).Idx) a).val < (![o0, o1] : Fin 2 → ℕ) a + (![n', m'] : Fin 2 → ℕ) a := fun q => by
      have q0 := q 0
      have q1 := q 1
      exact h ⟨q0.1, q0.2, q1.1, q1.2⟩
    rw [dif_neg h']; beta_reduce; rw [if_neg h]
    exact hf r c

/-- The windows of blocks already added: the blocks before block `n` whole, and of block `n` the first `b` heads. -/
def Done (n b t c : ℕ) : Prop := t < 256 * n ∨ (t < 256 * n + 256 ∧ c < 64 * b)

instance (n b t c : ℕ) : Decidable (Done n b t c) := by unfold Done; infer_instance

/-- `g` with `ψ` added in the windows that are done. -/
def acc (g ψ : ℕ → ℕ → ℝ) (n b : ℕ) : ℕ → ℕ → ℝ := fun t c => g t c + if Done n b t c then ψ t c else 0

/-- The window of block `n` and head `b`, loaded before it is added to. -/
theorem acc_old (g ψ : ℕ → ℕ → ℝ) (n b t d : ℕ) (ht : t < 256) (hd : d < 64) :
    acc g ψ n b (256 * n + t) (64 * b + d) = g (256 * n + t) (64 * b + d) := by
  unfold acc
  rw [if_neg (by unfold Done; omega), add_zero]

/-- One window added: block `n`, head `b`. -/
theorem acc_step (v : View sig κ sp S4096x128 .f32) (f : v.ty.Contents (Elt Ideal)) (L : List (View.Piece (Elt Ideal) S4096x128 .f32))
    {g ψ : ℕ → ℕ → ℝ} {n b : ℕ} (hf : R2 (v.read (Elt Ideal) (v.writes (Elt Ideal) f L)) (acc g ψ n b))
    (off : Fin 2 → ℕ) (hoff : off = ![256 * n, 64 * b]) (inb : ∀ a, off a + S256x64.size a ≤ S4096x128.size a)
    (x : FVec Ideal S256x64 .f32)
    (hx : ∀ p : FVec Ideal S256x64 .f32, p = v.readAt (Elt Ideal) (Rect.unit (s := S4096x128) off S256x64.size inb).toLoadRect (v.writes (Elt Ideal) f L) →
      R2 p (fun t d => g (256 * n + t) (64 * b + d)) → R2 x (fun t d => g (256 * n + t) (64 * b + d) + ψ (256 * n + t) (64 * b + d))) :
    R2 (v.read (Elt Ideal) (v.writes (Elt Ideal) f (⟨Rect.unit (s := S4096x128) off S256x64.size inb, x⟩ :: L))) (acc g ψ n (b + 1)) := by
  have hold := R2.load (n' := 256) (m' := 64) v (v.writes (Elt Ideal) f L) hf off (256 * n) (64 * b) hoff inb
  have hnew := hx _ rfl (hold.congr fun t d ht hd => acc_old g ψ n b t d ht hd)
  refine (R2.store (n' := 256) (m' := 64) v f off (256 * n) (64 * b) hoff inb L hf x hnew).congr fun r c hr hc => ?_
  unfold acc
  by_cases h : 256 * n ≤ r ∧ r < 256 * n + 256 ∧ 64 * b ≤ c ∧ c < 64 * b + 64
  · rw [if_pos h, if_pos (by unfold Done; omega), show 256 * n + (r - 256 * n) = r by omega, show 64 * b + (c - 64 * b) = c by omega]
  · rw [if_neg h]
    congr 1
    refine if_congr ?_ rfl rfl
    unfold Done
    omega

theorem acc_next (g ψ : ℕ → ℕ → ℝ) (n t c : ℕ) (hc : c < 128) : acc g ψ n 2 t c = acc g ψ (n + 1) 0 t c := by
  unfold acc
  congr 1
  refine if_congr ?_ rfl rfl
  unfold Done
  omega

theorem acc_zero (g ψ : ℕ → ℕ → ℝ) (t c : ℕ) : acc g ψ 0 0 t c = g t c := by
  unfold acc
  rw [if_neg (by unfold Done; omega), add_zero]

end Cert.Stick
-- ==== Proof.Value.Step.lean ====
/-
  What one block of two heads does to the gradients of the keys and of the values, and what is carried from block to
  block.
-/
module

public import proofs.«01_k».proof.Proof.Value.Mem

@[expose] public section

set_option maxRecDepth 16384

noncomputable section

open Finset

namespace Cert.Stick

open Cert.KernelIdeal Cert.KernelIdeal.Gen
open Idealize.ShloMosaic

/-- What the 512 queries from `s0` on give to the gradient of the keys, in the 128 columns of the head pair `h2`. -/
def gK (x : In) (h2 s0 t c : ℕ) : ℝ := ∑ a ∈ range 512, DZ x (2 * h2 + c / 64) (s0 + a) t * (x.Q (s0 + a) (128 * h2 + c) / 8)

/-- The same of the values. -/
def gV (x : In) (h2 s0 t c : ℕ) : ℝ := ∑ a ∈ range 512, Aw x (2 * h2 + c / 64) (s0 + a) t * x.D (s0 + a) (128 * h2 + c)

theorem head_col (h2 b d : ℕ) (hd : d < 64) : 2 * h2 + (64 * b + d) / 64 = 2 * h2 + b ∧ 128 * h2 + (64 * b + d) = 64 * (2 * h2 + b) + d := by
  omega

variable {sig : RefSig} {κ : Kind} {sp : Space}
variable {x : In} {h2 s0 n : ℕ}

section pieces
variable {o0 o1 : Option (IVec S512x256 1)} {q0 d0 q1 d1 : FVec Ideal S512x64 .bf16} {k0 v0 k1 v1 : FVec Ideal S256x64 .bf16}
  {ts tp : FVec Ideal S256x256 .bf16} {r0 r1 : FVec Ideal S512x256 .f32} {p0 p1 : FVec Ideal S512x1 .f32}
  (O0 : Ops x (2 * h2) s0 (256 * n) o0 q0 d0 k0 v0 ts tp r0 p0) (O1 : Ops x (2 * h2 + 1) s0 (256 * n) o1 q1 d1 k1 v1 ts tp r1 p1)
  (v : View sig κ sp S4096x128 .f32) (f : v.ty.Contents (Elt Ideal)) (L : List (View.Piece (Elt Ideal) S4096x128 .f32))
  (g : ℕ → ℕ → ℝ) (off0 off1 : Fin 2 → ℕ) (e0 : off0 = ![256 * n, 0]) (e1 : off1 = ![256 * n, 64])
  (inb0 : ∀ a, off0 a + S256x64.size a ≤ S4096x128.size a) (inb1 : ∀ a, off1 a + S256x64.size a ≤ S4096x128.size a)
include O0 O1 e0 e1

/-- The block's two windows of the gradient of the keys added. -/
theorem dk_block (hf : R2 (v.read (Elt Ideal) (v.writes (Elt Ideal) f L)) (acc g (gK x h2 s0) n 0)) :
    R2 (v.read (Elt Ideal) (v.writes (Elt Ideal) f
      (⟨Rect.unit (s := S4096x128) off1 S256x64.size inb1, mDk (v.readAt (Elt Ideal) (Rect.unit (s := S4096x128) off1 S256x64.size inb1).toLoadRect
          (v.writes (Elt Ideal) f (⟨Rect.unit (s := S4096x128) off0 S256x64.size inb0, mDk (v.readAt (Elt Ideal) (Rect.unit (s := S4096x128) off0 S256x64.size inb0).toLoadRect
            (v.writes (Elt Ideal) f L)) (bDz o0 q0 d0 k0 v0 ts tp r0 p0) q0⟩ :: L))) (bDz o1 q1 d1 k1 v1 ts tp r1 p1) q1⟩
        :: ⟨Rect.unit (s := S4096x128) off0 S256x64.size inb0, mDk (v.readAt (Elt Ideal) (Rect.unit (s := S4096x128) off0 S256x64.size inb0).toLoadRect
            (v.writes (Elt Ideal) f L)) (bDz o0 q0 d0 k0 v0 ts tp r0 p0) q0⟩ :: L))) (acc g (gK x h2 s0) (n + 1) 0) := by
  have H0 := acc_step v f L hf off0 (e0.trans rfl) inb0 _ fun p hp hR => by
    have := O0.dk hR
    rw [hp] at this
    refine this.congr fun t d ht hd => ?_
    unfold gK; rw [(head_col h2 0 d hd).1, (head_col h2 0 d hd).2]; rfl
  have H1 := acc_step v f _ H0 off1 (e1.trans rfl) inb1 _ fun p hp hR => by
    have := O1.dk hR
    rw [hp] at this
    refine this.congr fun t d ht hd => ?_
    unfold gK; rw [(head_col h2 1 d hd).1, (head_col h2 1 d hd).2]
  exact H1.congr fun t c ht hc => acc_next g (gK x h2 s0) n t c hc

/-- The block's two windows of the gradient of the values added. -/
theorem dv_block (hf : R2 (v.read (Elt Ideal) (v.writes (Elt Ideal) f L)) (acc g (gV x h2 s0) n 0)) :
    R2 (v.read (Elt Ideal) (v.writes (Elt Ideal) f
      (⟨Rect.unit (s := S4096x128) off1 S256x64.size inb1, mDk (v.readAt (Elt Ideal) (Rect.unit (s := S4096x128) off1 S256x64.size inb1).toLoadRect
          (v.writes (Elt Ideal) f (⟨Rect.unit (s := S4096x128) off0 S256x64.size inb0, mDk (v.readAt (Elt Ideal) (Rect.unit (s := S4096x128) off0 S256x64.size inb0).toLoadRect
            (v.writes (Elt Ideal) f L)) (bA o0 q0 k0 ts r0) d0⟩ :: L))) (bA o1 q1 k1 ts r1) d1⟩
        :: ⟨Rect.unit (s := S4096x128) off0 S256x64.size inb0, mDk (v.readAt (Elt Ideal) (Rect.unit (s := S4096x128) off0 S256x64.size inb0).toLoadRect
            (v.writes (Elt Ideal) f L)) (bA o0 q0 k0 ts r0) d0⟩ :: L))) (acc g (gV x h2 s0) (n + 1) 0) := by
  have H0 := acc_step v f L hf off0 (e0.trans rfl) inb0 _ fun p hp hR => by
    have := O0.dv hR
    rw [hp] at this
    refine this.congr fun t d ht hd => ?_
    unfold gV; rw [(head_col h2 0 d hd).1, (head_col h2 0 d hd).2]; rfl
  have H1 := acc_step v f _ H0 off1 (e1.trans rfl) inb1 _ fun p hp hR => by
    have := O1.dv hR
    rw [hp] at this
    refine this.congr fun t d ht hd => ?_
    unfold gV; rw [(head_col h2 1 d hd).1, (head_col h2 1 d hd).2]
  exact H1.congr fun t c ht hc => acc_next g (gV x h2 s0) n t c hc

end pieces

/-- The gradient of the queries' sum over the keys below `n`, head `h`, column `d` of the head. -/
def gQ (x : In) (h s0 n a d : ℕ) : ℝ := ∑ t ∈ range n, DZ x h (s0 + a) t * x.K t (64 * h + d)

/-- What is carried to block `n`: for each head the prefix of the gradient of the logarithm and the gradient of the queries. -/
structure Carry (x : In) (h2 s0 n : ℕ)
    (p : FVec Ideal S512x1 .f32 × FVec Ideal S512x64 .f32 × FVec Ideal S512x1 .f32 × FVec Ideal S512x64 .f32) : Prop where
  p0 : R2 p.1 (fun a _ => ∑ j ∈ range (256 * n), Gr x (2 * h2) (s0 + a) j)
  q0 : R2 p.2.1 (gQ x (2 * h2) s0 (256 * n))
  p1 : R2 p.2.2.1 (fun a _ => ∑ j ∈ range (256 * n), Gr x (2 * h2 + 1) (s0 + a) j)
  q1 : R2 p.2.2.2 (gQ x (2 * h2 + 1) s0 (256 * n))

theorem dq_block {h : ℕ} {o : Option (IVec S512x256 1)} {q d : FVec Ideal S512x64 .bf16} {k v : FVec Ideal S256x64 .bf16}
    {ts tp : FVec Ideal S256x256 .bf16} {r : FVec Ideal S512x256 .f32} {p : FVec Ideal S512x1 .f32}
    (O : Ops x h s0 (256 * n) o q d k v ts tp r p) {w : FVec Ideal S512x64 .f32} (hw : R2 w (gQ x h s0 (256 * n))) :
    R2 (mDq w (bDz o q d k v ts tp r p) k) (gQ x h s0 (256 * (n + 1))) :=
  (O.dq hw).congr fun a d ha hd => by
    unfold gQ
    rw [show 256 * (n + 1) = 256 * n + 256 by ring, sum_split _ (256 * n) 256]

theorem last_block {h : ℕ} {o : Option (IVec S512x256 1)} {q d : FVec Ideal S512x64 .bf16} {k v : FVec Ideal S256x64 .bf16}
    {ts tp : FVec Ideal S256x256 .bf16} {r : FVec Ideal S512x256 .f32} {p : FVec Ideal S512x1 .f32}
    (O : Ops x h s0 (256 * n) o q d k v ts tp r p) :
    R2 (mLast (bPin o q d k v ts tp r p)) (fun a _ => ∑ j ∈ range (256 * (n + 1)), Gr x h (s0 + a) j) :=
  O.last.congr fun a d ha hd => by rw [show 256 * (n + 1) = 256 * n + 256 by ring]

/-- Over the keys that are not before the last of the 512 queries nothing is added. -/
theorem gK_eq_zero (x : In) (h2 s0 t c : ℕ) (ht : s0 + 512 ≤ t) : gK x h2 s0 t c = 0 :=
  Finset.sum_eq_zero fun a ha => by rw [DZ_eq_zero _ _ _ _ (by simp at ha; omega), zero_mul]
theorem gV_eq_zero (x : In) (h2 s0 t c : ℕ) (ht : s0 + 512 ≤ t) : gV x h2 s0 t c = 0 :=
  Finset.sum_eq_zero fun a ha => by rw [Aw_eq_zero _ _ _ _ (by simp at ha; omega), zero_mul]

/-- All blocks up to the diagonal done: the whole of the 512 queries' part is added. -/
theorem acc_all (g ψ : ℕ → ℕ → ℝ) (s0 n : ℕ) (hn : 256 * n = s0 + 512) (hψ : ∀ t c, s0 + 512 ≤ t → ψ t c = 0) (t c : ℕ) :
    acc g ψ n 0 t c = g t c + ψ t c := by
  unfold acc
  by_cases h : t < 256 * n
  · rw [if_pos (.inl h)]
  · rw [if_neg (by unfold Done; omega), hψ t c (by omega)]

theorem gQ_all (x : In) (h s0 a d : ℕ) (hs : s0 + 512 ≤ 4096) (ha : a < 512) : gQ x h s0 (s0 + 512) a d = gQ x h s0 4096 a d := by
  unfold gQ
  refine Finset.sum_subset (fun t ht => by simp at ht ⊢; omega) fun t _ ht => ?_
  rw [DZ_eq_zero _ _ _ _ (by simp at ht; omega), zero_mul]

end Cert.Stick
-- ==== Proof.Value.Loop.lean ====
/-
  The kernel's loop over the blocks before the diagonal: what is carried and what the two gradients hold after each
  number of trips.
-/
module

public import proofs.«01_k».proof.Proof.Value.Trip
public import proofs.«01_k».proof.Proof.Value.Step

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Finset Cert.Stick

/-- What the operands of the loop hold: head pair `h2`, queries from `s0`. -/
structure LoopIn (x : In) (h2 s0 : ℕ) (v8 v12 : FVec Ideal S256x256 .bf16) (v18 : IVec S512x128 32)
    (v23 v25 v27 v29 : FVec Ideal S512x64 .bf16) (k3 v4 : (⟨2, ![4096, 128]⟩ : Shape).Idx → EReal)
    (r0 r1 : FVec Ideal S1x512x128 .f32) : Prop where
  ts : R2 v8 (fun j t => if t ≤ j then 1 else 0)
  tp : R2 v12 (fun j t => if j ≤ t then 1 else 0)
  lane : ∀ (a : Fin 512) (t : Fin 128), v18 (ix2 a t) = BitVec.ofNat 32 t.val
  q0 : R2 v23 (fun a d => x.Q (s0 + a) (64 * (2 * h2) + d) / 8)
  q1 : R2 v25 (fun a d => x.Q (s0 + a) (64 * (2 * h2 + 1) + d) / 8)
  d0 : R2 v27 (fun a d => x.D (s0 + a) (64 * (2 * h2) + d))
  d1 : R2 v29 (fun a d => x.D (s0 + a) (64 * (2 * h2 + 1) + d))
  k : R2 k3 (fun t c => x.K t (128 * h2 + c))
  v : R2 v4 (fun t c => x.V t (128 * h2 + c))
  run0 : ∀ (a : Fin 512) (l : Fin 128), r0 (ix3 0 a l) = ((Suf x (2 * h2) (s0 + a.val) (256 * l.val) : ℝ) : EReal)
  run1 : ∀ (a : Fin 512) (l : Fin 128), r1 (ix3 0 a l) = ((Suf x (2 * h2 + 1) (s0 + a.val) (256 * l.val) : ℝ) : EReal)

/-- A reshape to the same shape reads the same. -/
theorem R2.same {n m : ℕ} {φ : FTy} {x : FVec Ideal ⟨2, ![n, m]⟩ φ} {f : ℕ → ℕ → ℝ} (h : R2 x f)
    (w : (⟨2, ![n, m]⟩ : Shape).ShapeCasts ⟨2, ![n, m]⟩) : R2 (shapeCast ⟨2, ![n, m]⟩ x w) f := by
  rw [shapeCast_self]; exact h

variable (𝒱 : Variants) (c : Dev nD) (bd : Option 𝒱.V) (i : grid0.Coords) (arg2 : Memref sig .tc .vmem S512x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S512x128 .f32) (harg5 : arg5.IsWhole) (arg6 : Memref sig .tc .vmem S2x512x16 .f32) (harg6 : arg6.IsWhole) (arg7 : Memref sig .tc .vmem S512x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S2x512x128 .f32) (harg10 : arg10.IsWhole) (arg1 : BitVec 32) (v8 : FVec Ideal S256x256 .bf16) (v12 : FVec Ideal S256x256 .bf16) (v16 : IVec S512x256 32) (v17 : IVec S512x256 32) (v18 : IVec S512x128 32) (v19 : IVec S1x128 32) (v21 : BitVec 32) (v23 : FVec Ideal S512x64 .bf16) (v25 : FVec Ideal S512x64 .bf16) (v27 : FVec Ideal S512x64 .bf16) (v29 : FVec Ideal S512x64 .bf16) (v56 : BitVec 32) (v57 : BitVec 32) (v68 : FVec Ideal S512x128 .f32) (v83 : BitVec 32) (k0_hw1 : k0_chk1 i v56 v83) (v84 : BitVec 32) (X_arg3 : BufTy.Contents (Elt Ideal) arg3.view.ty) (X_arg4 : BufTy.Contents (Elt Ideal) arg4.view.ty) (X_arg10 : BufTy.Contents (Elt Ideal) arg10.view.ty)
variable {x : In} {h2 s0 : ℕ}
  (H : LoopIn x h2 s0 v8 v12 v18 v23 v25 v27 v29 (arg3.view.read (Elt Ideal) X_arg3) (arg4.view.read (Elt Ideal) X_arg4)
    (arg10.view.readAt (Elt Ideal) (Rect.unit (s := S2x512x128) ![0, 0, 0] S1x512x128.size inb_S2x512x128_S1x512x128_0_0_0).toLoadRect X_arg10)
    (arg10.view.readAt (Elt Ideal) (Rect.unit (s := S2x512x128) ![1, 0, 0] S1x512x128.size inb_S2x512x128_S1x512x128_1_0_0).toLoadRect X_arg10))
  (ha : 0 ≤ v56.toInt) (hb : 0 ≤ v83.toInt) (hst : start i v56 v83 = 0) (h84 : v84 = 0#32)
  (hs : ∀ n, n < (k0_t1_loop i v56 v83).trips → 256 * n + 256 ≤ s0) (hs' : s0 ≤ 4096)
include H ha hb hst h84 hs hs'

/-- The operands of trip `k`'s block, head 0. -/
theorem ops0 (k : Fin (k0_t1_loop i v56 v83).trips) (pg : FVec Ideal S512x1 .f32) (hp : R2 pg (fun a _ => ∑ j ∈ range (256 * k.val), Gr x (2 * h2) (s0 + a) j)) :
    Ops x (2 * h2) s0 (256 * k.val) none v23 v27 (tK0 i arg3 v56 v83 k0_hw1 X_arg3 k) (tV0 i arg4 v56 v83 k0_hw1 X_arg4 k) v8 v12 (tR0 i arg10 v18 v56 v83 v84 X_arg10 k) pg := by
  have e1 : k0_off1 i v56 v83 k = ![256 * k.val, 0] := by
    rw [off1_eq i v56 v83 ha hb k, hst]; show ![(0 + k.val) * 256, 0] = _; congr 1; omega
  have hk := hs k.val k.isLt
  refine ⟨hk, by omega, H.q0, H.d0, ?_, ?_, H.ts, H.tp, ?_, hp⟩
  · exact R2.same (φ := .bf16) ((R2.load16 arg3.view X_arg3 H.k _ (256 * k.val) 0 e1 _).congr fun t d ht hd => by
      show x.K _ _ = x.K _ _; congr 1; omega) _
  · exact R2.same (φ := .bf16) ((R2.load16 arg4.view X_arg4 H.v _ (256 * k.val) 0 e1 _).congr fun t d ht hd => by
      show x.V _ _ = x.V _ _; congr 1; omega) _
  · refine (R2.right (l := k.val + 1) (f := fun a l => Suf x (2 * h2) (s0 + a) (256 * l)) (by omega) H.lane ?_ H.run0).congr fun a t _ _ => ?_
    · rw [h84]
      show (0#32 + BitVec.ofNat 32 k.val * 1#32) + 1#32 = BitVec.ofNat 32 (k.val + 1)
      apply BitVec.eq_of_toNat_eq; simp [Nat.add_comm]
    · show Suf x (2 * h2) (s0 + a) (256 * (k.val + 1)) = _
      congr 1

/-- The operands of trip `k`'s block, head 1. -/
theorem ops1 (k : Fin (k0_t1_loop i v56 v83).trips) (pg : FVec Ideal S512x1 .f32) (hp : R2 pg (fun a _ => ∑ j ∈ range (256 * k.val), Gr x (2 * h2 + 1) (s0 + a) j)) :
    Ops x (2 * h2 + 1) s0 (256 * k.val) none v25 v29 (tK1 i arg3 v56 v83 k0_hw1 X_arg3 k) (tV1 i arg4 v56 v83 k0_hw1 X_arg4 k) v8 v12 (tR1 i arg10 v18 v56 v83 v84 X_arg10 k) pg := by
  have e1 : k0_off2 i v56 v83 k = ![256 * k.val, 64] := by
    rw [off2_eq i v56 v83 ha hb k, hst]; show ![(0 + k.val) * 256, 64] = _; congr 1; omega
  have hk := hs k.val k.isLt
  refine ⟨hk, by omega, H.q1, H.d1, ?_, ?_, H.ts, H.tp, ?_, hp⟩
  · exact R2.same (φ := .bf16) ((R2.load16 arg3.view X_arg3 H.k _ (256 * k.val) 64 e1 _).congr fun t d ht hd => by
      show x.K _ _ = x.K _ _; congr 1; omega) _
  · exact R2.same (φ := .bf16) ((R2.load16 arg4.view X_arg4 H.v _ (256 * k.val) 64 e1 _).congr fun t d ht hd => by
      show x.V _ _ = x.V _ _; congr 1; omega) _
  · refine (R2.right (l := k.val + 1) (f := fun a l => Suf x (2 * h2 + 1) (s0 + a) (256 * l)) (by omega) H.lane ?_ H.run1).congr fun a t _ _ => ?_
    · rw [h84]
      show (0#32 + BitVec.ofNat 32 k.val * 1#32) + 1#32 = BitVec.ofNat 32 (k.val + 1)
      apply BitVec.eq_of_toNat_eq; simp [Nat.add_comm]
    · show Suf x (2 * h2 + 1) (s0 + a) (256 * (k.val + 1)) = _
      congr 1

/-- After `n` trips: the carried values are the sums over the first `n` blocks, and their windows are added to the two
    gradients. -/
theorem loop (G_arg8 : BufTy.Contents (Elt Ideal) arg8.view.ty) (G_arg9 : BufTy.Contents (Elt Ideal) arg9.view.ty)
    (init : FVec Ideal S512x1 .f32 × FVec Ideal S512x64 .f32 × FVec Ideal S512x1 .f32 × FVec Ideal S512x64 .f32)
    (hi : Carry x h2 s0 0 init) (g8 g9 : ℕ → ℕ → ℝ) (h8 : R2 (arg8.view.read (Elt Ideal) G_arg8) g8) (h9 : R2 (arg9.view.read (Elt Ideal) G_arg9) g9)
    (n : ℕ) (hn : n ≤ (k0_t1_loop i v56 v83).trips) :
    Carry x h2 s0 n (st_k0_t1 (F := Ideal) 𝒱 c bd i arg2 harg2 arg3 harg3 arg4 harg4 arg5 harg5 arg6 harg6 arg7 harg7 arg8 harg8 arg9 harg9 arg10 harg10 arg1 v8 v12 v16 v17 v18 v19 v21 v23 v25 v27 v29 v56 v57 v68 v83 k0_hw1 v84 X_arg3 X_arg4 X_arg10 G_arg8 G_arg9 init n).1
    ∧ R2 (arg8.view.read (Elt Ideal) (arg8.view.writes (Elt Ideal) G_arg8 (st_k0_t1 (F := Ideal) 𝒱 c bd i arg2 harg2 arg3 harg3 arg4 harg4 arg5 harg5 arg6 harg6 arg7 harg7 arg8 harg8 arg9 harg9 arg10 harg10 arg1 v8 v12 v16 v17 v18 v19 v21 v23 v25 v27 v29 v56 v57 v68 v83 k0_hw1 v84 X_arg3 X_arg4 X_arg10 G_arg8 G_arg9 init n).2.1)) (acc g8 (gK x h2 s0) n 0)
    ∧ R2 (arg9.view.read (Elt Ideal) (arg9.view.writes (Elt Ideal) G_arg9 (st_k0_t1 (F := Ideal) 𝒱 c bd i arg2 harg2 arg3 harg3 arg4 harg4 arg5 harg5 arg6 harg6 arg7 harg7 arg8 harg8 arg9 harg9 arg10 harg10 arg1 v8 v12 v16 v17 v18 v19 v21 v23 v25 v27 v29 v56 v57 v68 v83 k0_hw1 v84 X_arg3 X_arg4 X_arg10 G_arg8 G_arg9 init n).2.2)) (acc g9 (gV x h2 s0) n 0) := by
  induction n with
  | zero => exact ⟨hi, h8.congr fun t c _ _ => (acc_zero g8 _ t c).symm, h9.congr fun t c _ _ => (acc_zero g9 _ t c).symm⟩
  | succ n ih =>
    obtain ⟨c1, c8, c9⟩ := ih (by omega)
    have hk : n < (k0_t1_loop i v56 v83).trips := by omega
    let k : Fin (k0_t1_loop i v56 v83).trips := ⟨n, hk⟩
    have e := st_k0_t1_succ (F := Ideal) 𝒱 c bd i arg2 harg2 arg3 harg3 arg4 harg4 arg5 harg5 arg6 harg6 arg7 harg7 arg8 harg8 arg9 harg9 arg10 harg10 arg1 v8 v12 v16 v17 v18 v19 v21 v23 v25 v27 v29 v56 v57 v68 v83 k0_hw1 v84 X_arg3 X_arg4 X_arg10 G_arg8 G_arg9 init k
    unfold tripR_k0_t1 tripL_k0_t1 at e
    dsimp only at e
    rw [trip_yield, trip_dk, trip_dv] at e
    generalize (st_k0_t1 (F := Ideal) 𝒱 c bd i arg2 harg2 arg3 harg3 arg4 harg4 arg5 harg5 arg6 harg6 arg7 harg7 arg8 harg8 arg9 harg9 arg10 harg10 arg1 v8 v12 v16 v17 v18 v19 v21 v23 v25 v27 v29 v56 v57 v68 v83 k0_hw1 v84 X_arg3 X_arg4 X_arg10 G_arg8 G_arg9 init n) = S at c1 c8 c9 e
    replace e : st_k0_t1 (F := Ideal) 𝒱 c bd i arg2 harg2 arg3 harg3 arg4 harg4 arg5 harg5 arg6 harg6 arg7 harg7 arg8 harg8 arg9 harg9 arg10 harg10 arg1 v8 v12 v16 v17 v18 v19 v21 v23 v25 v27 v29 v56 v57 v68 v83 k0_hw1 v84 X_arg3 X_arg4 X_arg10 G_arg8 G_arg9 init (n + 1) = _ := e
    rw [e]
    have O0 := ops0 i arg3 arg4 arg10 v8 v12 v18 v23 v25 v27 v29 v56 v83 k0_hw1 v84 X_arg3 X_arg4 X_arg10 H ha hb hst h84 hs hs' k S.1.1 c1.p0
    have O1 := ops1 i arg3 arg4 arg10 v8 v12 v18 v23 v25 v27 v29 v56 v83 k0_hw1 v84 X_arg3 X_arg4 X_arg10 H ha hb hst h84 hs hs' k S.1.2.2.1 c1.p1
    have e1 : k0_off1 i v56 v83 k = ![256 * n, 0] := by
      rw [off1_eq i v56 v83 ha hb k, hst]; show ![(0 + n) * 256, 0] = _; congr 1; omega
    have e2 : k0_off2 i v56 v83 k = ![256 * n, 64] := by
      rw [off2_eq i v56 v83 ha hb k, hst]; show ![(0 + n) * 256, 64] = _; congr 1; omega
    refine ⟨⟨last_block O0, dq_block O0 c1.q0, last_block O1, dq_block O1 c1.q1⟩, ?_, ?_⟩
    · exact dk_block O0 O1 arg8.view G_arg8 _ g8 _ _ e1 e2 _ _ c8
    · exact dv_block O0 O1 arg9.view G_arg9 _ g9 _ _ e1 e2 _ _ c9

end Cert.KernelIdeal.Hand
-- ==== Proof.Value.Runs.lean ====
/-
  The kernel's scratch: what each lane holds after the sums to the right are copied into it, and that no block is
  skipped, as all of them are finite.
-/
module

public import proofs.«01_k».proof.Proof.Value.Mem
public import proofs.«01_k».proof.Proof.KernelIdeal.Words

@[expose] public section

set_option maxRecDepth 16384

noncomputable section

open Finset

namespace Cert.Stick

open Cert.KernelIdeal Cert.KernelIdeal.Gen
open Idealize.ShloMosaic

variable {sig : RefSig} {κ : Kind} {sp : Space}

/-- A window of one slab stored: an element read afterwards. -/
theorem store3 {p n m n' m' : ℕ} (v : View sig κ sp ⟨3, ![p, n, m]⟩ .f32) (f : v.ty.Contents (Elt Ideal)) (e : ℕ)
    (inb : ∀ a, (![e, 0, 0] : Fin 3 → ℕ) a + (![1, n', m'] : Fin 3 → ℕ) a ≤ (⟨3, ![p, n, m]⟩ : Shape).size a)
    (L : List (View.Piece (Elt Ideal) ⟨3, ![p, n, m]⟩ .f32)) (x : (⟨3, ![1, n', m']⟩ : Shape).Idx → EReal)
    (b : Fin p) (a : Fin n) (l : Fin m) :
    v.read (Elt Ideal) (v.writes (Elt Ideal) f (⟨Rect.unit (s := ⟨3, ![p, n, m]⟩) ![e, 0, 0] ![1, n', m'] inb, x⟩ :: L)) (ix3 b a l)
      = if h : b.val = e ∧ a.val < n' ∧ l.val < m' then x (ix3 0 ⟨a.val, h.2.1⟩ ⟨l.val, h.2.2⟩)
        else v.read (Elt Ideal) (v.writes (Elt Ideal) f L) (ix3 b a l) := by
  rw [View.read_writes_cons_put v f inb x L rfl]
  unfold VecWindow.put
  by_cases h : b.val = e ∧ a.val < n' ∧ l.val < m'
  · have h' : ∀ d : Fin 3, (![e, 0, 0] : Fin 3 → ℕ) d ≤ ((ix3 b a l : (⟨3, ![p, n, m]⟩ : Shape).Idx) d).val
        ∧ ((ix3 b a l : (⟨3, ![p, n, m]⟩ : Shape).Idx) d).val < (![e, 0, 0] : Fin 3 → ℕ) d + (![1, n', m'] : Fin 3 → ℕ) d := fun d => by
      match d with
      | ⟨0, _⟩ => exact ⟨h.1.ge, by show b.val < e + 1; omega⟩
      | ⟨1, _⟩ => exact ⟨Nat.zero_le _, by show a.val < 0 + n'; omega⟩
      | ⟨2, _⟩ => exact ⟨Nat.zero_le _, by show l.val < 0 + m'; omega⟩
    rw [dif_pos h', dif_pos h]
    refine congrArg x ?_
    funext d
    match d with
    | ⟨0, _⟩ => exact Fin.ext (by show b.val - e = 0; omega)
    | ⟨1, _⟩ => exact Fin.ext (by show a.val - 0 = a.val; omega)
    | ⟨2, _⟩ => exact Fin.ext (by show l.val - 0 = l.val; omega)
  · have h' : ¬ ∀ d : Fin 3, (![e, 0, 0] : Fin 3 → ℕ) d ≤ ((ix3 b a l : (⟨3, ![p, n, m]⟩ : Shape).Idx) d).val
        ∧ ((ix3 b a l : (⟨3, ![p, n, m]⟩ : Shape).Idx) d).val < (![e, 0, 0] : Fin 3 → ℕ) d + (![1, n', m'] : Fin 3 → ℕ) d := fun q => by
      have q0 : e ≤ b.val ∧ b.val < e + 1 := q 0
      have q1 : 0 ≤ a.val ∧ a.val < 0 + n' := q 1
      have q2 : 0 ≤ l.val ∧ l.val < 0 + m' := q 2
      exact h (by omega)
    rw [dif_neg h', dif_neg h]

/-- A window of one slab loaded. -/
theorem load3 {p n m n' m' : ℕ} (v : View sig κ sp ⟨3, ![p, n, m]⟩ .f32) (f : v.ty.Contents (Elt Ideal)) (e : ℕ)
    (inb : ∀ a, (![e, 0, 0] : Fin 3 → ℕ) a + (![1, n', m'] : Fin 3 → ℕ) a ≤ (⟨3, ![p, n, m]⟩ : Shape).size a)
    (a : Fin n') (l : Fin m') (he : e < p) (hn : a.val < n) (hm : l.val < m) :
    v.readAt (Elt Ideal) (Rect.unit (s := ⟨3, ![p, n, m]⟩) ![e, 0, 0] ![1, n', m'] inb).toLoadRect f (ix3 0 a l)
      = v.read (Elt Ideal) f (ix3 ⟨e, he⟩ ⟨a.val, hn⟩ ⟨l.val, hm⟩) := by
  show v.read (Elt Ideal) f _ = v.read (Elt Ideal) f _
  congr 1
  funext d
  match d with
  | ⟨0, _⟩ => exact Fin.ext (by show e + 1 * 0 = e; omega)
  | ⟨1, _⟩ => exact Fin.ext (by show 0 + 1 * a.val = a.val; omega)
  | ⟨2, _⟩ => exact Fin.ext (by show 0 + 1 * l.val = l.val; omega)

/-- Past the last key nothing is left of the stick. -/
theorem Suf_end (x : In) (h s t : ℕ) (ht : 4096 ≤ t) : Suf x h s t = 0 := by
  unfold Suf; rw [Finset.Ico_eq_empty (by omega), Finset.sum_empty]

theorem pay63_apply (w : Vec Ideal S1x512x16 .f32) (a : Fin 512) (l : Fin 16) : k0_pay63 (F := Ideal) w (ix3 0 a l) = w (ix3 0 a l) := by
  pointwise [k0_pay63]

theorem pay66_apply (w : Vec Ideal S1x512x16 .f32) (a : Fin 512) (l : Fin 16) : k0_pay66 (F := Ideal) w (ix3 0 a l) = w (ix3 0 a l) := by
  pointwise [k0_pay66]

theorem zeros_apply (w) (a : Fin 512) (l : Fin 128) :
    shapeCast S1x512x128 (broadcast S512x128 (Scalar.ofBits (F := Ideal) .f32 0x00000000#32)) w (ix3 0 a l) = ((0 : ℝ) : EReal) := by
  pointwise
  rfl

/-- A column's largest entry, where the entries are finite, is over the mark. -/
theorem mark_zero (w : Vec Ideal S1x512x128 .f32) (f : ℕ → ℕ → ℝ)
    (hw : ∀ (a : Fin 512) (l : Fin 128), w (ix3 0 a l) = ((f a.val l.val : ℝ) : EReal)) (u : IVec S1x128 1) (k : S1x128.Idx) :
    andi u (cmpf .ole (shapeCast S1x128 (multiReduction .maximumf [0] S128 (shapeCast S512x128 w shapeCasts_S1x512x128_S512x128)
      0xFF800000#32 reduces_S512x128_S128 (.inl rfl) rfl) shapeCasts_S128_S1x128)
      (broadcast S1x128 (Named.named (F := Ideal) Cert.KernelIdeal.κ "gone" 0xC2C80000#32))) k = 0#1 := by
  idx_vars k
  pointwise
  rw [IdealRules.named_const.ideal_named_scalar _ _ _ _ rfl]
  have e : ¬ Finset.univ.fold max (Ideal.ofBits FTy.f32 0xFF800000#32) (fun x : Fin 512 => w (ix3 0 x k1)) ≤ (⊥ : EReal) := fun h => by
    have h1 := (Finset.fold_max_le (s := Finset.univ) (f := fun x : Fin 512 => w (ix3 0 x k1)) (b := Ideal.ofBits FTy.f32 0xFF800000#32) (⊥ : EReal)).mp h
    have h2 := h1.2 0 (Finset.mem_univ _)
    rw [hw 0 k1] at h2
    exact EReal.coe_ne_bot _ (le_bot_iff.mp h2)
  have e2 : ∀ b : BitVec 1, IntOp.andi b 0#1 = 0#1 := by decide
  refine Eq.trans (congrArg _ ?_) (e2 _)
  rw [decide_eq_false e]; rfl

/-- The sum of 128 flags none of which is set. -/
theorem count_none (p : IVec S1x128 1) (hp : ∀ k, p k = 0#1) (hr : S1x1x128.Reduces [1, 2] S1) (hz : 0#32 = IKind.add.neutral) (j : S1.Idx) :
    (multiReductionI .add [1, 2] S1 (shapeCast S1x1x128 (extui 32 p natLt_1_32) shapeCasts_S1x128_S1x1x128) 0#32 hr hz) j = 0#32 := by
  rw [multiReductionI_eq_fold]
  rw [show (shapeCast S1x1x128 (extui 32 p natLt_1_32) shapeCasts_S1x128_S1x1x128)
      = fun k => ((shapeCast S1x1x128 p shapeCasts_S1x128_S1x1x128) k).setWidth 32 from rfl]
  have e := IndicatorCount.fold_addi_setWidth_eq_card (w := 32) (shapeCast S1x1x128 p shapeCasts_S1x128_S1x1x128) (Finset.univ.filter fun i => hr.drop i = j)
  refine Eq.trans e ?_
  rw [Finset.filter_false_of_mem, Finset.card_empty]
  intro k _ hk
  exact absurd ((hp _).symm.trans hk) (by decide)

/-- No column of finite numbers is at or under the mark, so no block is counted. -/
theorem count_zero (v19 : IVec S1x128 32) (v21 : BitVec 32) (w : Vec Ideal S1x512x128 .f32) (f : ℕ → ℕ → ℝ)
    (hw : ∀ (a : Fin 512) (l : Fin 128), w (ix3 0 a l) = ((f a.val l.val : ℝ) : EReal)) (h) :
    extractAt ![0, 0, 0] (k0_pay64 (F := Ideal) v19 v21 w) h = 0#32 :=
  count_none _ (mark_zero w f hw _) _ rfl _

end Cert.Stick
-- ==== Proof.Value.Point.lean ====
/-
  One grid point of the kernel over finite numbers: the gradient of its 512 queries, and their part of the gradients of
  the keys and of the values, added to what the two blocks held.
-/
module

public import proofs.«01_k».proof.Proof.Value.Run
public import proofs.«01_k».proof.Proof.Value.Loop
public import proofs.«01_k».proof.Proof.Value.Runs

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Finset Cert.Stick

/-- What the point's blocks hold: head pair `h2`, queries from `s0`. -/
structure PointIn (x : In) (h2 s0 : ℕ) (w2 : S512x128.Idx → EReal) (w3 w4 : S4096x128.Idx → EReal) (w5 : S512x128.Idx → EReal)
    (w6 : S2x512x16.Idx → EReal) : Prop where
  q : R2 (n := 512) (m := 128) w2 (fun a c => x.Q (s0 + a) (128 * h2 + c) / 8)
  k : R2 (n := 4096) (m := 128) w3 (fun t c => x.K t (128 * h2 + c))
  v : R2 (n := 4096) (m := 128) w4 (fun t c => x.V t (128 * h2 + c))
  d : R2 (n := 512) (m := 128) w5 (fun a c => x.D (s0 + a) (128 * h2 + c))
  run : ∀ (e : Fin 2) (a : Fin 512) (l : Fin 16), w6 (ix3 e a l) = ((Suf x (2 * h2 + e.val) (s0 + a.val) (256 * l.val) : ℝ) : EReal)

theorem off5_0 : ∀ i : grid0.Coords, k0_off5 i 0#32 = ![256 * (2 * (i 1).val), 0] := by decide +kernel
theorem off5_1 : ∀ i : grid0.Coords, k0_off5 i 1#32 = ![256 * (2 * (i 1).val + 1), 0] := by decide +kernel
theorem off6_0 : ∀ i : grid0.Coords, k0_off6 i 0#32 = ![256 * (2 * (i 1).val), 64] := by decide +kernel
theorem off6_1 : ∀ i : grid0.Coords, k0_off6 i 1#32 = ![256 * (2 * (i 1).val + 1), 64] := by decide +kernel

theorem point_first : ∀ i : grid0.Coords, (bodyOut.sl.v2 i = 1#1) ↔ (i 1).val = 0 := by decide +kernel

variable (c : Dev nD) (i : grid0.Coords) (arg2 : Memref sig .tc .vmem S512x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S512x128 .f32) (harg5 : arg5.IsWhole) (arg6 : Memref sig .tc .vmem S2x512x16 .f32) (harg6 : arg6.IsWhole) (arg7 : Memref sig .tc .vmem S512x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S2x512x128 .f32) (harg10 : arg10.IsWhole) (f2 : BufTy.Contents (Elt Ideal) arg2.view.ty) (f3 : BufTy.Contents (Elt Ideal) arg3.view.ty) (f4 : BufTy.Contents (Elt Ideal) arg4.view.ty) (f5 : BufTy.Contents (Elt Ideal) arg5.view.ty) (f6 : BufTy.Contents (Elt Ideal) arg6.view.ty) (f7 : BufTy.Contents (Elt Ideal) arg7.view.ty) (f8 : BufTy.Contents (Elt Ideal) arg8.view.ty) (f9 : BufTy.Contents (Elt Ideal) arg9.view.ty) (f10 : BufTy.Contents (Elt Ideal) arg10.view.ty)

/-- The block's side condition at the point's two counts. -/
theorem hck : k0_chk1 i (bodyOut.sl.v56 (F := Ideal) i arg6 arg10 f6) (bodyOut.sl.v83 (F := Ideal) i arg6 arg10 f6) :=
  chk i _ _ (head0_nonneg _ _ _ _) (head1_nonneg _ _ _ _)

/-- The scratch after the sums are copied in. -/
def scr : BufTy.Contents (Elt Ideal) arg10.view.ty := arg10.view.writes (Elt Ideal) arg10.view.junk (bodyOut.sl.H10_4 arg6 f6)

/-- The contents a gradient's block starts the point with: zeros at the first block of queries. -/
def start0 (m : Memref sig .tc .vmem S4096x128 .f32) (f : BufTy.Contents (Elt Ideal) m.view.ty) : BufTy.Contents (Elt Ideal) m.view.ty :=
  if hc : bodyOut.sl.v2 i = 1#1 then m.view.writes (Elt Ideal) f [⟨Rect.unit (s := S4096x128) ![0, 0] S4096x128.size inb_S4096x128_S4096x128_0_0, bodyOut.sl.v433 (F := Ideal)⟩] else f

/-- The state the first copy of the loop ends in. -/
def fin1 := st_k0_t1 (F := Ideal) Variants.none c none i arg2 harg2 arg3 harg3 arg4 harg4 arg5 harg5 arg6 harg6 arg7 harg7 arg8 harg8 arg9 harg9 arg10 harg10 (BitVec.ofNat 32 (i 1).val) bodyOut.sl.v8 bodyOut.sl.v12 (bodyOut.sl.v16 i) bodyOut.sl.v17 bodyOut.sl.v18 bodyOut.sl.v19 (bodyOut.sl.v21 i) (bodyOut.sl.v23 arg2 f2) (bodyOut.sl.v25 arg2 f2) (bodyOut.sl.v27 arg5 f5) (bodyOut.sl.v29 arg5 f5) (bodyOut.sl.v56 i arg6 arg10 f6) (bodyOut.sl.v57 i arg6 arg10 f6) (bodyOut.sl.r arg6 arg10 f6) (bodyOut.sl.v83 i arg6 arg10 f6) (hck i arg6 arg10 f6) (bodyOut.sl.v84 i arg6 arg10 f6) f3 f4 (scr arg6 arg10 f6) (start0 i arg8 f8) (start0 i arg9 f9) (k0_pay69, k0_pay70, k0_pay69, k0_pay70) (k0_t1_loop i (bodyOut.sl.v56 i arg6 arg10 f6) (bodyOut.sl.v83 i arg6 arg10 f6)).trips

/-- The state the second copy of the loop ends in. -/
def fin2 := st_k0_t2 (F := Ideal) Variants.none c none i arg2 harg2 arg3 harg3 arg4 harg4 arg5 harg5 arg6 harg6 arg7 harg7 arg8 harg8 arg9 harg9 arg10 harg10 (BitVec.ofNat 32 (i 1).val) bodyOut.sl.v8 bodyOut.sl.v12 (bodyOut.sl.v16 i) bodyOut.sl.v17 bodyOut.sl.v18 bodyOut.sl.v19 (bodyOut.sl.v21 i) (bodyOut.sl.v23 arg2 f2) (bodyOut.sl.v25 arg2 f2) (bodyOut.sl.v27 arg5 f5) (bodyOut.sl.v29 arg5 f5) (bodyOut.sl.v56 i arg6 arg10 f6) (bodyOut.sl.v57 i arg6 arg10 f6) (bodyOut.sl.r arg6 arg10 f6) (bodyOut.sl.v83 i arg6 arg10 f6) (hck i arg6 arg10 f6) (bodyOut.sl.v92 i arg6 arg10 f6) f3 f4 (scr arg6 arg10 f6) (arg8.view.writes (Elt Ideal) (start0 i arg8 f8) (fin1 c i arg2 harg2 arg3 harg3 arg4 harg4 arg5 harg5 arg6 harg6 arg7 harg7 arg8 harg8 arg9 harg9 arg10 harg10 f2 f3 f4 f5 f6 f8 f9).2.1)
  (arg9.view.writes (Elt Ideal) (start0 i arg9 f9) (fin1 c i arg2 harg2 arg3 harg3 arg4 harg4 arg5 harg5 arg6 harg6 arg7 harg7 arg8 harg8 arg9 harg9 arg10 harg10 f2 f3 f4 f5 f6 f8 f9).2.2) ((fin1 c i arg2 harg2 arg3 harg3 arg4 harg4 arg5 harg5 arg6 harg6 arg7 harg7 arg8 harg8 arg9 harg9 arg10 harg10 f2 f3 f4 f5 f6 f8 f9).1.1, (fin1 c i arg2 harg2 arg3 harg3 arg4 harg4 arg5 harg5 arg6 harg6 arg7 harg7 arg8 harg8 arg9 harg9 arg10 harg10 f2 f3 f4 f5 f6 f8 f9).1.2.1, (fin1 c i arg2 harg2 arg3 harg3 arg4 harg4 arg5 harg5 arg6 harg6 arg7 harg7 arg8 harg8 arg9 harg9 arg10 harg10 f2 f3 f4 f5 f6 f8 f9).1.2.2.1, (fin1 c i arg2 harg2 arg3 harg3 arg4 harg4 arg5 harg5 arg6 harg6 arg7 harg7 arg8 harg8 arg9 harg9 arg10 harg10 f2 f3 f4 f5 f6 f8 f9).1.2.2.2) (k0_t2_loop i (bodyOut.sl.v56 i arg6 arg10 f6) (bodyOut.sl.v83 i arg6 arg10 f6)).trips

/-- The second copy runs no trip. -/
theorem fin2_eq : (fin2 c i arg2 harg2 arg3 harg3 arg4 harg4 arg5 harg5 arg6 harg6 arg7 harg7 arg8 harg8 arg9 harg9 arg10 harg10 f2 f3 f4 f5 f6 f8 f9) = ((fin1 c i arg2 harg2 arg3 harg3 arg4 harg4 arg5 harg5 arg6 harg6 arg7 harg7 arg8 harg8 arg9 harg9 arg10 harg10 f2 f3 f4 f5 f6 f8 f9).1, [], []) := by
  have h : (k0_t2_loop i (bodyOut.sl.v56 i arg6 arg10 f6) (bodyOut.sl.v83 i arg6 arg10 f6)).trips = 0 := (words i _ _ (head0_nonneg _ _ _ _) (head1_nonneg _ _ _ _)).2.2.2.2.2.1
  unfold fin2
  rw [h]
  rfl

variable {x : In} {h2 s0 : ℕ}

section scratch
variable (hrun : ∀ (e : Fin 2) (a : Fin 512) (l : Fin 16), arg6.view.read (Elt Ideal) f6 (ix3 e a l) = ((Suf x (2 * h2 + e.val) (s0 + a.val) (256 * l.val) : ℝ) : EReal))
include hrun

/-- What head 0's slab holds once it is filled. -/
theorem slab0 (a : Fin 512) (l : Fin 128) : arg10.view.read (Elt Ideal) (arg10.view.writes (Elt Ideal) arg10.view.junk (bodyOut.sl.H10_2 arg6 f6)) (ix3 0 a l)
    = ((Suf x (2 * h2) (s0 + a.val) (256 * l.val) : ℝ) : EReal) := by
  unfold bodyOut.sl.H10_2
  rw [store3]
  by_cases hl : l.val < 16
  · rw [dif_pos ⟨rfl, a.isLt, hl⟩, pay63_apply]
    refine (load3 arg6.view f6 0 _ a ⟨l.val, hl⟩ (by omega) a.isLt hl).trans ?_
    exact hrun 0 a ⟨l.val, hl⟩
  · rw [dif_neg (by omega), store3, dif_pos ⟨rfl, a.isLt, l.isLt⟩]
    refine (zeros_apply _ a l).trans ?_
    rw [Suf_end x _ _ _ (by omega)]

theorem scr0 (a : Fin 512) (l : Fin 128) : (arg10.view.readAt (Elt Ideal) (Rect.unit (s := S2x512x128) ![0, 0, 0] S1x512x128.size inb_S2x512x128_S1x512x128_0_0_0).toLoadRect (scr arg6 arg10 f6)) (ix3 0 a l) = ((Suf x (2 * h2) (s0 + a.val) (256 * l.val) : ℝ) : EReal) := by
  refine (load3 arg10.view _ 0 _ a l (by omega) a.isLt l.isLt).trans ?_
  unfold scr bodyOut.sl.H10_4
  rw [store3, dif_neg (by simp), store3, dif_neg (by simp)]
  exact slab0 arg6 arg10 f6 hrun a l

theorem scr1 (a : Fin 512) (l : Fin 128) : (arg10.view.readAt (Elt Ideal) (Rect.unit (s := S2x512x128) ![1, 0, 0] S1x512x128.size inb_S2x512x128_S1x512x128_1_0_0).toLoadRect (scr arg6 arg10 f6)) (ix3 0 a l) = ((Suf x (2 * h2 + 1) (s0 + a.val) (256 * l.val) : ℝ) : EReal) := by
  refine (load3 arg10.view _ 1 _ a l (by omega) a.isLt l.isLt).trans ?_
  unfold scr bodyOut.sl.H10_4
  rw [store3]
  by_cases hl : l.val < 16
  · rw [dif_pos ⟨rfl, a.isLt, hl⟩, pay66_apply]
    refine (load3 arg6.view f6 1 _ a ⟨l.val, hl⟩ (by omega) a.isLt hl).trans ?_
    exact hrun 1 a ⟨l.val, hl⟩
  · rw [dif_neg (fun h => hl h.2.2), store3, dif_pos ⟨rfl, a.isLt, l.isLt⟩]
    refine (zeros_apply _ a l).trans ?_
    rw [Suf_end x _ _ _ (by omega)]

/-- Head 0 counts no block, so the loop starts at block 0. -/
theorem v56_zero : bodyOut.sl.v56 (F := Ideal) i arg6 arg10 f6 = 0#32 :=
  count_zero _ _ _ (fun a l => Suf x (2 * h2) (s0 + a) (256 * l)) (fun a l =>
    (load3 arg10.view _ 0 inb_S2x512x128_S1x512x128_0_0_0 a l (by omega) a.isLt l.isLt).trans (slab0 arg6 arg10 f6 hrun a l)) _

theorem start_zero : start i (bodyOut.sl.v56 (F := Ideal) i arg6 arg10 f6) (bodyOut.sl.v83 (F := Ideal) i arg6 arg10 f6) = 0 := by
  have h0 := v56_zero i arg6 arg10 f6 hrun
  have h1 : 0 ≤ (bodyOut.sl.v83 (F := Ideal) i arg6 arg10 f6).toInt := head1_nonneg _ _ _ _
  unfold start
  rw [h0]
  have : (0#32).toInt = 0 := rfl
  omega

theorem v84_zero : bodyOut.sl.v84 (F := Ideal) i arg6 arg10 f6 = 0#32 := by
  have h : Affine.IsInt (bodyOut.sl.v84 (F := Ideal) i arg6 arg10 f6) (start i (bodyOut.sl.v56 (F := Ideal) i arg6 arg10 f6) (bodyOut.sl.v83 (F := Ideal) i arg6 arg10 f6)) :=
    (words i _ _ (head0_nonneg _ _ _ _) (head1_nonneg _ _ _ _)).2.2.2.2.2.2
  rw [start_zero i arg6 arg10 f6 hrun] at h
  unfold Affine.IsInt at h
  exact BitVec.toInt_inj.mp h

theorem trips_eq : (k0_t1_loop i (bodyOut.sl.v56 i arg6 arg10 f6) (bodyOut.sl.v83 i arg6 arg10 f6)).trips = 2 * (i 1).val := by
  have h := (words i _ _ (head0_nonneg (F := Ideal) bodyOut.sl.v19 (bodyOut.sl.v21 i) (bodyOut.sl.v40 arg6 arg10 f6) inpos_S1x1x1_p0_0_0)
    (head1_nonneg (F := Ideal) bodyOut.sl.v19 (bodyOut.sl.v21 i) (bodyOut.sl.r arg6 arg10 f6) inpos_S1x1x1_p0_0_0)).2.2.2.1
  refine h.trans ?_
  have := start_zero i arg6 arg10 f6 hrun
  unfold bodyOut.sl.v56 bodyOut.sl.v83 at this
  rw [this]
  omega

end scratch

end Cert.KernelIdeal.Hand
-- ==== Proof.Value.Body.lean ====
/-
  One grid point of the kernel over finite numbers: the gradient of its 512 queries, and their part of the gradients of
  the keys and of the values, added to what the two blocks held.
-/
module

public import proofs.«01_k».proof.Proof.Value.Point

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Finset Cert.Stick

theorem row_word (n a : ℕ) : (BitVec.ofNat 32 n * 512#32 + BitVec.ofNat 32 a : BitVec 32) = BitVec.ofNat 32 (512 * n + a) := by
  rw [show (512#32 : BitVec 32) = BitVec.ofNat 32 512 from rfl, ← BitVec.ofNat_mul, ← BitVec.ofNat_add, Nat.mul_comm]

theorem col_word (n b t : ℕ) : (BitVec.ofNat 32 t + (BitVec.ofNat 32 n * 2#32 + BitVec.ofNat 32 b) * 256#32 : BitVec 32)
    = BitVec.ofNat 32 (256 * (2 * n + b) + t) := by
  rw [show (2#32 : BitVec 32) = BitVec.ofNat 32 2 from rfl, show (256#32 : BitVec 32) = BitVec.ofNat 32 256 from rfl,
    ← BitVec.ofNat_mul, ← BitVec.ofNat_add, ← BitVec.ofNat_mul, ← BitVec.ofNat_add]
  congr 1; ring

theorem lane_word (n b : ℕ) : (BitVec.ofNat 32 n * 2#32 + BitVec.ofNat 32 b + 1#32 : BitVec 32) = BitVec.ofNat 32 (2 * n + b + 1) := by
  rw [show (2#32 : BitVec 32) = BitVec.ofNat 32 2 from rfl, show (1#32 : BitVec 32) = BitVec.ofNat 32 1 from rfl,
    ← BitVec.ofNat_mul, ← BitVec.ofNat_add, ← BitVec.ofNat_add, Nat.mul_comm]

/-- The mask of the diagonal's first block, and of its second. -/
theorem mask0 (i : grid0.Coords) : MaskOk (some (bodyOut.sl.r_5 i)) (512 * (i 1).val) (256 * (2 * (i 1).val)) := by
  intro a t
  have hi : (i 1).val < 8 := (i 1).isLt
  pointwise [bodyOut.sl.r_5, k0_pay81, bodyOut.sl.v16, bodyOut.sl.v15, bodyOut.sl.v14, bodyOut.sl.v13, bodyOut.sl.v17]
  refine (congrArg₂ (IntOp.cmpi .slt) (col_word (i 1).val 0 t.val) (row_word (i 1).val a.val)).trans ?_
  exact cmp_slt (by omega) (by omega)

theorem mask1 (i : grid0.Coords) : MaskOk (some (bodyOut.sl.v268 i)) (512 * (i 1).val) (256 * (2 * (i 1).val + 1)) := by
  intro a t
  have hi : (i 1).val < 8 := (i 1).isLt
  pointwise [bodyOut.sl.v268, bodyOut.sl.v267, bodyOut.sl.v266, bodyOut.sl.v264, bodyOut.sl.v263, bodyOut.sl.v95, bodyOut.sl.v16, bodyOut.sl.v15, bodyOut.sl.v14, bodyOut.sl.v13, bodyOut.sl.v17]
  refine (congrArg₂ (IntOp.cmpi .slt) (col_word (i 1).val 1 t.val) (row_word (i 1).val a.val)).trans ?_
  exact cmp_slt (by omega) (by omega)

/-- Two halves stored side by side. -/
theorem store_pair {sig : RefSig} (v : View sig .tc .vmem S512x128 .f32) (f : v.ty.Contents (Elt Ideal)) (x0 x1 : FVec Ideal S512x64 .f32) {w0 w1 : ℕ → ℕ → ℝ}
    (h0 : R2 x0 w0) (h1 : R2 x1 w1) (inb0 : ∀ a, (![0, 0] : Fin 2 → ℕ) a + S512x64.size a ≤ S512x128.size a)
    (inb1 : ∀ a, (![0, 64] : Fin 2 → ℕ) a + S512x64.size a ≤ S512x128.size a) :
    R2 (v.read (Elt Ideal) (v.writes (Elt Ideal) f [⟨Rect.unit (s := S512x128) ![0, 64] S512x64.size inb1, x1⟩, ⟨Rect.unit (s := S512x128) ![0, 0] S512x64.size inb0, x0⟩]))
      (fun a c => if c < 64 then w0 a c else w1 a (c - 64)) := by
  intro a c
  rw [View.read_writes_cons_put v f inb1 x1 _ rfl]
  unfold VecWindow.put
  by_cases h : c.val < 64
  · have n1 : ¬ ∀ b : Fin 2, (![0, 64] : Fin 2 → ℕ) b ≤ ((ix2 a c : S512x128.Idx) b).val
        ∧ ((ix2 a c : S512x128.Idx) b).val < (![0, 64] : Fin 2 → ℕ) b + S512x64.size b := fun q => by
      have q1 : 64 ≤ c.val := (q 1).1
      omega
    have y0 : ∀ b : Fin 2, (![0, 0] : Fin 2 → ℕ) b ≤ ((ix2 a c : S512x128.Idx) b).val
        ∧ ((ix2 a c : S512x128.Idx) b).val < (![0, 0] : Fin 2 → ℕ) b + S512x64.size b := fun b => by
      match b with
      | ⟨0, _⟩ => exact ⟨Nat.zero_le _, by show a.val < 0 + 512; omega⟩
      | ⟨1, _⟩ => exact ⟨Nat.zero_le _, by show c.val < 0 + 64; omega⟩
    rw [dif_neg n1, View.read_writes_cons_put v f inb0 x0 _ rfl]
    unfold VecWindow.put
    rw [dif_pos y0]; beta_reduce; rw [if_pos h]
    refine Eq.trans (congrArg x0 ?_) (h0 a ⟨c.val, h⟩)
    funext d
    match d with
    | ⟨0, _⟩ => rfl
    | ⟨1, _⟩ => rfl
  · have y1 : ∀ b : Fin 2, (![0, 64] : Fin 2 → ℕ) b ≤ ((ix2 a c : S512x128.Idx) b).val
        ∧ ((ix2 a c : S512x128.Idx) b).val < (![0, 64] : Fin 2 → ℕ) b + S512x64.size b := fun b => by
      match b with
      | ⟨0, _⟩ => exact ⟨Nat.zero_le _, by show a.val < 0 + 512; omega⟩
      | ⟨1, _⟩ => exact ⟨by show 64 ≤ c.val; omega, by show c.val < 64 + 64; omega⟩
    rw [dif_pos y1]; beta_reduce; rw [if_neg h]
    refine Eq.trans (congrArg x1 ?_) (h1 a ⟨c.val - 64, by omega⟩)
    funext d
    match d with
    | ⟨0, _⟩ => rfl
    | ⟨1, _⟩ => rfl

theorem eighth_f32 : Ideal.ofBits .f32 0x3E000000#32 = ((1 / 8 : ℝ) : EReal) := by
  simp [Ideal.ofBits, Ideal.ieee, -EReal.coe_mul]; norm_num

theorem R2.eighth {w : FVec Ideal S512x64 .f32} {f : ℕ → ℕ → ℝ} (h : R2 w f) :
    R2 (k0_pay3 w) (fun a c => f a c / 8) ∧ R2 (k0_pay4 w) (fun a c => f a c / 8) := by
  constructor <;> intro a c
  · pointwise [k0_pay3]
    rw [h a c, eighth_f32, ← EReal.coe_mul]; congr 1; ring
  · pointwise [k0_pay4]
    rw [h a c, eighth_f32, ← EReal.coe_mul]; congr 1; ring

theorem lanes (a : Fin 512) (t : Fin 128) : bodyOut.sl.v18 (ix2 a t) = BitVec.ofNat 32 t.val := by
  pointwise [bodyOut.sl.v18]

theorem carry0 {x : In} {h2 s0 : ℕ} : Carry x h2 s0 0 (k0_pay69 (F := Ideal), k0_pay70 (F := Ideal), k0_pay69 (F := Ideal), k0_pay70 (F := Ideal)) := by
  have e1 : ∀ (f : ℕ → ℕ → ℝ), (∀ a b, f a b = 0) → R2 (k0_pay69 (F := Ideal)) f := fun f hf a b => by
    rw [hf]; pointwise [k0_pay69]; rfl
  have e2 : ∀ (f : ℕ → ℕ → ℝ), (∀ a b, f a b = 0) → R2 (k0_pay70 (F := Ideal)) f := fun f hf a b => by
    rw [hf]; pointwise [k0_pay70]; rfl
  exact ⟨e1 _ fun _ _ => by simp, e2 _ fun _ _ => by simp [gQ], e1 _ fun _ _ => by simp, e2 _ fun _ _ => by simp [gQ]⟩

variable (c : Dev nD) (i : grid0.Coords) (arg2 : Memref sig .tc .vmem S512x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S512x128 .f32) (harg5 : arg5.IsWhole) (arg6 : Memref sig .tc .vmem S2x512x16 .f32) (harg6 : arg6.IsWhole) (arg7 : Memref sig .tc .vmem S512x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S2x512x128 .f32) (harg10 : arg10.IsWhole) (f2 : BufTy.Contents (Elt Ideal) arg2.view.ty) (f3 : BufTy.Contents (Elt Ideal) arg3.view.ty) (f4 : BufTy.Contents (Elt Ideal) arg4.view.ty) (f5 : BufTy.Contents (Elt Ideal) arg5.view.ty) (f6 : BufTy.Contents (Elt Ideal) arg6.view.ty) (f7 : BufTy.Contents (Elt Ideal) arg7.view.ty) (f8 : BufTy.Contents (Elt Ideal) arg8.view.ty) (f9 : BufTy.Contents (Elt Ideal) arg9.view.ty) (f10 : BufTy.Contents (Elt Ideal) arg10.view.ty)
variable {x : In} {h2 : ℕ}
  (P : PointIn x h2 (512 * (i 1).val) (arg2.view.read (Elt Ideal) f2) (arg3.view.read (Elt Ideal) f3) (arg4.view.read (Elt Ideal) f4)
    (arg5.view.read (Elt Ideal) f5) (arg6.view.read (Elt Ideal) f6))
include P

theorem loopIn : LoopIn x h2 (512 * (i 1).val) (bodyOut.sl.v8 (F := Ideal)) (bodyOut.sl.v12 (F := Ideal)) bodyOut.sl.v18 (bodyOut.sl.v23 arg2 f2) (bodyOut.sl.v25 arg2 f2)
    (bodyOut.sl.v27 arg5 f5) (bodyOut.sl.v29 arg5 f5) (arg3.view.read (Elt Ideal) f3) (arg4.view.read (Elt Ideal) f4) (arg10.view.readAt (Elt Ideal) (Rect.unit (s := S2x512x128) ![0, 0, 0] S1x512x128.size inb_S2x512x128_S1x512x128_0_0_0).toLoadRect (scr arg6 arg10 f6)) (arg10.view.readAt (Elt Ideal) (Rect.unit (s := S2x512x128) ![1, 0, 0] S1x512x128.size inb_S2x512x128_S1x512x128_1_0_0).toLoadRect (scr arg6 arg10 f6)) where
  ts := R2.tsuf
  tp := R2.tpre
  lane := lanes
  q0 := R2.same (φ := .bf16) ((R2.load16 arg2.view f2 P.q ![0, 0] 0 0 rfl _).congr fun a d ha hd => by
    rw [show 0 + a = a by omega, show 128 * h2 + (0 + d) = 64 * (2 * h2) + d by omega]) _
  q1 := R2.same (φ := .bf16) ((R2.load16 arg2.view f2 P.q ![0, 64] 0 64 rfl _).congr fun a d ha hd => by
    rw [show 0 + a = a by omega, show 128 * h2 + (64 + d) = 64 * (2 * h2 + 1) + d by omega]) _
  d0 := (R2.load arg5.view f5 P.d ![0, 0] 0 0 rfl inb_S512x128_S512x64_0_0).congr fun a d ha hd => by
    rw [show 0 + a = a by omega, show 128 * h2 + (0 + d) = 64 * (2 * h2) + d by omega]
  d1 := (R2.load arg5.view f5 P.d ![0, 64] 0 64 rfl inb_S512x128_S512x64_0_64).congr fun a d ha hd => by
    rw [show 0 + a = a by omega, show 128 * h2 + (64 + d) = 64 * (2 * h2 + 1) + d by omega]
  k := P.k
  v := P.v
  run0 := scr0 arg6 arg10 f6 P.run
  run1 := scr1 arg6 arg10 f6 P.run

/-- What the loop leaves, before the two blocks on the diagonal. -/
theorem after_loop {g8 g9 : ℕ → ℕ → ℝ} (h8 : R2 (arg8.view.read (Elt Ideal) (start0 i arg8 f8)) g8) (h9 : R2 (arg9.view.read (Elt Ideal) (start0 i arg9 f9)) g9) :
    Carry x h2 (512 * (i 1).val) (2 * (i 1).val) (fin2 c i arg2 harg2 arg3 harg3 arg4 harg4 arg5 harg5 arg6 harg6 arg7 harg7 arg8 harg8 arg9 harg9 arg10 harg10 f2 f3 f4 f5 f6 f8 f9).1
    ∧ R2 (arg8.view.read (Elt Ideal) (arg8.view.writes (Elt Ideal) (start0 i arg8 f8) ((fin2 c i arg2 harg2 arg3 harg3 arg4 harg4 arg5 harg5 arg6 harg6 arg7 harg7 arg8 harg8 arg9 harg9 arg10 harg10 f2 f3 f4 f5 f6 f8 f9).2.1 ++ (fin1 c i arg2 harg2 arg3 harg3 arg4 harg4 arg5 harg5 arg6 harg6 arg7 harg7 arg8 harg8 arg9 harg9 arg10 harg10 f2 f3 f4 f5 f6 f8 f9).2.1))) (acc g8 (gK x h2 (512 * (i 1).val)) (2 * (i 1).val) 0)
    ∧ R2 (arg9.view.read (Elt Ideal) (arg9.view.writes (Elt Ideal) (start0 i arg9 f9) ((fin2 c i arg2 harg2 arg3 harg3 arg4 harg4 arg5 harg5 arg6 harg6 arg7 harg7 arg8 harg8 arg9 harg9 arg10 harg10 f2 f3 f4 f5 f6 f8 f9).2.2 ++ (fin1 c i arg2 harg2 arg3 harg3 arg4 harg4 arg5 harg5 arg6 harg6 arg7 harg7 arg8 harg8 arg9 harg9 arg10 harg10 f2 f3 f4 f5 f6 f8 f9).2.2))) (acc g9 (gV x h2 (512 * (i 1).val)) (2 * (i 1).val) 0) := by
  have hi : (i 1).val < 8 := (i 1).isLt
  have hT := trips_eq i arg6 arg10 f6 P.run
  have H := loop Variants.none c none i arg2 harg2 arg3 harg3 arg4 harg4 arg5 harg5 arg6 harg6 arg7 harg7 arg8 harg8 arg9 harg9 arg10 harg10 (BitVec.ofNat 32 (i 1).val) bodyOut.sl.v8 bodyOut.sl.v12 (bodyOut.sl.v16 i) bodyOut.sl.v17 bodyOut.sl.v18 bodyOut.sl.v19 (bodyOut.sl.v21 i) (bodyOut.sl.v23 arg2 f2) (bodyOut.sl.v25 arg2 f2) (bodyOut.sl.v27 arg5 f5) (bodyOut.sl.v29 arg5 f5) (bodyOut.sl.v56 i arg6 arg10 f6) (bodyOut.sl.v57 i arg6 arg10 f6) (bodyOut.sl.r arg6 arg10 f6) (bodyOut.sl.v83 i arg6 arg10 f6) (hck i arg6 arg10 f6) (bodyOut.sl.v84 i arg6 arg10 f6) f3 f4 (scr arg6 arg10 f6) (loopIn i arg2 arg3 arg4 arg5 arg6 arg10 f2 f3 f4 f5 f6 P)
    (head0_nonneg _ _ _ _) (head1_nonneg _ _ _ _) (start_zero i arg6 arg10 f6 P.run) (v84_zero i arg6 arg10 f6 P.run)
    (fun n hn => by rw [hT] at hn; omega) (by omega) (start0 i arg8 f8) (start0 i arg9 f9) _ carry0 g8 g9 h8 h9 _ le_rfl
  rw [fin2_eq]
  unfold fin1
  rw [hT] at H ⊢
  exact H

theorem opsA0 (pg : FVec Ideal S512x1 .f32) (hp : R2 pg (fun a _ => ∑ j ∈ range (256 * (2 * (i 1).val)), Gr x (2 * h2) (512 * (i 1).val + a) j)) :
    Ops x (2 * h2) (512 * (i 1).val) (256 * (2 * (i 1).val)) (some (bodyOut.sl.r_5 i)) (bodyOut.sl.v23 arg2 f2) (bodyOut.sl.v27 arg5 f5) (bodyOut.sl.r_6 i arg3 f3) (bodyOut.sl.r_7 i arg4 f4) (bodyOut.sl.v8 (F := Ideal)) (bodyOut.sl.v12 (F := Ideal))
      (mRight bodyOut.sl.v18 (bodyOut.sl.v188 i) (arg10.view.readAt (Elt Ideal) (Rect.unit (s := S2x512x128) ![0, 0, 0] S1x512x128.size inb_S2x512x128_S1x512x128_0_0_0).toLoadRect (scr arg6 arg10 f6))) pg := by
  have hi : (i 1).val < 8 := (i 1).isLt
  have L := loopIn i arg2 arg3 arg4 arg5 arg6 arg10 f2 f3 f4 f5 f6 P
  refine ⟨mask0 i, by omega, L.q0, L.d0, ?_, ?_, L.ts, L.tp, ?_, hp⟩
  · exact R2.same (φ := .bf16) ((R2.load16 arg3.view f3 P.k _ (256 * (2 * (i 1).val)) 0 (off5_0 i) _).congr fun t d ht hd => by
      show x.K _ _ = x.K _ _; congr 1; omega) _
  · exact R2.same (φ := .bf16) ((R2.load16 arg4.view f4 P.v _ (256 * (2 * (i 1).val)) 0 (off5_0 i) _).congr fun t d ht hd => by
      show x.V _ _ = x.V _ _; congr 1; omega) _
  · refine (R2.right (l := (2 * (i 1).val) + 1) (f := fun a l => Suf x (2 * h2) (512 * (i 1).val + a) (256 * l)) (by omega) L.lane (lane_word (i 1).val 0) L.run0).congr fun a t _ _ => ?_
    show Suf x (2 * h2) (512 * (i 1).val + a) (256 * ((2 * (i 1).val) + 1)) = _
    congr 1

theorem opsA1 (pg : FVec Ideal S512x1 .f32) (hp : R2 pg (fun a _ => ∑ j ∈ range (256 * (2 * (i 1).val)), Gr x (2 * h2 + 1) (512 * (i 1).val + a) j)) :
    Ops x (2 * h2 + 1) (512 * (i 1).val) (256 * (2 * (i 1).val)) (some (bodyOut.sl.r_5 i)) (bodyOut.sl.v25 arg2 f2) (bodyOut.sl.v29 arg5 f5) (bodyOut.sl.v184 i arg3 f3) (bodyOut.sl.v187 i arg4 f4) (bodyOut.sl.v8 (F := Ideal)) (bodyOut.sl.v12 (F := Ideal))
      (mRight bodyOut.sl.v18 (bodyOut.sl.v188 i) (arg10.view.readAt (Elt Ideal) (Rect.unit (s := S2x512x128) ![1, 0, 0] S1x512x128.size inb_S2x512x128_S1x512x128_1_0_0).toLoadRect (scr arg6 arg10 f6))) pg := by
  have hi : (i 1).val < 8 := (i 1).isLt
  have L := loopIn i arg2 arg3 arg4 arg5 arg6 arg10 f2 f3 f4 f5 f6 P
  refine ⟨mask0 i, by omega, L.q1, L.d1, ?_, ?_, L.ts, L.tp, ?_, hp⟩
  · exact R2.same (φ := .bf16) ((R2.load16 arg3.view f3 P.k _ (256 * (2 * (i 1).val)) 64 (off6_0 i) _).congr fun t d ht hd => by
      show x.K _ _ = x.K _ _; congr 1; omega) _
  · exact R2.same (φ := .bf16) ((R2.load16 arg4.view f4 P.v _ (256 * (2 * (i 1).val)) 64 (off6_0 i) _).congr fun t d ht hd => by
      show x.V _ _ = x.V _ _; congr 1; omega) _
  · refine (R2.right (l := (2 * (i 1).val) + 1) (f := fun a l => Suf x (2 * h2 + 1) (512 * (i 1).val + a) (256 * l)) (by omega) L.lane (lane_word (i 1).val 0) L.run1).congr fun a t _ _ => ?_
    show Suf x (2 * h2 + 1) (512 * (i 1).val + a) (256 * ((2 * (i 1).val) + 1)) = _
    congr 1

theorem opsB0 (pg : FVec Ideal S512x1 .f32) (hp : R2 pg (fun a _ => ∑ j ∈ range (256 * (2 * (i 1).val + 1)), Gr x (2 * h2) (512 * (i 1).val + a) j)) :
    Ops x (2 * h2) (512 * (i 1).val) (256 * (2 * (i 1).val + 1)) (some (bodyOut.sl.v268 i)) (bodyOut.sl.v23 arg2 f2) (bodyOut.sl.v27 arg5 f5) (bodyOut.sl.v271 i arg3 f3) (bodyOut.sl.v274 i arg4 f4) (bodyOut.sl.v8 (F := Ideal)) (bodyOut.sl.v12 (F := Ideal))
      (mRight bodyOut.sl.v18 (bodyOut.sl.v275 i) (arg10.view.readAt (Elt Ideal) (Rect.unit (s := S2x512x128) ![0, 0, 0] S1x512x128.size inb_S2x512x128_S1x512x128_0_0_0).toLoadRect (scr arg6 arg10 f6))) pg := by
  have hi : (i 1).val < 8 := (i 1).isLt
  have L := loopIn i arg2 arg3 arg4 arg5 arg6 arg10 f2 f3 f4 f5 f6 P
  refine ⟨mask1 i, by omega, L.q0, L.d0, ?_, ?_, L.ts, L.tp, ?_, hp⟩
  · exact R2.same (φ := .bf16) ((R2.load16 arg3.view f3 P.k _ (256 * (2 * (i 1).val + 1)) 0 (off5_1 i) _).congr fun t d ht hd => by
      show x.K _ _ = x.K _ _; congr 1; omega) _
  · exact R2.same (φ := .bf16) ((R2.load16 arg4.view f4 P.v _ (256 * (2 * (i 1).val + 1)) 0 (off5_1 i) _).congr fun t d ht hd => by
      show x.V _ _ = x.V _ _; congr 1; omega) _
  · refine (R2.right (l := (2 * (i 1).val + 1) + 1) (f := fun a l => Suf x (2 * h2) (512 * (i 1).val + a) (256 * l)) (by omega) L.lane (lane_word (i 1).val 1) L.run0).congr fun a t _ _ => ?_
    show Suf x (2 * h2) (512 * (i 1).val + a) (256 * ((2 * (i 1).val + 1) + 1)) = _
    congr 1

theorem opsB1 (pg : FVec Ideal S512x1 .f32) (hp : R2 pg (fun a _ => ∑ j ∈ range (256 * (2 * (i 1).val + 1)), Gr x (2 * h2 + 1) (512 * (i 1).val + a) j)) :
    Ops x (2 * h2 + 1) (512 * (i 1).val) (256 * (2 * (i 1).val + 1)) (some (bodyOut.sl.v268 i)) (bodyOut.sl.v25 arg2 f2) (bodyOut.sl.v29 arg5 f5) (bodyOut.sl.v350 i arg3 f3) (bodyOut.sl.v353 i arg4 f4) (bodyOut.sl.v8 (F := Ideal)) (bodyOut.sl.v12 (F := Ideal))
      (mRight bodyOut.sl.v18 (bodyOut.sl.v275 i) (arg10.view.readAt (Elt Ideal) (Rect.unit (s := S2x512x128) ![1, 0, 0] S1x512x128.size inb_S2x512x128_S1x512x128_1_0_0).toLoadRect (scr arg6 arg10 f6))) pg := by
  have hi : (i 1).val < 8 := (i 1).isLt
  have L := loopIn i arg2 arg3 arg4 arg5 arg6 arg10 f2 f3 f4 f5 f6 P
  refine ⟨mask1 i, by omega, L.q1, L.d1, ?_, ?_, L.ts, L.tp, ?_, hp⟩
  · exact R2.same (φ := .bf16) ((R2.load16 arg3.view f3 P.k _ (256 * (2 * (i 1).val + 1)) 64 (off6_1 i) _).congr fun t d ht hd => by
      show x.K _ _ = x.K _ _; congr 1; omega) _
  · exact R2.same (φ := .bf16) ((R2.load16 arg4.view f4 P.v _ (256 * (2 * (i 1).val + 1)) 64 (off6_1 i) _).congr fun t d ht hd => by
      show x.V _ _ = x.V _ _; congr 1; omega) _
  · refine (R2.right (l := (2 * (i 1).val + 1) + 1) (f := fun a l => Suf x (2 * h2 + 1) (512 * (i 1).val + a) (256 * l)) (by omega) L.lane (lane_word (i 1).val 1) L.run1).congr fun a t _ _ => ?_
    show Suf x (2 * h2 + 1) (512 * (i 1).val + a) (256 * ((2 * (i 1).val + 1) + 1)) = _
    congr 1

set_option maxHeartbeats 4000000 in
/-- The point's results: its queries' gradient, and the other two gradients' blocks with its part added. -/
theorem body_value {g8 g9 : ℕ → ℕ → ℝ} (h8 : R2 (arg8.view.read (Elt Ideal) (start0 i arg8 f8)) g8) (h9 : R2 (arg9.view.read (Elt Ideal) (start0 i arg9 f9)) g9) :
    R2 (arg7.view.read (Elt Ideal) (bodyOut (F := Ideal) c i arg2 harg2 arg3 harg3 arg4 harg4 arg5 harg5 arg6 harg6 arg7 harg7 arg8 harg8 arg9 harg9 arg10 harg10 f2 f3 f4 f5 f6 f7 f8 f9 f10).1) (fun a c => DQ x (512 * (i 1).val + a) (128 * h2 + c))
    ∧ R2 (arg8.view.read (Elt Ideal) (bodyOut (F := Ideal) c i arg2 harg2 arg3 harg3 arg4 harg4 arg5 harg5 arg6 harg6 arg7 harg7 arg8 harg8 arg9 harg9 arg10 harg10 f2 f3 f4 f5 f6 f7 f8 f9 f10).2.1) (fun t c => g8 t c + gK x h2 (512 * (i 1).val) t c)
    ∧ R2 (arg9.view.read (Elt Ideal) (bodyOut (F := Ideal) c i arg2 harg2 arg3 harg3 arg4 harg4 arg5 harg5 arg6 harg6 arg7 harg7 arg8 harg8 arg9 harg9 arg10 harg10 f2 f3 f4 f5 f6 f7 f8 f9 f10).2.2.1) (fun t c => g9 t c + gV x h2 (512 * (i 1).val) t c) := by
  have hi : (i 1).val < 8 := (i 1).isLt
  obtain ⟨C, L8, L9⟩ := after_loop c i arg2 harg2 arg3 harg3 arg4 harg4 arg5 harg5 arg6 harg6 arg7 harg7 arg8 harg8 arg9 harg9 arg10 harg10 f2 f3 f4 f5 f6 f8 f9 P h8 h9
  have A0 := opsA0 i arg2 arg3 arg4 arg5 arg6 arg10 f2 f3 f4 f5 f6 P _ C.p0
  have A1 := opsA1 i arg2 arg3 arg4 arg5 arg6 arg10 f2 f3 f4 f5 f6 P _ C.p1
  have B0 := opsB0 i arg2 arg3 arg4 arg5 arg6 arg10 f2 f3 f4 f5 f6 P _ (last_block A0)
  have B1 := opsB1 i arg2 arg3 arg4 arg5 arg6 arg10 f2 f3 f4 f5 f6 P _ (last_block A1)
  refine ⟨?_, ?_, ?_⟩
  · have Q0 := dq_block (n := 2 * (i 1).val + 1) B0 (dq_block (n := 2 * (i 1).val) A0 C.q0)
    have Q1 := dq_block (n := 2 * (i 1).val + 1) B1 (dq_block (n := 2 * (i 1).val) A1 C.q1)
    have S := store_pair arg7.view f7 _ _ (R2.eighth Q0).1 (R2.eighth Q1).2 inb_S512x128_S512x64_0_0 inb_S512x128_S512x64_0_64
    refine R2.congr (f := fun a c => if c < 64 then gQ x (2 * h2) (512 * (i 1).val) (256 * (2 * (i 1).val + 1 + 1)) a c / 8
      else gQ x (2 * h2 + 1) (512 * (i 1).val) (256 * (2 * (i 1).val + 1 + 1)) a (c - 64) / 8) ?_ fun a c ha hc => ?_
    · exact S
    · rw [show 256 * (2 * (i 1).val + 1 + 1) = 512 * (i 1).val + 512 by ring]
      unfold DQ
      by_cases h : c < 64
      · rw [if_pos h, gQ_all _ _ _ _ _ (by omega) ha]
        unfold gQ
        rw [show (128 * h2 + c) / 64 = 2 * h2 by omega, show 64 * (2 * h2) + c = 128 * h2 + c by ring]
      · rw [if_neg h, gQ_all _ _ _ _ _ (by omega) ha]
        unfold gQ
        rw [show (128 * h2 + c) / 64 = 2 * h2 + 1 by omega, show 64 * (2 * h2 + 1) + (c - 64) = 128 * h2 + c by omega]
  · have M1 := dk_block A0 A1 arg8.view (start0 i arg8 f8) _ g8 _ _ (off5_0 i) (off6_0 i) (k0_off5_inb i 0) (k0_off6_inb i 0) L8
    have M2 := dk_block B0 B1 arg8.view (start0 i arg8 f8) _ g8 _ _ (off5_1 i) (off6_1 i) (k0_off5_inb i 1) (k0_off6_inb i 1) M1
    refine R2.congr (f := acc g8 (gK x h2 (512 * (i 1).val)) (2 * (i 1).val + 1 + 1) 0) ?_ fun t c _ _ =>
      acc_all g8 _ (512 * (i 1).val) _ (by omega) (fun t c ht => gK_eq_zero x h2 _ t c ht) t c
    exact M2
  · have M1 := dv_block A0 A1 arg9.view (start0 i arg9 f9) _ g9 _ _ (off5_0 i) (off6_0 i) (k0_off5_inb i 0) (k0_off6_inb i 0) L9
    have M2 := dv_block B0 B1 arg9.view (start0 i arg9 f9) _ g9 _ _ (off5_1 i) (off6_1 i) (k0_off5_inb i 1) (k0_off6_inb i 1) M1
    refine R2.congr (f := acc g9 (gV x h2 (512 * (i 1).val)) (2 * (i 1).val + 1 + 1) 0) ?_ fun t c _ _ =>
      acc_all g9 _ (512 * (i 1).val) _ (by omega) (fun t c ht => gV_eq_zero x h2 _ t c ht) t c
    exact M2

end Cert.KernelIdeal.Hand
-- ==== Proof.Value.Launch.lean ====
/-
  The kernel's launch over finite numbers: what the three output blocks hold after each of the 64 points, and so what the
  three result arrays end holding.
-/
module

public import proofs.«01_k».proof.Proof.Value.Body
public import proofs.«01_k».proof.Proof.KernelIdeal.Frame
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Finset Cert.Stick

local notation "𝕄" => MT nD τ sig Unit (Elt Ideal) ℕ (UR sig nD τ) ℕ

variable (m : (ℓ : Loc nD τ sig) → Buf (Elt Ideal) ℓ) (ρ : Dev nD → PrngReg)

/-- What the launch finds in the five input arrays, as numbers. -/
structure HostIn (x : Dev nD → In) : Prop where
  q : ∀ c, R2 (n := 4096) (m := 1024) (V m c main_v20) (fun s j => (x c).Q s j / 8)
  k : ∀ c, R2 (n := 4096) (m := 1024) (V m c main_v21) (x c).K
  v : ∀ c, R2 (n := 4096) (m := 1024) (V m c main_v22) (x c).V
  d : ∀ c, R2 (n := 4096) (m := 1024) (V m c main_arg3) (x c).D
  run : ∀ c (h : Fin 16) (s : Fin 4096) (l : Fin 16), (V m c main_v17 : S16x4096x16.Idx → EReal) (ix3 h s l) = ((Suf (x c) h.val s.val (256 * l.val) : ℝ) : EReal)

/-- A point's two coordinates: the pair of heads and the block of queries. -/
theorem coord0 : ∀ t : Fin cfg0.N, ((grid0.coords t) 0).val = t.val / 8 := by decide +kernel
theorem coord1 : ∀ t : Fin cfg0.N, ((grid0.coords t) 1).val = t.val % 8 := by decide +kernel

theorem idx0 : ∀ t : Fin cfg0.N, win0_0.index t 0 = t.val % 8 ∧ win0_0.index t 1 = t.val / 8 := by decide +kernel
theorem idx1 : ∀ t : Fin cfg0.N, win0_1.index t 0 = 0 ∧ win0_1.index t 1 = t.val / 8 := by decide +kernel
theorem idx2 : ∀ t : Fin cfg0.N, win0_2.index t 0 = 0 ∧ win0_2.index t 1 = t.val / 8 := by decide +kernel
theorem idx3 : ∀ t : Fin cfg0.N, win0_3.index t 0 = t.val % 8 ∧ win0_3.index t 1 = t.val / 8 := by decide +kernel
theorem idx4 : ∀ t : Fin cfg0.N, win0_4.index t 0 = t.val / 8 ∧ win0_4.index t 1 = t.val % 8 ∧ win0_4.index t 2 = 0 := by decide +kernel
theorem idx5 : ∀ t : Fin cfg0.N, win0_5.index t 0 = t.val % 8 ∧ win0_5.index t 1 = t.val / 8 := by decide +kernel
theorem idx6 : ∀ t : Fin cfg0.N, win0_6.index t 0 = 0 ∧ win0_6.index t 1 = t.val / 8 := by decide +kernel
theorem idx7 : ∀ t : Fin cfg0.N, win0_7.index t 0 = 0 ∧ win0_7.index t 1 = t.val / 8 := by decide +kernel

theorem bound0 (t : Fin cfg0.N) : t.val / 8 < 8 := by
  have : t.val < 64 := t.isLt
  omega
theorem bound1 (t : Fin cfg0.N) : t.val % 8 < 8 := by omega

variable {m} {x : Dev nD → In} (H : HostIn m x)
include H

theorem block_q (c : Dev nD) (t : Fin cfg0.N) : R2 (n := 512) (m := 128) (iblk m c 0 t) (fun a c' => (x c).Q (512 * (t.val % 8) + a) (128 * (t.val / 8) + c') / 8) := by
  intro a b
  refine Eq.trans ?_ (H.q c ⟨512 * (t.val % 8) + a.val, by have := bound1 t; omega⟩ ⟨128 * (t.val / 8) + b.val, by have := bound0 t; omega⟩)
  unfold iblk
  rw [View.read_apply]
  refine congrArg (V m c main_v20) (funext fun d => Fin.ext ?_)
  match d with
  | ⟨0, _⟩ => show win0_0.index t 0 * 512 + 1 * a.val = 512 * (t.val % 8) + a.val; rw [(idx0 t).1]; omega
  | ⟨1, _⟩ => show win0_0.index t 1 * 128 + 1 * b.val = 128 * (t.val / 8) + b.val; rw [(idx0 t).2]; omega

theorem block_k (c : Dev nD) (t : Fin cfg0.N) : R2 (n := 4096) (m := 128) (iblk m c 1 t) (fun a c' => (x c).K a (128 * (t.val / 8) + c')) := by
  intro a b
  refine Eq.trans ?_ (H.k c a ⟨128 * (t.val / 8) + b.val, by have := bound0 t; omega⟩)
  unfold iblk
  rw [View.read_apply]
  refine congrArg (V m c main_v21) (funext fun d => Fin.ext ?_)
  match d with
  | ⟨0, _⟩ => show win0_1.index t 0 * 4096 + 1 * a.val = a.val; rw [(idx1 t).1]; omega
  | ⟨1, _⟩ => show win0_1.index t 1 * 128 + 1 * b.val = 128 * (t.val / 8) + b.val; rw [(idx1 t).2]; omega

theorem block_v (c : Dev nD) (t : Fin cfg0.N) : R2 (n := 4096) (m := 128) (iblk m c 2 t) (fun a c' => (x c).V a (128 * (t.val / 8) + c')) := by
  intro a b
  refine Eq.trans ?_ (H.v c a ⟨128 * (t.val / 8) + b.val, by have := bound0 t; omega⟩)
  unfold iblk
  rw [View.read_apply]
  refine congrArg (V m c main_v22) (funext fun d => Fin.ext ?_)
  match d with
  | ⟨0, _⟩ => show win0_2.index t 0 * 4096 + 1 * a.val = a.val; rw [(idx2 t).1]; omega
  | ⟨1, _⟩ => show win0_2.index t 1 * 128 + 1 * b.val = 128 * (t.val / 8) + b.val; rw [(idx2 t).2]; omega

theorem block_d (c : Dev nD) (t : Fin cfg0.N) : R2 (n := 512) (m := 128) (iblk m c 3 t) (fun a c' => (x c).D (512 * (t.val % 8) + a) (128 * (t.val / 8) + c')) := by
  intro a b
  refine Eq.trans ?_ (H.d c ⟨512 * (t.val % 8) + a.val, by have := bound1 t; omega⟩ ⟨128 * (t.val / 8) + b.val, by have := bound0 t; omega⟩)
  unfold iblk
  rw [View.read_apply]
  refine congrArg (V m c main_arg3) (funext fun d => Fin.ext ?_)
  match d with
  | ⟨0, _⟩ => show win0_3.index t 0 * 512 + 1 * a.val = 512 * (t.val % 8) + a.val; rw [(idx3 t).1]; omega
  | ⟨1, _⟩ => show win0_3.index t 1 * 128 + 1 * b.val = 128 * (t.val / 8) + b.val; rw [(idx3 t).2]; omega

theorem block_run (c : Dev nD) (t : Fin cfg0.N) (e : Fin 2) (a : Fin 512) (l : Fin 16) :
    (iblk m c 4 t : S2x512x16.Idx → EReal) (ix3 e a l) = ((Suf (x c) (2 * (t.val / 8) + e.val) (512 * (t.val % 8) + a.val) (256 * l.val) : ℝ) : EReal) := by
  refine Eq.trans ?_ (H.run c ⟨2 * (t.val / 8) + e.val, by have := bound0 t; omega⟩ ⟨512 * (t.val % 8) + a.val, by have := bound1 t; omega⟩ l)
  unfold iblk
  rw [View.read_apply]
  refine congrArg (V m c main_v17) (funext fun d => Fin.ext ?_)
  match d with
  | ⟨0, _⟩ => show win0_4.index t 0 * 2 + 1 * e.val = 2 * (t.val / 8) + e.val; rw [(idx4 t).1]; omega
  | ⟨1, _⟩ => show win0_4.index t 1 * 512 + 1 * a.val = 512 * (t.val % 8) + a.val; rw [(idx4 t).2.1]; omega
  | ⟨2, _⟩ => show win0_4.index t 2 * 16 + 1 * l.val = l.val; rw [(idx4 t).2.2]; omega

/-- A point's five input blocks. -/
theorem pointIn (c : Dev nD) (t : Fin cfg0.N) : PointIn (x c) (t.val / 8) (512 * ((grid0.coords t) 1).val)
    (iblk m c 0 t) (iblk m c 1 t) (iblk m c 2 t) (iblk m c 3 t) (iblk m c 4 t) := by
  rw [coord1]
  exact ⟨block_q H c t, block_k H c t, block_v H c t, block_d H c t, block_run H c t⟩

omit H
variable (m) (x)

/-! ## The proof data: each output block after each point -/

/-- After a point: its queries' gradient; and, of the keys and values, what the queries up to its own give. -/
def aQ (c : Dev nD) (t : Fin cfg0.N) : S512x128.Idx → EReal := fun y => ((DQ (x c) (512 * (t.val % 8) + (y 0).val) (128 * (t.val / 8) + (y 1).val) : ℝ) : EReal)
def aK (c : Dev nD) (t : Fin cfg0.N) : S4096x128.Idx → EReal := fun y => ((DKn (x c) (512 * (t.val % 8 + 1)) (y 0).val (128 * (t.val / 8) + (y 1).val) : ℝ) : EReal)
def aV (c : Dev nD) (t : Fin cfg0.N) : S4096x128.Idx → EReal := fun y => ((DVn (x c) (512 * (t.val % 8 + 1)) (y 0).val (128 * (t.val / 8) + (y 1).val) : ℝ) : EReal)

def vdats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => aQ x c t
    | ⟨6, _⟩ => aK x c t
    | ⟨7, _⟩ => aV x c t
  Φ _ := Pipeline.ΦA spec0 c
  q _ := fullShare
  owed _ := 0

theorem vA_eq (c : Dev nD) (w : Fin cfg0.W) : (vdats m x 0 c).A w = V m c (Pipeline.arrRef spec0 w) := by dsimp only [vdats]
theorem vafter_0 (c : Dev nD) (t : Fin cfg0.N) : (vdats m x 0 c).after 0 t = iblk m c 0 t := by dsimp only [vdats]
theorem vafter_1 (c : Dev nD) (t : Fin cfg0.N) : (vdats m x 0 c).after 1 t = iblk m c 1 t := by dsimp only [vdats]
theorem vafter_2 (c : Dev nD) (t : Fin cfg0.N) : (vdats m x 0 c).after 2 t = iblk m c 2 t := by dsimp only [vdats]
theorem vafter_3 (c : Dev nD) (t : Fin cfg0.N) : (vdats m x 0 c).after 3 t = iblk m c 3 t := by dsimp only [vdats]
theorem vafter_4 (c : Dev nD) (t : Fin cfg0.N) : (vdats m x 0 c).after 4 t = iblk m c 4 t := by dsimp only [vdats]
theorem vafter_5 (c : Dev nD) (t : Fin cfg0.N) : (vdats m x 0 c).after 5 t = aQ x c t := by dsimp only [vdats]
theorem vafter_6 (c : Dev nD) (t : Fin cfg0.N) : (vdats m x 0 c).after 6 t = aK x c t := by dsimp only [vdats]
theorem vafter_7 (c : Dev nD) (t : Fin cfg0.N) : (vdats m x 0 c).after 7 t = aV x c t := by dsimp only [vdats]

/-- The zeros written at the first block of queries. -/
theorem start_first (i : grid0.Coords) (M : Memref sig .tc .vmem S4096x128 .f32) (f : BufTy.Contents (Elt Ideal) M.view.ty) (hi : (i 1).val = 0) :
    R2 (M.view.read (Elt Ideal) (start0 i M f)) (fun _ _ => 0) := by
  intro a b
  unfold start0
  rw [dif_pos ((point_first i).mpr hi), View.read_writes_cons_put M.view f _ _ _ rfl]
  unfold VecWindow.put
  rw [dif_pos (fun d => by
    match d with
    | ⟨0, _⟩ => exact ⟨Nat.zero_le _, by show a.val < 0 + 4096; omega⟩
    | ⟨1, _⟩ => exact ⟨Nat.zero_le _, by show b.val < 0 + 128; omega⟩)]
  show bodyOut.sl.v433 (F := Ideal) _ = _
  unfold bodyOut.sl.v433
  exact Ideal.ofBits_zero_f32

theorem start_later (i : grid0.Coords) (M : Memref sig .tc .vmem S4096x128 .f32) (f : BufTy.Contents (Elt Ideal) M.view.ty) (hi : (i 1).val ≠ 0) :
    start0 i M f = f := by
  unfold start0
  rw [dif_neg (fun h => hi ((point_first i).mp h))]

/-- The block a gradient's buffer starts a point with: what the queries before the point's give. -/
theorem start_K (c : Dev nD) (t : Fin cfg0.N) (d) (M : Memref sig .tc .vmem S4096x128 .f32) (f : BufTy.Contents (Elt Ideal) M.view.ty)
    (e : M.view.read (Elt Ideal) f = (vdats m x 0 c).before 6 t d) :
    R2 (M.view.read (Elt Ideal) (start0 (grid0.coords t) M f)) (fun a b => DKn (x c) (512 * ((grid0.coords t) 1).val) a (128 * (t.val / 8) + b)) := by
  by_cases hi : ((grid0.coords t) 1).val = 0
  · refine (start_first (grid0.coords t) M f hi).congr fun a b _ _ => ?_
    rw [hi]; simp [DKn]
  · have ht : t.val % 8 ≠ 0 := by rwa [coord1] at hi
    have h0 : t.val ≠ 0 := by omega
    rw [start_later _ _ _ hi, e, (vdats m x 0 c).before_out_kept 6 rfl t h0
      (Bool.eq_false_iff.mpr fun h => by have := (flush0_6 _).mp h; simp only at this; omega) (fun _ => rfl) (fun _ _ => rfl), vafter_6]
    intro a b
    show ((DKn (x c) (512 * ((t.val - 1) % 8 + 1)) a.val (128 * ((t.val - 1) / 8) + b.val) : ℝ) : EReal) = _
    rw [coord1, show (t.val - 1) % 8 + 1 = t.val % 8 by omega, show (t.val - 1) / 8 = t.val / 8 by omega]

theorem start_V (c : Dev nD) (t : Fin cfg0.N) (d) (M : Memref sig .tc .vmem S4096x128 .f32) (f : BufTy.Contents (Elt Ideal) M.view.ty)
    (e : M.view.read (Elt Ideal) f = (vdats m x 0 c).before 7 t d) :
    R2 (M.view.read (Elt Ideal) (start0 (grid0.coords t) M f)) (fun a b => DVn (x c) (512 * ((grid0.coords t) 1).val) a (128 * (t.val / 8) + b)) := by
  by_cases hi : ((grid0.coords t) 1).val = 0
  · refine (start_first (grid0.coords t) M f hi).congr fun a b _ _ => ?_
    rw [hi]; simp [DVn]
  · have ht : t.val % 8 ≠ 0 := by rwa [coord1] at hi
    have h0 : t.val ≠ 0 := by omega
    rw [start_later _ _ _ hi, e, (vdats m x 0 c).before_out_kept 7 rfl t h0
      (Bool.eq_false_iff.mpr fun h => by have := (flush0_7 _).mp h; simp only at this; omega) (fun _ => rfl) (fun _ _ => rfl), vafter_7]
    intro a b
    show ((DVn (x c) (512 * ((t.val - 1) % 8 + 1)) a.val (128 * ((t.val - 1) / 8) + b.val) : ℝ) : EReal) = _
    rw [coord1, show (t.val - 1) % 8 + 1 = t.val % 8 by omega, show (t.val - 1) / 8 = t.val / 8 by omega]

/-- The next 512 queries' part of the two sums over the queries. -/
theorem next_K (x : In) (h2 n t b : ℕ) (hb : b < 128) : DKn x (512 * n) t (128 * h2 + b) + gK x h2 (512 * n) t b = DKn x (512 * (n + 1)) t (128 * h2 + b) := by
  unfold DKn gK
  rw [show 512 * (n + 1) = 512 * n + 512 by ring, sum_split _ (512 * n) 512, show (128 * h2 + b) / 64 = 2 * h2 + b / 64 by omega]
theorem next_V (x : In) (h2 n t b : ℕ) (hb : b < 128) : DVn x (512 * n) t (128 * h2 + b) + gV x h2 (512 * n) t b = DVn x (512 * (n + 1)) t (128 * h2 + b) := by
  unfold DVn gV
  rw [show 512 * (n + 1) = 512 * n + 512 by ring, sum_split _ (512 * n) 512, show (128 * h2 + b) / 64 = 2 * h2 + b / 64 by omega]

/-- A block is what its entries are. -/
theorem R2.ext {n k : ℕ} {w z : (⟨2, ![n, k]⟩ : Shape).Idx → EReal} {f : ℕ → ℕ → ℝ} (hw : R2 w f) (hz : R2 z f) : w = z := by
  funext j
  rw [show j = ix2 (j 0) (j 1) from funext fun d => by match d with | ⟨0, _⟩ => rfl | ⟨1, _⟩ => rfl]
  exact (hw _ _).trans (hz _ _).symm

/-- What the body is called with at a point. -/
def vPre (c : Dev nD) (t : Fin cfg0.N) : sProp 𝕄 :=
  iprop((vdats m x 0 c).Φ t.castSucc ∗ (vdats m x 0 c).owesAt () t.castSucc
    ∗ (∃ d, owns (c : Thread nD τ) (ms0 t) fullShare ((vdats m x 0 c).before 0 t d))
    ∗ (∃ d, owns (c : Thread nD τ) (ms1 t) fullShare ((vdats m x 0 c).before 1 t d))
    ∗ (∃ d, owns (c : Thread nD τ) (ms2 t) fullShare ((vdats m x 0 c).before 2 t d))
    ∗ (∃ d, owns (c : Thread nD τ) (ms3 t) fullShare ((vdats m x 0 c).before 3 t d))
    ∗ (∃ d, owns (c : Thread nD τ) (ms4 t) fullShare ((vdats m x 0 c).before 4 t d))
    ∗ (∃ d, owns (c : Thread nD τ) (ms5 t) fullShare ((vdats m x 0 c).before 5 t d))
    ∗ (∃ d, owns (c : Thread nD τ) (ms6 t) fullShare ((vdats m x 0 c).before 6 t d))
    ∗ (∃ d, owns (c : Thread nD τ) (ms7 t) fullShare ((vdats m x 0 c).before 7 t d)))
/-- What the body returns at a point. -/
def vPost (c : Dev nD) (t : Fin cfg0.N) : sProp 𝕄 :=
  iprop((vdats m x 0 c).Φ t.succ ∗ (vdats m x 0 c).owesAt () t.succ
    ∗ owns (c : Thread nD τ) (ms0 t) fullShare ((vdats m x 0 c).after 0 t)
    ∗ owns (c : Thread nD τ) (ms1 t) fullShare ((vdats m x 0 c).after 1 t)
    ∗ owns (c : Thread nD τ) (ms2 t) fullShare ((vdats m x 0 c).after 2 t)
    ∗ owns (c : Thread nD τ) (ms3 t) fullShare ((vdats m x 0 c).after 3 t)
    ∗ owns (c : Thread nD τ) (ms4 t) fullShare ((vdats m x 0 c).after 4 t)
    ∗ owns (c : Thread nD τ) (ms5 t) fullShare ((vdats m x 0 c).after 5 t)
    ∗ owns (c : Thread nD τ) (ms6 t) fullShare ((vdats m x 0 c).after 6 t)
    ∗ owns (c : Thread nD τ) (ms7 t) fullShare ((vdats m x 0 c).after 7 t))

variable {m x}
include H

set_option maxHeartbeats 1000000 in
/-- The body at a point, from what the pipeline holds before it to what it holds after. -/
theorem value_body (c : Dev nD) (t : Fin cfg0.N) :
    vPre m x c t ⊢ wp Idealize.ShloMosaic.frame (wpE (defs₀ (F := Ideal)) Variants.none c none) Set.univ (bodyAt0 t) (fun _ => vPost m x c t) := by
  unfold vPre vPost bodyAt0
  rw [show (vdats m x 0 c).Φ t.succ = (vdats m x 0 c).Φ t.castSucc from rfl,
    show (vdats m x 0 c).owesAt () t.succ = (vdats m x 0 c).owesAt () t.castSucc from rfl,
    show (vdats m x 0 c).Φ t.castSucc = Pipeline.ΦA spec0 c from rfl, PhiA0_eq]
  rw [vafter_0, vafter_1, vafter_2, vafter_3, vafter_4]
  simp only [before0_0_of m (vdats m x 0 c) (vA_eq m x c 0) (vafter_0 m x c), before0_1_of m (vdats m x 0 c) (vA_eq m x c 1) (vafter_1 m x c), before0_2_of m (vdats m x 0 c) (vA_eq m x c 2) (vafter_2 m x c), before0_3_of m (vdats m x 0 c) (vA_eq m x c 3) (vafter_3 m x c), before0_4_of m (vdats m x 0 c) (vA_eq m x c 4) (vafter_4 m x c)]
  unfold owns
  iintro ⟨⟨⟨%ds, %fs, -, HS⟩, Hg⟩, HO, ⟨%_, %f0, %e0, H0⟩, ⟨%_, %f1, %e1, H1⟩, ⟨%_, %f2, %e2, H2⟩, ⟨%_, %f3, %e3, H3⟩, ⟨%_, %f4, %e4, H4⟩,
    ⟨%_, %f5, -, H5⟩, ⟨%d6, %f6, %e6, H6⟩, ⟨%d7, %f7, %e7, H7⟩⟩
  have P := pointIn H c t
  rw [← e0, ← e1, ← e2, ← e3, ← e4] at P
  have B := body_value c (grid0.coords t) _ (hstage0_0 _) _ (hstage0_1 _) _ (hstage0_2 _) _ (hstage0_3 _) _ (hstage0_4 _) _ (hstage0_5 _) _ (hstage0_6 _) _ (hstage0_7 _) _ (Memref.isWhole_whole cc0_scratch0) f0 f1 f2 f3 f4 f5 f6 f7 fs P
    (start_K m x c t d6 _ f6 e6) (start_V m x c t d7 _ f7 e7)
  iapply ((bodyOut c _ _ _ _ _ _ _ _ _ _ _ _ _ _ _ _ _ _ _ f0 f1 f2 f3 f4 f5 f6 f7 fs).2.2.2 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS]; · iexact HS
  iintro %g10 ⟨H0, H1, H2, H3, H4, H5, H6, H7, HS⟩
  isplitl [HS Hg]
  · isplitl [HS]
    · iexists _, _; isplitr; swap; · iexact HS
      ipureintro; rfl
    iexact Hg
  isplitl [HO]; · iexact HO
  isplitl [H0]
  · iexists f0; isplitr; swap; · iexact H0
    ipureintro; exact e0
  isplitl [H1]
  · iexists f1; isplitr; swap; · iexact H1
    ipureintro; exact e1
  isplitl [H2]
  · iexists f2; isplitr; swap; · iexact H2
    ipureintro; exact e2
  isplitl [H3]
  · iexists f3; isplitr; swap; · iexact H3
    ipureintro; exact e3
  isplitl [H4]
  · iexists f4; isplitr; swap; · iexact H4
    ipureintro; exact e4
  isplitl [H5]
  · iexists _; isplitr; swap; · iexact H5
    ipureintro
    rw [vafter_5]
    refine R2.ext B.1 fun a b => ?_
    rw [coord1]; rfl
  isplitl [H6]
  · iexists _; isplitr; swap; · iexact H6
    ipureintro
    rw [vafter_6]
    refine R2.ext B.2.1 fun a b => ?_
    rw [next_K _ _ _ _ _ b.isLt, coord1]; rfl
  iexists _; isplitr; swap; · iexact H7
  ipureintro
  rw [vafter_7]
  refine R2.ext B.2.2 fun a b => ?_
  rw [next_V _ _ _ _ _ b.isLt, coord1]; rfl

theorem value_obligation (c : Dev nD) : BodyObligation (vdats m x 0 c) (defs₀ (F := Ideal)) Variants.none () Set.univ := fun t => by
  rw [bigSep_W0, bigSep_W0, defs₀_row]
  exact triple_restated (value_body H c t) rfl .rfl fun _ => .rfl

omit H

/-! ## The three result arrays -/

variable (m) (x)

def rQ (c : Dev nD) : S4096x1024.Idx → EReal := fun j => ((DQ (x c) (j 0).val (j 1).val : ℝ) : EReal)
def rK (c : Dev nD) : S4096x1024.Idx → EReal := fun j => ((DKn (x c) 4096 (j 0).val (j 1).val : ℝ) : EReal)
def rV (c : Dev nD) : S4096x1024.Idx → EReal := fun j => ((DVn (x c) 4096 (j 0).val (j 1).val : ℝ) : EReal)

theorem final_Q (c : Dev nD) : (vdats m x 0 c).arrAt 5 cfg0.N = rQ x c := by
  refine (vdats m x 0 c).arrAt_eq_of_covers 5 _ (by decide +kernel) fun t hf y => ?_
  blk_simp
  rw [vafter_5]
  unfold aQ rQ
  congr 2
  · show 512 * (t.val % 8) + (y 0).val = win0_5.index t 0 * 512 + 1 * (y 0).val
    rw [(idx5 t).1]; omega
  · show 128 * (t.val / 8) + (y 1).val = win0_5.index t 1 * 128 + 1 * (y 1).val
    rw [(idx5 t).2]; omega

theorem final_K (c : Dev nD) : (vdats m x 0 c).arrAt 6 cfg0.N = rK x c := by
  refine (vdats m x 0 c).arrAt_eq_of_covers 6 _ (by decide +kernel) fun t hf y => ?_
  have ht := (flush0_6 t).mp hf
  blk_simp
  rw [vafter_6]
  unfold aK rK
  rw [ht]
  congr 2
  · show (y 0).val = win0_6.index t 0 * 4096 + 1 * (y 0).val
    rw [(idx6 t).1]; omega
  · show 128 * (t.val / 8) + (y 1).val = win0_6.index t 1 * 128 + 1 * (y 1).val
    rw [(idx6 t).2]; omega

theorem final_V (c : Dev nD) : (vdats m x 0 c).arrAt 7 cfg0.N = rV x c := by
  refine (vdats m x 0 c).arrAt_eq_of_covers 7 _ (by decide +kernel) fun t hf y => ?_
  have ht := (flush0_7 t).mp hf
  blk_simp
  rw [vafter_7]
  unfold aV rV
  rw [ht]
  congr 2
  · show (y 0).val = win0_7.index t 0 * 4096 + 1 * (y 0).val
    rw [(idx7 t).1]; omega
  · show 128 * (t.val / 8) + (y 1).val = win0_7.index t 1 * 128 + 1 * (y 1).val
    rw [(idx7 t).2]; omega

variable {x}
include H

set_option backward.isDefEq.respectTransparency.types false in
theorem value_main :
    θ_run defs (onTc (τ := τ) (main (F := Ideal))) (s₀ m ρ) (fun r => Pipeline.FramePost cfgs (vdats m x) 0 (V m) r ∧ r.2.sem = fun _ => 0) :=
  Pipeline.θ_run_frame (Q' := _) cfgs (vdats m x) (0 : Fin 1) launch0 defs₀ Variants.none m ρ main
    (hbody := fun c => (value_obligation H c).loose) (hshare := fun c => (vdats m x 0 c).share_full fun _ => rfl)
    (howed := fun _ _ => rfl) (V := V m) (hmain := hmain m Variants.none) (hA := vA_eq m x)
    (hΦ := fun _ _ => rfl)

/-- Every execution ends with the three results at the gradients and the four arguments as they were. -/
theorem value_run : θ_run defs (onTc (τ := τ) (main (F := Ideal))) ⟨m, fun _ => 0, ρ⟩ (fun r => ∀ c : Dev nD,
      r.2.mem ((c.tc : Thread nD τ).loc main_v23_0) = rQ x c
      ∧ r.2.mem ((c.tc : Thread nD τ).loc main_v23_1) = rK x c
      ∧ r.2.mem ((c.tc : Thread nD τ).loc main_v23_2) = rV x c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.1 c).1 5).trans (final_Q m x c), ((h.1 c).1 6).trans (final_K m x c), ((h.1 c).1 7).trans (final_V m x c),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      (((h.1 c).1 3).trans ((vdats m x 0 c).arrAt_in 3 rfl _)).trans (V_main_arg3 m c)⟩) (value_main m ρ H)

end Cert.KernelIdeal.Hand
-- ==== Proof.Value.Scalars.lean ====
/-
  The reference's scalar pieces at a real number: the softplus, its derivative's factor, the mask's bit.
-/
module

public import proofs.«01_k».proof.Proof.Value.Body

@[expose] public section

noncomputable section

open Finset

namespace Cert.Stick

open Idealize.ShloMosaic

theorem inf_f32 : (FloatOps.ofBits .f32 0x7F800000#32 : Ideal .f32) = (⊤ : EReal) := by
  show Ideal.ofBits .f32 0x7F800000#32 = ⊤
  simp [Ideal.ofBits, Ideal.ieee]

theorem zero_f32 : (FloatOps.ofBits .f32 0x00000000#32 : Ideal .f32) = ((0 : ℝ) : EReal) := Ideal.ofBits_zero_f32

theorem eighth_bits : (FloatOps.ofBits .f32 0x3E000000#32 : Ideal .f32) = ((1 / 8 : ℝ) : EReal) := Cert.KernelIdeal.Hand.eighth_f32

/-- A real number is not the largest extended real. -/
theorem oeq_top (r : ℝ) : (FloatOps.cmpf (F := Ideal) (φ := .f32) .oeq (r : EReal) (⊤ : EReal)) = 0#1 := by
  show BitVec.ofBool (decide ((r : EReal) = ⊤)) = 0#1
  rw [decide_eq_false (EReal.coe_ne_top r)]; rfl

theorem une_self (a : EReal) : (FloatOps.cmpf (F := Ideal) (φ := .f32) .une a a) = 0#1 := by
  show BitVec.ofBool (decide (a ≠ a)) = 0#1
  rw [decide_eq_false (by simp)]; rfl

theorem select_zero (a b : EReal) : Scalar.select (0#1) a b = b := rfl
theorem select_one (a b : EReal) : Scalar.select (1#1) a b = a := rfl

/-- `max(y, 0) + log(1 + e^{-|y|})`, with the guard against a value that is not a number, is `log(1 + e^y)`. -/
theorem softplus_coe (r : ℝ) :
    Scalar.select (FloatOps.cmpf (F := Ideal) (φ := .f32) .une (FloatOps.subf (F := Ideal) (φ := .f32) (r : EReal) (FloatOps.ofBits .f32 0x00000000#32)) (FloatOps.subf (F := Ideal) (φ := .f32) (r : EReal) (FloatOps.ofBits .f32 0x00000000#32)))
      (FloatOps.addf (F := Ideal) (φ := .f32) (r : EReal) (FloatOps.ofBits .f32 0x00000000#32))
      (FloatOps.addf (F := Ideal) (φ := .f32) (FloatOps.maximumf (F := Ideal) (φ := .f32) (r : EReal) (FloatOps.ofBits .f32 0x00000000#32))
        (FloatOps.hostUnary (F := Ideal) (φ := .f32) .log1p (FloatOps.hostUnary (F := Ideal) (φ := .f32) .exp
          (FloatOps.hostNegf (F := Ideal) (φ := .f32) (FloatOps.hostAbsf (F := Ideal) (φ := .f32)
            (FloatOps.subf (F := Ideal) (φ := .f32) (r : EReal) (FloatOps.ofBits .f32 0x00000000#32)))))))
      = ((sp r : ℝ) : EReal) := by
  rw [une_self, select_zero, zero_f32]
  show max (r : EReal) ((0 : ℝ) : EReal) + Ideal.log (1 + Ideal.exp (-(max ((r : EReal) - ((0 : ℝ) : EReal)) (-((r : EReal) - ((0 : ℝ) : EReal)))))) = _
  have h1 : (1 : EReal) = ((1 : ℝ) : EReal) := rfl
  have hp : ¬ (1 + Real.exp (-(max r (-r))) ≤ 0) := by have := Real.exp_pos (-(max r (-r))); linarith
  rw [← EReal.coe_sub, sub_zero, ← EReal.coe_neg, coe_max, coe_max, ← EReal.coe_neg, Ideal.exp_coe, h1, ← EReal.coe_add, Ideal.log_coe, if_neg hp, ← EReal.coe_add]
  rw [← sp_eq r, zero_sub]

/-- The derivative's factor `e^{y - log(1 + e^y)}`, guarded against infinities. -/
theorem factor_coe (r p : ℝ) :
    FloatOps.hostUnary (F := Ideal) (φ := .f32) .exp (FloatOps.subf (F := Ideal) (φ := .f32)
      (Scalar.select (FloatOps.cmpf (F := Ideal) (φ := .f32) .oeq (r : EReal) (FloatOps.ofBits .f32 0x7F800000#32)) (FloatOps.ofBits (F := Ideal) .f32 0x00000000#32) (r : EReal))
      (Scalar.select (FloatOps.cmpf (F := Ideal) (φ := .f32) .oeq (p : EReal) (FloatOps.ofBits .f32 0x7F800000#32)) (FloatOps.ofBits (F := Ideal) .f32 0x00000000#32) (p : EReal)))
      = ((Real.exp (r - p) : ℝ) : EReal) := by
  rw [inf_f32, oeq_top, oeq_top, select_zero, select_zero]
  rfl

/-- The bit of a comparison of two positions. -/
theorem slt_bit (a b : ℕ) (ha : a < 4096) (hb : b < 4096) :
    IntOp.cmpi .slt (BitVec.ofNat 32 a) (BitVec.ofNat 32 b) = if a < b then 1#1 else 0#1 := by
  show BitVec.ofBool ((BitVec.ofNat 32 a).slt (BitVec.ofNat 32 b)) = _
  have e : (BitVec.ofNat 32 a).slt (BitVec.ofNat 32 b) = decide (a < b) := by
    have ea : (BitVec.ofNat 32 a).toInt = a := by
      rw [BitVec.toInt_eq_toNat_of_lt (by simp only [BitVec.toNat_ofNat]; omega)]; simp only [BitVec.toNat_ofNat]; omega
    have eb : (BitVec.ofNat 32 b).toInt = b := by
      rw [BitVec.toInt_eq_toNat_of_lt (by simp only [BitVec.toNat_ofNat]; omega)]; simp only [BitVec.toNat_ofNat]; omega
    rw [BitVec.slt, ea, eb]; simp
  rw [e]
  by_cases h : a < b
  · rw [if_pos h, decide_eq_true h]; rfl
  · rw [if_neg h, decide_eq_false h]; rfl

theorem select_bit (P : Prop) [Decidable P] (a b : ℝ) :
    Scalar.select (if P then 1#1 else 0#1) ((a : ℝ) : EReal) ((b : ℝ) : EReal) = ((if P then a else b : ℝ) : EReal) := by
  by_cases h : P
  · rw [if_pos h, if_pos h]; rfl
  · rw [if_neg h, if_neg h]; rfl

/-! ### The identities of the softplus -/

theorem sp_neg (z : ℝ) : sp (-z) = sp z - z := by
  unfold sp
  have e : 1 + Real.exp z = Real.exp z * (1 + Real.exp (-z)) := by
    rw [mul_add, ← Real.exp_add]; simp; ring
  rw [e, Real.log_mul (Real.exp_pos _).ne' (by positivity), Real.log_exp]
  ring

theorem exp_sub_sp (z : ℝ) : Real.exp (z - sp z) = 1 - Real.exp (-(sp z)) := by
  have hp : (0 : ℝ) < 1 + Real.exp z := by positivity
  have e : Real.exp (-(sp z)) = (1 + Real.exp z)⁻¹ := by
    unfold sp; rw [Real.exp_neg, Real.exp_log hp]
  rw [sub_eq_add_neg, Real.exp_add, e]
  field_simp
  ring

theorem exp_neg_sub_sp (z : ℝ) : Real.exp (-z - sp (-z)) = Real.exp (-(sp z)) := by
  rw [sp_neg]; congr 1; ring

variable (x : In)

/-- The weight's logarithm as the reference takes it: the key's share and what the keys after it leave. -/
theorem Aw_eq (h s t : ℕ) : Aw x h s t = if t < s then Real.exp (-(sp (-(Z x h s t))) + (Suf x h s t - Lg x h s t)) else 0 := by
  unfold Aw
  by_cases hst : t < s
  · rw [if_pos hst, if_pos hst, Lg, if_pos hst, sp_neg]; congr 1; ring
  · rw [if_neg hst, if_neg hst]

/-- The score's gradient as the reference takes it: through the key's share, and through what it leaves. -/
theorem DZ_eq (h s t : ℕ) : DZ x h s t = -(-(Gr x h s t) * Real.exp (-(Z x h s t) - sp (-(Z x h s t))))
    + -(-(-(if t < s then -(Gr x h s t) + Pin x h s t else 0) * Real.exp (Z x h s t - sp (Z x h s t)))) := by
  rw [exp_neg_sub_sp, exp_sub_sp]
  by_cases hst : t < s
  · rw [DZ, if_pos hst, if_pos hst]; ring
  · rw [DZ, if_neg hst, if_neg hst, Gr_eq_zero x h s t hst]; ring

end Cert.Stick
-- ==== Proof.Value.Cumsum.lean ====
/-
  Running sums of real numbers along the last axis of a three-axis array, from the left and from the right.
-/
module

public import proofs.«01_k».proof.Proof.Value.Vec
public import Idealize.ShloMosaic.Lib.Pipeline.Value
public import Idealize.ShloMosaic.PureOps.Ideal.Laws

@[expose] public section

set_option maxRecDepth 16384

noncomputable section

open Finset

namespace Cert.Stick

open Idealize.ShloMosaic

/-- A left fold by addition is the sum of what it adds. -/
theorem foldl_add {ι : Type*} (g : ι → EReal) (l : List ι) (v : EReal) :
    l.foldl (fun r n => r + g n) v = v + (l.map g).sum := by
  induction l generalizing v with
  | nil => simp
  | cons a l ih => rw [List.foldl_cons, ih, List.map_cons, List.sum_cons, add_assoc]

theorem win_numel (C : ℕ) : (⟨3, ![1, 1, C]⟩ : Shape).numel = C := by
  simp [Shape.numel, Fin.prod_univ_three]

/-- Position `n` of a window that is one row is its column `n`. -/
theorem win_symm (C : ℕ) (n : Fin (⟨3, ![1, 1, C]⟩ : Shape).numel) :
    ((⟨3, ![1, 1, C]⟩ : Shape).rowMajor.symm n 0).val = 0 ∧ ((⟨3, ![1, 1, C]⟩ : Shape).rowMajor.symm n 1).val = 0
      ∧ ((⟨3, ![1, 1, C]⟩ : Shape).rowMajor.symm n 2).val = n.val := by
  have h0 : ((⟨3, ![1, 1, C]⟩ : Shape).rowMajor.symm n 0).val < 1 := ((⟨3, ![1, 1, C]⟩ : Shape).rowMajor.symm n 0).isLt
  have h1 : ((⟨3, ![1, 1, C]⟩ : Shape).rowMajor.symm n 1).val < 1 := ((⟨3, ![1, 1, C]⟩ : Shape).rowMajor.symm n 1).isLt
  have e := congrArg Fin.val (Equiv.apply_symm_apply (⟨3, ![1, 1, C]⟩ : Shape).rowMajor n)
  rw [Shape.rowMajor_val_three] at e
  have e0 : ((⟨3, ![1, 1, C]⟩ : Shape).rowMajor.symm n 0).val = 0 := by omega
  have e1 : ((⟨3, ![1, 1, C]⟩ : Shape).rowMajor.symm n 1).val = 0 := by omega
  rw [e0, e1] at e
  refine ⟨e0, e1, ?_⟩
  simpa using e

/-- The fold over the window of one row, where each position holds a real number. -/
theorem win_sum (C : ℕ) (g : Fin (⟨3, ![1, 1, C]⟩ : Shape).numel → EReal) (f : ℕ → ℝ) (hg : ∀ n, g n = ((f n.val : ℝ) : EReal)) :
    (List.finRange (⟨3, ![1, 1, C]⟩ : Shape).numel).foldl (fun r n => r + g n) 0 = ((∑ j ∈ range C, f j : ℝ) : EReal) := by
  rw [foldl_add, zero_add, ← Fin.sum_univ_def, Finset.sum_congr rfl (fun n _ => hg n), coe_sum_fin, win_numel]

variable {A B C : ℕ}

/-- The running sum from the right. -/
theorem cumsum_rev (x : (⟨3, ![A, B, C]⟩ : Shape).Idx → EReal) (f : ℕ → ℕ → ℕ → ℝ)
    (hx : ∀ i, x i = ((f (i 0).val (i 1).val (i 2).val : ℝ) : EReal)) {D : ℕ}
    (init : (⟨0, ![]⟩ : Shape).Idx → EReal) (hi : ∀ i, init i = 0)
    (h : (⟨3, ![A, B, C]⟩ : Shape).ReduceWindows (![1, 1, C] : Fin 3 → Nat) ![1, 1, 1] ![0, 0, 0] ![0, 0, D] ⟨3, ![A, B, C]⟩)
    (hu : 0 < (⟨0, ![]⟩ : Shape).numel) (i : (⟨3, ![A, B, C]⟩ : Shape).Idx) :
    (Host.reduceWindowAdd (F := Ideal) (φ := .f32) ![1, 1, C] ![1, 1, 1] ![0, 0, 0] ![0, 0, D] x init h hu : _ → EReal) i
      = ((∑ j ∈ Ico (i 2).val C, f (i 0).val (i 1).val j : ℝ) : EReal) := by
  have h0 : (i 0).val < A := (i 0).isLt
  have h1 : (i 1).val < B := (i 1).isLt
  have h2 : (i 2).val < C := (i 2).isLt
  unfold Host.reduceWindowAdd
  rw [hi, Ideal.hostReduceWindowAdd_def]
  unfold Ideal.hostReduceWindowAdd Host.reduceWindow
  refine (win_sum C _ (fun n => if (i 2).val + n < C then f (i 0).val (i 1).val ((i 2).val + n) else 0) fun n => ?_).trans ?_
  · obtain ⟨w0, w1, w2⟩ := win_symm C n
    have p0 : (i 0).val * 1 + ((⟨3, ![1, 1, C]⟩ : Shape).rowMajor.symm n 0).val - 0 = (i 0).val := by rw [w0]; omega
    have p1 : (i 1).val * 1 + ((⟨3, ![1, 1, C]⟩ : Shape).rowMajor.symm n 1).val - 0 = (i 1).val := by rw [w1]; omega
    have p2 : (i 2).val * 1 + ((⟨3, ![1, 1, C]⟩ : Shape).rowMajor.symm n 2).val - 0 = (i 2).val + n.val := by rw [w2]; omega
    dsimp only
    split
    · next hin =>
      have q : (i 2).val * 1 + ((⟨3, ![1, 1, C]⟩ : Shape).rowMajor.symm n 2).val - 0 < C := (hin 2).2
      rw [p2] at q
      rw [if_pos q]
      refine (hx _).trans ?_
      exact congrArg (fun r : ℝ => (r : EReal)) (congr (congr (congrArg f p0) p1) p2)
    · next hin =>
      rw [if_neg fun hle => hin fun a => ?_]
      · rfl
      · match a with
        | ⟨0, _⟩ => exact ⟨Nat.zero_le _, lt_of_eq_of_lt p0 h0⟩
        | ⟨1, _⟩ => exact ⟨Nat.zero_le _, lt_of_eq_of_lt p1 h1⟩
        | ⟨2, _⟩ => exact ⟨Nat.zero_le _, lt_of_eq_of_lt p2 hle⟩
  · congr 1
    rw [← Finset.sum_filter]
    refine Finset.sum_nbij' (fun n => (i 2).val + n) (fun j => j - (i 2).val) ?_ ?_ ?_ ?_ ?_
    · intro k hk; simp only [mem_filter, mem_range, mem_Ico] at hk ⊢; omega
    · intro k hk; simp only [mem_filter, mem_range, mem_Ico] at hk ⊢; omega
    · intro k hk; simp
    · intro k hk; simp only [mem_Ico] at hk ⊢; omega
    · intro k hk; rfl

/-- The running sum from the left. -/
theorem cumsum_fwd (x : (⟨3, ![A, B, C]⟩ : Shape).Idx → EReal) (f : ℕ → ℕ → ℕ → ℝ)
    (hx : ∀ i, x i = ((f (i 0).val (i 1).val (i 2).val : ℝ) : EReal)) {D : ℕ} (hD : D + 1 = C)
    (init : (⟨0, ![]⟩ : Shape).Idx → EReal) (hi : ∀ i, init i = 0)
    (h : (⟨3, ![A, B, C]⟩ : Shape).ReduceWindows (![1, 1, C] : Fin 3 → Nat) ![1, 1, 1] ![0, 0, D] ![0, 0, 0] ⟨3, ![A, B, C]⟩)
    (hu : 0 < (⟨0, ![]⟩ : Shape).numel) (i : (⟨3, ![A, B, C]⟩ : Shape).Idx) :
    (Host.reduceWindowAdd (F := Ideal) (φ := .f32) ![1, 1, C] ![1, 1, 1] ![0, 0, D] ![0, 0, 0] x init h hu : _ → EReal) i
      = ((∑ j ∈ range ((i 2).val + 1), f (i 0).val (i 1).val j : ℝ) : EReal) := by
  have h0 : (i 0).val < A := (i 0).isLt
  have h1 : (i 1).val < B := (i 1).isLt
  have h2 : (i 2).val < C := (i 2).isLt
  unfold Host.reduceWindowAdd
  rw [hi, Ideal.hostReduceWindowAdd_def]
  unfold Ideal.hostReduceWindowAdd Host.reduceWindow
  refine (win_sum C _ (fun n => if D ≤ (i 2).val + n then f (i 0).val (i 1).val ((i 2).val + n - D) else 0) fun n => ?_).trans ?_
  · obtain ⟨w0, w1, w2⟩ := win_symm C n
    have hn : n.val < C := lt_of_lt_of_eq n.isLt (win_numel C)
    have p0 : (i 0).val * 1 + ((⟨3, ![1, 1, C]⟩ : Shape).rowMajor.symm n 0).val - 0 = (i 0).val := by rw [w0]; omega
    have p1 : (i 1).val * 1 + ((⟨3, ![1, 1, C]⟩ : Shape).rowMajor.symm n 1).val - 0 = (i 1).val := by rw [w1]; omega
    have p2 : (i 2).val * 1 + ((⟨3, ![1, 1, C]⟩ : Shape).rowMajor.symm n 2).val = (i 2).val + n.val := by rw [w2]; omega
    dsimp only
    split
    · next hin =>
      have q : D ≤ (i 2).val * 1 + ((⟨3, ![1, 1, C]⟩ : Shape).rowMajor.symm n 2).val := (hin 2).1
      rw [p2] at q
      rw [if_pos q]
      refine (hx _).trans ?_
      exact congrArg (fun r : ℝ => (r : EReal)) (congr (congr (congrArg f p0) p1) (congrArg (· - D) p2))
    · next hin =>
      rw [if_neg fun hle => hin fun a => ?_]
      · rfl
      · match a with
        | ⟨0, _⟩ => exact ⟨Nat.zero_le _, lt_of_eq_of_lt p0 h0⟩
        | ⟨1, _⟩ => exact ⟨Nat.zero_le _, lt_of_eq_of_lt p1 h1⟩
        | ⟨2, _⟩ => exact ⟨le_of_le_of_eq hle p2.symm, lt_of_eq_of_lt (congrArg (· - D) p2) (show (i 2).val + n.val - D < C by omega)⟩
  · congr 1
    rw [← Finset.sum_filter]
    refine Finset.sum_nbij' (fun n => (i 2).val + n - D) (fun j => j + D - (i 2).val) ?_ ?_ ?_ ?_ ?_
    · intro k hk; simp only [mem_filter, mem_range] at hk ⊢; omega
    · intro k hk; simp only [mem_filter, mem_range] at hk ⊢; omega
    · intro k hk; simp only [mem_filter, mem_range] at hk ⊢; omega
    · intro k hk; simp only [mem_range] at hk ⊢; omega
    · intro k hk; rfl

end Cert.Stick
-- ==== Proof.Value.Ref.lean ====
/-
  The reference's three results over the real numbers: each of its arrays, in program order, holds the number the
  gradient's formula names, where its four arguments hold real numbers.
-/
module

public import proofs.«01_k».proof.Proof.Value.Scalars
public import proofs.«01_k».proof.Proof.Value.Cumsum
public import proofs.«01_k».proof.Proof.Gen.ReferenceIdeal.Read

@[expose] public section

set_option maxRecDepth 16384

noncomputable section

open Finset

namespace Cert.ReferenceIdeal.Hand

open Cert.ReferenceIdeal Cert.ReferenceIdeal.Gen Cert.ReferenceIdeal.Read Cert.Stick
open Idealize.ShloMosaic Idealize.ShloMosaic.TcCoe Idealize.SL.Sem

/-- The array holds the real numbers `f`. -/
def A2 (x : (⟨S4096x1024, .f32⟩ : BufTy).Contents (Elt Ideal)) (f : ℕ → ℕ → ℝ) : Prop :=
  ∀ j : S4096x1024.Idx, x j = ((f (j 0).val (j 1).val : ℝ) : EReal)

variable {x0 x1 x2 x3 : (⟨S4096x1024, .f32⟩ : BufTy).Contents (Elt Ideal)} {x : In}

/-- Column `d` of head `h` of row `s`. -/
theorem head_row (s h d : ℕ) (hh : h < 16) (hd : d < 64) : ((s * 16 + h) * 64 + d) / 1024 = s := by omega
theorem head_col (s h d : ℕ) (hh : h < 16) (hd : d < 64) : ((s * 16 + h) * 64 + d) % 1024 = 64 * h + d := by omega

/-- The queries by head. -/
theorem v1_eq {f : ℕ → ℕ → ℝ} (H : A2 x0 f) (i : S16x4096x64.Idx) :
    val_main_v1 (F := Ideal) x0 i = ((f (i 1).val (64 * (i 0).val + (i 2).val) : ℝ) : EReal) := by
  have h0 : (i 0).val < 16 := (i 0).isLt
  have h2 : (i 2).val < 64 := (i 2).isLt
  rw [val_main_v1_apply, val_main_v0_apply, H _]
  show ((f ((((i 1).val * 16 + (i 0).val) * 64 + (i 2).val) / 1024) ((((i 1).val * 16 + (i 0).val) * 64 + (i 2).val) % 1024) : ℝ) : EReal) = _
  rw [head_row _ _ _ h0 h2, head_col _ _ _ h0 h2]

/-- The keys by head. -/
theorem v3_eq {f : ℕ → ℕ → ℝ} (H : A2 x1 f) (i : S16x4096x64.Idx) :
    val_main_v3 (F := Ideal) x1 i = ((f (i 1).val (64 * (i 0).val + (i 2).val) : ℝ) : EReal) := by
  have h0 : (i 0).val < 16 := (i 0).isLt
  have h2 : (i 2).val < 64 := (i 2).isLt
  rw [val_main_v3_apply, val_main_v2_apply, H _]
  show ((f ((((i 1).val * 16 + (i 0).val) * 64 + (i 2).val) / 1024) ((((i 1).val * 16 + (i 0).val) * 64 + (i 2).val) % 1024) : ℝ) : EReal) = _
  rw [head_row _ _ _ h0 h2, head_col _ _ _ h0 h2]

/-- The values by head. -/
theorem v23_eq {f : ℕ → ℕ → ℝ} (H : A2 x2 f) (i : S16x4096x64.Idx) :
    val_main_v23 (F := Ideal) x2 i = ((f (i 1).val (64 * (i 0).val + (i 2).val) : ℝ) : EReal) := by
  have h0 : (i 0).val < 16 := (i 0).isLt
  have h2 : (i 2).val < 64 := (i 2).isLt
  rw [val_main_v23_apply, val_main_v22_apply, H _]
  show ((f ((((i 1).val * 16 + (i 0).val) * 64 + (i 2).val) / 1024) ((((i 1).val * 16 + (i 0).val) * 64 + (i 2).val) % 1024) : ℝ) : EReal) = _
  rw [head_row _ _ _ h0 h2, head_col _ _ _ h0 h2]

/-- The output's gradient by head. -/
theorem v28_eq {f : ℕ → ℕ → ℝ} (H : A2 x3 f) (i : S16x4096x64.Idx) :
    val_main_v28 (F := Ideal) x3 i = ((f (i 1).val (64 * (i 0).val + (i 2).val) : ℝ) : EReal) := by
  have h0 : (i 0).val < 16 := (i 0).isLt
  have h2 : (i 2).val < 64 := (i 2).isLt
  rw [val_main_v28_apply, val_main_v27_apply, H _]
  show ((f ((((i 1).val * 16 + (i 0).val) * 64 + (i 2).val) / 1024) ((((i 1).val * 16 + (i 0).val) * 64 + (i 2).val) % 1024) : ℝ) : EReal) = _
  rw [head_row _ _ _ h0 h2, head_col _ _ _ h0 h2]

/-- The scaled scores. -/
theorem v6_eq (HQ : A2 x0 x.Q) (HK : A2 x1 x.K) (i : S16x4096x4096.Idx) :
    val_main_v6 (F := Ideal) x0 x1 i = ((Z x (i 0).val (i 1).val (i 2).val : ℝ) : EReal) := by
  rw [val_main_v6_apply, val_main_v4_apply, val_main_v5_apply, val_main_cst_apply, eighth_bits]
  simp only [v1_eq HQ, v3_eq HK, ← EReal.coe_mul]
  show (∑ k : Fin 64, ((x.Q (i 1).val (64 * (i 0).val + k.val) * x.K (i 2).val (64 * (i 0).val + k.val) : ℝ) : EReal)) * ((1 / 8 : ℝ) : EReal) = _
  rw [coe_sum_fin (fun d => x.Q (i 1).val (64 * (i 0).val + d) * x.K (i 2).val (64 * (i 0).val + d)), ← EReal.coe_mul]
  congr 1
  unfold Z
  rw [Finset.sum_mul]
  exact Finset.sum_congr rfl fun d _ => by ring

/-- The mask: the key is before the query. -/
theorem v12_eq (i : S4096x4096.Idx) : val_main_v12 (F := Ideal) i = if (i 1).val < (i 0).val then 1#1 else 0#1 := by
  have h0 : (i 0).val < 4096 := (i 0).isLt
  have h1 : (i 1).val < 4096 := (i 1).isLt
  rw [val_main_v12_apply, val_main_v10_apply, val_main_v11_apply, val_main_v8_apply, val_main_v9_apply, val_main_v7_apply, val_main_v7_apply]
  exact slt_bit _ _ h1 h0

theorem v15_1_eq (i : S16x4096x4096.Idx) : val_main_v15_1 (F := Ideal) i = if (i 2).val < (i 1).val then 1#1 else 0#1 := by
  rw [val_main_v15_1_apply, v12_eq]

theorem v21_1_eq (i : S16x4096x4096.Idx) : val_main_v21_1 (F := Ideal) i = if (i 2).val < (i 1).val then 1#1 else 0#1 := by
  rw [val_main_v21_1_apply, v12_eq]

/-- The argument of the first softplus. -/
theorem call0_v0_eq (HQ : A2 x0 x.Q) (HK : A2 x1 x.K) (i : S16x4096x4096.Idx) :
    val_main_call0_v0 (F := Ideal) x0 x1 i = ((Z x (i 0).val (i 1).val (i 2).val : ℝ) : EReal) := by
  rw [val_main_call0_v0_apply, val_main_v13_apply, v6_eq HQ HK]
  show -(-((Z x (i 0).val (i 1).val (i 2).val : ℝ) : EReal)) = _
  rw [neg_neg]

/-- The argument of the second softplus. -/
theorem call3_v0_eq (HQ : A2 x0 x.Q) (HK : A2 x1 x.K) (i : S16x4096x4096.Idx) :
    val_main_call3_v0 (F := Ideal) x0 x1 i = ((-(Z x (i 0).val (i 1).val (i 2).val) : ℝ) : EReal) := by
  rw [val_main_call3_v0_apply, v6_eq HQ HK]
  exact (EReal.coe_neg _).symm

/-- The softplus. -/
theorem call0_v1_0_eq (HQ : A2 x0 x.Q) (HK : A2 x1 x.K) (i : S16x4096x4096.Idx) :
    val_main_call0_v1_0 (F := Ideal) x0 x1 i = ((sp (Z x (i 0).val (i 1).val (i 2).val) : ℝ) : EReal) := by
  rw [val_main_call0_v1_0_apply, val_main_call0_call0_v4_apply, val_main_call0_call0_v6_apply, val_main_call0_call0_v11_apply, val_main_call0_call0_v10_apply, val_main_call0_call0_v9_apply, val_main_call0_call0_v8_apply, val_main_call0_call0_v7_apply, val_main_call0_call0_v3_apply, val_main_call0_call0_v1_apply,
    val_main_call0_call0_v0_apply, val_main_call0_call0_v2_apply, val_main_call0_call0_v5_apply, val_main_call0_call0_cst_apply, call0_v0_eq HQ HK]
  exact softplus_coe _

/-- The softplus's derivative. -/
theorem v14_1_eq (HQ : A2 x0 x.Q) (HK : A2 x1 x.K) (i : S16x4096x4096.Idx) :
    val_main_v14_1 (F := Ideal) x0 x1 i = ((Real.exp ((Z x (i 0).val (i 1).val (i 2).val) - sp (Z x (i 0).val (i 1).val (i 2).val)) : ℝ) : EReal) := by
  rw [val_main_v14_1_apply, val_main_call0_call0_v21_apply, val_main_call0_call0_v16_apply, val_main_call0_call0_v20_apply, val_main_call0_call0_v14_apply, val_main_call0_call0_v18_apply, val_main_call0_call0_v13_apply, val_main_call0_call0_v15_apply, val_main_call0_call0_v17_apply, val_main_call0_call0_v19_apply,
    val_main_call0_call0_cst_0_apply, val_main_call0_call0_cst_1_apply, val_main_call0_call0_cst_2_apply, val_main_call0_call0_cst_3_apply, call0_v0_eq HQ HK, call0_v1_0_eq HQ HK]
  exact factor_coe _ _

/-- The negated softplus. -/
theorem v14_0_eq (HQ : A2 x0 x.Q) (HK : A2 x1 x.K) (i : S16x4096x4096.Idx) :
    val_main_v14_0 (F := Ideal) x0 x1 i = ((-(sp (Z x (i 0).val (i 1).val (i 2).val)) : ℝ) : EReal) := by
  rw [val_main_v14_0_apply, call0_v1_0_eq HQ HK]
  exact (EReal.coe_neg _).symm

/-- The softplus. -/
theorem call3_v1_0_eq (HQ : A2 x0 x.Q) (HK : A2 x1 x.K) (i : S16x4096x4096.Idx) :
    val_main_call3_v1_0 (F := Ideal) x0 x1 i = ((sp (-(Z x (i 0).val (i 1).val (i 2).val)) : ℝ) : EReal) := by
  rw [val_main_call3_v1_0_apply, val_main_call3_call0_v4_apply, val_main_call3_call0_v6_apply, val_main_call3_call0_v11_apply, val_main_call3_call0_v10_apply, val_main_call3_call0_v9_apply, val_main_call3_call0_v8_apply, val_main_call3_call0_v7_apply, val_main_call3_call0_v3_apply, val_main_call3_call0_v1_apply,
    val_main_call3_call0_v0_apply, val_main_call3_call0_v2_apply, val_main_call3_call0_v5_apply, val_main_call3_call0_cst_apply, call3_v0_eq HQ HK]
  exact softplus_coe _

/-- The softplus's derivative. -/
theorem v17_1_eq (HQ : A2 x0 x.Q) (HK : A2 x1 x.K) (i : S16x4096x4096.Idx) :
    val_main_v17_1 (F := Ideal) x0 x1 i = ((Real.exp ((-(Z x (i 0).val (i 1).val (i 2).val)) - sp (-(Z x (i 0).val (i 1).val (i 2).val))) : ℝ) : EReal) := by
  rw [val_main_v17_1_apply, val_main_call3_call0_v21_apply, val_main_call3_call0_v16_apply, val_main_call3_call0_v20_apply, val_main_call3_call0_v14_apply, val_main_call3_call0_v18_apply, val_main_call3_call0_v13_apply, val_main_call3_call0_v15_apply, val_main_call3_call0_v17_apply, val_main_call3_call0_v19_apply,
    val_main_call3_call0_cst_0_apply, val_main_call3_call0_cst_1_apply, val_main_call3_call0_cst_2_apply, val_main_call3_call0_cst_3_apply, call3_v0_eq HQ HK, call3_v1_0_eq HQ HK]
  exact factor_coe _ _

/-- The negated softplus. -/
theorem v17_0_eq (HQ : A2 x0 x.Q) (HK : A2 x1 x.K) (i : S16x4096x4096.Idx) :
    val_main_v17_0 (F := Ideal) x0 x1 i = ((-(sp (-(Z x (i 0).val (i 1).val (i 2).val))) : ℝ) : EReal) := by
  rw [val_main_v17_0_apply, call3_v1_0_eq HQ HK]
  exact (EReal.coe_neg _).symm

/-- What each key leaves, as a logarithm. -/
theorem v15_0_eq (HQ : A2 x0 x.Q) (HK : A2 x1 x.K) (i : S16x4096x4096.Idx) :
    val_main_v15_0 (F := Ideal) x0 x1 i = ((Lg x (i 0).val (i 1).val (i 2).val : ℝ) : EReal) := by
  rw [val_main_v15_0_apply, v15_1_eq, v14_0_eq HQ HK, val_main_call1_v2_apply, val_main_call1_v0_apply, val_main_cst_0_apply, zero_f32, select_bit]
  rfl

/-- What the keys from each key on leave. -/
theorem v16_eq (HQ : A2 x0 x.Q) (HK : A2 x1 x.K) (i : S16x4096x4096.Idx) :
    val_main_v16 (F := Ideal) x0 x1 i = ((Suf x (i 0).val (i 1).val (i 2).val : ℝ) : EReal) := by
  exact cumsum_rev (A := 16) (B := 4096) (C := 4096) (val_main_v15_0 (F := Ideal) x0 x1) (fun h s t => Lg x h s t) (v15_0_eq HQ HK) (val_main_call2_v0 (F := Ideal))
    (fun j => by rw [val_main_call2_v0_apply, val_main_call2_cst_apply, zero_f32]; rfl) _ h_S_ i

/-- The weights before the mask. -/
theorem v20_eq (HQ : A2 x0 x.Q) (HK : A2 x1 x.K) (i : S16x4096x4096.Idx) :
    val_main_v20 (F := Ideal) x0 x1 i = ((Real.exp (-(sp (-(Z x (i 0).val (i 1).val (i 2).val))) + (Suf x (i 0).val (i 1).val (i 2).val - Lg x (i 0).val (i 1).val (i 2).val)) : ℝ) : EReal) := by
  rw [val_main_v20_apply, val_main_v19_apply, val_main_v18_apply, v17_0_eq HQ HK, v16_eq HQ HK, v15_0_eq HQ HK]
  rfl

/-- The weights. -/
theorem v21_0_eq (HQ : A2 x0 x.Q) (HK : A2 x1 x.K) (i : S16x4096x4096.Idx) :
    val_main_v21_0 (F := Ideal) x0 x1 i = ((Aw x (i 0).val (i 1).val (i 2).val : ℝ) : EReal) := by
  rw [val_main_v21_0_apply, v21_1_eq, v20_eq HQ HK, val_main_call4_v2_apply, val_main_call4_v0_apply, val_main_cst_1_apply, zero_f32, select_bit, Aw_eq]

/-- The weights' gradient. -/
theorem v31_eq (HV : A2 x2 x.V) (HD : A2 x3 x.D) (i : S16x4096x4096.Idx) :
    val_main_v31 (F := Ideal) x2 x3 i = ((DA x (i 0).val (i 1).val (i 2).val : ℝ) : EReal) := by
  rw [val_main_v31_apply]
  simp only [v28_eq HD, v23_eq HV, ← EReal.coe_mul]
  show (∑ k : Fin 64, ((x.D (i 1).val (64 * (i 0).val + k.val) * x.V (i 2).val (64 * (i 0).val + k.val) : ℝ) : EReal)) = _
  rw [coe_sum_fin (fun d => x.D (i 1).val (64 * (i 0).val + d) * x.V (i 2).val (64 * (i 0).val + d))]
  rfl

/-- The gradient of the weights' logarithms. -/
theorem v35_eq (HQ : A2 x0 x.Q) (HK : A2 x1 x.K) (HV : A2 x2 x.V) (HD : A2 x3 x.D) (i : S16x4096x4096.Idx) :
    val_main_v35 (F := Ideal) x0 x1 x2 x3 i = ((Gr x (i 0).val (i 1).val (i 2).val : ℝ) : EReal) := by
  rw [val_main_v35_apply, val_main_v34_apply, v21_1_eq, v31_eq HV HD, v20_eq HQ HK, val_main_call5_v0_apply, val_main_call5_cst_apply, zero_f32, select_bit]
  refine (EReal.coe_mul _ _).symm.trans (congrArg (fun r : ℝ => (r : EReal)) ?_)
  rw [Gr, Aw_eq]
  by_cases h : (i 2).val < (i 1).val
  · rw [if_pos h, if_pos h]
  · rw [if_neg h, if_neg h, zero_mul, mul_zero]

/-- Its running sums. -/
theorem v38_eq (HQ : A2 x0 x.Q) (HK : A2 x1 x.K) (HV : A2 x2 x.V) (HD : A2 x3 x.D) (i : S16x4096x4096.Idx) :
    val_main_v38 (F := Ideal) x0 x1 x2 x3 i = ((Pin x (i 0).val (i 1).val (i 2).val : ℝ) : EReal) := by
  exact cumsum_fwd (A := 16) (B := 4096) (C := 4096) (val_main_v35 (F := Ideal) x0 x1 x2 x3) (fun h s t => Gr x h s t) (v35_eq HQ HK HV HD) rfl (val_main_call7_v0 (F := Ideal))
    (fun j => by rw [val_main_call7_v0_apply, val_main_call7_cst_apply, zero_f32]; rfl) _ h_S_ i

/-- What reaches each key through what it leaves. -/
theorem v40_eq (HQ : A2 x0 x.Q) (HK : A2 x1 x.K) (HV : A2 x2 x.V) (HD : A2 x3 x.D) (i : S16x4096x4096.Idx) :
    val_main_v40 (F := Ideal) x0 x1 x2 x3 i = ((if (i 2).val < (i 1).val then -(Gr x (i 0).val (i 1).val (i 2).val) + Pin x (i 0).val (i 1).val (i 2).val else 0 : ℝ) : EReal) := by
  rw [val_main_v40_apply, v15_1_eq, val_main_v39_apply, val_main_v36_apply, v35_eq HQ HK HV HD, v38_eq HQ HK HV HD, val_main_call8_v0_apply, val_main_call8_cst_apply, zero_f32]
  exact select_bit _ (-(Gr x (i 0).val (i 1).val (i 2).val) + Pin x (i 0).val (i 1).val (i 2).val) 0

/-- The scores' gradient, scaled. -/
theorem v45_eq (HQ : A2 x0 x.Q) (HK : A2 x1 x.K) (HV : A2 x2 x.V) (HD : A2 x3 x.D) (i : S16x4096x4096.Idx) :
    val_main_v45 (F := Ideal) x0 x1 x2 x3 i = ((DZ x (i 0).val (i 1).val (i 2).val * (1 / 8) : ℝ) : EReal) := by
  rw [val_main_v45_apply, val_main_v43_apply, val_main_v37_apply, val_main_call6_v1_apply, val_main_call6_v0_apply, val_main_v42_apply, val_main_v41_apply,
    val_main_call9_v1_apply, val_main_call9_v0_apply, v35_eq HQ HK HV HD, v40_eq HQ HK HV HD, v17_1_eq HQ HK, v14_1_eq HQ HK, val_main_v44_apply, val_main_cst_2_apply, eighth_bits, DZ_eq]
  rfl

/-- The keys' gradient by head. -/
theorem v46_eq (HQ : A2 x0 x.Q) (HK : A2 x1 x.K) (HV : A2 x2 x.V) (HD : A2 x3 x.D) (i : S16x4096x64.Idx) :
    val_main_v46 (F := Ideal) x0 x1 x2 x3 i = ((∑ k ∈ range 4096, DZ x (i 0).val k (i 1).val * (1 / 8) * x.Q k (64 * (i 0).val + (i 2).val) : ℝ) : EReal) := by
  rw [val_main_v46_apply]
  simp only [v45_eq HQ HK HV HD, v1_eq HQ, ← EReal.coe_mul]
  exact coe_sum_fin (fun k => DZ x (i 0).val k (i 1).val * (1 / 8) * x.Q k (64 * (i 0).val + (i 2).val))

/-- The queries' gradient by head. -/
theorem v47_eq (HQ : A2 x0 x.Q) (HK : A2 x1 x.K) (HV : A2 x2 x.V) (HD : A2 x3 x.D) (i : S16x4096x64.Idx) :
    val_main_v47 (F := Ideal) x0 x1 x2 x3 i = ((∑ k ∈ range 4096, DZ x (i 0).val (i 1).val k * (1 / 8) * x.K k (64 * (i 0).val + (i 2).val) : ℝ) : EReal) := by
  rw [val_main_v47_apply]
  simp only [v45_eq HQ HK HV HD, v3_eq HK, ← EReal.coe_mul]
  exact coe_sum_fin (fun k => DZ x (i 0).val (i 1).val k * (1 / 8) * x.K k (64 * (i 0).val + (i 2).val))

/-- The values' gradient by head. -/
theorem v29_eq (HQ : A2 x0 x.Q) (HK : A2 x1 x.K) (HD : A2 x3 x.D) (i : S16x64x4096.Idx) :
    val_main_v29 (F := Ideal) x0 x1 x3 i = ((∑ k ∈ range 4096, x.D k (64 * (i 0).val + (i 1).val) * Aw x (i 0).val k (i 2).val : ℝ) : EReal) := by
  rw [val_main_v29_apply]
  simp only [v28_eq HD, v21_0_eq HQ HK, ← EReal.coe_mul]
  exact coe_sum_fin (fun k => x.D k (64 * (i 0).val + (i 1).val) * Aw x (i 0).val k (i 2).val)

/-- The first result is the gradient of the queries. -/
theorem v51_eq (HQ : A2 x0 x.Q) (HK : A2 x1 x.K) (HV : A2 x2 x.V) (HD : A2 x3 x.D) (j : S4096x1024.Idx) :
    val_main_v51 (F := Ideal) x0 x1 x2 x3 j = ((DQ x (j 0).val (j 1).val : ℝ) : EReal) := by
  have h0 : (j 0).val < 4096 := (j 0).isLt
  have h1 : (j 1).val < 1024 := (j 1).isLt
  have e0 : ((j 0).val * 1024 + (j 1).val) / 1024 = (j 0).val := by omega
  have e1 : ((j 0).val * 1024 + (j 1).val) / 64 % 16 = (j 1).val / 64 := by omega
  have e2 : 64 * ((j 1).val / 64) + ((j 0).val * 1024 + (j 1).val) % 64 = (j 1).val := by omega
  rw [val_main_v51_apply, val_main_v50_apply, v47_eq HQ HK HV HD]
  congr 1
  show (∑ k ∈ range 4096, DZ x (((j 0).val * 1024 + (j 1).val) / 64 % 16) (((j 0).val * 1024 + (j 1).val) / 1024) k * (1 / 8) * x.K k (64 * (((j 0).val * 1024 + (j 1).val) / 64 % 16) + ((j 0).val * 1024 + (j 1).val) % 64)) = _
  rw [e0, e1, e2, DQ, Finset.sum_div]
  exact Finset.sum_congr rfl fun k _ => by ring

/-- The second result is the gradient of the keys. -/
theorem v49_eq (HQ : A2 x0 x.Q) (HK : A2 x1 x.K) (HV : A2 x2 x.V) (HD : A2 x3 x.D) (j : S4096x1024.Idx) :
    val_main_v49 (F := Ideal) x0 x1 x2 x3 j = ((DKn x 4096 (j 0).val (j 1).val : ℝ) : EReal) := by
  have h0 : (j 0).val < 4096 := (j 0).isLt
  have h1 : (j 1).val < 1024 := (j 1).isLt
  have e0 : ((j 0).val * 1024 + (j 1).val) / 1024 = (j 0).val := by omega
  have e1 : ((j 0).val * 1024 + (j 1).val) / 64 % 16 = (j 1).val / 64 := by omega
  have e2 : 64 * ((j 1).val / 64) + ((j 0).val * 1024 + (j 1).val) % 64 = (j 1).val := by omega
  rw [val_main_v49_apply, val_main_v48_apply, v46_eq HQ HK HV HD]
  congr 1
  show (∑ k ∈ range 4096, DZ x (((j 0).val * 1024 + (j 1).val) / 64 % 16) k (((j 0).val * 1024 + (j 1).val) / 1024) * (1 / 8) * x.Q k (64 * (((j 0).val * 1024 + (j 1).val) / 64 % 16) + ((j 0).val * 1024 + (j 1).val) % 64)) = _
  rw [e0, e1, e2, DKn]
  exact Finset.sum_congr rfl fun k _ => by ring

/-- The third result is the gradient of the values. -/
theorem v33_eq (HQ : A2 x0 x.Q) (HK : A2 x1 x.K) (HD : A2 x3 x.D) (j : S4096x1024.Idx) :
    val_main_v33 (F := Ideal) x0 x1 x3 j = ((DVn x 4096 (j 0).val (j 1).val : ℝ) : EReal) := by
  have h0 : (j 0).val < 4096 := (j 0).isLt
  have h1 : (j 1).val < 1024 := (j 1).isLt
  have e0 : ((j 0).val * 1024 + (j 1).val) / 1024 = (j 0).val := by omega
  have e1 : ((j 0).val * 1024 + (j 1).val) / 64 % 16 = (j 1).val / 64 := by omega
  have e2 : 64 * ((j 1).val / 64) + ((j 0).val * 1024 + (j 1).val) % 64 = (j 1).val := by omega
  rw [val_main_v33_apply, val_main_v32_apply, val_main_v30_apply, v29_eq HQ HK HD]
  congr 1
  show (∑ k ∈ range 4096, x.D k (64 * (((j 0).val * 1024 + (j 1).val) / 64 % 16) + ((j 0).val * 1024 + (j 1).val) % 64) * Aw x (((j 0).val * 1024 + (j 1).val) / 64 % 16) k (((j 0).val * 1024 + (j 1).val) / 1024)) = _
  rw [e0, e1, e2, DVn]
  exact Finset.sum_congr rfl fun k _ => by ring

end Cert.ReferenceIdeal.Hand
-- ==== Proof.Value.Host.lean ====
/-
  What the host hands to the launch: the scaled queries, the keys and the values as they are, and, for every query, the
  logarithms of what is left of its stick at each block of keys, all as real numbers where the arguments hold real numbers.
-/
module

public import proofs.«01_k».proof.Proof.Value.Launch
public import proofs.«01_k».proof.Proof.Value.Ref

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.StableHlo
open Finset Cert.Stick

variable (m : (ℓ : Loc nD τ sig) → Buf (Elt Ideal) ℓ)

theorem V_v21 (c : Dev nD) : (V m c main_v21 : S4096x1024.Idx → EReal) = m ((c : Thread nD τ).loc main_arg1) := by
  simp only [V, hostOps0, hostOps0_1, hostOps0_2, hostOps0_3, hostOps0_4, hostOps0_5, List.flatten_cons, List.flatten_nil, List.append_nil, List.cons_append,
    List.nil_append, TRef.binary, TRef.nullary, TRef.ternary, TRef.unary, TRef.toBuf, TRef.ofBuf, cast_eq]
  after_results_simp <;> rfl

theorem V_v22 (c : Dev nD) : (V m c main_v22 : S4096x1024.Idx → EReal) = m ((c : Thread nD τ).loc main_arg2) := by
  simp only [V, hostOps0, hostOps0_1, hostOps0_2, hostOps0_3, hostOps0_4, hostOps0_5, List.flatten_cons, List.flatten_nil, List.append_nil, List.cons_append,
    List.nil_append, TRef.binary, TRef.nullary, TRef.ternary, TRef.unary, TRef.toBuf, TRef.ofBuf, cast_eq]
  after_results_simp <;> rfl

theorem V_v20 (c : Dev nD) : V m c main_v20
    = truncf (F := Ideal) .bf16 (mulf (m ((c : Thread nD τ).loc main_arg0)) (broadcastInDim S4096x1024 ![] bcast_S_S4096x1024 (constant (F := Ideal) S_ .f32 0x3E000000#32))) bitsLt_bf16_f32 := by
  simp only [V, hostOps0, hostOps0_1, hostOps0_2, hostOps0_3, hostOps0_4, hostOps0_5, List.flatten_cons, List.flatten_nil, List.append_nil, List.cons_append,
    List.nil_append, TRef.binary, TRef.nullary, TRef.ternary, TRef.unary, TRef.toBuf, TRef.ofBuf, cast_eq]
  after_results_simp <;> rfl

set_option maxHeartbeats 4000000 in
/-- The blocks' logarithms are every 256th column of the reference's running sums from the right. -/
theorem V_v17 (c : Dev nD) : V m c main_v17
    = Host.slice S16x4096x16 ![0, 0, 0] ![1, 1, 256] (Cert.ReferenceIdeal.Read.val_main_v16 (F := Ideal) (m ((c : Thread nD τ).loc main_arg0)) (m ((c : Thread nD τ).loc main_arg1)))
        slicesBy_S16x4096x4096_S16x4096x16_0s1_0s1_0s256 := by
  simp only [V, hostOps0, hostOps0_1, hostOps0_2, hostOps0_3, hostOps0_4, hostOps0_5, List.flatten_cons, List.flatten_nil, List.append_nil, List.cons_append,
    List.nil_append, TRef.binary, TRef.nullary, TRef.ternary, TRef.unary, TRef.toBuf, TRef.ofBuf, cast_eq]
  after_results_simp <;> rfl

/-- The real number an array holds at a row and a column, `0` outside it. -/
def real2 (a : S4096x1024.Idx → EReal) (s j : ℕ) : ℝ :=
  if h : s < 4096 ∧ j < 1024 then (a (ix2 ⟨s, h.1⟩ ⟨j, h.2⟩)).toReal else 0

/-- No element of the array is an infinity. -/
def NoInf (a : S4096x1024.Idx → EReal) : Prop := ∀ j, a j ≠ ⊤ ∧ a j ≠ ⊥

/-- An array without infinities holds its real numbers. -/
theorem real2_coe (a : S4096x1024.Idx → EReal) (h : NoInf a) (j : S4096x1024.Idx) :
    a j = ((real2 a (j 0).val (j 1).val : ℝ) : EReal) := by
  have h0 : (j 0).val < 4096 := (j 0).isLt
  have h1 : (j 1).val < 1024 := (j 1).isLt
  have e : ix2 (⟨(j 0).val, h0⟩ : Fin 4096) (⟨(j 1).val, h1⟩ : Fin 1024) = j := (eq_ix2 j).symm
  rw [real2, dif_pos ⟨h0, h1⟩, e, EReal.coe_toReal (h j).1 (h j).2]

/-- The comparison the precondition makes: an element whose absolute value is below the infinity is no infinity. -/
theorem finite_of_bit (a : Ideal .f32) (h : FloatOps.cmpf (F := Ideal) (φ := .f32) .olt (FloatOps.hostAbsf a) (FloatOps.ofBits .f32 0x7F800000#32) = 1#1) :
    (a : EReal) ≠ ⊤ ∧ (a : EReal) ≠ ⊥ := by
  rw [inf_f32] at h
  have h' : BitVec.ofBool (decide (max (a : EReal) (-(a : EReal)) < ⊤)) = 1#1 := h
  have hlt : max (a : EReal) (-(a : EReal)) < ⊤ := by
    by_contra hn
    rw [decide_eq_false hn] at h'
    exact absurd h' (by decide)
  constructor
  · intro e; rw [e] at hlt; simp at hlt
  · intro e; rw [e] at hlt; simp at hlt

/-- The four arrays of one device as real numbers. -/
def inOf (c : Dev nD) : In where
  Q := real2 (m ((c : Thread nD τ).loc main_arg0))
  K := real2 (m ((c : Thread nD τ).loc main_arg1))
  V := real2 (m ((c : Thread nD τ).loc main_arg2))
  D := real2 (m ((c : Thread nD τ).loc main_arg3))

/-- No element of the four arrays is an infinity. -/
structure Finite4 : Prop where
  q : ∀ c : Dev nD, NoInf (m ((c : Thread nD τ).loc main_arg0))
  k : ∀ c : Dev nD, NoInf (m ((c : Thread nD τ).loc main_arg1))
  v : ∀ c : Dev nD, NoInf (m ((c : Thread nD τ).loc main_arg2))
  d : ∀ c : Dev nD, NoInf (m ((c : Thread nD τ).loc main_arg3))

variable {m}

/-- What the launch finds, where the arguments are finite. -/
theorem hostIn (H : Finite4 m) : HostIn m (inOf m) where
  q c a b := by
    refine (congrFun (V_v20 m c) _).trans ?_
    have e := real2_coe _ (H.q c) (ix2 a b)
    show @HMul.hMul EReal EReal EReal _ ((m ((c : Thread nD τ).loc main_arg0) : S4096x1024.Idx → EReal) (ix2 a b)) (broadcastInDim S4096x1024 ![] bcast_S_S4096x1024 (constant (F := Ideal) S_ .f32 0x3E000000#32) (ix2 a b)) = _
    rw [e]
    show _ * Ideal.ofBits .f32 0x3E000000#32 = _
    rw [eighth_f32, ← EReal.coe_mul]
    congr 1
    show real2 (m ((c : Thread nD τ).loc main_arg0)) a.val b.val * (1 / 8) = real2 (m ((c : Thread nD τ).loc main_arg0)) a.val b.val / 8
    ring
  k c a b := (congrFun (V_v21 m c) _).trans (real2_coe _ (H.k c) _)
  v c a b := (congrFun (V_v22 m c) _).trans (real2_coe _ (H.v c) _)
  d c a b := (congrFun (V_main_arg3 m c) _).trans (real2_coe _ (H.d c) _)
  run c h s l := by
    refine (congrFun (V_v17 m c) _).trans ?_
    have hl : 256 * l.val < 4096 := by have := l.isLt; omega
    refine (show _ = Cert.ReferenceIdeal.Read.val_main_v16 (F := Ideal) (m ((c : Thread nD τ).loc main_arg0)) (m ((c : Thread nD τ).loc main_arg1))
      (ix3 h s (⟨256 * l.val, hl⟩ : Fin 4096)) from ?_).trans ?_
    · unfold Host.slice
      congr 1
      funext a
      fin_cases a
      · exact Fin.ext ((Nat.zero_add _).trans (Nat.one_mul _))
      · exact Fin.ext ((Nat.zero_add _).trans (Nat.one_mul _))
      · exact Fin.ext (Nat.zero_add _)
    · exact Cert.ReferenceIdeal.Hand.v16_eq (x := inOf m c) (real2_coe _ (H.q c)) (real2_coe _ (H.k c)) _

end Cert.KernelIdeal.Hand
-- ==== Proof.Value.Algebraic.lean ====
/- The algebraic claim: on finite arrays the kernel's three results and the reference's three results are the same
   extended reals, namely the gradients `DQ`, `DKn` and `DVn` of `Spec`. -/
module

public import proofs.«01_k».proof.Defs
public import proofs.«01_k».proof.Proof.Gen.Pre_finite
public import proofs.«01_k».proof.Proof.Value.Host

@[expose] public section

set_option maxRecDepth 16384

noncomputable section

namespace Cert.KernelIdeal.Hand

open Idealize.ShloMosaic Idealize.SL.Sem Cert.KernelIdeal Cert.KernelIdeal.Gen Cert.Stick

/-- The certificate's precondition says of each of the four arrays that it holds no infinity. -/
theorem finite4_of_pre (m : (ℓ : Loc nD τ sig) → Buf (Elt Ideal) ℓ) (h : Cert.Pre_KernelIdeal_finite m) : Finite4 m where
  q c j := finite_of_bit _ (congrFun (h c).1 j)
  k c j := finite_of_bit _ (congrFun (h c).2.1 j)
  v c j := finite_of_bit _ (congrFun (h c).2.2.1 j)
  d c j := finite_of_bit _ (congrFun (h c).2.2.2 j)

/-- The kernel's and the reference's results are equal on finite arrays, and both leave their arguments as they were. -/
theorem algebraic : Cert.algebraic_KernelIdeal_ReferenceIdeal_pre_finite := by
  intro m g m' g' hp ha
  have H := finite4_of_pre m hp
  refine ⟨rQ (inOf m), rK (inOf m), rV (inOf m), value_run m g (hostIn H), ?_⟩
  refine (θ_run Cert.ReferenceIdeal.defs _ _).mono (fun r h c => ?_) (Cert.ReferenceIdeal.Value.run (F := Ideal) m' g')
  obtain ⟨h0, h1, h2, hr⟩ := h c
  obtain ⟨a0, a1, a2, a3⟩ := ha c
  refine ⟨h0.trans ?_, h1.trans ?_, h2.trans ?_, hr⟩
  · rw [Cert.ReferenceIdeal.Read.val_main_v51_eq, a0, a1, a2, a3]
    funext j
    exact Cert.ReferenceIdeal.Hand.v51_eq (x := inOf m c) (real2_coe _ (H.q c)) (real2_coe _ (H.k c)) (real2_coe _ (H.v c)) (real2_coe _ (H.d c)) j
  · rw [Cert.ReferenceIdeal.Read.val_main_v49_eq, a0, a1, a2, a3]
    funext j
    exact Cert.ReferenceIdeal.Hand.v49_eq (x := inOf m c) (real2_coe _ (H.q c)) (real2_coe _ (H.k c)) (real2_coe _ (H.v c)) (real2_coe _ (H.d c)) j
  · rw [Cert.ReferenceIdeal.Read.val_main_v33_eq, a0, a1, a3]
    funext j
    exact Cert.ReferenceIdeal.Hand.v33_eq (x := inOf m c) (real2_coe _ (H.q c)) (real2_coe _ (H.k c)) (real2_coe _ (H.d c)) j

end Cert.KernelIdeal.Hand
-- ==== Proof.Kernel2Ideal.Words.lean ====
/- The words the kernel's block loop runs on. The start block is the least of `2·i` and two counts, each the number of
   128 flags that are set; so it lies in `[0, 2·i]`, the loop of unmasked blocks has a meaning, every block it names
   lies inside the 4096 rows, and the second copy of the loop runs no trip. -/
module

public import proofs.«01_k».proof.Proof.Gen.Kernel2Ideal.Skeleton
public import Idealize.ShloMosaic.Lib.Affine
public import Idealize.ShloMosaic.Lib.IndicatorCount
public import Idealize.ShloMosaic.PureOps.Reduce

@[expose] public section

noncomputable section

namespace Cert.Kernel2Ideal.Hand

open Cert.Kernel2Ideal Cert.Kernel2Ideal.Gen
open Idealize.ShloMosaic Idealize.ShloMosaic.TcCoe

variable {F : FTy → Type} [FloatOps F] [Named F]

/-- A word that is a count of at most 128 flags, read as an integer, is that count. -/
theorem toInt_count (n : ℕ) (h : n ≤ 128) : (BitVec.ofNat 32 n).toInt = n := by
  rw [BitVec.toInt_ofNat']
  exact Int.bmod_eq_of_le (by omega) (by omega)

/-- The sum of 128 flags is nonnegative. -/
theorem count_nonneg (p : IVec S1x128 1) (hr : S1x1x128.Reduces [1, 2] S1) (hz : 0#32 = IKind.add.neutral) (j : S1.Idx) :
    0 ≤ ((multiReductionI .add [1, 2] S1 (shapeCast S1x1x128 (extui 32 p natLt_1_32) shapeCasts_S1x128_S1x1x128) 0#32 hr hz) j).toInt := by
  rw [multiReductionI_eq_fold]
  rw [show (shapeCast S1x1x128 (extui 32 p natLt_1_32) shapeCasts_S1x128_S1x1x128)
      = fun k => ((shapeCast S1x1x128 p shapeCasts_S1x128_S1x1x128) k).setWidth 32 from rfl]
  have e := IndicatorCount.fold_addi_setWidth_eq_card (w := 32) (shapeCast S1x1x128 p shapeCasts_S1x128_S1x1x128) (Finset.univ.filter fun i => hr.drop i = j)
  refine (congrArg BitVec.toInt e).symm ▸ ?_
  have hc : ∀ f : Finset S1x1x128.Idx, f.card ≤ 128 := fun f =>
    (Finset.card_le_univ f).trans (by rw [Shape.card_idx]; decide)
  rw [toInt_count _ (hc _)]
  exact Int.natCast_nonneg _

/-- Head 0's count is nonnegative. -/
theorem head0_nonneg (v19 : IVec S1x128 32) (v21 : BitVec 32) (v40 : Vec F S1x512x128 .f32) (h) :
    0 ≤ (extractAt ![0, 0, 0] (k0_pay62 v19 v21 v40) h).toInt := count_nonneg _ _ rfl _

/-- Head 1's count is nonnegative. -/
theorem head1_nonneg (v19 : IVec S1x128 32) (v21 : BitVec 32) (v68 : FVec F S512x128 .f32) (h) :
    0 ≤ (extractAt ![0, 0, 0] (k0_pay66 v19 v21 v68) h).toInt := count_nonneg _ _ rfl _

/-- The start block of grid point `i` at the two counts, as an integer. -/
def start (i : grid0.Coords) (a b : BitVec 32) : ℤ := min (min (2 * ((i 1).val : ℤ)) a.toInt) b.toInt

/-- The words of the two copies of the loop at nonnegative counts: the trips, the block numbers, the ranges. -/
theorem words (i : grid0.Coords) (a b : BitVec 32) (ha : 0 ≤ a.toInt) (hb : 0 ≤ b.toInt) :
    0 ≤ start i a b ∧ start i a b ≤ 2 * ((i 1).val : ℤ)
    ∧ (k0_t1_loop i a b).OK ∧ (k0_t1_loop i a b).trips = (2 * ((i 1).val : ℤ) - start i a b).toNat
    ∧ (k0_t2_loop i a b).OK ∧ (k0_t2_loop i a b).trips = 0
    ∧ Affine.IsInt (k0_t1_loop i a b).lb (start i a b) := by
  have hi : (i 1).val < 8 := (i 1).isLt
  have h_i : Affine.IsInt (BitVec.ofNat 32 (i 1).val) ((i 1).val : ℤ) := Affine.ofNat _ (by omega)
  have h_1 : Affine.IsInt 1#32 1 := Affine.ofNat _ (by omega)
  have h_2 : Affine.IsInt 2#32 2 := Affine.ofNat _ (by omega)
  have h_a : Affine.IsInt a a.toInt := Affine.word a
  have h_b : Affine.IsInt b b.toInt := Affine.word b
  have h20 : Affine.IsInt _ ((i 1).val + 1 : ℤ) := Affine.addi h_i h_1 (by omega)
  have h21 : Affine.IsInt _ (((i 1).val + 1) * 2 : ℤ) := Affine.muli h20 h_2 (by omega)
  have h30 : Affine.IsInt _ (2 * (i 1).val : ℤ) := Affine.subi h21 h_2 (by omega)
  have h57 : Affine.IsInt _ (min (2 * (i 1).val : ℤ) a.toInt) := Affine.minsi h30 h_a rfl
  have h84 : Affine.IsInt _ (start i a b) := Affine.minsi h57 h_b rfl
  have s0 : 0 ≤ start i a b := by unfold start; omega
  have s1 : start i a b ≤ 2 * (i 1).val := by unfold start; omega
  have h87 : Affine.IsInt _ (2 * (i 1).val : ℤ) := Affine.muli h_i h_2 (by omega)
  have h88 : Affine.IsInt _ (2 * (i 1).val - start i a b : ℤ) := Affine.subi h87 h84 (by omega)
  have h90 : Affine.IsInt _ (2 * (i 1).val - start i a b : ℤ) := Affine.divsi_one h88 h_1 (by omega)
  have h91 : Affine.IsInt _ (2 * (i 1).val - start i a b : ℤ) := Affine.muli h90 h_1 (by omega)
  have h92 : Affine.IsInt _ (2 * (i 1).val : ℤ) := Affine.addi h84 h91 (by omega)
  have h89 : Affine.IsInt _ (2 * (i 1).val : ℤ) := Affine.addi h84 h88 (by omega)
  exact ⟨s0, s1, Affine.ok h84 h92 h_1 (by omega), Affine.trips_eq h84 h92 h_1 _ (by omega),
    Affine.ok h92 h89 h_1 (by omega), Affine.trips_eq h92 h89 h_1 _ (by omega), h84⟩

/-- The first row of the block that trip `k` of the loop works on. -/
theorem row_isInt (i : grid0.Coords) (a b : BitVec 32) (ha : 0 ≤ a.toInt) (hb : 0 ≤ b.toInt) (k : Fin (k0_t1_loop i a b).trips) :
    Affine.IsInt (Scalar.muli (Scf.iv (k0_t1_loop i a b).lb 1#32 k) 256#32) ((start i a b + k.val) * 256 : ℤ) := by
  obtain ⟨s0, s1, -, hT, -, -, h84⟩ := words i a b ha hb
  have hi : (i 1).val < 8 := (i 1).isLt
  have hk : k.val < (2 * ((i 1).val : ℤ) - start i a b).toNat := hT ▸ k.isLt
  have h_1 : Affine.IsInt 1#32 1 := Affine.ofNat _ (by omega)
  have h_256 : Affine.IsInt 256#32 256 := Affine.ofNat _ (by omega)
  have hiv : Affine.IsInt _ (start i a b + k.val : ℤ) := Affine.iv h84 h_1 k.val (by omega)
  exact Affine.muli hiv h_256 (by omega)

/-- Where trip `k` reads and writes in head 0's columns. -/
theorem off1_eq (i : grid0.Coords) (a b : BitVec 32) (ha : 0 ≤ a.toInt) (hb : 0 ≤ b.toInt) (k : Fin (k0_t1_loop i a b).trips) :
    k0_off1 i a b k = ![((start i a b).toNat + k.val) * 256, 0] := by
  have s0 := (words i a b ha hb).1
  have e : (Scalar.indexCast (Scalar.muli (Scf.iv (k0_t1_loop i a b).lb 1#32 k) 256#32)).toNat = ((start i a b).toNat + k.val) * 256 :=
    Affine.nat_eq (Affine.indexCast (row_isInt i a b ha hb k)) _ (by push_cast; omega)
  exact congrArg (fun n => ![n, 0]) e

/-- Where trip `k` reads and writes in head 1's columns. -/
theorem off2_eq (i : grid0.Coords) (a b : BitVec 32) (ha : 0 ≤ a.toInt) (hb : 0 ≤ b.toInt) (k : Fin (k0_t1_loop i a b).trips) :
    k0_off2 i a b k = ![((start i a b).toNat + k.val) * 256, 64] := by
  have s0 := (words i a b ha hb).1
  have e : (Scalar.indexCast (Scalar.muli (Scf.iv (k0_t1_loop i a b).lb 1#32 k) 256#32)).toNat = ((start i a b).toNat + k.val) * 256 :=
    Affine.nat_eq (Affine.indexCast (row_isInt i a b ha hb k)) _ (by push_cast; omega)
  exact congrArg (fun n => ![n, 64]) e

/-- The assumed side condition holds whenever the two counts are nonnegative. -/
theorem chk (i : grid0.Coords) (a b : BitVec 32) (ha : 0 ≤ a.toInt) (hb : 0 ≤ b.toInt) : k0_chk1 i a b := by
  obtain ⟨s0, s1, ok1, hT, ok2, hT2, -⟩ := words i a b ha hb
  have hi : (i 1).val < 8 := (i 1).isLt
  have hk : ∀ k : Fin (k0_t1_loop i a b).trips, ((start i a b).toNat + k.val) * 256 + 256 ≤ 4096 := fun k => by
    have : k.val < (2 * ((i 1).val : ℤ) - start i a b).toNat := hT ▸ k.isLt
    omega
  refine ⟨ok1, fun k => ?_, fun k => ?_, fun k => ?_, ok2,
    fun k => absurd k.isLt (by omega), fun k => absurd k.isLt (by omega), fun k => absurd k.isLt (by omega)⟩
  · exact Affine.dvd_of (row_isInt i a b ha hb k) _ ⟨Dvd.intro_left _ rfl, by omega⟩
  · rw [off1_eq i a b ha hb k]
    exact Fin.forall_fin_two.2 ⟨hk k, (by decide : (0:ℕ) + 64 ≤ 128)⟩
  · rw [off2_eq i a b ha hb k]
    exact Fin.forall_fin_two.2 ⟨hk k, (by decide : (64:ℕ) + 64 ≤ 128)⟩

end Cert.Kernel2Ideal.Hand

end
-- ==== Proof.Kernel2Ideal.Frame.lean ====
/- The kernel's frame: one grid point's body runs from any contents of the output buffers and of the scratch, and the
   launch runs the body at all 64 points. The three outputs are forgotten here; what they hold is another module's. -/
module

public import proofs.«01_k».proof.Proof.Kernel2Ideal.Words
public import proofs.«01_k».proof.Proof.Gen.Kernel2Ideal.Frame
public import proofs.«01_k».proof.Proof.Gen.Kernel2Ideal.Loops
public import Idealize.ShloMosaic.Lib.Pipeline.Frame
public import Idealize.ShloMosaic.Lib.Tactic

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in
/-- One grid point's body: from its seven input blocks and any contents of the three outputs and of the scratch, it runs
    to its return, the inputs as they were. -/
theorem body_run (c : Dev nD) (i : grid0.Coords) (arg2 : Memref sig .tc .vmem S512x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S512x128 .f32) (harg5 : arg5.IsWhole) (arg6 : Memref sig .tc .vmem S2x512x16 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S512x128 .f32) (harg9 : arg9.IsWhole) (arg10 : Memref sig .tc .vmem S4096x128 .f32) (harg10 : arg10.IsWhole) (arg11 : Memref sig .tc .vmem S4096x128 .f32) (harg11 : arg11.IsWhole) (arg12 : Memref sig .tc .vmem S2x512x128 .f32) (harg12 : arg12.IsWhole)
    (f2 : BufTy.Contents (Elt F) arg2.view.ty) (f3 : BufTy.Contents (Elt F) arg3.view.ty) (f4 : BufTy.Contents (Elt F) arg4.view.ty)
    (f5 : BufTy.Contents (Elt F) arg5.view.ty) (f6 : BufTy.Contents (Elt F) arg6.view.ty) (f7 : BufTy.Contents (Elt F) arg7.view.ty) (f8 : BufTy.Contents (Elt F) arg8.view.ty)
    (f9 : BufTy.Contents (Elt F) arg9.view.ty)
    (f10 : BufTy.Contents (Elt F) arg10.view.ty) (f11 : BufTy.Contents (Elt F) arg11.view.ty) (f12 : BufTy.Contents (Elt F) arg12.view.ty)
    (K : PUnit → sProp 𝕄) :
    iprop((arg2.view.loc (c : Thread nD τ) ↦[arg2.view.set]{fullShare} f2) ∗ (arg3.view.loc (c : Thread nD τ) ↦[arg3.view.set]{fullShare} f3)
        ∗ (arg4.view.loc (c : Thread nD τ) ↦[arg4.view.set]{fullShare} f4) ∗ (arg5.view.loc (c : Thread nD τ) ↦[arg5.view.set]{fullShare} f5)
        ∗ (arg6.view.loc (c : Thread nD τ) ↦[arg6.view.set]{fullShare} f6) ∗ (arg7.view.loc (c : Thread nD τ) ↦[arg7.view.set]{fullShare} f7)
        ∗ (arg8.view.loc (c : Thread nD τ) ↦[arg8.view.set]{fullShare} f8) ∗ (arg9.view.loc (c : Thread nD τ) ↦[arg9.view.set]{fullShare} f9)
        ∗ (arg10.view.loc (c : Thread nD τ) ↦[arg10.view.set]{fullShare} f10) ∗ (arg11.view.loc (c : Thread nD τ) ↦[arg11.view.set]{fullShare} f11)
        ∗ (arg12.view.loc (c : Thread nD τ) ↦[arg12.view.set]{fullShare} f12)
        ∗ (∀ g7 g8 g9 g10, iprop((arg2.view.loc (c : Thread nD τ) ↦[arg2.view.set]{fullShare} f2) ∗ (arg3.view.loc (c : Thread nD τ) ↦[arg3.view.set]{fullShare} f3)
        ∗ (arg4.view.loc (c : Thread nD τ) ↦[arg4.view.set]{fullShare} f4) ∗ (arg5.view.loc (c : Thread nD τ) ↦[arg5.view.set]{fullShare} f5)
        ∗ (arg6.view.loc (c : Thread nD τ) ↦[arg6.view.set]{fullShare} f6) ∗ (arg7.view.loc (c : Thread nD τ) ↦[arg7.view.set]{fullShare} f7)
        ∗ (arg8.view.loc (c : Thread nD τ) ↦[arg8.view.set]{fullShare} f8) ∗ (arg9.view.loc (c : Thread nD τ) ↦[arg9.view.set]{fullShare} g7)
        ∗ (arg10.view.loc (c : Thread nD τ) ↦[arg10.view.set]{fullShare} g8) ∗ (arg11.view.loc (c : Thread nD τ) ↦[arg11.view.set]{fullShare} g9)
        ∗ (arg12.view.loc (c : Thread nD τ) ↦[arg12.view.set]{fullShare} g10)) -∗ K ⟨⟩))
      ⊢ wp frame (wpE (defs₀ (F := F)) Variants.none c none) Set.univ
          (cc0_attn_b_0 i arg2 harg2 arg3 harg3 arg4 harg4 arg5 harg5 arg6 harg6 arg7 harg7 arg8 harg8 arg9 harg9 arg10 harg10 arg11 harg11 arg12 harg12) K := by
  have hchk : ∀ (v19 : IVec S1x128 32) (v21 : BitVec 32) (v40 : Vec F S1x512x128 .f32) (v68 : FVec F S512x128 .f32) (h) (h'),
      k0_chk1 i (extractAt ![0, 0, 0] (k0_pay62 v19 v21 v40) h) (extractAt ![0, 0, 0] (k0_pay66 v19 v21 v68) h') :=
    fun _ _ _ _ _ _ => chk i _ _ (head0_nonneg _ _ _ _) (head1_nonneg _ _ _ _)
  simp only [cc0_attn_b_0_eq_skeleton]; unfold cc0_attn_b_0_skel
  iintro ⟨H2, H3, H4, H5, H6, H7, H8, H9, H10, H11, H12, Hk⟩
  sl_exec (disch := exact hchk _ _ _ _ _ _)
  sl_step
  iapply Hk $$ %_ %_ %_ %_
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-! ## The proof data and the body obligation -/

/-- The three outputs are forgotten: nothing here reads what the kernel leaves in them. -/
def forgets0 : Fin 10 → Bool := ![false, false, false, false, false, false, false, true, true, true]

/-- The proof data on core `c`: each array as the region finds it; the inputs' buffers at their blocks after the body; what
    the body leaves in the outputs unnamed; the scratch at some contents between the points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => Pipeline.Dat.unnamed (cfg := cfg0) 7 t
    | ⟨8, _⟩ => Pipeline.Dat.unnamed (cfg := cfg0) 8 t
    | ⟨9, _⟩ => Pipeline.Dat.unnamed (cfg := cfg0) 9 t
  Φ _ := Pipeline.ΦA spec0 c
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]

/-- The staging buffers as the pipeline passes them to the body at a point. -/
abbrev ms0 (t : Fin cfg0.N) : Memref sig .tc .vmem S512x128 .bf16 := win0_0.stage (cfg0.slots t 0)
abbrev ms1 (t : Fin cfg0.N) : Memref sig .tc .vmem S4096x128 .bf16 := win0_1.stage (cfg0.slots t 1)
abbrev ms2 (t : Fin cfg0.N) : Memref sig .tc .vmem S4096x128 .bf16 := win0_2.stage (cfg0.slots t 2)
abbrev ms3 (t : Fin cfg0.N) : Memref sig .tc .vmem S512x128 .f32 := win0_3.stage (cfg0.slots t 3)
abbrev ms4 (t : Fin cfg0.N) : Memref sig .tc .vmem S2x512x16 .f32 := win0_4.stage (cfg0.slots t 4)
abbrev ms5 (t : Fin cfg0.N) : Memref sig .tc .vmem S4096x128 .f32 := win0_5.stage (cfg0.slots t 5)
abbrev ms6 (t : Fin cfg0.N) : Memref sig .tc .vmem S4096x128 .f32 := win0_6.stage (cfg0.slots t 6)
abbrev ms7 (t : Fin cfg0.N) : Memref sig .tc .vmem S512x128 .f32 := win0_7.stage (cfg0.slots t 7)
abbrev ms8 (t : Fin cfg0.N) : Memref sig .tc .vmem S4096x128 .f32 := win0_8.stage (cfg0.slots t 8)
abbrev ms9 (t : Fin cfg0.N) : Memref sig .tc .vmem S4096x128 .f32 := win0_9.stage (cfg0.slots t 9)
abbrev scM : Memref sig .tc .vmem S2x512x128 .f32 := Memref.whole cc0_scratch0

/-- What is held between the points: the scratch at some contents and the generator register at some state. -/
theorem PhiA0_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- What the body is called with at a point: the inputs' buffers at their blocks, the outputs' at anything. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare d)
    ∗ (∃ d, owns (c : Thread nD τ) (ms8 t) fullShare d)
    ∗ (∃ d, owns (c : Thread nD τ) (ms9 t) fullShare d))
/-- What the body returns at a point. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ (∃ d, owns (c : Thread nD τ) (ms7 t) fullShare d)
    ∗ (∃ d, owns (c : Thread nD τ) (ms8 t) fullShare d)
    ∗ (∃ d, owns (c : Thread nD τ) (ms9 t) fullShare d))

/-- The body at a point, from what the pipeline holds before it to what it holds after. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA0_eq, after_0, after_1, after_2, after_3, after_4, after_5, after_6]
  simp only [before0_0_of m (dats m 0 c) (A_eq m c 0) (after_0 m c), before0_1_of m (dats m 0 c) (A_eq m c 1) (after_1 m c),
    before0_2_of m (dats m 0 c) (A_eq m c 2) (after_2 m c), before0_3_of m (dats m 0 c) (A_eq m c 3) (after_3 m c),
    before0_4_of m (dats m 0 c) (A_eq m c 4) (after_4 m c),
    before0_5_of m (dats m 0 c) (A_eq m c 5) (after_5 m c), before0_6_of m (dats m 0 c) (A_eq m c 6) (after_6 m c)]
  unfold owns
  iintro ⟨⟨⟨%ds, %fs, -, HS⟩, Hg⟩, HO, ⟨%_, %f0, %e0, H0⟩, ⟨%_, %f1, %e1, H1⟩, ⟨%_, %f2, %e2, H2⟩, ⟨%_, %f3, %e3, H3⟩, ⟨%_, %f4, %e4, H4⟩,
    ⟨%_, %f5, %e5, H5⟩, ⟨%_, %f6, %e6, H6⟩, ⟨%_, %f7, -, H7⟩, ⟨%_, %f8, -, H8⟩, ⟨%_, %f9, -, H9⟩⟩
  iapply (body_run c _ _ _ _ _ _ _ _ _ _ _ _ _ _ _ _ _ _ _ _ _ _ _ f0 f1 f2 f3 f4 f5 f6 f7 f8 f9 fs _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS]; · iexact HS
  iintro %g7 %g8 %g9 %g10 ⟨H0, H1, H2, H3, H4, H5, H6, H7, H8, H9, HS⟩
  isplitl [HS Hg]
  · isplitl [HS]
    · iexists _, _; isplitr; swap; · iexact HS
      ipureintro; rfl
    iexact Hg
  isplitl [HO]; · iexact HO
  isplitl [H0]
  · iexists f0; isplitr; swap; · iexact H0
    ipureintro; exact e0
  isplitl [H1]
  · iexists f1; isplitr; swap; · iexact H1
    ipureintro; exact e1
  isplitl [H2]
  · iexists f2; isplitr; swap; · iexact H2
    ipureintro; exact e2
  isplitl [H3]
  · iexists f3; isplitr; swap; · iexact H3
    ipureintro; exact e3
  isplitl [H4]
  · iexists f4; isplitr; swap; · iexact H4
    ipureintro; exact e4
  isplitl [H5]
  · iexists f5; isplitr; swap; · iexact H5
    ipureintro; exact e5
  isplitl [H6]
  · iexists f6; isplitr; swap; · iexact H6
    ipureintro; exact e6
  isplitl [H7]
  · iexists _, _; isplitr; swap; · iexact H7
    ipureintro; rfl
  isplitl [H8]
  · iexists _, _; isplitr; swap; · iexact H8
    ipureintro; rfl
  iexists _, _; isplitr; swap; · iexact H9
  ipureintro; rfl

/-- The body table's row at a point is the body as the pipeline calls it. -/
theorem defs₀_row (t : Fin cfg0.N) : defs₀ (F := F) .tc cfg0.body (cfg0.bodyArgs t (cfg0.slots t)) = bodyAt0 t := by
  unfold defs₀; rw [Defs.onTc_tc]

/-- The body's obligation at every point, the outputs forgotten. -/
theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

/-! ## The launch -/

set_option backward.isDefEq.respectTransparency.types false in
/-- Every execution terminates without a fault, with every semaphore counter at zero and every array the outputs do not
    name as the region found it. -/
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m)
    (hΦ := fun _ _ => rfl)

/-- The frame: every execution terminates, the six arguments end as they were launched, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      (Pipeline.RDat.FramePost.arr_in h.1 c 3 rfl).trans (V_main_arg3 m c),
      (Pipeline.RDat.FramePost.arr_in h.1 c 5 rfl).trans (V_main_arg4 m c),
      (Pipeline.RDat.FramePost.arr_in h.1 c 6 rfl).trans (V_main_arg5 m c)⟩, h.2⟩) (run_main m ρ)

end Cert.Kernel2Ideal.Hand

end
-- ==== Proof.Value2.Run.lean ====
/-
  One grid point's body with what it leaves in the three outputs named.
  Here of the call that is handed two gradients and adds to them.
-/
module

public import proofs.«01_k».proof.Proof.Kernel2Ideal.Words
public import proofs.«01_k».proof.Proof.Gen.Kernel2Ideal.Frame
public import proofs.«01_k».proof.Proof.Gen.Kernel2Ideal.Loops
public import Idealize.ShloMosaic.Lib.Pipeline.Frame
public import Idealize.ShloMosaic.Lib.Tactic

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in
/-- One grid point's body, from its seven input blocks and any contents of the three outputs and of the scratch: what it
    leaves in the three outputs, with the run to its return. -/
def bodyOut (c : Dev nD) (i : grid0.Coords) (arg2 : Memref sig .tc .vmem S512x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S512x128 .f32) (harg5 : arg5.IsWhole) (arg6 : Memref sig .tc .vmem S2x512x16 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S512x128 .f32) (harg9 : arg9.IsWhole) (arg10 : Memref sig .tc .vmem S4096x128 .f32) (harg10 : arg10.IsWhole) (arg11 : Memref sig .tc .vmem S4096x128 .f32) (harg11 : arg11.IsWhole) (arg12 : Memref sig .tc .vmem S2x512x128 .f32) (harg12 : arg12.IsWhole)
    (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) :
    Σ' (g9 : BufTy.Contents (Elt F) arg9.view.ty) (g10 : BufTy.Contents (Elt F) arg10.view.ty) (g11 : BufTy.Contents (Elt F) arg11.view.ty), ∀ K : PUnit → sProp 𝕄,
    iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12)
        ∗ (∀ g12, iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} g9) ∗ (arg10.view.loc (c : Thread nD τ) ↦[arg10.view.set]{fullShare} g10) ∗ (arg11.view.loc (c : Thread nD τ) ↦[arg11.view.set]{fullShare} g11) ∗ (arg12.view.loc (c : Thread nD τ) ↦[arg12.view.set]{fullShare} g12)) -∗ K ⟨⟩))
      ⊢ wp frame (wpE (defs₀ (F := F)) Variants.none c none) Set.univ
          (cc0_attn_b_0 i arg2 harg2 arg3 harg3 arg4 harg4 arg5 harg5 arg6 harg6 arg7 harg7 arg8 harg8 arg9 harg9 arg10 harg10 arg11 harg11 arg12 harg12) K := by
  have hchk : ∀ (v19 : IVec S1x128 32) (v21 : BitVec 32) (v40 : Vec F S1x512x128 .f32) (v68 : FVec F S512x128 .f32) (h) (h'),
      k0_chk1 i (extractAt ![0, 0, 0] (k0_pay62 v19 v21 v40) h) (extractAt ![0, 0, 0] (k0_pay66 v19 v21 v68) h') :=
    fun _ _ _ _ _ _ => chk i _ _ (head0_nonneg _ _ _ _) (head1_nonneg _ _ _ _)
  refine ⟨?_, ?_, ?_, fun K => ?run⟩
  case run =>
    simp only [cc0_attn_b_0_eq_skeleton]; unfold cc0_attn_b_0_skel
    iintro ⟨H2, H3, H4, H5, H6, H7, H8, H9, H10, H11, H12, Hk⟩
    sl_exec (disch := exact hchk _ _ _ _ _ _)
    sl_step
    iapply Hk $$ %_
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12

end Cert.Kernel2Ideal.Hand
-- ==== Proof.Value2.Trip.lean ====
/-
  One trip of the kernel's loop over the blocks before the diagonal: its yields and its stores are the block's
  operations.
  Here of the call that is handed two gradients and adds to them.
-/
module

public import proofs.«01_k».proof.Proof.Kernel2Ideal.Words
public import proofs.«01_k».proof.Proof.Value.Block
public import proofs.«01_k».proof.Proof.Gen.Kernel2Ideal.Frame
public import proofs.«01_k».proof.Proof.Gen.Kernel2Ideal.Loops
public import Idealize.ShloMosaic.Lib.Pipeline.Frame
public import Idealize.ShloMosaic.Lib.Tactic

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

open Cert.Stick

variable (𝒱 : Variants) (c : Dev nD) (bd : Option 𝒱.V) (i : grid0.Coords) (arg2 : Memref sig .tc .vmem S512x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S512x128 .f32) (harg5 : arg5.IsWhole) (arg6 : Memref sig .tc .vmem S2x512x16 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S512x128 .f32) (harg9 : arg9.IsWhole) (arg10 : Memref sig .tc .vmem S4096x128 .f32) (harg10 : arg10.IsWhole) (arg11 : Memref sig .tc .vmem S4096x128 .f32) (harg11 : arg11.IsWhole) (arg12 : Memref sig .tc .vmem S2x512x128 .f32) (harg12 : arg12.IsWhole) (arg1 : BitVec 32) (v8 : FVec F S256x256 .bf16) (v12 : FVec F S256x256 .bf16) (v16 : IVec S512x256 32) (v17 : IVec S512x256 32) (v18 : IVec S512x128 32) (v19 : IVec S1x128 32) (v21 : BitVec 32) (v23 : FVec F S512x64 .bf16) (v25 : FVec F S512x64 .bf16) (v27 : FVec F S512x64 .bf16) (v29 : FVec F S512x64 .bf16) (v56 : BitVec 32) (v57 : BitVec 32) (v68 : FVec F S512x128 .f32) (v83 : BitVec 32) (k0_hw1 : k0_chk1 i v56 v83) (v84 : BitVec 32) (X_arg3 : BufTy.Contents (Elt F) arg3.view.ty) (X_arg4 : BufTy.Contents (Elt F) arg4.view.ty) (X_arg12 : BufTy.Contents (Elt F) arg12.view.ty) (k : Fin (k0_t1_loop i v56 v83).trips)

/-- The keys of the trip's block, head 0; and the values, and the same of head 1. -/
def tK0 : FVec F S256x64 .bf16 := shapeCast S256x64 (arg3.view.readAt (Elt F) (Rect.unit (s := S4096x128) (k0_off1 i v56 v83 k) S256x64.size (k0_off1_inb i v56 v83 k0_hw1 k)).toLoadRect X_arg3) shapeCasts_S256x64_S256x64
def tV0 : FVec F S256x64 .bf16 := shapeCast S256x64 (arg4.view.readAt (Elt F) (Rect.unit (s := S4096x128) (k0_off1 i v56 v83 k) S256x64.size (k0_off1_inb i v56 v83 k0_hw1 k)).toLoadRect X_arg4) shapeCasts_S256x64_S256x64
def tK1 : FVec F S256x64 .bf16 := shapeCast S256x64 (arg3.view.readAt (Elt F) (Rect.unit (s := S4096x128) (k0_off2 i v56 v83 k) S256x64.size (k0_off2_inb i v56 v83 k0_hw1 k)).toLoadRect X_arg3) shapeCasts_S256x64_S256x64
def tV1 : FVec F S256x64 .bf16 := shapeCast S256x64 (arg4.view.readAt (Elt F) (Rect.unit (s := S4096x128) (k0_off2 i v56 v83 k) S256x64.size (k0_off2_inb i v56 v83 k0_hw1 k)).toLoadRect X_arg4) shapeCasts_S256x64_S256x64
/-- What is right of the trip's block, head 0 and head 1. -/
def tR0 : FVec F S512x256 .f32 := mRight v18 (Scalar.addi (Scf.iv v84 1#32 k) 1#32)
  (arg12.view.readAt (Elt F) (Rect.unit (s := S2x512x128) ![0, 0, 0] S1x512x128.size inb_S2x512x128_S1x512x128_0_0_0).toLoadRect X_arg12)
def tR1 : FVec F S512x256 .f32 := mRight v18 (Scalar.addi (Scf.iv v84 1#32 k) 1#32)
  (arg12.view.readAt (Elt F) (Rect.unit (s := S2x512x128) ![1, 0, 0] S1x512x128.size inb_S2x512x128_S1x512x128_1_0_0).toLoadRect X_arg12)

theorem trip_yield (acc : FVec F S512x1 .f32 × FVec F S512x64 .f32 × FVec F S512x1 .f32 × FVec F S512x64 .f32)
    (f10 : BufTy.Contents (Elt F) arg10.view.ty) (f11 : BufTy.Contents (Elt F) arg11.view.ty) :
    (trip_k0_t1 (F := F) 𝒱 c bd i arg2 harg2 arg3 harg3 arg4 harg4 arg5 harg5 arg6 harg6 arg7 harg7 arg8 harg8 arg9 harg9 arg10 harg10 arg11 harg11 arg12 harg12 arg1 v8 v12 v16 v17 v18 v19 v21 v23 v25 v27 v29 v56 v57 v68 v83 k0_hw1 v84 X_arg3 X_arg4 X_arg12 k).1 acc f10 f11
      = (mLast (bPin none v23 v27 (tK0 i arg3 v56 v83 k0_hw1 X_arg3 k) (tV0 i arg4 v56 v83 k0_hw1 X_arg4 k) v8 v12 (tR0 i arg12 v18 v56 v83 v84 X_arg12 k) acc.1), mDq acc.2.1 (bDz none v23 v27 (tK0 i arg3 v56 v83 k0_hw1 X_arg3 k) (tV0 i arg4 v56 v83 k0_hw1 X_arg4 k) v8 v12 (tR0 i arg12 v18 v56 v83 v84 X_arg12 k) acc.1) (tK0 i arg3 v56 v83 k0_hw1 X_arg3 k),
         mLast (bPin none v25 v29 (tK1 i arg3 v56 v83 k0_hw1 X_arg3 k) (tV1 i arg4 v56 v83 k0_hw1 X_arg4 k) v8 v12 (tR1 i arg12 v18 v56 v83 v84 X_arg12 k) acc.2.2.1), mDq acc.2.2.2 (bDz none v25 v29 (tK1 i arg3 v56 v83 k0_hw1 X_arg3 k) (tV1 i arg4 v56 v83 k0_hw1 X_arg4 k) v8 v12 (tR1 i arg12 v18 v56 v83 v84 X_arg12 k) acc.2.2.1) (tK1 i arg3 v56 v83 k0_hw1 X_arg3 k)) := by
  unfold trip_k0_t1; rfl

theorem trip_dk (acc : FVec F S512x1 .f32 × FVec F S512x64 .f32 × FVec F S512x1 .f32 × FVec F S512x64 .f32)
    (f10 : BufTy.Contents (Elt F) arg10.view.ty) (f11 : BufTy.Contents (Elt F) arg11.view.ty) :
    (trip_k0_t1 (F := F) 𝒱 c bd i arg2 harg2 arg3 harg3 arg4 harg4 arg5 harg5 arg6 harg6 arg7 harg7 arg8 harg8 arg9 harg9 arg10 harg10 arg11 harg11 arg12 harg12 arg1 v8 v12 v16 v17 v18 v19 v21 v23 v25 v27 v29 v56 v57 v68 v83 k0_hw1 v84 X_arg3 X_arg4 X_arg12 k).2.1 acc f10 f11
      = [⟨Rect.unit (s := S4096x128) (k0_off2 i v56 v83 k) S256x64.size (k0_off2_inb i v56 v83 k0_hw1 k), mDk (arg10.view.readAt (Elt F) (Rect.unit (s := S4096x128) (k0_off2 i v56 v83 k) S256x64.size (k0_off2_inb i v56 v83 k0_hw1 k)).toLoadRect (arg10.view.writes (Elt F) f10 [⟨Rect.unit (s := S4096x128) (k0_off1 i v56 v83 k) S256x64.size (k0_off1_inb i v56 v83 k0_hw1 k), mDk (arg10.view.readAt (Elt F) (Rect.unit (s := S4096x128) (k0_off1 i v56 v83 k) S256x64.size (k0_off1_inb i v56 v83 k0_hw1 k)).toLoadRect f10) (bDz none v23 v27 (tK0 i arg3 v56 v83 k0_hw1 X_arg3 k) (tV0 i arg4 v56 v83 k0_hw1 X_arg4 k) v8 v12 (tR0 i arg12 v18 v56 v83 v84 X_arg12 k) acc.1) v23⟩])) (bDz none v25 v29 (tK1 i arg3 v56 v83 k0_hw1 X_arg3 k) (tV1 i arg4 v56 v83 k0_hw1 X_arg4 k) v8 v12 (tR1 i arg12 v18 v56 v83 v84 X_arg12 k) acc.2.2.1) v25⟩,
          ⟨Rect.unit (s := S4096x128) (k0_off1 i v56 v83 k) S256x64.size (k0_off1_inb i v56 v83 k0_hw1 k), mDk (arg10.view.readAt (Elt F) (Rect.unit (s := S4096x128) (k0_off1 i v56 v83 k) S256x64.size (k0_off1_inb i v56 v83 k0_hw1 k)).toLoadRect f10) (bDz none v23 v27 (tK0 i arg3 v56 v83 k0_hw1 X_arg3 k) (tV0 i arg4 v56 v83 k0_hw1 X_arg4 k) v8 v12 (tR0 i arg12 v18 v56 v83 v84 X_arg12 k) acc.1) v23⟩] := by
  unfold trip_k0_t1; rfl

theorem trip_dv (acc : FVec F S512x1 .f32 × FVec F S512x64 .f32 × FVec F S512x1 .f32 × FVec F S512x64 .f32)
    (f10 : BufTy.Contents (Elt F) arg10.view.ty) (f11 : BufTy.Contents (Elt F) arg11.view.ty) :
    (trip_k0_t1 (F := F) 𝒱 c bd i arg2 harg2 arg3 harg3 arg4 harg4 arg5 harg5 arg6 harg6 arg7 harg7 arg8 harg8 arg9 harg9 arg10 harg10 arg11 harg11 arg12 harg12 arg1 v8 v12 v16 v17 v18 v19 v21 v23 v25 v27 v29 v56 v57 v68 v83 k0_hw1 v84 X_arg3 X_arg4 X_arg12 k).2.2.1 acc f10 f11
      = [⟨Rect.unit (s := S4096x128) (k0_off2 i v56 v83 k) S256x64.size (k0_off2_inb i v56 v83 k0_hw1 k), mDk (arg11.view.readAt (Elt F) (Rect.unit (s := S4096x128) (k0_off2 i v56 v83 k) S256x64.size (k0_off2_inb i v56 v83 k0_hw1 k)).toLoadRect (arg11.view.writes (Elt F) f11 [⟨Rect.unit (s := S4096x128) (k0_off1 i v56 v83 k) S256x64.size (k0_off1_inb i v56 v83 k0_hw1 k), mDk (arg11.view.readAt (Elt F) (Rect.unit (s := S4096x128) (k0_off1 i v56 v83 k) S256x64.size (k0_off1_inb i v56 v83 k0_hw1 k)).toLoadRect f11) (bA none v23 (tK0 i arg3 v56 v83 k0_hw1 X_arg3 k) v8 (tR0 i arg12 v18 v56 v83 v84 X_arg12 k)) v27⟩])) (bA none v25 (tK1 i arg3 v56 v83 k0_hw1 X_arg3 k) v8 (tR1 i arg12 v18 v56 v83 v84 X_arg12 k)) v29⟩,
          ⟨Rect.unit (s := S4096x128) (k0_off1 i v56 v83 k) S256x64.size (k0_off1_inb i v56 v83 k0_hw1 k), mDk (arg11.view.readAt (Elt F) (Rect.unit (s := S4096x128) (k0_off1 i v56 v83 k) S256x64.size (k0_off1_inb i v56 v83 k0_hw1 k)).toLoadRect f11) (bA none v23 (tK0 i arg3 v56 v83 k0_hw1 X_arg3 k) v8 (tR0 i arg12 v18 v56 v83 v84 X_arg12 k)) v27⟩] := by
  unfold trip_k0_t1; rfl

end Cert.Kernel2Ideal.Hand
-- ==== Proof.Value2.StepE.lean ====
/-
  A block of extended reals to which real numbers are added: `RE x f` says that the block `x` holds `f a b` at row `a` and
  column `b`. The sums are added to whatever the block held, finite or not.
-/
module

public import proofs.«01_k».proof.Proof.Value.Step

@[expose] public section

set_option maxRecDepth 16384

noncomputable section

open Finset

namespace Cert.Stick

open Cert.KernelIdeal Cert.KernelIdeal.Gen
open Idealize.ShloMosaic

/-- The block `x` holds the extended reals `f`. -/
def RE {n m : ℕ} (x : (⟨2, ![n, m]⟩ : Shape).Idx → EReal) (f : ℕ → ℕ → EReal) : Prop :=
  ∀ (a : Fin n) (b : Fin m), x (ix2 a b) = f a.val b.val

theorem RE.congr {n m : ℕ} {x : (⟨2, ![n, m]⟩ : Shape).Idx → EReal} {f g : ℕ → ℕ → EReal} (h : RE x f)
    (e : ∀ a b, a < n → b < m → f a b = g a b) : RE x g :=
  fun a b => (h a b).trans (e _ _ a.isLt b.isLt)

/-- A product of real numbers added to a window of extended reals. -/
theorem R2.dkE {old : FVec Ideal S256x64 .f32} {dz : FVec Ideal S512x256 .f32} {q : FVec Ideal S512x64 .bf16} {f g : ℕ → ℕ → ℝ}
    {p : ℕ → ℕ → EReal} (hp : RE old p) (hz : R2 dz f) (hq : R2 q g) :
    RE (mDk old dz q) (fun t d => p t d + ((∑ a ∈ range 512, f a t * g a d : ℝ) : EReal)) := by
  intro a b
  unfold mDk
  pointwise
  simp only [hp _ _, hz _ _, hq _ _, ← EReal.coe_mul]
  rw [coe_sum_fin (fun j => f j a.val * g j b.val)]

section
variable {sig : RefSig} {κ : Kind} {sp : Space}

/-- A window loaded. -/
theorem RE.load {n m n' m' : ℕ} (v : View sig κ sp ⟨2, ![n, m]⟩ .f32) (f : v.ty.Contents (Elt Ideal)) {g : ℕ → ℕ → EReal}
    (hf : RE (v.read (Elt Ideal) f) g) (off : Fin 2 → ℕ) (o0 o1 : ℕ) (hoff : off = ![o0, o1])
    (inb : ∀ a, off a + (![n', m'] : Fin 2 → ℕ) a ≤ (⟨2, ![n, m]⟩ : Shape).size a) :
    RE (n := n') (m := m') (v.readAt (Elt Ideal) (Rect.unit (s := ⟨2, ![n, m]⟩) off ![n', m'] inb).toLoadRect f) (fun a b => g (o0 + a) (o1 + b)) := by
  intro a b
  have e0 : o0 + n' ≤ n := by subst hoff; exact inb 0
  have e1 : o1 + m' ≤ m := by subst hoff; exact inb 1
  exact (readAt_ix2 v f off o0 o1 hoff inb a b (by omega) (by omega)).trans (hf _ _)

/-- A window stored. -/
theorem RE.store {n m n' m' : ℕ} (v : View sig κ sp ⟨2, ![n, m]⟩ .f32) (f : v.ty.Contents (Elt Ideal)) {g w : ℕ → ℕ → EReal}
    (off : Fin 2 → ℕ) (o0 o1 : ℕ) (hoff : off = ![o0, o1])
    (inb : ∀ a, off a + (![n', m'] : Fin 2 → ℕ) a ≤ (⟨2, ![n, m]⟩ : Shape).size a)
    (L : List (View.Piece (Elt Ideal) ⟨2, ![n, m]⟩ .f32)) (hf : RE (v.read (Elt Ideal) (v.writes (Elt Ideal) f L)) g)
    (x : (⟨2, ![n', m']⟩ : Shape).Idx → EReal) (hx : RE x w) :
    RE (v.read (Elt Ideal) (v.writes (Elt Ideal) f (⟨Rect.unit (s := ⟨2, ![n, m]⟩) off ![n', m'] inb, x⟩ :: L)))
      (fun r c => if o0 ≤ r ∧ r < o0 + n' ∧ o1 ≤ c ∧ c < o1 + m' then w (r - o0) (c - o1) else g r c) := by
  intro r c
  rw [View.read_writes_cons_put v f inb x L hoff]
  unfold VecWindow.put
  by_cases h : o0 ≤ r.val ∧ r.val < o0 + n' ∧ o1 ≤ c.val ∧ c.val < o1 + m'
  · have h' : ∀ a : Fin 2, (![o0, o1] : Fin 2 → ℕ) a ≤ ((ix2 r c : (⟨2, ![n, m]⟩ : Shape).Idx) a).val
        ∧ ((ix2 r c : (⟨2, ![n, m]⟩ : Shape).Idx) a).val < (![o0, o1] : Fin 2 → ℕ) a + (![n', m'] : Fin 2 → ℕ) a := fun a => by
      match a with
      | ⟨0, _⟩ => exact ⟨h.1, h.2.1⟩
      | ⟨1, _⟩ => exact h.2.2
    rw [dif_pos h']; beta_reduce; rw [if_pos h]
    refine Eq.trans (congrArg x ?_) (hx ⟨r.val - o0, by omega⟩ ⟨c.val - o1, by omega⟩)
    funext d
    match d with
    | ⟨0, _⟩ => rfl
    | ⟨1, _⟩ => rfl
  · have h' : ¬ ∀ a : Fin 2, (![o0, o1] : Fin 2 → ℕ) a ≤ ((ix2 r c : (⟨2, ![n, m]⟩ : Shape).Idx) a).val
        ∧ ((ix2 r c : (⟨2, ![n, m]⟩ : Shape).Idx) a).val < (![o0, o1] : Fin 2 → ℕ) a + (![n', m'] : Fin 2 → ℕ) a := fun q => by
      have q0 := q 0
      have q1 := q 1
      exact h ⟨q0.1, q0.2, q1.1, q1.2⟩
    rw [dif_neg h']; beta_reduce; rw [if_neg h]
    exact hf r c

/-- `g` with `ψ` added in the windows that are done. -/
def accE (g : ℕ → ℕ → EReal) (ψ : ℕ → ℕ → ℝ) (n b : ℕ) : ℕ → ℕ → EReal := fun t c => g t c + ((if Done n b t c then ψ t c else 0 : ℝ) : EReal)

/-- The window of block `n` and head `b`, loaded before it is added to. -/
theorem accE_old (g : ℕ → ℕ → EReal) (ψ : ℕ → ℕ → ℝ) (n b t d : ℕ) (ht : t < 256) (hd : d < 64) :
    accE g ψ n b (256 * n + t) (64 * b + d) = g (256 * n + t) (64 * b + d) := by
  unfold accE
  rw [if_neg (by unfold Done; omega), EReal.coe_zero, add_zero]

/-- One window added: block `n`, head `b`. -/
theorem accE_step (v : View sig κ sp S4096x128 .f32) (f : v.ty.Contents (Elt Ideal)) (L : List (View.Piece (Elt Ideal) S4096x128 .f32))
    {g : ℕ → ℕ → EReal} {ψ : ℕ → ℕ → ℝ} {n b : ℕ} (hf : RE (v.read (Elt Ideal) (v.writes (Elt Ideal) f L)) (accE g ψ n b))
    (off : Fin 2 → ℕ) (hoff : off = ![256 * n, 64 * b]) (inb : ∀ a, off a + S256x64.size a ≤ S4096x128.size a)
    (x : FVec Ideal S256x64 .f32)
    (hx : ∀ p : FVec Ideal S256x64 .f32, p = v.readAt (Elt Ideal) (Rect.unit (s := S4096x128) off S256x64.size inb).toLoadRect (v.writes (Elt Ideal) f L) →
      RE p (fun t d => g (256 * n + t) (64 * b + d)) → RE x (fun t d => g (256 * n + t) (64 * b + d) + ((ψ (256 * n + t) (64 * b + d) : ℝ) : EReal))) :
    RE (v.read (Elt Ideal) (v.writes (Elt Ideal) f (⟨Rect.unit (s := S4096x128) off S256x64.size inb, x⟩ :: L))) (accE g ψ n (b + 1)) := by
  have hold := RE.load (n' := 256) (m' := 64) v (v.writes (Elt Ideal) f L) hf off (256 * n) (64 * b) hoff inb
  have hnew := hx _ rfl (hold.congr fun t d ht hd => accE_old g ψ n b t d ht hd)
  refine (RE.store (n' := 256) (m' := 64) v f off (256 * n) (64 * b) hoff inb L hf x hnew).congr fun r c hr hc => ?_
  unfold accE
  by_cases h : 256 * n ≤ r ∧ r < 256 * n + 256 ∧ 64 * b ≤ c ∧ c < 64 * b + 64
  · rw [if_pos h, if_pos (by unfold Done; omega), show 256 * n + (r - 256 * n) = r by omega, show 64 * b + (c - 64 * b) = c by omega]
  · rw [if_neg h]
    congr 2
    refine if_congr ?_ rfl rfl
    unfold Done
    omega

theorem accE_next (g : ℕ → ℕ → EReal) (ψ : ℕ → ℕ → ℝ) (n t c : ℕ) (hc : c < 128) : accE g ψ n 2 t c = accE g ψ (n + 1) 0 t c := by
  unfold accE
  congr 2
  refine if_congr ?_ rfl rfl
  unfold Done
  omega

theorem accE_zero (g : ℕ → ℕ → EReal) (ψ : ℕ → ℕ → ℝ) (t c : ℕ) : accE g ψ 0 0 t c = g t c := by
  unfold accE
  rw [if_neg (by unfold Done; omega), EReal.coe_zero, add_zero]

end

variable {sig : RefSig} {κ : Kind} {sp : Space}
variable {x : In} {h2 s0 n : ℕ}

section pieces
variable {o0 o1 : Option (IVec S512x256 1)} {q0 d0 q1 d1 : FVec Ideal S512x64 .bf16} {k0 v0 k1 v1 : FVec Ideal S256x64 .bf16}
  {ts tp : FVec Ideal S256x256 .bf16} {r0 r1 : FVec Ideal S512x256 .f32} {p0 p1 : FVec Ideal S512x1 .f32}
  (O0 : Ops x (2 * h2) s0 (256 * n) o0 q0 d0 k0 v0 ts tp r0 p0) (O1 : Ops x (2 * h2 + 1) s0 (256 * n) o1 q1 d1 k1 v1 ts tp r1 p1)
  (v : View sig κ sp S4096x128 .f32) (f : v.ty.Contents (Elt Ideal)) (L : List (View.Piece (Elt Ideal) S4096x128 .f32))
  (g : ℕ → ℕ → EReal) (off0 off1 : Fin 2 → ℕ) (e0 : off0 = ![256 * n, 0]) (e1 : off1 = ![256 * n, 64])
  (inb0 : ∀ a, off0 a + S256x64.size a ≤ S4096x128.size a) (inb1 : ∀ a, off1 a + S256x64.size a ≤ S4096x128.size a)
include O0 O1 e0 e1

/-- The block's two windows of the gradient of the keys added. -/
theorem dk_blockE (hf : RE (v.read (Elt Ideal) (v.writes (Elt Ideal) f L)) (accE g (gK x h2 s0) n 0)) :
    RE (v.read (Elt Ideal) (v.writes (Elt Ideal) f
      (⟨Rect.unit (s := S4096x128) off1 S256x64.size inb1, mDk (v.readAt (Elt Ideal) (Rect.unit (s := S4096x128) off1 S256x64.size inb1).toLoadRect
          (v.writes (Elt Ideal) f (⟨Rect.unit (s := S4096x128) off0 S256x64.size inb0, mDk (v.readAt (Elt Ideal) (Rect.unit (s := S4096x128) off0 S256x64.size inb0).toLoadRect
            (v.writes (Elt Ideal) f L)) (bDz o0 q0 d0 k0 v0 ts tp r0 p0) q0⟩ :: L))) (bDz o1 q1 d1 k1 v1 ts tp r1 p1) q1⟩
        :: ⟨Rect.unit (s := S4096x128) off0 S256x64.size inb0, mDk (v.readAt (Elt Ideal) (Rect.unit (s := S4096x128) off0 S256x64.size inb0).toLoadRect
            (v.writes (Elt Ideal) f L)) (bDz o0 q0 d0 k0 v0 ts tp r0 p0) q0⟩ :: L))) (accE g (gK x h2 s0) (n + 1) 0) := by
  have H0 := accE_step v f L hf off0 (e0.trans rfl) inb0 _ fun p hp hR => by
    have := R2.dkE hR O0.dz O0.q
    rw [hp] at this
    refine this.congr fun t d ht hd => ?_
    unfold gK; rw [(head_col h2 0 d hd).1, (head_col h2 0 d hd).2]; rfl
  have H1 := accE_step v f _ H0 off1 (e1.trans rfl) inb1 _ fun p hp hR => by
    have := R2.dkE hR O1.dz O1.q
    rw [hp] at this
    refine this.congr fun t d ht hd => ?_
    unfold gK; rw [(head_col h2 1 d hd).1, (head_col h2 1 d hd).2]
  exact H1.congr fun t c ht hc => accE_next g (gK x h2 s0) n t c hc

/-- The block's two windows of the gradient of the values added. -/
theorem dv_blockE (hf : RE (v.read (Elt Ideal) (v.writes (Elt Ideal) f L)) (accE g (gV x h2 s0) n 0)) :
    RE (v.read (Elt Ideal) (v.writes (Elt Ideal) f
      (⟨Rect.unit (s := S4096x128) off1 S256x64.size inb1, mDk (v.readAt (Elt Ideal) (Rect.unit (s := S4096x128) off1 S256x64.size inb1).toLoadRect
          (v.writes (Elt Ideal) f (⟨Rect.unit (s := S4096x128) off0 S256x64.size inb0, mDk (v.readAt (Elt Ideal) (Rect.unit (s := S4096x128) off0 S256x64.size inb0).toLoadRect
            (v.writes (Elt Ideal) f L)) (bA o0 q0 k0 ts r0) d0⟩ :: L))) (bA o1 q1 k1 ts r1) d1⟩
        :: ⟨Rect.unit (s := S4096x128) off0 S256x64.size inb0, mDk (v.readAt (Elt Ideal) (Rect.unit (s := S4096x128) off0 S256x64.size inb0).toLoadRect
            (v.writes (Elt Ideal) f L)) (bA o0 q0 k0 ts r0) d0⟩ :: L))) (accE g (gV x h2 s0) (n + 1) 0) := by
  have H0 := accE_step v f L hf off0 (e0.trans rfl) inb0 _ fun p hp hR => by
    have := R2.dkE hR O0.a O0.dO
    rw [hp] at this
    refine this.congr fun t d ht hd => ?_
    unfold gV; rw [(head_col h2 0 d hd).1, (head_col h2 0 d hd).2]; rfl
  have H1 := accE_step v f _ H0 off1 (e1.trans rfl) inb1 _ fun p hp hR => by
    have := R2.dkE hR O1.a O1.dO
    rw [hp] at this
    refine this.congr fun t d ht hd => ?_
    unfold gV; rw [(head_col h2 1 d hd).1, (head_col h2 1 d hd).2]
  exact H1.congr fun t c ht hc => accE_next g (gV x h2 s0) n t c hc

end pieces

/-- All blocks up to the diagonal done: the whole of the 512 queries' part is added. -/
theorem accE_all (g : ℕ → ℕ → EReal) (ψ : ℕ → ℕ → ℝ) (s0 n : ℕ) (hn : 256 * n = s0 + 512) (hψ : ∀ t c, s0 + 512 ≤ t → ψ t c = 0) (t c : ℕ) :
    accE g ψ n 0 t c = g t c + ((ψ t c : ℝ) : EReal) := by
  unfold accE
  by_cases h : t < 256 * n
  · rw [if_pos (.inl h)]
  · rw [if_neg (by unfold Done; omega), hψ t c (by omega)]

end Cert.Stick
-- ==== Proof.Value2.Loop.lean ====
/-
  The kernel's loop over the blocks before the diagonal: what is carried and what the two gradients hold after each
  number of trips.
  Here of the call that is handed two gradients and adds to them.
-/
module

public import proofs.«01_k».proof.Proof.Value2.Trip
public import proofs.«01_k».proof.Proof.Value2.StepE

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Finset Cert.Stick

/-- What the operands of the loop hold: head pair `h2`, queries from `s0`. -/
structure LoopIn (x : In) (h2 s0 : ℕ) (v8 v12 : FVec Ideal S256x256 .bf16) (v18 : IVec S512x128 32)
    (v23 v25 v27 v29 : FVec Ideal S512x64 .bf16) (k3 v4 : (⟨2, ![4096, 128]⟩ : Shape).Idx → EReal)
    (r0 r1 : FVec Ideal S1x512x128 .f32) : Prop where
  ts : R2 v8 (fun j t => if t ≤ j then 1 else 0)
  tp : R2 v12 (fun j t => if j ≤ t then 1 else 0)
  lane : ∀ (a : Fin 512) (t : Fin 128), v18 (ix2 a t) = BitVec.ofNat 32 t.val
  q0 : R2 v23 (fun a d => x.Q (s0 + a) (64 * (2 * h2) + d) / 8)
  q1 : R2 v25 (fun a d => x.Q (s0 + a) (64 * (2 * h2 + 1) + d) / 8)
  d0 : R2 v27 (fun a d => x.D (s0 + a) (64 * (2 * h2) + d))
  d1 : R2 v29 (fun a d => x.D (s0 + a) (64 * (2 * h2 + 1) + d))
  k : R2 k3 (fun t c => x.K t (128 * h2 + c))
  v : R2 v4 (fun t c => x.V t (128 * h2 + c))
  run0 : ∀ (a : Fin 512) (l : Fin 128), r0 (ix3 0 a l) = ((Suf x (2 * h2) (s0 + a.val) (256 * l.val) : ℝ) : EReal)
  run1 : ∀ (a : Fin 512) (l : Fin 128), r1 (ix3 0 a l) = ((Suf x (2 * h2 + 1) (s0 + a.val) (256 * l.val) : ℝ) : EReal)

/-- A reshape to the same shape reads the same. -/
theorem R2.same {n m : ℕ} {φ : FTy} {x : FVec Ideal ⟨2, ![n, m]⟩ φ} {f : ℕ → ℕ → ℝ} (h : R2 x f)
    (w : (⟨2, ![n, m]⟩ : Shape).ShapeCasts ⟨2, ![n, m]⟩) : R2 (shapeCast ⟨2, ![n, m]⟩ x w) f := by
  rw [shapeCast_self]; exact h

variable (𝒱 : Variants) (c : Dev nD) (bd : Option 𝒱.V) (i : grid0.Coords) (arg2 : Memref sig .tc .vmem S512x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S512x128 .f32) (harg5 : arg5.IsWhole) (arg6 : Memref sig .tc .vmem S2x512x16 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S512x128 .f32) (harg9 : arg9.IsWhole) (arg10 : Memref sig .tc .vmem S4096x128 .f32) (harg10 : arg10.IsWhole) (arg11 : Memref sig .tc .vmem S4096x128 .f32) (harg11 : arg11.IsWhole) (arg12 : Memref sig .tc .vmem S2x512x128 .f32) (harg12 : arg12.IsWhole) (arg1 : BitVec 32) (v8 : FVec Ideal S256x256 .bf16) (v12 : FVec Ideal S256x256 .bf16) (v16 : IVec S512x256 32) (v17 : IVec S512x256 32) (v18 : IVec S512x128 32) (v19 : IVec S1x128 32) (v21 : BitVec 32) (v23 : FVec Ideal S512x64 .bf16) (v25 : FVec Ideal S512x64 .bf16) (v27 : FVec Ideal S512x64 .bf16) (v29 : FVec Ideal S512x64 .bf16) (v56 : BitVec 32) (v57 : BitVec 32) (v68 : FVec Ideal S512x128 .f32) (v83 : BitVec 32) (k0_hw1 : k0_chk1 i v56 v83) (v84 : BitVec 32) (X_arg3 : BufTy.Contents (Elt Ideal) arg3.view.ty) (X_arg4 : BufTy.Contents (Elt Ideal) arg4.view.ty) (X_arg12 : BufTy.Contents (Elt Ideal) arg12.view.ty)
variable {x : In} {h2 s0 : ℕ}
  (H : LoopIn x h2 s0 v8 v12 v18 v23 v25 v27 v29 (arg3.view.read (Elt Ideal) X_arg3) (arg4.view.read (Elt Ideal) X_arg4)
    (arg12.view.readAt (Elt Ideal) (Rect.unit (s := S2x512x128) ![0, 0, 0] S1x512x128.size inb_S2x512x128_S1x512x128_0_0_0).toLoadRect X_arg12)
    (arg12.view.readAt (Elt Ideal) (Rect.unit (s := S2x512x128) ![1, 0, 0] S1x512x128.size inb_S2x512x128_S1x512x128_1_0_0).toLoadRect X_arg12))
  (ha : 0 ≤ v56.toInt) (hb : 0 ≤ v83.toInt) (hst : start i v56 v83 = 0) (h84 : v84 = 0#32)
  (hs : ∀ n, n < (k0_t1_loop i v56 v83).trips → 256 * n + 256 ≤ s0) (hs' : s0 ≤ 4096)
include H ha hb hst h84 hs hs'

/-- The operands of trip `k`'s block, head 0. -/
theorem ops0 (k : Fin (k0_t1_loop i v56 v83).trips) (pg : FVec Ideal S512x1 .f32) (hp : R2 pg (fun a _ => ∑ j ∈ range (256 * k.val), Gr x (2 * h2) (s0 + a) j)) :
    Ops x (2 * h2) s0 (256 * k.val) none v23 v27 (tK0 i arg3 v56 v83 k0_hw1 X_arg3 k) (tV0 i arg4 v56 v83 k0_hw1 X_arg4 k) v8 v12 (tR0 i arg12 v18 v56 v83 v84 X_arg12 k) pg := by
  have e1 : k0_off1 i v56 v83 k = ![256 * k.val, 0] := by
    rw [off1_eq i v56 v83 ha hb k, hst]; show ![(0 + k.val) * 256, 0] = _; congr 1; omega
  have hk := hs k.val k.isLt
  refine ⟨hk, by omega, H.q0, H.d0, ?_, ?_, H.ts, H.tp, ?_, hp⟩
  · exact R2.same (φ := .bf16) ((R2.load16 arg3.view X_arg3 H.k _ (256 * k.val) 0 e1 _).congr fun t d ht hd => by
      show x.K _ _ = x.K _ _; congr 1; omega) _
  · exact R2.same (φ := .bf16) ((R2.load16 arg4.view X_arg4 H.v _ (256 * k.val) 0 e1 _).congr fun t d ht hd => by
      show x.V _ _ = x.V _ _; congr 1; omega) _
  · refine (R2.right (l := k.val + 1) (f := fun a l => Suf x (2 * h2) (s0 + a) (256 * l)) (by omega) H.lane ?_ H.run0).congr fun a t _ _ => ?_
    · rw [h84]
      show (0#32 + BitVec.ofNat 32 k.val * 1#32) + 1#32 = BitVec.ofNat 32 (k.val + 1)
      apply BitVec.eq_of_toNat_eq; simp [Nat.add_comm]
    · show Suf x (2 * h2) (s0 + a) (256 * (k.val + 1)) = _
      congr 1

/-- The operands of trip `k`'s block, head 1. -/
theorem ops1 (k : Fin (k0_t1_loop i v56 v83).trips) (pg : FVec Ideal S512x1 .f32) (hp : R2 pg (fun a _ => ∑ j ∈ range (256 * k.val), Gr x (2 * h2 + 1) (s0 + a) j)) :
    Ops x (2 * h2 + 1) s0 (256 * k.val) none v25 v29 (tK1 i arg3 v56 v83 k0_hw1 X_arg3 k) (tV1 i arg4 v56 v83 k0_hw1 X_arg4 k) v8 v12 (tR1 i arg12 v18 v56 v83 v84 X_arg12 k) pg := by
  have e1 : k0_off2 i v56 v83 k = ![256 * k.val, 64] := by
    rw [off2_eq i v56 v83 ha hb k, hst]; show ![(0 + k.val) * 256, 64] = _; congr 1; omega
  have hk := hs k.val k.isLt
  refine ⟨hk, by omega, H.q1, H.d1, ?_, ?_, H.ts, H.tp, ?_, hp⟩
  · exact R2.same (φ := .bf16) ((R2.load16 arg3.view X_arg3 H.k _ (256 * k.val) 64 e1 _).congr fun t d ht hd => by
      show x.K _ _ = x.K _ _; congr 1; omega) _
  · exact R2.same (φ := .bf16) ((R2.load16 arg4.view X_arg4 H.v _ (256 * k.val) 64 e1 _).congr fun t d ht hd => by
      show x.V _ _ = x.V _ _; congr 1; omega) _
  · refine (R2.right (l := k.val + 1) (f := fun a l => Suf x (2 * h2 + 1) (s0 + a) (256 * l)) (by omega) H.lane ?_ H.run1).congr fun a t _ _ => ?_
    · rw [h84]
      show (0#32 + BitVec.ofNat 32 k.val * 1#32) + 1#32 = BitVec.ofNat 32 (k.val + 1)
      apply BitVec.eq_of_toNat_eq; simp [Nat.add_comm]
    · show Suf x (2 * h2 + 1) (s0 + a) (256 * (k.val + 1)) = _
      congr 1

/-- After `n` trips: the carried values are the sums over the first `n` blocks, and their windows are added to the two
    gradients. -/
theorem loop (G_arg10 : BufTy.Contents (Elt Ideal) arg10.view.ty) (G_arg11 : BufTy.Contents (Elt Ideal) arg11.view.ty)
    (init : FVec Ideal S512x1 .f32 × FVec Ideal S512x64 .f32 × FVec Ideal S512x1 .f32 × FVec Ideal S512x64 .f32)
    (hi : Carry x h2 s0 0 init) (g10 g11 : ℕ → ℕ → EReal) (h10 : RE (arg10.view.read (Elt Ideal) G_arg10) g10) (h11 : RE (arg11.view.read (Elt Ideal) G_arg11) g11)
    (n : ℕ) (hn : n ≤ (k0_t1_loop i v56 v83).trips) :
    Carry x h2 s0 n (st_k0_t1 (F := Ideal) 𝒱 c bd i arg2 harg2 arg3 harg3 arg4 harg4 arg5 harg5 arg6 harg6 arg7 harg7 arg8 harg8 arg9 harg9 arg10 harg10 arg11 harg11 arg12 harg12 arg1 v8 v12 v16 v17 v18 v19 v21 v23 v25 v27 v29 v56 v57 v68 v83 k0_hw1 v84 X_arg3 X_arg4 X_arg12 G_arg10 G_arg11 init n).1
    ∧ RE (arg10.view.read (Elt Ideal) (arg10.view.writes (Elt Ideal) G_arg10 (st_k0_t1 (F := Ideal) 𝒱 c bd i arg2 harg2 arg3 harg3 arg4 harg4 arg5 harg5 arg6 harg6 arg7 harg7 arg8 harg8 arg9 harg9 arg10 harg10 arg11 harg11 arg12 harg12 arg1 v8 v12 v16 v17 v18 v19 v21 v23 v25 v27 v29 v56 v57 v68 v83 k0_hw1 v84 X_arg3 X_arg4 X_arg12 G_arg10 G_arg11 init n).2.1)) (accE g10 (gK x h2 s0) n 0)
    ∧ RE (arg11.view.read (Elt Ideal) (arg11.view.writes (Elt Ideal) G_arg11 (st_k0_t1 (F := Ideal) 𝒱 c bd i arg2 harg2 arg3 harg3 arg4 harg4 arg5 harg5 arg6 harg6 arg7 harg7 arg8 harg8 arg9 harg9 arg10 harg10 arg11 harg11 arg12 harg12 arg1 v8 v12 v16 v17 v18 v19 v21 v23 v25 v27 v29 v56 v57 v68 v83 k0_hw1 v84 X_arg3 X_arg4 X_arg12 G_arg10 G_arg11 init n).2.2)) (accE g11 (gV x h2 s0) n 0) := by
  induction n with
  | zero => exact ⟨hi, h10.congr fun t c _ _ => (accE_zero g10 _ t c).symm, h11.congr fun t c _ _ => (accE_zero g11 _ t c).symm⟩
  | succ n ih =>
    obtain ⟨c1, c10, c11⟩ := ih (by omega)
    have hk : n < (k0_t1_loop i v56 v83).trips := by omega
    let k : Fin (k0_t1_loop i v56 v83).trips := ⟨n, hk⟩
    have e := st_k0_t1_succ (F := Ideal) 𝒱 c bd i arg2 harg2 arg3 harg3 arg4 harg4 arg5 harg5 arg6 harg6 arg7 harg7 arg8 harg8 arg9 harg9 arg10 harg10 arg11 harg11 arg12 harg12 arg1 v8 v12 v16 v17 v18 v19 v21 v23 v25 v27 v29 v56 v57 v68 v83 k0_hw1 v84 X_arg3 X_arg4 X_arg12 G_arg10 G_arg11 init k
    unfold tripR_k0_t1 tripL_k0_t1 at e
    dsimp only at e
    rw [trip_yield, trip_dk, trip_dv] at e
    generalize (st_k0_t1 (F := Ideal) 𝒱 c bd i arg2 harg2 arg3 harg3 arg4 harg4 arg5 harg5 arg6 harg6 arg7 harg7 arg8 harg8 arg9 harg9 arg10 harg10 arg11 harg11 arg12 harg12 arg1 v8 v12 v16 v17 v18 v19 v21 v23 v25 v27 v29 v56 v57 v68 v83 k0_hw1 v84 X_arg3 X_arg4 X_arg12 G_arg10 G_arg11 init n) = S at c1 c10 c11 e
    replace e : st_k0_t1 (F := Ideal) 𝒱 c bd i arg2 harg2 arg3 harg3 arg4 harg4 arg5 harg5 arg6 harg6 arg7 harg7 arg8 harg8 arg9 harg9 arg10 harg10 arg11 harg11 arg12 harg12 arg1 v8 v12 v16 v17 v18 v19 v21 v23 v25 v27 v29 v56 v57 v68 v83 k0_hw1 v84 X_arg3 X_arg4 X_arg12 G_arg10 G_arg11 init (n + 1) = _ := e
    rw [e]
    have O0 := ops0 i arg3 arg4 arg12 v8 v12 v18 v23 v25 v27 v29 v56 v83 k0_hw1 v84 X_arg3 X_arg4 X_arg12 H ha hb hst h84 hs hs' k S.1.1 c1.p0
    have O1 := ops1 i arg3 arg4 arg12 v8 v12 v18 v23 v25 v27 v29 v56 v83 k0_hw1 v84 X_arg3 X_arg4 X_arg12 H ha hb hst h84 hs hs' k S.1.2.2.1 c1.p1
    have e1 : k0_off1 i v56 v83 k = ![256 * n, 0] := by
      rw [off1_eq i v56 v83 ha hb k, hst]; show ![(0 + n) * 256, 0] = _; congr 1; omega
    have e2 : k0_off2 i v56 v83 k = ![256 * n, 64] := by
      rw [off2_eq i v56 v83 ha hb k, hst]; show ![(0 + n) * 256, 64] = _; congr 1; omega
    refine ⟨⟨last_block O0, dq_block O0 c1.q0, last_block O1, dq_block O1 c1.q1⟩, ?_, ?_⟩
    · exact dk_blockE O0 O1 arg10.view G_arg10 _ g10 _ _ e1 e2 _ _ c10
    · exact dv_blockE O0 O1 arg11.view G_arg11 _ g11 _ _ e1 e2 _ _ c11

end Cert.Kernel2Ideal.Hand
-- ==== Proof.Value2.Runs.lean ====
/-
  The second call's scratch, as the first call's: what is copied into it, and that no block is skipped.
-/
module

public import proofs.«01_k».proof.Proof.Value.Runs
public import proofs.«01_k».proof.Proof.Kernel2Ideal.Words

@[expose] public section

set_option maxRecDepth 16384

noncomputable section

open Finset Cert.Stick

namespace Cert.Kernel2Ideal.Hand

open Cert.Kernel2Ideal Cert.Kernel2Ideal.Gen
open Idealize.ShloMosaic

theorem pay63_apply (w : Vec Ideal S1x512x16 .f32) (a : Fin 512) (l : Fin 16) : k0_pay61 (F := Ideal) w (ix3 0 a l) = w (ix3 0 a l) := by
  pointwise [k0_pay61]

theorem pay66_apply (w : Vec Ideal S1x512x16 .f32) (a : Fin 512) (l : Fin 16) : k0_pay64 (F := Ideal) w (ix3 0 a l) = w (ix3 0 a l) := by
  pointwise [k0_pay64]

/-- A column's largest entry, where the entries are finite, is over the mark. -/
theorem mark_zero (w : Vec Ideal S1x512x128 .f32) (f : ℕ → ℕ → ℝ)
    (hw : ∀ (a : Fin 512) (l : Fin 128), w (ix3 0 a l) = ((f a.val l.val : ℝ) : EReal)) (u : IVec S1x128 1) (k : S1x128.Idx) :
    andi u (cmpf .ole (shapeCast S1x128 (multiReduction .maximumf [0] S128 (shapeCast S512x128 w shapeCasts_S1x512x128_S512x128)
      0xFF800000#32 reduces_S512x128_S128 (.inl rfl) rfl) shapeCasts_S128_S1x128)
      (broadcast S1x128 (Named.named (F := Ideal) Cert.Kernel2Ideal.κ "gone" 0xC2C80000#32))) k = 0#1 := by
  idx_vars k
  pointwise
  rw [IdealRules.named_const.ideal_named_scalar _ _ _ _ rfl]
  have e : ¬ Finset.univ.fold max (Ideal.ofBits FTy.f32 0xFF800000#32) (fun x : Fin 512 => w (ix3 0 x k1)) ≤ (⊥ : EReal) := fun h => by
    have h1 := (Finset.fold_max_le (s := Finset.univ) (f := fun x : Fin 512 => w (ix3 0 x k1)) (b := Ideal.ofBits FTy.f32 0xFF800000#32) (⊥ : EReal)).mp h
    have h2 := h1.2 0 (Finset.mem_univ _)
    rw [hw 0 k1] at h2
    exact EReal.coe_ne_bot _ (le_bot_iff.mp h2)
  have e2 : ∀ b : BitVec 1, IntOp.andi b 0#1 = 0#1 := by decide
  refine Eq.trans (congrArg _ ?_) (e2 _)
  rw [decide_eq_false e]; rfl

/-- No column of finite numbers is at or under the mark, so no block is counted. -/
theorem count_zero (v19 : IVec S1x128 32) (v21 : BitVec 32) (w : Vec Ideal S1x512x128 .f32) (f : ℕ → ℕ → ℝ)
    (hw : ∀ (a : Fin 512) (l : Fin 128), w (ix3 0 a l) = ((f a.val l.val : ℝ) : EReal)) (h) :
    extractAt ![0, 0, 0] (k0_pay62 (F := Ideal) v19 v21 w) h = 0#32 :=
  count_none _ (mark_zero w f hw _) _ rfl _

end Cert.Kernel2Ideal.Hand
-- ==== Proof.Value2.Point.lean ====
/-
  One grid point of the kernel over finite numbers: the gradient of its 512 queries, and their part of the gradients of
  the keys and of the values, added to what the two blocks held.
  Here of the call that is handed two gradients and adds to them.
-/
module

public import proofs.«01_k».proof.Proof.Value2.Run
public import proofs.«01_k».proof.Proof.Value2.Loop
public import proofs.«01_k».proof.Proof.Value2.Runs

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Finset Cert.Stick

/-- What the point's blocks hold: head pair `h2`, queries from `s0`. -/
structure PointIn (x : In) (h2 s0 : ℕ) (w2 : S512x128.Idx → EReal) (w3 w4 : S4096x128.Idx → EReal) (w5 : S512x128.Idx → EReal)
    (w6 : S2x512x16.Idx → EReal) : Prop where
  q : R2 (n := 512) (m := 128) w2 (fun a c => x.Q (s0 + a) (128 * h2 + c) / 8)
  k : R2 (n := 4096) (m := 128) w3 (fun t c => x.K t (128 * h2 + c))
  v : R2 (n := 4096) (m := 128) w4 (fun t c => x.V t (128 * h2 + c))
  d : R2 (n := 512) (m := 128) w5 (fun a c => x.D (s0 + a) (128 * h2 + c))
  run : ∀ (e : Fin 2) (a : Fin 512) (l : Fin 16), w6 (ix3 e a l) = ((Suf x (2 * h2 + e.val) (s0 + a.val) (256 * l.val) : ℝ) : EReal)

theorem off5_0 : ∀ i : grid0.Coords, k0_off5 i 0#32 = ![256 * (2 * (i 1).val), 0] := by decide +kernel
theorem off5_1 : ∀ i : grid0.Coords, k0_off5 i 1#32 = ![256 * (2 * (i 1).val + 1), 0] := by decide +kernel
theorem off6_0 : ∀ i : grid0.Coords, k0_off6 i 0#32 = ![256 * (2 * (i 1).val), 64] := by decide +kernel
theorem off6_1 : ∀ i : grid0.Coords, k0_off6 i 1#32 = ![256 * (2 * (i 1).val + 1), 64] := by decide +kernel

theorem point_first : ∀ i : grid0.Coords, (bodyOut.sl.v2 i = 1#1) ↔ (i 1).val = 0 := by decide +kernel

variable (c : Dev nD) (i : grid0.Coords) (arg2 : Memref sig .tc .vmem S512x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S512x128 .f32) (harg5 : arg5.IsWhole) (arg6 : Memref sig .tc .vmem S2x512x16 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S512x128 .f32) (harg9 : arg9.IsWhole) (arg10 : Memref sig .tc .vmem S4096x128 .f32) (harg10 : arg10.IsWhole) (arg11 : Memref sig .tc .vmem S4096x128 .f32) (harg11 : arg11.IsWhole) (arg12 : Memref sig .tc .vmem S2x512x128 .f32) (harg12 : arg12.IsWhole) (f2 : BufTy.Contents (Elt Ideal) arg2.view.ty) (f3 : BufTy.Contents (Elt Ideal) arg3.view.ty) (f4 : BufTy.Contents (Elt Ideal) arg4.view.ty) (f5 : BufTy.Contents (Elt Ideal) arg5.view.ty) (f6 : BufTy.Contents (Elt Ideal) arg6.view.ty) (f7 : BufTy.Contents (Elt Ideal) arg7.view.ty) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty)

/-- The block's side condition at the point's two counts. -/
theorem hck : k0_chk1 i (bodyOut.sl.v56 (F := Ideal) i arg6 arg12 f6) (bodyOut.sl.v83 (F := Ideal) i arg6 arg12 f6) :=
  chk i _ _ (head0_nonneg _ _ _ _) (head1_nonneg _ _ _ _)

/-- The scratch after the sums are copied in. -/
def scr : BufTy.Contents (Elt Ideal) arg12.view.ty := arg12.view.writes (Elt Ideal) arg12.view.junk (bodyOut.sl.H12_4 arg6 f6)

/-- A whole block loaded. -/
def ld (m : Memref sig .tc .vmem S4096x128 .f32) (f : BufTy.Contents (Elt Ideal) m.view.ty) : S4096x128.Idx → EReal :=
  m.view.readAt (Elt Ideal) (Rect.unit (s := S4096x128) ![0, 0] S4096x128.size inb_S4096x128_S4096x128_0_0).toLoadRect f

/-- The contents a gradient's block starts the point with: at the first block of queries the block `w` handed in. -/
def start0 (m : Memref sig .tc .vmem S4096x128 .f32) (f : BufTy.Contents (Elt Ideal) m.view.ty) (w : S4096x128.Idx → EReal) : BufTy.Contents (Elt Ideal) m.view.ty :=
  if hc : bodyOut.sl.v2 i = 1#1 then m.view.writes (Elt Ideal) f [⟨Rect.unit (s := S4096x128) ![0, 0] S4096x128.size inb_S4096x128_S4096x128_0_0, w⟩] else f

/-- The state the first copy of the loop ends in. -/
def fin1 := st_k0_t1 (F := Ideal) Variants.none c none i arg2 harg2 arg3 harg3 arg4 harg4 arg5 harg5 arg6 harg6 arg7 harg7 arg8 harg8 arg9 harg9 arg10 harg10 arg11 harg11 arg12 harg12 (BitVec.ofNat 32 (i 1).val) bodyOut.sl.v8 bodyOut.sl.v12 (bodyOut.sl.v16 i) bodyOut.sl.v17 bodyOut.sl.v18 bodyOut.sl.v19 (bodyOut.sl.v21 i) (bodyOut.sl.v23 arg2 f2) (bodyOut.sl.v25 arg2 f2) (bodyOut.sl.v27 arg5 f5) (bodyOut.sl.v29 arg5 f5) (bodyOut.sl.v56 i arg6 arg12 f6) (bodyOut.sl.v57 i arg6 arg12 f6) (bodyOut.sl.r arg6 arg12 f6) (bodyOut.sl.v83 i arg6 arg12 f6) (hck i arg6 arg12 f6) (bodyOut.sl.v84 i arg6 arg12 f6) f3 f4 (scr arg6 arg12 f6) (start0 i arg10 f10 (ld arg7 f7)) (start0 i arg11 f11 (ld arg8 f8)) (k0_pay67, k0_pay68, k0_pay67, k0_pay68) (k0_t1_loop i (bodyOut.sl.v56 i arg6 arg12 f6) (bodyOut.sl.v83 i arg6 arg12 f6)).trips

/-- The state the second copy of the loop ends in. -/
def fin2 := st_k0_t2 (F := Ideal) Variants.none c none i arg2 harg2 arg3 harg3 arg4 harg4 arg5 harg5 arg6 harg6 arg7 harg7 arg8 harg8 arg9 harg9 arg10 harg10 arg11 harg11 arg12 harg12 (BitVec.ofNat 32 (i 1).val) bodyOut.sl.v8 bodyOut.sl.v12 (bodyOut.sl.v16 i) bodyOut.sl.v17 bodyOut.sl.v18 bodyOut.sl.v19 (bodyOut.sl.v21 i) (bodyOut.sl.v23 arg2 f2) (bodyOut.sl.v25 arg2 f2) (bodyOut.sl.v27 arg5 f5) (bodyOut.sl.v29 arg5 f5) (bodyOut.sl.v56 i arg6 arg12 f6) (bodyOut.sl.v57 i arg6 arg12 f6) (bodyOut.sl.r arg6 arg12 f6) (bodyOut.sl.v83 i arg6 arg12 f6) (hck i arg6 arg12 f6) (bodyOut.sl.v92 i arg6 arg12 f6) f3 f4 (scr arg6 arg12 f6) (arg10.view.writes (Elt Ideal) (start0 i arg10 f10 (ld arg7 f7)) (fin1 c i arg2 harg2 arg3 harg3 arg4 harg4 arg5 harg5 arg6 harg6 arg7 harg7 arg8 harg8 arg9 harg9 arg10 harg10 arg11 harg11 arg12 harg12 f2 f3 f4 f5 f6 f7 f8 f10 f11).2.1)
  (arg11.view.writes (Elt Ideal) (start0 i arg11 f11 (ld arg8 f8)) (fin1 c i arg2 harg2 arg3 harg3 arg4 harg4 arg5 harg5 arg6 harg6 arg7 harg7 arg8 harg8 arg9 harg9 arg10 harg10 arg11 harg11 arg12 harg12 f2 f3 f4 f5 f6 f7 f8 f10 f11).2.2) ((fin1 c i arg2 harg2 arg3 harg3 arg4 harg4 arg5 harg5 arg6 harg6 arg7 harg7 arg8 harg8 arg9 harg9 arg10 harg10 arg11 harg11 arg12 harg12 f2 f3 f4 f5 f6 f7 f8 f10 f11).1.1, (fin1 c i arg2 harg2 arg3 harg3 arg4 harg4 arg5 harg5 arg6 harg6 arg7 harg7 arg8 harg8 arg9 harg9 arg10 harg10 arg11 harg11 arg12 harg12 f2 f3 f4 f5 f6 f7 f8 f10 f11).1.2.1, (fin1 c i arg2 harg2 arg3 harg3 arg4 harg4 arg5 harg5 arg6 harg6 arg7 harg7 arg8 harg8 arg9 harg9 arg10 harg10 arg11 harg11 arg12 harg12 f2 f3 f4 f5 f6 f7 f8 f10 f11).1.2.2.1, (fin1 c i arg2 harg2 arg3 harg3 arg4 harg4 arg5 harg5 arg6 harg6 arg7 harg7 arg8 harg8 arg9 harg9 arg10 harg10 arg11 harg11 arg12 harg12 f2 f3 f4 f5 f6 f7 f8 f10 f11).1.2.2.2) (k0_t2_loop i (bodyOut.sl.v56 i arg6 arg12 f6) (bodyOut.sl.v83 i arg6 arg12 f6)).trips

/-- The second copy runs no trip. -/
theorem fin2_eq : (fin2 c i arg2 harg2 arg3 harg3 arg4 harg4 arg5 harg5 arg6 harg6 arg7 harg7 arg8 harg8 arg9 harg9 arg10 harg10 arg11 harg11 arg12 harg12 f2 f3 f4 f5 f6 f7 f8 f10 f11) = ((fin1 c i arg2 harg2 arg3 harg3 arg4 harg4 arg5 harg5 arg6 harg6 arg7 harg7 arg8 harg8 arg9 harg9 arg10 harg10 arg11 harg11 arg12 harg12 f2 f3 f4 f5 f6 f7 f8 f10 f11).1, [], []) := by
  have h : (k0_t2_loop i (bodyOut.sl.v56 i arg6 arg12 f6) (bodyOut.sl.v83 i arg6 arg12 f6)).trips = 0 := (words i _ _ (head0_nonneg _ _ _ _) (head1_nonneg _ _ _ _)).2.2.2.2.2.1
  unfold fin2
  rw [h]
  rfl

variable {x : In} {h2 s0 : ℕ}

section scratch
variable (hrun : ∀ (e : Fin 2) (a : Fin 512) (l : Fin 16), arg6.view.read (Elt Ideal) f6 (ix3 e a l) = ((Suf x (2 * h2 + e.val) (s0 + a.val) (256 * l.val) : ℝ) : EReal))
include hrun

/-- What head 0's slab holds once it is filled. -/
theorem slab0 (a : Fin 512) (l : Fin 128) : arg12.view.read (Elt Ideal) (arg12.view.writes (Elt Ideal) arg12.view.junk (bodyOut.sl.H12_2 arg6 f6)) (ix3 0 a l)
    = ((Suf x (2 * h2) (s0 + a.val) (256 * l.val) : ℝ) : EReal) := by
  unfold bodyOut.sl.H12_2
  rw [store3]
  by_cases hl : l.val < 16
  · rw [dif_pos ⟨rfl, a.isLt, hl⟩, pay63_apply]
    refine (load3 arg6.view f6 0 _ a ⟨l.val, hl⟩ (by omega) a.isLt hl).trans ?_
    exact hrun 0 a ⟨l.val, hl⟩
  · rw [dif_neg (by omega), store3, dif_pos ⟨rfl, a.isLt, l.isLt⟩]
    refine (zeros_apply _ a l).trans ?_
    rw [Suf_end x _ _ _ (by omega)]

theorem scr0 (a : Fin 512) (l : Fin 128) : (arg12.view.readAt (Elt Ideal) (Rect.unit (s := S2x512x128) ![0, 0, 0] S1x512x128.size inb_S2x512x128_S1x512x128_0_0_0).toLoadRect (scr arg6 arg12 f6)) (ix3 0 a l) = ((Suf x (2 * h2) (s0 + a.val) (256 * l.val) : ℝ) : EReal) := by
  refine (load3 arg12.view _ 0 _ a l (by omega) a.isLt l.isLt).trans ?_
  unfold scr bodyOut.sl.H12_4
  rw [store3, dif_neg (by simp), store3, dif_neg (by simp)]
  exact slab0 arg6 arg12 f6 hrun a l

theorem scr1 (a : Fin 512) (l : Fin 128) : (arg12.view.readAt (Elt Ideal) (Rect.unit (s := S2x512x128) ![1, 0, 0] S1x512x128.size inb_S2x512x128_S1x512x128_1_0_0).toLoadRect (scr arg6 arg12 f6)) (ix3 0 a l) = ((Suf x (2 * h2 + 1) (s0 + a.val) (256 * l.val) : ℝ) : EReal) := by
  refine (load3 arg12.view _ 1 _ a l (by omega) a.isLt l.isLt).trans ?_
  unfold scr bodyOut.sl.H12_4
  rw [store3]
  by_cases hl : l.val < 16
  · rw [dif_pos ⟨rfl, a.isLt, hl⟩, pay66_apply]
    refine (load3 arg6.view f6 1 _ a ⟨l.val, hl⟩ (by omega) a.isLt hl).trans ?_
    exact hrun 1 a ⟨l.val, hl⟩
  · rw [dif_neg (fun h => hl h.2.2), store3, dif_pos ⟨rfl, a.isLt, l.isLt⟩]
    refine (zeros_apply _ a l).trans ?_
    rw [Suf_end x _ _ _ (by omega)]

/-- Head 0 counts no block, so the loop starts at block 0. -/
theorem v56_zero : bodyOut.sl.v56 (F := Ideal) i arg6 arg12 f6 = 0#32 :=
  count_zero _ _ _ (fun a l => Suf x (2 * h2) (s0 + a) (256 * l)) (fun a l =>
    (load3 arg12.view _ 0 inb_S2x512x128_S1x512x128_0_0_0 a l (by omega) a.isLt l.isLt).trans (slab0 arg6 arg12 f6 hrun a l)) _

theorem start_zero : start i (bodyOut.sl.v56 (F := Ideal) i arg6 arg12 f6) (bodyOut.sl.v83 (F := Ideal) i arg6 arg12 f6) = 0 := by
  have h0 := v56_zero i arg6 arg12 f6 hrun
  have h1 : 0 ≤ (bodyOut.sl.v83 (F := Ideal) i arg6 arg12 f6).toInt := head1_nonneg _ _ _ _
  unfold start
  rw [h0]
  have : (0#32).toInt = 0 := rfl
  omega

theorem v84_zero : bodyOut.sl.v84 (F := Ideal) i arg6 arg12 f6 = 0#32 := by
  have h : Affine.IsInt (bodyOut.sl.v84 (F := Ideal) i arg6 arg12 f6) (start i (bodyOut.sl.v56 (F := Ideal) i arg6 arg12 f6) (bodyOut.sl.v83 (F := Ideal) i arg6 arg12 f6)) :=
    (words i _ _ (head0_nonneg _ _ _ _) (head1_nonneg _ _ _ _)).2.2.2.2.2.2
  rw [start_zero i arg6 arg12 f6 hrun] at h
  unfold Affine.IsInt at h
  exact BitVec.toInt_inj.mp h

theorem trips_eq : (k0_t1_loop i (bodyOut.sl.v56 i arg6 arg12 f6) (bodyOut.sl.v83 i arg6 arg12 f6)).trips = 2 * (i 1).val := by
  have h := (words i _ _ (head0_nonneg (F := Ideal) bodyOut.sl.v19 (bodyOut.sl.v21 i) (bodyOut.sl.v40 arg6 arg12 f6) inpos_S1x1x1_p0_0_0)
    (head1_nonneg (F := Ideal) bodyOut.sl.v19 (bodyOut.sl.v21 i) (bodyOut.sl.r arg6 arg12 f6) inpos_S1x1x1_p0_0_0)).2.2.2.1
  refine h.trans ?_
  have := start_zero i arg6 arg12 f6 hrun
  unfold bodyOut.sl.v56 bodyOut.sl.v83 at this
  rw [this]
  omega

end scratch

end Cert.Kernel2Ideal.Hand
-- ==== Proof.Value2.Body.lean ====
/-
  One grid point of the kernel over finite numbers: the gradient of its 512 queries, and their part of the gradients of
  the keys and of the values, added to what the two blocks held.
  Here of the call that is handed two gradients and adds to them.
-/
module

public import proofs.«01_k».proof.Proof.Value2.Point
public import proofs.«01_k».proof.Proof.Value.Body

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Finset Cert.Stick
open Cert.KernelIdeal.Hand (row_word col_word lane_word store_pair eighth_f32)

/-- The mask of the diagonal's first block, and of its second. -/
theorem mask0 (i : grid0.Coords) : MaskOk (some (bodyOut.sl.r_5 i)) (512 * (i 1).val) (256 * (2 * (i 1).val)) := by
  intro a t
  have hi : (i 1).val < 8 := (i 1).isLt
  pointwise [bodyOut.sl.r_5, k0_pay79, bodyOut.sl.v16, bodyOut.sl.v15, bodyOut.sl.v14, bodyOut.sl.v13, bodyOut.sl.v17]
  refine (congrArg₂ (IntOp.cmpi .slt) (col_word (i 1).val 0 t.val) (row_word (i 1).val a.val)).trans ?_
  exact cmp_slt (by omega) (by omega)

theorem mask1 (i : grid0.Coords) : MaskOk (some (bodyOut.sl.v268 i)) (512 * (i 1).val) (256 * (2 * (i 1).val + 1)) := by
  intro a t
  have hi : (i 1).val < 8 := (i 1).isLt
  pointwise [bodyOut.sl.v268, bodyOut.sl.v267, bodyOut.sl.v266, bodyOut.sl.v264, bodyOut.sl.v263, bodyOut.sl.v95, bodyOut.sl.v16, bodyOut.sl.v15, bodyOut.sl.v14, bodyOut.sl.v13, bodyOut.sl.v17]
  refine (congrArg₂ (IntOp.cmpi .slt) (col_word (i 1).val 1 t.val) (row_word (i 1).val a.val)).trans ?_
  exact cmp_slt (by omega) (by omega)

theorem R2.eighth {w : FVec Ideal S512x64 .f32} {f : ℕ → ℕ → ℝ} (h : R2 w f) :
    R2 (k0_pay3 w) (fun a c => f a c / 8) ∧ R2 (k0_pay4 w) (fun a c => f a c / 8) := by
  constructor <;> intro a c
  · pointwise [k0_pay3]
    rw [h a c, eighth_f32, ← EReal.coe_mul]; congr 1; ring
  · pointwise [k0_pay4]
    rw [h a c, eighth_f32, ← EReal.coe_mul]; congr 1; ring

theorem lanes (a : Fin 512) (t : Fin 128) : bodyOut.sl.v18 (ix2 a t) = BitVec.ofNat 32 t.val := by
  pointwise [bodyOut.sl.v18]

theorem carry0 {x : In} {h2 s0 : ℕ} : Carry x h2 s0 0 (k0_pay67 (F := Ideal), k0_pay68 (F := Ideal), k0_pay67 (F := Ideal), k0_pay68 (F := Ideal)) := by
  have e1 : ∀ (f : ℕ → ℕ → ℝ), (∀ a b, f a b = 0) → R2 (k0_pay67 (F := Ideal)) f := fun f hf a b => by
    rw [hf]; pointwise [k0_pay67]; rfl
  have e2 : ∀ (f : ℕ → ℕ → ℝ), (∀ a b, f a b = 0) → R2 (k0_pay68 (F := Ideal)) f := fun f hf a b => by
    rw [hf]; pointwise [k0_pay68]; rfl
  exact ⟨e1 _ fun _ _ => by simp, e2 _ fun _ _ => by simp [gQ], e1 _ fun _ _ => by simp, e2 _ fun _ _ => by simp [gQ]⟩

variable (c : Dev nD) (i : grid0.Coords) (arg2 : Memref sig .tc .vmem S512x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S512x128 .f32) (harg5 : arg5.IsWhole) (arg6 : Memref sig .tc .vmem S2x512x16 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S512x128 .f32) (harg9 : arg9.IsWhole) (arg10 : Memref sig .tc .vmem S4096x128 .f32) (harg10 : arg10.IsWhole) (arg11 : Memref sig .tc .vmem S4096x128 .f32) (harg11 : arg11.IsWhole) (arg12 : Memref sig .tc .vmem S2x512x128 .f32) (harg12 : arg12.IsWhole) (f2 : BufTy.Contents (Elt Ideal) arg2.view.ty) (f3 : BufTy.Contents (Elt Ideal) arg3.view.ty) (f4 : BufTy.Contents (Elt Ideal) arg4.view.ty) (f5 : BufTy.Contents (Elt Ideal) arg5.view.ty) (f6 : BufTy.Contents (Elt Ideal) arg6.view.ty) (f7 : BufTy.Contents (Elt Ideal) arg7.view.ty) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty)
variable {x : In} {h2 : ℕ}
  (P : PointIn x h2 (512 * (i 1).val) (arg2.view.read (Elt Ideal) f2) (arg3.view.read (Elt Ideal) f3) (arg4.view.read (Elt Ideal) f4)
    (arg5.view.read (Elt Ideal) f5) (arg6.view.read (Elt Ideal) f6))
include P

theorem loopIn : LoopIn x h2 (512 * (i 1).val) (bodyOut.sl.v8 (F := Ideal)) (bodyOut.sl.v12 (F := Ideal)) bodyOut.sl.v18 (bodyOut.sl.v23 arg2 f2) (bodyOut.sl.v25 arg2 f2)
    (bodyOut.sl.v27 arg5 f5) (bodyOut.sl.v29 arg5 f5) (arg3.view.read (Elt Ideal) f3) (arg4.view.read (Elt Ideal) f4) (arg12.view.readAt (Elt Ideal) (Rect.unit (s := S2x512x128) ![0, 0, 0] S1x512x128.size inb_S2x512x128_S1x512x128_0_0_0).toLoadRect (scr arg6 arg12 f6)) (arg12.view.readAt (Elt Ideal) (Rect.unit (s := S2x512x128) ![1, 0, 0] S1x512x128.size inb_S2x512x128_S1x512x128_1_0_0).toLoadRect (scr arg6 arg12 f6)) where
  ts := R2.tsuf
  tp := R2.tpre
  lane := lanes
  q0 := R2.same (φ := .bf16) ((R2.load16 arg2.view f2 P.q ![0, 0] 0 0 rfl _).congr fun a d ha hd => by
    rw [show 0 + a = a by omega, show 128 * h2 + (0 + d) = 64 * (2 * h2) + d by omega]) _
  q1 := R2.same (φ := .bf16) ((R2.load16 arg2.view f2 P.q ![0, 64] 0 64 rfl _).congr fun a d ha hd => by
    rw [show 0 + a = a by omega, show 128 * h2 + (64 + d) = 64 * (2 * h2 + 1) + d by omega]) _
  d0 := (R2.load arg5.view f5 P.d ![0, 0] 0 0 rfl inb_S512x128_S512x64_0_0).congr fun a d ha hd => by
    rw [show 0 + a = a by omega, show 128 * h2 + (0 + d) = 64 * (2 * h2) + d by omega]
  d1 := (R2.load arg5.view f5 P.d ![0, 64] 0 64 rfl inb_S512x128_S512x64_0_64).congr fun a d ha hd => by
    rw [show 0 + a = a by omega, show 128 * h2 + (64 + d) = 64 * (2 * h2 + 1) + d by omega]
  k := P.k
  v := P.v
  run0 := scr0 arg6 arg12 f6 P.run
  run1 := scr1 arg6 arg12 f6 P.run

/-- What the loop leaves, before the two blocks on the diagonal. -/
theorem after_loop {g10 g11 : ℕ → ℕ → EReal} (h10 : RE (arg10.view.read (Elt Ideal) (start0 i arg10 f10 (ld arg7 f7))) g10) (h11 : RE (arg11.view.read (Elt Ideal) (start0 i arg11 f11 (ld arg8 f8))) g11) :
    Carry x h2 (512 * (i 1).val) (2 * (i 1).val) (fin2 c i arg2 harg2 arg3 harg3 arg4 harg4 arg5 harg5 arg6 harg6 arg7 harg7 arg8 harg8 arg9 harg9 arg10 harg10 arg11 harg11 arg12 harg12 f2 f3 f4 f5 f6 f7 f8 f10 f11).1
    ∧ RE (arg10.view.read (Elt Ideal) (arg10.view.writes (Elt Ideal) (start0 i arg10 f10 (ld arg7 f7)) ((fin2 c i arg2 harg2 arg3 harg3 arg4 harg4 arg5 harg5 arg6 harg6 arg7 harg7 arg8 harg8 arg9 harg9 arg10 harg10 arg11 harg11 arg12 harg12 f2 f3 f4 f5 f6 f7 f8 f10 f11).2.1 ++ (fin1 c i arg2 harg2 arg3 harg3 arg4 harg4 arg5 harg5 arg6 harg6 arg7 harg7 arg8 harg8 arg9 harg9 arg10 harg10 arg11 harg11 arg12 harg12 f2 f3 f4 f5 f6 f7 f8 f10 f11).2.1))) (accE g10 (gK x h2 (512 * (i 1).val)) (2 * (i 1).val) 0)
    ∧ RE (arg11.view.read (Elt Ideal) (arg11.view.writes (Elt Ideal) (start0 i arg11 f11 (ld arg8 f8)) ((fin2 c i arg2 harg2 arg3 harg3 arg4 harg4 arg5 harg5 arg6 harg6 arg7 harg7 arg8 harg8 arg9 harg9 arg10 harg10 arg11 harg11 arg12 harg12 f2 f3 f4 f5 f6 f7 f8 f10 f11).2.2 ++ (fin1 c i arg2 harg2 arg3 harg3 arg4 harg4 arg5 harg5 arg6 harg6 arg7 harg7 arg8 harg8 arg9 harg9 arg10 harg10 arg11 harg11 arg12 harg12 f2 f3 f4 f5 f6 f7 f8 f10 f11).2.2))) (accE g11 (gV x h2 (512 * (i 1).val)) (2 * (i 1).val) 0) := by
  have hi : (i 1).val < 8 := (i 1).isLt
  have hT := trips_eq i arg6 arg12 f6 P.run
  have H := loop Variants.none c none i arg2 harg2 arg3 harg3 arg4 harg4 arg5 harg5 arg6 harg6 arg7 harg7 arg8 harg8 arg9 harg9 arg10 harg10 arg11 harg11 arg12 harg12 (BitVec.ofNat 32 (i 1).val) bodyOut.sl.v8 bodyOut.sl.v12 (bodyOut.sl.v16 i) bodyOut.sl.v17 bodyOut.sl.v18 bodyOut.sl.v19 (bodyOut.sl.v21 i) (bodyOut.sl.v23 arg2 f2) (bodyOut.sl.v25 arg2 f2) (bodyOut.sl.v27 arg5 f5) (bodyOut.sl.v29 arg5 f5) (bodyOut.sl.v56 i arg6 arg12 f6) (bodyOut.sl.v57 i arg6 arg12 f6) (bodyOut.sl.r arg6 arg12 f6) (bodyOut.sl.v83 i arg6 arg12 f6) (hck i arg6 arg12 f6) (bodyOut.sl.v84 i arg6 arg12 f6) f3 f4 (scr arg6 arg12 f6) (loopIn i arg2 arg3 arg4 arg5 arg6 arg12 f2 f3 f4 f5 f6 P)
    (head0_nonneg _ _ _ _) (head1_nonneg _ _ _ _) (start_zero i arg6 arg12 f6 P.run) (v84_zero i arg6 arg12 f6 P.run)
    (fun n hn => by rw [hT] at hn; omega) (by omega) (start0 i arg10 f10 (ld arg7 f7)) (start0 i arg11 f11 (ld arg8 f8)) _ carry0 g10 g11 h10 h11 _ le_rfl
  rw [fin2_eq]
  unfold fin1
  rw [hT] at H ⊢
  exact H

theorem opsA0 (pg : FVec Ideal S512x1 .f32) (hp : R2 pg (fun a _ => ∑ j ∈ range (256 * (2 * (i 1).val)), Gr x (2 * h2) (512 * (i 1).val + a) j)) :
    Ops x (2 * h2) (512 * (i 1).val) (256 * (2 * (i 1).val)) (some (bodyOut.sl.r_5 i)) (bodyOut.sl.v23 arg2 f2) (bodyOut.sl.v27 arg5 f5) (bodyOut.sl.r_6 i arg3 f3) (bodyOut.sl.r_7 i arg4 f4) (bodyOut.sl.v8 (F := Ideal)) (bodyOut.sl.v12 (F := Ideal))
      (mRight bodyOut.sl.v18 (bodyOut.sl.v188 i) (arg12.view.readAt (Elt Ideal) (Rect.unit (s := S2x512x128) ![0, 0, 0] S1x512x128.size inb_S2x512x128_S1x512x128_0_0_0).toLoadRect (scr arg6 arg12 f6))) pg := by
  have hi : (i 1).val < 8 := (i 1).isLt
  have L := loopIn i arg2 arg3 arg4 arg5 arg6 arg12 f2 f3 f4 f5 f6 P
  refine ⟨mask0 i, by omega, L.q0, L.d0, ?_, ?_, L.ts, L.tp, ?_, hp⟩
  · exact R2.same (φ := .bf16) ((R2.load16 arg3.view f3 P.k _ (256 * (2 * (i 1).val)) 0 (off5_0 i) _).congr fun t d ht hd => by
      show x.K _ _ = x.K _ _; congr 1; omega) _
  · exact R2.same (φ := .bf16) ((R2.load16 arg4.view f4 P.v _ (256 * (2 * (i 1).val)) 0 (off5_0 i) _).congr fun t d ht hd => by
      show x.V _ _ = x.V _ _; congr 1; omega) _
  · refine (R2.right (l := (2 * (i 1).val) + 1) (f := fun a l => Suf x (2 * h2) (512 * (i 1).val + a) (256 * l)) (by omega) L.lane (lane_word (i 1).val 0) L.run0).congr fun a t _ _ => ?_
    show Suf x (2 * h2) (512 * (i 1).val + a) (256 * ((2 * (i 1).val) + 1)) = _
    congr 1

theorem opsA1 (pg : FVec Ideal S512x1 .f32) (hp : R2 pg (fun a _ => ∑ j ∈ range (256 * (2 * (i 1).val)), Gr x (2 * h2 + 1) (512 * (i 1).val + a) j)) :
    Ops x (2 * h2 + 1) (512 * (i 1).val) (256 * (2 * (i 1).val)) (some (bodyOut.sl.r_5 i)) (bodyOut.sl.v25 arg2 f2) (bodyOut.sl.v29 arg5 f5) (bodyOut.sl.v184 i arg3 f3) (bodyOut.sl.v187 i arg4 f4) (bodyOut.sl.v8 (F := Ideal)) (bodyOut.sl.v12 (F := Ideal))
      (mRight bodyOut.sl.v18 (bodyOut.sl.v188 i) (arg12.view.readAt (Elt Ideal) (Rect.unit (s := S2x512x128) ![1, 0, 0] S1x512x128.size inb_S2x512x128_S1x512x128_1_0_0).toLoadRect (scr arg6 arg12 f6))) pg := by
  have hi : (i 1).val < 8 := (i 1).isLt
  have L := loopIn i arg2 arg3 arg4 arg5 arg6 arg12 f2 f3 f4 f5 f6 P
  refine ⟨mask0 i, by omega, L.q1, L.d1, ?_, ?_, L.ts, L.tp, ?_, hp⟩
  · exact R2.same (φ := .bf16) ((R2.load16 arg3.view f3 P.k _ (256 * (2 * (i 1).val)) 64 (off6_0 i) _).congr fun t d ht hd => by
      show x.K _ _ = x.K _ _; congr 1; omega) _
  · exact R2.same (φ := .bf16) ((R2.load16 arg4.view f4 P.v _ (256 * (2 * (i 1).val)) 64 (off6_0 i) _).congr fun t d ht hd => by
      show x.V _ _ = x.V _ _; congr 1; omega) _
  · refine (R2.right (l := (2 * (i 1).val) + 1) (f := fun a l => Suf x (2 * h2 + 1) (512 * (i 1).val + a) (256 * l)) (by omega) L.lane (lane_word (i 1).val 0) L.run1).congr fun a t _ _ => ?_
    show Suf x (2 * h2 + 1) (512 * (i 1).val + a) (256 * ((2 * (i 1).val) + 1)) = _
    congr 1

theorem opsB0 (pg : FVec Ideal S512x1 .f32) (hp : R2 pg (fun a _ => ∑ j ∈ range (256 * (2 * (i 1).val + 1)), Gr x (2 * h2) (512 * (i 1).val + a) j)) :
    Ops x (2 * h2) (512 * (i 1).val) (256 * (2 * (i 1).val + 1)) (some (bodyOut.sl.v268 i)) (bodyOut.sl.v23 arg2 f2) (bodyOut.sl.v27 arg5 f5) (bodyOut.sl.v271 i arg3 f3) (bodyOut.sl.v274 i arg4 f4) (bodyOut.sl.v8 (F := Ideal)) (bodyOut.sl.v12 (F := Ideal))
      (mRight bodyOut.sl.v18 (bodyOut.sl.v275 i) (arg12.view.readAt (Elt Ideal) (Rect.unit (s := S2x512x128) ![0, 0, 0] S1x512x128.size inb_S2x512x128_S1x512x128_0_0_0).toLoadRect (scr arg6 arg12 f6))) pg := by
  have hi : (i 1).val < 8 := (i 1).isLt
  have L := loopIn i arg2 arg3 arg4 arg5 arg6 arg12 f2 f3 f4 f5 f6 P
  refine ⟨mask1 i, by omega, L.q0, L.d0, ?_, ?_, L.ts, L.tp, ?_, hp⟩
  · exact R2.same (φ := .bf16) ((R2.load16 arg3.view f3 P.k _ (256 * (2 * (i 1).val + 1)) 0 (off5_1 i) _).congr fun t d ht hd => by
      show x.K _ _ = x.K _ _; congr 1; omega) _
  · exact R2.same (φ := .bf16) ((R2.load16 arg4.view f4 P.v _ (256 * (2 * (i 1).val + 1)) 0 (off5_1 i) _).congr fun t d ht hd => by
      show x.V _ _ = x.V _ _; congr 1; omega) _
  · refine (R2.right (l := (2 * (i 1).val + 1) + 1) (f := fun a l => Suf x (2 * h2) (512 * (i 1).val + a) (256 * l)) (by omega) L.lane (lane_word (i 1).val 1) L.run0).congr fun a t _ _ => ?_
    show Suf x (2 * h2) (512 * (i 1).val + a) (256 * ((2 * (i 1).val + 1) + 1)) = _
    congr 1

theorem opsB1 (pg : FVec Ideal S512x1 .f32) (hp : R2 pg (fun a _ => ∑ j ∈ range (256 * (2 * (i 1).val + 1)), Gr x (2 * h2 + 1) (512 * (i 1).val + a) j)) :
    Ops x (2 * h2 + 1) (512 * (i 1).val) (256 * (2 * (i 1).val + 1)) (some (bodyOut.sl.v268 i)) (bodyOut.sl.v25 arg2 f2) (bodyOut.sl.v29 arg5 f5) (bodyOut.sl.v350 i arg3 f3) (bodyOut.sl.v353 i arg4 f4) (bodyOut.sl.v8 (F := Ideal)) (bodyOut.sl.v12 (F := Ideal))
      (mRight bodyOut.sl.v18 (bodyOut.sl.v275 i) (arg12.view.readAt (Elt Ideal) (Rect.unit (s := S2x512x128) ![1, 0, 0] S1x512x128.size inb_S2x512x128_S1x512x128_1_0_0).toLoadRect (scr arg6 arg12 f6))) pg := by
  have hi : (i 1).val < 8 := (i 1).isLt
  have L := loopIn i arg2 arg3 arg4 arg5 arg6 arg12 f2 f3 f4 f5 f6 P
  refine ⟨mask1 i, by omega, L.q1, L.d1, ?_, ?_, L.ts, L.tp, ?_, hp⟩
  · exact R2.same (φ := .bf16) ((R2.load16 arg3.view f3 P.k _ (256 * (2 * (i 1).val + 1)) 64 (off6_1 i) _).congr fun t d ht hd => by
      show x.K _ _ = x.K _ _; congr 1; omega) _
  · exact R2.same (φ := .bf16) ((R2.load16 arg4.view f4 P.v _ (256 * (2 * (i 1).val + 1)) 64 (off6_1 i) _).congr fun t d ht hd => by
      show x.V _ _ = x.V _ _; congr 1; omega) _
  · refine (R2.right (l := (2 * (i 1).val + 1) + 1) (f := fun a l => Suf x (2 * h2 + 1) (512 * (i 1).val + a) (256 * l)) (by omega) L.lane (lane_word (i 1).val 1) L.run1).congr fun a t _ _ => ?_
    show Suf x (2 * h2 + 1) (512 * (i 1).val + a) (256 * ((2 * (i 1).val + 1) + 1)) = _
    congr 1

set_option maxHeartbeats 4000000 in
/-- The point's results: its queries' gradient, and the other two gradients' blocks with its part added. -/
theorem body_value {g10 g11 : ℕ → ℕ → EReal} (h10 : RE (arg10.view.read (Elt Ideal) (start0 i arg10 f10 (ld arg7 f7))) g10) (h11 : RE (arg11.view.read (Elt Ideal) (start0 i arg11 f11 (ld arg8 f8))) g11) :
    R2 (arg9.view.read (Elt Ideal) (bodyOut (F := Ideal) c i arg2 harg2 arg3 harg3 arg4 harg4 arg5 harg5 arg6 harg6 arg7 harg7 arg8 harg8 arg9 harg9 arg10 harg10 arg11 harg11 arg12 harg12 f2 f3 f4 f5 f6 f7 f8 f9 f10 f11 f12).1) (fun a c => DQ x (512 * (i 1).val + a) (128 * h2 + c))
    ∧ RE (arg10.view.read (Elt Ideal) (bodyOut (F := Ideal) c i arg2 harg2 arg3 harg3 arg4 harg4 arg5 harg5 arg6 harg6 arg7 harg7 arg8 harg8 arg9 harg9 arg10 harg10 arg11 harg11 arg12 harg12 f2 f3 f4 f5 f6 f7 f8 f9 f10 f11 f12).2.1) (fun t c => g10 t c + ((gK x h2 (512 * (i 1).val) t c : ℝ) : EReal))
    ∧ RE (arg11.view.read (Elt Ideal) (bodyOut (F := Ideal) c i arg2 harg2 arg3 harg3 arg4 harg4 arg5 harg5 arg6 harg6 arg7 harg7 arg8 harg8 arg9 harg9 arg10 harg10 arg11 harg11 arg12 harg12 f2 f3 f4 f5 f6 f7 f8 f9 f10 f11 f12).2.2.1) (fun t c => g11 t c + ((gV x h2 (512 * (i 1).val) t c : ℝ) : EReal)) := by
  have hi : (i 1).val < 8 := (i 1).isLt
  obtain ⟨C, L8, L9⟩ := after_loop c i arg2 harg2 arg3 harg3 arg4 harg4 arg5 harg5 arg6 harg6 arg7 harg7 arg8 harg8 arg9 harg9 arg10 harg10 arg11 harg11 arg12 harg12 f2 f3 f4 f5 f6 f7 f8 f10 f11 P h10 h11
  have A0 := opsA0 i arg2 arg3 arg4 arg5 arg6 arg12 f2 f3 f4 f5 f6 P _ C.p0
  have A1 := opsA1 i arg2 arg3 arg4 arg5 arg6 arg12 f2 f3 f4 f5 f6 P _ C.p1
  have B0 := opsB0 i arg2 arg3 arg4 arg5 arg6 arg12 f2 f3 f4 f5 f6 P _ (last_block A0)
  have B1 := opsB1 i arg2 arg3 arg4 arg5 arg6 arg12 f2 f3 f4 f5 f6 P _ (last_block A1)
  refine ⟨?_, ?_, ?_⟩
  · have Q0 := dq_block (n := 2 * (i 1).val + 1) B0 (dq_block (n := 2 * (i 1).val) A0 C.q0)
    have Q1 := dq_block (n := 2 * (i 1).val + 1) B1 (dq_block (n := 2 * (i 1).val) A1 C.q1)
    have S := store_pair arg9.view f9 _ _ (R2.eighth Q0).1 (R2.eighth Q1).2 inb_S512x128_S512x64_0_0 inb_S512x128_S512x64_0_64
    refine R2.congr (f := fun a c => if c < 64 then gQ x (2 * h2) (512 * (i 1).val) (256 * (2 * (i 1).val + 1 + 1)) a c / 8
      else gQ x (2 * h2 + 1) (512 * (i 1).val) (256 * (2 * (i 1).val + 1 + 1)) a (c - 64) / 8) ?_ fun a c ha hc => ?_
    · exact S
    · rw [show 256 * (2 * (i 1).val + 1 + 1) = 512 * (i 1).val + 512 by ring]
      unfold DQ
      by_cases h : c < 64
      · rw [if_pos h, gQ_all _ _ _ _ _ (by omega) ha]
        unfold gQ
        rw [show (128 * h2 + c) / 64 = 2 * h2 by omega, show 64 * (2 * h2) + c = 128 * h2 + c by ring]
      · rw [if_neg h, gQ_all _ _ _ _ _ (by omega) ha]
        unfold gQ
        rw [show (128 * h2 + c) / 64 = 2 * h2 + 1 by omega, show 64 * (2 * h2 + 1) + (c - 64) = 128 * h2 + c by omega]
  · have M1 := dk_blockE A0 A1 arg10.view (start0 i arg10 f10 (ld arg7 f7)) _ g10 _ _ (off5_0 i) (off6_0 i) (k0_off5_inb i 0) (k0_off6_inb i 0) L8
    have M2 := dk_blockE B0 B1 arg10.view (start0 i arg10 f10 (ld arg7 f7)) _ g10 _ _ (off5_1 i) (off6_1 i) (k0_off5_inb i 1) (k0_off6_inb i 1) M1
    refine RE.congr (f := accE g10 (gK x h2 (512 * (i 1).val)) (2 * (i 1).val + 1 + 1) 0) ?_ fun t c _ _ =>
      accE_all g10 _ (512 * (i 1).val) _ (by omega) (fun t c ht => gK_eq_zero x h2 _ t c ht) t c
    exact M2
  · have M1 := dv_blockE A0 A1 arg11.view (start0 i arg11 f11 (ld arg8 f8)) _ g11 _ _ (off5_0 i) (off6_0 i) (k0_off5_inb i 0) (k0_off6_inb i 0) L9
    have M2 := dv_blockE B0 B1 arg11.view (start0 i arg11 f11 (ld arg8 f8)) _ g11 _ _ (off5_1 i) (off6_1 i) (k0_off5_inb i 1) (k0_off6_inb i 1) M1
    refine RE.congr (f := accE g11 (gV x h2 (512 * (i 1).val)) (2 * (i 1).val + 1 + 1) 0) ?_ fun t c _ _ =>
      accE_all g11 _ (512 * (i 1).val) _ (by omega) (fun t c ht => gV_eq_zero x h2 _ t c ht) t c
    exact M2

end Cert.Kernel2Ideal.Hand
-- ==== Proof.Value2.Launch.lean ====
/-
  The kernel's launch over finite numbers: what the three output blocks hold after each of the 64 points, and so what the
  three result arrays end holding.
  Here of the call that is handed two gradients and adds to them.
-/
module

public import proofs.«01_k».proof.Proof.Value2.Body
public import proofs.«01_k».proof.Proof.Value.Launch
public import proofs.«01_k».proof.Proof.Kernel2Ideal.Frame
public import Idealize.ShloMosaic.Lib.Pipeline.ValueKit

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Finset Cert.Stick
open Cert.KernelIdeal.Hand (next_K next_V)

local notation "𝕄" => MT nD τ sig Unit (Elt Ideal) ℕ (UR sig nD τ) ℕ

variable (m : (ℓ : Loc nD τ sig) → Buf (Elt Ideal) ℓ) (ρ : Dev nD → PrngReg)

/-- What the launch finds in the first five input arrays, as numbers. -/
structure HostIn (x : Dev nD → In) : Prop where
  q : ∀ c, R2 (n := 4096) (m := 1024) (V m c main_v20) (fun s j => (x c).Q s j / 8)
  k : ∀ c, R2 (n := 4096) (m := 1024) (V m c main_v21) (x c).K
  v : ∀ c, R2 (n := 4096) (m := 1024) (V m c main_v22) (x c).V
  d : ∀ c, R2 (n := 4096) (m := 1024) (V m c main_arg3) (x c).D
  run : ∀ c (h : Fin 16) (s : Fin 4096) (l : Fin 16), (V m c main_v17 : S16x4096x16.Idx → EReal) (ix3 h s l) = ((Suf (x c) h.val s.val (256 * l.val) : ℝ) : EReal)

/-- A point's two coordinates: the pair of heads and the block of queries. -/
theorem coord0 : ∀ t : Fin cfg0.N, ((grid0.coords t) 0).val = t.val / 8 := by decide +kernel
theorem coord1 : ∀ t : Fin cfg0.N, ((grid0.coords t) 1).val = t.val % 8 := by decide +kernel

theorem idx0 : ∀ t : Fin cfg0.N, win0_0.index t 0 = t.val % 8 ∧ win0_0.index t 1 = t.val / 8 := by decide +kernel
theorem idx1 : ∀ t : Fin cfg0.N, win0_1.index t 0 = 0 ∧ win0_1.index t 1 = t.val / 8 := by decide +kernel
theorem idx2 : ∀ t : Fin cfg0.N, win0_2.index t 0 = 0 ∧ win0_2.index t 1 = t.val / 8 := by decide +kernel
theorem idx3 : ∀ t : Fin cfg0.N, win0_3.index t 0 = t.val % 8 ∧ win0_3.index t 1 = t.val / 8 := by decide +kernel
theorem idx4 : ∀ t : Fin cfg0.N, win0_4.index t 0 = t.val / 8 ∧ win0_4.index t 1 = t.val % 8 ∧ win0_4.index t 2 = 0 := by decide +kernel
theorem idx5 : ∀ t : Fin cfg0.N, win0_5.index t 0 = 0 ∧ win0_5.index t 1 = t.val / 8 := by decide +kernel
theorem idx6 : ∀ t : Fin cfg0.N, win0_6.index t 0 = 0 ∧ win0_6.index t 1 = t.val / 8 := by decide +kernel
theorem idx7 : ∀ t : Fin cfg0.N, win0_7.index t 0 = t.val % 8 ∧ win0_7.index t 1 = t.val / 8 := by decide +kernel
theorem idx8 : ∀ t : Fin cfg0.N, win0_8.index t 0 = 0 ∧ win0_8.index t 1 = t.val / 8 := by decide +kernel
theorem idx9 : ∀ t : Fin cfg0.N, win0_9.index t 0 = 0 ∧ win0_9.index t 1 = t.val / 8 := by decide +kernel

theorem bound0 (t : Fin cfg0.N) : t.val / 8 < 8 := by
  have : t.val < 64 := t.isLt
  omega
theorem bound1 (t : Fin cfg0.N) : t.val % 8 < 8 := by omega

/-- The entries of an array of 4096 rows and 1024 columns, by number. -/
def num (w : S4096x1024.Idx → EReal) (a b : ℕ) : EReal := if h : a < 4096 ∧ b < 1024 then w (ix2 ⟨a, h.1⟩ ⟨b, h.2⟩) else 0

/-- The blocks of the two gradients handed in. -/
theorem block_k0 (c : Dev nD) (t : Fin cfg0.N) : RE (n := 4096) (m := 128) (iblk m c 5 t) (fun a b => num (V m c main_arg4) a (128 * (t.val / 8) + b)) := by
  intro a b
  have hb : 128 * (t.val / 8) + b.val < 1024 := by have := bound0 t; omega
  unfold num
  beta_reduce
  rw [dif_pos ⟨a.isLt, hb⟩]
  unfold iblk
  rw [View.read_apply]
  refine congrArg (V m c main_arg4) (funext fun d => Fin.ext ?_)
  match d with
  | ⟨0, _⟩ => show win0_5.index t 0 * 4096 + 1 * a.val = a.val; rw [(idx5 t).1]; omega
  | ⟨1, _⟩ => show win0_5.index t 1 * 128 + 1 * b.val = 128 * (t.val / 8) + b.val; rw [(idx5 t).2]; omega

theorem block_v0 (c : Dev nD) (t : Fin cfg0.N) : RE (n := 4096) (m := 128) (iblk m c 6 t) (fun a b => num (V m c main_arg5) a (128 * (t.val / 8) + b)) := by
  intro a b
  have hb : 128 * (t.val / 8) + b.val < 1024 := by have := bound0 t; omega
  unfold num
  beta_reduce
  rw [dif_pos ⟨a.isLt, hb⟩]
  unfold iblk
  rw [View.read_apply]
  refine congrArg (V m c main_arg5) (funext fun d => Fin.ext ?_)
  match d with
  | ⟨0, _⟩ => show win0_6.index t 0 * 4096 + 1 * a.val = a.val; rw [(idx6 t).1]; omega
  | ⟨1, _⟩ => show win0_6.index t 1 * 128 + 1 * b.val = 128 * (t.val / 8) + b.val; rw [(idx6 t).2]; omega

variable {m} {x : Dev nD → In} (H : HostIn m x)
include H

theorem block_q (c : Dev nD) (t : Fin cfg0.N) : R2 (n := 512) (m := 128) (iblk m c 0 t) (fun a c' => (x c).Q (512 * (t.val % 8) + a) (128 * (t.val / 8) + c') / 8) := by
  intro a b
  refine Eq.trans ?_ (H.q c ⟨512 * (t.val % 8) + a.val, by have := bound1 t; omega⟩ ⟨128 * (t.val / 8) + b.val, by have := bound0 t; omega⟩)
  unfold iblk
  rw [View.read_apply]
  refine congrArg (V m c main_v20) (funext fun d => Fin.ext ?_)
  match d with
  | ⟨0, _⟩ => show win0_0.index t 0 * 512 + 1 * a.val = 512 * (t.val % 8) + a.val; rw [(idx0 t).1]; omega
  | ⟨1, _⟩ => show win0_0.index t 1 * 128 + 1 * b.val = 128 * (t.val / 8) + b.val; rw [(idx0 t).2]; omega

theorem block_k (c : Dev nD) (t : Fin cfg0.N) : R2 (n := 4096) (m := 128) (iblk m c 1 t) (fun a c' => (x c).K a (128 * (t.val / 8) + c')) := by
  intro a b
  refine Eq.trans ?_ (H.k c a ⟨128 * (t.val / 8) + b.val, by have := bound0 t; omega⟩)
  unfold iblk
  rw [View.read_apply]
  refine congrArg (V m c main_v21) (funext fun d => Fin.ext ?_)
  match d with
  | ⟨0, _⟩ => show win0_1.index t 0 * 4096 + 1 * a.val = a.val; rw [(idx1 t).1]; omega
  | ⟨1, _⟩ => show win0_1.index t 1 * 128 + 1 * b.val = 128 * (t.val / 8) + b.val; rw [(idx1 t).2]; omega

theorem block_v (c : Dev nD) (t : Fin cfg0.N) : R2 (n := 4096) (m := 128) (iblk m c 2 t) (fun a c' => (x c).V a (128 * (t.val / 8) + c')) := by
  intro a b
  refine Eq.trans ?_ (H.v c a ⟨128 * (t.val / 8) + b.val, by have := bound0 t; omega⟩)
  unfold iblk
  rw [View.read_apply]
  refine congrArg (V m c main_v22) (funext fun d => Fin.ext ?_)
  match d with
  | ⟨0, _⟩ => show win0_2.index t 0 * 4096 + 1 * a.val = a.val; rw [(idx2 t).1]; omega
  | ⟨1, _⟩ => show win0_2.index t 1 * 128 + 1 * b.val = 128 * (t.val / 8) + b.val; rw [(idx2 t).2]; omega

theorem block_d (c : Dev nD) (t : Fin cfg0.N) : R2 (n := 512) (m := 128) (iblk m c 3 t) (fun a c' => (x c).D (512 * (t.val % 8) + a) (128 * (t.val / 8) + c')) := by
  intro a b
  refine Eq.trans ?_ (H.d c ⟨512 * (t.val % 8) + a.val, by have := bound1 t; omega⟩ ⟨128 * (t.val / 8) + b.val, by have := bound0 t; omega⟩)
  unfold iblk
  rw [View.read_apply]
  refine congrArg (V m c main_arg3) (funext fun d => Fin.ext ?_)
  match d with
  | ⟨0, _⟩ => show win0_3.index t 0 * 512 + 1 * a.val = 512 * (t.val % 8) + a.val; rw [(idx3 t).1]; omega
  | ⟨1, _⟩ => show win0_3.index t 1 * 128 + 1 * b.val = 128 * (t.val / 8) + b.val; rw [(idx3 t).2]; omega

theorem block_run (c : Dev nD) (t : Fin cfg0.N) (e : Fin 2) (a : Fin 512) (l : Fin 16) :
    (iblk m c 4 t : S2x512x16.Idx → EReal) (ix3 e a l) = ((Suf (x c) (2 * (t.val / 8) + e.val) (512 * (t.val % 8) + a.val) (256 * l.val) : ℝ) : EReal) := by
  refine Eq.trans ?_ (H.run c ⟨2 * (t.val / 8) + e.val, by have := bound0 t; omega⟩ ⟨512 * (t.val % 8) + a.val, by have := bound1 t; omega⟩ l)
  unfold iblk
  rw [View.read_apply]
  refine congrArg (V m c main_v17) (funext fun d => Fin.ext ?_)
  match d with
  | ⟨0, _⟩ => show win0_4.index t 0 * 2 + 1 * e.val = 2 * (t.val / 8) + e.val; rw [(idx4 t).1]; omega
  | ⟨1, _⟩ => show win0_4.index t 1 * 512 + 1 * a.val = 512 * (t.val % 8) + a.val; rw [(idx4 t).2.1]; omega
  | ⟨2, _⟩ => show win0_4.index t 2 * 16 + 1 * l.val = l.val; rw [(idx4 t).2.2]; omega

/-- A point's first five input blocks. -/
theorem pointIn (c : Dev nD) (t : Fin cfg0.N) : PointIn (x c) (t.val / 8) (512 * ((grid0.coords t) 1).val)
    (iblk m c 0 t) (iblk m c 1 t) (iblk m c 2 t) (iblk m c 3 t) (iblk m c 4 t) := by
  rw [coord1]
  exact ⟨block_q H c t, block_k H c t, block_v H c t, block_d H c t, block_run H c t⟩

omit H
variable (m) (x)

/-! ## The proof data: each output block after each point -/

/-- After a point: its queries' gradient; and, of the keys and values, what the queries up to its own give. -/
def aQ (c : Dev nD) (t : Fin cfg0.N) : S512x128.Idx → EReal := fun y => ((DQ (x c) (512 * (t.val % 8) + (y 0).val) (128 * (t.val / 8) + (y 1).val) : ℝ) : EReal)
def aK (c : Dev nD) (t : Fin cfg0.N) : S4096x128.Idx → EReal := fun y =>
  num (V m c main_arg4) (y 0).val (128 * (t.val / 8) + (y 1).val) + ((DKn (x c) (512 * (t.val % 8 + 1)) (y 0).val (128 * (t.val / 8) + (y 1).val) : ℝ) : EReal)
def aV (c : Dev nD) (t : Fin cfg0.N) : S4096x128.Idx → EReal := fun y =>
  num (V m c main_arg5) (y 0).val (128 * (t.val / 8) + (y 1).val) + ((DVn (x c) (512 * (t.val % 8 + 1)) (y 0).val (128 * (t.val / 8) + (y 1).val) : ℝ) : EReal)

def vdats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => aQ x c t
    | ⟨8, _⟩ => aK m x c t
    | ⟨9, _⟩ => aV m x c t
  Φ _ := Pipeline.ΦA spec0 c
  q _ := fullShare
  owed _ := 0

theorem vA_eq (c : Dev nD) (w : Fin cfg0.W) : (vdats m x 0 c).A w = V m c (Pipeline.arrRef spec0 w) := by dsimp only [vdats]
theorem vafter_0 (c : Dev nD) (t : Fin cfg0.N) : (vdats m x 0 c).after 0 t = iblk m c 0 t := by dsimp only [vdats]
theorem vafter_1 (c : Dev nD) (t : Fin cfg0.N) : (vdats m x 0 c).after 1 t = iblk m c 1 t := by dsimp only [vdats]
theorem vafter_2 (c : Dev nD) (t : Fin cfg0.N) : (vdats m x 0 c).after 2 t = iblk m c 2 t := by dsimp only [vdats]
theorem vafter_3 (c : Dev nD) (t : Fin cfg0.N) : (vdats m x 0 c).after 3 t = iblk m c 3 t := by dsimp only [vdats]
theorem vafter_4 (c : Dev nD) (t : Fin cfg0.N) : (vdats m x 0 c).after 4 t = iblk m c 4 t := by dsimp only [vdats]
theorem vafter_5 (c : Dev nD) (t : Fin cfg0.N) : (vdats m x 0 c).after 5 t = iblk m c 5 t := by dsimp only [vdats]
theorem vafter_6 (c : Dev nD) (t : Fin cfg0.N) : (vdats m x 0 c).after 6 t = iblk m c 6 t := by dsimp only [vdats]
theorem vafter_7 (c : Dev nD) (t : Fin cfg0.N) : (vdats m x 0 c).after 7 t = aQ x c t := by dsimp only [vdats]
theorem vafter_8 (c : Dev nD) (t : Fin cfg0.N) : (vdats m x 0 c).after 8 t = aK m x c t := by dsimp only [vdats]
theorem vafter_9 (c : Dev nD) (t : Fin cfg0.N) : (vdats m x 0 c).after 9 t = aV m x c t := by dsimp only [vdats]

/-- The block stored at the first block of queries. -/
theorem start_first (i : grid0.Coords) (M : Memref sig .tc .vmem S4096x128 .f32) (f : BufTy.Contents (Elt Ideal) M.view.ty) (w : S4096x128.Idx → EReal) {g : ℕ → ℕ → EReal} (hw : RE w g) (hi : (i 1).val = 0) :
    RE (M.view.read (Elt Ideal) (start0 i M f w)) g := by
  intro a b
  unfold start0
  rw [dif_pos ((point_first i).mpr hi), View.read_writes_cons_put M.view f _ _ _ rfl]
  unfold VecWindow.put
  rw [dif_pos (fun d => by
    match d with
    | ⟨0, _⟩ => exact ⟨Nat.zero_le _, by show a.val < 0 + 4096; omega⟩
    | ⟨1, _⟩ => exact ⟨Nat.zero_le _, by show b.val < 0 + 128; omega⟩)]
  refine Eq.trans (congrArg w ?_) (hw a b)
  funext d
  match d with
  | ⟨0, _⟩ => rfl
  | ⟨1, _⟩ => rfl

theorem start_later (i : grid0.Coords) (M : Memref sig .tc .vmem S4096x128 .f32) (f : BufTy.Contents (Elt Ideal) M.view.ty) (w : S4096x128.Idx → EReal) (hi : (i 1).val ≠ 0) :
    start0 i M f w = f := by
  unfold start0
  rw [dif_neg (fun h => hi ((point_first i).mp h))]

/-- The block a gradient's buffer starts a point with: what the queries before the point's give. -/
theorem start_K (c : Dev nD) (t : Fin cfg0.N) (d) (M : Memref sig .tc .vmem S4096x128 .f32) (f : BufTy.Contents (Elt Ideal) M.view.ty) (w : S4096x128.Idx → EReal)
    (e : M.view.read (Elt Ideal) f = (vdats m x 0 c).before 8 t d) (hw : RE w (fun a b => num (V m c main_arg4) a (128 * (t.val / 8) + b))) :
    RE (M.view.read (Elt Ideal) (start0 (grid0.coords t) M f w))
      (fun a b => num (V m c main_arg4) a (128 * (t.val / 8) + b) + ((DKn (x c) (512 * ((grid0.coords t) 1).val) a (128 * (t.val / 8) + b) : ℝ) : EReal)) := by
  by_cases hi : ((grid0.coords t) 1).val = 0
  · refine (start_first (grid0.coords t) M f w hw hi).congr fun a b _ _ => ?_
    rw [hi]; simp [DKn]
  · have ht : t.val % 8 ≠ 0 := by rwa [coord1] at hi
    have h0 : t.val ≠ 0 := by omega
    rw [start_later _ _ _ _ hi, e, (vdats m x 0 c).before_out_kept 8 rfl t h0
      (Bool.eq_false_iff.mpr fun h => by have := (flush0_8 _).mp h; simp only at this; omega) (fun _ => rfl) (fun _ _ => rfl), vafter_8]
    intro a b
    show num (V m c main_arg4) a.val (128 * ((t.val - 1) / 8) + b.val) + ((DKn (x c) (512 * ((t.val - 1) % 8 + 1)) a.val (128 * ((t.val - 1) / 8) + b.val) : ℝ) : EReal) = _
    rw [coord1, show (t.val - 1) % 8 + 1 = t.val % 8 by omega, show (t.val - 1) / 8 = t.val / 8 by omega]

theorem start_V (c : Dev nD) (t : Fin cfg0.N) (d) (M : Memref sig .tc .vmem S4096x128 .f32) (f : BufTy.Contents (Elt Ideal) M.view.ty) (w : S4096x128.Idx → EReal)
    (e : M.view.read (Elt Ideal) f = (vdats m x 0 c).before 9 t d) (hw : RE w (fun a b => num (V m c main_arg5) a (128 * (t.val / 8) + b))) :
    RE (M.view.read (Elt Ideal) (start0 (grid0.coords t) M f w))
      (fun a b => num (V m c main_arg5) a (128 * (t.val / 8) + b) + ((DVn (x c) (512 * ((grid0.coords t) 1).val) a (128 * (t.val / 8) + b) : ℝ) : EReal)) := by
  by_cases hi : ((grid0.coords t) 1).val = 0
  · refine (start_first (grid0.coords t) M f w hw hi).congr fun a b _ _ => ?_
    rw [hi]; simp [DVn]
  · have ht : t.val % 8 ≠ 0 := by rwa [coord1] at hi
    have h0 : t.val ≠ 0 := by omega
    rw [start_later _ _ _ _ hi, e, (vdats m x 0 c).before_out_kept 9 rfl t h0
      (Bool.eq_false_iff.mpr fun h => by have := (flush0_9 _).mp h; simp only at this; omega) (fun _ => rfl) (fun _ _ => rfl), vafter_9]
    intro a b
    show num (V m c main_arg5) a.val (128 * ((t.val - 1) / 8) + b.val) + ((DVn (x c) (512 * ((t.val - 1) % 8 + 1)) a.val (128 * ((t.val - 1) / 8) + b.val) : ℝ) : EReal) = _
    rw [coord1, show (t.val - 1) % 8 + 1 = t.val % 8 by omega, show (t.val - 1) / 8 = t.val / 8 by omega]

/-- A whole block loaded is the block. -/
theorem ld_RE {M : Memref sig .tc .vmem S4096x128 .f32} {f : BufTy.Contents (Elt Ideal) M.view.ty} {g : ℕ → ℕ → EReal} (h : RE (M.view.read (Elt Ideal) f) g) : RE (ld M f) g :=
  (RE.load M.view f h ![0, 0] 0 0 rfl inb_S4096x128_S4096x128_0_0).congr fun a b _ _ => by rw [Nat.zero_add, Nat.zero_add]

/-- A block is what its entries are. -/
theorem RE.ext {n k : ℕ} {w z : (⟨2, ![n, k]⟩ : Shape).Idx → EReal} {f : ℕ → ℕ → EReal} (hw : RE w f) (hz : RE z f) : w = z := by
  funext j
  rw [show j = ix2 (j 0) (j 1) from funext fun d => by match d with | ⟨0, _⟩ => rfl | ⟨1, _⟩ => rfl]
  exact (hw _ _).trans (hz _ _).symm

/-- What the body is called with at a point. -/
def vPre (c : Dev nD) (t : Fin cfg0.N) : sProp 𝕄 :=
  iprop((vdats m x 0 c).Φ t.castSucc ∗ (vdats m x 0 c).owesAt () t.castSucc
    ∗ (∃ d, owns (c : Thread nD τ) (ms0 t) fullShare ((vdats m x 0 c).before 0 t d))
    ∗ (∃ d, owns (c : Thread nD τ) (ms1 t) fullShare ((vdats m x 0 c).before 1 t d))
    ∗ (∃ d, owns (c : Thread nD τ) (ms2 t) fullShare ((vdats m x 0 c).before 2 t d))
    ∗ (∃ d, owns (c : Thread nD τ) (ms3 t) fullShare ((vdats m x 0 c).before 3 t d))
    ∗ (∃ d, owns (c : Thread nD τ) (ms4 t) fullShare ((vdats m x 0 c).before 4 t d))
    ∗ (∃ d, owns (c : Thread nD τ) (ms5 t) fullShare ((vdats m x 0 c).before 5 t d))
    ∗ (∃ d, owns (c : Thread nD τ) (ms6 t) fullShare ((vdats m x 0 c).before 6 t d))
    ∗ (∃ d, owns (c : Thread nD τ) (ms7 t) fullShare ((vdats m x 0 c).before 7 t d))
    ∗ (∃ d, owns (c : Thread nD τ) (ms8 t) fullShare ((vdats m x 0 c).before 8 t d))
    ∗ (∃ d, owns (c : Thread nD τ) (ms9 t) fullShare ((vdats m x 0 c).before 9 t d)))
/-- What the body returns at a point. -/
def vPost (c : Dev nD) (t : Fin cfg0.N) : sProp 𝕄 :=
  iprop((vdats m x 0 c).Φ t.succ ∗ (vdats m x 0 c).owesAt () t.succ
    ∗ owns (c : Thread nD τ) (ms0 t) fullShare ((vdats m x 0 c).after 0 t)
    ∗ owns (c : Thread nD τ) (ms1 t) fullShare ((vdats m x 0 c).after 1 t)
    ∗ owns (c : Thread nD τ) (ms2 t) fullShare ((vdats m x 0 c).after 2 t)
    ∗ owns (c : Thread nD τ) (ms3 t) fullShare ((vdats m x 0 c).after 3 t)
    ∗ owns (c : Thread nD τ) (ms4 t) fullShare ((vdats m x 0 c).after 4 t)
    ∗ owns (c : Thread nD τ) (ms5 t) fullShare ((vdats m x 0 c).after 5 t)
    ∗ owns (c : Thread nD τ) (ms6 t) fullShare ((vdats m x 0 c).after 6 t)
    ∗ owns (c : Thread nD τ) (ms7 t) fullShare ((vdats m x 0 c).after 7 t)
    ∗ owns (c : Thread nD τ) (ms8 t) fullShare ((vdats m x 0 c).after 8 t)
    ∗ owns (c : Thread nD τ) (ms9 t) fullShare ((vdats m x 0 c).after 9 t))

variable {m x}
include H

set_option maxHeartbeats 1000000 in
/-- The body at a point, from what the pipeline holds before it to what it holds after. -/
theorem value_body (c : Dev nD) (t : Fin cfg0.N) :
    vPre m x c t ⊢ wp Idealize.ShloMosaic.frame (wpE (defs₀ (F := Ideal)) Variants.none c none) Set.univ (bodyAt0 t) (fun _ => vPost m x c t) := by
  unfold vPre vPost bodyAt0
  rw [show (vdats m x 0 c).Φ t.succ = (vdats m x 0 c).Φ t.castSucc from rfl,
    show (vdats m x 0 c).owesAt () t.succ = (vdats m x 0 c).owesAt () t.castSucc from rfl,
    show (vdats m x 0 c).Φ t.castSucc = Pipeline.ΦA spec0 c from rfl, PhiA0_eq]
  rw [vafter_0, vafter_1, vafter_2, vafter_3, vafter_4, vafter_5, vafter_6]
  simp only [before0_0_of m (vdats m x 0 c) (vA_eq m x c 0) (vafter_0 m x c), before0_1_of m (vdats m x 0 c) (vA_eq m x c 1) (vafter_1 m x c), before0_2_of m (vdats m x 0 c) (vA_eq m x c 2) (vafter_2 m x c), before0_3_of m (vdats m x 0 c) (vA_eq m x c 3) (vafter_3 m x c), before0_4_of m (vdats m x 0 c) (vA_eq m x c 4) (vafter_4 m x c), before0_5_of m (vdats m x 0 c) (vA_eq m x c 5) (vafter_5 m x c), before0_6_of m (vdats m x 0 c) (vA_eq m x c 6) (vafter_6 m x c)]
  unfold owns
  iintro ⟨⟨⟨%ds, %fs, -, HS⟩, Hg⟩, HO, ⟨%_, %f0, %e0, H0⟩, ⟨%_, %f1, %e1, H1⟩, ⟨%_, %f2, %e2, H2⟩, ⟨%_, %f3, %e3, H3⟩, ⟨%_, %f4, %e4, H4⟩,
    ⟨%_, %f5, %e5, H5⟩, ⟨%_, %f6, %e6, H6⟩, ⟨%_, %f7, -, H7⟩, ⟨%d8, %f8, %e8, H8⟩, ⟨%d9, %f9, %e9, H9⟩⟩
  have P := pointIn H c t
  have K0 := block_k0 m c t
  have V0 := block_v0 m c t
  rw [← e0, ← e1, ← e2, ← e3, ← e4] at P
  rw [← e5] at K0
  rw [← e6] at V0
  have B := body_value c (grid0.coords t) _ (hstage0_0 _) _ (hstage0_1 _) _ (hstage0_2 _) _ (hstage0_3 _) _ (hstage0_4 _) _ (hstage0_5 _) _ (hstage0_6 _) _ (hstage0_7 _) _ (hstage0_8 _) _ (hstage0_9 _) _ (Memref.isWhole_whole cc0_scratch0) f0 f1 f2 f3 f4 f5 f6 f7 f8 f9 fs P
    (start_K m x c t d8 _ f8 _ e8 (ld_RE K0)) (start_V m x c t d9 _ f9 _ e9 (ld_RE V0))
  iapply ((bodyOut c _ _ _ _ _ _ _ _ _ _ _ _ _ _ _ _ _ _ _ _ _ _ _ f0 f1 f2 f3 f4 f5 f6 f7 f8 f9 fs).2.2.2 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS]; · iexact HS
  iintro %g10 ⟨H0, H1, H2, H3, H4, H5, H6, H7, H8, H9, HS⟩
  isplitl [HS Hg]
  · isplitl [HS]
    · iexists _, _; isplitr; swap; · iexact HS
      ipureintro; rfl
    iexact Hg
  isplitl [HO]; · iexact HO
  isplitl [H0]
  · iexists f0; isplitr; swap; · iexact H0
    ipureintro; exact e0
  isplitl [H1]
  · iexists f1; isplitr; swap; · iexact H1
    ipureintro; exact e1
  isplitl [H2]
  · iexists f2; isplitr; swap; · iexact H2
    ipureintro; exact e2
  isplitl [H3]
  · iexists f3; isplitr; swap; · iexact H3
    ipureintro; exact e3
  isplitl [H4]
  · iexists f4; isplitr; swap; · iexact H4
    ipureintro; exact e4
  isplitl [H5]
  · iexists f5; isplitr; swap; · iexact H5
    ipureintro; exact e5
  isplitl [H6]
  · iexists f6; isplitr; swap; · iexact H6
    ipureintro; exact e6
  isplitl [H7]
  · iexists _; isplitr; swap; · iexact H7
    ipureintro
    rw [vafter_7]
    refine RE.ext (f := fun a b => ((DQ (x c) (512 * ((grid0.coords t) 1).val + a) (128 * (t.val / 8) + b) : ℝ) : EReal)) (fun a b => B.1 a b) fun a b => ?_
    rw [coord1]; rfl
  isplitl [H8]
  · iexists _; isplitr; swap; · iexact H8
    ipureintro
    rw [vafter_8]
    refine RE.ext B.2.1 fun a b => ?_
    rw [add_assoc, ← EReal.coe_add, next_K _ _ _ _ _ b.isLt, coord1]; rfl
  iexists _; isplitr; swap; · iexact H9
  ipureintro
  rw [vafter_9]
  refine RE.ext B.2.2 fun a b => ?_
  rw [add_assoc, ← EReal.coe_add, next_V _ _ _ _ _ b.isLt, coord1]; rfl

theorem value_obligation (c : Dev nD) : BodyObligation (vdats m x 0 c) (defs₀ (F := Ideal)) Variants.none () Set.univ := fun t => by
  rw [bigSep_W0, bigSep_W0, defs₀_row]
  exact triple_restated (value_body H c t) rfl .rfl fun _ => .rfl

omit H

/-! ## The three result arrays -/

variable (m) (x)

def rQ (c : Dev nD) : S4096x1024.Idx → EReal := fun j => ((DQ (x c) (j 0).val (j 1).val : ℝ) : EReal)
def rK (c : Dev nD) : S4096x1024.Idx → EReal := fun j => num (V m c main_arg4) (j 0).val (j 1).val + ((DKn (x c) 4096 (j 0).val (j 1).val : ℝ) : EReal)
def rV (c : Dev nD) : S4096x1024.Idx → EReal := fun j => num (V m c main_arg5) (j 0).val (j 1).val + ((DVn (x c) 4096 (j 0).val (j 1).val : ℝ) : EReal)

theorem final_Q (c : Dev nD) : (vdats m x 0 c).arrAt 7 cfg0.N = rQ x c := by
  refine (vdats m x 0 c).arrAt_eq_of_covers 7 _ (by decide +kernel) fun t hf y => ?_
  blk_simp
  rw [vafter_7]
  unfold aQ rQ
  congr 2
  · show 512 * (t.val % 8) + (y 0).val = win0_7.index t 0 * 512 + 1 * (y 0).val
    rw [(idx7 t).1]; omega
  · show 128 * (t.val / 8) + (y 1).val = win0_7.index t 1 * 128 + 1 * (y 1).val
    rw [(idx7 t).2]; omega

theorem final_K (c : Dev nD) : (vdats m x 0 c).arrAt 8 cfg0.N = rK m x c := by
  refine (vdats m x 0 c).arrAt_eq_of_covers 8 _ (by decide +kernel) fun t hf y => ?_
  have ht := (flush0_8 t).mp hf
  blk_simp
  rw [vafter_8]
  unfold aK rK
  rw [ht]
  have e0 : (y 0).val = win0_8.index t 0 * 4096 + 1 * (y 0).val := by rw [(idx8 t).1]; omega
  have e1 : 128 * (t.val / 8) + (y 1).val = win0_8.index t 1 * 128 + 1 * (y 1).val := by rw [(idx8 t).2]; omega
  congr 1
  · exact congrArg₂ (num _) e0 e1
  · congr 2

theorem final_V (c : Dev nD) : (vdats m x 0 c).arrAt 9 cfg0.N = rV m x c := by
  refine (vdats m x 0 c).arrAt_eq_of_covers 9 _ (by decide +kernel) fun t hf y => ?_
  have ht := (flush0_9 t).mp hf
  blk_simp
  rw [vafter_9]
  unfold aV rV
  rw [ht]
  have e0 : (y 0).val = win0_9.index t 0 * 4096 + 1 * (y 0).val := by rw [(idx9 t).1]; omega
  have e1 : 128 * (t.val / 8) + (y 1).val = win0_9.index t 1 * 128 + 1 * (y 1).val := by rw [(idx9 t).2]; omega
  congr 1
  · exact congrArg₂ (num _) e0 e1
  · congr 2

variable {x}
include H

set_option backward.isDefEq.respectTransparency.types false in
theorem value_main :
    θ_run defs (onTc (τ := τ) (main (F := Ideal))) (s₀ m ρ) (fun r => Pipeline.FramePost cfgs (vdats m x) 0 (V m) r ∧ r.2.sem = fun _ => 0) :=
  Pipeline.θ_run_frame (Q' := _) cfgs (vdats m x) (0 : Fin 1) launch0 defs₀ Variants.none m ρ main
    (hbody := fun c => (value_obligation H c).loose) (hshare := fun c => (vdats m x 0 c).share_full fun _ => rfl)
    (howed := fun _ _ => rfl) (V := V m) (hmain := hmain m Variants.none) (hA := vA_eq m x)
    (hΦ := fun _ _ => rfl)

/-- Every execution ends with the three results at the gradients and the six arguments as they were. -/
theorem value_run : θ_run defs (onTc (τ := τ) (main (F := Ideal))) ⟨m, fun _ => 0, ρ⟩ (fun r => ∀ c : Dev nD,
      r.2.mem ((c.tc : Thread nD τ).loc main_v23_0) = rQ x c
      ∧ r.2.mem ((c.tc : Thread nD τ).loc main_v23_1) = rK m x c
      ∧ r.2.mem ((c.tc : Thread nD τ).loc main_v23_2) = rV m x c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h.1 c).1 7).trans (final_Q m x c), ((h.1 c).1 8).trans (final_K m x c), ((h.1 c).1 9).trans (final_V m x c),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      (((h.1 c).1 3).trans ((vdats m x 0 c).arrAt_in 3 rfl _)).trans (V_main_arg3 m c),
      (((h.1 c).1 5).trans ((vdats m x 0 c).arrAt_in 5 rfl _)).trans (V_main_arg4 m c),
      (((h.1 c).1 6).trans ((vdats m x 0 c).arrAt_in 6 rfl _)).trans (V_main_arg5 m c)⟩) (value_main m ρ H)

end Cert.Kernel2Ideal.Hand
-- ==== Proof.Value2.Ref.lean ====
/-
  The second reference's three results: its stages up to the three gradients are the first reference's, and the two
  gradients handed in are added to the keys' and to the values'.
-/
module

public import proofs.«01_k».proof.Proof.Value.Ref
public import proofs.«01_k».proof.Proof.Gen.Reference2Ideal.Read

@[expose] public section

set_option maxRecDepth 16384

noncomputable section

namespace Cert.Reference2Ideal.Hand

open Cert.Reference2Ideal Cert.Reference2Ideal.Gen Cert.Reference2Ideal.Read Cert.Stick
open Idealize.ShloMosaic Idealize.ShloMosaic.TcCoe Idealize.SL.Sem
open Cert.ReferenceIdeal.Hand (A2)

variable {x0 x1 x2 x3 x4 x5 : (⟨S4096x1024, .f32⟩ : BufTy).Contents (Elt Ideal)} {x : In}

theorem v51_same : val_main_v51 (F := Ideal) x0 x1 x2 x3 = Cert.ReferenceIdeal.Read.val_main_v51 (F := Ideal) x0 x1 x2 x3 := rfl
theorem v49_same : val_main_v49 (F := Ideal) x0 x1 x2 x3 = Cert.ReferenceIdeal.Read.val_main_v49 (F := Ideal) x0 x1 x2 x3 := rfl
theorem v33_same : val_main_v33 (F := Ideal) x0 x1 x3 = Cert.ReferenceIdeal.Read.val_main_v33 (F := Ideal) x0 x1 x3 := rfl

/-- The first result is the gradient of the queries. -/
theorem v51_eq (HQ : A2 x0 x.Q) (HK : A2 x1 x.K) (HV : A2 x2 x.V) (HD : A2 x3 x.D) (j : S4096x1024.Idx) :
    val_main_v51 (F := Ideal) x0 x1 x2 x3 j = ((DQ x (j 0).val (j 1).val : ℝ) : EReal) := by
  rw [v51_same]; exact Cert.ReferenceIdeal.Hand.v51_eq HQ HK HV HD j

/-- The second result is the gradient of the keys added to the one handed in. -/
theorem v52_eq (HQ : A2 x0 x.Q) (HK : A2 x1 x.K) (HV : A2 x2 x.V) (HD : A2 x3 x.D) (j : S4096x1024.Idx) :
    val_main_v52 (F := Ideal) x0 x1 x2 x3 x4 j = @HAdd.hAdd EReal EReal EReal _ (x4 j) ((DKn x 4096 (j 0).val (j 1).val : ℝ) : EReal) := by
  rw [val_main_v52_apply, v49_same, Cert.ReferenceIdeal.Hand.v49_eq HQ HK HV HD j]; rfl

/-- The third result is the gradient of the values added to the one handed in. -/
theorem v53_eq (HQ : A2 x0 x.Q) (HK : A2 x1 x.K) (HD : A2 x3 x.D) (j : S4096x1024.Idx) :
    val_main_v53 (F := Ideal) x0 x1 x3 x5 j = @HAdd.hAdd EReal EReal EReal _ (x5 j) ((DVn x 4096 (j 0).val (j 1).val : ℝ) : EReal) := by
  rw [val_main_v53_apply, v33_same, Cert.ReferenceIdeal.Hand.v33_eq HQ HK HD j]; rfl

end Cert.Reference2Ideal.Hand
-- ==== Proof.Value2.Host.lean ====
/-
  What the host hands to the second call's launch: the scaled queries, the keys and the values as they are, and, for every query, the
  logarithms of what is left of its stick at each block of keys, all as real numbers where the arguments hold real numbers.
-/
module

public import proofs.«01_k».proof.Proof.Value2.Launch
public import proofs.«01_k».proof.Proof.Value.Host
public import proofs.«01_k».proof.Proof.Value2.Ref

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.SL.Sem
open Idealize.ShloMosaic.StableHlo
open Finset Cert.Stick
open Cert.KernelIdeal.Hand (real2 NoInf real2_coe finite_of_bit eighth_f32)

variable (m : (ℓ : Loc nD τ sig) → Buf (Elt Ideal) ℓ)

theorem V_v21 (c : Dev nD) : (V m c main_v21 : S4096x1024.Idx → EReal) = m ((c : Thread nD τ).loc main_arg1) := by
  simp only [V, hostOps0, hostOps0_1, hostOps0_2, hostOps0_3, hostOps0_4, hostOps0_5, List.flatten_cons, List.flatten_nil, List.append_nil, List.cons_append,
    List.nil_append, TRef.binary, TRef.nullary, TRef.ternary, TRef.unary, TRef.toBuf, TRef.ofBuf, cast_eq]
  after_results_simp <;> rfl

theorem V_v22 (c : Dev nD) : (V m c main_v22 : S4096x1024.Idx → EReal) = m ((c : Thread nD τ).loc main_arg2) := by
  simp only [V, hostOps0, hostOps0_1, hostOps0_2, hostOps0_3, hostOps0_4, hostOps0_5, List.flatten_cons, List.flatten_nil, List.append_nil, List.cons_append,
    List.nil_append, TRef.binary, TRef.nullary, TRef.ternary, TRef.unary, TRef.toBuf, TRef.ofBuf, cast_eq]
  after_results_simp <;> rfl

theorem V_v20 (c : Dev nD) : V m c main_v20
    = truncf (F := Ideal) .bf16 (mulf (m ((c : Thread nD τ).loc main_arg0)) (broadcastInDim S4096x1024 ![] bcast_S_S4096x1024 (constant (F := Ideal) S_ .f32 0x3E000000#32))) bitsLt_bf16_f32 := by
  simp only [V, hostOps0, hostOps0_1, hostOps0_2, hostOps0_3, hostOps0_4, hostOps0_5, List.flatten_cons, List.flatten_nil, List.append_nil, List.cons_append,
    List.nil_append, TRef.binary, TRef.nullary, TRef.ternary, TRef.unary, TRef.toBuf, TRef.ofBuf, cast_eq]
  after_results_simp <;> rfl

set_option maxHeartbeats 4000000 in
/-- The blocks' logarithms are every 256th column of the reference's running sums from the right. -/
theorem V_v17 (c : Dev nD) : V m c main_v17
    = Host.slice S16x4096x16 ![0, 0, 0] ![1, 1, 256] (Cert.ReferenceIdeal.Read.val_main_v16 (F := Ideal) (m ((c : Thread nD τ).loc main_arg0)) (m ((c : Thread nD τ).loc main_arg1)))
        slicesBy_S16x4096x4096_S16x4096x16_0s1_0s1_0s256 := by
  simp only [V, hostOps0, hostOps0_1, hostOps0_2, hostOps0_3, hostOps0_4, hostOps0_5, List.flatten_cons, List.flatten_nil, List.append_nil, List.cons_append,
    List.nil_append, TRef.binary, TRef.nullary, TRef.ternary, TRef.unary, TRef.toBuf, TRef.ofBuf, cast_eq]
  after_results_simp <;> rfl

/-- The first four arrays of one device as real numbers. -/
def inOf (c : Dev nD) : In where
  Q := real2 (m ((c : Thread nD τ).loc main_arg0))
  K := real2 (m ((c : Thread nD τ).loc main_arg1))
  V := real2 (m ((c : Thread nD τ).loc main_arg2))
  D := real2 (m ((c : Thread nD τ).loc main_arg3))

/-- No element of the first four arrays is an infinity. -/
structure Finite4 : Prop where
  q : ∀ c : Dev nD, NoInf (m ((c : Thread nD τ).loc main_arg0))
  k : ∀ c : Dev nD, NoInf (m ((c : Thread nD τ).loc main_arg1))
  v : ∀ c : Dev nD, NoInf (m ((c : Thread nD τ).loc main_arg2))
  d : ∀ c : Dev nD, NoInf (m ((c : Thread nD τ).loc main_arg3))

variable {m}

/-- What the launch finds, where the arguments are finite. -/
theorem hostIn (H : Finite4 m) : HostIn m (inOf m) where
  q c a b := by
    refine (congrFun (V_v20 m c) _).trans ?_
    have e := real2_coe _ (H.q c) (ix2 a b)
    show @HMul.hMul EReal EReal EReal _ ((m ((c : Thread nD τ).loc main_arg0) : S4096x1024.Idx → EReal) (ix2 a b)) (broadcastInDim S4096x1024 ![] bcast_S_S4096x1024 (constant (F := Ideal) S_ .f32 0x3E000000#32) (ix2 a b)) = _
    rw [e]
    show _ * Ideal.ofBits .f32 0x3E000000#32 = _
    rw [eighth_f32, ← EReal.coe_mul]
    congr 1
    show real2 (m ((c : Thread nD τ).loc main_arg0)) a.val b.val * (1 / 8) = real2 (m ((c : Thread nD τ).loc main_arg0)) a.val b.val / 8
    ring
  k c a b := (congrFun (V_v21 m c) _).trans (real2_coe _ (H.k c) _)
  v c a b := (congrFun (V_v22 m c) _).trans (real2_coe _ (H.v c) _)
  d c a b := (congrFun (V_main_arg3 m c) _).trans (real2_coe _ (H.d c) _)
  run c h s l := by
    refine (congrFun (V_v17 m c) _).trans ?_
    have hl : 256 * l.val < 4096 := by have := l.isLt; omega
    refine (show _ = Cert.ReferenceIdeal.Read.val_main_v16 (F := Ideal) (m ((c : Thread nD τ).loc main_arg0)) (m ((c : Thread nD τ).loc main_arg1))
      (ix3 h s (⟨256 * l.val, hl⟩ : Fin 4096)) from ?_).trans ?_
    · unfold Host.slice
      congr 1
      funext a
      fin_cases a
      · exact Fin.ext ((Nat.zero_add _).trans (Nat.one_mul _))
      · exact Fin.ext ((Nat.zero_add _).trans (Nat.one_mul _))
      · exact Fin.ext (Nat.zero_add _)
    · exact Cert.ReferenceIdeal.Hand.v16_eq (x := inOf m c) (real2_coe _ (H.q c)) (real2_coe _ (H.k c)) _

end Cert.Kernel2Ideal.Hand
-- ==== Proof.Value2.Algebraic.lean ====
/- The second call's algebraic claim: where the first four arrays are finite the kernel's three results and the reference's three results are the same
   extended reals, namely the gradient `DQ` of `Spec`, and the two gradients handed in with `DKn` and `DVn` added to them. -/
module

public import proofs.«01_k».proof.Defs
public import proofs.«01_k».proof.Proof.Gen.Pre_finite2
public import proofs.«01_k».proof.Proof.Value2.Host

@[expose] public section

set_option maxRecDepth 16384

noncomputable section

namespace Cert.Kernel2Ideal.Hand

open Idealize.ShloMosaic Idealize.SL.Sem Cert.Kernel2Ideal Cert.Kernel2Ideal.Gen Cert.Stick
open Cert.KernelIdeal.Hand (real2 NoInf real2_coe finite_of_bit)

/-- The certificate's precondition says of each of the first four arrays that it holds no infinity. -/
theorem finite4_of_pre (m : (ℓ : Loc nD τ sig) → Buf (Elt Ideal) ℓ) (h : Cert.Pre_Kernel2Ideal_finite2 m) : Finite4 m where
  q c j := finite_of_bit _ (congrFun (h c).1 j)
  k c j := finite_of_bit _ (congrFun (h c).2.1 j)
  v c j := finite_of_bit _ (congrFun (h c).2.2.1 j)
  d c j := finite_of_bit _ (congrFun (h c).2.2.2 j)

/-- Read by its numbers, an array holds what it holds. -/
theorem num_eq (w : S4096x1024.Idx → EReal) (j : S4096x1024.Idx) : num w (j 0).val (j 1).val = w j := by
  have h0 : (j 0).val < 4096 := (j 0).isLt
  have h1 : (j 1).val < 1024 := (j 1).isLt
  unfold num
  rw [dif_pos ⟨h0, h1⟩]
  exact congrArg w (eq_ix2 j).symm

/-- The kernel's and the reference's results are equal where the first four arrays are finite, and both leave their
    arguments as they were. The two gradients handed in may hold infinities. -/
theorem algebraic : Cert.algebraic_Kernel2Ideal_Reference2Ideal_pre_finite2 := by
  intro m g m' g' hp ha
  have H := finite4_of_pre m hp
  refine ⟨rQ (inOf m), rK m (inOf m), rV m (inOf m), value_run m g (hostIn H), ?_⟩
  refine (θ_run Cert.Reference2Ideal.defs _ _).mono (fun r h c => ?_) (Cert.Reference2Ideal.Value.run (F := Ideal) m' g')
  obtain ⟨h0, h1, h2, hr⟩ := h c
  obtain ⟨a0, a1, a2, a3, a4, a5⟩ := ha c
  refine ⟨h0.trans ?_, h1.trans ?_, h2.trans ?_, hr⟩
  · rw [Cert.Reference2Ideal.Read.val_main_v51_eq, a0, a1, a2, a3]
    funext j
    exact Cert.Reference2Ideal.Hand.v51_eq (x := inOf m c) (real2_coe _ (H.q c)) (real2_coe _ (H.k c)) (real2_coe _ (H.v c)) (real2_coe _ (H.d c)) j
  · rw [Cert.Reference2Ideal.Read.val_main_v52_eq, a0, a1, a2, a3, a4]
    funext j
    refine (Cert.Reference2Ideal.Hand.v52_eq (x := inOf m c) (real2_coe _ (H.q c)) (real2_coe _ (H.k c)) (real2_coe _ (H.v c)) (real2_coe _ (H.d c)) j).trans ?_
    unfold rK
    rw [V_main_arg4, num_eq]
  · rw [Cert.Reference2Ideal.Read.val_main_v53_eq, a0, a1, a3, a5]
    funext j
    refine (Cert.Reference2Ideal.Hand.v53_eq (x := inOf m c) (real2_coe _ (H.q c)) (real2_coe _ (H.k c)) (real2_coe _ (H.d c)) j).trans ?_
    unfold rV
    rw [V_main_arg5, num_eq]

end Cert.Kernel2Ideal.Hand
-- ==== Proof.Entries.lean ====
/-
  The entries of an array by number, shared by the programs whose arrays are only read whole.
-/
module

public import Idealize.ShloMosaic.Lib.Pointwise
public import Idealize.ShloMosaic.Lib.Pipeline.ValueKit

@[expose] public section

noncomputable section

namespace Cert.Entries

open Idealize.ShloMosaic Idealize.ShloMosaic.TcCoe

/-- The entries of an array of three axes, by number, `0` outside it. -/
def at3 {n p q : ℕ} (w : (⟨3, ![n, p, q]⟩ : Shape).Idx → EReal) (a b c : ℕ) : EReal :=
  if h : a < n ∧ b < p ∧ c < q then w (ix3 ⟨a, h.1⟩ ⟨b, h.2.1⟩ ⟨c, h.2.2⟩) else 0

theorem at3_fin {n p q : ℕ} (w : (⟨3, ![n, p, q]⟩ : Shape).Idx → EReal) (a : Fin n) (b : Fin p) (c : Fin q) :
    w (ix3 a b c) = at3 w a.val b.val c.val := by
  unfold at3
  rw [dif_pos ⟨a.isLt, b.isLt, c.isLt⟩]

/-- The entries of an array of two axes, by number, `0` outside it. -/
def at2 {p q : ℕ} (w : (⟨2, ![p, q]⟩ : Shape).Idx → EReal) (b c : ℕ) : EReal :=
  if h : b < p ∧ c < q then w (ix2 ⟨b, h.1⟩ ⟨c, h.2⟩) else 0

theorem at2_fin {p q : ℕ} (w : (⟨2, ![p, q]⟩ : Shape).Idx → EReal) (b : Fin p) (c : Fin q) :
    w (ix2 b c) = at2 w b.val c.val := by
  unfold at2
  rw [dif_pos ⟨b.isLt, c.isLt⟩]

/-- Every index of two axes is a pair. -/
theorem ex2 (p q : ℕ) (i : (⟨2, ![p, q]⟩ : Shape).Idx) : ∃ (a : Fin p) (b : Fin q), i = ix2 a b := ⟨i 0, i 1, eq_ix2 i⟩

/-- Every index of three axes is a triple. -/
theorem ex3 (p q r : ℕ) (i : (⟨3, ![p, q, r]⟩ : Shape).Idx) : ∃ (a : Fin p) (b : Fin q) (c : Fin r), i = ix3 a b c := ⟨i 0, i 1, i 2, eq_ix3 i⟩

end Cert.Entries
-- ==== Proof.Value3.Vec.lean ====
/-
  The weight gradients: what one call stores at one of its points, the array all eight calls fill, and the run of the whole
  program with every buffer named.
-/
module

public import proofs.«01_k».proof.Proof.Gen.Kernel3Ideal.Frame
public import proofs.«01_k».proof.Proof.Entries

@[expose] public section

set_option maxRecDepth 16384

noncomputable section

namespace Cert.Kernel3Ideal.Hand

open Cert.Kernel3Ideal Cert.Kernel3Ideal.Gen Cert.Entries
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

local notation "𝕄" => MT nD τ sig Unit (Elt Ideal) ℕ (UR sig nD τ) ℕ

/-- The product of layer `l`'s activations, transposed, and its gradients: row `d`, column `n`. -/
def prod (x : S4x4096x1024.Idx → EReal) (y : S4x4096x2816.Idx → EReal) (l d n : ℕ) : EReal :=
  ∑ s : Fin 4096, at3 x l s.val d * at3 y l s.val n

/-- The block a call stores: the product, summed over the 4096 rows. -/
theorem pay_at (x : Vec Ideal S4096x512 .bf16) (y : Vec Ideal S1x4096x704 .bf16) (a : Fin 1) (b : Fin 512) (n : Fin 704) :
    (k0_pay1 x y : S1x512x704.Idx → EReal) (ix3 a b n) = ∑ s : Fin 4096, @HMul.hMul EReal EReal EReal _ (x (ix2 s b)) (y (ix3 0 s n)) := by
  unfold k0_pay1
  pointwise

variable (m : (ℓ : Loc nD τ sig) → Buf (Elt Ideal) ℓ) (ρ : Dev nD → PrngReg)

/-- What the eight calls leave: 4096 rows for the first weight's four layers, 4096 for the second's, each column's 2816 entries
    in four parts of 704. -/
def G (c : Dev nD) : S4x8192x704.Idx → EReal := fun i =>
  prod (m ((c : Thread nD τ).loc main_arg0)) (if (i 1).val / 4096 = 0 then m ((c : Thread nD τ).loc main_arg1) else m ((c : Thread nD τ).loc main_arg2))
    ((i 1).val / 1024 % 4) ((i 1).val % 1024) ((i 0).val * 704 + (i 2).val)

set_option backward.isDefEq.respectTransparency.types false in
/-- The program runs to the end, and every buffer holds what its 17 parts leave in turn. -/
theorem run : θ_run defs (onTc (τ := τ) (main (F := Ideal))) ⟨m, fun _ => 0, ρ⟩ (fun r => ∀ (c : Dev nD), ∀ b ∈ Pipeline.ucRefs τ sig,
    r.2.mem (((c : Thread nD τ)).1, b) = W17 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      have he : (BI.emp : sProp 𝕄) ⊢ bigSep Finset.univ (fun _ : Dev nD => (BI.emp : sProp 𝕄)) := by rw [BI.bigSep_emp_const]
      iintro Hu
      imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      · iapply he
        iempintro)
    (T₀ := fun c => iprop(StableHlo.held (c : Thread nD τ) (Pipeline.ucRefs τ sig) (W0 m ρ c) ∗ R c)) (Tₙ := Tₙ m ρ)
    (hch := by
      refine ⟨fun _ => .rfl, fun _ => .rfl, fun _ => .rfl, fun _ => .rfl, fun _ => .rfl, fun _ => .rfl, fun _ => .rfl, fun _ => .rfl, fun _ => .rfl,
        fun _ => .rfl, fun _ => .rfl, fun _ => .rfl, fun _ => .rfl, fun _ => .rfl, fun _ => .rfl, fun _ => .rfl, fun _ => .rfl, fun c => ?_⟩
      dsimp only [Pipeline.Seg.post, hseg, Pipeline.HostSeg.ofOps]
      iintro ⟨Hbufs, Hgen, Howed⟩
      isplitr [Howed]
      · isplitl [Hbufs]
        · iexact Hbufs
        · iexact Hgen
      · iexact Howed)
    (hinit := Pipeline.initEach L lv fun c => by
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hbufs, -, Howed, -, Hgen, -⟩, -⟩
      imodintro
      isplitl [Hbufs]
      · iexact Hbufs
      isplitl [Hgen]
      · iexists _
        iexact Hgen
      · iexists ∅
        iexact Howed)
    (QY := fun c s => ∀ b ∈ Pipeline.ucRefs τ sig, s.mem (((c : Thread nD τ)).1, b) = W17 m ρ c b)
    (hfin := fun c s' => by
      iintro ⟨⟨Hbufs, -⟩, Hs⟩
      unfold StableHlo.held
      imodintro
      iapply (pointsTo_read_all (Pipeline.ucRefs τ sig) (fun b => (((c : Thread nD τ)).1, b)) (W17 m ρ c) s')
      isplitl [Hbufs]
      · iexact Hbufs
      · iexact Hs)
    (hQ := fun s h _ => h)

/-- One point of a call: `bx` columns `512 k` to `512 k + 511` of layer `l`'s activations, `by'` part `f` of its gradients. -/
theorem point {X : S4x4096x1024.Idx → EReal} {Y : S4x4096x2816.Idx → EReal} {l : ℕ} (bx : Vec Ideal S4096x512 .bf16) (by' : Vec Ideal S1x4096x704 .bf16) (k f : ℕ)
    (hbx : ∀ (s : Fin 4096) (b : Fin 512), bx (ix2 s b) = at3 X l s.val (k * 512 + b.val))
    (hby : ∀ (s : Fin 4096) (n : Fin 704), by' (ix3 0 s n) = at3 Y l s.val (f * 704 + n.val)) (b : Fin 512) (n : Fin 704) :
    (k0_pay1 bx by' : S1x512x704.Idx → EReal) (ix3 0 b n) = prod X Y l (k * 512 + b.val) (f * 704 + n.val) := by
  rw [pay_at]
  unfold prod
  exact Finset.sum_congr rfl fun s _ => by rw [hbx, hby]

end Cert.Kernel3Ideal.Hand
-- ==== Proof.Value3.Calls.lean ====
/-
  The eight calls of the weight gradients, one after the other: what each is handed, what it stores, and so what the array holds
  after it: the rows of every call up to it.
-/
module

public import proofs.«01_k».proof.Proof.Value3.Vec

@[expose] public section

set_option maxRecDepth 16384

noncomputable section

namespace Cert.Kernel3Ideal.Hand

open Cert.Kernel3Ideal Cert.Kernel3Ideal.Gen Cert.Entries
open Idealize.ShloMosaic Idealize.ShloMosaic.TcCoe Idealize.ShloMosaic.Tactic
open Idealize.SL.Sem
open Idealize.ShloMosaic.StableHlo
open Idealize.ShloMosaic.Pipeline (Dat)

/-- The array `v` holds layer `l` of the activations, and of a gradient with its columns in four parts. -/
def Holds (v : S4096x1024.Idx → EReal) (x : S4x4096x1024.Idx → EReal) (l : ℕ) : Prop :=
  ∀ (s : Fin 4096) (d : Fin 1024), v (ix2 s d) = at3 x l s.val d.val

def Hidden (v : S4x4096x704.Idx → EReal) (y : S4x4096x2816.Idx → EReal) (l : ℕ) : Prop :=
  ∀ (f : Fin 4) (s : Fin 4096) (n : Fin 704), v (ix3 f s n) = at3 y l s.val (f.val * 704 + n.val)

/-- One layer, and one layer with its columns in four parts, in the narrow format. -/
def layer (x : FVec Ideal S4x4096x1024 .f32) (l : ℕ) (h : S4x4096x1024.Slices ![l, 0, 0] S1x4096x1024) : FVec Ideal S4096x1024 .bf16 :=
  truncf (F := Ideal) .bf16 (shapeCast S4096x1024 (extractStridedSlice S1x4096x1024 ![l, 0, 0] x h) shapeCasts_S1x4096x1024_S4096x1024) bitsLt_bf16_f32

def parts (y : FVec Ideal S4x4096x2816 .f32) (l : ℕ) (h : S4x4096x2816.Slices ![l, 0, 0] S1x4096x2816) : FVec Ideal S4x4096x704 .bf16 :=
  transpose S4x4096x704 [1, 0, 2] (shapeCast S4096x4x704 (truncf (F := Ideal) .bf16 (shapeCast S4096x2816 (extractStridedSlice S1x4096x2816 ![l, 0, 0] y h)
    shapeCasts_S1x4096x2816_S4096x2816) bitsLt_bf16_f32) shapeCasts_S4096x2816_S4096x4x704) transposes_S4096x4x704_S4x4096x704_1_0_2

theorem layer_at (x : FVec Ideal S4x4096x1024 .f32) (l : Fin 4) (h : S4x4096x1024.Slices ![l.val, 0, 0] S1x4096x1024) : Holds (layer x l.val h) x l.val := by
  intro s d
  unfold layer
  pointwise
  exact at3_fin x l s d

theorem parts_at (y : FVec Ideal S4x4096x2816 .f32) (l : Fin 4) (h : S4x4096x2816.Slices ![l.val, 0, 0] S1x4096x2816) : Hidden (parts y l.val h) y l.val := by
  intro f s n
  unfold parts
  pointwise
  exact at3_fin y l s ⟨f.val * 704 + n.val, by omega⟩

/-- A block of 512 columns of the activations, and a part of the gradient. -/
theorem cols {v : S4096x1024.Idx → EReal} {x : S4x4096x1024.Idx → EReal} {l : ℕ} (hv : Holds v x l) (k : ℕ) (hk : k < 2) {g : S4096x512.Idx → S4096x1024.Idx}
    (hg : ∀ (s : Fin 4096) (b : Fin 512), g (ix2 s b) = ix2 s ⟨k * 512 + b.val, by omega⟩) (s : Fin 4096) (b : Fin 512) :
    v (g (ix2 s b)) = at3 x l s.val (k * 512 + b.val) :=
  (congrArg v (hg s b)).trans (hv s ⟨k * 512 + b.val, by omega⟩)

theorem hid {v : S4x4096x704.Idx → EReal} {y : S4x4096x2816.Idx → EReal} {l : ℕ} (hv : Hidden v y l) (f : ℕ) (hf : f < 4) {g : S1x4096x704.Idx → S4x4096x704.Idx}
    (hg : ∀ (s : Fin 4096) (n : Fin 704), g (ix3 0 s n) = ix3 ⟨f, hf⟩ s n) (s : Fin 4096) (n : Fin 704) :
    v (g (ix3 0 s n)) = at3 y l s.val (f * 704 + n.val) :=
  (congrArg v (hg s n)).trans (hv ⟨f, hf⟩ s n)

variable (m : (ℓ : Loc nD τ sig) → Buf (Elt Ideal) ℓ) (ρ : Dev nD → PrngReg) (V : (c : Dev nD) → (b : Ref sig .tc) → Buf (Elt Ideal) ((c : Thread nD τ).loc b))

/-- The call, in order, that fills a row: the layers from the last to the first, each one's first weight and then its second. -/
def turn (r : ℕ) : ℕ := 2 * (3 - r / 1024 % 4) + r / 4096

/-- `A` holds the gradient of weight `q`, whose rows are the `q`-th 1024 of the array, and elsewhere what `B` holds. -/
def Fills (m : (ℓ : Loc nD τ sig) → Buf (Elt Ideal) ℓ) (c : Dev nD) (q : ℕ) (A B : S4x8192x704.Idx → EReal) : Prop := ∀ i, A i = if (i 1).val / 512 / 2 = q then G m c i else B i

/-- After call `k` the array holds the gradients of the weights whose turn has come. -/
def Done (m : (ℓ : Loc nD τ sig) → Buf (Elt Ideal) ℓ) (c : Dev nD) (k : ℕ) (A : S4x8192x704.Idx → EReal) : Prop := ∀ i, turn (i 1).val ≤ k → A i = G m c i

/-- Where a block stands. -/
abbrev At2 (i : Fin 2 → ℕ) (a b : ℕ) : Prop := i 0 = a ∧ i 1 = b

abbrev At3 (i : Fin 3 → ℕ) (a b c : ℕ) : Prop := i 0 = a ∧ i 1 = b ∧ i 2 = c

/-- Row `r` of the 1024 rows that the weight `q` of the eight has. -/
theorem G_at (c : Dev nD) (z : S4x8192x704.Idx) (q t : ℕ) {w : Fin 3 → ℕ} (hw : At3 w (t / 2) (2 * q + t % 2) 0) {b n : ℕ} (hb : b < 512)
    (h0 : (z 0).val = w 0 * 1 + 1 * 0) (h1 : (z 1).val = w 1 * 512 + 1 * b) (h2 : (z 2).val = w 2 * 704 + 1 * n) :
    G m c z = prod (m ((c : Thread nD τ).loc main_arg0)) (if q / 4 = 0 then m ((c : Thread nD τ).loc main_arg1) else m ((c : Thread nD τ).loc main_arg2))
      (q % 4) (t % 2 * 512 + b) (t / 2 * 704 + n) := by
  rw [hw.1] at h0
  rw [hw.2.1] at h1
  rw [hw.2.2] at h2
  unfold G
  rw [show (z 0).val = t / 2 by omega, show (z 1).val = q * 1024 + (t % 2 * 512 + b) by omega, show (z 2).val = n by omega, show (q * 1024 + (t % 2 * 512 + b)) / 4096 = q / 4 by omega,
    show (q * 1024 + (t % 2 * 512 + b)) / 1024 % 4 = q % 4 by omega, show (q * 1024 + (t % 2 * 512 + b)) % 1024 = t % 2 * 512 + b by omega]

/-- One more call: the rows of weight `q` are done too. -/
theorem step (c : Dev nD) {A A' B B' : S4x8192x704.Idx → EReal} (k q : ℕ) (hw : A = A') (hA : Fills m c q A' B') (hb : B' = B)
    (hB : Done m c k B) (ht : ∀ r < 8192, r / 512 / 2 ≠ q → turn r ≤ k + 1 → turn r ≤ k) : Done m c (k + 1) A := by
  intro i h
  rw [hw, hA i, hb]
  split_ifs with hi
  · rfl
  · exact hB i (ht _ (i 1).isLt hi h)

/-! ### Call 0: layer 3, the first weight -/

theorem x0 (c : Dev nD) : Holds (V1 m ρ c main_v2) (m ((c : Thread nD τ).loc main_arg0)) 3 := by
  have e : V1 m ρ c main_v2 = layer (W0 m ρ c main_arg0) 3 slices_S4x4096x1024_S1x4096x1024_3_0_0 := by unfold V1 W1 hostOps0; after_results; rfl
  rw [e, W0_args m ρ c main_arg0 (by decide)]
  exact layer_at _ 3 _

theorem y0 (c : Dev nD) : Hidden (V1 m ρ c main_v7) (m ((c : Thread nD τ).loc main_arg1)) 3 := by
  have e : V1 m ρ c main_v7 = parts (W0 m ρ c main_arg1) 3 slices_S4x4096x2816_S1x4096x2816_3_0_0 := by unfold V1 W1 hostOps0; after_results; rfl
  rw [e, W0_args m ρ c main_arg1 (by decide)]
  exact parts_at _ 3 _

theorem b0 (c : Dev nD) : V1 m ρ c main_v8 = W0 m ρ c main_arg3 := by unfold V1 W1 hostOps0; after_results; rfl

theorem idx0 : ∀ t : Fin cfg0.N, At2 (win0_0.index t) 0 (t.val % 2) ∧ At3 (win0_1.index t) (t.val / 2) 0 0 ∧ At3 (win0_2.index t) (t.val / 2) (2 * 3 + t.val % 2) 0 := by decide +kernel

set_option maxHeartbeats 2000000 in
theorem call0 (c : Dev nD) (hx : Holds (V c main_v2) (m ((c : Thread nD τ).loc main_arg0)) 3) (hy : Hidden (V c main_v7) (m ((c : Thread nD τ).loc main_arg1)) 3) : Fills m c 3 ((dat0 V c).arrAt 2 cfg0.N) (V c main_v8) := by
  refine fun i => (dat0 V c).arrAt_apply_of_coversWhere 2 (G m c) (P := fun i => (i 1).val / 512 / 2 = 3) (fun β => β (1 : Fin 3) / 2 = 3) (by decide +kernel) (fun t hf y => ?_) (fun j => Iff.rfl) i
  obtain ⟨⟨p0, p1⟩, ⟨q0, q1, q2⟩, o⟩ := idx0 t
  have ht : t.val < 8 := t.isLt
  obtain ⟨a, b, n, rfl⟩ := ex3 1 512 704 y
  obtain rfl : a = 0 := Subsingleton.elim _ _
  have e := G_at m c (((cfg0.win 2).blk t).view.emb (ix3 0 b n)) 3 t.val o (n := n.val) b.isLt rfl rfl rfl
  blk_simp
  rw [after0_2]
  unfold outsAt0 out0_A_2
  frame_out
  exact (point (iblk0 V c 0 t) (iblk0 V c 1 t) (t.val % 2) (t.val / 2) (cols hx _ (by omega) (g := ((cfg0.win 0).blk t).view.emb) fun s b => by blk_ext [p0, p1])
    (hid hy _ (by omega) (g := ((cfg0.win 1).blk t).view.emb) fun s n => by blk_ext [q0, q1, q2]) b n).trans e.symm

theorem upto0 (c : Dev nD) : Done m c 0 (W2 m ρ c main_v8) := by
  intro i h
  have hi : (i 1).val < 8192 := (i 1).isLt
  unfold turn at h
  rw [(congrFun (W2_arr m ρ c 2) i).trans (call0 m (V1 m ρ) c (x0 m ρ c) (y0 m ρ c) i), if_pos (by omega)]

/-! ### Call 1: layer 3, the second weight -/

theorem x1 (c : Dev nD) : Holds (V3 m ρ c main_v2) (m ((c : Thread nD τ).loc main_arg0)) 3 := fun s d =>
  (congrFun ((W3_of m ρ c main_v2 (by decide)).trans (W2_of m ρ c main_v2 (by decide))) _).trans (x0 m ρ c s d)

theorem y1 (c : Dev nD) : Hidden (V3 m ρ c main_v13) (m ((c : Thread nD τ).loc main_arg2)) 3 := by
  have e : V3 m ρ c main_v13 = parts (W2 m ρ c main_arg2) 3 slices_S4x4096x2816_S1x4096x2816_3_0_0 := by unfold V3 W3 hostOps1; after_results; rfl
  rw [e, W2_args m ρ c main_arg2 (by decide)]
  exact parts_at _ 3 _

theorem b1 (c : Dev nD) : V3 m ρ c main_v14 = W2 m ρ c main_v8 := by unfold V3 W3 hostOps1; after_results; rfl

theorem idx1 : ∀ t : Fin cfg1.N, At2 (win1_0.index t) 0 (t.val % 2) ∧ At3 (win1_1.index t) (t.val / 2) 0 0 ∧ At3 (win1_2.index t) (t.val / 2) (2 * 7 + t.val % 2) 0 := by decide +kernel

set_option maxHeartbeats 2000000 in
theorem call1 (c : Dev nD) (hx : Holds (V c main_v2) (m ((c : Thread nD τ).loc main_arg0)) 3) (hy : Hidden (V c main_v13) (m ((c : Thread nD τ).loc main_arg2)) 3) : Fills m c 7 ((dat1 V c).arrAt 2 cfg1.N) (V c main_v14) := by
  refine fun i => (dat1 V c).arrAt_apply_of_coversWhere 2 (G m c) (P := fun i => (i 1).val / 512 / 2 = 7) (fun β => β (1 : Fin 3) / 2 = 7) (by decide +kernel) (fun t hf y => ?_) (fun j => Iff.rfl) i
  obtain ⟨⟨p0, p1⟩, ⟨q0, q1, q2⟩, o⟩ := idx1 t
  have ht : t.val < 8 := t.isLt
  obtain ⟨a, b, n, rfl⟩ := ex3 1 512 704 y
  obtain rfl : a = 0 := Subsingleton.elim _ _
  have e := G_at m c (((cfg1.win 2).blk t).view.emb (ix3 0 b n)) 7 t.val o (n := n.val) b.isLt rfl rfl rfl
  blk_simp
  rw [after1_2]
  unfold outsAt1 out1_A_2
  frame_out
  exact (point (iblk1 V c 0 t) (iblk1 V c 1 t) (t.val % 2) (t.val / 2) (cols hx _ (by omega) (g := ((cfg1.win 0).blk t).view.emb) fun s b => by blk_ext [p0, p1])
    (hid hy _ (by omega) (g := ((cfg1.win 1).blk t).view.emb) fun s n => by blk_ext [q0, q1, q2]) b n).trans e.symm

theorem upto1 (c : Dev nD) : Done m c 1 (W4 m ρ c main_v14) :=
  step m c 0 7 (W4_arr m ρ c 2) (call1 m (V3 m ρ) c (x1 m ρ c) (y1 m ρ c)) (b1 m ρ c) (upto0 m ρ c) (by unfold turn; omega)

/-! ### Call 2: layer 2, the first weight -/

theorem x2 (c : Dev nD) : Holds (V5 m ρ c main_v17) (m ((c : Thread nD τ).loc main_arg0)) 2 := by
  have e : V5 m ρ c main_v17 = layer (W4 m ρ c main_arg0) 2 slices_S4x4096x1024_S1x4096x1024_2_0_0 := by unfold V5 W5 hostOps2; after_results; rfl
  rw [e, W4_args m ρ c main_arg0 (by decide)]
  exact layer_at _ 2 _

theorem y2 (c : Dev nD) : Hidden (V5 m ρ c main_v22) (m ((c : Thread nD τ).loc main_arg1)) 2 := by
  have e : V5 m ρ c main_v22 = parts (W4 m ρ c main_arg1) 2 slices_S4x4096x2816_S1x4096x2816_2_0_0 := by unfold V5 W5 hostOps2; after_results; rfl
  rw [e, W4_args m ρ c main_arg1 (by decide)]
  exact parts_at _ 2 _

theorem b2 (c : Dev nD) : V5 m ρ c main_v23 = W4 m ρ c main_v14 := by unfold V5 W5 hostOps2; after_results; rfl

theorem idx2 : ∀ t : Fin cfg2.N, At2 (win2_0.index t) 0 (t.val % 2) ∧ At3 (win2_1.index t) (t.val / 2) 0 0 ∧ At3 (win2_2.index t) (t.val / 2) (2 * 2 + t.val % 2) 0 := by decide +kernel

set_option maxHeartbeats 2000000 in
theorem call2 (c : Dev nD) (hx : Holds (V c main_v17) (m ((c : Thread nD τ).loc main_arg0)) 2) (hy : Hidden (V c main_v22) (m ((c : Thread nD τ).loc main_arg1)) 2) : Fills m c 2 ((dat2 V c).arrAt 2 cfg2.N) (V c main_v23) := by
  refine fun i => (dat2 V c).arrAt_apply_of_coversWhere 2 (G m c) (P := fun i => (i 1).val / 512 / 2 = 2) (fun β => β (1 : Fin 3) / 2 = 2) (by decide +kernel) (fun t hf y => ?_) (fun j => Iff.rfl) i
  obtain ⟨⟨p0, p1⟩, ⟨q0, q1, q2⟩, o⟩ := idx2 t
  have ht : t.val < 8 := t.isLt
  obtain ⟨a, b, n, rfl⟩ := ex3 1 512 704 y
  obtain rfl : a = 0 := Subsingleton.elim _ _
  have e := G_at m c (((cfg2.win 2).blk t).view.emb (ix3 0 b n)) 2 t.val o (n := n.val) b.isLt rfl rfl rfl
  blk_simp
  rw [after2_2]
  unfold outsAt2 out2_A_2
  frame_out
  exact (point (iblk2 V c 0 t) (iblk2 V c 1 t) (t.val % 2) (t.val / 2) (cols hx _ (by omega) (g := ((cfg2.win 0).blk t).view.emb) fun s b => by blk_ext [p0, p1])
    (hid hy _ (by omega) (g := ((cfg2.win 1).blk t).view.emb) fun s n => by blk_ext [q0, q1, q2]) b n).trans e.symm

theorem upto2 (c : Dev nD) : Done m c 2 (W6 m ρ c main_v23) :=
  step m c 1 2 (W6_arr m ρ c 2) (call2 m (V5 m ρ) c (x2 m ρ c) (y2 m ρ c)) (b2 m ρ c) (upto1 m ρ c) (by unfold turn; omega)

/-! ### Call 3: layer 2, the second weight -/

theorem x3 (c : Dev nD) : Holds (V7 m ρ c main_v17) (m ((c : Thread nD τ).loc main_arg0)) 2 := fun s d =>
  (congrFun ((W7_of m ρ c main_v17 (by decide)).trans (W6_of m ρ c main_v17 (by decide))) _).trans (x2 m ρ c s d)

theorem y3 (c : Dev nD) : Hidden (V7 m ρ c main_v28) (m ((c : Thread nD τ).loc main_arg2)) 2 := by
  have e : V7 m ρ c main_v28 = parts (W6 m ρ c main_arg2) 2 slices_S4x4096x2816_S1x4096x2816_2_0_0 := by unfold V7 W7 hostOps3; after_results; rfl
  rw [e, W6_args m ρ c main_arg2 (by decide)]
  exact parts_at _ 2 _

theorem b3 (c : Dev nD) : V7 m ρ c main_v29 = W6 m ρ c main_v23 := by unfold V7 W7 hostOps3; after_results; rfl

theorem idx3 : ∀ t : Fin cfg3.N, At2 (win3_0.index t) 0 (t.val % 2) ∧ At3 (win3_1.index t) (t.val / 2) 0 0 ∧ At3 (win3_2.index t) (t.val / 2) (2 * 6 + t.val % 2) 0 := by decide +kernel

set_option maxHeartbeats 2000000 in
theorem call3 (c : Dev nD) (hx : Holds (V c main_v17) (m ((c : Thread nD τ).loc main_arg0)) 2) (hy : Hidden (V c main_v28) (m ((c : Thread nD τ).loc main_arg2)) 2) : Fills m c 6 ((dat3 V c).arrAt 2 cfg3.N) (V c main_v29) := by
  refine fun i => (dat3 V c).arrAt_apply_of_coversWhere 2 (G m c) (P := fun i => (i 1).val / 512 / 2 = 6) (fun β => β (1 : Fin 3) / 2 = 6) (by decide +kernel) (fun t hf y => ?_) (fun j => Iff.rfl) i
  obtain ⟨⟨p0, p1⟩, ⟨q0, q1, q2⟩, o⟩ := idx3 t
  have ht : t.val < 8 := t.isLt
  obtain ⟨a, b, n, rfl⟩ := ex3 1 512 704 y
  obtain rfl : a = 0 := Subsingleton.elim _ _
  have e := G_at m c (((cfg3.win 2).blk t).view.emb (ix3 0 b n)) 6 t.val o (n := n.val) b.isLt rfl rfl rfl
  blk_simp
  rw [after3_2]
  unfold outsAt3 out3_A_2
  frame_out
  exact (point (iblk3 V c 0 t) (iblk3 V c 1 t) (t.val % 2) (t.val / 2) (cols hx _ (by omega) (g := ((cfg3.win 0).blk t).view.emb) fun s b => by blk_ext [p0, p1])
    (hid hy _ (by omega) (g := ((cfg3.win 1).blk t).view.emb) fun s n => by blk_ext [q0, q1, q2]) b n).trans e.symm

theorem upto3 (c : Dev nD) : Done m c 3 (W8 m ρ c main_v29) :=
  step m c 2 6 (W8_arr m ρ c 2) (call3 m (V7 m ρ) c (x3 m ρ c) (y3 m ρ c)) (b3 m ρ c) (upto2 m ρ c) (by unfold turn; omega)

/-! ### Call 4: layer 1, the first weight -/

theorem x4 (c : Dev nD) : Holds (V9 m ρ c main_v32) (m ((c : Thread nD τ).loc main_arg0)) 1 := by
  have e : V9 m ρ c main_v32 = layer (W8 m ρ c main_arg0) 1 slices_S4x4096x1024_S1x4096x1024_1_0_0 := by unfold V9 W9 hostOps4; after_results; rfl
  rw [e, W8_args m ρ c main_arg0 (by decide)]
  exact layer_at _ 1 _

theorem y4 (c : Dev nD) : Hidden (V9 m ρ c main_v37) (m ((c : Thread nD τ).loc main_arg1)) 1 := by
  have e : V9 m ρ c main_v37 = parts (W8 m ρ c main_arg1) 1 slices_S4x4096x2816_S1x4096x2816_1_0_0 := by unfold V9 W9 hostOps4; after_results; rfl
  rw [e, W8_args m ρ c main_arg1 (by decide)]
  exact parts_at _ 1 _

theorem b4 (c : Dev nD) : V9 m ρ c main_v38 = W8 m ρ c main_v29 := by unfold V9 W9 hostOps4; after_results; rfl

theorem idx4 : ∀ t : Fin cfg4.N, At2 (win4_0.index t) 0 (t.val % 2) ∧ At3 (win4_1.index t) (t.val / 2) 0 0 ∧ At3 (win4_2.index t) (t.val / 2) (2 * 1 + t.val % 2) 0 := by decide +kernel

set_option maxHeartbeats 2000000 in
theorem call4 (c : Dev nD) (hx : Holds (V c main_v32) (m ((c : Thread nD τ).loc main_arg0)) 1) (hy : Hidden (V c main_v37) (m ((c : Thread nD τ).loc main_arg1)) 1) : Fills m c 1 ((dat4 V c).arrAt 2 cfg4.N) (V c main_v38) := by
  refine fun i => (dat4 V c).arrAt_apply_of_coversWhere 2 (G m c) (P := fun i => (i 1).val / 512 / 2 = 1) (fun β => β (1 : Fin 3) / 2 = 1) (by decide +kernel) (fun t hf y => ?_) (fun j => Iff.rfl) i
  obtain ⟨⟨p0, p1⟩, ⟨q0, q1, q2⟩, o⟩ := idx4 t
  have ht : t.val < 8 := t.isLt
  obtain ⟨a, b, n, rfl⟩ := ex3 1 512 704 y
  obtain rfl : a = 0 := Subsingleton.elim _ _
  have e := G_at m c (((cfg4.win 2).blk t).view.emb (ix3 0 b n)) 1 t.val o (n := n.val) b.isLt rfl rfl rfl
  blk_simp
  rw [after4_2]
  unfold outsAt4 out4_A_2
  frame_out
  exact (point (iblk4 V c 0 t) (iblk4 V c 1 t) (t.val % 2) (t.val / 2) (cols hx _ (by omega) (g := ((cfg4.win 0).blk t).view.emb) fun s b => by blk_ext [p0, p1])
    (hid hy _ (by omega) (g := ((cfg4.win 1).blk t).view.emb) fun s n => by blk_ext [q0, q1, q2]) b n).trans e.symm

theorem upto4 (c : Dev nD) : Done m c 4 (W10 m ρ c main_v38) :=
  step m c 3 1 (W10_arr m ρ c 2) (call4 m (V9 m ρ) c (x4 m ρ c) (y4 m ρ c)) (b4 m ρ c) (upto3 m ρ c) (by unfold turn; omega)

/-! ### Call 5: layer 1, the second weight -/

theorem x5 (c : Dev nD) : Holds (V11 m ρ c main_v32) (m ((c : Thread nD τ).loc main_arg0)) 1 := fun s d =>
  (congrFun ((W11_of m ρ c main_v32 (by decide)).trans (W10_of m ρ c main_v32 (by decide))) _).trans (x4 m ρ c s d)

theorem y5 (c : Dev nD) : Hidden (V11 m ρ c main_v43) (m ((c : Thread nD τ).loc main_arg2)) 1 := by
  have e : V11 m ρ c main_v43 = parts (W10 m ρ c main_arg2) 1 slices_S4x4096x2816_S1x4096x2816_1_0_0 := by unfold V11 W11 hostOps5; after_results; rfl
  rw [e, W10_args m ρ c main_arg2 (by decide)]
  exact parts_at _ 1 _

theorem b5 (c : Dev nD) : V11 m ρ c main_v44 = W10 m ρ c main_v38 := by unfold V11 W11 hostOps5; after_results; rfl

theorem idx5 : ∀ t : Fin cfg5.N, At2 (win5_0.index t) 0 (t.val % 2) ∧ At3 (win5_1.index t) (t.val / 2) 0 0 ∧ At3 (win5_2.index t) (t.val / 2) (2 * 5 + t.val % 2) 0 := by decide +kernel

set_option maxHeartbeats 2000000 in
theorem call5 (c : Dev nD) (hx : Holds (V c main_v32) (m ((c : Thread nD τ).loc main_arg0)) 1) (hy : Hidden (V c main_v43) (m ((c : Thread nD τ).loc main_arg2)) 1) : Fills m c 5 ((dat5 V c).arrAt 2 cfg5.N) (V c main_v44) := by
  refine fun i => (dat5 V c).arrAt_apply_of_coversWhere 2 (G m c) (P := fun i => (i 1).val / 512 / 2 = 5) (fun β => β (1 : Fin 3) / 2 = 5) (by decide +kernel) (fun t hf y => ?_) (fun j => Iff.rfl) i
  obtain ⟨⟨p0, p1⟩, ⟨q0, q1, q2⟩, o⟩ := idx5 t
  have ht : t.val < 8 := t.isLt
  obtain ⟨a, b, n, rfl⟩ := ex3 1 512 704 y
  obtain rfl : a = 0 := Subsingleton.elim _ _
  have e := G_at m c (((cfg5.win 2).blk t).view.emb (ix3 0 b n)) 5 t.val o (n := n.val) b.isLt rfl rfl rfl
  blk_simp
  rw [after5_2]
  unfold outsAt5 out5_A_2
  frame_out
  exact (point (iblk5 V c 0 t) (iblk5 V c 1 t) (t.val % 2) (t.val / 2) (cols hx _ (by omega) (g := ((cfg5.win 0).blk t).view.emb) fun s b => by blk_ext [p0, p1])
    (hid hy _ (by omega) (g := ((cfg5.win 1).blk t).view.emb) fun s n => by blk_ext [q0, q1, q2]) b n).trans e.symm

theorem upto5 (c : Dev nD) : Done m c 5 (W12 m ρ c main_v44) :=
  step m c 4 5 (W12_arr m ρ c 2) (call5 m (V11 m ρ) c (x5 m ρ c) (y5 m ρ c)) (b5 m ρ c) (upto4 m ρ c) (by unfold turn; omega)

/-! ### Call 6: layer 0, the first weight -/

theorem x6 (c : Dev nD) : Holds (V13 m ρ c main_v47) (m ((c : Thread nD τ).loc main_arg0)) 0 := by
  have e : V13 m ρ c main_v47 = layer (W12 m ρ c main_arg0) 0 slices_S4x4096x1024_S1x4096x1024_0_0_0 := by unfold V13 W13 hostOps6; after_results; rfl
  rw [e, W12_args m ρ c main_arg0 (by decide)]
  exact layer_at _ 0 _

theorem y6 (c : Dev nD) : Hidden (V13 m ρ c main_v52) (m ((c : Thread nD τ).loc main_arg1)) 0 := by
  have e : V13 m ρ c main_v52 = parts (W12 m ρ c main_arg1) 0 slices_S4x4096x2816_S1x4096x2816_0_0_0 := by unfold V13 W13 hostOps6; after_results; rfl
  rw [e, W12_args m ρ c main_arg1 (by decide)]
  exact parts_at _ 0 _

theorem b6 (c : Dev nD) : V13 m ρ c main_v53 = W12 m ρ c main_v44 := by unfold V13 W13 hostOps6; after_results; rfl

theorem idx6 : ∀ t : Fin cfg6.N, At2 (win6_0.index t) 0 (t.val % 2) ∧ At3 (win6_1.index t) (t.val / 2) 0 0 ∧ At3 (win6_2.index t) (t.val / 2) (2 * 0 + t.val % 2) 0 := by decide +kernel

set_option maxHeartbeats 2000000 in
theorem call6 (c : Dev nD) (hx : Holds (V c main_v47) (m ((c : Thread nD τ).loc main_arg0)) 0) (hy : Hidden (V c main_v52) (m ((c : Thread nD τ).loc main_arg1)) 0) : Fills m c 0 ((dat6 V c).arrAt 2 cfg6.N) (V c main_v53) := by
  refine fun i => (dat6 V c).arrAt_apply_of_coversWhere 2 (G m c) (P := fun i => (i 1).val / 512 / 2 = 0) (fun β => β (1 : Fin 3) / 2 = 0) (by decide +kernel) (fun t hf y => ?_) (fun j => Iff.rfl) i
  obtain ⟨⟨p0, p1⟩, ⟨q0, q1, q2⟩, o⟩ := idx6 t
  have ht : t.val < 8 := t.isLt
  obtain ⟨a, b, n, rfl⟩ := ex3 1 512 704 y
  obtain rfl : a = 0 := Subsingleton.elim _ _
  have e := G_at m c (((cfg6.win 2).blk t).view.emb (ix3 0 b n)) 0 t.val o (n := n.val) b.isLt rfl rfl rfl
  blk_simp
  rw [after6_2]
  unfold outsAt6 out6_A_2
  frame_out
  exact (point (iblk6 V c 0 t) (iblk6 V c 1 t) (t.val % 2) (t.val / 2) (cols hx _ (by omega) (g := ((cfg6.win 0).blk t).view.emb) fun s b => by blk_ext [p0, p1])
    (hid hy _ (by omega) (g := ((cfg6.win 1).blk t).view.emb) fun s n => by blk_ext [q0, q1, q2]) b n).trans e.symm

theorem upto6 (c : Dev nD) : Done m c 6 (W14 m ρ c main_v53) :=
  step m c 5 0 (W14_arr m ρ c 2) (call6 m (V13 m ρ) c (x6 m ρ c) (y6 m ρ c)) (b6 m ρ c) (upto5 m ρ c) (by unfold turn; omega)

/-! ### Call 7: layer 0, the second weight -/

theorem x7 (c : Dev nD) : Holds (V15 m ρ c main_v47) (m ((c : Thread nD τ).loc main_arg0)) 0 := fun s d =>
  (congrFun ((W15_of m ρ c main_v47 (by decide)).trans (W14_of m ρ c main_v47 (by decide))) _).trans (x6 m ρ c s d)

theorem y7 (c : Dev nD) : Hidden (V15 m ρ c main_v58) (m ((c : Thread nD τ).loc main_arg2)) 0 := by
  have e : V15 m ρ c main_v58 = parts (W14 m ρ c main_arg2) 0 slices_S4x4096x2816_S1x4096x2816_0_0_0 := by unfold V15 W15 hostOps7; after_results; rfl
  rw [e, W14_args m ρ c main_arg2 (by decide)]
  exact parts_at _ 0 _

theorem b7 (c : Dev nD) : V15 m ρ c main_v59 = W14 m ρ c main_v53 := by unfold V15 W15 hostOps7; after_results; rfl

theorem idx7 : ∀ t : Fin cfg7.N, At2 (win7_0.index t) 0 (t.val % 2) ∧ At3 (win7_1.index t) (t.val / 2) 0 0 ∧ At3 (win7_2.index t) (t.val / 2) (2 * 4 + t.val % 2) 0 := by decide +kernel

set_option maxHeartbeats 2000000 in
theorem call7 (c : Dev nD) (hx : Holds (V c main_v47) (m ((c : Thread nD τ).loc main_arg0)) 0) (hy : Hidden (V c main_v58) (m ((c : Thread nD τ).loc main_arg2)) 0) : Fills m c 4 ((dat7 V c).arrAt 2 cfg7.N) (V c main_v59) := by
  refine fun i => (dat7 V c).arrAt_apply_of_coversWhere 2 (G m c) (P := fun i => (i 1).val / 512 / 2 = 4) (fun β => β (1 : Fin 3) / 2 = 4) (by decide +kernel) (fun t hf y => ?_) (fun j => Iff.rfl) i
  obtain ⟨⟨p0, p1⟩, ⟨q0, q1, q2⟩, o⟩ := idx7 t
  have ht : t.val < 8 := t.isLt
  obtain ⟨a, b, n, rfl⟩ := ex3 1 512 704 y
  obtain rfl : a = 0 := Subsingleton.elim _ _
  have e := G_at m c (((cfg7.win 2).blk t).view.emb (ix3 0 b n)) 4 t.val o (n := n.val) b.isLt rfl rfl rfl
  blk_simp
  rw [after7_2]
  unfold outsAt7 out7_A_2
  frame_out
  exact (point (iblk7 V c 0 t) (iblk7 V c 1 t) (t.val % 2) (t.val / 2) (cols hx _ (by omega) (g := ((cfg7.win 0).blk t).view.emb) fun s b => by blk_ext [p0, p1])
    (hid hy _ (by omega) (g := ((cfg7.win 1).blk t).view.emb) fun s n => by blk_ext [q0, q1, q2]) b n).trans e.symm

theorem upto7 (c : Dev nD) : Done m c 7 (W16 m ρ c main_v59) :=
  step m c 6 4 (W16_arr m ρ c 2) (call7 m (V15 m ρ) c (x7 m ρ c) (y7 m ρ c)) (b7 m ρ c) (upto6 m ρ c) (by unfold turn; omega)

end Cert.Kernel3Ideal.Hand
-- ==== Proof.Value3.Algebraic.lean ====
/-
  The weight gradients: the kernel's two results and the reference's two results are the same extended reals, whatever the
  arguments hold.
-/
module

public import proofs.«01_k».proof.Defs
public import proofs.«01_k».proof.Proof.Value3.Calls
public import proofs.«01_k».proof.Proof.Gen.Reference3Ideal
public import proofs.«01_k».proof.Proof.Gen.Reference3Ideal.Run
public import proofs.«01_k».proof.Proof.Gen.Reference3Ideal.Read

@[expose] public section

set_option maxRecDepth 16384

noncomputable section

namespace Cert.Kernel3Ideal.Hand

open Cert.Kernel3Ideal Cert.Kernel3Ideal.Gen Cert.Entries
open Idealize.ShloMosaic Idealize.ShloMosaic.TcCoe Idealize.ShloMosaic.Tactic
open Idealize.SL.Sem
open Idealize.ShloMosaic.StableHlo

/-- The gradient of one weight in all four layers. -/
def grad (x : S4x4096x1024.Idx → EReal) (y : S4x4096x2816.Idx → EReal) : S4x1024x2816.Idx → EReal :=
  fun i => prod x y (i 0).val (i 1).val (i 2).val

/-- The reference's result. -/
theorem ref_at (x : FVec Ideal Cert.Reference3Ideal.S4x4096x1024 .f32) (y : FVec Ideal Cert.Reference3Ideal.S4x4096x2816 .f32) :
    (transpose Cert.Reference3Ideal.S4x1024x2816 [0, 2, 1] (Host.dotGeneral (F := Ideal) (sl := Cert.Reference3Ideal.S4x4096x2816) (sr := Cert.Reference3Ideal.S4x4096x1024)
      (so := Cert.Reference3Ideal.S4x2816x1024) (φ₁ := .f32) (φ₂ := .f32) Cert.Reference3Ideal.dot_S4x4096x2816_S4x4096x1024_S4x2816x1024_1_1_2_2_0_0 none y x)
      Cert.Reference3Ideal.Facts₀.transposes_S4x2816x1024_S4x1024x2816_0_2_1 : S4x1024x2816.Idx → EReal) = grad x y := by
  funext i
  obtain ⟨l, d, n, rfl⟩ := ex3 4 1024 2816 i
  pointwise
  show (∑ s : Fin 4096, @HMul.hMul EReal EReal EReal _ (y (ix3 l s n)) (x (ix3 l s d))) = ∑ s : Fin 4096, at3 x l.val s.val d.val * at3 y l.val s.val n.val
  refine Finset.sum_congr rfl fun s _ => ?_
  rw [mul_comm]
  exact congrArg₂ _ (at3_fin x l s d) (at3_fin y l s n)

variable (m : (ℓ : Loc nD τ sig) → Buf (Elt Ideal) ℓ) (ρ : Dev nD → PrngReg)

theorem last (c : Dev nD) (i : S4x8192x704.Idx) : (W16 m ρ c main_v59 : S4x8192x704.Idx → EReal) i = G m c i := by
  have hi : (i 1).val < 8192 := (i 1).isLt
  exact upto7 m ρ c i (by unfold turn; omega)

/-- The kernel's first result. -/
theorem res_up (c : Dev nD) : (W17 m ρ c main_v64 : S4x1024x2816.Idx → EReal) = grad (m ((c : Thread nD τ).loc main_arg0)) (m ((c : Thread nD τ).loc main_arg1)) := by
  have e : W17 m ρ c main_v64 = shapeCast S4x1024x2816 (extractStridedSlice S4096x2816 ![0, 0] (extf (F := Ideal) .f32 (shapeCast S8192x2816 (transpose S8192x4x704 [1, 0, 2] (W16 m ρ c main_v59) transposes_S4x8192x704_S8192x4x704_1_0_2) shapeCasts_S8192x4x704_S8192x2816) bitsLt_bf16_f32) slices_S8192x2816_S4096x2816_0_0) shapeCasts_S4096x2816_S4x1024x2816 := by
    unfold W17 hostOps8
    after_results
    rfl
  funext i
  obtain ⟨l, d, n, rfl⟩ := ex3 4 1024 2816 i
  have hl := l.isLt
  have hd := d.isLt
  rw [e]
  pointwise
  refine (last m ρ c _).trans ?_
  show prod _ (if (l.val * 1024 + d.val) / 4096 = 0 then _ else _) ((l.val * 1024 + d.val) / 1024 % 4) ((l.val * 1024 + d.val) % 1024) (n.val / 704 * 704 + n.val % 704) = prod _ _ l.val d.val n.val
  rw [if_pos (by omega), show (l.val * 1024 + d.val) / 1024 % 4 = l.val by omega, show (l.val * 1024 + d.val) % 1024 = d.val by omega, show n.val / 704 * 704 + n.val % 704 = n.val by omega]

/-- The kernel's second result. -/
theorem res_gate (c : Dev nD) : (W17 m ρ c main_v66 : S4x1024x2816.Idx → EReal) = grad (m ((c : Thread nD τ).loc main_arg0)) (m ((c : Thread nD τ).loc main_arg2)) := by
  have e : W17 m ρ c main_v66 = shapeCast S4x1024x2816 (extractStridedSlice S4096x2816 ![4096, 0] (extf (F := Ideal) .f32 (shapeCast S8192x2816 (transpose S8192x4x704 [1, 0, 2] (W16 m ρ c main_v59) transposes_S4x8192x704_S8192x4x704_1_0_2) shapeCasts_S8192x4x704_S8192x2816) bitsLt_bf16_f32) slices_S8192x2816_S4096x2816_4096_0) shapeCasts_S4096x2816_S4x1024x2816 := by
    unfold W17 hostOps8
    after_results
    rfl
  funext i
  obtain ⟨l, d, n, rfl⟩ := ex3 4 1024 2816 i
  have hl := l.isLt
  have hd := d.isLt
  rw [e]
  pointwise
  refine (last m ρ c _).trans ?_
  show prod _ (if (4096 + (l.val * 1024 + d.val)) / 4096 = 0 then _ else _) ((4096 + (l.val * 1024 + d.val)) / 1024 % 4) ((4096 + (l.val * 1024 + d.val)) % 1024) (n.val / 704 * 704 + n.val % 704) = prod _ _ l.val d.val n.val
  rw [if_neg (by omega), show (4096 + (l.val * 1024 + d.val)) / 1024 % 4 = l.val by omega, show (4096 + (l.val * 1024 + d.val)) % 1024 = d.val by omega, show n.val / 704 * 704 + n.val % 704 = n.val by omega]

/-- The two programs' results are equal, and both leave their arguments as they were. -/
theorem algebraic : Cert.algebraic_Kernel3Ideal_Reference3Ideal := by
  intro m g m' g' _ ha
  refine ⟨fun c => grad (m ((c : Thread nD τ).loc main_arg0)) (m ((c : Thread nD τ).loc main_arg1)), fun c => grad (m ((c : Thread nD τ).loc main_arg0)) (m ((c : Thread nD τ).loc main_arg2)), ?_, ?_⟩
  · refine (θ_run defs _ _).mono (fun r h c => ?_) (run m g)
    exact ⟨(h c _ (mem_uc main_v64 (by decide))).trans (res_up m g c), (h c _ (mem_uc main_v66 (by decide))).trans (res_gate m g c),
      (h c _ (mem_uc main_arg0 (by decide))).trans (W17_main_arg0 m g c), (h c _ (mem_uc main_arg1 (by decide))).trans (W17_main_arg1 m g c),
      (h c _ (mem_uc main_arg2 (by decide))).trans (W17_main_arg2 m g c), (h c _ (mem_uc main_arg3 (by decide))).trans (W17_main_arg3 m g c)⟩
  · refine (θ_run Cert.Reference3Ideal.defs _ _).mono (fun r h c => ?_) (Cert.Reference3Ideal.Value.run (F := Ideal) m' g')
    obtain ⟨h0, h1, hr⟩ := h c
    obtain ⟨a0, a1, a2, a3⟩ := ha c
    refine ⟨h0.trans ?_, h1.trans ?_, hr⟩
    · rw [a0, a1]; exact ref_at _ _
    · rw [a0, a2]; exact ref_at _ _

end Cert.Kernel3Ideal.Hand
-- ==== Proof.Value4.Vec.lean ====
/-
  The input gradients: the product of a row of the hidden gradient and a row of the weight in four parts, what one call stores at
  one of its points, and the run of the whole program with every buffer named.
-/
module

public import proofs.«01_k».proof.Proof.Gen.Kernel4Ideal.Frame
public import proofs.«01_k».proof.Proof.Entries

@[expose] public section

set_option maxRecDepth 16384

noncomputable section

namespace Cert.Kernel4Ideal.Hand

open Cert.Kernel4Ideal Cert.Kernel4Ideal.Gen Cert.Entries
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

local notation "𝕄" => MT nD τ sig Unit (Elt Ideal) ℕ (UR sig nD τ) ℕ

/-- Part `f` of the product of row `s` of layer `l`'s hidden gradient and row `d` of its weight: 704 columns. -/
def part (y : S4x4096x2816.Idx → EReal) (w : S4x1024x2816.Idx → EReal) (l s d f : ℕ) : EReal :=
  ∑ n : Fin 704, at3 y l s (f * 704 + n.val) * at3 w l d (f * 704 + n.val)

/-- The four parts, added in order. -/
def dot (y : S4x4096x2816.Idx → EReal) (w : S4x1024x2816.Idx → EReal) (l s d : ℕ) : EReal :=
  part y w l s d 0 + part y w l s d 1 + part y w l s d 2 + part y w l s d 3

/-- The four parts are the whole sum over the 2816 columns. -/
theorem dot_eq (y : S4x4096x2816.Idx → EReal) (w : S4x1024x2816.Idx → EReal) (l s d : ℕ) :
    dot y w l s d = ∑ n : Fin 2816, at3 y l s n.val * at3 w l d n.val := by
  have h : ∀ k : ℕ → EReal, (∑ n ∈ Finset.range 704, k (0 * 704 + n)) + (∑ n ∈ Finset.range 704, k (1 * 704 + n))
      + (∑ n ∈ Finset.range 704, k (2 * 704 + n)) + (∑ n ∈ Finset.range 704, k (3 * 704 + n)) = ∑ n ∈ Finset.range 2816, k n := by
    intro k
    rw [show (2816 : ℕ) = 704 + 704 + 704 + 704 from rfl, Finset.sum_range_add, Finset.sum_range_add, Finset.sum_range_add]
    simp only [zero_mul, zero_add, one_mul]
  have h' := h fun n => at3 y l s n * at3 w l d n
  simp only [Finset.sum_range] at h'
  exact h'

/-- The block a call stores: the four products, added, and the block it adds to. -/
theorem pay_at (x0 x1 x2 x3 : Vec Ideal S1x512x704 .bf16) (w0 w1 w2 w3 : Vec Ideal S1x1x1024x704 .bf16) (r : Vec Ideal S512x1024 .f32) (s : Fin 512) (d : Fin 1024) :
    (k0_pay1 (k0_pay2 x0 w0 x1 w1 x2 w2 x3 w3) (k0_pay3 r) : S512x1024.Idx → EReal) (ix2 s d)
    = @HAdd.hAdd EReal EReal EReal _ ((∑ n : Fin 704, @HMul.hMul EReal EReal EReal _ (x0 (ix3 0 s n)) (w0 (ix4 0 0 d n))) + (∑ n : Fin 704, @HMul.hMul EReal EReal EReal _ (x1 (ix3 0 s n)) (w1 (ix4 0 0 d n)))
      + (∑ n : Fin 704, @HMul.hMul EReal EReal EReal _ (x2 (ix3 0 s n)) (w2 (ix4 0 0 d n))) + (∑ n : Fin 704, @HMul.hMul EReal EReal EReal _ (x3 (ix3 0 s n)) (w3 (ix4 0 0 d n)))) (r (ix2 s d)) := by
  unfold k0_pay1 k0_pay2 k0_pay3
  pointwise

variable (m : (ℓ : Loc nD τ sig) → Buf (Elt Ideal) ℓ) (ρ : Dev nD → PrngReg)

set_option backward.isDefEq.respectTransparency.types false in
/-- The program runs to the end, and every buffer holds what its 16 parts leave in turn. -/
theorem run : θ_run defs (onTc (τ := τ) (main (F := Ideal))) ⟨m, fun _ => 0, ρ⟩ (fun r => ∀ (c : Dev nD), ∀ b ∈ Pipeline.ucRefs τ sig,
    r.2.mem (((c : Thread nD τ)).1, b) = W16 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      have he : (BI.emp : sProp 𝕄) ⊢ bigSep Finset.univ (fun _ : Dev nD => (BI.emp : sProp 𝕄)) := by rw [BI.bigSep_emp_const]
      iintro Hu
      imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      · iapply he
        iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl, fun _ => .rfl⟩)
    (hinit := Pipeline.initEach L lv fun c => by
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hbufs, -, Howed, -, Hgen, -⟩, -⟩
      imodintro
      isplitl [Hbufs]
      · iexact Hbufs
      isplitl [Hgen]
      · iexists _
        iexact Hgen
      · iexists ∅
        iexact Howed)
    (QY := fun c s => ∀ b ∈ Pipeline.ucRefs τ sig, s.mem (((c : Thread nD τ)).1, b) = W16 m ρ c b)
    (hfin := fun c s' => by
      iintro ⟨⟨Hbufs, -⟩, Hs⟩
      unfold StableHlo.held
      imodintro
      iapply (pointsTo_read_all (Pipeline.ucRefs τ sig) (fun b => (((c : Thread nD τ)).1, b)) (W16 m ρ c) s')
      isplitl [Hbufs]
      · iexact Hbufs
      · iexact Hs)
    (hQ := fun s h _ => h)

/-- One point of a call, rows `512 t` to `512 t + 511`: the blocks `b…` of the hidden gradient, `v…` of the weight, and `r` the
    block the products are added to. -/
theorem point {Y : S4x4096x2816.Idx → EReal} {W : S4x1024x2816.Idx → EReal} {R : S4096x1024.Idx → EReal} {l : ℕ}
    (b0 b1 b2 b3 : Vec Ideal S1x512x704 .bf16) (v0 v1 v2 v3 : Vec Ideal S1x1x1024x704 .bf16) (r : Vec Ideal S512x1024 .f32) (t : ℕ) (ht : t < 8)
    (hb0 : ∀ (s : Fin 512) (n : Fin 704), b0 (ix3 0 s n) = at3 Y l (t * 512 + s.val) (0 * 704 + n.val))
    (hb1 : ∀ (s : Fin 512) (n : Fin 704), b1 (ix3 0 s n) = at3 Y l (t * 512 + s.val) (1 * 704 + n.val))
    (hb2 : ∀ (s : Fin 512) (n : Fin 704), b2 (ix3 0 s n) = at3 Y l (t * 512 + s.val) (2 * 704 + n.val))
    (hb3 : ∀ (s : Fin 512) (n : Fin 704), b3 (ix3 0 s n) = at3 Y l (t * 512 + s.val) (3 * 704 + n.val))
    (hv0 : ∀ (d : Fin 1024) (n : Fin 704), v0 (ix4 0 0 d n) = at3 W l d.val (0 * 704 + n.val))
    (hv1 : ∀ (d : Fin 1024) (n : Fin 704), v1 (ix4 0 0 d n) = at3 W l d.val (1 * 704 + n.val))
    (hv2 : ∀ (d : Fin 1024) (n : Fin 704), v2 (ix4 0 0 d n) = at3 W l d.val (2 * 704 + n.val))
    (hv3 : ∀ (d : Fin 1024) (n : Fin 704), v3 (ix4 0 0 d n) = at3 W l d.val (3 * 704 + n.val))
    (hr : ∀ (s : Fin 512) (d : Fin 1024), r (ix2 s d) = R (ix2 ⟨t * 512 + s.val, by omega⟩ d)) (s : Fin 512) (d : Fin 1024) :
    (k0_pay1 (k0_pay2 b0 v0 b1 v1 b2 v2 b3 v3) (k0_pay3 r) : S512x1024.Idx → EReal) (ix2 s d)
    = dot Y W l (t * 512 + s.val) d.val + R (ix2 ⟨t * 512 + s.val, by omega⟩ d) := by
  rw [pay_at]
  unfold dot part
  simp only [hb0, hb1, hb2, hb3, hv0, hv1, hv2, hv3, hr]

end Cert.Kernel4Ideal.Hand
-- ==== Proof.Value4.Facts.lean ====
/-
  What the calls of the input gradients are handed, and which part of an array each of their blocks is.
-/
module

public import proofs.«01_k».proof.Proof.Value4.Vec

@[expose] public section

set_option maxRecDepth 16384

noncomputable section

namespace Cert.Kernel4Ideal.Hand

open Cert.Kernel4Ideal Cert.Kernel4Ideal.Gen Cert.Entries
open Idealize.ShloMosaic Idealize.ShloMosaic.TcCoe Idealize.ShloMosaic.Tactic
open Idealize.SL.Sem
open Idealize.ShloMosaic.StableHlo
open Idealize.ShloMosaic.Pipeline (Dat)

/-- What a call leaves: the products of all rows, added to the array `r`. -/
def step (y : S4x4096x2816.Idx → EReal) (w : S4x1024x2816.Idx → EReal) (l : ℕ) (r : S4096x1024.Idx → EReal) : S4096x1024.Idx → EReal :=
  fun i => dot y w l (i 0).val (i 1).val + r i

/-- The array `v` holds layer `l` of the hidden gradient with its columns in four parts, and `w` every layer of a weight. -/
def Hidden (v : S4x4096x704.Idx → EReal) (y : S4x4096x2816.Idx → EReal) (l : ℕ) : Prop :=
  ∀ (f : Fin 4) (s : Fin 4096) (n : Fin 704), v (ix3 f s n) = at3 y l s.val (f.val * 704 + n.val)

def Weight (v : S4x4x1024x704.Idx → EReal) (w : S4x1024x2816.Idx → EReal) (l : Fin 4) : Prop :=
  ∀ (f : Fin 4) (d : Fin 1024) (n : Fin 704), v (ix4 f l d n) = at3 w l.val d.val (f.val * 704 + n.val)

/-- One layer with its columns in four parts, one layer as it is, and a weight with its columns in four parts. -/
def parts (y : FVec Ideal S4x4096x2816 .f32) (l : ℕ) (h : S4x4096x2816.Slices ![l, 0, 0] S1x4096x2816) : FVec Ideal S4x4096x704 .bf16 :=
  transpose S4x4096x704 [1, 0, 2] (shapeCast S4096x4x704 (truncf (F := Ideal) .bf16 (shapeCast S4096x2816 (extractStridedSlice S1x4096x2816 ![l, 0, 0] y h)
    shapeCasts_S1x4096x2816_S4096x2816) bitsLt_bf16_f32) shapeCasts_S4096x2816_S4096x4x704) transposes_S4096x4x704_S4x4096x704_1_0_2

def layer (x : FVec Ideal S4x4096x1024 .f32) (l : ℕ) (h : S4x4096x1024.Slices ![l, 0, 0] S1x4096x1024) : FVec Ideal S4096x1024 .f32 :=
  shapeCast S4096x1024 (extractStridedSlice S1x4096x1024 ![l, 0, 0] x h) shapeCasts_S1x4096x1024_S4096x1024

def weight (w : FVec Ideal S4x1024x2816 .f32) : FVec Ideal S4x4x1024x704 .bf16 :=
  transpose S4x4x1024x704 [2, 0, 1, 3] (shapeCast S4x1024x4x704 (truncf (F := Ideal) .bf16 w bitsLt_bf16_f32) shapeCasts_S4x1024x2816_S4x1024x4x704)
    transposes_S4x1024x4x704_S4x4x1024x704_2_0_1_3

theorem parts_at (y : FVec Ideal S4x4096x2816 .f32) (l : Fin 4) (h : S4x4096x2816.Slices ![l.val, 0, 0] S1x4096x2816) : Hidden (parts y l.val h) y l.val := by
  intro f s n
  unfold parts
  pointwise
  exact at3_fin y l s ⟨f.val * 704 + n.val, by omega⟩

theorem layer_at (x : FVec Ideal S4x4096x1024 .f32) (l : Fin 4) (h : S4x4096x1024.Slices ![l.val, 0, 0] S1x4096x1024) (s : Fin 4096) (d : Fin 1024) :
    (layer x l.val h : S4096x1024.Idx → EReal) (ix2 s d) = at3 x l.val s.val d.val := by
  unfold layer
  pointwise
  exact at3_fin x l s d

theorem weight_at (w : FVec Ideal S4x1024x2816 .f32) (l : Fin 4) : Weight (weight w) w l := by
  intro f d n
  unfold weight
  pointwise
  exact at3_fin w l d ⟨f.val * 704 + n.val, by omega⟩

/-- Where a block stands: of rows, of part `f` of the hidden gradient, of part `f` of layer `l` of a weight. -/
abbrev At2 (i : Fin 2 → ℕ) (t : ℕ) : Prop := i 0 = t ∧ i 1 = 0

abbrev At3 (i : Fin 3 → ℕ) (f t : ℕ) : Prop := i 0 = f ∧ i 1 = t ∧ i 2 = 0

abbrev At4 (i : Fin 4 → ℕ) (f l : ℕ) : Prop := i 0 = f ∧ i 1 = l ∧ i 2 = 0 ∧ i 3 = 0

theorem hid {v : S4x4096x704.Idx → EReal} {y : S4x4096x2816.Idx → EReal} {l : ℕ} (hv : Hidden v y l) (f : Fin 4) (t : Fin 8) {g : S1x512x704.Idx → S4x4096x704.Idx}
    (hg : ∀ (s : Fin 512) (n : Fin 704), g (ix3 0 s n) = ix3 f ⟨t.val * 512 + s.val, by omega⟩ n) (s : Fin 512) (n : Fin 704) :
    v (g (ix3 0 s n)) = at3 y l (t.val * 512 + s.val) (f.val * 704 + n.val) :=
  (congrArg v (hg s n)).trans (hv f ⟨t.val * 512 + s.val, by omega⟩ n)

theorem wei {v : S4x4x1024x704.Idx → EReal} {w : S4x1024x2816.Idx → EReal} {l : Fin 4} (hv : Weight v w l) (f : Fin 4) {g : S1x1x1024x704.Idx → S4x4x1024x704.Idx}
    (hg : ∀ (d : Fin 1024) (n : Fin 704), g (ix4 0 0 d n) = ix4 f l d n) (d : Fin 1024) (n : Fin 704) :
    v (g (ix4 0 0 d n)) = at3 w l.val d.val (f.val * 704 + n.val) :=
  (congrArg v (hg d n)).trans (hv f d n)

variable (m : (ℓ : Loc nD τ sig) → Buf (Elt Ideal) ℓ) (ρ : Dev nD → PrngReg) (V : (c : Dev nD) → (b : Ref sig .tc) → Buf (Elt Ideal) ((c : Thread nD τ).loc b))

theorem weights (c : Dev nD) (l : Fin 4) : Weight (W1 m ρ c main_v2) (m ((c : Thread nD τ).loc main_arg3)) l ∧ Weight (W1 m ρ c main_v5) (m ((c : Thread nD τ).loc main_arg4)) l := by
  have e0 : W1 m ρ c main_v2 = weight (W0 m ρ c main_arg3) := by
    unfold W1 hostOps0
    after_results
    rfl
  have e1 : W1 m ρ c main_v5 = weight (W0 m ρ c main_arg4) := by
    unfold W1 hostOps0
    after_results
    rfl
  rw [e0, e1]
  exact ⟨weight_at _ l, weight_at _ l⟩

/-- No call writes the weights. -/
theorem keep (c : Dev nD) : W3 m ρ c main_v5 = W1 m ρ c main_v5 ∧ W5 m ρ c main_v2 = W1 m ρ c main_v2 ∧ W7 m ρ c main_v5 = W1 m ρ c main_v5 ∧ W9 m ρ c main_v2 = W1 m ρ c main_v2 ∧ W11 m ρ c main_v5 = W1 m ρ c main_v5 ∧ W13 m ρ c main_v2 = W1 m ρ c main_v2 ∧ W15 m ρ c main_v5 = W1 m ρ c main_v5 := by
  have a3 : W3 m ρ c main_v5 = W1 m ρ c main_v5 := by rw [W3_of m ρ c main_v5 (by decide), W2_of m ρ c main_v5 (by decide)]
  have a5 : W5 m ρ c main_v2 = W1 m ρ c main_v2 := by rw [W5_of m ρ c main_v2 (by decide), W4_of m ρ c main_v2 (by decide), W3_of m ρ c main_v2 (by decide), W2_of m ρ c main_v2 (by decide)]
  have a7 : W7 m ρ c main_v5 = W1 m ρ c main_v5 := by rw [W7_of m ρ c main_v5 (by decide), W6_of m ρ c main_v5 (by decide), W5_of m ρ c main_v5 (by decide), W4_of m ρ c main_v5 (by decide), a3]
  have a9 : W9 m ρ c main_v2 = W1 m ρ c main_v2 := by rw [W9_of m ρ c main_v2 (by decide), W8_of m ρ c main_v2 (by decide), W7_of m ρ c main_v2 (by decide), W6_of m ρ c main_v2 (by decide), a5]
  have a11 : W11 m ρ c main_v5 = W1 m ρ c main_v5 := by rw [W11_of m ρ c main_v5 (by decide), W10_of m ρ c main_v5 (by decide), W9_of m ρ c main_v5 (by decide), W8_of m ρ c main_v5 (by decide), a7]
  have a13 : W13 m ρ c main_v2 = W1 m ρ c main_v2 := by rw [W13_of m ρ c main_v2 (by decide), W12_of m ρ c main_v2 (by decide), W11_of m ρ c main_v2 (by decide), W10_of m ρ c main_v2 (by decide), a9]
  have a15 : W15 m ρ c main_v5 = W1 m ρ c main_v5 := by rw [W15_of m ρ c main_v5 (by decide), W14_of m ρ c main_v5 (by decide), W13_of m ρ c main_v5 (by decide), W12_of m ρ c main_v5 (by decide), a11]
  exact ⟨a3, a5, a7, a9, a11, a13, a15⟩

end Cert.Kernel4Ideal.Hand
-- ==== Proof.Value4.Calls.lean ====
/-
  The first four of the eight calls of the input gradients: what each is handed and what it leaves.
-/
module

public import proofs.«01_k».proof.Proof.Value4.Facts

@[expose] public section

set_option maxRecDepth 16384

noncomputable section

namespace Cert.Kernel4Ideal.Hand

open Cert.Kernel4Ideal Cert.Kernel4Ideal.Gen Cert.Entries
open Idealize.ShloMosaic Idealize.ShloMosaic.TcCoe Idealize.ShloMosaic.Tactic
open Idealize.SL.Sem
open Idealize.ShloMosaic.StableHlo
open Idealize.ShloMosaic.Pipeline (Dat)

variable (m : (ℓ : Loc nD τ sig) → Buf (Elt Ideal) ℓ) (ρ : Dev nD → PrngReg) (V : (c : Dev nD) → (b : Ref sig .tc) → Buf (Elt Ideal) ((c : Thread nD τ).loc b))

/-! ### Call 0: layer 3, the first weight -/

theorem y0 (c : Dev nD) : Hidden (V1 m ρ c main_v10) (m ((c : Thread nD τ).loc main_arg1)) 3 := by
  have e : V1 m ρ c main_v10 = parts (W0 m ρ c main_arg1) 3 slices_S4x4096x2816_S1x4096x2816_3_0_0 := by unfold V1 W1 hostOps0; after_results; rfl
  rw [e, W0_args m ρ c main_arg1 (by decide)]
  exact parts_at _ 3 _

theorem w0 (c : Dev nD) : Weight (V1 m ρ c main_v2) (m ((c : Thread nD τ).loc main_arg3)) 3 := fun f d n =>
  (weights m ρ c 3).1 f d n

theorem r0 (c : Dev nD) (s : Fin 4096) (d : Fin 1024) : (V1 m ρ c main_v12 : S4096x1024.Idx → EReal) (ix2 s d) = at3 (m ((c : Thread nD τ).loc main_arg0)) 3 s.val d.val := by
  have e : V1 m ρ c main_v12 = layer (W0 m ρ c main_arg0) 3 slices_S4x4096x1024_S1x4096x1024_3_0_0 := by unfold V1 W1 hostOps0; after_results; rfl
  rw [e, W0_args m ρ c main_arg0 (by decide)]
  exact layer_at _ 3 _ s d

theorem idx0 : ∀ t : Fin cfg0.N, At3 (win0_0.index t) 0 t.val ∧ At3 (win0_2.index t) 1 t.val ∧ At3 (win0_4.index t) 2 t.val ∧ At3 (win0_6.index t) 3 t.val ∧ At4 (win0_1.index t) 0 3 ∧ At4 (win0_3.index t) 1 3 ∧ At4 (win0_5.index t) 2 3 ∧ At4 (win0_7.index t) 3 3 ∧ At2 (win0_8.index t) t.val ∧ At2 (win0_9.index t) t.val := by decide +kernel

set_option maxHeartbeats 2000000 in
theorem call0 (c : Dev nD) {Y : S4x4096x2816.Idx → EReal} {W : S4x1024x2816.Idx → EReal} (hy : Hidden (V c main_v10) Y 3) (hw : Weight (V c main_v2) W 3) :
    ((dat0 V c).arrAt 9 cfg0.N : S4096x1024.Idx → EReal) = step Y W 3 (V c main_v12) := by
  refine (dat0 V c).arrAt_eq_of_covers 9 _ (by decide +kernel) fun t hf y => ?_
  obtain ⟨p0, p1, p2, p3, q0, q1, q2, q3, r, o⟩ := idx0 t
  obtain ⟨s, d, rfl⟩ := ex2 512 1024 y
  have e : ((cfg0.win 9).blk t).view.emb (ix2 s d) = (ix2 ⟨t.val * 512 + s.val, by have : t.val < 8 := t.isLt; omega⟩ d : S4096x1024.Idx) := by blk_ext [o]
  blk_simp
  rw [after0_9, e]
  unfold out0_9
  frame_out
  exact point (R := V c main_v12) _ _ _ _ _ _ _ _ _ t.val t.isLt
    (hid hy 0 t (g := ((cfg0.win 0).blk t).view.emb) fun s n => by blk_ext [p0])
    (hid hy 1 t (g := ((cfg0.win 2).blk t).view.emb) fun s n => by blk_ext [p1])
    (hid hy 2 t (g := ((cfg0.win 4).blk t).view.emb) fun s n => by blk_ext [p2])
    (hid hy 3 t (g := ((cfg0.win 6).blk t).view.emb) fun s n => by blk_ext [p3])
    (wei hw 0 (g := ((cfg0.win 1).blk t).view.emb) fun d n => by blk_ext [q0])
    (wei hw 1 (g := ((cfg0.win 3).blk t).view.emb) fun d n => by blk_ext [q1])
    (wei hw 2 (g := ((cfg0.win 5).blk t).view.emb) fun d n => by blk_ext [q2])
    (wei hw 3 (g := ((cfg0.win 7).blk t).view.emb) fun d n => by blk_ext [q3])
    (fun s d => congrArg (V c main_v12) (by blk_ext [r])) s d

/-! ### Call 1: layer 3, the second weight -/

theorem y1 (c : Dev nD) : Hidden (V3 m ρ c main_v18) (m ((c : Thread nD τ).loc main_arg2)) 3 := by
  have e : V3 m ρ c main_v18 = parts (W2 m ρ c main_arg2) 3 slices_S4x4096x2816_S1x4096x2816_3_0_0 := by unfold V3 W3 hostOps1; after_results; rfl
  rw [e, W2_args m ρ c main_arg2 (by decide)]
  exact parts_at _ 3 _

theorem w1 (c : Dev nD) : Weight (V3 m ρ c main_v5) (m ((c : Thread nD τ).loc main_arg4)) 3 := fun f d n =>
  (congrFun (keep m ρ c).1 _).trans ((weights m ρ c 3).2 f d n)

theorem idx1 : ∀ t : Fin cfg1.N, At3 (win1_0.index t) 0 t.val ∧ At3 (win1_2.index t) 1 t.val ∧ At3 (win1_4.index t) 2 t.val ∧ At3 (win1_6.index t) 3 t.val ∧ At4 (win1_1.index t) 0 3 ∧ At4 (win1_3.index t) 1 3 ∧ At4 (win1_5.index t) 2 3 ∧ At4 (win1_7.index t) 3 3 ∧ At2 (win1_8.index t) t.val ∧ At2 (win1_9.index t) t.val := by decide +kernel

set_option maxHeartbeats 2000000 in
theorem call1 (c : Dev nD) {Y : S4x4096x2816.Idx → EReal} {W : S4x1024x2816.Idx → EReal} (hy : Hidden (V c main_v18) Y 3) (hw : Weight (V c main_v5) W 3) :
    ((dat1 V c).arrAt 9 cfg1.N : S4096x1024.Idx → EReal) = step Y W 3 (V c main_v13) := by
  refine (dat1 V c).arrAt_eq_of_covers 9 _ (by decide +kernel) fun t hf y => ?_
  obtain ⟨p0, p1, p2, p3, q0, q1, q2, q3, r, o⟩ := idx1 t
  obtain ⟨s, d, rfl⟩ := ex2 512 1024 y
  have e : ((cfg1.win 9).blk t).view.emb (ix2 s d) = (ix2 ⟨t.val * 512 + s.val, by have : t.val < 8 := t.isLt; omega⟩ d : S4096x1024.Idx) := by blk_ext [o]
  blk_simp
  rw [after1_9, e]
  unfold out1_9
  frame_out
  exact point (R := V c main_v13) _ _ _ _ _ _ _ _ _ t.val t.isLt
    (hid hy 0 t (g := ((cfg1.win 0).blk t).view.emb) fun s n => by blk_ext [p0])
    (hid hy 1 t (g := ((cfg1.win 2).blk t).view.emb) fun s n => by blk_ext [p1])
    (hid hy 2 t (g := ((cfg1.win 4).blk t).view.emb) fun s n => by blk_ext [p2])
    (hid hy 3 t (g := ((cfg1.win 6).blk t).view.emb) fun s n => by blk_ext [p3])
    (wei hw 0 (g := ((cfg1.win 1).blk t).view.emb) fun d n => by blk_ext [q0])
    (wei hw 1 (g := ((cfg1.win 3).blk t).view.emb) fun d n => by blk_ext [q1])
    (wei hw 2 (g := ((cfg1.win 5).blk t).view.emb) fun d n => by blk_ext [q2])
    (wei hw 3 (g := ((cfg1.win 7).blk t).view.emb) fun d n => by blk_ext [q3])
    (fun s d => congrArg (V c main_v13) (by blk_ext [r])) s d

theorem layer3 (c : Dev nD) (s : Fin 4096) (d : Fin 1024) : (W4 m ρ c main_v19 : S4096x1024.Idx → EReal) (ix2 s d)
    = dot (m ((c : Thread nD τ).loc main_arg2)) (m ((c : Thread nD τ).loc main_arg4)) 3 s.val d.val + (dot (m ((c : Thread nD τ).loc main_arg1)) (m ((c : Thread nD τ).loc main_arg3)) 3 s.val d.val + at3 (m ((c : Thread nD τ).loc main_arg0)) 3 s.val d.val) := by
  rw [(W4_arr m ρ c 9).trans (call1 (V3 m ρ) c (y1 m ρ c) (w1 m ρ c))]
  show dot _ _ _ _ _ + (V3 m ρ c main_v13 : S4096x1024.Idx → EReal) (ix2 s d) = _
  rw [show V3 m ρ c main_v13 = W2 m ρ c main_v13 from W3_of m ρ c main_v13 (by decide), (W2_arr m ρ c 9).trans (call0 (V1 m ρ) c (y0 m ρ c) (w0 m ρ c))]
  show dot _ _ _ _ _ + (dot _ _ _ _ _ + (V1 m ρ c main_v12 : S4096x1024.Idx → EReal) (ix2 s d)) = _
  rw [r0]
  rfl

theorem end3 (c : Dev nD) : W16 m ρ c main_v19 = W4 m ρ c main_v19 := by
  rw [W16_of m ρ c main_v19 (by decide), W15_of m ρ c main_v19 (by decide), W14_of m ρ c main_v19 (by decide), W13_of m ρ c main_v19 (by decide), W12_of m ρ c main_v19 (by decide), W11_of m ρ c main_v19 (by decide), W10_of m ρ c main_v19 (by decide), W9_of m ρ c main_v19 (by decide), W8_of m ρ c main_v19 (by decide), W7_of m ρ c main_v19 (by decide), W6_of m ρ c main_v19 (by decide), W5_of m ρ c main_v19 (by decide)]

/-! ### Call 2: layer 2, the first weight -/

theorem y2 (c : Dev nD) : Hidden (V5 m ρ c main_v24) (m ((c : Thread nD τ).loc main_arg1)) 2 := by
  have e : V5 m ρ c main_v24 = parts (W4 m ρ c main_arg1) 2 slices_S4x4096x2816_S1x4096x2816_2_0_0 := by unfold V5 W5 hostOps2; after_results; rfl
  rw [e, W4_args m ρ c main_arg1 (by decide)]
  exact parts_at _ 2 _

theorem w2 (c : Dev nD) : Weight (V5 m ρ c main_v2) (m ((c : Thread nD τ).loc main_arg3)) 2 := fun f d n =>
  (congrFun (keep m ρ c).2.1 _).trans ((weights m ρ c 2).1 f d n)

theorem r2 (c : Dev nD) (s : Fin 4096) (d : Fin 1024) : (V5 m ρ c main_v26 : S4096x1024.Idx → EReal) (ix2 s d) = at3 (m ((c : Thread nD τ).loc main_arg0)) 2 s.val d.val := by
  have e : V5 m ρ c main_v26 = layer (W4 m ρ c main_arg0) 2 slices_S4x4096x1024_S1x4096x1024_2_0_0 := by unfold V5 W5 hostOps2; after_results; rfl
  rw [e, W4_args m ρ c main_arg0 (by decide)]
  exact layer_at _ 2 _ s d

theorem idx2 : ∀ t : Fin cfg2.N, At3 (win2_0.index t) 0 t.val ∧ At3 (win2_2.index t) 1 t.val ∧ At3 (win2_4.index t) 2 t.val ∧ At3 (win2_6.index t) 3 t.val ∧ At4 (win2_1.index t) 0 2 ∧ At4 (win2_3.index t) 1 2 ∧ At4 (win2_5.index t) 2 2 ∧ At4 (win2_7.index t) 3 2 ∧ At2 (win2_8.index t) t.val ∧ At2 (win2_9.index t) t.val := by decide +kernel

set_option maxHeartbeats 2000000 in
theorem call2 (c : Dev nD) {Y : S4x4096x2816.Idx → EReal} {W : S4x1024x2816.Idx → EReal} (hy : Hidden (V c main_v24) Y 2) (hw : Weight (V c main_v2) W 2) :
    ((dat2 V c).arrAt 9 cfg2.N : S4096x1024.Idx → EReal) = step Y W 2 (V c main_v26) := by
  refine (dat2 V c).arrAt_eq_of_covers 9 _ (by decide +kernel) fun t hf y => ?_
  obtain ⟨p0, p1, p2, p3, q0, q1, q2, q3, r, o⟩ := idx2 t
  obtain ⟨s, d, rfl⟩ := ex2 512 1024 y
  have e : ((cfg2.win 9).blk t).view.emb (ix2 s d) = (ix2 ⟨t.val * 512 + s.val, by have : t.val < 8 := t.isLt; omega⟩ d : S4096x1024.Idx) := by blk_ext [o]
  blk_simp
  rw [after2_9, e]
  unfold out2_9
  frame_out
  exact point (R := V c main_v26) _ _ _ _ _ _ _ _ _ t.val t.isLt
    (hid hy 0 t (g := ((cfg2.win 0).blk t).view.emb) fun s n => by blk_ext [p0])
    (hid hy 1 t (g := ((cfg2.win 2).blk t).view.emb) fun s n => by blk_ext [p1])
    (hid hy 2 t (g := ((cfg2.win 4).blk t).view.emb) fun s n => by blk_ext [p2])
    (hid hy 3 t (g := ((cfg2.win 6).blk t).view.emb) fun s n => by blk_ext [p3])
    (wei hw 0 (g := ((cfg2.win 1).blk t).view.emb) fun d n => by blk_ext [q0])
    (wei hw 1 (g := ((cfg2.win 3).blk t).view.emb) fun d n => by blk_ext [q1])
    (wei hw 2 (g := ((cfg2.win 5).blk t).view.emb) fun d n => by blk_ext [q2])
    (wei hw 3 (g := ((cfg2.win 7).blk t).view.emb) fun d n => by blk_ext [q3])
    (fun s d => congrArg (V c main_v26) (by blk_ext [r])) s d

/-! ### Call 3: layer 2, the second weight -/

theorem y3 (c : Dev nD) : Hidden (V7 m ρ c main_v32) (m ((c : Thread nD τ).loc main_arg2)) 2 := by
  have e : V7 m ρ c main_v32 = parts (W6 m ρ c main_arg2) 2 slices_S4x4096x2816_S1x4096x2816_2_0_0 := by unfold V7 W7 hostOps3; after_results; rfl
  rw [e, W6_args m ρ c main_arg2 (by decide)]
  exact parts_at _ 2 _

theorem w3 (c : Dev nD) : Weight (V7 m ρ c main_v5) (m ((c : Thread nD τ).loc main_arg4)) 2 := fun f d n =>
  (congrFun (keep m ρ c).2.2.1 _).trans ((weights m ρ c 2).2 f d n)

theorem idx3 : ∀ t : Fin cfg3.N, At3 (win3_0.index t) 0 t.val ∧ At3 (win3_2.index t) 1 t.val ∧ At3 (win3_4.index t) 2 t.val ∧ At3 (win3_6.index t) 3 t.val ∧ At4 (win3_1.index t) 0 2 ∧ At4 (win3_3.index t) 1 2 ∧ At4 (win3_5.index t) 2 2 ∧ At4 (win3_7.index t) 3 2 ∧ At2 (win3_8.index t) t.val ∧ At2 (win3_9.index t) t.val := by decide +kernel

set_option maxHeartbeats 2000000 in
theorem call3 (c : Dev nD) {Y : S4x4096x2816.Idx → EReal} {W : S4x1024x2816.Idx → EReal} (hy : Hidden (V c main_v32) Y 2) (hw : Weight (V c main_v5) W 2) :
    ((dat3 V c).arrAt 9 cfg3.N : S4096x1024.Idx → EReal) = step Y W 2 (V c main_v27) := by
  refine (dat3 V c).arrAt_eq_of_covers 9 _ (by decide +kernel) fun t hf y => ?_
  obtain ⟨p0, p1, p2, p3, q0, q1, q2, q3, r, o⟩ := idx3 t
  obtain ⟨s, d, rfl⟩ := ex2 512 1024 y
  have e : ((cfg3.win 9).blk t).view.emb (ix2 s d) = (ix2 ⟨t.val * 512 + s.val, by have : t.val < 8 := t.isLt; omega⟩ d : S4096x1024.Idx) := by blk_ext [o]
  blk_simp
  rw [after3_9, e]
  unfold out3_9
  frame_out
  exact point (R := V c main_v27) _ _ _ _ _ _ _ _ _ t.val t.isLt
    (hid hy 0 t (g := ((cfg3.win 0).blk t).view.emb) fun s n => by blk_ext [p0])
    (hid hy 1 t (g := ((cfg3.win 2).blk t).view.emb) fun s n => by blk_ext [p1])
    (hid hy 2 t (g := ((cfg3.win 4).blk t).view.emb) fun s n => by blk_ext [p2])
    (hid hy 3 t (g := ((cfg3.win 6).blk t).view.emb) fun s n => by blk_ext [p3])
    (wei hw 0 (g := ((cfg3.win 1).blk t).view.emb) fun d n => by blk_ext [q0])
    (wei hw 1 (g := ((cfg3.win 3).blk t).view.emb) fun d n => by blk_ext [q1])
    (wei hw 2 (g := ((cfg3.win 5).blk t).view.emb) fun d n => by blk_ext [q2])
    (wei hw 3 (g := ((cfg3.win 7).blk t).view.emb) fun d n => by blk_ext [q3])
    (fun s d => congrArg (V c main_v27) (by blk_ext [r])) s d

theorem layer2 (c : Dev nD) (s : Fin 4096) (d : Fin 1024) : (W8 m ρ c main_v33 : S4096x1024.Idx → EReal) (ix2 s d)
    = dot (m ((c : Thread nD τ).loc main_arg2)) (m ((c : Thread nD τ).loc main_arg4)) 2 s.val d.val + (dot (m ((c : Thread nD τ).loc main_arg1)) (m ((c : Thread nD τ).loc main_arg3)) 2 s.val d.val + at3 (m ((c : Thread nD τ).loc main_arg0)) 2 s.val d.val) := by
  rw [(W8_arr m ρ c 9).trans (call3 (V7 m ρ) c (y3 m ρ c) (w3 m ρ c))]
  show dot _ _ _ _ _ + (V7 m ρ c main_v27 : S4096x1024.Idx → EReal) (ix2 s d) = _
  rw [show V7 m ρ c main_v27 = W6 m ρ c main_v27 from W7_of m ρ c main_v27 (by decide), (W6_arr m ρ c 9).trans (call2 (V5 m ρ) c (y2 m ρ c) (w2 m ρ c))]
  show dot _ _ _ _ _ + (dot _ _ _ _ _ + (V5 m ρ c main_v26 : S4096x1024.Idx → EReal) (ix2 s d)) = _
  rw [r2]
  rfl

theorem end2 (c : Dev nD) : W16 m ρ c main_v33 = W8 m ρ c main_v33 := by
  rw [W16_of m ρ c main_v33 (by decide), W15_of m ρ c main_v33 (by decide), W14_of m ρ c main_v33 (by decide), W13_of m ρ c main_v33 (by decide), W12_of m ρ c main_v33 (by decide), W11_of m ρ c main_v33 (by decide), W10_of m ρ c main_v33 (by decide), W9_of m ρ c main_v33 (by decide)]

end Cert.Kernel4Ideal.Hand
-- ==== Proof.Value4.Calls2.lean ====
/-
  The last four of the eight calls of the input gradients, the same way.
-/
module

public import proofs.«01_k».proof.Proof.Value4.Facts

@[expose] public section

set_option maxRecDepth 16384

noncomputable section

namespace Cert.Kernel4Ideal.Hand

open Cert.Kernel4Ideal Cert.Kernel4Ideal.Gen Cert.Entries
open Idealize.ShloMosaic Idealize.ShloMosaic.TcCoe Idealize.ShloMosaic.Tactic
open Idealize.SL.Sem
open Idealize.ShloMosaic.StableHlo
open Idealize.ShloMosaic.Pipeline (Dat)

variable (m : (ℓ : Loc nD τ sig) → Buf (Elt Ideal) ℓ) (ρ : Dev nD → PrngReg) (V : (c : Dev nD) → (b : Ref sig .tc) → Buf (Elt Ideal) ((c : Thread nD τ).loc b))

/-! ### Call 4: layer 1, the first weight -/

theorem y4 (c : Dev nD) : Hidden (V9 m ρ c main_v38) (m ((c : Thread nD τ).loc main_arg1)) 1 := by
  have e : V9 m ρ c main_v38 = parts (W8 m ρ c main_arg1) 1 slices_S4x4096x2816_S1x4096x2816_1_0_0 := by unfold V9 W9 hostOps4; after_results; rfl
  rw [e, W8_args m ρ c main_arg1 (by decide)]
  exact parts_at _ 1 _

theorem w4 (c : Dev nD) : Weight (V9 m ρ c main_v2) (m ((c : Thread nD τ).loc main_arg3)) 1 := fun f d n =>
  (congrFun (keep m ρ c).2.2.2.1 _).trans ((weights m ρ c 1).1 f d n)

theorem r4 (c : Dev nD) (s : Fin 4096) (d : Fin 1024) : (V9 m ρ c main_v40 : S4096x1024.Idx → EReal) (ix2 s d) = at3 (m ((c : Thread nD τ).loc main_arg0)) 1 s.val d.val := by
  have e : V9 m ρ c main_v40 = layer (W8 m ρ c main_arg0) 1 slices_S4x4096x1024_S1x4096x1024_1_0_0 := by unfold V9 W9 hostOps4; after_results; rfl
  rw [e, W8_args m ρ c main_arg0 (by decide)]
  exact layer_at _ 1 _ s d

theorem idx4 : ∀ t : Fin cfg4.N, At3 (win4_0.index t) 0 t.val ∧ At3 (win4_2.index t) 1 t.val ∧ At3 (win4_4.index t) 2 t.val ∧ At3 (win4_6.index t) 3 t.val ∧ At4 (win4_1.index t) 0 1 ∧ At4 (win4_3.index t) 1 1 ∧ At4 (win4_5.index t) 2 1 ∧ At4 (win4_7.index t) 3 1 ∧ At2 (win4_8.index t) t.val ∧ At2 (win4_9.index t) t.val := by decide +kernel

set_option maxHeartbeats 2000000 in
theorem call4 (c : Dev nD) {Y : S4x4096x2816.Idx → EReal} {W : S4x1024x2816.Idx → EReal} (hy : Hidden (V c main_v38) Y 1) (hw : Weight (V c main_v2) W 1) :
    ((dat4 V c).arrAt 9 cfg4.N : S4096x1024.Idx → EReal) = step Y W 1 (V c main_v40) := by
  refine (dat4 V c).arrAt_eq_of_covers 9 _ (by decide +kernel) fun t hf y => ?_
  obtain ⟨p0, p1, p2, p3, q0, q1, q2, q3, r, o⟩ := idx4 t
  obtain ⟨s, d, rfl⟩ := ex2 512 1024 y
  have e : ((cfg4.win 9).blk t).view.emb (ix2 s d) = (ix2 ⟨t.val * 512 + s.val, by have : t.val < 8 := t.isLt; omega⟩ d : S4096x1024.Idx) := by blk_ext [o]
  blk_simp
  rw [after4_9, e]
  unfold out4_9
  frame_out
  exact point (R := V c main_v40) _ _ _ _ _ _ _ _ _ t.val t.isLt
    (hid hy 0 t (g := ((cfg4.win 0).blk t).view.emb) fun s n => by blk_ext [p0])
    (hid hy 1 t (g := ((cfg4.win 2).blk t).view.emb) fun s n => by blk_ext [p1])
    (hid hy 2 t (g := ((cfg4.win 4).blk t).view.emb) fun s n => by blk_ext [p2])
    (hid hy 3 t (g := ((cfg4.win 6).blk t).view.emb) fun s n => by blk_ext [p3])
    (wei hw 0 (g := ((cfg4.win 1).blk t).view.emb) fun d n => by blk_ext [q0])
    (wei hw 1 (g := ((cfg4.win 3).blk t).view.emb) fun d n => by blk_ext [q1])
    (wei hw 2 (g := ((cfg4.win 5).blk t).view.emb) fun d n => by blk_ext [q2])
    (wei hw 3 (g := ((cfg4.win 7).blk t).view.emb) fun d n => by blk_ext [q3])
    (fun s d => congrArg (V c main_v40) (by blk_ext [r])) s d

/-! ### Call 5: layer 1, the second weight -/

theorem y5 (c : Dev nD) : Hidden (V11 m ρ c main_v46) (m ((c : Thread nD τ).loc main_arg2)) 1 := by
  have e : V11 m ρ c main_v46 = parts (W10 m ρ c main_arg2) 1 slices_S4x4096x2816_S1x4096x2816_1_0_0 := by unfold V11 W11 hostOps5; after_results; rfl
  rw [e, W10_args m ρ c main_arg2 (by decide)]
  exact parts_at _ 1 _

theorem w5 (c : Dev nD) : Weight (V11 m ρ c main_v5) (m ((c : Thread nD τ).loc main_arg4)) 1 := fun f d n =>
  (congrFun (keep m ρ c).2.2.2.2.1 _).trans ((weights m ρ c 1).2 f d n)

theorem idx5 : ∀ t : Fin cfg5.N, At3 (win5_0.index t) 0 t.val ∧ At3 (win5_2.index t) 1 t.val ∧ At3 (win5_4.index t) 2 t.val ∧ At3 (win5_6.index t) 3 t.val ∧ At4 (win5_1.index t) 0 1 ∧ At4 (win5_3.index t) 1 1 ∧ At4 (win5_5.index t) 2 1 ∧ At4 (win5_7.index t) 3 1 ∧ At2 (win5_8.index t) t.val ∧ At2 (win5_9.index t) t.val := by decide +kernel

set_option maxHeartbeats 2000000 in
theorem call5 (c : Dev nD) {Y : S4x4096x2816.Idx → EReal} {W : S4x1024x2816.Idx → EReal} (hy : Hidden (V c main_v46) Y 1) (hw : Weight (V c main_v5) W 1) :
    ((dat5 V c).arrAt 9 cfg5.N : S4096x1024.Idx → EReal) = step Y W 1 (V c main_v41) := by
  refine (dat5 V c).arrAt_eq_of_covers 9 _ (by decide +kernel) fun t hf y => ?_
  obtain ⟨p0, p1, p2, p3, q0, q1, q2, q3, r, o⟩ := idx5 t
  obtain ⟨s, d, rfl⟩ := ex2 512 1024 y
  have e : ((cfg5.win 9).blk t).view.emb (ix2 s d) = (ix2 ⟨t.val * 512 + s.val, by have : t.val < 8 := t.isLt; omega⟩ d : S4096x1024.Idx) := by blk_ext [o]
  blk_simp
  rw [after5_9, e]
  unfold out5_9
  frame_out
  exact point (R := V c main_v41) _ _ _ _ _ _ _ _ _ t.val t.isLt
    (hid hy 0 t (g := ((cfg5.win 0).blk t).view.emb) fun s n => by blk_ext [p0])
    (hid hy 1 t (g := ((cfg5.win 2).blk t).view.emb) fun s n => by blk_ext [p1])
    (hid hy 2 t (g := ((cfg5.win 4).blk t).view.emb) fun s n => by blk_ext [p2])
    (hid hy 3 t (g := ((cfg5.win 6).blk t).view.emb) fun s n => by blk_ext [p3])
    (wei hw 0 (g := ((cfg5.win 1).blk t).view.emb) fun d n => by blk_ext [q0])
    (wei hw 1 (g := ((cfg5.win 3).blk t).view.emb) fun d n => by blk_ext [q1])
    (wei hw 2 (g := ((cfg5.win 5).blk t).view.emb) fun d n => by blk_ext [q2])
    (wei hw 3 (g := ((cfg5.win 7).blk t).view.emb) fun d n => by blk_ext [q3])
    (fun s d => congrArg (V c main_v41) (by blk_ext [r])) s d

theorem layer1 (c : Dev nD) (s : Fin 4096) (d : Fin 1024) : (W12 m ρ c main_v47 : S4096x1024.Idx → EReal) (ix2 s d)
    = dot (m ((c : Thread nD τ).loc main_arg2)) (m ((c : Thread nD τ).loc main_arg4)) 1 s.val d.val + (dot (m ((c : Thread nD τ).loc main_arg1)) (m ((c : Thread nD τ).loc main_arg3)) 1 s.val d.val + at3 (m ((c : Thread nD τ).loc main_arg0)) 1 s.val d.val) := by
  rw [(W12_arr m ρ c 9).trans (call5 (V11 m ρ) c (y5 m ρ c) (w5 m ρ c))]
  show dot _ _ _ _ _ + (V11 m ρ c main_v41 : S4096x1024.Idx → EReal) (ix2 s d) = _
  rw [show V11 m ρ c main_v41 = W10 m ρ c main_v41 from W11_of m ρ c main_v41 (by decide), (W10_arr m ρ c 9).trans (call4 (V9 m ρ) c (y4 m ρ c) (w4 m ρ c))]
  show dot _ _ _ _ _ + (dot _ _ _ _ _ + (V9 m ρ c main_v40 : S4096x1024.Idx → EReal) (ix2 s d)) = _
  rw [r4]
  rfl

theorem end1 (c : Dev nD) : W16 m ρ c main_v47 = W12 m ρ c main_v47 := by
  rw [W16_of m ρ c main_v47 (by decide), W15_of m ρ c main_v47 (by decide), W14_of m ρ c main_v47 (by decide), W13_of m ρ c main_v47 (by decide)]

/-! ### Call 6: layer 0, the first weight -/

theorem y6 (c : Dev nD) : Hidden (V13 m ρ c main_v52) (m ((c : Thread nD τ).loc main_arg1)) 0 := by
  have e : V13 m ρ c main_v52 = parts (W12 m ρ c main_arg1) 0 slices_S4x4096x2816_S1x4096x2816_0_0_0 := by unfold V13 W13 hostOps6; after_results; rfl
  rw [e, W12_args m ρ c main_arg1 (by decide)]
  exact parts_at _ 0 _

theorem w6 (c : Dev nD) : Weight (V13 m ρ c main_v2) (m ((c : Thread nD τ).loc main_arg3)) 0 := fun f d n =>
  (congrFun (keep m ρ c).2.2.2.2.2.1 _).trans ((weights m ρ c 0).1 f d n)

theorem r6 (c : Dev nD) (s : Fin 4096) (d : Fin 1024) : (V13 m ρ c main_v54 : S4096x1024.Idx → EReal) (ix2 s d) = at3 (m ((c : Thread nD τ).loc main_arg0)) 0 s.val d.val := by
  have e : V13 m ρ c main_v54 = layer (W12 m ρ c main_arg0) 0 slices_S4x4096x1024_S1x4096x1024_0_0_0 := by unfold V13 W13 hostOps6; after_results; rfl
  rw [e, W12_args m ρ c main_arg0 (by decide)]
  exact layer_at _ 0 _ s d

theorem idx6 : ∀ t : Fin cfg6.N, At3 (win6_0.index t) 0 t.val ∧ At3 (win6_2.index t) 1 t.val ∧ At3 (win6_4.index t) 2 t.val ∧ At3 (win6_6.index t) 3 t.val ∧ At4 (win6_1.index t) 0 0 ∧ At4 (win6_3.index t) 1 0 ∧ At4 (win6_5.index t) 2 0 ∧ At4 (win6_7.index t) 3 0 ∧ At2 (win6_8.index t) t.val ∧ At2 (win6_9.index t) t.val := by decide +kernel

set_option maxHeartbeats 2000000 in
theorem call6 (c : Dev nD) {Y : S4x4096x2816.Idx → EReal} {W : S4x1024x2816.Idx → EReal} (hy : Hidden (V c main_v52) Y 0) (hw : Weight (V c main_v2) W 0) :
    ((dat6 V c).arrAt 9 cfg6.N : S4096x1024.Idx → EReal) = step Y W 0 (V c main_v54) := by
  refine (dat6 V c).arrAt_eq_of_covers 9 _ (by decide +kernel) fun t hf y => ?_
  obtain ⟨p0, p1, p2, p3, q0, q1, q2, q3, r, o⟩ := idx6 t
  obtain ⟨s, d, rfl⟩ := ex2 512 1024 y
  have e : ((cfg6.win 9).blk t).view.emb (ix2 s d) = (ix2 ⟨t.val * 512 + s.val, by have : t.val < 8 := t.isLt; omega⟩ d : S4096x1024.Idx) := by blk_ext [o]
  blk_simp
  rw [after6_9, e]
  unfold out6_9
  frame_out
  exact point (R := V c main_v54) _ _ _ _ _ _ _ _ _ t.val t.isLt
    (hid hy 0 t (g := ((cfg6.win 0).blk t).view.emb) fun s n => by blk_ext [p0])
    (hid hy 1 t (g := ((cfg6.win 2).blk t).view.emb) fun s n => by blk_ext [p1])
    (hid hy 2 t (g := ((cfg6.win 4).blk t).view.emb) fun s n => by blk_ext [p2])
    (hid hy 3 t (g := ((cfg6.win 6).blk t).view.emb) fun s n => by blk_ext [p3])
    (wei hw 0 (g := ((cfg6.win 1).blk t).view.emb) fun d n => by blk_ext [q0])
    (wei hw 1 (g := ((cfg6.win 3).blk t).view.emb) fun d n => by blk_ext [q1])
    (wei hw 2 (g := ((cfg6.win 5).blk t).view.emb) fun d n => by blk_ext [q2])
    (wei hw 3 (g := ((cfg6.win 7).blk t).view.emb) fun d n => by blk_ext [q3])
    (fun s d => congrArg (V c main_v54) (by blk_ext [r])) s d

/-! ### Call 7: layer 0, the second weight -/

theorem y7 (c : Dev nD) : Hidden (V15 m ρ c main_v60) (m ((c : Thread nD τ).loc main_arg2)) 0 := by
  have e : V15 m ρ c main_v60 = parts (W14 m ρ c main_arg2) 0 slices_S4x4096x2816_S1x4096x2816_0_0_0 := by unfold V15 W15 hostOps7; after_results; rfl
  rw [e, W14_args m ρ c main_arg2 (by decide)]
  exact parts_at _ 0 _

theorem w7 (c : Dev nD) : Weight (V15 m ρ c main_v5) (m ((c : Thread nD τ).loc main_arg4)) 0 := fun f d n =>
  (congrFun (keep m ρ c).2.2.2.2.2.2 _).trans ((weights m ρ c 0).2 f d n)

theorem idx7 : ∀ t : Fin cfg7.N, At3 (win7_0.index t) 0 t.val ∧ At3 (win7_2.index t) 1 t.val ∧ At3 (win7_4.index t) 2 t.val ∧ At3 (win7_6.index t) 3 t.val ∧ At4 (win7_1.index t) 0 0 ∧ At4 (win7_3.index t) 1 0 ∧ At4 (win7_5.index t) 2 0 ∧ At4 (win7_7.index t) 3 0 ∧ At2 (win7_8.index t) t.val ∧ At2 (win7_9.index t) t.val := by decide +kernel

set_option maxHeartbeats 2000000 in
theorem call7 (c : Dev nD) {Y : S4x4096x2816.Idx → EReal} {W : S4x1024x2816.Idx → EReal} (hy : Hidden (V c main_v60) Y 0) (hw : Weight (V c main_v5) W 0) :
    ((dat7 V c).arrAt 9 cfg7.N : S4096x1024.Idx → EReal) = step Y W 0 (V c main_v55) := by
  refine (dat7 V c).arrAt_eq_of_covers 9 _ (by decide +kernel) fun t hf y => ?_
  obtain ⟨p0, p1, p2, p3, q0, q1, q2, q3, r, o⟩ := idx7 t
  obtain ⟨s, d, rfl⟩ := ex2 512 1024 y
  have e : ((cfg7.win 9).blk t).view.emb (ix2 s d) = (ix2 ⟨t.val * 512 + s.val, by have : t.val < 8 := t.isLt; omega⟩ d : S4096x1024.Idx) := by blk_ext [o]
  blk_simp
  rw [after7_9, e]
  unfold out7_9
  frame_out
  exact point (R := V c main_v55) _ _ _ _ _ _ _ _ _ t.val t.isLt
    (hid hy 0 t (g := ((cfg7.win 0).blk t).view.emb) fun s n => by blk_ext [p0])
    (hid hy 1 t (g := ((cfg7.win 2).blk t).view.emb) fun s n => by blk_ext [p1])
    (hid hy 2 t (g := ((cfg7.win 4).blk t).view.emb) fun s n => by blk_ext [p2])
    (hid hy 3 t (g := ((cfg7.win 6).blk t).view.emb) fun s n => by blk_ext [p3])
    (wei hw 0 (g := ((cfg7.win 1).blk t).view.emb) fun d n => by blk_ext [q0])
    (wei hw 1 (g := ((cfg7.win 3).blk t).view.emb) fun d n => by blk_ext [q1])
    (wei hw 2 (g := ((cfg7.win 5).blk t).view.emb) fun d n => by blk_ext [q2])
    (wei hw 3 (g := ((cfg7.win 7).blk t).view.emb) fun d n => by blk_ext [q3])
    (fun s d => congrArg (V c main_v55) (by blk_ext [r])) s d

theorem layer0 (c : Dev nD) (s : Fin 4096) (d : Fin 1024) : (W16 m ρ c main_v61 : S4096x1024.Idx → EReal) (ix2 s d)
    = dot (m ((c : Thread nD τ).loc main_arg2)) (m ((c : Thread nD τ).loc main_arg4)) 0 s.val d.val + (dot (m ((c : Thread nD τ).loc main_arg1)) (m ((c : Thread nD τ).loc main_arg3)) 0 s.val d.val + at3 (m ((c : Thread nD τ).loc main_arg0)) 0 s.val d.val) := by
  rw [(W16_arr m ρ c 9).trans (call7 (V15 m ρ) c (y7 m ρ c) (w7 m ρ c))]
  show dot _ _ _ _ _ + (V15 m ρ c main_v55 : S4096x1024.Idx → EReal) (ix2 s d) = _
  rw [show V15 m ρ c main_v55 = W14 m ρ c main_v55 from W15_of m ρ c main_v55 (by decide), (W14_arr m ρ c 9).trans (call6 (V13 m ρ) c (y6 m ρ c) (w6 m ρ c))]
  show dot _ _ _ _ _ + (dot _ _ _ _ _ + (V13 m ρ c main_v54 : S4096x1024.Idx → EReal) (ix2 s d)) = _
  rw [r6]
  rfl

theorem end0 (c : Dev nD) : W16 m ρ c main_v61 = W16 m ρ c main_v61 := by
  rfl

end Cert.Kernel4Ideal.Hand
-- ==== Proof.Value4.Algebraic.lean ====
/-
  The input gradients: the kernel's four results and the reference's four results are the same extended reals, whatever the
  arguments hold.
-/
module

public import proofs.«01_k».proof.Defs
public import proofs.«01_k».proof.Proof.Value4.Calls
public import proofs.«01_k».proof.Proof.Value4.Calls2
public import proofs.«01_k».proof.Proof.Gen.Reference4Ideal
public import proofs.«01_k».proof.Proof.Gen.Reference4Ideal.Run
public import proofs.«01_k».proof.Proof.Gen.Reference4Ideal.Read

@[expose] public section

set_option maxRecDepth 16384

noncomputable section

namespace Cert.Kernel4Ideal.Hand

open Cert.Kernel4Ideal Cert.Kernel4Ideal.Gen Cert.Entries
open Idealize.ShloMosaic Idealize.ShloMosaic.TcCoe Idealize.ShloMosaic.Tactic
open Idealize.SL.Sem
open Idealize.ShloMosaic.StableHlo

/-- One layer's gradient: what came from above, and the two products. -/
def grad (x : S4x4096x1024.Idx → EReal) (y0 y1 : S4x4096x2816.Idx → EReal) (w0 w1 : S4x1024x2816.Idx → EReal) (l : ℕ) : S4096x1024.Idx → EReal :=
  fun i => dot y1 w1 l (i 0).val (i 1).val + (dot y0 w0 l (i 0).val (i 1).val + at3 x l (i 0).val (i 1).val)

/-- The two products of all four layers, as the reference computes them. -/
def both (y0 y1 : FVec Ideal Cert.Reference4Ideal.S4x4096x2816 .f32) (w0 w1 : FVec Ideal Cert.Reference4Ideal.S4x1024x2816 .f32) : FVec Ideal Cert.Reference4Ideal.S4x4096x1024 .f32 :=
  addf (Host.dotGeneral Cert.Reference4Ideal.dot_S4x4096x2816_S4x1024x2816_S4x4096x1024_2_2_1_1_0_0 none y1 w1)
    (Host.dotGeneral Cert.Reference4Ideal.dot_S4x4096x2816_S4x1024x2816_S4x4096x1024_2_2_1_1_0_0 none y0 w0)

theorem both_at (y0 y1 : FVec Ideal Cert.Reference4Ideal.S4x4096x2816 .f32) (w0 w1 : FVec Ideal Cert.Reference4Ideal.S4x1024x2816 .f32) (l : Fin 4) (s : Fin 4096) (d : Fin 1024) :
    (both y0 y1 w0 w1 : S4x4096x1024.Idx → EReal) (ix3 l s d) = dot y1 w1 l.val s.val d.val + dot y0 w0 l.val s.val d.val := by
  rw [dot_eq, dot_eq]
  unfold both
  pointwise
  refine congrArg₂ _ (Finset.sum_congr rfl fun n _ => ?_) (Finset.sum_congr rfl fun n _ => ?_)
  · exact congrArg₂ _ (at3_fin y1 l s n) (at3_fin w1 l d n)
  · exact congrArg₂ _ (at3_fin y0 l s n) (at3_fin w0 l d n)

/-- The reference's result of one layer. -/
theorem ref_layer (x : FVec Ideal S4x4096x1024 .f32) (y0 y1 : FVec Ideal S4x4096x2816 .f32) (w0 w1 : FVec Ideal S4x1024x2816 .f32) (l : Fin 4) (h : S4x4096x1024.Slices ![l.val, 0, 0] S1x4096x1024) :
    (addf (layer x l.val h) (layer (both y0 y1 w0 w1) l.val h) : S4096x1024.Idx → EReal) = grad x y0 y1 w0 w1 l.val := by
  funext i
  obtain ⟨s, d, rfl⟩ := ex2 4096 1024 i
  unfold layer
  pointwise
  refine (congrArg₂ (fun a b : EReal => a + b) (at3_fin x l s d) (both_at y0 y1 w0 w1 l s d)).trans ?_
  show at3 x l.val s.val d.val + (dot y1 w1 l.val s.val d.val + dot y0 w0 l.val s.val d.val) = dot y1 w1 l.val s.val d.val + (dot y0 w0 l.val s.val d.val + at3 x l.val s.val d.val)
  rw [add_comm, add_assoc]

variable (m : (ℓ : Loc nD τ sig) → Buf (Elt Ideal) ℓ) (ρ : Dev nD → PrngReg)

/-- The gradient of layer `l`, of the kernel's arguments. -/
abbrev out (l : ℕ) (c : Dev nD) : S4096x1024.Idx → EReal := grad (m ((c : Thread nD τ).loc main_arg0)) (m ((c : Thread nD τ).loc main_arg1)) (m ((c : Thread nD τ).loc main_arg2)) (m ((c : Thread nD τ).loc main_arg3)) (m ((c : Thread nD τ).loc main_arg4)) l

/-- The kernel's result of layer 0. -/
theorem res0 (c : Dev nD) : (W16 m ρ c main_v61 : S4096x1024.Idx → EReal) = out m 0 c := by
  rw [end0]
  funext i
  obtain ⟨s, d, rfl⟩ := ex2 4096 1024 i
  exact layer0 m ρ c s d

/-- The kernel's result of layer 1. -/
theorem res1 (c : Dev nD) : (W16 m ρ c main_v47 : S4096x1024.Idx → EReal) = out m 1 c := by
  rw [end1]
  funext i
  obtain ⟨s, d, rfl⟩ := ex2 4096 1024 i
  exact layer1 m ρ c s d

/-- The kernel's result of layer 2. -/
theorem res2 (c : Dev nD) : (W16 m ρ c main_v33 : S4096x1024.Idx → EReal) = out m 2 c := by
  rw [end2]
  funext i
  obtain ⟨s, d, rfl⟩ := ex2 4096 1024 i
  exact layer2 m ρ c s d

/-- The kernel's result of layer 3. -/
theorem res3 (c : Dev nD) : (W16 m ρ c main_v19 : S4096x1024.Idx → EReal) = out m 3 c := by
  rw [end3]
  funext i
  obtain ⟨s, d, rfl⟩ := ex2 4096 1024 i
  exact layer3 m ρ c s d

/-- The two programs' results are equal, and both leave their arguments as they were. -/
theorem algebraic : Cert.algebraic_Kernel4Ideal_Reference4Ideal := by
  intro m g m' g' _ ha
  refine ⟨out m 0, out m 1, out m 2, out m 3, ?_, ?_⟩
  · refine (θ_run defs _ _).mono (fun r h c => ?_) (run m g)
    exact ⟨(h c _ (mem_uc main_v61 (by decide))).trans (res0 m g c), (h c _ (mem_uc main_v47 (by decide))).trans (res1 m g c), (h c _ (mem_uc main_v33 (by decide))).trans (res2 m g c), (h c _ (mem_uc main_v19 (by decide))).trans (res3 m g c),
      (h c _ (mem_uc main_arg0 (by decide))).trans (W16_main_arg0 m g c), (h c _ (mem_uc main_arg1 (by decide))).trans (W16_main_arg1 m g c), (h c _ (mem_uc main_arg2 (by decide))).trans (W16_main_arg2 m g c), (h c _ (mem_uc main_arg3 (by decide))).trans (W16_main_arg3 m g c), (h c _ (mem_uc main_arg4 (by decide))).trans (W16_main_arg4 m g c)⟩
  · refine (θ_run Cert.Reference4Ideal.defs _ _).mono (fun r h c => ?_) (Cert.Reference4Ideal.Value.run (F := Ideal) m' g')
    obtain ⟨h0, h1, h2, h3, hr⟩ := h c
    obtain ⟨a0, a1, a2, a3, a4⟩ := ha c
    rw [a0, a1, a2, a3, a4] at h0 h1 h2 h3
    exact ⟨h0.trans (ref_layer _ _ _ _ _ 0 _), h1.trans (ref_layer _ _ _ _ _ 1 _), h2.trans (ref_layer _ _ _ _ _ 2 _), h3.trans (ref_layer _ _ _ _ _ 3 _), hr⟩

end Cert.Kernel4Ideal.Hand
-- ==== Proof.Value5.Vec.lean ====
/-
  The weight gradients of 1024 columns: the product of a column of the activations and a column of the gradients, what one call
  stores at one of its points, the array the sixteen calls fill, and the run of the whole program with every buffer named.
-/
module

public import proofs.«01_k».proof.Proof.Gen.Kernel5Ideal.Frame
public import proofs.«01_k».proof.Proof.Entries

@[expose] public section

set_option maxRecDepth 16384

noncomputable section

namespace Cert.Kernel5Ideal.Hand

open Cert.Kernel5Ideal Cert.Kernel5Ideal.Gen Cert.Entries
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

local notation "𝕄" => MT nD τ sig Unit (Elt Ideal) ℕ (UR sig nD τ) ℕ

/-- The product of the activations, transposed, and the gradients: row `d`, column `n`. -/
def prod (x y : ℕ → ℕ → EReal) (d n : ℕ) : EReal :=
  ∑ s : Fin 4096, x s.val d * y s.val n

variable (m : (ℓ : Loc nD τ sig) → Buf (Elt Ideal) ℓ) (ρ : Dev nD → PrngReg)

/-- The activations of the weight that the rows `256 q` to `256 q + 255` of the array belong to. -/
def left (c : Dev nD) : ℕ → ℕ → ℕ → EReal
  | 11 => at3 (m ((c : Thread nD τ).loc main_arg4)) 0
  | 12 => at3 (m ((c : Thread nD τ).loc main_arg4)) 1
  | 13 => at3 (m ((c : Thread nD τ).loc main_arg6)) 0
  | 14 => at3 (m ((c : Thread nD τ).loc main_arg6)) 1
  | 15 => at3 (m ((c : Thread nD τ).loc main_arg6)) 0
  | 16 => at3 (m ((c : Thread nD τ).loc main_arg6)) 0
  | 17 => at3 (m ((c : Thread nD τ).loc main_arg5)) 0
  | 18 => at3 (m ((c : Thread nD τ).loc main_arg5)) 1
  | 19 => at3 (m ((c : Thread nD τ).loc main_arg0)) 0
  | 20 => at3 (m ((c : Thread nD τ).loc main_arg0)) 1
  | 21 => at3 (m ((c : Thread nD τ).loc main_arg0)) 2
  | 22 => at3 (m ((c : Thread nD τ).loc main_arg0)) 3
  | _ => fun _ _ => 0

/-- The gradients of that weight's outputs. -/
def right (c : Dev nD) : ℕ → ℕ → ℕ → EReal
  | 11 => at3 (m ((c : Thread nD τ).loc main_arg7)) 0
  | 12 => at3 (m ((c : Thread nD τ).loc main_arg7)) 1
  | 13 => at3 (m ((c : Thread nD τ).loc main_arg8)) 0
  | 14 => at3 (m ((c : Thread nD τ).loc main_arg8)) 1
  | 15 => at2 (m ((c : Thread nD τ).loc main_arg9))
  | 16 => at2 (m ((c : Thread nD τ).loc main_arg10))
  | 17 => at3 (m ((c : Thread nD τ).loc main_arg7)) 2
  | 18 => at3 (m ((c : Thread nD τ).loc main_arg7)) 3
  | 19 => at3 (m ((c : Thread nD τ).loc main_arg1)) 0
  | 20 => at3 (m ((c : Thread nD τ).loc main_arg1)) 1
  | 21 => at3 (m ((c : Thread nD τ).loc main_arg1)) 2
  | 22 => at3 (m ((c : Thread nD τ).loc main_arg1)) 3
  | _ => fun _ _ => 0

/-- What the sixteen calls leave. Each weight's rows stand in four parts, one after the other along the first axis: 704 rows of each
    part for the first four weights, 256 for each of the others. -/
def G (c : Dev nD) : S4x5888x1024.Idx → EReal := fun i =>
  if (i 1).val < 2816 then
    prod (at3 (m ((c : Thread nD τ).loc main_arg2)) ((i 1).val / 704)) (at3 (m ((c : Thread nD τ).loc main_arg3)) ((i 1).val / 704))
      ((i 0).val * 704 + (i 1).val % 704) (i 2).val
  else prod (left m c ((i 1).val / 256)) (right m c ((i 1).val / 256)) ((i 0).val * 256 + (i 1).val % 256) (i 2).val

/-- The block a call of the first four weights stores. -/
theorem pay_at (x : Vec Ideal S1x4096x704 .bf16) (y : Vec Ideal S4096x512 .f32) (a : Fin 1) (d : Fin 704) (n : Fin 512) :
    (k1_pay1 x y : S1x704x512.Idx → EReal) (ix3 a d n) = ∑ s : Fin 4096, @HMul.hMul EReal EReal EReal _ (x (ix3 0 s d)) (y (ix2 s n)) := by
  unfold k1_pay1
  pointwise

/-- One of the four stores of the other calls, from gradients of the wide format. -/
theorem store_at (v : Vec Ideal S4096x256 .bf16) (y : Vec Ideal S4096x256 .f32) (a : Fin 1) (d n : Fin 256) :
    (k2_pay3 y v : S1x256x256.Idx → EReal) (ix3 a d n) = ∑ s : Fin 4096, @HMul.hMul EReal EReal EReal _ (v (ix2 s d)) (y (ix2 s n)) := by
  unfold k2_pay3 k2_pay2
  pointwise

set_option backward.isDefEq.respectTransparency.types false in
/-- The program runs to the end, and every buffer holds what its 33 parts leave in turn. -/
theorem run : θ_run defs (onTc (τ := τ) (main (F := Ideal))) ⟨m, fun _ => 0, ρ⟩ (fun r => ∀ (c : Dev nD), ∀ b ∈ Pipeline.ucRefs τ sig,
    r.2.mem (((c : Thread nD τ)).1, b) = W33 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      have he : (BI.emp : sProp 𝕄) ⊢ bigSep Finset.univ (fun _ : Dev nD => (BI.emp : sProp 𝕄)) := by rw [BI.bigSep_emp_const]
      iintro Hu
      imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      · iapply he
        iempintro)
    (T₀ := fun c => iprop(StableHlo.held (c : Thread nD τ) (Pipeline.ucRefs τ sig) (W0 m ρ c) ∗ R c)) (Tₙ := Tₙ m ρ)
    (hch := by
      refine ⟨fun _ => .rfl, fun _ => .rfl, fun _ => .rfl, fun _ => .rfl, fun _ => .rfl, fun _ => .rfl, fun _ => .rfl, fun _ => .rfl, fun _ => .rfl, fun _ => .rfl, fun _ => .rfl,
        fun _ => .rfl, fun _ => .rfl, fun _ => .rfl, fun _ => .rfl, fun _ => .rfl, fun _ => .rfl, fun _ => .rfl, fun _ => .rfl, fun _ => .rfl, fun _ => .rfl, fun _ => .rfl,
        fun _ => .rfl, fun _ => .rfl, fun _ => .rfl, fun _ => .rfl, fun _ => .rfl, fun _ => .rfl, fun _ => .rfl, fun _ => .rfl, fun _ => .rfl, fun _ => .rfl, fun _ => .rfl, fun c => ?_⟩
      dsimp only [Pipeline.Seg.post, hseg, Pipeline.HostSeg.ofOps]
      iintro ⟨Hbufs, Hgen, Howed⟩
      isplitr [Howed]
      · isplitl [Hbufs]
        · iexact Hbufs
        · iexact Hgen
      · iexact Howed)
    (hinit := Pipeline.initEach L lv fun c => by
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hbufs, -, Howed, -, Hgen, -⟩, -⟩
      imodintro
      isplitl [Hbufs]
      · iexact Hbufs
      isplitl [Hgen]
      · iexists _
        iexact Hgen
      · iexists ∅
        iexact Howed)
    (QY := fun c s => ∀ b ∈ Pipeline.ucRefs τ sig, s.mem (((c : Thread nD τ)).1, b) = W33 m ρ c b)
    (hfin := fun c s' => by
      iintro ⟨⟨Hbufs, -⟩, Hs⟩
      unfold StableHlo.held
      imodintro
      iapply (pointsTo_read_all (Pipeline.ucRefs τ sig) (fun b => (((c : Thread nD τ)).1, b)) (W33 m ρ c) s')
      isplitl [Hbufs]
      · iexact Hbufs
      · iexact Hs)
    (hQ := fun s h _ => h)

/-- One point of a call of the first four weights: `bx` the block of part `f` of the activations, `by'` columns `512 k` to
    `512 k + 511` of the gradients. -/
theorem point {X Y : ℕ → ℕ → EReal} (bx : Vec Ideal S1x4096x704 .bf16) (by' : Vec Ideal S4096x512 .f32) (k f : ℕ)
    (hbx : ∀ (s : Fin 4096) (d : Fin 704), bx (ix3 0 s d) = X s.val (f * 704 + d.val))
    (hby : ∀ (s : Fin 4096) (n : Fin 512), by' (ix2 s n) = Y s.val (k * 512 + n.val)) (d : Fin 704) (n : Fin 512) :
    (k1_pay1 bx by' : S1x704x512.Idx → EReal) (ix3 0 d n) = prod X Y (f * 704 + d.val) (k * 512 + n.val) := by
  rw [pay_at]
  unfold prod
  exact Finset.sum_congr rfl fun s _ => by rw [hbx, hby]

/-- The activations or gradients of one layer, all columns. -/
def Holds (v : S4096x1024.Idx → EReal) (X : ℕ → ℕ → EReal) : Prop := ∀ (s : Fin 4096) (d : Fin 1024), v (ix2 s d) = X s.val d.val

/-- Columns `256 t` to `256 t + 255` of the gradients of one layer. -/
def Cols (v : S4096x256.Idx → EReal) (t : ℕ) (X : ℕ → ℕ → EReal) : Prop := ∀ (s : Fin 4096) (n : Fin 256), v (ix2 s n) = X s.val (t * 256 + n.val)

/-- One store of the other calls: `x` the activations, of which part `j` was loaded, `y` columns `256 t` to `256 t + 255` of the
    gradients, `z` the index within the part stored. -/
theorem store {X Y : ℕ → ℕ → EReal} (x : Vec Ideal S4096x1024 .bf16) (y : Vec Ideal S4096x256 .f32) (t j : ℕ)
    (inb : ∀ a, (![0, j * 256] : Fin 2 → ℕ) a + S4096x256.size a ≤ S4096x1024.size a)
    (hx : Holds x X) (hy : Cols y t Y) (z : S1x256x256.Idx) {f d n : ℕ}
    (h0 : f = j + (z 0).val) (h1 : d = (z 1).val) (h2 : n = (z 2).val) :
    (k2_pay3 y (View.ld x (Rect.unit (s := S4096x1024) ![0, j * 256] S4096x256.size inb)) : S1x256x256.Idx → EReal) z
    = prod X Y (f * 256 + d) (t * 256 + n) := by
  have hf : j * 256 + 256 ≤ 1024 := inb 1
  obtain ⟨a, b, e, rfl⟩ := ex3 1 256 256 z
  obtain rfl : a = 0 := Subsingleton.elim _ _
  obtain rfl : f = j := h0
  obtain rfl : d = b.val := h1
  obtain rfl : n = e.val := h2
  rw [store_at]
  unfold prod
  refine Finset.sum_congr rfl fun s _ => congrArg₂ (fun a b : EReal => a * b) ?_ (hy s e)
  refine (View.ld_unit_apply_of x _ _ inb (ix2 s b) (ix2 s ⟨f * 256 + b.val, by omega⟩) fun a => ?_).trans (hx s ⟨f * 256 + b.val, by omega⟩)
  match a with
  | ⟨0, _⟩ => show s.val = 0 + s.val; omega
  | ⟨1, _⟩ => rfl

/-- The same from gradients of the narrow format. -/
theorem store' {X Y : ℕ → ℕ → EReal} (x : Vec Ideal S4096x1024 .bf16) (y : Vec Ideal S4096x256 .bf16) (t j : ℕ)
    (inb : ∀ a, (![0, j * 256] : Fin 2 → ℕ) a + S4096x256.size a ≤ S4096x1024.size a)
    (hx : Holds x X) (hy : Cols y t Y) (z : S1x256x256.Idx) {f d n : ℕ}
    (h0 : f = j + (z 0).val) (h1 : d = (z 1).val) (h2 : n = (z 2).val) :
    (k0_pay2 y (View.ld x (Rect.unit (s := S4096x1024) ![0, j * 256] S4096x256.size inb)) : S1x256x256.Idx → EReal) z
    = prod X Y (f * 256 + d) (t * 256 + n) := store x y t j inb hx hy z h0 h1 h2

end Cert.Kernel5Ideal.Hand
-- ==== Proof.Value5.Calls.lean ====
/-
  The first eight of the sixteen calls of the weight gradients, one after the other: what each is handed, what it stores, and so what the array holds
  after it: the rows of every call up to it.
-/
module

public import proofs.«01_k».proof.Proof.Value5.Vec

@[expose] public section

set_option maxRecDepth 16384

noncomputable section

namespace Cert.Kernel5Ideal.Hand

open Cert.Kernel5Ideal Cert.Kernel5Ideal.Gen Cert.Entries
open Idealize.ShloMosaic Idealize.ShloMosaic.TcCoe Idealize.ShloMosaic.Tactic
open Idealize.SL.Sem
open Idealize.ShloMosaic.StableHlo
open Idealize.ShloMosaic.Pipeline (Dat)

variable (m : (ℓ : Loc nD τ sig) → Buf (Elt Ideal) ℓ) (ρ : Dev nD → PrngReg) (V : (c : Dev nD) → (b : Ref sig .tc) → Buf (Elt Ideal) ((c : Thread nD τ).loc b))

/-- The weight a row belongs to: of the first four by 704 rows, of the others by 256. -/
def who (r : ℕ) : ℕ := if r < 2816 then r / 704 else r / 256

/-- The call, in order, that fills a weight's rows. -/
def turn : ℕ → ℕ
  | 0 => 14
  | 1 => 11
  | 2 => 5
  | 3 => 1
  | 11 => 15
  | 12 => 12
  | 13 => 7
  | 14 => 3
  | 15 => 8
  | 16 => 9
  | 17 => 6
  | 18 => 2
  | 19 => 13
  | 20 => 10
  | 21 => 4
  | 22 => 0
  | _ => 99

/-- The activations of one layer with their 2816 columns in four parts. -/
def Holds4 (v : S4x4096x704.Idx → EReal) (X : ℕ → ℕ → EReal) : Prop :=
  ∀ (f : Fin 4) (s : Fin 4096) (d : Fin 704), v (ix3 f s d) = X s.val (f.val * 704 + d.val)

/-- `A` holds the gradient of weight `q`, whose rows are the `q`-th `n` of the array, and elsewhere what `B` holds. -/
def Fills (m : (ℓ : Loc nD τ sig) → Buf (Elt Ideal) ℓ) (c : Dev nD) (n q : ℕ) (A B : S4x5888x1024.Idx → EReal) : Prop := ∀ i, A i = if (i 1).val / n = q then G m c i else B i

/-- After call `k` the array holds the gradients of the weights whose turn has come. -/
def Done (m : (ℓ : Loc nD τ sig) → Buf (Elt Ideal) ℓ) (c : Dev nD) (k : ℕ) (A : S4x5888x1024.Idx → EReal) : Prop := ∀ i, turn (who (i 1).val) ≤ k → A i = G m c i

/-- Where a block stands. -/
abbrev At2 (i : Fin 2 → ℕ) (a b : ℕ) : Prop := i 0 = a ∧ i 1 = b

abbrev At3 (i : Fin 3 → ℕ) (a b c : ℕ) : Prop := i 0 = a ∧ i 1 = b ∧ i 2 = c

/-- An element of the block that one of the first four calls writes, and of one that the others write. -/
theorem G_down (c : Dev nD) (z : S4x5888x1024.Idx) (q t : ℕ) {w : Fin 3 → ℕ} (hw : At3 w (t / 2) q (t % 2)) {a b e d n : ℕ} (hq : q < 4) (ha : a = 0) (hb : b = d) (he : e = n) (hd : d < 704)
    (h0 : (z 0).val = w 0 * 1 + 1 * a) (h1 : (z 1).val = w 1 * 704 + 1 * b) (h2 : (z 2).val = w 2 * 512 + 1 * e) :
    G m c z = prod (at3 (m ((c : Thread nD τ).loc main_arg2)) q) (at3 (m ((c : Thread nD τ).loc main_arg3)) q) (t / 2 * 704 + d) (t % 2 * 512 + n) := by
  subst ha hb he
  unfold G
  rw [h0, h1, h2, hw.1, hw.2.1, hw.2.2, if_pos (by omega), show (q * 704 + 1 * b) / 704 = q by omega, show (q * 704 + 1 * b) % 704 = b by omega]
  simp only [mul_one, mul_zero, add_zero, one_mul]

theorem G_fan (c : Dev nD) (z : S4x5888x1024.Idx) (q t : ℕ) {w : Fin 3 → ℕ} (hw : At3 w 0 q t) {f d n : ℕ} (hq : 11 ≤ q) (hd : d < 256)
    (h0 : (z 0).val = w 0 * 4 + 1 * f) (h1 : (z 1).val = w 1 * 256 + 1 * d) (h2 : (z 2).val = w 2 * 256 + 1 * n) :
    G m c z = prod (left m c q) (right m c q) (f * 256 + d) (t * 256 + n) := by
  unfold G
  rw [h0, h1, h2, hw.1, hw.2.1, hw.2.2, if_neg (by omega), show (q * 256 + 1 * d) / 256 = q by omega, show (q * 256 + 1 * d) % 256 = d by omega]
  simp only [zero_mul, zero_add, one_mul]

theorem who_lt (i : S4x5888x1024.Idx) : who (i 1).val < 23 := by
  have hi : (i 1).val < 5888 := (i 1).isLt
  unfold who
  split_ifs <;> omega

/-- One more call: the rows of weight `q` are done too. -/
theorem step_down (c : Dev nD) {A A' B B' : S4x5888x1024.Idx → EReal} (k q : ℕ) (hq : q < 4) (hw : A = A') (hA : Fills m c 704 q A' B') (hb : B' = B)
    (hB : Done m c k B) (ht : ∀ w < 23, w ≠ q → turn w ≤ k + 1 → turn w ≤ k) : Done m c (k + 1) A := by
  intro i h
  rw [hw, hA i, hb]
  split_ifs with hi
  · rfl
  · exact hB i (ht _ (who_lt i) (by unfold who; split_ifs <;> omega) h)

theorem step_fan (c : Dev nD) {A A' B B' : S4x5888x1024.Idx → EReal} (k q : ℕ) (hq : 11 ≤ q) (hw : A = A') (hA : Fills m c 256 q A' B') (hb : B' = B)
    (hB : Done m c k B) (ht : ∀ w < 23, w ≠ q → turn w ≤ k + 1 → turn w ≤ k) : Done m c (k + 1) A := by
  intro i h
  rw [hw, hA i, hb]
  split_ifs with hi
  · rfl
  · exact hB i (ht _ (who_lt i) (by unfold who; split_ifs <;> omega) h)

/-! One layer of an array of four layers and of two, in the narrow format and in the wide one. -/

def thin4 (x : FVec Ideal S4x4096x1024 .f32) (l : ℕ) (h : S4x4096x1024.Slices ![l, 0, 0] S1x4096x1024) : FVec Ideal S4096x1024 .bf16 :=
  truncf (F := Ideal) .bf16 (shapeCast S4096x1024 (extractStridedSlice S1x4096x1024 ![l, 0, 0] x h) shapeCasts_S1x4096x1024_S4096x1024) bitsLt_bf16_f32

theorem thin4_at (x : FVec Ideal S4x4096x1024 .f32) (l : Fin 4) (h : S4x4096x1024.Slices ![l.val, 0, 0] S1x4096x1024) : Holds (thin4 x l.val h) (at3 x l.val) := by
  intro s d
  unfold thin4
  pointwise
  exact at3_fin x l s d

def thin2 (x : FVec Ideal S2x4096x1024 .f32) (l : ℕ) (h : S2x4096x1024.Slices ![l, 0, 0] S1x4096x1024) : FVec Ideal S4096x1024 .bf16 :=
  truncf (F := Ideal) .bf16 (shapeCast S4096x1024 (extractStridedSlice S1x4096x1024 ![l, 0, 0] x h) shapeCasts_S1x4096x1024_S4096x1024) bitsLt_bf16_f32

theorem thin2_at (x : FVec Ideal S2x4096x1024 .f32) (l : Fin 2) (h : S2x4096x1024.Slices ![l.val, 0, 0] S1x4096x1024) : Holds (thin2 x l.val h) (at3 x l.val) := by
  intro s d
  unfold thin2
  pointwise
  exact at3_fin x l s d

def wide4 (x : FVec Ideal S4x4096x1024 .f32) (l : ℕ) (h : S4x4096x1024.Slices ![l, 0, 0] S1x4096x1024) : FVec Ideal S4096x1024 .f32 :=
  shapeCast S4096x1024 (extractStridedSlice S1x4096x1024 ![l, 0, 0] x h) shapeCasts_S1x4096x1024_S4096x1024

theorem wide4_at (x : FVec Ideal S4x4096x1024 .f32) (l : Fin 4) (h : S4x4096x1024.Slices ![l.val, 0, 0] S1x4096x1024) : Holds (wide4 x l.val h) (at3 x l.val) := by
  intro s d
  unfold wide4
  pointwise
  exact at3_fin x l s d

def wide2 (x : FVec Ideal S2x4096x1024 .f32) (l : ℕ) (h : S2x4096x1024.Slices ![l, 0, 0] S1x4096x1024) : FVec Ideal S4096x1024 .f32 :=
  shapeCast S4096x1024 (extractStridedSlice S1x4096x1024 ![l, 0, 0] x h) shapeCasts_S1x4096x1024_S4096x1024

theorem wide2_at (x : FVec Ideal S2x4096x1024 .f32) (l : Fin 2) (h : S2x4096x1024.Slices ![l.val, 0, 0] S1x4096x1024) : Holds (wide2 x l.val h) (at3 x l.val) := by
  intro s d
  unfold wide2
  pointwise
  exact at3_fin x l s d

/-- One layer of the hidden activations with its columns in four parts, in the narrow format. -/
def parts (x : FVec Ideal S4x4096x2816 .f32) (l : ℕ) (h : S4x4096x2816.Slices ![l, 0, 0] S1x4096x2816) : FVec Ideal S4x4096x704 .bf16 :=
  transpose S4x4096x704 [1, 0, 2] (shapeCast S4096x4x704 (truncf (F := Ideal) .bf16 (shapeCast S4096x2816 (extractStridedSlice S1x4096x2816 ![l, 0, 0] x h)
    shapeCasts_S1x4096x2816_S4096x2816) bitsLt_bf16_f32) shapeCasts_S4096x2816_S4096x4x704) transposes_S4096x4x704_S4x4096x704_1_0_2

theorem parts_at (x : FVec Ideal S4x4096x2816 .f32) (l : Fin 4) (h : S4x4096x2816.Slices ![l.val, 0, 0] S1x4096x2816) : Holds4 (parts x l.val h) (at3 x l.val) := by
  intro f s d
  unfold parts
  pointwise
  exact at3_fin x l s ⟨f.val * 704 + d.val, by omega⟩

/-- A block that is the whole array, and blocks of 256 and of 512 columns. -/
theorem whole {v : S4096x1024.Idx → EReal} {X : ℕ → ℕ → EReal} (hv : Holds v X) {g : S4096x1024.Idx → S4096x1024.Idx}
    (hg : ∀ (s : Fin 4096) (d : Fin 1024), g (ix2 s d) = ix2 s d) : Holds (fun y => v (g y)) X :=
  fun s d => (congrArg v (hg s d)).trans (hv s d)

theorem cols {v : S4096x1024.Idx → EReal} {X : ℕ → ℕ → EReal} (hv : Holds v X) (t : Fin 4) {g : S4096x256.Idx → S4096x1024.Idx}
    (hg : ∀ (s : Fin 4096) (n : Fin 256), g (ix2 s n) = ix2 s ⟨t.val * 256 + n.val, by omega⟩) : Cols (fun y => v (g y)) t.val X :=
  fun s n => (congrArg v (hg s n)).trans (hv s ⟨t.val * 256 + n.val, by omega⟩)

theorem cols' {v : S4096x1024.Idx → EReal} {X : ℕ → ℕ → EReal} (hv : Holds v X) (k : ℕ) (hk : k < 2) {g : S4096x512.Idx → S4096x1024.Idx}
    (hg : ∀ (s : Fin 4096) (n : Fin 512), g (ix2 s n) = ix2 s ⟨k * 512 + n.val, by omega⟩) (s : Fin 4096) (n : Fin 512) :
    v (g (ix2 s n)) = X s.val (k * 512 + n.val) :=
  (congrArg v (hg s n)).trans (hv s ⟨k * 512 + n.val, by omega⟩)

theorem hid {v : S4x4096x704.Idx → EReal} {X : ℕ → ℕ → EReal} (hv : Holds4 v X) (f : ℕ) (hf : f < 4) {g : S1x4096x704.Idx → S4x4096x704.Idx}
    (hg : ∀ (s : Fin 4096) (d : Fin 704), g (ix3 0 s d) = ix3 ⟨f, hf⟩ s d) (s : Fin 4096) (d : Fin 704) :
    v (g (ix3 0 s d)) = X s.val (f * 704 + d.val) :=
  (congrArg v (hg s d)).trans (hv ⟨f, hf⟩ s d)

/-! ### Call 0: the embedding gate of layer 3 -/

theorem x0 (c : Dev nD) : Holds (V1 m ρ c main_v2) (at3 (m ((c : Thread nD τ).loc main_arg0)) 3) ∧ Holds (V1 m ρ c main_v5) (at3 (m ((c : Thread nD τ).loc main_arg1)) 3) := by
  have e0 : V1 m ρ c main_v2 = thin4 (W0 m ρ c main_arg0) 3 slices_S4x4096x1024_S1x4096x1024_3_0_0 := by unfold V1 W1 hostOps0; after_results; rfl
  have e1 : V1 m ρ c main_v5 = thin4 (W0 m ρ c main_arg1) 3 slices_S4x4096x1024_S1x4096x1024_3_0_0 := by unfold V1 W1 hostOps0; after_results; rfl
  rw [e0, e1, W0_args m ρ c main_arg0 (by decide), W0_args m ρ c main_arg1 (by decide)]
  exact ⟨thin4_at _ 3 _, thin4_at _ 3 _⟩

theorem b0 (c : Dev nD) : V1 m ρ c main_v6 = W0 m ρ c main_arg11 := by unfold V1 W1 hostOps0; after_results; rfl

theorem idx0 : ∀ t : Fin cfg0.N, At2 (win0_0.index t) 0 0 ∧ At2 (win0_1.index t) 0 t.val ∧ At3 (win0_2.index t) 0 22 t.val := by decide +kernel

set_option maxHeartbeats 2000000 in
theorem call0 (c : Dev nD) (hx : Holds (V c main_v2) (left m c 22)) (hy : Holds (V c main_v5) (right m c 22)) : Fills m c 256 22 ((dat0 V c).arrAt 2 cfg0.N) (V c main_v6) := by
  refine fun i => (dat0 V c).arrAt_apply_of_coversWhere 2 (G m c) (P := fun i => (i 1).val / 256 = 22) (fun β => β (1 : Fin 3) = 22) (by decide +kernel) (fun t hf y => ?_) (fun j => Iff.rfl) i
  obtain ⟨⟨p0, p1⟩, ⟨q0, q1⟩, o⟩ := idx0 t
  have ht : t.val < 4 := t.isLt
  obtain ⟨f, d, n, rfl⟩ := ex3 4 256 256 y
  have bx := whole hx (g := ((cfg0.win 0).blk t).view.emb) fun s d => by blk_ext [p0, p1]
  have by' := cols hy t (g := ((cfg0.win 1).blk t).view.emb) fun s n => by blk_ext [q0, q1]
  have e := G_fan m c (((cfg0.win 2).blk t).view.emb (ix3 f d n)) 22 t.val o (f := f.val) (n := n.val) (by decide) d.isLt rfl rfl rfl
  blk_simp
  rw [after0_2]
  refine Eq.trans ?_ e.symm
  unfold outsAt0 out0_A_2
  frame_out
  canon_tiles x h
  · exact store' _ _ t.val 3 _ bx by' x h0 h1 h2
  · exact store' _ _ t.val 2 _ bx by' x h0 h1 h2
  · exact store' _ _ t.val 1 _ bx by' x h0 h1 h2
  · exact store' _ _ t.val 0 _ bx by' x (h0.trans (Nat.zero_add _).symm) h1 h2

theorem upto0 (c : Dev nD) : Done m c 0 (W2 m ρ c main_v6) := by
  intro i h
  rw [(congrFun (W2_arr m ρ c 2) i).trans (call0 m (V1 m ρ) c (x0 m ρ c).1 (x0 m ρ c).2 i)]
  split_ifs with hi
  · rfl
  · exact absurd h ((by decide : ∀ w < 23, w ≠ 22 → ¬ (turn w ≤ 0)) _ (who_lt i) (by unfold who; split_ifs <;> omega))

/-! ### Call 1: the last weight of the feed-forward block of layer 3 -/

theorem x1 (c : Dev nD) : Holds4 (V3 m ρ c main_v11) (at3 (m ((c : Thread nD τ).loc main_arg2)) 3) ∧ Holds (V3 m ρ c main_v13) (at3 (m ((c : Thread nD τ).loc main_arg3)) 3) := by
  have e0 : V3 m ρ c main_v11 = parts (W2 m ρ c main_arg2) 3 slices_S4x4096x2816_S1x4096x2816_3_0_0 := by unfold V3 W3 hostOps1; after_results; rfl
  have e1 : V3 m ρ c main_v13 = wide4 (W2 m ρ c main_arg3) 3 slices_S4x4096x1024_S1x4096x1024_3_0_0 := by unfold V3 W3 hostOps1; after_results; rfl
  rw [e0, e1, W2_args m ρ c main_arg2 (by decide), W2_args m ρ c main_arg3 (by decide)]
  exact ⟨parts_at _ 3 _, wide4_at _ 3 _⟩

theorem b1 (c : Dev nD) : V3 m ρ c main_v14 = W2 m ρ c main_v6 := by unfold V3 W3 hostOps1; after_results; rfl

theorem idx1 : ∀ t : Fin cfg1.N, At3 (win1_0.index t) (t.val / 2) 0 0 ∧ At2 (win1_1.index t) 0 (t.val % 2) ∧ At3 (win1_2.index t) (t.val / 2) 3 (t.val % 2) := by decide +kernel

set_option maxHeartbeats 2000000 in
theorem call1 (c : Dev nD) (hx : Holds4 (V c main_v11) (at3 (m ((c : Thread nD τ).loc main_arg2)) 3)) (hy : Holds (V c main_v13) (at3 (m ((c : Thread nD τ).loc main_arg3)) 3)) : Fills m c 704 3 ((dat1 V c).arrAt 2 cfg1.N) (V c main_v14) := by
  refine fun i => (dat1 V c).arrAt_apply_of_coversWhere 2 (G m c) (P := fun i => (i 1).val / 704 = 3) (fun β => β (1 : Fin 3) = 3) (by decide +kernel) (fun t hf y => ?_) (fun j => Iff.rfl) i
  obtain ⟨⟨p0, p1, p2⟩, ⟨q0, q1⟩, o⟩ := idx1 t
  have ht : t.val < 8 := t.isLt
  obtain ⟨a, d, n, hz⟩ : ∃ (a : Fin 1) (d : Fin 704) (n : Fin 512), (cfg1.win 2).xinj (cfg1.grid.coords t) y = (ix3 a d n : S1x704x512.Idx) :=
    ⟨_, _, _, eq_ix3 (n0 := 1) (n1 := 704) (n2 := 512) ((cfg1.win 2).xinj (cfg1.grid.coords t) y)⟩
  obtain rfl : a = 0 := Subsingleton.elim _ _
  have l0 : (y 0).val = 0 := congrArg (fun z : S1x704x512.Idx => (z 0).val) hz
  have l1 : (y 1).val = d.val := congrArg (fun z : S1x704x512.Idx => (z 1).val) hz
  have l2 : (y 2).val = n.val := congrArg (fun z : S1x704x512.Idx => (z 2).val) hz
  blk_simp
  refine (congrArg ((dat1 V c).after 2 t) hz).trans ?_
  rw [after1_2]
  unfold outsAt1 out1_A_2
  frame_out
  refine (point (iblk1 V c 0 t) (iblk1 V c 1 t) (t.val % 2) (t.val / 2) (hid hx _ (by omega) (g := ((cfg1.win 0).blk t).view.emb) fun s d => by blk_ext [p0, p1, p2])
    (cols' hy _ (by omega) (g := ((cfg1.win 1).blk t).view.emb) fun s n => by blk_ext [q0, q1]) d n).trans ?_
  exact (G_down m c (((cfg1.win 2).blk t).view.emb y) 3 t.val o (by decide) l0 l1 l2 d.isLt rfl rfl rfl).symm

theorem upto1 (c : Dev nD) : Done m c 1 (W4 m ρ c main_v14) :=
  step_down m c 0 3 (by decide) (W4_arr m ρ c 2) (call1 m (V3 m ρ) c (x1 m ρ c).1 (x1 m ρ c).2) (b1 m ρ c) (upto0 m ρ c) (by decide)

/-! ### Call 2: the output projection of the second attention layer -/

theorem x2 (c : Dev nD) : Holds (V5 m ρ c main_v17) (at3 (m ((c : Thread nD τ).loc main_arg5)) 1) ∧ Holds (V5 m ρ c main_v19) (at3 (m ((c : Thread nD τ).loc main_arg7)) 3) := by
  have e0 : V5 m ρ c main_v17 = thin2 (W4 m ρ c main_arg5) 1 slices_S2x4096x1024_S1x4096x1024_1_0_0 := by unfold V5 W5 hostOps2; after_results; rfl
  have e1 : V5 m ρ c main_v19 = wide4 (W4 m ρ c main_arg7) 3 slices_S4x4096x1024_S1x4096x1024_3_0_0 := by unfold V5 W5 hostOps2; after_results; rfl
  rw [e0, e1, W4_args m ρ c main_arg5 (by decide), W4_args m ρ c main_arg7 (by decide)]
  exact ⟨thin2_at _ 1 _, wide4_at _ 3 _⟩

theorem b2 (c : Dev nD) : V5 m ρ c main_v20 = W4 m ρ c main_v14 := by unfold V5 W5 hostOps2; after_results; rfl

theorem idx2 : ∀ t : Fin cfg2.N, At2 (win2_0.index t) 0 0 ∧ At2 (win2_1.index t) 0 t.val ∧ At3 (win2_2.index t) 0 18 t.val := by decide +kernel

set_option maxHeartbeats 2000000 in
theorem call2 (c : Dev nD) (hx : Holds (V c main_v17) (left m c 18)) (hy : Holds (V c main_v19) (right m c 18)) : Fills m c 256 18 ((dat2 V c).arrAt 2 cfg2.N) (V c main_v20) := by
  refine fun i => (dat2 V c).arrAt_apply_of_coversWhere 2 (G m c) (P := fun i => (i 1).val / 256 = 18) (fun β => β (1 : Fin 3) = 18) (by decide +kernel) (fun t hf y => ?_) (fun j => Iff.rfl) i
  obtain ⟨⟨p0, p1⟩, ⟨q0, q1⟩, o⟩ := idx2 t
  have ht : t.val < 4 := t.isLt
  obtain ⟨f, d, n, rfl⟩ := ex3 4 256 256 y
  have bx := whole hx (g := ((cfg2.win 0).blk t).view.emb) fun s d => by blk_ext [p0, p1]
  have by' := cols hy t (g := ((cfg2.win 1).blk t).view.emb) fun s n => by blk_ext [q0, q1]
  have e := G_fan m c (((cfg2.win 2).blk t).view.emb (ix3 f d n)) 18 t.val o (f := f.val) (n := n.val) (by decide) d.isLt rfl rfl rfl
  blk_simp
  rw [after2_2]
  refine Eq.trans ?_ e.symm
  unfold outsAt2 out2_A_2
  frame_out
  canon_tiles x h
  · exact store _ _ t.val 3 _ bx by' x h0 h1 h2
  · exact store _ _ t.val 2 _ bx by' x h0 h1 h2
  · exact store _ _ t.val 1 _ bx by' x h0 h1 h2
  · exact store _ _ t.val 0 _ bx by' x (h0.trans (Nat.zero_add _).symm) h1 h2

theorem upto2 (c : Dev nD) : Done m c 2 (W6 m ρ c main_v20) :=
  step_fan m c 1 18 (by decide) (W6_arr m ρ c 2) (call2 m (V5 m ρ) c (x2 m ρ c).1 (x2 m ρ c).2) (b2 m ρ c) (upto1 m ρ c) (by decide)

/-! ### Call 3: the query projection of the second attention layer -/

theorem x3 (c : Dev nD) : Holds (V7 m ρ c main_v23) (at3 (m ((c : Thread nD τ).loc main_arg6)) 1) ∧ Holds (V7 m ρ c main_v25) (at3 (m ((c : Thread nD τ).loc main_arg8)) 1) := by
  have e0 : V7 m ρ c main_v23 = thin2 (W6 m ρ c main_arg6) 1 slices_S2x4096x1024_S1x4096x1024_1_0_0 := by unfold V7 W7 hostOps3; after_results; rfl
  have e1 : V7 m ρ c main_v25 = wide2 (W6 m ρ c main_arg8) 1 slices_S2x4096x1024_S1x4096x1024_1_0_0 := by unfold V7 W7 hostOps3; after_results; rfl
  rw [e0, e1, W6_args m ρ c main_arg6 (by decide), W6_args m ρ c main_arg8 (by decide)]
  exact ⟨thin2_at _ 1 _, wide2_at _ 1 _⟩

theorem b3 (c : Dev nD) : V7 m ρ c main_v26 = W6 m ρ c main_v20 := by unfold V7 W7 hostOps3; after_results; rfl

theorem idx3 : ∀ t : Fin cfg3.N, At2 (win3_0.index t) 0 0 ∧ At2 (win3_1.index t) 0 t.val ∧ At3 (win3_2.index t) 0 14 t.val := by decide +kernel

set_option maxHeartbeats 2000000 in
theorem call3 (c : Dev nD) (hx : Holds (V c main_v23) (left m c 14)) (hy : Holds (V c main_v25) (right m c 14)) : Fills m c 256 14 ((dat3 V c).arrAt 2 cfg3.N) (V c main_v26) := by
  refine fun i => (dat3 V c).arrAt_apply_of_coversWhere 2 (G m c) (P := fun i => (i 1).val / 256 = 14) (fun β => β (1 : Fin 3) = 14) (by decide +kernel) (fun t hf y => ?_) (fun j => Iff.rfl) i
  obtain ⟨⟨p0, p1⟩, ⟨q0, q1⟩, o⟩ := idx3 t
  have ht : t.val < 4 := t.isLt
  obtain ⟨f, d, n, rfl⟩ := ex3 4 256 256 y
  have bx := whole hx (g := ((cfg3.win 0).blk t).view.emb) fun s d => by blk_ext [p0, p1]
  have by' := cols hy t (g := ((cfg3.win 1).blk t).view.emb) fun s n => by blk_ext [q0, q1]
  have e := G_fan m c (((cfg3.win 2).blk t).view.emb (ix3 f d n)) 14 t.val o (f := f.val) (n := n.val) (by decide) d.isLt rfl rfl rfl
  blk_simp
  rw [after3_2]
  refine Eq.trans ?_ e.symm
  unfold outsAt3 out3_A_2
  frame_out
  canon_tiles x h
  · exact store _ _ t.val 3 _ bx by' x h0 h1 h2
  · exact store _ _ t.val 2 _ bx by' x h0 h1 h2
  · exact store _ _ t.val 1 _ bx by' x h0 h1 h2
  · exact store _ _ t.val 0 _ bx by' x (h0.trans (Nat.zero_add _).symm) h1 h2

theorem upto3 (c : Dev nD) : Done m c 3 (W8 m ρ c main_v26) :=
  step_fan m c 2 14 (by decide) (W8_arr m ρ c 2) (call3 m (V7 m ρ) c (x3 m ρ c).1 (x3 m ρ c).2) (b3 m ρ c) (upto2 m ρ c) (by decide)

/-! ### Call 4: the embedding gate of layer 2 -/

theorem x4 (c : Dev nD) : Holds (V9 m ρ c main_v29) (at3 (m ((c : Thread nD τ).loc main_arg0)) 2) ∧ Holds (V9 m ρ c main_v32) (at3 (m ((c : Thread nD τ).loc main_arg1)) 2) := by
  have e0 : V9 m ρ c main_v29 = thin4 (W8 m ρ c main_arg0) 2 slices_S4x4096x1024_S1x4096x1024_2_0_0 := by unfold V9 W9 hostOps4; after_results; rfl
  have e1 : V9 m ρ c main_v32 = thin4 (W8 m ρ c main_arg1) 2 slices_S4x4096x1024_S1x4096x1024_2_0_0 := by unfold V9 W9 hostOps4; after_results; rfl
  rw [e0, e1, W8_args m ρ c main_arg0 (by decide), W8_args m ρ c main_arg1 (by decide)]
  exact ⟨thin4_at _ 2 _, thin4_at _ 2 _⟩

theorem b4 (c : Dev nD) : V9 m ρ c main_v33 = W8 m ρ c main_v26 := by unfold V9 W9 hostOps4; after_results; rfl

theorem idx4 : ∀ t : Fin cfg4.N, At2 (win4_0.index t) 0 0 ∧ At2 (win4_1.index t) 0 t.val ∧ At3 (win4_2.index t) 0 21 t.val := by decide +kernel

set_option maxHeartbeats 2000000 in
theorem call4 (c : Dev nD) (hx : Holds (V c main_v29) (left m c 21)) (hy : Holds (V c main_v32) (right m c 21)) : Fills m c 256 21 ((dat4 V c).arrAt 2 cfg4.N) (V c main_v33) := by
  refine fun i => (dat4 V c).arrAt_apply_of_coversWhere 2 (G m c) (P := fun i => (i 1).val / 256 = 21) (fun β => β (1 : Fin 3) = 21) (by decide +kernel) (fun t hf y => ?_) (fun j => Iff.rfl) i
  obtain ⟨⟨p0, p1⟩, ⟨q0, q1⟩, o⟩ := idx4 t
  have ht : t.val < 4 := t.isLt
  obtain ⟨f, d, n, rfl⟩ := ex3 4 256 256 y
  have bx := whole hx (g := ((cfg4.win 0).blk t).view.emb) fun s d => by blk_ext [p0, p1]
  have by' := cols hy t (g := ((cfg4.win 1).blk t).view.emb) fun s n => by blk_ext [q0, q1]
  have e := G_fan m c (((cfg4.win 2).blk t).view.emb (ix3 f d n)) 21 t.val o (f := f.val) (n := n.val) (by decide) d.isLt rfl rfl rfl
  blk_simp
  rw [after4_2]
  refine Eq.trans ?_ e.symm
  unfold outsAt4 out4_A_2
  frame_out
  canon_tiles x h
  · exact store' _ _ t.val 3 _ bx by' x h0 h1 h2
  · exact store' _ _ t.val 2 _ bx by' x h0 h1 h2
  · exact store' _ _ t.val 1 _ bx by' x h0 h1 h2
  · exact store' _ _ t.val 0 _ bx by' x (h0.trans (Nat.zero_add _).symm) h1 h2

theorem upto4 (c : Dev nD) : Done m c 4 (W10 m ρ c main_v33) :=
  step_fan m c 3 21 (by decide) (W10_arr m ρ c 2) (call4 m (V9 m ρ) c (x4 m ρ c).1 (x4 m ρ c).2) (b4 m ρ c) (upto3 m ρ c) (by decide)

/-! ### Call 5: the last weight of the feed-forward block of layer 2 -/

theorem x5 (c : Dev nD) : Holds4 (V11 m ρ c main_v38) (at3 (m ((c : Thread nD τ).loc main_arg2)) 2) ∧ Holds (V11 m ρ c main_v40) (at3 (m ((c : Thread nD τ).loc main_arg3)) 2) := by
  have e0 : V11 m ρ c main_v38 = parts (W10 m ρ c main_arg2) 2 slices_S4x4096x2816_S1x4096x2816_2_0_0 := by unfold V11 W11 hostOps5; after_results; rfl
  have e1 : V11 m ρ c main_v40 = wide4 (W10 m ρ c main_arg3) 2 slices_S4x4096x1024_S1x4096x1024_2_0_0 := by unfold V11 W11 hostOps5; after_results; rfl
  rw [e0, e1, W10_args m ρ c main_arg2 (by decide), W10_args m ρ c main_arg3 (by decide)]
  exact ⟨parts_at _ 2 _, wide4_at _ 2 _⟩

theorem b5 (c : Dev nD) : V11 m ρ c main_v41 = W10 m ρ c main_v33 := by unfold V11 W11 hostOps5; after_results; rfl

theorem idx5 : ∀ t : Fin cfg5.N, At3 (win5_0.index t) (t.val / 2) 0 0 ∧ At2 (win5_1.index t) 0 (t.val % 2) ∧ At3 (win5_2.index t) (t.val / 2) 2 (t.val % 2) := by decide +kernel

set_option maxHeartbeats 2000000 in
theorem call5 (c : Dev nD) (hx : Holds4 (V c main_v38) (at3 (m ((c : Thread nD τ).loc main_arg2)) 2)) (hy : Holds (V c main_v40) (at3 (m ((c : Thread nD τ).loc main_arg3)) 2)) : Fills m c 704 2 ((dat5 V c).arrAt 2 cfg5.N) (V c main_v41) := by
  refine fun i => (dat5 V c).arrAt_apply_of_coversWhere 2 (G m c) (P := fun i => (i 1).val / 704 = 2) (fun β => β (1 : Fin 3) = 2) (by decide +kernel) (fun t hf y => ?_) (fun j => Iff.rfl) i
  obtain ⟨⟨p0, p1, p2⟩, ⟨q0, q1⟩, o⟩ := idx5 t
  have ht : t.val < 8 := t.isLt
  obtain ⟨a, d, n, hz⟩ : ∃ (a : Fin 1) (d : Fin 704) (n : Fin 512), (cfg5.win 2).xinj (cfg5.grid.coords t) y = (ix3 a d n : S1x704x512.Idx) :=
    ⟨_, _, _, eq_ix3 (n0 := 1) (n1 := 704) (n2 := 512) ((cfg5.win 2).xinj (cfg5.grid.coords t) y)⟩
  obtain rfl : a = 0 := Subsingleton.elim _ _
  have l0 : (y 0).val = 0 := congrArg (fun z : S1x704x512.Idx => (z 0).val) hz
  have l1 : (y 1).val = d.val := congrArg (fun z : S1x704x512.Idx => (z 1).val) hz
  have l2 : (y 2).val = n.val := congrArg (fun z : S1x704x512.Idx => (z 2).val) hz
  blk_simp
  refine (congrArg ((dat5 V c).after 2 t) hz).trans ?_
  rw [after5_2]
  unfold outsAt5 out5_A_2
  frame_out
  refine (point (iblk5 V c 0 t) (iblk5 V c 1 t) (t.val % 2) (t.val / 2) (hid hx _ (by omega) (g := ((cfg5.win 0).blk t).view.emb) fun s d => by blk_ext [p0, p1, p2])
    (cols' hy _ (by omega) (g := ((cfg5.win 1).blk t).view.emb) fun s n => by blk_ext [q0, q1]) d n).trans ?_
  exact (G_down m c (((cfg5.win 2).blk t).view.emb y) 2 t.val o (by decide) l0 l1 l2 d.isLt rfl rfl rfl).symm

theorem upto5 (c : Dev nD) : Done m c 5 (W12 m ρ c main_v41) :=
  step_down m c 4 2 (by decide) (W12_arr m ρ c 2) (call5 m (V11 m ρ) c (x5 m ρ c).1 (x5 m ρ c).2) (b5 m ρ c) (upto4 m ρ c) (by decide)

/-! ### Call 6: the output projection of the first attention layer -/

theorem x6 (c : Dev nD) : Holds (V13 m ρ c main_v44) (at3 (m ((c : Thread nD τ).loc main_arg5)) 0) ∧ Holds (V13 m ρ c main_v46) (at3 (m ((c : Thread nD τ).loc main_arg7)) 2) := by
  have e0 : V13 m ρ c main_v44 = thin2 (W12 m ρ c main_arg5) 0 slices_S2x4096x1024_S1x4096x1024_0_0_0 := by unfold V13 W13 hostOps6; after_results; rfl
  have e1 : V13 m ρ c main_v46 = wide4 (W12 m ρ c main_arg7) 2 slices_S4x4096x1024_S1x4096x1024_2_0_0 := by unfold V13 W13 hostOps6; after_results; rfl
  rw [e0, e1, W12_args m ρ c main_arg5 (by decide), W12_args m ρ c main_arg7 (by decide)]
  exact ⟨thin2_at _ 0 _, wide4_at _ 2 _⟩

theorem b6 (c : Dev nD) : V13 m ρ c main_v47 = W12 m ρ c main_v41 := by unfold V13 W13 hostOps6; after_results; rfl

theorem idx6 : ∀ t : Fin cfg6.N, At2 (win6_0.index t) 0 0 ∧ At2 (win6_1.index t) 0 t.val ∧ At3 (win6_2.index t) 0 17 t.val := by decide +kernel

set_option maxHeartbeats 2000000 in
theorem call6 (c : Dev nD) (hx : Holds (V c main_v44) (left m c 17)) (hy : Holds (V c main_v46) (right m c 17)) : Fills m c 256 17 ((dat6 V c).arrAt 2 cfg6.N) (V c main_v47) := by
  refine fun i => (dat6 V c).arrAt_apply_of_coversWhere 2 (G m c) (P := fun i => (i 1).val / 256 = 17) (fun β => β (1 : Fin 3) = 17) (by decide +kernel) (fun t hf y => ?_) (fun j => Iff.rfl) i
  obtain ⟨⟨p0, p1⟩, ⟨q0, q1⟩, o⟩ := idx6 t
  have ht : t.val < 4 := t.isLt
  obtain ⟨f, d, n, rfl⟩ := ex3 4 256 256 y
  have bx := whole hx (g := ((cfg6.win 0).blk t).view.emb) fun s d => by blk_ext [p0, p1]
  have by' := cols hy t (g := ((cfg6.win 1).blk t).view.emb) fun s n => by blk_ext [q0, q1]
  have e := G_fan m c (((cfg6.win 2).blk t).view.emb (ix3 f d n)) 17 t.val o (f := f.val) (n := n.val) (by decide) d.isLt rfl rfl rfl
  blk_simp
  rw [after6_2]
  refine Eq.trans ?_ e.symm
  unfold outsAt6 out6_A_2
  frame_out
  canon_tiles x h
  · exact store _ _ t.val 3 _ bx by' x h0 h1 h2
  · exact store _ _ t.val 2 _ bx by' x h0 h1 h2
  · exact store _ _ t.val 1 _ bx by' x h0 h1 h2
  · exact store _ _ t.val 0 _ bx by' x (h0.trans (Nat.zero_add _).symm) h1 h2

theorem upto6 (c : Dev nD) : Done m c 6 (W14 m ρ c main_v47) :=
  step_fan m c 5 17 (by decide) (W14_arr m ρ c 2) (call6 m (V13 m ρ) c (x6 m ρ c).1 (x6 m ρ c).2) (b6 m ρ c) (upto5 m ρ c) (by decide)

/-! ### Call 7: the query projection of the first attention layer -/

theorem x7 (c : Dev nD) : Holds (V15 m ρ c main_v50) (at3 (m ((c : Thread nD τ).loc main_arg6)) 0) ∧ Holds (V15 m ρ c main_v52) (at3 (m ((c : Thread nD τ).loc main_arg8)) 0) := by
  have e0 : V15 m ρ c main_v50 = thin2 (W14 m ρ c main_arg6) 0 slices_S2x4096x1024_S1x4096x1024_0_0_0 := by unfold V15 W15 hostOps7; after_results; rfl
  have e1 : V15 m ρ c main_v52 = wide2 (W14 m ρ c main_arg8) 0 slices_S2x4096x1024_S1x4096x1024_0_0_0 := by unfold V15 W15 hostOps7; after_results; rfl
  rw [e0, e1, W14_args m ρ c main_arg6 (by decide), W14_args m ρ c main_arg8 (by decide)]
  exact ⟨thin2_at _ 0 _, wide2_at _ 0 _⟩

theorem b7 (c : Dev nD) : V15 m ρ c main_v53 = W14 m ρ c main_v47 := by unfold V15 W15 hostOps7; after_results; rfl

theorem idx7 : ∀ t : Fin cfg7.N, At2 (win7_0.index t) 0 0 ∧ At2 (win7_1.index t) 0 t.val ∧ At3 (win7_2.index t) 0 13 t.val := by decide +kernel

set_option maxHeartbeats 2000000 in
theorem call7 (c : Dev nD) (hx : Holds (V c main_v50) (left m c 13)) (hy : Holds (V c main_v52) (right m c 13)) : Fills m c 256 13 ((dat7 V c).arrAt 2 cfg7.N) (V c main_v53) := by
  refine fun i => (dat7 V c).arrAt_apply_of_coversWhere 2 (G m c) (P := fun i => (i 1).val / 256 = 13) (fun β => β (1 : Fin 3) = 13) (by decide +kernel) (fun t hf y => ?_) (fun j => Iff.rfl) i
  obtain ⟨⟨p0, p1⟩, ⟨q0, q1⟩, o⟩ := idx7 t
  have ht : t.val < 4 := t.isLt
  obtain ⟨f, d, n, rfl⟩ := ex3 4 256 256 y
  have bx := whole hx (g := ((cfg7.win 0).blk t).view.emb) fun s d => by blk_ext [p0, p1]
  have by' := cols hy t (g := ((cfg7.win 1).blk t).view.emb) fun s n => by blk_ext [q0, q1]
  have e := G_fan m c (((cfg7.win 2).blk t).view.emb (ix3 f d n)) 13 t.val o (f := f.val) (n := n.val) (by decide) d.isLt rfl rfl rfl
  blk_simp
  rw [after7_2]
  refine Eq.trans ?_ e.symm
  unfold outsAt7 out7_A_2
  frame_out
  canon_tiles x h
  · exact store _ _ t.val 3 _ bx by' x h0 h1 h2
  · exact store _ _ t.val 2 _ bx by' x h0 h1 h2
  · exact store _ _ t.val 1 _ bx by' x h0 h1 h2
  · exact store _ _ t.val 0 _ bx by' x (h0.trans (Nat.zero_add _).symm) h1 h2

theorem upto7 (c : Dev nD) : Done m c 7 (W16 m ρ c main_v53) :=
  step_fan m c 6 13 (by decide) (W16_arr m ρ c 2) (call7 m (V15 m ρ) c (x7 m ρ c).1 (x7 m ρ c).2) (b7 m ρ c) (upto6 m ρ c) (by decide)

end Cert.Kernel5Ideal.Hand
-- ==== Proof.Value5.Calls2.lean ====
/-
  The second eight calls of the weight gradients, the same way.
-/
module

public import proofs.«01_k».proof.Proof.Value5.Calls

@[expose] public section

set_option maxRecDepth 16384

noncomputable section

namespace Cert.Kernel5Ideal.Hand

open Cert.Kernel5Ideal Cert.Kernel5Ideal.Gen Cert.Entries
open Idealize.ShloMosaic Idealize.ShloMosaic.TcCoe Idealize.ShloMosaic.Tactic
open Idealize.SL.Sem
open Idealize.ShloMosaic.StableHlo
open Idealize.ShloMosaic.Pipeline (Dat)

variable (m : (ℓ : Loc nD τ sig) → Buf (Elt Ideal) ℓ) (ρ : Dev nD → PrngReg) (V : (c : Dev nD) → (b : Ref sig .tc) → Buf (Elt Ideal) ((c : Thread nD τ).loc b))

/-- One of the four stores of the calls of the key and value projections, which load their gradients without a cast of shape. -/
theorem same (v : Vec Ideal S4096x256 .bf16) (y : Vec Ideal S4096x256 .f32) : k8_pay2 y v = k2_pay3 y v := by
  funext z
  obtain ⟨a, d, n, rfl⟩ := ex3 1 256 256 z
  refine Eq.trans ?_ (store_at v y a d n).symm
  unfold k8_pay2 k8_pay1
  pointwise

theorem store8 {X Y : ℕ → ℕ → EReal} (x : Vec Ideal S4096x1024 .bf16) (y : Vec Ideal S4096x256 .f32) (t j : ℕ)
    (inb : ∀ a, (![0, j * 256] : Fin 2 → ℕ) a + S4096x256.size a ≤ S4096x1024.size a)
    (hx : Holds x X) (hy : Cols y t Y) (z : S1x256x256.Idx) {f d n : ℕ}
    (h0 : f = j + (z 0).val) (h1 : d = (z 1).val) (h2 : n = (z 2).val) :
    (k8_pay2 y (View.ld x (Rect.unit (s := S4096x1024) ![0, j * 256] S4096x256.size inb)) : S1x256x256.Idx → EReal) z
    = prod X Y (f * 256 + d) (t * 256 + n) := (congrFun (same _ y) z).trans (store x y t j inb hx hy z h0 h1 h2)

/-! ### Call 8: the key projection -/

theorem x8 (c : Dev nD) : Holds (V17 m ρ c main_v56) (at3 (m ((c : Thread nD τ).loc main_arg6)) 0) ∧ Holds (V17 m ρ c main_arg9) (at2 (m ((c : Thread nD τ).loc main_arg9))) := by
  have e0 : V17 m ρ c main_v56 = thin2 (W16 m ρ c main_arg6) 0 slices_S2x4096x1024_S1x4096x1024_0_0_0 := by unfold V17 W17 hostOps8; after_results; rfl
  have e1 : V17 m ρ c main_arg9 = m ((c : Thread nD τ).loc main_arg9) := W17_args m ρ c main_arg9 (by decide)
  rw [e0, e1, W16_args m ρ c main_arg6 (by decide)]
  exact ⟨thin2_at _ 0 _, at2_fin _⟩

theorem b8 (c : Dev nD) : V17 m ρ c main_v57 = W16 m ρ c main_v53 := by unfold V17 W17 hostOps8; after_results; rfl

theorem idx8 : ∀ t : Fin cfg8.N, At2 (win8_0.index t) 0 0 ∧ At2 (win8_1.index t) 0 t.val ∧ At3 (win8_2.index t) 0 15 t.val := by decide +kernel

set_option maxHeartbeats 2000000 in
theorem call8 (c : Dev nD) (hx : Holds (V c main_v56) (left m c 15)) (hy : Holds (V c main_arg9) (right m c 15)) : Fills m c 256 15 ((dat8 V c).arrAt 2 cfg8.N) (V c main_v57) := by
  refine fun i => (dat8 V c).arrAt_apply_of_coversWhere 2 (G m c) (P := fun i => (i 1).val / 256 = 15) (fun β => β (1 : Fin 3) = 15) (by decide +kernel) (fun t hf y => ?_) (fun j => Iff.rfl) i
  obtain ⟨⟨p0, p1⟩, ⟨q0, q1⟩, o⟩ := idx8 t
  have ht : t.val < 4 := t.isLt
  obtain ⟨f, d, n, rfl⟩ := ex3 4 256 256 y
  have bx := whole hx (g := ((cfg8.win 0).blk t).view.emb) fun s d => by blk_ext [p0, p1]
  have by' := cols hy t (g := ((cfg8.win 1).blk t).view.emb) fun s n => by blk_ext [q0, q1]
  have e := G_fan m c (((cfg8.win 2).blk t).view.emb (ix3 f d n)) 15 t.val o (f := f.val) (n := n.val) (by decide) d.isLt rfl rfl rfl
  blk_simp
  rw [after8_2]
  refine Eq.trans ?_ e.symm
  unfold outsAt8 out8_A_2
  frame_out
  canon_tiles x h
  · exact store8 _ _ t.val 3 _ bx by' x h0 h1 h2
  · exact store8 _ _ t.val 2 _ bx by' x h0 h1 h2
  · exact store8 _ _ t.val 1 _ bx by' x h0 h1 h2
  · exact store8 _ _ t.val 0 _ bx by' x (h0.trans (Nat.zero_add _).symm) h1 h2

theorem upto8 (c : Dev nD) : Done m c 8 (W18 m ρ c main_v57) :=
  step_fan m c 7 15 (by decide) (W18_arr m ρ c 2) (call8 m (V17 m ρ) c (x8 m ρ c).1 (x8 m ρ c).2) (b8 m ρ c) (upto7 m ρ c) (by decide)

/-! ### Call 9: the value projection -/

theorem x9 (c : Dev nD) : Holds (V19 m ρ c main_v60) (at3 (m ((c : Thread nD τ).loc main_arg6)) 0) ∧ Holds (V19 m ρ c main_arg10) (at2 (m ((c : Thread nD τ).loc main_arg10))) := by
  have e0 : V19 m ρ c main_v60 = thin2 (W18 m ρ c main_arg6) 0 slices_S2x4096x1024_S1x4096x1024_0_0_0 := by unfold V19 W19 hostOps9; after_results; rfl
  have e1 : V19 m ρ c main_arg10 = m ((c : Thread nD τ).loc main_arg10) := W19_args m ρ c main_arg10 (by decide)
  rw [e0, e1, W18_args m ρ c main_arg6 (by decide)]
  exact ⟨thin2_at _ 0 _, at2_fin _⟩

theorem b9 (c : Dev nD) : V19 m ρ c main_v61 = W18 m ρ c main_v57 := by unfold V19 W19 hostOps9; after_results; rfl

theorem idx9 : ∀ t : Fin cfg9.N, At2 (win9_0.index t) 0 0 ∧ At2 (win9_1.index t) 0 t.val ∧ At3 (win9_2.index t) 0 16 t.val := by decide +kernel

set_option maxHeartbeats 2000000 in
theorem call9 (c : Dev nD) (hx : Holds (V c main_v60) (left m c 16)) (hy : Holds (V c main_arg10) (right m c 16)) : Fills m c 256 16 ((dat9 V c).arrAt 2 cfg9.N) (V c main_v61) := by
  refine fun i => (dat9 V c).arrAt_apply_of_coversWhere 2 (G m c) (P := fun i => (i 1).val / 256 = 16) (fun β => β (1 : Fin 3) = 16) (by decide +kernel) (fun t hf y => ?_) (fun j => Iff.rfl) i
  obtain ⟨⟨p0, p1⟩, ⟨q0, q1⟩, o⟩ := idx9 t
  have ht : t.val < 4 := t.isLt
  obtain ⟨f, d, n, rfl⟩ := ex3 4 256 256 y
  have bx := whole hx (g := ((cfg9.win 0).blk t).view.emb) fun s d => by blk_ext [p0, p1]
  have by' := cols hy t (g := ((cfg9.win 1).blk t).view.emb) fun s n => by blk_ext [q0, q1]
  have e := G_fan m c (((cfg9.win 2).blk t).view.emb (ix3 f d n)) 16 t.val o (f := f.val) (n := n.val) (by decide) d.isLt rfl rfl rfl
  blk_simp
  rw [after9_2]
  refine Eq.trans ?_ e.symm
  unfold outsAt9 out9_A_2
  frame_out
  canon_tiles x h
  · exact store8 _ _ t.val 3 _ bx by' x h0 h1 h2
  · exact store8 _ _ t.val 2 _ bx by' x h0 h1 h2
  · exact store8 _ _ t.val 1 _ bx by' x h0 h1 h2
  · exact store8 _ _ t.val 0 _ bx by' x (h0.trans (Nat.zero_add _).symm) h1 h2

theorem upto9 (c : Dev nD) : Done m c 9 (W20 m ρ c main_v61) :=
  step_fan m c 8 16 (by decide) (W20_arr m ρ c 2) (call9 m (V19 m ρ) c (x9 m ρ c).1 (x9 m ρ c).2) (b9 m ρ c) (upto8 m ρ c) (by decide)

/-! ### Call 10: the embedding gate of layer 1 -/

theorem x10 (c : Dev nD) : Holds (V21 m ρ c main_v64) (at3 (m ((c : Thread nD τ).loc main_arg0)) 1) ∧ Holds (V21 m ρ c main_v67) (at3 (m ((c : Thread nD τ).loc main_arg1)) 1) := by
  have e0 : V21 m ρ c main_v64 = thin4 (W20 m ρ c main_arg0) 1 slices_S4x4096x1024_S1x4096x1024_1_0_0 := by unfold V21 W21 hostOps10; after_results; rfl
  have e1 : V21 m ρ c main_v67 = thin4 (W20 m ρ c main_arg1) 1 slices_S4x4096x1024_S1x4096x1024_1_0_0 := by unfold V21 W21 hostOps10; after_results; rfl
  rw [e0, e1, W20_args m ρ c main_arg0 (by decide), W20_args m ρ c main_arg1 (by decide)]
  exact ⟨thin4_at _ 1 _, thin4_at _ 1 _⟩

theorem b10 (c : Dev nD) : V21 m ρ c main_v68 = W20 m ρ c main_v61 := by unfold V21 W21 hostOps10; after_results; rfl

theorem idx10 : ∀ t : Fin cfg10.N, At2 (win10_0.index t) 0 0 ∧ At2 (win10_1.index t) 0 t.val ∧ At3 (win10_2.index t) 0 20 t.val := by decide +kernel

set_option maxHeartbeats 2000000 in
theorem call10 (c : Dev nD) (hx : Holds (V c main_v64) (left m c 20)) (hy : Holds (V c main_v67) (right m c 20)) : Fills m c 256 20 ((dat10 V c).arrAt 2 cfg10.N) (V c main_v68) := by
  refine fun i => (dat10 V c).arrAt_apply_of_coversWhere 2 (G m c) (P := fun i => (i 1).val / 256 = 20) (fun β => β (1 : Fin 3) = 20) (by decide +kernel) (fun t hf y => ?_) (fun j => Iff.rfl) i
  obtain ⟨⟨p0, p1⟩, ⟨q0, q1⟩, o⟩ := idx10 t
  have ht : t.val < 4 := t.isLt
  obtain ⟨f, d, n, rfl⟩ := ex3 4 256 256 y
  have bx := whole hx (g := ((cfg10.win 0).blk t).view.emb) fun s d => by blk_ext [p0, p1]
  have by' := cols hy t (g := ((cfg10.win 1).blk t).view.emb) fun s n => by blk_ext [q0, q1]
  have e := G_fan m c (((cfg10.win 2).blk t).view.emb (ix3 f d n)) 20 t.val o (f := f.val) (n := n.val) (by decide) d.isLt rfl rfl rfl
  blk_simp
  rw [after10_2]
  refine Eq.trans ?_ e.symm
  unfold outsAt10 out10_A_2
  frame_out
  canon_tiles x h
  · exact store' _ _ t.val 3 _ bx by' x h0 h1 h2
  · exact store' _ _ t.val 2 _ bx by' x h0 h1 h2
  · exact store' _ _ t.val 1 _ bx by' x h0 h1 h2
  · exact store' _ _ t.val 0 _ bx by' x (h0.trans (Nat.zero_add _).symm) h1 h2

theorem upto10 (c : Dev nD) : Done m c 10 (W22 m ρ c main_v68) :=
  step_fan m c 9 20 (by decide) (W22_arr m ρ c 2) (call10 m (V21 m ρ) c (x10 m ρ c).1 (x10 m ρ c).2) (b10 m ρ c) (upto9 m ρ c) (by decide)

/-! ### Call 11: the last weight of the feed-forward block of layer 1 -/

theorem x11 (c : Dev nD) : Holds4 (V23 m ρ c main_v73) (at3 (m ((c : Thread nD τ).loc main_arg2)) 1) ∧ Holds (V23 m ρ c main_v75) (at3 (m ((c : Thread nD τ).loc main_arg3)) 1) := by
  have e0 : V23 m ρ c main_v73 = parts (W22 m ρ c main_arg2) 1 slices_S4x4096x2816_S1x4096x2816_1_0_0 := by unfold V23 W23 hostOps11; after_results; rfl
  have e1 : V23 m ρ c main_v75 = wide4 (W22 m ρ c main_arg3) 1 slices_S4x4096x1024_S1x4096x1024_1_0_0 := by unfold V23 W23 hostOps11; after_results; rfl
  rw [e0, e1, W22_args m ρ c main_arg2 (by decide), W22_args m ρ c main_arg3 (by decide)]
  exact ⟨parts_at _ 1 _, wide4_at _ 1 _⟩

theorem b11 (c : Dev nD) : V23 m ρ c main_v76 = W22 m ρ c main_v68 := by unfold V23 W23 hostOps11; after_results; rfl

theorem idx11 : ∀ t : Fin cfg11.N, At3 (win11_0.index t) (t.val / 2) 0 0 ∧ At2 (win11_1.index t) 0 (t.val % 2) ∧ At3 (win11_2.index t) (t.val / 2) 1 (t.val % 2) := by decide +kernel

set_option maxHeartbeats 2000000 in
theorem call11 (c : Dev nD) (hx : Holds4 (V c main_v73) (at3 (m ((c : Thread nD τ).loc main_arg2)) 1)) (hy : Holds (V c main_v75) (at3 (m ((c : Thread nD τ).loc main_arg3)) 1)) : Fills m c 704 1 ((dat11 V c).arrAt 2 cfg11.N) (V c main_v76) := by
  refine fun i => (dat11 V c).arrAt_apply_of_coversWhere 2 (G m c) (P := fun i => (i 1).val / 704 = 1) (fun β => β (1 : Fin 3) = 1) (by decide +kernel) (fun t hf y => ?_) (fun j => Iff.rfl) i
  obtain ⟨⟨p0, p1, p2⟩, ⟨q0, q1⟩, o⟩ := idx11 t
  have ht : t.val < 8 := t.isLt
  obtain ⟨a, d, n, hz⟩ : ∃ (a : Fin 1) (d : Fin 704) (n : Fin 512), (cfg11.win 2).xinj (cfg11.grid.coords t) y = (ix3 a d n : S1x704x512.Idx) :=
    ⟨_, _, _, eq_ix3 (n0 := 1) (n1 := 704) (n2 := 512) ((cfg11.win 2).xinj (cfg11.grid.coords t) y)⟩
  obtain rfl : a = 0 := Subsingleton.elim _ _
  have l0 : (y 0).val = 0 := congrArg (fun z : S1x704x512.Idx => (z 0).val) hz
  have l1 : (y 1).val = d.val := congrArg (fun z : S1x704x512.Idx => (z 1).val) hz
  have l2 : (y 2).val = n.val := congrArg (fun z : S1x704x512.Idx => (z 2).val) hz
  blk_simp
  refine (congrArg ((dat11 V c).after 2 t) hz).trans ?_
  rw [after11_2]
  unfold outsAt11 out11_A_2
  frame_out
  refine (point (iblk11 V c 0 t) (iblk11 V c 1 t) (t.val % 2) (t.val / 2) (hid hx _ (by omega) (g := ((cfg11.win 0).blk t).view.emb) fun s d => by blk_ext [p0, p1, p2])
    (cols' hy _ (by omega) (g := ((cfg11.win 1).blk t).view.emb) fun s n => by blk_ext [q0, q1]) d n).trans ?_
  exact (G_down m c (((cfg11.win 2).blk t).view.emb y) 1 t.val o (by decide) l0 l1 l2 d.isLt rfl rfl rfl).symm

theorem upto11 (c : Dev nD) : Done m c 11 (W24 m ρ c main_v76) :=
  step_down m c 10 1 (by decide) (W24_arr m ρ c 2) (call11 m (V23 m ρ) c (x11 m ρ c).1 (x11 m ρ c).2) (b11 m ρ c) (upto10 m ρ c) (by decide)

/-! ### Call 12: the second pointwise weight of the second convolution -/

theorem x12 (c : Dev nD) : Holds (V25 m ρ c main_v79) (at3 (m ((c : Thread nD τ).loc main_arg4)) 1) ∧ Holds (V25 m ρ c main_v81) (at3 (m ((c : Thread nD τ).loc main_arg7)) 1) := by
  have e0 : V25 m ρ c main_v79 = thin2 (W24 m ρ c main_arg4) 1 slices_S2x4096x1024_S1x4096x1024_1_0_0 := by unfold V25 W25 hostOps12; after_results; rfl
  have e1 : V25 m ρ c main_v81 = wide4 (W24 m ρ c main_arg7) 1 slices_S4x4096x1024_S1x4096x1024_1_0_0 := by unfold V25 W25 hostOps12; after_results; rfl
  rw [e0, e1, W24_args m ρ c main_arg4 (by decide), W24_args m ρ c main_arg7 (by decide)]
  exact ⟨thin2_at _ 1 _, wide4_at _ 1 _⟩

theorem b12 (c : Dev nD) : V25 m ρ c main_v82 = W24 m ρ c main_v76 := by unfold V25 W25 hostOps12; after_results; rfl

theorem idx12 : ∀ t : Fin cfg12.N, At2 (win12_0.index t) 0 0 ∧ At2 (win12_1.index t) 0 t.val ∧ At3 (win12_2.index t) 0 12 t.val := by decide +kernel

set_option maxHeartbeats 2000000 in
theorem call12 (c : Dev nD) (hx : Holds (V c main_v79) (left m c 12)) (hy : Holds (V c main_v81) (right m c 12)) : Fills m c 256 12 ((dat12 V c).arrAt 2 cfg12.N) (V c main_v82) := by
  refine fun i => (dat12 V c).arrAt_apply_of_coversWhere 2 (G m c) (P := fun i => (i 1).val / 256 = 12) (fun β => β (1 : Fin 3) = 12) (by decide +kernel) (fun t hf y => ?_) (fun j => Iff.rfl) i
  obtain ⟨⟨p0, p1⟩, ⟨q0, q1⟩, o⟩ := idx12 t
  have ht : t.val < 4 := t.isLt
  obtain ⟨f, d, n, rfl⟩ := ex3 4 256 256 y
  have bx := whole hx (g := ((cfg12.win 0).blk t).view.emb) fun s d => by blk_ext [p0, p1]
  have by' := cols hy t (g := ((cfg12.win 1).blk t).view.emb) fun s n => by blk_ext [q0, q1]
  have e := G_fan m c (((cfg12.win 2).blk t).view.emb (ix3 f d n)) 12 t.val o (f := f.val) (n := n.val) (by decide) d.isLt rfl rfl rfl
  blk_simp
  rw [after12_2]
  refine Eq.trans ?_ e.symm
  unfold outsAt12 out12_A_2
  frame_out
  canon_tiles x h
  · exact store _ _ t.val 3 _ bx by' x h0 h1 h2
  · exact store _ _ t.val 2 _ bx by' x h0 h1 h2
  · exact store _ _ t.val 1 _ bx by' x h0 h1 h2
  · exact store _ _ t.val 0 _ bx by' x (h0.trans (Nat.zero_add _).symm) h1 h2

theorem upto12 (c : Dev nD) : Done m c 12 (W26 m ρ c main_v82) :=
  step_fan m c 11 12 (by decide) (W26_arr m ρ c 2) (call12 m (V25 m ρ) c (x12 m ρ c).1 (x12 m ρ c).2) (b12 m ρ c) (upto11 m ρ c) (by decide)

/-! ### Call 13: the embedding gate of layer 0 -/

theorem x13 (c : Dev nD) : Holds (V27 m ρ c main_v85) (at3 (m ((c : Thread nD τ).loc main_arg0)) 0) ∧ Holds (V27 m ρ c main_v88) (at3 (m ((c : Thread nD τ).loc main_arg1)) 0) := by
  have e0 : V27 m ρ c main_v85 = thin4 (W26 m ρ c main_arg0) 0 slices_S4x4096x1024_S1x4096x1024_0_0_0 := by unfold V27 W27 hostOps13; after_results; rfl
  have e1 : V27 m ρ c main_v88 = thin4 (W26 m ρ c main_arg1) 0 slices_S4x4096x1024_S1x4096x1024_0_0_0 := by unfold V27 W27 hostOps13; after_results; rfl
  rw [e0, e1, W26_args m ρ c main_arg0 (by decide), W26_args m ρ c main_arg1 (by decide)]
  exact ⟨thin4_at _ 0 _, thin4_at _ 0 _⟩

theorem b13 (c : Dev nD) : V27 m ρ c main_v89 = W26 m ρ c main_v82 := by unfold V27 W27 hostOps13; after_results; rfl

theorem idx13 : ∀ t : Fin cfg13.N, At2 (win13_0.index t) 0 0 ∧ At2 (win13_1.index t) 0 t.val ∧ At3 (win13_2.index t) 0 19 t.val := by decide +kernel

set_option maxHeartbeats 2000000 in
theorem call13 (c : Dev nD) (hx : Holds (V c main_v85) (left m c 19)) (hy : Holds (V c main_v88) (right m c 19)) : Fills m c 256 19 ((dat13 V c).arrAt 2 cfg13.N) (V c main_v89) := by
  refine fun i => (dat13 V c).arrAt_apply_of_coversWhere 2 (G m c) (P := fun i => (i 1).val / 256 = 19) (fun β => β (1 : Fin 3) = 19) (by decide +kernel) (fun t hf y => ?_) (fun j => Iff.rfl) i
  obtain ⟨⟨p0, p1⟩, ⟨q0, q1⟩, o⟩ := idx13 t
  have ht : t.val < 4 := t.isLt
  obtain ⟨f, d, n, rfl⟩ := ex3 4 256 256 y
  have bx := whole hx (g := ((cfg13.win 0).blk t).view.emb) fun s d => by blk_ext [p0, p1]
  have by' := cols hy t (g := ((cfg13.win 1).blk t).view.emb) fun s n => by blk_ext [q0, q1]
  have e := G_fan m c (((cfg13.win 2).blk t).view.emb (ix3 f d n)) 19 t.val o (f := f.val) (n := n.val) (by decide) d.isLt rfl rfl rfl
  blk_simp
  rw [after13_2]
  refine Eq.trans ?_ e.symm
  unfold outsAt13 out13_A_2
  frame_out
  canon_tiles x h
  · exact store' _ _ t.val 3 _ bx by' x h0 h1 h2
  · exact store' _ _ t.val 2 _ bx by' x h0 h1 h2
  · exact store' _ _ t.val 1 _ bx by' x h0 h1 h2
  · exact store' _ _ t.val 0 _ bx by' x (h0.trans (Nat.zero_add _).symm) h1 h2

theorem upto13 (c : Dev nD) : Done m c 13 (W28 m ρ c main_v89) :=
  step_fan m c 12 19 (by decide) (W28_arr m ρ c 2) (call13 m (V27 m ρ) c (x13 m ρ c).1 (x13 m ρ c).2) (b13 m ρ c) (upto12 m ρ c) (by decide)

/-! ### Call 14: the last weight of the feed-forward block of layer 0 -/

theorem x14 (c : Dev nD) : Holds4 (V29 m ρ c main_v94) (at3 (m ((c : Thread nD τ).loc main_arg2)) 0) ∧ Holds (V29 m ρ c main_v96) (at3 (m ((c : Thread nD τ).loc main_arg3)) 0) := by
  have e0 : V29 m ρ c main_v94 = parts (W28 m ρ c main_arg2) 0 slices_S4x4096x2816_S1x4096x2816_0_0_0 := by unfold V29 W29 hostOps14; after_results; rfl
  have e1 : V29 m ρ c main_v96 = wide4 (W28 m ρ c main_arg3) 0 slices_S4x4096x1024_S1x4096x1024_0_0_0 := by unfold V29 W29 hostOps14; after_results; rfl
  rw [e0, e1, W28_args m ρ c main_arg2 (by decide), W28_args m ρ c main_arg3 (by decide)]
  exact ⟨parts_at _ 0 _, wide4_at _ 0 _⟩

theorem b14 (c : Dev nD) : V29 m ρ c main_v97 = W28 m ρ c main_v89 := by unfold V29 W29 hostOps14; after_results; rfl

theorem idx14 : ∀ t : Fin cfg14.N, At3 (win14_0.index t) (t.val / 2) 0 0 ∧ At2 (win14_1.index t) 0 (t.val % 2) ∧ At3 (win14_2.index t) (t.val / 2) 0 (t.val % 2) := by decide +kernel

set_option maxHeartbeats 2000000 in
theorem call14 (c : Dev nD) (hx : Holds4 (V c main_v94) (at3 (m ((c : Thread nD τ).loc main_arg2)) 0)) (hy : Holds (V c main_v96) (at3 (m ((c : Thread nD τ).loc main_arg3)) 0)) : Fills m c 704 0 ((dat14 V c).arrAt 2 cfg14.N) (V c main_v97) := by
  refine fun i => (dat14 V c).arrAt_apply_of_coversWhere 2 (G m c) (P := fun i => (i 1).val / 704 = 0) (fun β => β (1 : Fin 3) = 0) (by decide +kernel) (fun t hf y => ?_) (fun j => Iff.rfl) i
  obtain ⟨⟨p0, p1, p2⟩, ⟨q0, q1⟩, o⟩ := idx14 t
  have ht : t.val < 8 := t.isLt
  obtain ⟨a, d, n, hz⟩ : ∃ (a : Fin 1) (d : Fin 704) (n : Fin 512), (cfg14.win 2).xinj (cfg14.grid.coords t) y = (ix3 a d n : S1x704x512.Idx) :=
    ⟨_, _, _, eq_ix3 (n0 := 1) (n1 := 704) (n2 := 512) ((cfg14.win 2).xinj (cfg14.grid.coords t) y)⟩
  obtain rfl : a = 0 := Subsingleton.elim _ _
  have l0 : (y 0).val = 0 := congrArg (fun z : S1x704x512.Idx => (z 0).val) hz
  have l1 : (y 1).val = d.val := congrArg (fun z : S1x704x512.Idx => (z 1).val) hz
  have l2 : (y 2).val = n.val := congrArg (fun z : S1x704x512.Idx => (z 2).val) hz
  blk_simp
  refine (congrArg ((dat14 V c).after 2 t) hz).trans ?_
  rw [after14_2]
  unfold outsAt14 out14_A_2
  frame_out
  refine (point (iblk14 V c 0 t) (iblk14 V c 1 t) (t.val % 2) (t.val / 2) (hid hx _ (by omega) (g := ((cfg14.win 0).blk t).view.emb) fun s d => by blk_ext [p0, p1, p2])
    (cols' hy _ (by omega) (g := ((cfg14.win 1).blk t).view.emb) fun s n => by blk_ext [q0, q1]) d n).trans ?_
  exact (G_down m c (((cfg14.win 2).blk t).view.emb y) 0 t.val o (by decide) l0 l1 l2 d.isLt rfl rfl rfl).symm

theorem upto14 (c : Dev nD) : Done m c 14 (W30 m ρ c main_v97) :=
  step_down m c 13 0 (by decide) (W30_arr m ρ c 2) (call14 m (V29 m ρ) c (x14 m ρ c).1 (x14 m ρ c).2) (b14 m ρ c) (upto13 m ρ c) (by decide)

/-! ### Call 15: the second pointwise weight of the first convolution -/

theorem x15 (c : Dev nD) : Holds (V31 m ρ c main_v100) (at3 (m ((c : Thread nD τ).loc main_arg4)) 0) ∧ Holds (V31 m ρ c main_v102) (at3 (m ((c : Thread nD τ).loc main_arg7)) 0) := by
  have e0 : V31 m ρ c main_v100 = thin2 (W30 m ρ c main_arg4) 0 slices_S2x4096x1024_S1x4096x1024_0_0_0 := by unfold V31 W31 hostOps15; after_results; rfl
  have e1 : V31 m ρ c main_v102 = wide4 (W30 m ρ c main_arg7) 0 slices_S4x4096x1024_S1x4096x1024_0_0_0 := by unfold V31 W31 hostOps15; after_results; rfl
  rw [e0, e1, W30_args m ρ c main_arg4 (by decide), W30_args m ρ c main_arg7 (by decide)]
  exact ⟨thin2_at _ 0 _, wide4_at _ 0 _⟩

theorem b15 (c : Dev nD) : V31 m ρ c main_v103 = W30 m ρ c main_v97 := by unfold V31 W31 hostOps15; after_results; rfl

theorem idx15 : ∀ t : Fin cfg15.N, At2 (win15_0.index t) 0 0 ∧ At2 (win15_1.index t) 0 t.val ∧ At3 (win15_2.index t) 0 11 t.val := by decide +kernel

set_option maxHeartbeats 2000000 in
theorem call15 (c : Dev nD) (hx : Holds (V c main_v100) (left m c 11)) (hy : Holds (V c main_v102) (right m c 11)) : Fills m c 256 11 ((dat15 V c).arrAt 2 cfg15.N) (V c main_v103) := by
  refine fun i => (dat15 V c).arrAt_apply_of_coversWhere 2 (G m c) (P := fun i => (i 1).val / 256 = 11) (fun β => β (1 : Fin 3) = 11) (by decide +kernel) (fun t hf y => ?_) (fun j => Iff.rfl) i
  obtain ⟨⟨p0, p1⟩, ⟨q0, q1⟩, o⟩ := idx15 t
  have ht : t.val < 4 := t.isLt
  obtain ⟨f, d, n, rfl⟩ := ex3 4 256 256 y
  have bx := whole hx (g := ((cfg15.win 0).blk t).view.emb) fun s d => by blk_ext [p0, p1]
  have by' := cols hy t (g := ((cfg15.win 1).blk t).view.emb) fun s n => by blk_ext [q0, q1]
  have e := G_fan m c (((cfg15.win 2).blk t).view.emb (ix3 f d n)) 11 t.val o (f := f.val) (n := n.val) (by decide) d.isLt rfl rfl rfl
  blk_simp
  rw [after15_2]
  refine Eq.trans ?_ e.symm
  unfold outsAt15 out15_A_2
  frame_out
  canon_tiles x h
  · exact store _ _ t.val 3 _ bx by' x h0 h1 h2
  · exact store _ _ t.val 2 _ bx by' x h0 h1 h2
  · exact store _ _ t.val 1 _ bx by' x h0 h1 h2
  · exact store _ _ t.val 0 _ bx by' x (h0.trans (Nat.zero_add _).symm) h1 h2

theorem upto15 (c : Dev nD) : Done m c 15 (W32 m ρ c main_v103) :=
  step_fan m c 14 11 (by decide) (W32_arr m ρ c 2) (call15 m (V31 m ρ) c (x15 m ρ c).1 (x15 m ρ c).2) (b15 m ρ c) (upto14 m ρ c) (by decide)

end Cert.Kernel5Ideal.Hand
-- ==== Proof.Value5.Algebraic.lean ====
/-
  The weight gradients of 1024 columns: the kernel's seven results and the reference's seven results are the same extended reals,
  whatever the arguments hold.
-/
module

public import proofs.«01_k».proof.Defs
public import proofs.«01_k».proof.Proof.Value5.Calls2
public import proofs.«01_k».proof.Proof.Gen.Reference5Ideal
public import proofs.«01_k».proof.Proof.Gen.Reference5Ideal.Run
public import proofs.«01_k».proof.Proof.Gen.Reference5Ideal.Read

@[expose] public section

set_option maxRecDepth 16384

noncomputable section

namespace Cert.Kernel5Ideal.Hand

open Cert.Kernel5Ideal Cert.Kernel5Ideal.Gen Cert.Entries
open Idealize.ShloMosaic Idealize.ShloMosaic.TcCoe Idealize.ShloMosaic.Tactic
open Idealize.SL.Sem
open Idealize.ShloMosaic.StableHlo

/-- The gradients of one weight in `a` layers. -/
def grad (a k : ℕ) (x y : ℕ → ℕ → ℕ → EReal) : (⟨3, ![a, k, 1024]⟩ : Shape).Idx → EReal :=
  fun i => prod (x (i 0).val) (y (i 0).val) (i 1).val (i 2).val

/-- The gradient of a weight that only one layer has. -/
def grad1 (x y : ℕ → ℕ → EReal) : S1024x1024.Idx → EReal := fun i => prod x y (i 0).val (i 1).val

/-- The rows of two layers, out of their four parts. -/
def two (a : FVec Ideal S4x512x1024 .f32) : FVec Ideal S2x1024x1024 .f32 :=
  shapeCast S2x1024x1024 (transpose S2x4x256x1024 [1, 0, 2, 3] (shapeCast S4x2x256x1024 a shapeCasts_S4x512x1024_S4x2x256x1024) transposes_S4x2x256x1024_S2x4x256x1024_1_0_2_3) shapeCasts_S2x4x256x1024_S2x1024x1024

/-- The rows of one layer, out of their four parts. -/
def one (a : FVec Ideal S4x256x1024 .f32) : FVec Ideal S1024x1024 .f32 :=
  shapeCast S1024x1024 (shapeCast S1x1024x1024 (transpose S1x4x256x1024 [1, 0, 2, 3] (shapeCast S4x1x256x1024 a shapeCasts_S4x256x1024_S4x1x256x1024) transposes_S4x1x256x1024_S1x4x256x1024_1_0_2_3) shapeCasts_S1x4x256x1024_S1x1024x1024) shapeCasts_S1x1024x1024_S1024x1024

/-- The reference's gradient of the last weight of the feed-forward block. -/
theorem ref_down (x : FVec Ideal Cert.Reference5Ideal.S4x4096x2816 .f32) (y : FVec Ideal Cert.Reference5Ideal.S4x4096x1024 .f32) :
    (transpose Cert.Reference5Ideal.S4x2816x1024 [0, 2, 1] (Host.dotGeneral (F := Ideal) (sl := Cert.Reference5Ideal.S4x4096x1024) (sr := Cert.Reference5Ideal.S4x4096x2816)
      (so := Cert.Reference5Ideal.S4x1024x2816) (φ₁ := .f32) (φ₂ := .f32) Cert.Reference5Ideal.dot_S4x4096x1024_S4x4096x2816_S4x1024x2816_1_1_2_2_0_0 none y x)
      Cert.Reference5Ideal.Facts₀.transposes_S4x1024x2816_S4x2816x1024_0_2_1 : S4x2816x1024.Idx → EReal) = grad 4 2816 (at3 x) (at3 y) := by
  funext i
  obtain ⟨l, d, n, rfl⟩ := ex3 4 2816 1024 i
  pointwise
  show (∑ s : Fin 4096, @HMul.hMul EReal EReal EReal _ (y (ix3 l s n)) (x (ix3 l s d))) = ∑ s : Fin 4096, at3 x l.val s.val d.val * at3 y l.val s.val n.val
  refine Finset.sum_congr rfl fun s _ => ?_
  rw [mul_comm]
  exact congrArg₂ _ (at3_fin x l s d) (at3_fin y l s n)

/-- The reference's gradient of a weight that two layers have. -/
theorem ref_two (x : FVec Ideal Cert.Reference5Ideal.S2x4096x1024 .f32) (y : FVec Ideal Cert.Reference5Ideal.S2x4096x1024 .f32) :
    (transpose Cert.Reference5Ideal.S2x1024x1024 [0, 2, 1] (Host.dotGeneral (F := Ideal) (sl := Cert.Reference5Ideal.S2x4096x1024) (sr := Cert.Reference5Ideal.S2x4096x1024)
      (so := Cert.Reference5Ideal.S2x1024x1024) (φ₁ := .f32) (φ₂ := .f32) Cert.Reference5Ideal.dot_S2x4096x1024_S2x4096x1024_S2x1024x1024_1_1_2_2_0_0 none y x)
      Cert.Reference5Ideal.Facts₀.transposes_S2x1024x1024_S2x1024x1024_0_2_1 : S2x1024x1024.Idx → EReal) = grad 2 1024 (at3 x) (at3 y) := by
  funext i
  obtain ⟨l, d, n, rfl⟩ := ex3 2 1024 1024 i
  pointwise
  show (∑ s : Fin 4096, @HMul.hMul EReal EReal EReal _ (y (ix3 l s n)) (x (ix3 l s d))) = ∑ s : Fin 4096, at3 x l.val s.val d.val * at3 y l.val s.val n.val
  refine Finset.sum_congr rfl fun s _ => ?_
  rw [mul_comm]
  exact congrArg₂ _ (at3_fin x l s d) (at3_fin y l s n)

/-- Two of four layers, by their entries. -/
theorem grad_cut (x : ℕ → ℕ → ℕ → EReal) (y : FVec Ideal Cert.Reference5Ideal.S4x4096x1024 .f32) (o : ℕ) (ho : o + 2 ≤ 4) (h) :
    grad 2 1024 x (at3 (extractStridedSlice Cert.Reference5Ideal.S2x4096x1024 ![o, 0, 0] y h)) = grad 2 1024 x fun l => at3 y (o + l) := by
  funext i
  obtain ⟨l, d, n, rfl⟩ := ex3 2 1024 1024 i
  show prod _ _ _ _ = prod _ _ _ _
  unfold prod
  refine Finset.sum_congr rfl fun s _ => congrArg₂ _ rfl ?_
  refine (at3_fin _ l s n).symm.trans (Eq.trans ?_ (at3_fin y ⟨o + l.val, by omega⟩ s n))
  pointwise

/-- The reference's gradient of the embedding gate. -/
theorem ref_gate (x : FVec Ideal Cert.Reference5Ideal.S4x4096x1024 .f32) (y : FVec Ideal Cert.Reference5Ideal.S4x4096x1024 .f32) :
    (transpose Cert.Reference5Ideal.S4x1024x1024 [0, 2, 1] (Host.dotGeneral (F := Ideal) (sl := Cert.Reference5Ideal.S4x4096x1024) (sr := Cert.Reference5Ideal.S4x4096x1024)
      (so := Cert.Reference5Ideal.S4x1024x1024) (φ₁ := .f32) (φ₂ := .f32) Cert.Reference5Ideal.dot_S4x4096x1024_S4x4096x1024_S4x1024x1024_1_1_2_2_0_0 none y x)
      Cert.Reference5Ideal.Facts₀.transposes_S4x1024x1024_S4x1024x1024_0_2_1 : S4x1024x1024.Idx → EReal) = grad 4 1024 (at3 x) (at3 y) := by
  funext i
  obtain ⟨l, d, n, rfl⟩ := ex3 4 1024 1024 i
  pointwise
  show (∑ s : Fin 4096, @HMul.hMul EReal EReal EReal _ (y (ix3 l s n)) (x (ix3 l s d))) = ∑ s : Fin 4096, at3 x l.val s.val d.val * at3 y l.val s.val n.val
  refine Finset.sum_congr rfl fun s _ => ?_
  rw [mul_comm]
  exact congrArg₂ _ (at3_fin x l s d) (at3_fin y l s n)

/-- The reference's gradient of the key projection and of the value projection. -/
theorem ref_kv (x : FVec Ideal Cert.Reference5Ideal.S2x4096x1024 .f32) (y : FVec Ideal Cert.Reference5Ideal.S4096x1024 .f32) :
    (transpose Cert.Reference5Ideal.S1024x1024 [1, 0] (Host.dotGeneral (F := Ideal) (sl := Cert.Reference5Ideal.S4096x1024) (sr := Cert.Reference5Ideal.S4096x1024)
      (so := Cert.Reference5Ideal.S1024x1024) (φ₁ := .f32) (φ₂ := .f32) Cert.Reference5Ideal.dot_S4096x1024_S4096x1024_S1024x1024_0_0_1_1_n_n none y
        (shapeCast Cert.Reference5Ideal.S4096x1024 (extractStridedSlice Cert.Reference5Ideal.S1x4096x1024 ![0, 0, 0] x Cert.Reference5Ideal.Facts₀.slices_S2x4096x1024_S1x4096x1024_0_0_0) Cert.Reference5Ideal.Facts₀.shapeCasts_S1x4096x1024_S4096x1024))
      Cert.Reference5Ideal.Facts₀.transposes_S1024x1024_S1024x1024_1_0 : S1024x1024.Idx → EReal) = grad1 (at3 x 0) (at2 y) := by
  funext i
  obtain ⟨d, n, rfl⟩ := ex2 1024 1024 i
  pointwise
  show (∑ s : Fin 4096, @HMul.hMul EReal EReal EReal _ (y (ix2 s n)) (x (ix3 0 s d))) = ∑ s : Fin 4096, at3 x 0 s.val d.val * at2 y s.val n.val
  refine Finset.sum_congr rfl fun s _ => ?_
  rw [mul_comm]
  exact congrArg₂ _ (at3_fin x 0 s d) (at2_fin y s n)

variable (m : (ℓ : Loc nD τ sig) → Buf (Elt Ideal) ℓ) (ρ : Dev nD → PrngReg)

/-- The seven gradients. -/
abbrev out0 (c : Dev nD) := grad 4 2816 (at3 (m ((c : Thread nD τ).loc main_arg2))) (at3 (m ((c : Thread nD τ).loc main_arg3)))
abbrev out1 (c : Dev nD) := grad 2 1024 (at3 (m ((c : Thread nD τ).loc main_arg4))) (at3 (m ((c : Thread nD τ).loc main_arg7)))
abbrev out2 (c : Dev nD) := grad 2 1024 (at3 (m ((c : Thread nD τ).loc main_arg6))) (at3 (m ((c : Thread nD τ).loc main_arg8)))
abbrev out3 (c : Dev nD) := grad1 (at3 (m ((c : Thread nD τ).loc main_arg6)) 0) (at2 (m ((c : Thread nD τ).loc main_arg9)))
abbrev out4 (c : Dev nD) := grad1 (at3 (m ((c : Thread nD τ).loc main_arg6)) 0) (at2 (m ((c : Thread nD τ).loc main_arg10)))
abbrev out5 (c : Dev nD) := grad 2 1024 (at3 (m ((c : Thread nD τ).loc main_arg5))) (fun l => at3 (m ((c : Thread nD τ).loc main_arg7)) (2 + l))
abbrev out6 (c : Dev nD) := grad 4 1024 (at3 (m ((c : Thread nD τ).loc main_arg0))) (at3 (m ((c : Thread nD τ).loc main_arg1)))

/-- A row of the first four weights. -/
theorem last_down (c : Dev nD) (z : S4x5888x1024.Idx) {l k n : ℕ} (hl : l < 4) (h0 : (z 0).val = k / 704) (h1 : (z 1).val = l * 704 + k % 704) (h2 : (z 2).val = n) :
    (W32 m ρ c main_v103 : S4x5888x1024.Idx → EReal) z = prod (at3 (m ((c : Thread nD τ).loc main_arg2)) l) (at3 (m ((c : Thread nD τ).loc main_arg3)) l) k n := by
  have hw : who (z 1).val < 4 := by unfold who; split_ifs <;> omega
  refine (upto15 m ρ c z ((by decide : ∀ w < 4, turn w ≤ 15) _ hw)).trans ?_
  unfold G
  rw [h0, h1, h2, if_pos (by omega), show (l * 704 + k % 704) / 704 = l by omega, show k / 704 * 704 + (l * 704 + k % 704) % 704 = k by omega]

/-- A row of the other weights. -/
theorem last_fan (c : Dev nD) (z : S4x5888x1024.Idx) {q k n : ℕ} (hq : 11 ≤ q ∧ q < 23) (h0 : (z 0).val = k / 256) (h1 : (z 1).val = q * 256 + k % 256) (h2 : (z 2).val = n) :
    (W32 m ρ c main_v103 : S4x5888x1024.Idx → EReal) z = prod (left m c q) (right m c q) k n := by
  have hw : 11 ≤ who (z 1).val ∧ who (z 1).val < 23 := by unfold who; split_ifs <;> omega
  refine (upto15 m ρ c z ((by decide : ∀ w < 23, 11 ≤ w → turn w ≤ 15) _ hw.2 hw.1)).trans ?_
  unfold G
  rw [h0, h1, h2, if_neg (by omega), show (q * 256 + k % 256) / 256 = q by omega, show k / 256 * 256 + (q * 256 + k % 256) % 256 = k by omega]

/-- The kernel's gradient of the last weight of the feed-forward block. -/
theorem res_down (c : Dev nD) : (W33 m ρ c main_v108 : S4x2816x1024.Idx → EReal) = out0 m c := by
  have e : W33 m ρ c main_v108 = shapeCast S4x2816x1024 (transpose S4x4x704x1024 [1, 0, 2, 3] (shapeCast S4x4x704x1024 (extractStridedSlice S4x2816x1024 ![0, 0, 0] (extf (F := Ideal) .f32 (W32 m ρ c main_v103) bitsLt_bf16_f32) slices_S4x5888x1024_S4x2816x1024_0_0_0) shapeCasts_S4x2816x1024_S4x4x704x1024) transposes_S4x4x704x1024_S4x4x704x1024_1_0_2_3) shapeCasts_S4x4x704x1024_S4x2816x1024 := by unfold W33 hostOps16; after_results; rfl
  funext i
  obtain ⟨l, d, n, rfl⟩ := ex3 4 2816 1024 i
  have hl := l.isLt
  have hd := d.isLt
  rw [e]
  pointwise
  exact last_down m ρ c _ hl rfl rfl rfl

/-- The rows of a weight that two layers have, out of the array the calls filled. -/
theorem res_two (c : Dev nD) (q o : ℕ) (hq : 11 ≤ q ∧ q + 2 ≤ 23) (ho : o = q * 256) (h) :
    (two (extractStridedSlice S4x512x1024 ![0, o, 0] (extf (F := Ideal) .f32 (W32 m ρ c main_v103) bitsLt_bf16_f32) h) : S2x1024x1024.Idx → EReal)
      = grad 2 1024 (fun l => left m c (q + l)) (fun l => right m c (q + l)) := by
  funext i
  obtain ⟨l, d, n, rfl⟩ := ex3 2 1024 1024 i
  have hl := l.isLt
  have hd := d.isLt
  unfold two
  pointwise
  exact last_fan m ρ c _ (q := q + l.val) (k := d.val) (n := n.val) (by omega) rfl (show o + (l.val * 256 + d.val % 256) = (q + l.val) * 256 + d.val % 256 by omega) rfl

/-- The rows of a weight that one layer has. -/
theorem res_one (c : Dev nD) (q o : ℕ) (hq : 11 ≤ q ∧ q < 23) (ho : o = q * 256) (h) :
    (one (extractStridedSlice S4x256x1024 ![0, o, 0] (extf (F := Ideal) .f32 (W32 m ρ c main_v103) bitsLt_bf16_f32) h) : S1024x1024.Idx → EReal)
      = grad1 (left m c q) (right m c q) := by
  funext i
  obtain ⟨d, n, rfl⟩ := ex2 1024 1024 i
  have hd := d.isLt
  unfold one
  pointwise
  exact last_fan m ρ c _ (q := q) (k := d.val) (n := n.val) hq rfl (show o + d.val % 256 = q * 256 + d.val % 256 by omega) rfl

/-- Where the two layers' activations and gradients are read. -/
theorem grad_two {x x' y y' : ℕ → ℕ → ℕ → EReal} (h0 : x 0 = x' 0 ∧ y 0 = y' 0) (h1 : x 1 = x' 1 ∧ y 1 = y' 1) : grad 2 1024 x y = grad 2 1024 x' y' := by
  funext i
  obtain ⟨l, d, n, rfl⟩ := ex3 2 1024 1024 i
  match l with
  | ⟨0, _⟩ => exact congrFun (congrFun (congrArg₂ prod h0.1 h0.2) _) _
  | ⟨1, _⟩ => exact congrFun (congrFun (congrArg₂ prod h1.1 h1.2) _) _

/-- The kernel's gradient of the second pointwise weight of the convolution. -/
theorem res_pw (c : Dev nD) : (W33 m ρ c main_v112 : S2x1024x1024.Idx → EReal) = out1 m c := by
  have e : W33 m ρ c main_v112 = two (extractStridedSlice S4x512x1024 ![0, 2816, 0] (extf (F := Ideal) .f32 (W32 m ρ c main_v103) bitsLt_bf16_f32) slices_S4x5888x1024_S4x512x1024_0_2816_0) := by unfold W33 hostOps16; after_results; rfl
  exact e.trans ((res_two m ρ c 11 _ (by decide) rfl _).trans (grad_two ⟨rfl, rfl⟩ ⟨rfl, rfl⟩))

/-- The kernel's gradient of the query projection. -/
theorem res_q (c : Dev nD) : (W33 m ρ c main_v116 : S2x1024x1024.Idx → EReal) = out2 m c := by
  have e : W33 m ρ c main_v116 = two (extractStridedSlice S4x512x1024 ![0, 3328, 0] (extf (F := Ideal) .f32 (W32 m ρ c main_v103) bitsLt_bf16_f32) slices_S4x5888x1024_S4x512x1024_0_3328_0) := by unfold W33 hostOps16; after_results; rfl
  exact e.trans ((res_two m ρ c 13 _ (by decide) rfl _).trans (grad_two ⟨rfl, rfl⟩ ⟨rfl, rfl⟩))

/-- The kernel's gradient of the key projection. -/
theorem res_k (c : Dev nD) : (W33 m ρ c main_v121 : S1024x1024.Idx → EReal) = out3 m c := by
  have e : W33 m ρ c main_v121 = one (extractStridedSlice S4x256x1024 ![0, 3840, 0] (extf (F := Ideal) .f32 (W32 m ρ c main_v103) bitsLt_bf16_f32) slices_S4x5888x1024_S4x256x1024_0_3840_0) := by unfold W33 hostOps16; after_results; rfl
  exact e.trans (res_one m ρ c 15 _ (by decide) rfl _)

/-- The kernel's gradient of the value projection. -/
theorem res_v (c : Dev nD) : (W33 m ρ c main_v126 : S1024x1024.Idx → EReal) = out4 m c := by
  have e : W33 m ρ c main_v126 = one (extractStridedSlice S4x256x1024 ![0, 4096, 0] (extf (F := Ideal) .f32 (W32 m ρ c main_v103) bitsLt_bf16_f32) slices_S4x5888x1024_S4x256x1024_0_4096_0) := by unfold W33 hostOps16; after_results; rfl
  exact e.trans (res_one m ρ c 16 _ (by decide) rfl _)

/-- The kernel's gradient of the output projection. -/
theorem res_o (c : Dev nD) : (W33 m ρ c main_v130 : S2x1024x1024.Idx → EReal) = out5 m c := by
  have e : W33 m ρ c main_v130 = two (extractStridedSlice S4x512x1024 ![0, 4352, 0] (extf (F := Ideal) .f32 (W32 m ρ c main_v103) bitsLt_bf16_f32) slices_S4x5888x1024_S4x512x1024_0_4352_0) := by unfold W33 hostOps16; after_results; rfl
  exact e.trans ((res_two m ρ c 17 _ (by decide) rfl _).trans (grad_two ⟨rfl, rfl⟩ ⟨rfl, rfl⟩))

/-- The kernel's gradient of the embedding gate. -/
theorem res_gate (c : Dev nD) : (W33 m ρ c main_v134 : S4x1024x1024.Idx → EReal) = out6 m c := by
  have e : W33 m ρ c main_v134 = shapeCast S4x1024x1024 (transpose S4x4x256x1024 [1, 0, 2, 3] (shapeCast S4x4x256x1024 (extractStridedSlice S4x1024x1024 ![0, 4864, 0] (extf (F := Ideal) .f32 (W32 m ρ c main_v103) bitsLt_bf16_f32) slices_S4x5888x1024_S4x1024x1024_0_4864_0) shapeCasts_S4x1024x1024_S4x4x256x1024) transposes_S4x4x256x1024_S4x4x256x1024_1_0_2_3) shapeCasts_S4x4x256x1024_S4x1024x1024 := by unfold W33 hostOps16; after_results; rfl
  funext i
  obtain ⟨l, d, n, rfl⟩ := ex3 4 1024 1024 i
  have hl := l.isLt
  have hd := d.isLt
  rw [e]
  pointwise
  refine (last_fan m ρ c _ (q := 19 + l.val) (k := d.val) (n := n.val) (by omega) rfl (show 4864 + (l.val * 256 + d.val % 256) = (19 + l.val) * 256 + d.val % 256 by omega) rfl).trans ?_
  match l with
  | ⟨0, _⟩ => rfl
  | ⟨1, _⟩ => rfl
  | ⟨2, _⟩ => rfl
  | ⟨3, _⟩ => rfl

/-- The two programs' results are equal, and both leave their arguments as they were. -/
theorem algebraic : Cert.algebraic_Kernel5Ideal_Reference5Ideal := by
  intro m g m' g' _ ha
  refine ⟨out0 m, out1 m, out2 m, out3 m, out4 m, out5 m, out6 m, ?_, ?_⟩
  · refine (θ_run defs _ _).mono (fun r h c => ?_) (run m g)
    exact ⟨(h c _ (mem_uc main_v108 (by decide))).trans (res_down m g c), (h c _ (mem_uc main_v112 (by decide))).trans (res_pw m g c), (h c _ (mem_uc main_v116 (by decide))).trans (res_q m g c), (h c _ (mem_uc main_v121 (by decide))).trans (res_k m g c), (h c _ (mem_uc main_v126 (by decide))).trans (res_v m g c), (h c _ (mem_uc main_v130 (by decide))).trans (res_o m g c), (h c _ (mem_uc main_v134 (by decide))).trans (res_gate m g c),
      (h c _ (mem_uc main_arg0 (by decide))).trans (W33_main_arg0 m g c), (h c _ (mem_uc main_arg1 (by decide))).trans (W33_main_arg1 m g c), (h c _ (mem_uc main_arg2 (by decide))).trans (W33_main_arg2 m g c), (h c _ (mem_uc main_arg3 (by decide))).trans (W33_main_arg3 m g c), (h c _ (mem_uc main_arg4 (by decide))).trans (W33_main_arg4 m g c), (h c _ (mem_uc main_arg5 (by decide))).trans (W33_main_arg5 m g c), (h c _ (mem_uc main_arg6 (by decide))).trans (W33_main_arg6 m g c), (h c _ (mem_uc main_arg7 (by decide))).trans (W33_main_arg7 m g c), (h c _ (mem_uc main_arg8 (by decide))).trans (W33_main_arg8 m g c), (h c _ (mem_uc main_arg9 (by decide))).trans (W33_main_arg9 m g c), (h c _ (mem_uc main_arg10 (by decide))).trans (W33_main_arg10 m g c), (h c _ (mem_uc main_arg11 (by decide))).trans (W33_main_arg11 m g c)⟩
  · refine (θ_run Cert.Reference5Ideal.defs _ _).mono (fun r h c => ?_) (Cert.Reference5Ideal.Value.run (F := Ideal) m' g')
    obtain ⟨h0, h1, h2, h3, h4, h5, h6, hr⟩ := h c
    obtain ⟨a0, a1, a2, a3, a4, a5, a6, a7, a8, a9, a10, a11⟩ := ha c
    rw [a3, a2] at h0
    rw [a7, a4] at h1
    rw [a8, a6] at h2
    rw [a9, a6] at h3
    rw [a10, a6] at h4
    rw [a7, a5] at h5
    rw [a1, a0] at h6
    exact ⟨h0.trans (ref_down _ _), h1.trans ((ref_two _ _).trans ((grad_cut _ _ 0 (by decide) _).trans (grad_two ⟨rfl, rfl⟩ ⟨rfl, rfl⟩))), h2.trans (ref_two _ _), h3.trans (ref_kv _ _), h4.trans (ref_kv _ _), h5.trans ((ref_two _ _).trans (grad_cut _ _ 2 (by decide) _)), h6.trans (ref_gate _ _), hr⟩

end Cert.Kernel5Ideal.Hand
-- ==== Proof.Value6.Vec.lean ====
/-
  The input gradients of the weights of 1024 columns: the product of a row of the gradient and a row of the weight, what one call
  stores at one of its points, and the run of the whole program with every buffer named.
-/
module

public import proofs.«01_k».proof.Proof.Gen.Kernel6Ideal.Frame
public import proofs.«01_k».proof.Proof.Entries

@[expose] public section

set_option maxRecDepth 16384

noncomputable section

namespace Cert.Kernel6Ideal.Hand

open Cert.Kernel6Ideal Cert.Kernel6Ideal.Gen Cert.Entries
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

local notation "𝕄" => MT nD τ sig Unit (Elt Ideal) ℕ (UR sig nD τ) ℕ

/-- The array `v` holds the entries `X`. -/
def Holds {p q : ℕ} (v : (⟨2, ![p, q]⟩ : Shape).Idx → EReal) (X : ℕ → ℕ → EReal) : Prop := ∀ (s : Fin p) (n : Fin q), v (ix2 s n) = X s.val n.val

/-- Layer `l` of the array `v` holds the rows of the weight `W` in four parts of 256. -/
def Parts {p : ℕ} (v : (⟨4, ![4, p, 256, 1024]⟩ : Shape).Idx → EReal) (l : Fin p) (W : ℕ → ℕ → EReal) : Prop :=
  ∀ (j : Fin 4) (d : Fin 256) (n : Fin 1024), v (ix4 j l d n) = W (j.val * 256 + d.val) n.val

/-- The product of row `s` of the gradient and row `d` of the weight. -/
def prod (X W : ℕ → ℕ → EReal) (s d : ℕ) : EReal := ∑ n : Fin 1024, X s n.val * W d n.val

/-- The factor of the residual. -/
def alpha : EReal := Ideal.ofBits .f32 0x3FD744FD#32

/-- What a call leaves without a residual, with one and its factor, and with one as it is. -/
def plainOf (X W : ℕ → ℕ → EReal) : S4096x1024.Idx → EReal := fun i => prod X W (i 0).val (i 1).val

def scaledOf (X W R : ℕ → ℕ → EReal) : S4096x1024.Idx → EReal := fun i => prod X W (i 0).val (i 1).val + alpha * R (i 0).val (i 1).val

def addedOf (X W R : ℕ → ℕ → EReal) : S4096x1024.Idx → EReal := fun i => prod X W (i 0).val (i 1).val + R (i 0).val (i 1).val

/-- One store of a call that adds the residual with its factor: part `j` of the columns of the rows `1024 t` to `1024 t + 1023`. -/
theorem scaled {X W R : ℕ → ℕ → EReal} (x : Vec Ideal S1024x1024 .bf16) (w : Vec Ideal S1x1x256x1024 .bf16) (r : Vec Ideal S1024x1024 .f32) (t j : ℕ)
    (inb : ∀ a, (![0, j * 256] : Fin 2 → ℕ) a + S1024x256.size a ≤ S1024x1024.size a)
    (hx : Holds x fun s => X (t * 1024 + s)) (hw : ∀ (d : Fin 256) (n : Fin 1024), w (ix4 0 0 d n) = W (j * 256 + d.val) n.val)
    (hr : Holds r fun s => R (t * 1024 + s)) (z : S1024x256.Idx) {s d : ℕ} (h0 : s = (z 0).val) (h1 : d = j * 256 + (z 1).val) :
    (k0_pay4 x w (View.ld r (Rect.unit (s := S1024x1024) ![0, j * 256] S1024x256.size inb)) : S1024x256.Idx → EReal) z
    = prod X W (t * 1024 + s) d + alpha * R (t * 1024 + s) d := by
  have hj : j * 256 + 256 ≤ 1024 := inb 1
  obtain ⟨a, b, rfl⟩ := ex2 1024 256 z
  obtain rfl : s = a.val := h0
  obtain rfl : d = j * 256 + b.val := h1
  have e : View.ld r (Rect.unit (s := S1024x1024) ![0, j * 256] S1024x256.size inb) (ix2 a b) = R (t * 1024 + a.val) (j * 256 + b.val) := by
    refine (View.ld_unit_apply_of r _ _ inb (ix2 a b) (ix2 a ⟨j * 256 + b.val, by omega⟩) fun k => ?_).trans (hr a ⟨j * 256 + b.val, by omega⟩)
    match k with
    | ⟨0, _⟩ => show a.val = 0 + a.val; omega
    | ⟨1, _⟩ => rfl
  rw [← e]
  unfold k0_pay4 k0_pay3 prod alpha
  pointwise
  exact congrArg₂ _ (Finset.sum_congr rfl fun n _ => congrArg₂ (fun a b : EReal => a * b) (hx a n) (hw b n)) rfl

/-- The same where the factor is one. -/
theorem added {X W R : ℕ → ℕ → EReal} (x : Vec Ideal S1024x1024 .f32) (w : Vec Ideal S1x1x256x1024 .bf16) (r : Vec Ideal S1024x1024 .f32) (t j : ℕ)
    (inb : ∀ a, (![0, j * 256] : Fin 2 → ℕ) a + S1024x256.size a ≤ S1024x1024.size a)
    (hx : Holds x fun s => X (t * 1024 + s)) (hw : ∀ (d : Fin 256) (n : Fin 1024), w (ix4 0 0 d n) = W (j * 256 + d.val) n.val)
    (hr : Holds r fun s => R (t * 1024 + s)) (z : S1024x256.Idx) {s d : ℕ} (h0 : s = (z 0).val) (h1 : d = j * 256 + (z 1).val) :
    (k6_pay4 x w (View.ld r (Rect.unit (s := S1024x1024) ![0, j * 256] S1024x256.size inb)) : S1024x256.Idx → EReal) z
    = prod X W (t * 1024 + s) d + R (t * 1024 + s) d := by
  have hj : j * 256 + 256 ≤ 1024 := inb 1
  obtain ⟨a, b, rfl⟩ := ex2 1024 256 z
  obtain rfl : s = a.val := h0
  obtain rfl : d = j * 256 + b.val := h1
  have e : View.ld r (Rect.unit (s := S1024x1024) ![0, j * 256] S1024x256.size inb) (ix2 a b) = R (t * 1024 + a.val) (j * 256 + b.val) := by
    refine (View.ld_unit_apply_of r _ _ inb (ix2 a b) (ix2 a ⟨j * 256 + b.val, by omega⟩) fun k => ?_).trans (hr a ⟨j * 256 + b.val, by omega⟩)
    match k with
    | ⟨0, _⟩ => show a.val = 0 + a.val; omega
    | ⟨1, _⟩ => rfl
  rw [← e]
  unfold k6_pay4 k6_pay3 prod
  pointwise
  exact congrArg₂ _ (Finset.sum_congr rfl fun n _ => congrArg₂ (fun a b : EReal => a * b) (hx a n) (hw b n)) rfl

/-- The same of a call without a residual. -/
theorem plain {X W : ℕ → ℕ → EReal} (x : Vec Ideal S1024x1024 .f32) (w : Vec Ideal S1x1x256x1024 .bf16) (t j : ℕ)
    (hx : Holds x fun s => X (t * 1024 + s)) (hw : ∀ (d : Fin 256) (n : Fin 1024), w (ix4 0 0 d n) = W (j * 256 + d.val) n.val)
    (z : S1024x256.Idx) {s d : ℕ} (h0 : s = (z 0).val) (h1 : d = j * 256 + (z 1).val) :
    (k1_pay2 x w : S1024x256.Idx → EReal) z = prod X W (t * 1024 + s) d := by
  obtain ⟨a, b, rfl⟩ := ex2 1024 256 z
  obtain rfl : s = a.val := h0
  obtain rfl : d = j * 256 + b.val := h1
  unfold k1_pay2 k1_pay1 prod
  pointwise
  exact Finset.sum_congr rfl fun n _ => congrArg₂ (fun a b : EReal => a * b) (hx a n) (hw b n)

variable (m : (ℓ : Loc nD τ sig) → Buf (Elt Ideal) ℓ) (ρ : Dev nD → PrngReg)

set_option backward.isDefEq.respectTransparency.types false in
/-- The program runs to the end, and every buffer holds what its 24 parts leave in turn. -/
theorem run : θ_run defs (onTc (τ := τ) (main (F := Ideal))) ⟨m, fun _ => 0, ρ⟩ (fun r => ∀ (c : Dev nD), ∀ b ∈ Pipeline.ucRefs τ sig,
    r.2.mem (((c : Thread nD τ)).1, b) = W24 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      have he : (BI.emp : sProp 𝕄) ⊢ bigSep Finset.univ (fun _ : Dev nD => (BI.emp : sProp 𝕄)) := by rw [BI.bigSep_emp_const]
      iintro Hu
      imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      · iapply he
        iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl⟩)
    (hinit := Pipeline.initEach L lv fun c => by
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hbufs, -, Howed, -, Hgen, -⟩, -⟩
      imodintro
      isplitl [Hbufs]
      · iexact Hbufs
      isplitl [Hgen]
      · iexists _
        iexact Hgen
      · iexists ∅
        iexact Howed)
    (QY := fun c s => ∀ b ∈ Pipeline.ucRefs τ sig, s.mem (((c : Thread nD τ)).1, b) = W24 m ρ c b)
    (hfin := fun c s' => by
      iintro ⟨⟨Hbufs, -⟩, Hs⟩
      unfold StableHlo.held
      imodintro
      iapply (pointsTo_read_all (Pipeline.ucRefs τ sig) (fun b => (((c : Thread nD τ)).1, b)) (W24 m ρ c) s')
      isplitl [Hbufs]
      · iexact Hbufs
      · iexact Hs)
    (hQ := fun s h _ => h)

end Cert.Kernel6Ideal.Hand
-- ==== Proof.Value6.Facts.lean ====
/-
  One layer of an array, and the weights with their rows in four parts, by entries.
-/
module

public import proofs.«01_k».proof.Proof.Value6.Vec

@[expose] public section

set_option maxRecDepth 16384

noncomputable section

namespace Cert.Kernel6Ideal.Hand

open Cert.Kernel6Ideal Cert.Kernel6Ideal.Gen Cert.Entries
open Idealize.ShloMosaic Idealize.ShloMosaic.TcCoe Idealize.ShloMosaic.Tactic
open Idealize.SL.Sem
open Idealize.ShloMosaic.StableHlo
open Idealize.ShloMosaic.Pipeline (Dat)

/-- One layer of an array of four layers. -/
def layer4 (x : FVec Ideal S4x4096x1024 .f32) (l : ℕ) (h : S4x4096x1024.Slices ![l, 0, 0] S1x4096x1024) : FVec Ideal S4096x1024 .f32 :=
  shapeCast S4096x1024 (extractStridedSlice S1x4096x1024 ![l, 0, 0] x h) shapeCasts_S1x4096x1024_S4096x1024

/-- One layer of an array of two layers. -/
def layer2 (x : FVec Ideal S2x4096x1024 .f32) (l : ℕ) (h : S2x4096x1024.Slices ![l, 0, 0] S1x4096x1024) : FVec Ideal S4096x1024 .f32 :=
  shapeCast S4096x1024 (extractStridedSlice S1x4096x1024 ![l, 0, 0] x h) shapeCasts_S1x4096x1024_S4096x1024

theorem layer4_at (x : FVec Ideal S4x4096x1024 .f32) (l : Fin 4) (h : S4x4096x1024.Slices ![l.val, 0, 0] S1x4096x1024) : Holds (layer4 x l.val h) (at3 x l.val) := by
  intro s n
  unfold layer4
  pointwise
  exact at3_fin x l s n

theorem layer2_at (x : FVec Ideal S2x4096x1024 .f32) (l : Fin 2) (h : S2x4096x1024.Slices ![l.val, 0, 0] S1x4096x1024) : Holds (layer2 x l.val h) (at3 x l.val) := by
  intro s n
  unfold layer2
  pointwise
  exact at3_fin x l s n

/-- The weights of four layers, of two, and of one, with their rows in four parts. -/
def parts4 (w : FVec Ideal S4x1024x1024 .f32) : FVec Ideal S4x4x256x1024 .bf16 :=
  transpose S4x4x256x1024 [1, 0, 2, 3] (shapeCast S4x4x256x1024 (truncf (F := Ideal) .bf16 w bitsLt_bf16_f32) shapeCasts_S4x1024x1024_S4x4x256x1024) transposes_S4x4x256x1024_S4x4x256x1024_1_0_2_3

def parts2 (w : FVec Ideal S2x1024x1024 .f32) : FVec Ideal S4x2x256x1024 .bf16 :=
  transpose S4x2x256x1024 [1, 0, 2, 3] (shapeCast S2x4x256x1024 (truncf (F := Ideal) .bf16 w bitsLt_bf16_f32) shapeCasts_S2x1024x1024_S2x4x256x1024) transposes_S2x4x256x1024_S4x2x256x1024_1_0_2_3

def parts1 (w : FVec Ideal S1024x1024 .f32) : FVec Ideal S4x1x256x1024 .bf16 :=
  transpose S4x1x256x1024 [1, 0, 2, 3] (shapeCast S1x4x256x1024 (truncf (F := Ideal) .bf16 (broadcastInDim S1x1024x1024 ![1, 2] bcast_S1024x1024_S1x1024x1024_1_2 w) bitsLt_bf16_f32)
    shapeCasts_S1x1024x1024_S1x4x256x1024) transposes_S1x4x256x1024_S4x1x256x1024_1_0_2_3

theorem parts4_at (w : FVec Ideal S4x1024x1024 .f32) (l : Fin 4) : Parts (parts4 w) l (at3 w l.val) := by
  intro j d n
  unfold parts4
  pointwise
  exact at3_fin w l ⟨j.val * 256 + d.val, by omega⟩ n

theorem parts2_at (w : FVec Ideal S2x1024x1024 .f32) (l : Fin 2) : Parts (parts2 w) l (at3 w l.val) := by
  intro j d n
  unfold parts2
  pointwise
  exact at3_fin w l ⟨j.val * 256 + d.val, by omega⟩ n

theorem parts1_at (w : FVec Ideal S1024x1024 .f32) : Parts (parts1 w) 0 (at2 w) := by
  intro j d n
  unfold parts1
  pointwise
  exact at2_fin w ⟨j.val * 256 + d.val, by omega⟩ n

/-- Where a block of rows stands, and a block of part `j` of layer `l` of a weight. -/
abbrev At2 (i : Fin 2 → ℕ) (t : ℕ) : Prop := i 0 = t ∧ i 1 = 0

abbrev At4 (i : Fin 4 → ℕ) (j l : ℕ) : Prop := i 0 = j ∧ i 1 = l ∧ i 2 = 0 ∧ i 3 = 0

/-- Row `s` of the block of point `t`. -/
def row (t : Fin 4) (s : Fin 1024) : Fin 4096 := ⟨t.val * 1024 + s.val, by omega⟩

theorem rows {v : S4096x1024.Idx → EReal} {X : ℕ → ℕ → EReal} (hv : Holds v X) (t : Fin 4) {f : S1024x1024.Idx → S4096x1024.Idx}
    (hf : ∀ s n, f (ix2 s n) = ix2 (row t s) n) : Holds (fun y => v (f y) : S1024x1024.Idx → EReal) fun s => X (t.val * 1024 + s) :=
  fun s n => (congrArg v (hf s n)).trans (hv (row t s) n)

theorem part {p : ℕ} {v : (⟨4, ![4, p, 256, 1024]⟩ : Shape).Idx → EReal} {l : Fin p} {W : ℕ → ℕ → EReal} (hv : Parts v l W) (j : Fin 4)
    {f : S1x1x256x1024.Idx → (⟨4, ![4, p, 256, 1024]⟩ : Shape).Idx} (hf : ∀ d n, f (ix4 0 0 d n) = ix4 j l d n) (d : Fin 256) (n : Fin 1024) :
    v (f (ix4 0 0 d n)) = W (j.val * 256 + d.val) n.val :=
  (congrArg v (hf d n)).trans (hv j d n)

end Cert.Kernel6Ideal.Hand
-- ==== Proof.Value6.Calls.lean ====
/-
  The first four of the twelve calls of the input gradients, one after the other: what each is handed and what it leaves.
-/
module

public import proofs.«01_k».proof.Proof.Value6.Facts

@[expose] public section

set_option maxRecDepth 16384

noncomputable section

namespace Cert.Kernel6Ideal.Hand

open Cert.Kernel6Ideal Cert.Kernel6Ideal.Gen Cert.Entries
open Idealize.ShloMosaic Idealize.ShloMosaic.TcCoe Idealize.ShloMosaic.Tactic
open Idealize.SL.Sem
open Idealize.ShloMosaic.StableHlo
open Idealize.ShloMosaic.Pipeline (Dat)

variable (m : (ℓ : Loc nD τ sig) → Buf (Elt Ideal) ℓ) (ρ : Dev nD → PrngReg) (V : (c : Dev nD) → (b : Ref sig .tc) → Buf (Elt Ideal) ((c : Thread nD τ).loc b))

/-! ### Call 0: the embedding gate, layer 3 -/

theorem in0 (c : Dev nD) : Holds (V1 m ρ c main_v2) (at3 (m ((c : Thread nD τ).loc main_arg0)) 3) ∧ Parts (V1 m ρ c main_v5) 3 (at3 (m ((c : Thread nD τ).loc main_arg6)) 3) ∧ Holds (V1 m ρ c main_v7) (at3 (m ((c : Thread nD τ).loc main_arg1)) 3) := by
  have e0 : V1 m ρ c main_v2 = layer4 (W0 m ρ c main_arg0) 3 slices_S4x4096x1024_S1x4096x1024_3_0_0 := by unfold V1 W1 hostOps0; after_results; rfl
  have e1 : V1 m ρ c main_v5 = parts4 (W0 m ρ c main_arg6) := by unfold V1 W1 hostOps0; after_results; rfl
  have e2 : V1 m ρ c main_v7 = layer4 (W0 m ρ c main_arg1) 3 slices_S4x4096x1024_S1x4096x1024_3_0_0 := by unfold V1 W1 hostOps0; after_results; rfl
  rw [e0, e1, e2, W0_args m ρ c main_arg0 (by decide), W0_args m ρ c main_arg6 (by decide), W0_args m ρ c main_arg1 (by decide)]
  exact ⟨layer4_at _ 3 _, parts4_at _ 3, layer4_at _ 3 _⟩

theorem idx0 : ∀ t : Fin cfg0.N, At2 (win0_0.index t) t.val ∧ At4 (win0_1.index t) 0 3 ∧ At4 (win0_2.index t) 1 3 ∧ At4 (win0_3.index t) 2 3 ∧ At4 (win0_4.index t) 3 3 ∧ At2 (win0_5.index t) t.val ∧ At2 (win0_6.index t) t.val := by decide +kernel

set_option maxHeartbeats 2000000 in
theorem call0 (c : Dev nD) {X W R : ℕ → ℕ → EReal}
    (hx : Holds (V c main_v2) X) (hw : Parts (V c main_v5) 3 W) (hr : Holds (V c main_v7) R) :
    ((dat0 V c).arrAt 6 cfg0.N : S4096x1024.Idx → EReal) = scaledOf X W R := by
  refine (dat0 V c).arrAt_eq_of_covers 6 _ (by decide +kernel) fun t hf y => ?_
  obtain ⟨p, q0, q1, q2, q3, r, o⟩ := idx0 t
  obtain ⟨s, d, rfl⟩ := ex2 1024 1024 y
  have bx := rows hx t (f := ((cfg0.win 0).blk t).view.emb) fun s n => by blk_ext [p, row]
  have br := rows hr t (f := ((cfg0.win 5).blk t).view.emb) fun s n => by blk_ext [r, row]
  have e : ((cfg0.win 6).blk t).view.emb (ix2 s d) = (ix2 (row t s) d : S4096x1024.Idx) := by blk_ext [o, row]
  blk_simp
  rw [after0_6, e]
  show _ = prod X W (t.val * 1024 + s.val) d.val + alpha * R (t.val * 1024 + s.val) d.val
  unfold out0_6
  frame_out
  canon_tiles x h
  · exact scaled _ _ _ t.val 3 _ bx (part hw 3 (f := ((cfg0.win 4).blk t).view.emb) fun d n => by blk_ext [q3]) br x h0 h1
  · exact scaled _ _ _ t.val 2 _ bx (part hw 2 (f := ((cfg0.win 3).blk t).view.emb) fun d n => by blk_ext [q2]) br x h0 h1
  · exact scaled _ _ _ t.val 1 _ bx (part hw 1 (f := ((cfg0.win 2).blk t).view.emb) fun d n => by blk_ext [q1]) br x h0 h1
  · exact scaled _ _ _ t.val 0 _ bx (part hw 0 (f := ((cfg0.win 1).blk t).view.emb) fun d n => by blk_ext [q0]) br x h0 (h1.trans (Nat.zero_add _).symm)

/-! ### Call 1: the attention output, second of two -/

theorem in1 (c : Dev nD) : Holds (V3 m ρ c main_v10) (at3 (m ((c : Thread nD τ).loc main_arg2)) 3) ∧ Parts (V3 m ρ c main_v13) 1 (at3 (m ((c : Thread nD τ).loc main_arg8)) 1) := by
  have e0 : V3 m ρ c main_v10 = layer4 (W2 m ρ c main_arg2) 3 slices_S4x4096x1024_S1x4096x1024_3_0_0 := by unfold V3 W3 hostOps1; after_results; rfl
  have e1 : V3 m ρ c main_v13 = parts2 (W2 m ρ c main_arg8) := by unfold V3 W3 hostOps1; after_results; rfl
  rw [e0, e1, W2_args m ρ c main_arg2 (by decide), W2_args m ρ c main_arg8 (by decide)]
  exact ⟨layer4_at _ 3 _, parts2_at _ 1⟩

theorem idx1 : ∀ t : Fin cfg1.N, At2 (win1_0.index t) t.val ∧ At4 (win1_1.index t) 0 1 ∧ At4 (win1_2.index t) 1 1 ∧ At4 (win1_3.index t) 2 1 ∧ At4 (win1_4.index t) 3 1 ∧ At2 (win1_5.index t) t.val := by decide +kernel

set_option maxHeartbeats 2000000 in
theorem call1 (c : Dev nD) {X W : ℕ → ℕ → EReal}
    (hx : Holds (V c main_v10) X) (hw : Parts (V c main_v13) 1 W) :
    ((dat1 V c).arrAt 5 cfg1.N : S4096x1024.Idx → EReal) = plainOf X W := by
  refine (dat1 V c).arrAt_eq_of_covers 5 _ (by decide +kernel) fun t hf y => ?_
  obtain ⟨p, q0, q1, q2, q3, o⟩ := idx1 t
  obtain ⟨s, d, rfl⟩ := ex2 1024 1024 y
  have bx := rows hx t (f := ((cfg1.win 0).blk t).view.emb) fun s n => by blk_ext [p, row]
  have e : ((cfg1.win 5).blk t).view.emb (ix2 s d) = (ix2 (row t s) d : S4096x1024.Idx) := by blk_ext [o, row]
  blk_simp
  rw [after1_5, e]
  show _ = prod X W (t.val * 1024 + s.val) d.val
  unfold out1_5
  frame_out
  canon_tiles x h
  · exact plain _ _ t.val 3 bx (part hw 3 (f := ((cfg1.win 4).blk t).view.emb) fun d n => by blk_ext [q3]) x h0 h1
  · exact plain _ _ t.val 2 bx (part hw 2 (f := ((cfg1.win 3).blk t).view.emb) fun d n => by blk_ext [q2]) x h0 h1
  · exact plain _ _ t.val 1 bx (part hw 1 (f := ((cfg1.win 2).blk t).view.emb) fun d n => by blk_ext [q1]) x h0 h1
  · exact plain _ _ t.val 0 bx (part hw 0 (f := ((cfg1.win 1).blk t).view.emb) fun d n => by blk_ext [q0]) x h0 (h1.trans (Nat.zero_add _).symm)

/-! ### Call 2: the queries, second of two -/

theorem in2 (c : Dev nD) : Holds (V5 m ρ c main_v16) (at3 (m ((c : Thread nD τ).loc main_arg3)) 1) ∧ Parts (V5 m ρ c main_v19) 1 (at3 (m ((c : Thread nD τ).loc main_arg9)) 1) ∧ Holds (V5 m ρ c main_v21) (at3 (m ((c : Thread nD τ).loc main_arg2)) 3) := by
  have e0 : V5 m ρ c main_v16 = layer2 (W4 m ρ c main_arg3) 1 slices_S2x4096x1024_S1x4096x1024_1_0_0 := by unfold V5 W5 hostOps2; after_results; rfl
  have e1 : V5 m ρ c main_v19 = parts2 (W4 m ρ c main_arg9) := by unfold V5 W5 hostOps2; after_results; rfl
  have e2 : V5 m ρ c main_v21 = layer4 (W4 m ρ c main_arg2) 3 slices_S4x4096x1024_S1x4096x1024_3_0_0 := by unfold V5 W5 hostOps2; after_results; rfl
  rw [e0, e1, e2, W4_args m ρ c main_arg3 (by decide), W4_args m ρ c main_arg9 (by decide), W4_args m ρ c main_arg2 (by decide)]
  exact ⟨layer2_at _ 1 _, parts2_at _ 1, layer4_at _ 3 _⟩

theorem idx2 : ∀ t : Fin cfg2.N, At2 (win2_0.index t) t.val ∧ At4 (win2_1.index t) 0 1 ∧ At4 (win2_2.index t) 1 1 ∧ At4 (win2_3.index t) 2 1 ∧ At4 (win2_4.index t) 3 1 ∧ At2 (win2_5.index t) t.val ∧ At2 (win2_6.index t) t.val := by decide +kernel

set_option maxHeartbeats 2000000 in
theorem call2 (c : Dev nD) {X W R : ℕ → ℕ → EReal}
    (hx : Holds (V c main_v16) X) (hw : Parts (V c main_v19) 1 W) (hr : Holds (V c main_v21) R) :
    ((dat2 V c).arrAt 6 cfg2.N : S4096x1024.Idx → EReal) = scaledOf X W R := by
  refine (dat2 V c).arrAt_eq_of_covers 6 _ (by decide +kernel) fun t hf y => ?_
  obtain ⟨p, q0, q1, q2, q3, r, o⟩ := idx2 t
  obtain ⟨s, d, rfl⟩ := ex2 1024 1024 y
  have bx := rows hx t (f := ((cfg2.win 0).blk t).view.emb) fun s n => by blk_ext [p, row]
  have br := rows hr t (f := ((cfg2.win 5).blk t).view.emb) fun s n => by blk_ext [r, row]
  have e : ((cfg2.win 6).blk t).view.emb (ix2 s d) = (ix2 (row t s) d : S4096x1024.Idx) := by blk_ext [o, row]
  blk_simp
  rw [after2_6, e]
  show _ = prod X W (t.val * 1024 + s.val) d.val + alpha * R (t.val * 1024 + s.val) d.val
  unfold out2_6
  frame_out
  canon_tiles x h
  · exact scaled _ _ _ t.val 3 _ bx (part hw 3 (f := ((cfg2.win 4).blk t).view.emb) fun d n => by blk_ext [q3]) br x h0 h1
  · exact scaled _ _ _ t.val 2 _ bx (part hw 2 (f := ((cfg2.win 3).blk t).view.emb) fun d n => by blk_ext [q2]) br x h0 h1
  · exact scaled _ _ _ t.val 1 _ bx (part hw 1 (f := ((cfg2.win 2).blk t).view.emb) fun d n => by blk_ext [q1]) br x h0 h1
  · exact scaled _ _ _ t.val 0 _ bx (part hw 0 (f := ((cfg2.win 1).blk t).view.emb) fun d n => by blk_ext [q0]) br x h0 (h1.trans (Nat.zero_add _).symm)

/-! ### Call 3: the embedding gate, layer 2 -/

theorem in3 (c : Dev nD) : Holds (V7 m ρ c main_v25) (at3 (m ((c : Thread nD τ).loc main_arg0)) 2) ∧ Parts (V7 m ρ c main_v28) 2 (at3 (m ((c : Thread nD τ).loc main_arg6)) 2) ∧ Holds (V7 m ρ c main_v30) (at3 (m ((c : Thread nD τ).loc main_arg1)) 2) := by
  have e0 : V7 m ρ c main_v25 = layer4 (W6 m ρ c main_arg0) 2 slices_S4x4096x1024_S1x4096x1024_2_0_0 := by unfold V7 W7 hostOps3; after_results; rfl
  have e1 : V7 m ρ c main_v28 = parts4 (W6 m ρ c main_arg6) := by unfold V7 W7 hostOps3; after_results; rfl
  have e2 : V7 m ρ c main_v30 = layer4 (W6 m ρ c main_arg1) 2 slices_S4x4096x1024_S1x4096x1024_2_0_0 := by unfold V7 W7 hostOps3; after_results; rfl
  rw [e0, e1, e2, W6_args m ρ c main_arg0 (by decide), W6_args m ρ c main_arg6 (by decide), W6_args m ρ c main_arg1 (by decide)]
  exact ⟨layer4_at _ 2 _, parts4_at _ 2, layer4_at _ 2 _⟩

theorem idx3 : ∀ t : Fin cfg3.N, At2 (win3_0.index t) t.val ∧ At4 (win3_1.index t) 0 2 ∧ At4 (win3_2.index t) 1 2 ∧ At4 (win3_3.index t) 2 2 ∧ At4 (win3_4.index t) 3 2 ∧ At2 (win3_5.index t) t.val ∧ At2 (win3_6.index t) t.val := by decide +kernel

set_option maxHeartbeats 2000000 in
theorem call3 (c : Dev nD) {X W R : ℕ → ℕ → EReal}
    (hx : Holds (V c main_v25) X) (hw : Parts (V c main_v28) 2 W) (hr : Holds (V c main_v30) R) :
    ((dat3 V c).arrAt 6 cfg3.N : S4096x1024.Idx → EReal) = scaledOf X W R := by
  refine (dat3 V c).arrAt_eq_of_covers 6 _ (by decide +kernel) fun t hf y => ?_
  obtain ⟨p, q0, q1, q2, q3, r, o⟩ := idx3 t
  obtain ⟨s, d, rfl⟩ := ex2 1024 1024 y
  have bx := rows hx t (f := ((cfg3.win 0).blk t).view.emb) fun s n => by blk_ext [p, row]
  have br := rows hr t (f := ((cfg3.win 5).blk t).view.emb) fun s n => by blk_ext [r, row]
  have e : ((cfg3.win 6).blk t).view.emb (ix2 s d) = (ix2 (row t s) d : S4096x1024.Idx) := by blk_ext [o, row]
  blk_simp
  rw [after3_6, e]
  show _ = prod X W (t.val * 1024 + s.val) d.val + alpha * R (t.val * 1024 + s.val) d.val
  unfold out3_6
  frame_out
  canon_tiles x h
  · exact scaled _ _ _ t.val 3 _ bx (part hw 3 (f := ((cfg3.win 4).blk t).view.emb) fun d n => by blk_ext [q3]) br x h0 h1
  · exact scaled _ _ _ t.val 2 _ bx (part hw 2 (f := ((cfg3.win 3).blk t).view.emb) fun d n => by blk_ext [q2]) br x h0 h1
  · exact scaled _ _ _ t.val 1 _ bx (part hw 1 (f := ((cfg3.win 2).blk t).view.emb) fun d n => by blk_ext [q1]) br x h0 h1
  · exact scaled _ _ _ t.val 0 _ bx (part hw 0 (f := ((cfg3.win 1).blk t).view.emb) fun d n => by blk_ext [q0]) br x h0 (h1.trans (Nat.zero_add _).symm)

end Cert.Kernel6Ideal.Hand
-- ==== Proof.Value6.Calls2.lean ====
/-
  The second four of the twelve calls: the first layer of the attention, whose gradient three calls add up.
-/
module

public import proofs.«01_k».proof.Proof.Value6.Facts

@[expose] public section

set_option maxRecDepth 16384

noncomputable section

namespace Cert.Kernel6Ideal.Hand

open Cert.Kernel6Ideal Cert.Kernel6Ideal.Gen Cert.Entries
open Idealize.ShloMosaic Idealize.ShloMosaic.TcCoe Idealize.ShloMosaic.Tactic
open Idealize.SL.Sem
open Idealize.ShloMosaic.StableHlo
open Idealize.ShloMosaic.Pipeline (Dat)

variable (m : (ℓ : Loc nD τ sig) → Buf (Elt Ideal) ℓ) (ρ : Dev nD → PrngReg) (V : (c : Dev nD) → (b : Ref sig .tc) → Buf (Elt Ideal) ((c : Thread nD τ).loc b))

/-! ### Call 4: the attention output, first of two -/

theorem in4 (c : Dev nD) : Holds (V9 m ρ c main_v33) (at3 (m ((c : Thread nD τ).loc main_arg2)) 2) ∧ Parts (V9 m ρ c main_v36) 0 (at3 (m ((c : Thread nD τ).loc main_arg8)) 0) := by
  have e0 : V9 m ρ c main_v33 = layer4 (W8 m ρ c main_arg2) 2 slices_S4x4096x1024_S1x4096x1024_2_0_0 := by unfold V9 W9 hostOps4; after_results; rfl
  have e1 : V9 m ρ c main_v36 = parts2 (W8 m ρ c main_arg8) := by unfold V9 W9 hostOps4; after_results; rfl
  rw [e0, e1, W8_args m ρ c main_arg2 (by decide), W8_args m ρ c main_arg8 (by decide)]
  exact ⟨layer4_at _ 2 _, parts2_at _ 0⟩

theorem idx4 : ∀ t : Fin cfg4.N, At2 (win4_0.index t) t.val ∧ At4 (win4_1.index t) 0 0 ∧ At4 (win4_2.index t) 1 0 ∧ At4 (win4_3.index t) 2 0 ∧ At4 (win4_4.index t) 3 0 ∧ At2 (win4_5.index t) t.val := by decide +kernel

set_option maxHeartbeats 2000000 in
theorem call4 (c : Dev nD) {X W : ℕ → ℕ → EReal}
    (hx : Holds (V c main_v33) X) (hw : Parts (V c main_v36) 0 W) :
    ((dat4 V c).arrAt 5 cfg4.N : S4096x1024.Idx → EReal) = plainOf X W := by
  refine (dat4 V c).arrAt_eq_of_covers 5 _ (by decide +kernel) fun t hf y => ?_
  obtain ⟨p, q0, q1, q2, q3, o⟩ := idx4 t
  obtain ⟨s, d, rfl⟩ := ex2 1024 1024 y
  have bx := rows hx t (f := ((cfg4.win 0).blk t).view.emb) fun s n => by blk_ext [p, row]
  have e : ((cfg4.win 5).blk t).view.emb (ix2 s d) = (ix2 (row t s) d : S4096x1024.Idx) := by blk_ext [o, row]
  blk_simp
  rw [after4_5, e]
  show _ = prod X W (t.val * 1024 + s.val) d.val
  unfold out4_5
  frame_out
  canon_tiles x h
  · exact plain _ _ t.val 3 bx (part hw 3 (f := ((cfg4.win 4).blk t).view.emb) fun d n => by blk_ext [q3]) x h0 h1
  · exact plain _ _ t.val 2 bx (part hw 2 (f := ((cfg4.win 3).blk t).view.emb) fun d n => by blk_ext [q2]) x h0 h1
  · exact plain _ _ t.val 1 bx (part hw 1 (f := ((cfg4.win 2).blk t).view.emb) fun d n => by blk_ext [q1]) x h0 h1
  · exact plain _ _ t.val 0 bx (part hw 0 (f := ((cfg4.win 1).blk t).view.emb) fun d n => by blk_ext [q0]) x h0 (h1.trans (Nat.zero_add _).symm)

/-! ### Call 5: the queries, first of two -/

theorem in5 (c : Dev nD) : Holds (V11 m ρ c main_v39) (at3 (m ((c : Thread nD τ).loc main_arg3)) 0) ∧ Parts (V11 m ρ c main_v42) 0 (at3 (m ((c : Thread nD τ).loc main_arg9)) 0) ∧ Holds (V11 m ρ c main_v44) (at3 (m ((c : Thread nD τ).loc main_arg2)) 2) := by
  have e0 : V11 m ρ c main_v39 = layer2 (W10 m ρ c main_arg3) 0 slices_S2x4096x1024_S1x4096x1024_0_0_0 := by unfold V11 W11 hostOps5; after_results; rfl
  have e1 : V11 m ρ c main_v42 = parts2 (W10 m ρ c main_arg9) := by unfold V11 W11 hostOps5; after_results; rfl
  have e2 : V11 m ρ c main_v44 = layer4 (W10 m ρ c main_arg2) 2 slices_S4x4096x1024_S1x4096x1024_2_0_0 := by unfold V11 W11 hostOps5; after_results; rfl
  rw [e0, e1, e2, W10_args m ρ c main_arg3 (by decide), W10_args m ρ c main_arg9 (by decide), W10_args m ρ c main_arg2 (by decide)]
  exact ⟨layer2_at _ 0 _, parts2_at _ 0, layer4_at _ 2 _⟩

theorem idx5 : ∀ t : Fin cfg5.N, At2 (win5_0.index t) t.val ∧ At4 (win5_1.index t) 0 0 ∧ At4 (win5_2.index t) 1 0 ∧ At4 (win5_3.index t) 2 0 ∧ At4 (win5_4.index t) 3 0 ∧ At2 (win5_5.index t) t.val ∧ At2 (win5_6.index t) t.val := by decide +kernel

set_option maxHeartbeats 2000000 in
theorem call5 (c : Dev nD) {X W R : ℕ → ℕ → EReal}
    (hx : Holds (V c main_v39) X) (hw : Parts (V c main_v42) 0 W) (hr : Holds (V c main_v44) R) :
    ((dat5 V c).arrAt 6 cfg5.N : S4096x1024.Idx → EReal) = scaledOf X W R := by
  refine (dat5 V c).arrAt_eq_of_covers 6 _ (by decide +kernel) fun t hf y => ?_
  obtain ⟨p, q0, q1, q2, q3, r, o⟩ := idx5 t
  obtain ⟨s, d, rfl⟩ := ex2 1024 1024 y
  have bx := rows hx t (f := ((cfg5.win 0).blk t).view.emb) fun s n => by blk_ext [p, row]
  have br := rows hr t (f := ((cfg5.win 5).blk t).view.emb) fun s n => by blk_ext [r, row]
  have e : ((cfg5.win 6).blk t).view.emb (ix2 s d) = (ix2 (row t s) d : S4096x1024.Idx) := by blk_ext [o, row]
  blk_simp
  rw [after5_6, e]
  show _ = prod X W (t.val * 1024 + s.val) d.val + alpha * R (t.val * 1024 + s.val) d.val
  unfold out5_6
  frame_out
  canon_tiles x h
  · exact scaled _ _ _ t.val 3 _ bx (part hw 3 (f := ((cfg5.win 4).blk t).view.emb) fun d n => by blk_ext [q3]) br x h0 h1
  · exact scaled _ _ _ t.val 2 _ bx (part hw 2 (f := ((cfg5.win 3).blk t).view.emb) fun d n => by blk_ext [q2]) br x h0 h1
  · exact scaled _ _ _ t.val 1 _ bx (part hw 1 (f := ((cfg5.win 2).blk t).view.emb) fun d n => by blk_ext [q1]) br x h0 h1
  · exact scaled _ _ _ t.val 0 _ bx (part hw 0 (f := ((cfg5.win 1).blk t).view.emb) fun d n => by blk_ext [q0]) br x h0 (h1.trans (Nat.zero_add _).symm)

/-! ### Call 6: the keys -/

theorem in6 (c : Dev nD) : Holds (V13 m ρ c main_arg4) (at2 (m ((c : Thread nD τ).loc main_arg4))) ∧ Parts (V13 m ρ c main_v49) 0 (at2 (m ((c : Thread nD τ).loc main_arg10))) := by
  have e0 : V13 m ρ c main_arg4 = m ((c : Thread nD τ).loc main_arg4) := W13_args m ρ c main_arg4 (by decide)
  have e1 : V13 m ρ c main_v49 = parts1 (W12 m ρ c main_arg10) := by unfold V13 W13 hostOps6; after_results; rfl
  rw [e0, e1, W12_args m ρ c main_arg10 (by decide)]
  exact ⟨at2_fin _, parts1_at _⟩

theorem idx6 : ∀ t : Fin cfg6.N, At2 (win6_0.index t) t.val ∧ At4 (win6_1.index t) 0 0 ∧ At4 (win6_2.index t) 1 0 ∧ At4 (win6_3.index t) 2 0 ∧ At4 (win6_4.index t) 3 0 ∧ At2 (win6_5.index t) t.val ∧ At2 (win6_6.index t) t.val := by decide +kernel

set_option maxHeartbeats 2000000 in
theorem call6 (c : Dev nD) {X W R : ℕ → ℕ → EReal}
    (hx : Holds (V c main_arg4) X) (hw : Parts (V c main_v49) 0 W) (hr : Holds (V c main_v45) R) :
    ((dat6 V c).arrAt 6 cfg6.N : S4096x1024.Idx → EReal) = addedOf X W R := by
  refine (dat6 V c).arrAt_eq_of_covers 6 _ (by decide +kernel) fun t hf y => ?_
  obtain ⟨p, q0, q1, q2, q3, r, o⟩ := idx6 t
  obtain ⟨s, d, rfl⟩ := ex2 1024 1024 y
  have bx := rows hx t (f := ((cfg6.win 0).blk t).view.emb) fun s n => by blk_ext [p, row]
  have br := rows hr t (f := ((cfg6.win 5).blk t).view.emb) fun s n => by blk_ext [r, row]
  have e : ((cfg6.win 6).blk t).view.emb (ix2 s d) = (ix2 (row t s) d : S4096x1024.Idx) := by blk_ext [o, row]
  blk_simp
  rw [after6_6, e]
  show _ = prod X W (t.val * 1024 + s.val) d.val + R (t.val * 1024 + s.val) d.val
  unfold out6_6
  frame_out
  canon_tiles x h
  · exact added _ _ _ t.val 3 _ bx (part hw 3 (f := ((cfg6.win 4).blk t).view.emb) fun d n => by blk_ext [q3]) br x h0 h1
  · exact added _ _ _ t.val 2 _ bx (part hw 2 (f := ((cfg6.win 3).blk t).view.emb) fun d n => by blk_ext [q2]) br x h0 h1
  · exact added _ _ _ t.val 1 _ bx (part hw 1 (f := ((cfg6.win 2).blk t).view.emb) fun d n => by blk_ext [q1]) br x h0 h1
  · exact added _ _ _ t.val 0 _ bx (part hw 0 (f := ((cfg6.win 1).blk t).view.emb) fun d n => by blk_ext [q0]) br x h0 (h1.trans (Nat.zero_add _).symm)

/-! ### Call 7: the values -/

theorem in7 (c : Dev nD) : Holds (V15 m ρ c main_arg5) (at2 (m ((c : Thread nD τ).loc main_arg5))) ∧ Parts (V15 m ρ c main_v54) 0 (at2 (m ((c : Thread nD τ).loc main_arg11))) := by
  have e0 : V15 m ρ c main_arg5 = m ((c : Thread nD τ).loc main_arg5) := W15_args m ρ c main_arg5 (by decide)
  have e1 : V15 m ρ c main_v54 = parts1 (W14 m ρ c main_arg11) := by unfold V15 W15 hostOps7; after_results; rfl
  rw [e0, e1, W14_args m ρ c main_arg11 (by decide)]
  exact ⟨at2_fin _, parts1_at _⟩

theorem idx7 : ∀ t : Fin cfg7.N, At2 (win7_0.index t) t.val ∧ At4 (win7_1.index t) 0 0 ∧ At4 (win7_2.index t) 1 0 ∧ At4 (win7_3.index t) 2 0 ∧ At4 (win7_4.index t) 3 0 ∧ At2 (win7_5.index t) t.val ∧ At2 (win7_6.index t) t.val := by decide +kernel

set_option maxHeartbeats 2000000 in
theorem call7 (c : Dev nD) {X W R : ℕ → ℕ → EReal}
    (hx : Holds (V c main_arg5) X) (hw : Parts (V c main_v54) 0 W) (hr : Holds (V c main_v50) R) :
    ((dat7 V c).arrAt 6 cfg7.N : S4096x1024.Idx → EReal) = addedOf X W R := by
  refine (dat7 V c).arrAt_eq_of_covers 6 _ (by decide +kernel) fun t hf y => ?_
  obtain ⟨p, q0, q1, q2, q3, r, o⟩ := idx7 t
  obtain ⟨s, d, rfl⟩ := ex2 1024 1024 y
  have bx := rows hx t (f := ((cfg7.win 0).blk t).view.emb) fun s n => by blk_ext [p, row]
  have br := rows hr t (f := ((cfg7.win 5).blk t).view.emb) fun s n => by blk_ext [r, row]
  have e : ((cfg7.win 6).blk t).view.emb (ix2 s d) = (ix2 (row t s) d : S4096x1024.Idx) := by blk_ext [o, row]
  blk_simp
  rw [after7_6, e]
  show _ = prod X W (t.val * 1024 + s.val) d.val + R (t.val * 1024 + s.val) d.val
  unfold out7_6
  frame_out
  canon_tiles x h
  · exact added _ _ _ t.val 3 _ bx (part hw 3 (f := ((cfg7.win 4).blk t).view.emb) fun d n => by blk_ext [q3]) br x h0 h1
  · exact added _ _ _ t.val 2 _ bx (part hw 2 (f := ((cfg7.win 3).blk t).view.emb) fun d n => by blk_ext [q2]) br x h0 h1
  · exact added _ _ _ t.val 1 _ bx (part hw 1 (f := ((cfg7.win 2).blk t).view.emb) fun d n => by blk_ext [q1]) br x h0 h1
  · exact added _ _ _ t.val 0 _ bx (part hw 0 (f := ((cfg7.win 1).blk t).view.emb) fun d n => by blk_ext [q0]) br x h0 (h1.trans (Nat.zero_add _).symm)

end Cert.Kernel6Ideal.Hand
-- ==== Proof.Value6.Calls3.lean ====
/-
  The last four of the twelve calls: the two convolution layers.
-/
module

public import proofs.«01_k».proof.Proof.Value6.Facts

@[expose] public section

set_option maxRecDepth 16384

noncomputable section

namespace Cert.Kernel6Ideal.Hand

open Cert.Kernel6Ideal Cert.Kernel6Ideal.Gen Cert.Entries
open Idealize.ShloMosaic Idealize.ShloMosaic.TcCoe Idealize.ShloMosaic.Tactic
open Idealize.SL.Sem
open Idealize.ShloMosaic.StableHlo
open Idealize.ShloMosaic.Pipeline (Dat)

variable (m : (ℓ : Loc nD τ sig) → Buf (Elt Ideal) ℓ) (ρ : Dev nD → PrngReg) (V : (c : Dev nD) → (b : Ref sig .tc) → Buf (Elt Ideal) ((c : Thread nD τ).loc b))

/-! ### Call 8: the embedding gate, layer 1 -/

theorem in8 (c : Dev nD) : Holds (V17 m ρ c main_v58) (at3 (m ((c : Thread nD τ).loc main_arg0)) 1) ∧ Parts (V17 m ρ c main_v61) 1 (at3 (m ((c : Thread nD τ).loc main_arg6)) 1) ∧ Holds (V17 m ρ c main_v63) (at3 (m ((c : Thread nD τ).loc main_arg1)) 1) := by
  have e0 : V17 m ρ c main_v58 = layer4 (W16 m ρ c main_arg0) 1 slices_S4x4096x1024_S1x4096x1024_1_0_0 := by unfold V17 W17 hostOps8; after_results; rfl
  have e1 : V17 m ρ c main_v61 = parts4 (W16 m ρ c main_arg6) := by unfold V17 W17 hostOps8; after_results; rfl
  have e2 : V17 m ρ c main_v63 = layer4 (W16 m ρ c main_arg1) 1 slices_S4x4096x1024_S1x4096x1024_1_0_0 := by unfold V17 W17 hostOps8; after_results; rfl
  rw [e0, e1, e2, W16_args m ρ c main_arg0 (by decide), W16_args m ρ c main_arg6 (by decide), W16_args m ρ c main_arg1 (by decide)]
  exact ⟨layer4_at _ 1 _, parts4_at _ 1, layer4_at _ 1 _⟩

theorem idx8 : ∀ t : Fin cfg8.N, At2 (win8_0.index t) t.val ∧ At4 (win8_1.index t) 0 1 ∧ At4 (win8_2.index t) 1 1 ∧ At4 (win8_3.index t) 2 1 ∧ At4 (win8_4.index t) 3 1 ∧ At2 (win8_5.index t) t.val ∧ At2 (win8_6.index t) t.val := by decide +kernel

set_option maxHeartbeats 2000000 in
theorem call8 (c : Dev nD) {X W R : ℕ → ℕ → EReal}
    (hx : Holds (V c main_v58) X) (hw : Parts (V c main_v61) 1 W) (hr : Holds (V c main_v63) R) :
    ((dat8 V c).arrAt 6 cfg8.N : S4096x1024.Idx → EReal) = scaledOf X W R := by
  refine (dat8 V c).arrAt_eq_of_covers 6 _ (by decide +kernel) fun t hf y => ?_
  obtain ⟨p, q0, q1, q2, q3, r, o⟩ := idx8 t
  obtain ⟨s, d, rfl⟩ := ex2 1024 1024 y
  have bx := rows hx t (f := ((cfg8.win 0).blk t).view.emb) fun s n => by blk_ext [p, row]
  have br := rows hr t (f := ((cfg8.win 5).blk t).view.emb) fun s n => by blk_ext [r, row]
  have e : ((cfg8.win 6).blk t).view.emb (ix2 s d) = (ix2 (row t s) d : S4096x1024.Idx) := by blk_ext [o, row]
  blk_simp
  rw [after8_6, e]
  show _ = prod X W (t.val * 1024 + s.val) d.val + alpha * R (t.val * 1024 + s.val) d.val
  unfold out8_6
  frame_out
  canon_tiles x h
  · exact scaled _ _ _ t.val 3 _ bx (part hw 3 (f := ((cfg8.win 4).blk t).view.emb) fun d n => by blk_ext [q3]) br x h0 h1
  · exact scaled _ _ _ t.val 2 _ bx (part hw 2 (f := ((cfg8.win 3).blk t).view.emb) fun d n => by blk_ext [q2]) br x h0 h1
  · exact scaled _ _ _ t.val 1 _ bx (part hw 1 (f := ((cfg8.win 2).blk t).view.emb) fun d n => by blk_ext [q1]) br x h0 h1
  · exact scaled _ _ _ t.val 0 _ bx (part hw 0 (f := ((cfg8.win 1).blk t).view.emb) fun d n => by blk_ext [q0]) br x h0 (h1.trans (Nat.zero_add _).symm)

/-! ### Call 9: the convolution output, layer 1 -/

theorem in9 (c : Dev nD) : Holds (V19 m ρ c main_v66) (at3 (m ((c : Thread nD τ).loc main_arg2)) 1) ∧ Parts (V19 m ρ c main_v69) 1 (at3 (m ((c : Thread nD τ).loc main_arg7)) 1) := by
  have e0 : V19 m ρ c main_v66 = layer4 (W18 m ρ c main_arg2) 1 slices_S4x4096x1024_S1x4096x1024_1_0_0 := by unfold V19 W19 hostOps9; after_results; rfl
  have e1 : V19 m ρ c main_v69 = parts2 (W18 m ρ c main_arg7) := by unfold V19 W19 hostOps9; after_results; rfl
  rw [e0, e1, W18_args m ρ c main_arg2 (by decide), W18_args m ρ c main_arg7 (by decide)]
  exact ⟨layer4_at _ 1 _, parts2_at _ 1⟩

theorem idx9 : ∀ t : Fin cfg9.N, At2 (win9_0.index t) t.val ∧ At4 (win9_1.index t) 0 1 ∧ At4 (win9_2.index t) 1 1 ∧ At4 (win9_3.index t) 2 1 ∧ At4 (win9_4.index t) 3 1 ∧ At2 (win9_5.index t) t.val := by decide +kernel

set_option maxHeartbeats 2000000 in
theorem call9 (c : Dev nD) {X W : ℕ → ℕ → EReal}
    (hx : Holds (V c main_v66) X) (hw : Parts (V c main_v69) 1 W) :
    ((dat9 V c).arrAt 5 cfg9.N : S4096x1024.Idx → EReal) = plainOf X W := by
  refine (dat9 V c).arrAt_eq_of_covers 5 _ (by decide +kernel) fun t hf y => ?_
  obtain ⟨p, q0, q1, q2, q3, o⟩ := idx9 t
  obtain ⟨s, d, rfl⟩ := ex2 1024 1024 y
  have bx := rows hx t (f := ((cfg9.win 0).blk t).view.emb) fun s n => by blk_ext [p, row]
  have e : ((cfg9.win 5).blk t).view.emb (ix2 s d) = (ix2 (row t s) d : S4096x1024.Idx) := by blk_ext [o, row]
  blk_simp
  rw [after9_5, e]
  show _ = prod X W (t.val * 1024 + s.val) d.val
  unfold out9_5
  frame_out
  canon_tiles x h
  · exact plain _ _ t.val 3 bx (part hw 3 (f := ((cfg9.win 4).blk t).view.emb) fun d n => by blk_ext [q3]) x h0 h1
  · exact plain _ _ t.val 2 bx (part hw 2 (f := ((cfg9.win 3).blk t).view.emb) fun d n => by blk_ext [q2]) x h0 h1
  · exact plain _ _ t.val 1 bx (part hw 1 (f := ((cfg9.win 2).blk t).view.emb) fun d n => by blk_ext [q1]) x h0 h1
  · exact plain _ _ t.val 0 bx (part hw 0 (f := ((cfg9.win 1).blk t).view.emb) fun d n => by blk_ext [q0]) x h0 (h1.trans (Nat.zero_add _).symm)

/-! ### Call 10: the embedding gate, layer 0 -/

theorem in10 (c : Dev nD) : Holds (V21 m ρ c main_v73) (at3 (m ((c : Thread nD τ).loc main_arg0)) 0) ∧ Parts (V21 m ρ c main_v76) 0 (at3 (m ((c : Thread nD τ).loc main_arg6)) 0) ∧ Holds (V21 m ρ c main_v78) (at3 (m ((c : Thread nD τ).loc main_arg1)) 0) := by
  have e0 : V21 m ρ c main_v73 = layer4 (W20 m ρ c main_arg0) 0 slices_S4x4096x1024_S1x4096x1024_0_0_0 := by unfold V21 W21 hostOps10; after_results; rfl
  have e1 : V21 m ρ c main_v76 = parts4 (W20 m ρ c main_arg6) := by unfold V21 W21 hostOps10; after_results; rfl
  have e2 : V21 m ρ c main_v78 = layer4 (W20 m ρ c main_arg1) 0 slices_S4x4096x1024_S1x4096x1024_0_0_0 := by unfold V21 W21 hostOps10; after_results; rfl
  rw [e0, e1, e2, W20_args m ρ c main_arg0 (by decide), W20_args m ρ c main_arg6 (by decide), W20_args m ρ c main_arg1 (by decide)]
  exact ⟨layer4_at _ 0 _, parts4_at _ 0, layer4_at _ 0 _⟩

theorem idx10 : ∀ t : Fin cfg10.N, At2 (win10_0.index t) t.val ∧ At4 (win10_1.index t) 0 0 ∧ At4 (win10_2.index t) 1 0 ∧ At4 (win10_3.index t) 2 0 ∧ At4 (win10_4.index t) 3 0 ∧ At2 (win10_5.index t) t.val ∧ At2 (win10_6.index t) t.val := by decide +kernel

set_option maxHeartbeats 2000000 in
theorem call10 (c : Dev nD) {X W R : ℕ → ℕ → EReal}
    (hx : Holds (V c main_v73) X) (hw : Parts (V c main_v76) 0 W) (hr : Holds (V c main_v78) R) :
    ((dat10 V c).arrAt 6 cfg10.N : S4096x1024.Idx → EReal) = scaledOf X W R := by
  refine (dat10 V c).arrAt_eq_of_covers 6 _ (by decide +kernel) fun t hf y => ?_
  obtain ⟨p, q0, q1, q2, q3, r, o⟩ := idx10 t
  obtain ⟨s, d, rfl⟩ := ex2 1024 1024 y
  have bx := rows hx t (f := ((cfg10.win 0).blk t).view.emb) fun s n => by blk_ext [p, row]
  have br := rows hr t (f := ((cfg10.win 5).blk t).view.emb) fun s n => by blk_ext [r, row]
  have e : ((cfg10.win 6).blk t).view.emb (ix2 s d) = (ix2 (row t s) d : S4096x1024.Idx) := by blk_ext [o, row]
  blk_simp
  rw [after10_6, e]
  show _ = prod X W (t.val * 1024 + s.val) d.val + alpha * R (t.val * 1024 + s.val) d.val
  unfold out10_6
  frame_out
  canon_tiles x h
  · exact scaled _ _ _ t.val 3 _ bx (part hw 3 (f := ((cfg10.win 4).blk t).view.emb) fun d n => by blk_ext [q3]) br x h0 h1
  · exact scaled _ _ _ t.val 2 _ bx (part hw 2 (f := ((cfg10.win 3).blk t).view.emb) fun d n => by blk_ext [q2]) br x h0 h1
  · exact scaled _ _ _ t.val 1 _ bx (part hw 1 (f := ((cfg10.win 2).blk t).view.emb) fun d n => by blk_ext [q1]) br x h0 h1
  · exact scaled _ _ _ t.val 0 _ bx (part hw 0 (f := ((cfg10.win 1).blk t).view.emb) fun d n => by blk_ext [q0]) br x h0 (h1.trans (Nat.zero_add _).symm)

/-! ### Call 11: the convolution output, layer 0 -/

theorem in11 (c : Dev nD) : Holds (V23 m ρ c main_v81) (at3 (m ((c : Thread nD τ).loc main_arg2)) 0) ∧ Parts (V23 m ρ c main_v84) 0 (at3 (m ((c : Thread nD τ).loc main_arg7)) 0) := by
  have e0 : V23 m ρ c main_v81 = layer4 (W22 m ρ c main_arg2) 0 slices_S4x4096x1024_S1x4096x1024_0_0_0 := by unfold V23 W23 hostOps11; after_results; rfl
  have e1 : V23 m ρ c main_v84 = parts2 (W22 m ρ c main_arg7) := by unfold V23 W23 hostOps11; after_results; rfl
  rw [e0, e1, W22_args m ρ c main_arg2 (by decide), W22_args m ρ c main_arg7 (by decide)]
  exact ⟨layer4_at _ 0 _, parts2_at _ 0⟩

theorem idx11 : ∀ t : Fin cfg11.N, At2 (win11_0.index t) t.val ∧ At4 (win11_1.index t) 0 0 ∧ At4 (win11_2.index t) 1 0 ∧ At4 (win11_3.index t) 2 0 ∧ At4 (win11_4.index t) 3 0 ∧ At2 (win11_5.index t) t.val := by decide +kernel

set_option maxHeartbeats 2000000 in
theorem call11 (c : Dev nD) {X W : ℕ → ℕ → EReal}
    (hx : Holds (V c main_v81) X) (hw : Parts (V c main_v84) 0 W) :
    ((dat11 V c).arrAt 5 cfg11.N : S4096x1024.Idx → EReal) = plainOf X W := by
  refine (dat11 V c).arrAt_eq_of_covers 5 _ (by decide +kernel) fun t hf y => ?_
  obtain ⟨p, q0, q1, q2, q3, o⟩ := idx11 t
  obtain ⟨s, d, rfl⟩ := ex2 1024 1024 y
  have bx := rows hx t (f := ((cfg11.win 0).blk t).view.emb) fun s n => by blk_ext [p, row]
  have e : ((cfg11.win 5).blk t).view.emb (ix2 s d) = (ix2 (row t s) d : S4096x1024.Idx) := by blk_ext [o, row]
  blk_simp
  rw [after11_5, e]
  show _ = prod X W (t.val * 1024 + s.val) d.val
  unfold out11_5
  frame_out
  canon_tiles x h
  · exact plain _ _ t.val 3 bx (part hw 3 (f := ((cfg11.win 4).blk t).view.emb) fun d n => by blk_ext [q3]) x h0 h1
  · exact plain _ _ t.val 2 bx (part hw 2 (f := ((cfg11.win 3).blk t).view.emb) fun d n => by blk_ext [q2]) x h0 h1
  · exact plain _ _ t.val 1 bx (part hw 1 (f := ((cfg11.win 2).blk t).view.emb) fun d n => by blk_ext [q1]) x h0 h1
  · exact plain _ _ t.val 0 bx (part hw 0 (f := ((cfg11.win 1).blk t).view.emb) fun d n => by blk_ext [q0]) x h0 (h1.trans (Nat.zero_add _).symm)

end Cert.Kernel6Ideal.Hand
-- ==== Proof.Value6.Algebraic.lean ====
/-
  The input gradients of the weights of 1024 columns: the kernel's ten results and the reference's ten results are the same extended
  reals, whatever the arguments hold.
-/
module

public import proofs.«01_k».proof.Defs
public import proofs.«01_k».proof.Proof.Value6.Calls
public import proofs.«01_k».proof.Proof.Value6.Calls2
public import proofs.«01_k».proof.Proof.Value6.Calls3
public import proofs.«01_k».proof.Proof.Gen.Reference6Ideal
public import proofs.«01_k».proof.Proof.Gen.Reference6Ideal.Run
public import proofs.«01_k».proof.Proof.Gen.Reference6Ideal.Read

@[expose] public section

set_option maxRecDepth 16384

noncomputable section

namespace Cert.Kernel6Ideal.Hand

open Cert.Kernel6Ideal Cert.Kernel6Ideal.Gen Cert.Entries
open Idealize.ShloMosaic Idealize.ShloMosaic.TcCoe Idealize.ShloMosaic.Tactic
open Idealize.SL.Sem
open Idealize.ShloMosaic.StableHlo

/-- The product as the reference computes it. -/
def refProd (x : FVec Ideal S4096x1024 .f32) (w : FVec Ideal Cert.Reference6Ideal.S1024x1024 .f32) : FVec Ideal S4096x1024 .f32 :=
  Host.dotGeneral (F := Ideal) (φ₁ := .f32) (φ₂ := .f32) Cert.Reference6Ideal.dot_S4096x1024_S1024x1024_S4096x1024_1_1_0_0_n_n none x w

/-- The residual times its factor, as the reference computes it. -/
def refRes (r : FVec Ideal S4096x1024 .f32) : FVec Ideal S4096x1024 .f32 :=
  mulf (broadcastInDim Cert.Reference6Ideal.S4096x1024 ![] Cert.Reference6Ideal.Facts₀.bcast_S_S4096x1024 (constant Cert.Reference6Ideal.S_ .f32 0x3FD744FD#32)) r

theorem refProd_at {x : FVec Ideal S4096x1024 .f32} {w : FVec Ideal Cert.Reference6Ideal.S1024x1024 .f32} {X W : ℕ → ℕ → EReal} (hx : Holds x X) (hw : Holds w W) :
    Holds (refProd x w) (prod X W) := by
  intro s d
  unfold refProd prod
  pointwise
  exact Finset.sum_congr rfl fun n _ => congrArg₂ (fun a b : EReal => a * b) (hx s n) (hw d n)

theorem refRes_at {r : FVec Ideal S4096x1024 .f32} {R : ℕ → ℕ → EReal} (hr : Holds r R) : Holds (refRes r) fun s d => alpha * R s d := by
  intro s d
  show refRes r (ix2 s d) = alpha * R s.val d.val
  rw [← hr s d]
  unfold refRes alpha
  pointwise

/-- A result without a residual. -/
theorem ref_plain {x : FVec Ideal S4096x1024 .f32} {w : FVec Ideal Cert.Reference6Ideal.S1024x1024 .f32} {X W : ℕ → ℕ → EReal} (hx : Holds x X) (hw : Holds w W) :
    (refProd x w : S4096x1024.Idx → EReal) = plainOf X W := by
  funext i
  obtain ⟨s, d, rfl⟩ := ex2 4096 1024 i
  exact refProd_at hx hw s d

/-- A result with one. -/
theorem ref_scaled {x r : FVec Ideal S4096x1024 .f32} {w : FVec Ideal Cert.Reference6Ideal.S1024x1024 .f32} {X W R : ℕ → ℕ → EReal} (hx : Holds x X) (hw : Holds w W) (hr : Holds r R) :
    (addf (refProd x w) (refRes r) : S4096x1024.Idx → EReal) = scaledOf X W R := by
  funext i
  obtain ⟨s, d, rfl⟩ := ex2 4096 1024 i
  exact congrArg₂ (fun a b : EReal => a + b) (refProd_at hx hw s d) (refRes_at hr s d)

/-- The result of the first layer of the attention: three products and the residual, which the kernel adds in another grouping. -/
theorem ref_shared {x0 x1 x2 r : FVec Ideal S4096x1024 .f32} {w0 w1 w2 : FVec Ideal Cert.Reference6Ideal.S1024x1024 .f32} {X0 X1 X2 W0 W1 W2 R : ℕ → ℕ → EReal}
    (h0 : Holds x0 X0) (k0 : Holds w0 W0) (h1 : Holds x1 X1) (k1 : Holds w1 W1) (h2 : Holds x2 X2) (k2 : Holds w2 W2) (hr : Holds r R) :
    (addf (addf (addf (refProd x2 w2) (refProd x1 w1)) (refProd x0 w0)) (refRes r) : S4096x1024.Idx → EReal)
    = addedOf X2 W2 fun s d => prod X1 W1 s d + (prod X0 W0 s d + alpha * R s d) := by
  funext i
  obtain ⟨s, d, rfl⟩ := ex2 4096 1024 i
  refine (congrArg₂ (fun a b : EReal => a + b) (congrArg₂ (fun a b : EReal => a + b) (congrArg₂ (fun a b : EReal => a + b) (refProd_at h2 k2 s d) (refProd_at h1 k1 s d))
    (refProd_at h0 k0 s d)) (refRes_at hr s d)).trans ?_
  show prod X2 W2 s.val d.val + prod X1 W1 s.val d.val + prod X0 W0 s.val d.val + alpha * R s.val d.val
    = prod X2 W2 s.val d.val + (prod X1 W1 s.val d.val + (prod X0 W0 s.val d.val + alpha * R s.val d.val))
  rw [add_assoc, add_assoc]

/-- One layer of the weights of four layers, and of two. -/
def weight4 (w : FVec Ideal S4x1024x1024 .f32) (l : ℕ) (h : S4x1024x1024.Slices ![l, 0, 0] S1x1024x1024) : FVec Ideal Cert.Reference6Ideal.S1024x1024 .f32 :=
  shapeCast _ (extractStridedSlice S1x1024x1024 ![l, 0, 0] w h) Cert.Reference6Ideal.Facts₀.shapeCasts_S1x1024x1024_S1024x1024

def weight2 (w : FVec Ideal S2x1024x1024 .f32) (l : ℕ) (h : S2x1024x1024.Slices ![l, 0, 0] S1x1024x1024) : FVec Ideal Cert.Reference6Ideal.S1024x1024 .f32 :=
  shapeCast _ (extractStridedSlice S1x1024x1024 ![l, 0, 0] w h) Cert.Reference6Ideal.Facts₀.shapeCasts_S1x1024x1024_S1024x1024

theorem weight4_at (w : FVec Ideal S4x1024x1024 .f32) (l : Fin 4) (h : S4x1024x1024.Slices ![l.val, 0, 0] S1x1024x1024) : Holds (weight4 w l.val h) (at3 w l.val) := by
  intro s n
  unfold weight4
  pointwise
  exact at3_fin w l s n

theorem weight2_at (w : FVec Ideal S2x1024x1024 .f32) (l : Fin 2) (h : S2x1024x1024.Slices ![l.val, 0, 0] S1x1024x1024) : Holds (weight2 w l.val h) (at3 w l.val) := by
  intro s n
  unfold weight2
  pointwise
  exact at3_fin w l s n

variable (m : (ℓ : Loc nD τ sig) → Buf (Elt Ideal) ℓ) (ρ : Dev nD → PrngReg)

/-- What the queries' call of the first layer hands to the keys' call, and what that one hands to the values' call. -/
def queries (c : Dev nD) (s d : ℕ) : EReal := prod (at3 (m ((c : Thread nD τ).loc main_arg3)) 0) (at3 (m ((c : Thread nD τ).loc main_arg9)) 0) s d + alpha * (at3 (m ((c : Thread nD τ).loc main_arg2)) 2) s d

def keys (c : Dev nD) (s d : ℕ) : EReal := prod (at2 (m ((c : Thread nD τ).loc main_arg4))) (at2 (m ((c : Thread nD τ).loc main_arg10))) s d + queries m c s d

theorem mid6 (c : Dev nD) : Holds (V13 m ρ c main_v45) (queries m c) := fun s n =>
  congrFun ((W13_of m ρ c main_v45 (by decide)).trans ((W12_arr m ρ c 6).trans (call5 (V11 m ρ) c (in5 m ρ c).1 (in5 m ρ c).2.1 (in5 m ρ c).2.2))) (ix2 s n)

theorem mid7 (c : Dev nD) : Holds (V15 m ρ c main_v50) (keys m c) := fun s n =>
  congrFun ((W15_of m ρ c main_v50 (by decide)).trans ((W14_arr m ρ c 6).trans (call6 (V13 m ρ) c (in6 m ρ c).1 (in6 m ρ c).2 (mid6 m ρ c)))) (ix2 s n)

/-! ### The kernel's results -/

/-- The values of the ten results, each under its call's number. -/
abbrev out10 (c : Dev nD) : S4096x1024.Idx → EReal := scaledOf (at3 (m ((c : Thread nD τ).loc main_arg0)) 0) (at3 (m ((c : Thread nD τ).loc main_arg6)) 0) (at3 (m ((c : Thread nD τ).loc main_arg1)) 0)

abbrev out8 (c : Dev nD) : S4096x1024.Idx → EReal := scaledOf (at3 (m ((c : Thread nD τ).loc main_arg0)) 1) (at3 (m ((c : Thread nD τ).loc main_arg6)) 1) (at3 (m ((c : Thread nD τ).loc main_arg1)) 1)

abbrev out3 (c : Dev nD) : S4096x1024.Idx → EReal := scaledOf (at3 (m ((c : Thread nD τ).loc main_arg0)) 2) (at3 (m ((c : Thread nD τ).loc main_arg6)) 2) (at3 (m ((c : Thread nD τ).loc main_arg1)) 2)

abbrev out0 (c : Dev nD) : S4096x1024.Idx → EReal := scaledOf (at3 (m ((c : Thread nD τ).loc main_arg0)) 3) (at3 (m ((c : Thread nD τ).loc main_arg6)) 3) (at3 (m ((c : Thread nD τ).loc main_arg1)) 3)

abbrev out11 (c : Dev nD) : S4096x1024.Idx → EReal := plainOf (at3 (m ((c : Thread nD τ).loc main_arg2)) 0) (at3 (m ((c : Thread nD τ).loc main_arg7)) 0)

abbrev out9 (c : Dev nD) : S4096x1024.Idx → EReal := plainOf (at3 (m ((c : Thread nD τ).loc main_arg2)) 1) (at3 (m ((c : Thread nD τ).loc main_arg7)) 1)

abbrev out4 (c : Dev nD) : S4096x1024.Idx → EReal := plainOf (at3 (m ((c : Thread nD τ).loc main_arg2)) 2) (at3 (m ((c : Thread nD τ).loc main_arg8)) 0)

abbrev out1 (c : Dev nD) : S4096x1024.Idx → EReal := plainOf (at3 (m ((c : Thread nD τ).loc main_arg2)) 3) (at3 (m ((c : Thread nD τ).loc main_arg8)) 1)

abbrev out7 (c : Dev nD) : S4096x1024.Idx → EReal := addedOf (at2 (m ((c : Thread nD τ).loc main_arg5))) (at2 (m ((c : Thread nD τ).loc main_arg11))) (keys m c)

abbrev out2 (c : Dev nD) : S4096x1024.Idx → EReal := scaledOf (at3 (m ((c : Thread nD τ).loc main_arg3)) 1) (at3 (m ((c : Thread nD τ).loc main_arg9)) 1) (at3 (m ((c : Thread nD τ).loc main_arg2)) 3)

/-- The calls after the fifth write none of the first five results. -/
theorem late (c : Dev nD) (v : Ref sig .tc) (h : v ∈ [main_v8, main_v14, main_v22, main_v31, main_v37]) : W24 m ρ c v = W10 m ρ c v := by
  rw [W24_of m ρ c v (by revert v; decide), W23_of m ρ c v (by revert v; decide), W22_of m ρ c v (by revert v; decide), W21_of m ρ c v (by revert v; decide), W20_of m ρ c v (by revert v; decide), W19_of m ρ c v (by revert v; decide), W18_of m ρ c v (by revert v; decide), W17_of m ρ c v (by revert v; decide), W16_of m ρ c v (by revert v; decide), W15_of m ρ c v (by revert v; decide), W14_of m ρ c v (by revert v; decide), W13_of m ρ c v (by revert v; decide), W12_of m ρ c v (by revert v; decide), W11_of m ρ c v (by revert v; decide)]

theorem res10 (c : Dev nD) : (W24 m ρ c main_v79 : S4096x1024.Idx → EReal) = out10 m c := by
  rw [W24_of m ρ c main_v79 (by decide), W23_of m ρ c main_v79 (by decide)]
  exact (W22_arr m ρ c 6).trans (call10 (V21 m ρ) c (in10 m ρ c).1 (in10 m ρ c).2.1 (in10 m ρ c).2.2)

theorem res8 (c : Dev nD) : (W24 m ρ c main_v64 : S4096x1024.Idx → EReal) = out8 m c := by
  rw [W24_of m ρ c main_v64 (by decide), W23_of m ρ c main_v64 (by decide), W22_of m ρ c main_v64 (by decide), W21_of m ρ c main_v64 (by decide), W20_of m ρ c main_v64 (by decide), W19_of m ρ c main_v64 (by decide)]
  exact (W18_arr m ρ c 6).trans (call8 (V17 m ρ) c (in8 m ρ c).1 (in8 m ρ c).2.1 (in8 m ρ c).2.2)

theorem res3 (c : Dev nD) : (W24 m ρ c main_v31 : S4096x1024.Idx → EReal) = out3 m c := by
  rw [late m ρ c main_v31 (by decide), W10_of m ρ c main_v31 (by decide), W9_of m ρ c main_v31 (by decide)]
  exact (W8_arr m ρ c 6).trans (call3 (V7 m ρ) c (in3 m ρ c).1 (in3 m ρ c).2.1 (in3 m ρ c).2.2)

theorem res0 (c : Dev nD) : (W24 m ρ c main_v8 : S4096x1024.Idx → EReal) = out0 m c := by
  rw [late m ρ c main_v8 (by decide), W10_of m ρ c main_v8 (by decide), W9_of m ρ c main_v8 (by decide), W8_of m ρ c main_v8 (by decide), W7_of m ρ c main_v8 (by decide), W6_of m ρ c main_v8 (by decide), W5_of m ρ c main_v8 (by decide), W4_of m ρ c main_v8 (by decide), W3_of m ρ c main_v8 (by decide)]
  exact (W2_arr m ρ c 6).trans (call0 (V1 m ρ) c (in0 m ρ c).1 (in0 m ρ c).2.1 (in0 m ρ c).2.2)

theorem res11 (c : Dev nD) : (W24 m ρ c main_v85 : S4096x1024.Idx → EReal) = out11 m c := by
  exact (W24_arr m ρ c 5).trans (call11 (V23 m ρ) c (in11 m ρ c).1 (in11 m ρ c).2)

theorem res9 (c : Dev nD) : (W24 m ρ c main_v70 : S4096x1024.Idx → EReal) = out9 m c := by
  rw [W24_of m ρ c main_v70 (by decide), W23_of m ρ c main_v70 (by decide), W22_of m ρ c main_v70 (by decide), W21_of m ρ c main_v70 (by decide)]
  exact (W20_arr m ρ c 5).trans (call9 (V19 m ρ) c (in9 m ρ c).1 (in9 m ρ c).2)

theorem res4 (c : Dev nD) : (W24 m ρ c main_v37 : S4096x1024.Idx → EReal) = out4 m c := by
  rw [late m ρ c main_v37 (by decide)]
  exact (W10_arr m ρ c 5).trans (call4 (V9 m ρ) c (in4 m ρ c).1 (in4 m ρ c).2)

theorem res1 (c : Dev nD) : (W24 m ρ c main_v14 : S4096x1024.Idx → EReal) = out1 m c := by
  rw [late m ρ c main_v14 (by decide), W10_of m ρ c main_v14 (by decide), W9_of m ρ c main_v14 (by decide), W8_of m ρ c main_v14 (by decide), W7_of m ρ c main_v14 (by decide), W6_of m ρ c main_v14 (by decide), W5_of m ρ c main_v14 (by decide)]
  exact (W4_arr m ρ c 5).trans (call1 (V3 m ρ) c (in1 m ρ c).1 (in1 m ρ c).2)

theorem res7 (c : Dev nD) : (W24 m ρ c main_v55 : S4096x1024.Idx → EReal) = out7 m c := by
  rw [W24_of m ρ c main_v55 (by decide), W23_of m ρ c main_v55 (by decide), W22_of m ρ c main_v55 (by decide), W21_of m ρ c main_v55 (by decide), W20_of m ρ c main_v55 (by decide), W19_of m ρ c main_v55 (by decide), W18_of m ρ c main_v55 (by decide), W17_of m ρ c main_v55 (by decide)]
  exact (W16_arr m ρ c 6).trans (call7 (V15 m ρ) c (in7 m ρ c).1 (in7 m ρ c).2 (mid7 m ρ c))

theorem res2 (c : Dev nD) : (W24 m ρ c main_v22 : S4096x1024.Idx → EReal) = out2 m c := by
  rw [late m ρ c main_v22 (by decide), W10_of m ρ c main_v22 (by decide), W9_of m ρ c main_v22 (by decide), W8_of m ρ c main_v22 (by decide), W7_of m ρ c main_v22 (by decide)]
  exact (W6_arr m ρ c 6).trans (call2 (V5 m ρ) c (in2 m ρ c).1 (in2 m ρ c).2.1 (in2 m ρ c).2.2)

set_option maxHeartbeats 4000000 in
/-- The two programs' results are equal, and both leave their arguments as they were. -/
theorem algebraic : Cert.algebraic_Kernel6Ideal_Reference6Ideal := by
  intro m g m' g' _ ha
  refine ⟨out10 m, out8 m, out3 m, out0 m, out11 m, out9 m, out4 m, out1 m, out7 m, out2 m, ?_, ?_⟩
  · refine (θ_run defs _ _).mono (fun r h c => ?_) (run m g)
    exact ⟨(h c _ (mem_uc main_v79 (by decide))).trans (res10 m g c),
      (h c _ (mem_uc main_v64 (by decide))).trans (res8 m g c),
      (h c _ (mem_uc main_v31 (by decide))).trans (res3 m g c),
      (h c _ (mem_uc main_v8 (by decide))).trans (res0 m g c),
      (h c _ (mem_uc main_v85 (by decide))).trans (res11 m g c),
      (h c _ (mem_uc main_v70 (by decide))).trans (res9 m g c),
      (h c _ (mem_uc main_v37 (by decide))).trans (res4 m g c),
      (h c _ (mem_uc main_v14 (by decide))).trans (res1 m g c),
      (h c _ (mem_uc main_v55 (by decide))).trans (res7 m g c),
      (h c _ (mem_uc main_v22 (by decide))).trans (res2 m g c),
      (h c _ (mem_uc main_arg0 (by decide))).trans (W24_main_arg0 m g c),
      (h c _ (mem_uc main_arg1 (by decide))).trans (W24_main_arg1 m g c),
      (h c _ (mem_uc main_arg2 (by decide))).trans (W24_main_arg2 m g c),
      (h c _ (mem_uc main_arg3 (by decide))).trans (W24_main_arg3 m g c),
      (h c _ (mem_uc main_arg4 (by decide))).trans (W24_main_arg4 m g c),
      (h c _ (mem_uc main_arg5 (by decide))).trans (W24_main_arg5 m g c),
      (h c _ (mem_uc main_arg6 (by decide))).trans (W24_main_arg6 m g c),
      (h c _ (mem_uc main_arg7 (by decide))).trans (W24_main_arg7 m g c),
      (h c _ (mem_uc main_arg8 (by decide))).trans (W24_main_arg8 m g c),
      (h c _ (mem_uc main_arg9 (by decide))).trans (W24_main_arg9 m g c),
      (h c _ (mem_uc main_arg10 (by decide))).trans (W24_main_arg10 m g c),
      (h c _ (mem_uc main_arg11 (by decide))).trans (W24_main_arg11 m g c)⟩
  · refine (θ_run Cert.Reference6Ideal.defs _ _).mono (fun r h c => ?_) (Cert.Reference6Ideal.Value.run (F := Ideal) m' g')
    obtain ⟨h0, h1, h2, h3, h4, h5, h6, h7, h8, h9, hr⟩ := h c
    obtain ⟨a0, a1, a2, a3, a4, a5, a6, a7, a8, a9, a10, a11⟩ := ha c
    rw [a0, a6, a1] at h0 h1 h2 h3
    rw [a2, a7] at h4 h5
    rw [a2, a8] at h6 h7
    rw [a5, a11, a4, a10, a3, a9, a2] at h8
    rw [a3, a9, a2] at h9
    exact ⟨h0.trans (ref_scaled (layer4_at _ 0 _) (weight4_at _ 0 _) (layer4_at _ 0 _)),
      h1.trans (ref_scaled (layer4_at _ 1 _) (weight4_at _ 1 _) (layer4_at _ 1 _)),
      h2.trans (ref_scaled (layer4_at _ 2 _) (weight4_at _ 2 _) (layer4_at _ 2 _)),
      h3.trans (ref_scaled (layer4_at _ 3 _) (weight4_at _ 3 _) (layer4_at _ 3 _)),
      h4.trans (ref_plain (layer4_at _ 0 _) (weight2_at _ 0 _)),
      h5.trans (ref_plain (layer4_at _ 1 _) (weight2_at _ 1 _)),
      h6.trans (ref_plain (layer4_at _ 2 _) (weight2_at _ 0 _)),
      h7.trans (ref_plain (layer4_at _ 3 _) (weight2_at _ 1 _)),
      h8.trans (ref_shared (layer2_at _ 0 _) (weight2_at _ 0 _) (at2_fin _) (at2_fin _) (at2_fin _) (at2_fin _) (layer4_at _ 2 _)),
      h9.trans (ref_scaled (layer2_at _ 1 _) (weight2_at _ 1 _) (layer4_at _ 3 _)), hr⟩

end Cert.Kernel6Ideal.Hand
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.Kernel2
public import proofs.«01_k».proof.Proof.Gen.Kernel2.Skeleton
public import proofs.«01_k».proof.Proof.Gen.Kernel2.Loops
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Loops
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_finite2
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.Kernel.Frame
public import proofs.«01_k».proof.Proof.KernelIdeal.Frame
public import proofs.«01_k».proof.Proof.Value.Algebraic
public import proofs.«01_k».proof.Proof.Kernel2.Frame
public import proofs.«01_k».proof.Proof.Kernel2Ideal.Frame
public import proofs.«01_k».proof.Proof.Value2.Algebraic
public import proofs.«01_k».proof.Proof.Value3.Algebraic
public import proofs.«01_k».proof.Proof.Value4.Algebraic
public import proofs.«01_k».proof.Proof.Value5.Algebraic
public import proofs.«01_k».proof.Proof.Value6.Algebraic
public import Idealize.ShloMosaic.Adequacy
public import Idealize.ShloMosaic.Init

@[expose] public section

noncomputable section

namespace Cert.Proof

open Idealize.ShloMosaic Idealize.SL.Sem Cert.Kernel

/-- The reference's frame: its run leaves the arguments as launched, and a program of host operations alone moves no
    semaphore counter. -/
theorem frame_reference : Cert.quiescent_ReferenceIdeal (hReferenceIdeal := Cert.ReferenceIdeal.Gen.facts) := fun m g _ =>
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m g)

/-- The second reference's frame. -/
theorem frame_reference2 : Cert.quiescent_Reference2Ideal (hReference2Ideal := Cert.Reference2Ideal.Gen.facts) := fun m g _ =>
  (θ_run Cert.Reference2Ideal.defs _ _).mono (fun r h => ⟨fun c => (h c).2.2.2,
      Idealize.ShloMosaic.sem_eq_zero_of_no_sems (by decide) r.2⟩)
    (Cert.Reference2Ideal.Value.run (F := Ideal) m g)

/-- The third reference's frame. -/
theorem frame_reference3 : Cert.quiescent_Reference3Ideal (hReference3Ideal := Cert.Reference3Ideal.Gen.facts) := fun m g _ =>
  (θ_run Cert.Reference3Ideal.defs _ _).mono (fun r h => ⟨fun c => (h c).2.2,
      Idealize.ShloMosaic.sem_eq_zero_of_no_sems (by decide) r.2⟩)
    (Cert.Reference3Ideal.Value.run (F := Ideal) m g)

/-- The fourth reference's frame. -/
theorem frame_reference4 : Cert.quiescent_Reference4Ideal (hReference4Ideal := Cert.Reference4Ideal.Gen.facts) := fun m g _ =>
  (θ_run Cert.Reference4Ideal.defs _ _).mono (fun r h => ⟨fun c => (h c).2.2.2.2,
      Idealize.ShloMosaic.sem_eq_zero_of_no_sems (by decide) r.2⟩)
    (Cert.Reference4Ideal.Value.run (F := Ideal) m g)

/-- The fifth reference's frame. -/
theorem frame_reference5 : Cert.quiescent_Reference5Ideal (hReference5Ideal := Cert.Reference5Ideal.Gen.facts) := fun m g _ =>
  (θ_run Cert.Reference5Ideal.defs _ _).mono (fun r h => ⟨fun c => (h c).2.2.2.2.2.2.2,
      Idealize.ShloMosaic.sem_eq_zero_of_no_sems (by decide) r.2⟩)
    (Cert.Reference5Ideal.Value.run (F := Ideal) m g)

/-- The sixth reference's frame. -/
theorem frame_reference6 : Cert.quiescent_Reference6Ideal (hReference6Ideal := Cert.Reference6Ideal.Gen.facts) := fun m g _ =>
  (θ_run Cert.Reference6Ideal.defs _ _).mono (fun r h => ⟨fun c => (h c).2.2.2.2.2.2.2.2.2.2,
      Idealize.ShloMosaic.sem_eq_zero_of_no_sems (by decide) r.2⟩)
    (Cert.Reference6Ideal.Value.run (F := Ideal) m g)

/-- Every claim of the certificate. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts, Cert.Pre_finite.Gen.facts, Cert.Pre_finite2.Gen.facts,
  fun m g _ => Cert.Kernel.Hand.frame m g, fun m g _ => Cert.KernelIdeal.Hand.frame m g, fun m g _ => Cert.KernelIdeal.Hand.frame m g,
  frame_reference, fun m g _ => frame_reference m g trivial,
  fun m g _ => Cert.Kernel2.Hand.frame m g, fun m g _ => Cert.Kernel2Ideal.Hand.frame m g, fun m g _ => Cert.Kernel2Ideal.Hand.frame m g,
  frame_reference2, fun m g _ => frame_reference2 m g trivial,
  fun m g _ => Cert.Kernel3.Gen.frame m g, fun m g _ => Cert.Kernel3Ideal.Gen.frame m g, frame_reference3,
  fun m g _ => Cert.Kernel4.Gen.frame m g, fun m g _ => Cert.Kernel4Ideal.Gen.frame m g, frame_reference4,
  fun m g _ => Cert.Kernel5.Gen.frame m g, fun m g _ => Cert.Kernel5Ideal.Gen.frame m g, frame_reference5,
  fun m g _ => Cert.Kernel6.Gen.frame m g, fun m g _ => Cert.Kernel6Ideal.Gen.frame m g, frame_reference6,
  IdealRules.named_const.statement Cert.KernelIdeal.κ "gone" .f32 0xC2C80000#32 ⊥ rfl, Cert.KernelIdeal.Hand.algebraic,
  IdealRules.named_const.statement Cert.Kernel2Ideal.κ "gone" .f32 0xC2C80000#32 ⊥ rfl, Cert.Kernel2Ideal.Hand.algebraic,
  trivial, Cert.Kernel3Ideal.Hand.algebraic, trivial, Cert.Kernel4Ideal.Hand.algebraic, trivial, Cert.Kernel5Ideal.Hand.algebraic,
  trivial, Cert.Kernel6Ideal.Hand.algebraic⟩

end Cert.Proof

end
